-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1))).2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)) (v2 : (c : Dev Cert.Kernel6Ideal.nD) → Buf (Elt Ideal) ((c.tc : Thread Cert.Kernel6Ideal.nD Cert.Kernel6Ideal.τ).loc Cert.Kernel6Ideal.main_v17_2)) (v3 : (c : Dev Cert.Kernel6Ideal.nD) → Buf (Elt Ideal) ((c.tc : Thread Cert.Kernel6Ideal.nD Cert.Kernel6Ideal.τ).loc Cert.Kernel6Ideal.main_v17_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_v17_2) = v2 c
          ∧ r.2.mem ((c.tc : Thread Cert.Kernel6Ideal.nD Cert.Kernel6Ideal.τ).loc Cert.Kernel6Ideal.main_v17_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v58) = v1 c
          ∧ r.2.mem ((c.tc : Thread Cert.Reference6Ideal.nD Cert.Reference6Ideal.τ).loc Cert.Reference6Ideal.main_v83) = v2 c
          ∧ r.2.mem ((c.tc : Thread Cert.Reference6Ideal.nD Cert.Reference6Ideal.τ).loc Cert.Reference6Ideal.main_v82) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v69_0)) (v1 : (c : Dev Cert.Kernel7Ideal.nD) → Buf (Elt Ideal) ((c.tc : Thread Cert.Kernel7Ideal.nD Cert.Kernel7Ideal.τ).loc Cert.Kernel7Ideal.main_v69_1)) (v2 : (c : Dev Cert.Kernel7Ideal.nD) → Buf (Elt Ideal) ((c.tc : Thread Cert.Kernel7Ideal.nD Cert.Kernel7Ideal.τ).loc Cert.Kernel7Ideal.main_v69_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v69_0) = v0 c
          ∧ r.2.mem ((c.tc : Thread Cert.Kernel7Ideal.nD Cert.Kernel7Ideal.τ).loc Cert.Kernel7Ideal.main_v69_1) = v1 c
          ∧ r.2.mem ((c.tc : Thread Cert.Kernel7Ideal.nD Cert.Kernel7Ideal.τ).loc Cert.Kernel7Ideal.main_v69_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v97) = v0 c
          ∧ r.2.mem ((c.tc : Thread Cert.Reference7Ideal.nD Cert.Reference7Ideal.τ).loc Cert.Reference7Ideal.main_v98) = v1 c
          ∧ r.2.mem ((c.tc : Thread Cert.Reference7Ideal.nD Cert.Reference7Ideal.τ).loc Cert.Reference7Ideal.main_v82) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v137) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v50) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "mask" .f32 0xF149F2CA#32 ⊥

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v34_0)) (v1 : (c : Dev Cert.Kernel10Ideal.nD) → Buf (Elt Ideal) ((c.tc : Thread Cert.Kernel10Ideal.nD Cert.Kernel10Ideal.τ).loc Cert.Kernel10Ideal.main_v34_1)) (v2 : (c : Dev Cert.Kernel10Ideal.nD) → Buf (Elt Ideal) ((c.tc : Thread Cert.Kernel10Ideal.nD Cert.Kernel10Ideal.τ).loc Cert.Kernel10Ideal.main_v34_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v34_0) = v0 c
          ∧ r.2.mem ((c.tc : Thread Cert.Kernel10Ideal.nD Cert.Kernel10Ideal.τ).loc Cert.Kernel10Ideal.main_v34_1) = v1 c
          ∧ r.2.mem ((c.tc : Thread Cert.Kernel10Ideal.nD Cert.Kernel10Ideal.τ).loc Cert.Kernel10Ideal.main_v34_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v225) = v0 c
          ∧ r.2.mem ((c.tc : Thread Cert.Reference10Ideal.nD Cert.Reference10Ideal.τ).loc Cert.Reference10Ideal.main_v226) = v1 c
          ∧ r.2.mem ((c.tc : Thread Cert.Reference10Ideal.nD Cert.Reference10Ideal.τ).loc Cert.Reference10Ideal.main_v228) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "c" .f32 0x3D372713#32 ((8943 / 200000 : ℝ) : EReal)
  ∧ IdealRules.named_const.Statement Cert.Kernel11Ideal.κ "c3" .f32 0x3E095D4F#32 ((26829 / 200000 : ℝ) : EReal)

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)) (v4 : (c : Dev Cert.Kernel11Ideal.nD) → Buf (Elt Ideal) ((c.tc : Thread Cert.Kernel11Ideal.nD Cert.Kernel11Ideal.τ).loc Cert.Kernel11Ideal.main_v2_4)) (v5 : (c : Dev Cert.Kernel11Ideal.nD) → Buf (Elt Ideal) ((c.tc : Thread Cert.Kernel11Ideal.nD Cert.Kernel11Ideal.τ).loc Cert.Kernel11Ideal.main_v2_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_v2_4) = v4 c
          ∧ r.2.mem ((c.tc : Thread Cert.Kernel11Ideal.nD Cert.Kernel11Ideal.τ).loc Cert.Kernel11Ideal.main_v2_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v177) = v0 c
          ∧ r.2.mem ((c.tc : Thread Cert.Reference11Ideal.nD Cert.Reference11Ideal.τ).loc Cert.Reference11Ideal.main_v178) = v1 c
          ∧ r.2.mem ((c.tc : Thread Cert.Reference11Ideal.nD Cert.Reference11Ideal.τ).loc Cert.Reference11Ideal.main_v109) = v2 c
          ∧ r.2.mem ((c.tc : Thread Cert.Reference11Ideal.nD Cert.Reference11Ideal.τ).loc Cert.Reference11Ideal.main_v176) = v3 c
          ∧ r.2.mem ((c.tc : Thread Cert.Reference11Ideal.nD Cert.Reference11Ideal.τ).loc Cert.Reference11Ideal.main_v171) = v4 c
          ∧ r.2.mem ((c.tc : Thread Cert.Reference11Ideal.nD Cert.Reference11Ideal.τ).loc Cert.Reference11Ideal.main_v170) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v31) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_v21) = v2 c
          ∧ r.2.mem ((c.tc : Thread Cert.Reference15Ideal.nD Cert.Reference15Ideal.τ).loc Cert.Reference15Ideal.main_v27) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "c" .f32 0x3D372713#32 ((8943 / 200000 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v73) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  IdealRules.named_const.Statement Cert.Kernel17Ideal.κ "mask" .f32 0xF149F2CA#32 ⊥

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v34)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v34) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v119) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v75) = v0 c
          ∧ r.2.mem ((c.tc : Thread Cert.Reference18Ideal.nD Cert.Reference18Ideal.τ).loc Cert.Reference18Ideal.main_v77) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite8 : Cert.Pre_finite8.Facts) (hPre_finite10 : Cert.Pre_finite10.Facts) (hPre_finite11 : Cert.Pre_finite11.Facts) (hPre_finite12 : Cert.Pre_finite12.Facts) (hPre_finite17 : Cert.Pre_finite17.Facts) (hPre_finite18 : Cert.Pre_finite18.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal_pre_finite18 (hKernel18Ideal := hKernel18Ideal) (hReference18Ideal := hReference18Ideal) (hPre_finite18 := hPre_finite18)
-- ==== Pre_finite10.lean ====
abbrev S4096x3328 : Shape := ⟨2, ![4096, 3328]⟩
abbrev S1x16 : Shape := ⟨2, ![1, 16]⟩
abbrev S4096x2048 : Shape := ⟨2, ![4096, 2048]⟩
abbrev S_ : Shape := ⟨0, ![]⟩

class Facts : Prop where
  bcast_S_S4096x3328 : S_.BroadcastsInDim S4096x3328 (![] : Fin 0 → Fin S4096x3328.rank)
  bcast_S_S1x16 : S_.BroadcastsInDim S1x16 (![] : Fin 0 → Fin S1x16.rank)
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x3328 .f32) (main_arg1 : FVec F S1x16 .f32) (main_arg2 : FVec F S4096x2048 .bf16) : IVec S4096x3328 1 × IVec S1x16 1 × IVec S4096x2048 1 :=
  let main_v0 : FVec F S4096x3328 .f32 := Host.absf main_arg0
  let main_cst : FVec F S_ .f32 := constant S_ .f32 0x7F800000#32
  let main_v1 : FVec F S4096x3328 .f32 := broadcastInDim S4096x3328 ![] bcast_S_S4096x3328 main_cst
  let main_v2 : IVec S4096x3328 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S4096x2048 .f32 := (extf .f32 · bitsLt_bf16_f32) main_arg2
  let main_v7 : FVec F S4096x2048 .f32 := Host.absf main_v6
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  (main_v2, main_v5, main_v9)
-- ==== Pre_finite11.lean ====
abbrev S4096x3328 : Shape := ⟨2, ![4096, 3328]⟩
abbrev S1x1024 : Shape := ⟨2, ![1, 1024]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bcast_S_S4096x3328 : S_.BroadcastsInDim S4096x3328 (![] : Fin 0 → Fin S4096x3328.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)
  bitsLt_bf16_f32 : FTy.bits .bf16 < FTy.bits .f32
  bcast_S_S4096x2048 : S_.BroadcastsInDim S4096x2048 (![] : Fin 0 → Fin S4096x2048.rank)

variable [Facts]

def fn_part1 {F : FTy → Type} [FloatOps F] (main_v2 : IVec S4096x3328 1) (main_v5 : IVec S1x1024 1) (main_v8 : IVec S1x1024 1) (main_v11 : IVec S8x128x128 1) (main_v14 : IVec S8x128 1) (main_v16 : FVec F S4096x2048 .f32) (main_v17 : FVec F S4096x2048 .f32) : IVec S4096x3328 1 × IVec S1x1024 1 × IVec S1x1024 1 × IVec S8x128x128 1 × IVec S8x128 1 × IVec S4096x2048 1 :=
  let main_v18 : IVec S4096x2048 1 := cmpf .olt main_v16 main_v17
  (main_v2, main_v5, main_v8, main_v11, main_v14, main_v18)

def fn {F : FTy → Type} [FloatOps F] (main_arg0 : FVec F S4096x3328 .f32) (main_arg1 : FVec F S1x1024 .f32) (main_arg2 : FVec F S1x1024 .f32) (main_arg3 : FVec F S8x128x128 .f32) (main_arg4 : FVec F S8x128 .f32) (main_arg5 : FVec F S4096x2048 .bf16) : IVec S4096x3328 1 × IVec S1x1024 1 × IVec S1x1024 1 × IVec S8x128x128 1 × IVec S8x128 1 × IVec S4096x2048 1 :=
  let main_v0 : FVec F S4096x3328 .f32 := Host.absf main_arg0
  let main_cst : FVec F S_ .f32 := constant S_ .f32 0x7F800000#32
  let main_v1 : FVec F S4096x3328 .f32 := broadcastInDim S4096x3328 ![] bcast_S_S4096x3328 main_cst
  let main_v2 : IVec S4096x3328 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S4096x2048 .f32 := (extf .f32 · bitsLt_bf16_f32) main_arg5
  let main_v16 : FVec F S4096x2048 .f32 := Host.absf main_v15
  let main_cst_4 : FVec F S_ .f32 := constant S_ .f32 0x7F800000#32
  let main_v17 : FVec F S4096x2048 .f32 := broadcastInDim S4096x2048 ![] bcast_S_S4096x2048 main_cst_4
  fn_part1 (F := F) main_v2 main_v5 main_v8 main_v11 main_v14 main_v16 main_v17
-- ==== Pre_finite12.lean ====
abbrev S4096x512 : Shape := ⟨2, ![4096, 512]⟩
abbrev S256x512 : Shape := ⟨2, ![256, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x512 : S_.BroadcastsInDim S256x512 (![] : Fin 0 → Fin S256x512.rank)

variable [Facts]

def fn {F : FTy → Type} [FloatOps F] (main_arg0 : FVec F S4096x512 .bf16) (main_arg1 : FVec F S256x512 .bf16) (main_arg2 : FVec F S256x512 .bf16) : IVec S4096x512 1 × IVec S256x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S256x512 .f32 := (extf .f32 · bitsLt_bf16_f32) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  (main_v3, main_v7)
-- ==== Pre_finite17.lean ====
abbrev S4096x3328 : Shape := ⟨2, ![4096, 3328]⟩
abbrev S1x16 : Shape := ⟨2, ![1, 16]⟩
abbrev S_ : Shape := ⟨0, ![]⟩

class Facts : Prop where
  bcast_S_S4096x3328 : S_.BroadcastsInDim S4096x3328 (![] : Fin 0 → Fin S4096x3328.rank)
  bcast_S_S1x16 : S_.BroadcastsInDim S1x16 (![] : Fin 0 → Fin S1x16.rank)

variable [Facts]

def fn {F : FTy → Type} [FloatOps F] (main_arg0 : FVec F S4096x3328 .f32) (main_arg1 : FVec F S1x16 .f32) : IVec S4096x3328 1 × IVec S1x16 1 :=
  let main_v0 : FVec F S4096x3328 .f32 := Host.absf main_arg0
  let main_cst : FVec F S_ .f32 := constant S_ .f32 0x7F800000#32
  let main_v1 : FVec F S4096x3328 .f32 := broadcastInDim S4096x3328 ![] bcast_S_S4096x3328 main_cst
  let main_v2 : IVec S4096x3328 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  (main_v2, main_v5)
-- ==== Pre_finite18.lean ====
abbrev S4096x2048 : Shape := ⟨2, ![4096, 2048]⟩
abbrev S4x512x512 : Shape := ⟨3, ![4, 512, 512]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4x512x512 .bf16) (main_arg2 : FVec F S1x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Pre_finite2.lean ====
abbrev S4096x2048 : Shape := ⟨2, ![4096, 2048]⟩
abbrev S8x2048x704 : Shape := ⟨3, ![8, 2048, 704]⟩
abbrev S8x704x2048 : Shape := ⟨3, ![8, 704, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S8x2048x704 : S_.BroadcastsInDim S8x2048x704 (![] : Fin 0 → Fin S8x2048x704.rank)
  bcast_S_S8x704x2048 : S_.BroadcastsInDim S8x704x2048 (![] : Fin 0 → Fin S8x704x2048.rank)

variable [Facts]

def fn_part1 {F : FTy → Type} [FloatOps F] (main_v3 : IVec S4096x2048 1) (main_v7 : IVec S8x2048x704 1) (main_v11 : IVec S8x2048x704 1) (main_v15 : IVec S8x704x2048 1) (main_v17 : FVec F S4096x2048 .f32) (main_v18 : FVec F S4096x2048 .f32) : IVec S4096x2048 1 × IVec S8x2048x704 1 × IVec S8x2048x704 1 × IVec S8x704x2048 1 × IVec S4096x2048 1 :=
  let main_v19 : IVec S4096x2048 1 := cmpf .olt main_v17 main_v18
  (main_v3, main_v7, main_v11, main_v15, main_v19)

def fn {F : FTy → Type} [FloatOps F] (main_arg0 : FVec F S4096x2048 .bf16) (main_arg1 : FVec F S8x2048x704 .bf16) (main_arg2 : FVec F S8x2048x704 .bf16) (main_arg3 : FVec F S8x704x2048 .bf16) (main_arg4 : FVec F S4096x2048 .bf16) : IVec S4096x2048 1 × IVec S8x2048x704 1 × IVec S8x2048x704 1 × IVec S8x704x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S8x2048x704 .f32 := (extf .f32 · bitsLt_bf16_f32) main_arg1
  let main_v5 : FVec F S8x2048x704 .f32 := Host.absf main_v4
  let main_cst_0 : FVec F S_ .f32 := constant S_ .f32 0x7F800000#32
  let main_v6 : FVec F S8x2048x704 .f32 := broadcastInDim S8x2048x704 ![] bcast_S_S8x2048x704 main_cst_0
  let main_v7 : IVec S8x2048x704 1 := cmpf .olt main_v5 main_v6
  let main_v8 : FVec F S8x2048x704 .f32 := (extf .f32 · bitsLt_bf16_f32) main_arg2
  let main_v9 : FVec F S8x2048x704 .f32 := Host.absf main_v8
  let main_cst_1 : FVec F S_ .f32 := constant S_ .f32 0x7F800000#32
  let main_v10 : FVec F S8x2048x704 .f32 := broadcastInDim S8x2048x704 ![] bcast_S_S8x2048x704 main_cst_1
  let main_v11 : IVec S8x2048x704 1 := cmpf .olt main_v9 main_v10
  let main_v12 : FVec F S8x704x2048 .f32 := (extf .f32 · bitsLt_bf16_f32) main_arg3
  let main_v13 : FVec F S8x704x2048 .f32 := Host.absf main_v12
  let main_cst_2 : FVec F S_ .f32 := constant S_ .f32 0x7F800000#32
  let main_v14 : FVec F S8x704x2048 .f32 := broadcastInDim S8x704x2048 ![] bcast_S_S8x704x2048 main_cst_2
  let main_v15 : IVec S8x704x2048 1 := cmpf .olt main_v13 main_v14
  let main_v16 : FVec F S4096x2048 .f32 := (extf .f32 · bitsLt_bf16_f32) main_arg4
  let main_v17 : FVec F S4096x2048 .f32 := Host.absf main_v16
  let main_cst_3 : FVec F S_ .f32 := constant S_ .f32 0x7F800000#32
  let main_v18 : FVec F S4096x2048 .f32 := broadcastInDim S4096x2048 ![] bcast_S_S4096x2048 main_cst_3
  fn_part1 (F := F) main_v3 main_v7 main_v11 main_v15 main_v17 main_v18
-- ==== Pre_finite3.lean ====
abbrev S4096x512 : Shape := ⟨2, ![4096, 512]⟩
abbrev S256x512 : Shape := ⟨2, ![256, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x512 : S_.BroadcastsInDim S256x512 (![] : Fin 0 → Fin S256x512.rank)

variable [Facts]

def fn {F : FTy → Type} [FloatOps F] (main_arg0 : FVec F S4096x512 .bf16) (main_arg1 : FVec F S256x512 .bf16) (main_arg2 : FVec F S256x512 .bf16) (main_arg3 : FVec F S4096x512 .bf16) : IVec S4096x512 1 × IVec S256x512 1 × IVec S256x512 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S256x512 .f32 := (extf .f32 · bitsLt_bf16_f32) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_v8 : FVec F S256x512 .f32 := (extf .f32 · bitsLt_bf16_f32) main_arg2
  let main_v9 : FVec F S256x512 .f32 := Host.absf main_v8
  let main_cst_1 : FVec F S_ .f32 := constant S_ .f32 0x7F800000#32
  let main_v10 : FVec F S256x512 .f32 := broadcastInDim S256x512 ![] bcast_S_S256x512 main_cst_1
  let main_v11 : IVec S256x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  (main_v3, main_v7, main_v11, main_v15)
-- ==== Pre_finite4.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite5.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite6.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) (main_arg5 : FVec F S4096x2048 .f32) : IVec S4096x2048 1 × IVec S4096x2048 1 × IVec S1x2048 1 × IVec S1x2048 1 × IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Pre_finite8.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) : IVec S4096x2048 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Kernel.lean ====
abbrev S1x4096x2048 : Shape := ⟨3, ![1, 4096, 2048]⟩
abbrev S4096x2048 : Shape := ⟨2, ![4096, 2048]⟩
abbrev S1x1 : Shape := ⟨2, ![1, 1]⟩
abbrev S256x2048 : Shape := ⟨2, ![256, 2048]⟩
abbrev S1x2048 : Shape := ⟨2, ![1, 2048]⟩
abbrev S2048 : Shape := ⟨1, ![2048]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | .local _ .vmem, ⟨7, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v19 : BitVec 1 := Scalar.cmpi .eq arg0 c15_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x4096x2048 : Shape := ⟨3, ![1, 4096, 2048]⟩
abbrev S_ : Shape := ⟨0, ![]⟩
abbrev S1x4096 : Shape := ⟨2, ![1, 4096]⟩
abbrev S4096x2048 : Shape := ⟨2, ![4096, 2048]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S1x4096x2048, .f32⟩
  | .hbm, ⟨4, _⟩ => ⟨S_, .f32⟩
  | .hbm, ⟨5, _⟩ => ⟨S1x4096x2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096x2048, .f32⟩
  | .hbm, ⟨24, _⟩ => ⟨S1x4096x2048, .f32⟩
  | .hbm, ⟨25, _⟩ => ⟨S4096x2048, .f32⟩
  | .hbm, ⟨26, _⟩ => ⟨S1x1, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel2.lean ====
abbrev S4096x2048 : Shape := ⟨2, ![4096, 2048]⟩
abbrev S8x2048x704 : Shape := ⟨3, ![8, 2048, 704]⟩
abbrev S8x704x2048 : Shape := ⟨3, ![8, 704, 2048]⟩
abbrev S8x704x4096 : Shape := ⟨3, ![8, 704, 4096]⟩
abbrev S8x4096x704 : Shape := ⟨3, ![8, 4096, 704]⟩
abbrev S512x2048 : Shape := ⟨2, ![512, 2048]⟩
abbrev S1x512x704 : Shape := ⟨3, ![1, 512, 704]⟩
abbrev S1x2048x704 : Shape := ⟨3, ![1, 2048, 704]⟩
abbrev S1x704x2048 : Shape := ⟨3, ![1, 704, 2048]⟩
abbrev S1x704x512 : Shape := ⟨3, ![1, 704, 512]⟩
abbrev S704x2048 : Shape := ⟨2, ![704, 2048]⟩
abbrev S512x704 : Shape := ⟨2, ![512, 704]⟩
abbrev S704x512 : Shape := ⟨2, ![704, 512]⟩
abbrev S2048x704 : Shape := ⟨2, ![2048, 704]⟩

abbrev nBuf : Space → Nat
  | .hbm => 17
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S4096x2048, .bf16⟩
  | .hbm, ⟨5, _⟩ => ⟨S4096x2048, .f32⟩
  | .hbm, ⟨6, _⟩ => ⟨S8x2048x704, .f32⟩
  | .hbm, ⟨7, _⟩ => ⟨S8x2048x704, .f32⟩
  | .hbm, ⟨8, _⟩ => ⟨S8x704x4096, .f32⟩
  | .hbm, ⟨9, _⟩ => ⟨S8x4096x704, .f32⟩
  | .hbm, ⟨10, _⟩ => ⟨S8x4096x704, .bf16⟩
  | .hbm, ⟨11, _⟩ => ⟨S8x704x4096, .f32⟩
  | .hbm, ⟨12, _⟩ => ⟨S8x4096x704, .f32⟩
  | .hbm, ⟨13, _⟩ => ⟨S8x4096x704, .bf16⟩
  | .hbm, ⟨14, _⟩ => ⟨S8x704x4096, .bf16⟩
  | .hbm, ⟨15, _⟩ => ⟨S8x704x4096, .bf16⟩
  | .hbm, ⟨16, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x2048, .bf16⟩
  | .local _ .vmem, ⟨11, _⟩ => ⟨S1x704x2048, .bf16⟩
  | .local _ .vmem, ⟨12, _⟩ => ⟨S1x704x512, .bf16⟩
  | .local _ .vmem, ⟨13, _⟩ => ⟨S1x704x512, .bf16⟩
  | .local _ .vmem, ⟨14, _⟩ => ⟨S1x704x512, .bf16⟩
  | .local _ .vmem, ⟨15, _⟩ => ⟨S1x704x512, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_32 : BitVec 32 := 0#32
  let v54 : BitVec 1 := Scalar.cmpi .ne v53 c0_i32_32
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x2048 : Shape := ⟨2, ![4096, 2048]⟩
abbrev S8x2048x704 : Shape := ⟨3, ![8, 2048, 704]⟩
abbrev S8x704x2048 : Shape := ⟨3, ![8, 704, 2048]⟩
abbrev S2048x8x704 : Shape := ⟨3, ![2048, 8, 704]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x704x4096 : Shape := ⟨3, ![8, 704, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S8x2048x704, .f32⟩
  | .hbm, ⟨8, _⟩ => ⟨S8x2048x704, .f32⟩
  | .hbm, ⟨9, _⟩ => ⟨S8x704x2048, .f32⟩
  | .hbm, ⟨10, _⟩ => ⟨S2048x8x704, .f32⟩
  | .hbm, ⟨11, _⟩ => ⟨S2048x5632, .f32⟩
  | .hbm, ⟨12, _⟩ => ⟨S2048x8x704, .f32⟩
  | .hbm, ⟨13, _⟩ => ⟨S2048x5632, .f32⟩
  | .hbm, ⟨14, _⟩ => ⟨S5632x2048, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2048, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S_, .f32⟩
  | .hbm, ⟨46, _⟩ => ⟨S4096x5632, .f32⟩
  | .hbm, ⟨47, _⟩ => ⟨S4096x5632, .f32⟩
  | .hbm, ⟨48, _⟩ => ⟨S_, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x2048, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x2048, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S4096x5632, .f32⟩
  | .hbm, ⟨64, _⟩ => ⟨S4096x2048, .f32⟩
  | .hbm, ⟨65, _⟩ => ⟨S4096x2048, .f32⟩
  | .hbm, ⟨66, _⟩ => ⟨S4096x8x704, .f32⟩
  | .hbm, ⟨67, _⟩ => ⟨S8x704x4096, .f32⟩
  | .hbm, ⟨68, _⟩ => ⟨S8x704x4096, .bf16⟩
  | .hbm, ⟨69, _⟩ => ⟨S4096x8x704, .f32⟩
  | .hbm, ⟨70, _⟩ => ⟨S8x704x4096, .f32⟩
  | .hbm, ⟨71, _⟩ => ⟨S8x704x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v12_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v12_1 : Ref sig .tc := ⟨.hbm, 28, rfl⟩
abbrev main_v12_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_v20_2 : Ref sig .tc := ⟨.hbm, 47, rfl⟩
abbrev main_call2_cst_1 : Ref sig .tc := ⟨.hbm, 48, rfl⟩
abbrev main_call2_v6 : Ref sig .tc := ⟨.hbm, 49, rfl⟩
abbrev main_call2_v7 : Ref sig .tc := ⟨.hbm, 50, rfl⟩
abbrev main_v20_1 : Ref sig .tc := ⟨.hbm, 51, rfl⟩
abbrev main_v20_0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]
-- ==== Kernel3.lean ====
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .hbm, ⟨4, _⟩ => ⟨S4096x512, .bf16⟩
  | .hbm, ⟨5, _⟩ => ⟨S256x512, .f32⟩
  | .hbm, ⟨6, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x512, .f32⟩
  | .local _ .vmem, ⟨9, _⟩ => ⟨S256x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x512 : Shape := ⟨2, ![4096, 512]⟩
abbrev S256x512 : Shape := ⟨2, ![256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .hbm, ⟨4, _⟩ => ⟨S4096x512, .f32⟩
  | .hbm, ⟨5, _⟩ => ⟨S256x512, .f32⟩
  | .hbm, ⟨6, _⟩ => ⟨S256x512, .f32⟩
  | .hbm, ⟨7, _⟩ => ⟨S4096x512, .f32⟩
  | .hbm, ⟨8, _⟩ => ⟨S1x4096x4x128, .f32⟩
  | .hbm, ⟨9, _⟩ => ⟨S1x256x4x128, .f32⟩
  | .hbm, ⟨10, _⟩ => ⟨S1x256x4x128, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x128x4096, .f32⟩
  | .hbm, ⟨54, _⟩ => ⟨S1x4096x4x128, .f32⟩
  | .hbm, ⟨55, _⟩ => ⟨S4096x512, .f32⟩
  | .hbm, ⟨56, _⟩ => ⟨S1x4096x4x128, .f32⟩
  | .hbm, ⟨57, _⟩ => ⟨S1x4x128x4096, .f32⟩
  | .hbm, ⟨58, _⟩ => ⟨S1x4x4096x256, .f32⟩
  | .hbm, ⟨59, _⟩ => ⟨S1x4x128x256, .f32⟩
  | .hbm, ⟨60, _⟩ => ⟨S1x256x4x128, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x1, .f32⟩
  | .hbm, ⟨68, _⟩ => ⟨S1x4x4096x256, .f32⟩
  | .hbm, ⟨69, _⟩ => ⟨S1x4x4096x256, .f32⟩
  | .hbm, ⟨70, _⟩ => ⟨S_, .f32⟩
  | .hbm, ⟨71, _⟩ => ⟨S4x4096, .f32⟩
  | .hbm, ⟨72, _⟩ => ⟨S1x4x4096, .f32⟩
  | .hbm, ⟨73, _⟩ => ⟨S1x4x4096x256, .f32⟩
  | .hbm, ⟨74, _⟩ => ⟨S1x4x4096x256, .f32⟩
  | .hbm, ⟨75, _⟩ => ⟨S1x4x4096x256, .f32⟩
  | .hbm, ⟨76, _⟩ => ⟨S_, .f32⟩
  | .hbm, ⟨77, _⟩ => ⟨S1x4x4096x256, .f32⟩
  | .hbm, ⟨78, _⟩ => ⟨S1x4x4096x256, .f32⟩
  | .hbm, ⟨79, _⟩ => ⟨S1x4x256x128, .f32⟩
  | .hbm, ⟨80, _⟩ => ⟨S1x256x4x128, .f32⟩
  | .hbm, ⟨81, _⟩ => ⟨S1x4x4096x128, .f32⟩
  | .hbm, ⟨82, _⟩ => ⟨S1x4096x4x128, .f32⟩
  | .hbm, ⟨83, _⟩ => ⟨S256x512, .f32⟩
  | .hbm, ⟨84, _⟩ => ⟨S256x512, .f32⟩
  | .hbm, ⟨85, _⟩ => ⟨S4096x512, .f32⟩
  | .hbm, ⟨86, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel5.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .bf16⟩
  | .hbm, ⟨30, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 110
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S1x2048, .f32⟩
  | .hbm, ⟨79, _⟩ => ⟨S4096x2048, .f32⟩
  | .hbm, ⟨80, _⟩ => ⟨S_, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S2048, .f32⟩
  | .hbm, ⟨91, _⟩ => ⟨S4096x2048, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x2048, .f32⟩
  | .hbm, ⟨96, _⟩ => ⟨S4096x2048, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S4096x2048, .f32⟩
  | .hbm, ⟨107, _⟩ => ⟨S4096x2048, .f32⟩
  | .hbm, ⟨108, _⟩ => ⟨S1x2048, .f32⟩
  | .hbm, ⟨109, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_cst_18 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Kernel7.lean ====
abbrev S4096x2048 : Shape := ⟨2, ![4096, 2048]⟩
abbrev S4x512x512 : Shape := ⟨3, ![4, 512, 512]⟩
abbrev S1x2048 : Shape := ⟨2, ![1, 2048]⟩
abbrev S1x4096x2048 : Shape := ⟨3, ![1, 4096, 2048]⟩
abbrev S1x4096x4x512 : Shape := ⟨4, ![1, 4096, 4, 512]⟩
abbrev S_ : Shape := ⟨0, ![]⟩
abbrev S4096 : Shape := ⟨1, ![4096]⟩
abbrev S1x4096x1x512 : Shape := ⟨4, ![1, 4096, 1, 512]⟩
abbrev S1x4096x512 : Shape := ⟨3, ![1, 4096, 512]⟩
abbrev S1x2x512 : Shape := ⟨3, ![1, 2, 512]⟩
abbrev S1x4094x512 : Shape := ⟨3, ![1, 4094, 512]⟩
abbrev S1x4096x1 : Shape := ⟨3, ![1, 4096, 1]⟩
abbrev S1x4x512 : Shape := ⟨3, ![1, 4, 512]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S256x2048 : Shape := ⟨2, ![256, 2048]⟩
abbrev S256x512 : Shape := ⟨2, ![256, 512]⟩
abbrev S1x512x512 : Shape := ⟨3, ![1, 512, 512]⟩
abbrev S512x512 : Shape := ⟨2, ![512, 512]⟩
abbrev S2048 : Shape := ⟨1, ![2048]⟩

abbrev nBuf : Space → Nat
  | .hbm => 87
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x512x512, .bf16⟩
  | .hbm, ⟨3, _⟩ => ⟨S1x2048, .f32⟩
  | .hbm, ⟨4, _⟩ => ⟨S1x4096x2048, .f32⟩
  | .hbm, ⟨5, _⟩ => ⟨S1x4096x4x512, .f32⟩
  | .hbm, ⟨6, _⟩ => ⟨S_, .f32⟩
  | .hbm, ⟨7, _⟩ => ⟨S_, .f32⟩
  | .hbm, ⟨8, _⟩ => ⟨S1x4096x4x512, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096x1x512, .f32⟩
  | .hbm, ⟨14, _⟩ => ⟨S1x4096x512, .f32⟩
  | .hbm, ⟨15, _⟩ => ⟨S_, .f32⟩
  | .hbm, ⟨16, _⟩ => ⟨S1x2x512, .f32⟩
  | .hbm, ⟨17, _⟩ => ⟨S1x4094x512, .f32⟩
  | .hbm, ⟨18, _⟩ => ⟨S1x4096x512, .f32⟩
  | .hbm, ⟨19, _⟩ => ⟨S1x4096x512, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x4096x1, .f32⟩
  | .hbm, ⟨24, _⟩ => ⟨S1x4096x512, .f32⟩
  | .hbm, ⟨25, _⟩ => ⟨S1x4096x512, .f32⟩
  | .hbm, ⟨26, _⟩ => ⟨S1x4096x1x512, .f32⟩
  | .hbm, ⟨27, _⟩ => ⟨S1x4096x512, .f32⟩
  | .hbm, ⟨28, _⟩ => ⟨S1x4096x512, .f32⟩
  | .hbm, ⟨29, _⟩ => ⟨S1x4096x1x512, .f32⟩
  | .hbm, ⟨30, _⟩ => ⟨S1x4096x512, .f32⟩
  | .hbm, ⟨31, _⟩ => ⟨S_, .f32⟩
  | .hbm, ⟨32, _⟩ => ⟨S1x4x512, .f32⟩
  | .hbm, ⟨33, _⟩ => ⟨S1x4092x512, .f32⟩
  | .hbm, ⟨34, _⟩ => ⟨S1x4096x512, .f32⟩
  | .hbm, ⟨35, _⟩ => ⟨S1x4096x512, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096x1, .f32⟩
  | .hbm, ⟨40, _⟩ => ⟨S1x4096x512, .f32⟩
  | .hbm, ⟨41, _⟩ => ⟨S1x4096x512, .f32⟩
  | .hbm, ⟨42, _⟩ => ⟨S1x4096x1x512, .f32⟩
  | .hbm, ⟨43, _⟩ => ⟨S1x4096x512, .f32⟩
  | .hbm, ⟨44, _⟩ => ⟨S1x4096x512, .f32⟩
  | .hbm, ⟨45, _⟩ => ⟨S1x4096x1x512, .f32⟩
  | .hbm, ⟨46, _⟩ => ⟨S1x4096x512, .f32⟩
  | .hbm, ⟨47, _⟩ => ⟨S_, .f32⟩
  | .hbm, ⟨48, _⟩ => ⟨S1x8x512, .f32⟩
  | .hbm, ⟨49, _⟩ => ⟨S1x4088x512, .f32⟩
  | .hbm, ⟨50, _⟩ => ⟨S1x4096x512, .f32⟩
  | .hbm, ⟨51, _⟩ => ⟨S1x4096x512, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S1x4096x1, .f32⟩
  | .hbm, ⟨56, _⟩ => ⟨S1x4096x512, .f32⟩
  | .hbm, ⟨57, _⟩ => ⟨S1x4096x512, .f32⟩
  | .hbm, ⟨58, _⟩ => ⟨S1x4096x1x512, .f32⟩
  | .hbm, ⟨59, _⟩ => ⟨S1x4096x512, .f32⟩
  | .hbm, ⟨60, _⟩ => ⟨S1x4096x512, .f32⟩
  | .hbm, ⟨61, _⟩ => ⟨S1x4096x1x512, .f32⟩
  | .hbm, ⟨62, _⟩ => ⟨S1x4096x512, .f32⟩
  | .hbm, ⟨63, _⟩ => ⟨S_, .f32⟩
  | .hbm, ⟨64, _⟩ => ⟨S1x16x512, .f32⟩
  | .hbm, ⟨65, _⟩ => ⟨S1x4080x512, .f32⟩
  | .hbm, ⟨66, _⟩ => ⟨S1x4096x512, .f32⟩
  | .hbm, ⟨67, _⟩ => ⟨S1x4096x512, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S1x4096x1, .f32⟩
  | .hbm, ⟨72, _⟩ => ⟨S1x4096x512, .f32⟩
  | .hbm, ⟨73, _⟩ => ⟨S1x4096x512, .f32⟩
  | .hbm, ⟨74, _⟩ => ⟨S1x4096x1x512, .f32⟩
  | .hbm, ⟨75, _⟩ => ⟨S1x4096x512, .f32⟩
  | .hbm, ⟨76, _⟩ => ⟨S1x4096x512, .f32⟩
  | .hbm, ⟨77, _⟩ => ⟨S1x4096x1x512, .f32⟩
  | .hbm, ⟨78, _⟩ => ⟨S1x4096x1x512, .f32⟩
  | .hbm, ⟨79, _⟩ => ⟨S1x4096x1x512, .f32⟩
  | .hbm, ⟨80, _⟩ => ⟨S1x4096x1x512, .f32⟩
  | .hbm, ⟨81, _⟩ => ⟨S1x4096x4x512, .f32⟩
  | .hbm, ⟨82, _⟩ => ⟨S4096x2048, .f32⟩
  | .hbm, ⟨83, _⟩ => ⟨S4096x2048, .bf16⟩
  | .hbm, ⟨84, _⟩ => ⟨S4096x2048, .f32⟩
  | .hbm, ⟨85, _⟩ => ⟨S4096x2048, .bf16⟩
  | .hbm, ⟨86, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S4x512x512, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69_0 : Ref sig .tc := ⟨.hbm, 84, rfl⟩
abbrev main_v69_1 : Ref sig .tc := ⟨.hbm, 85, rfl⟩
abbrev main_v69_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x2048 : Shape := ⟨2, ![4096, 2048]⟩
abbrev S4x512x512 : Shape := ⟨3, ![4, 512, 512]⟩
abbrev S1x2048 : Shape := ⟨2, ![1, 2048]⟩
abbrev S1x4096x2048 : Shape := ⟨3, ![1, 4096, 2048]⟩
abbrev S1x4096x4x512 : Shape := ⟨4, ![1, 4096, 4, 512]⟩
abbrev S_ : Shape := ⟨0, ![]⟩
abbrev S4096 : Shape := ⟨1, ![4096]⟩
abbrev S1x4096x1x512 : Shape := ⟨4, ![1, 4096, 1, 512]⟩
abbrev S1x4096x512 : Shape := ⟨3, ![1, 4096, 512]⟩
abbrev S1x2x512 : Shape := ⟨3, ![1, 2, 512]⟩
abbrev S1x4094x512 : Shape := ⟨3, ![1, 4094, 512]⟩
abbrev S1x4096x1 : Shape := ⟨3, ![1, 4096, 1]⟩
abbrev S1x4x512 : Shape := ⟨3, ![1, 4, 512]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S4x512x1x4096 : Shape := ⟨4, ![4, 512, 1, 4096]⟩
abbrev S2048 : Shape := ⟨1, ![2048]⟩
abbrev S1x1x2048 : Shape := ⟨3, ![1, 1, 2048]⟩
abbrev S4x1x4096x512 : Shape := ⟨4, ![4, 1, 4096, 512]⟩

abbrev nBuf : Space → Nat
  | .hbm => 116
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x512x512, .bf16⟩
  | .hbm, ⟨3, _⟩ => ⟨S1x2048, .f32⟩
  | .hbm, ⟨4, _⟩ => ⟨S1x4096x2048, .f32⟩
  | .hbm, ⟨5, _⟩ => ⟨S1x4096x4x512, .f32⟩
  | .hbm, ⟨6, _⟩ => ⟨S_, .f32⟩
  | .hbm, ⟨7, _⟩ => ⟨S_, .f32⟩
  | .hbm, ⟨8, _⟩ => ⟨S1x4096x4x512, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096x1x512, .f32⟩
  | .hbm, ⟨14, _⟩ => ⟨S1x4096x512, .f32⟩
  | .hbm, ⟨15, _⟩ => ⟨S_, .f32⟩
  | .hbm, ⟨16, _⟩ => ⟨S1x2x512, .f32⟩
  | .hbm, ⟨17, _⟩ => ⟨S1x4094x512, .f32⟩
  | .hbm, ⟨18, _⟩ => ⟨S1x4096x512, .f32⟩
  | .hbm, ⟨19, _⟩ => ⟨S1x4096x512, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x4096x1, .f32⟩
  | .hbm, ⟨24, _⟩ => ⟨S1x4096x512, .f32⟩
  | .hbm, ⟨25, _⟩ => ⟨S1x4096x512, .f32⟩
  | .hbm, ⟨26, _⟩ => ⟨S1x4096x1x512, .f32⟩
  | .hbm, ⟨27, _⟩ => ⟨S1x4096x512, .f32⟩
  | .hbm, ⟨28, _⟩ => ⟨S1x4096x512, .f32⟩
  | .hbm, ⟨29, _⟩ => ⟨S1x4096x1x512, .f32⟩
  | .hbm, ⟨30, _⟩ => ⟨S1x4096x512, .f32⟩
  | .hbm, ⟨31, _⟩ => ⟨S_, .f32⟩
  | .hbm, ⟨32, _⟩ => ⟨S1x4x512, .f32⟩
  | .hbm, ⟨33, _⟩ => ⟨S1x4092x512, .f32⟩
  | .hbm, ⟨34, _⟩ => ⟨S1x4096x512, .f32⟩
  | .hbm, ⟨35, _⟩ => ⟨S1x4096x512, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096x1, .f32⟩
  | .hbm, ⟨40, _⟩ => ⟨S1x4096x512, .f32⟩
  | .hbm, ⟨41, _⟩ => ⟨S1x4096x512, .f32⟩
  | .hbm, ⟨42, _⟩ => ⟨S1x4096x1x512, .f32⟩
  | .hbm, ⟨43, _⟩ => ⟨S1x4096x512, .f32⟩
  | .hbm, ⟨44, _⟩ => ⟨S1x4096x512, .f32⟩
  | .hbm, ⟨45, _⟩ => ⟨S1x4096x1x512, .f32⟩
  | .hbm, ⟨46, _⟩ => ⟨S1x4096x512, .f32⟩
  | .hbm, ⟨47, _⟩ => ⟨S_, .f32⟩
  | .hbm, ⟨48, _⟩ => ⟨S1x8x512, .f32⟩
  | .hbm, ⟨49, _⟩ => ⟨S1x4088x512, .f32⟩
  | .hbm, ⟨50, _⟩ => ⟨S1x4096x512, .f32⟩
  | .hbm, ⟨51, _⟩ => ⟨S1x4096x512, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S1x4096x1, .f32⟩
  | .hbm, ⟨56, _⟩ => ⟨S1x4096x512, .f32⟩
  | .hbm, ⟨57, _⟩ => ⟨S1x4096x512, .f32⟩
  | .hbm, ⟨58, _⟩ => ⟨S1x4096x1x512, .f32⟩
  | .hbm, ⟨59, _⟩ => ⟨S1x4096x512, .f32⟩
  | .hbm, ⟨60, _⟩ => ⟨S1x4096x512, .f32⟩
  | .hbm, ⟨61, _⟩ => ⟨S1x4096x1x512, .f32⟩
  | .hbm, ⟨62, _⟩ => ⟨S1x4096x512, .f32⟩
  | .hbm, ⟨63, _⟩ => ⟨S_, .f32⟩
  | .hbm, ⟨64, _⟩ => ⟨S1x16x512, .f32⟩
  | .hbm, ⟨65, _⟩ => ⟨S1x4080x512, .f32⟩
  | .hbm, ⟨66, _⟩ => ⟨S1x4096x512, .f32⟩
  | .hbm, ⟨67, _⟩ => ⟨S1x4096x512, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S1x4096x1, .f32⟩
  | .hbm, ⟨72, _⟩ => ⟨S1x4096x512, .f32⟩
  | .hbm, ⟨73, _⟩ => ⟨S1x4096x512, .f32⟩
  | .hbm, ⟨74, _⟩ => ⟨S1x4096x1x512, .f32⟩
  | .hbm, ⟨75, _⟩ => ⟨S1x4096x512, .f32⟩
  | .hbm, ⟨76, _⟩ => ⟨S1x4096x512, .f32⟩
  | .hbm, ⟨77, _⟩ => ⟨S1x4096x1x512, .f32⟩
  | .hbm, ⟨78, _⟩ => ⟨S1x4096x1x512, .f32⟩
  | .hbm, ⟨79, _⟩ => ⟨S1x4096x1x512, .f32⟩
  | .hbm, ⟨80, _⟩ => ⟨S1x4096x1x512, .f32⟩
  | .hbm, ⟨81, _⟩ => ⟨S1x4096x4x512, .f32⟩
  | .hbm, ⟨82, _⟩ => ⟨S4x512x512, .f32⟩
  | .hbm, ⟨83, _⟩ => ⟨S4x512x1x4096, .f32⟩
  | .hbm, ⟨84, _⟩ => ⟨S1x4096x4x512, .f32⟩
  | .hbm, ⟨85, _⟩ => ⟨S1x4096x2048, .f32⟩
  | .hbm, ⟨86, _⟩ => ⟨S4096x2048, .f32⟩
  | .hbm, ⟨87, _⟩ => ⟨S2048, .f32⟩
  | .hbm, ⟨88, _⟩ => ⟨S1x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S4x512x1x4096, .f32⟩
  | .hbm, ⟨101, _⟩ => ⟨S1x4096x4x512, .f32⟩
  | .hbm, ⟨102, _⟩ => ⟨S1x4096x2048, .f32⟩
  | .hbm, ⟨103, _⟩ => ⟨S2048, .f32⟩
  | .hbm, ⟨104, _⟩ => ⟨S1x1x2048, .f32⟩
  | .hbm, ⟨105, _⟩ => ⟨S1x4096x2048, .f32⟩
  | .hbm, ⟨106, _⟩ => ⟨S1x4096x2048, .f32⟩
  | .hbm, ⟨107, _⟩ => ⟨S1x4096x2048, .f32⟩
  | .hbm, ⟨108, _⟩ => ⟨S1x4096x2048, .f32⟩
  | .hbm, ⟨109, _⟩ => ⟨S1x4096x2048, .f32⟩
  | .hbm, ⟨110, _⟩ => ⟨S1x4096x4x512, .f32⟩
  | .hbm, ⟨111, _⟩ => ⟨S4x512x1x4096, .f32⟩
  | .hbm, ⟨112, _⟩ => ⟨S4x1x4096x512, .f32⟩
  | .hbm, ⟨113, _⟩ => ⟨S1x4096x4x512, .f32⟩
  | .hbm, ⟨114, _⟩ => ⟨S4096x2048, .f32⟩
  | .hbm, ⟨115, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩

abbrev nD : Nat := 1
abbrev τ : Topo := Topo.v7x

variable {F : FTy → Type} [FloatOps F]
-- ==== Kernel8.lean ====
abbrev S4096x2048 : Shape := ⟨2, ![4096, 2048]⟩
abbrev S256x2048 : Shape := ⟨2, ![256, 2048]⟩
abbrev S16x2048 : Shape := ⟨2, ![16, 2048]⟩
abbrev S256x512 : Shape := ⟨2, ![256, 512]⟩
abbrev S256x1 : Shape := ⟨2, ![256, 1]⟩
abbrev S16x512 : Shape := ⟨2, ![16, 512]⟩
abbrev S272x512 : Shape := ⟨2, ![272, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S256x2048, .f32⟩
  | .local _ .vmem, ⟨5, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x2048 : Shape := ⟨2, ![4096, 2048]⟩
abbrev S1x4096x2048 : Shape := ⟨3, ![1, 4096, 2048]⟩
abbrev S1x4096x4x512 : Shape := ⟨4, ![1, 4096, 4, 512]⟩
abbrev S_ : Shape := ⟨0, ![]⟩
abbrev S4096 : Shape := ⟨1, ![4096]⟩
abbrev S1x4096x1x512 : Shape := ⟨4, ![1, 4096, 1, 512]⟩
abbrev S1x4096x512 : Shape := ⟨3, ![1, 4096, 512]⟩
abbrev S1x2x512 : Shape := ⟨3, ![1, 2, 512]⟩
abbrev S1x4094x512 : Shape := ⟨3, ![1, 4094, 512]⟩
abbrev S1x4096x1 : Shape := ⟨3, ![1, 4096, 1]⟩
abbrev S1x4x512 : Shape := ⟨3, ![1, 4, 512]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩

abbrev nBuf : Space → Nat
  | .hbm => 170
  | .vmem => 0
  | .smem => 0
  | _ => 0

abbrev hbmTy0_0 (i : Nat) : BufTy := match i % 128 with
  | 0 => ⟨S4096x2048, .f32⟩
  | 1 => ⟨S4096x2048, .f32⟩
  | 2 => ⟨S1x4096x2048, .f32⟩
  | 3 => ⟨S1x4096x4x512, .f32⟩
  | 4 => ⟨S_, .f32⟩
  | 5 => ⟨S_, .f32⟩
  | 6 => ⟨S1x4096x4x512, .f32⟩
  | 7 => ⟨S4096, .f32⟩
  | 8 => ⟨S_, .f32⟩
  | 9 => ⟨S4096, .f32⟩
  | 10 => ⟨S4096, .f32⟩
  | 11 => ⟨S1x4096x1x512, .f32⟩
  | 12 => ⟨S1x4096x512, .f32⟩
  | 13 => ⟨S_, .f32⟩
  | 14 => ⟨S1x2x512, .f32⟩
  | 15 => ⟨S1x4094x512, .f32⟩
  | 16 => ⟨S1x4096x512, .f32⟩
  | 17 => ⟨S_, .f32⟩
  | 18 => ⟨S1x2x512, .f32⟩
  | 19 => ⟨S1x4096x512, .f32⟩
  | 20 => ⟨S_, .f32⟩
  | 21 => ⟨S4096, .f32⟩
  | 22 => ⟨S4096, .f32⟩
  | 23 => ⟨S1x4096x1, .f32⟩
  | 24 => ⟨S1x4096x512, .f32⟩
  | 25 => ⟨S1x4096x512, .f32⟩
  | 26 => ⟨S1x4096x1x512, .f32⟩
  | 27 => ⟨S1x4096x512, .f32⟩
  | 28 => ⟨S1x4096x512, .f32⟩
  | 29 => ⟨S1x4096x1x512, .f32⟩
  | 30 => ⟨S1x4096x512, .f32⟩
  | 31 => ⟨S_, .f32⟩
  | 32 => ⟨S1x4x512, .f32⟩
  | 33 => ⟨S1x4092x512, .f32⟩
  | 34 => ⟨S1x4096x512, .f32⟩
  | 35 => ⟨S_, .f32⟩
  | 36 => ⟨S1x4x512, .f32⟩
  | 37 => ⟨S1x4096x512, .f32⟩
  | 38 => ⟨S_, .f32⟩
  | 39 => ⟨S4096, .f32⟩
  | 40 => ⟨S4096, .f32⟩
  | 41 => ⟨S1x4096x1, .f32⟩
  | 42 => ⟨S1x4096x512, .f32⟩
  | 43 => ⟨S1x4096x512, .f32⟩
  | 44 => ⟨S1x4096x1x512, .f32⟩
  | 45 => ⟨S1x4096x512, .f32⟩
  | 46 => ⟨S1x4096x512, .f32⟩
  | 47 => ⟨S1x4096x1x512, .f32⟩
  | 48 => ⟨S1x4096x512, .f32⟩
  | 49 => ⟨S_, .f32⟩
  | 50 => ⟨S1x8x512, .f32⟩
  | 51 => ⟨S1x4088x512, .f32⟩
  | 52 => ⟨S1x4096x512, .f32⟩
  | 53 => ⟨S_, .f32⟩
  | 54 => ⟨S1x8x512, .f32⟩
  | 55 => ⟨S1x4096x512, .f32⟩
  | 56 => ⟨S_, .f32⟩
  | 57 => ⟨S4096, .f32⟩
  | 58 => ⟨S4096, .f32⟩
  | 59 => ⟨S1x4096x1, .f32⟩
  | 60 => ⟨S1x4096x512, .f32⟩
  | 61 => ⟨S1x4096x512, .f32⟩
  | 62 => ⟨S1x4096x1x512, .f32⟩
  | 63 => ⟨S1x4096x512, .f32⟩
  | 64 => ⟨S1x4096x512, .f32⟩
  | 65 => ⟨S1x4096x1x512, .f32⟩
  | 66 => ⟨S1x4096x512, .f32⟩
  | 67 => ⟨S_, .f32⟩
  | 68 => ⟨S1x16x512, .f32⟩
  | 69 => ⟨S1x4080x512, .f32⟩
  | 70 => ⟨S1x4096x512, .f32⟩
  | 71 => ⟨S_, .f32⟩
  | 72 => ⟨S1x16x512, .f32⟩
  | 73 => ⟨S1x4096x512, .f32⟩
  | 74 => ⟨S_, .f32⟩
  | 75 => ⟨S4096, .f32⟩
  | 76 => ⟨S4096, .f32⟩
  | 77 => ⟨S1x4096x1, .f32⟩
  | 78 => ⟨S1x4096x512, .f32⟩
  | 79 => ⟨S1x4096x512, .f32⟩
  | 80 => ⟨S1x4096x1x512, .f32⟩
  | 81 => ⟨S1x4096x512, .f32⟩
  | 82 => ⟨S1x4096x512, .f32⟩
  | 83 => ⟨S1x4096x1x512, .f32⟩
  | 84 => ⟨S1x4096x1x512, .f32⟩
  | 85 => ⟨S1x4096x1x512, .f32⟩
  | 86 => ⟨S1x4096x1x512, .f32⟩
  | 87 => ⟨S1x4096x4x512, .f32⟩
  | 88 => ⟨S1x4096x4x512, .f32⟩
  | 89 => ⟨S1x4096x1x512, .f32⟩
  | 90 => ⟨S1x4096x512, .f32⟩
  | 91 => ⟨S1x4096x1x512, .f32⟩
  | 92 => ⟨S1x4096x512, .f32⟩
  | 93 => ⟨S1x4096x1x512, .f32⟩
  | 94 => ⟨S1x4096x512, .f32⟩
  | 95 => ⟨S1x4096x1x512, .f32⟩
  | 96 => ⟨S1x4096x512, .f32⟩
  | 97 => ⟨S1x4096x512, .f32⟩
  | 98 => ⟨S1x4096x1x512, .f32⟩
  | 99 => ⟨S_, .f32⟩
  | 100 => ⟨S1x4096x4x512, .f32⟩
  | 101 => ⟨S1x4096x512, .f32⟩
  | 102 => ⟨S1x4096x512, .f32⟩
  | 103 => ⟨S1x4096x512, .f32⟩
  | 104 => ⟨S1x16x512, .f32⟩
  | 105 => ⟨S1x4080x512, .f32⟩
  | 106 => ⟨S_, .f32⟩
  | 107 => ⟨S1x4096x512, .f32⟩
  | 108 => ⟨S1x4096x512, .f32⟩
  | 109 => ⟨S1x4096x1x512, .f32⟩
  | 110 => ⟨S_, .f32⟩
  | 111 => ⟨S1x4096x4x512, .f32⟩
  | 112 => ⟨S1x4096x512, .f32⟩
  | 113 => ⟨S1x4096x1x512, .f32⟩
  | 114 => ⟨S_, .f32⟩
  | 115 => ⟨S1x4096x4x512, .f32⟩
  | 116 => ⟨S1x4096x4x512, .f32⟩
  | 117 => ⟨S1x4096x512, .f32⟩
  | 118 => ⟨S1x4096x512, .f32⟩
  | 119 => ⟨S1x4096x512, .f32⟩
  | 120 => ⟨S1x8x512, .f32⟩
  | 121 => ⟨S1x4088x512, .f32⟩
  | 122 => ⟨S_, .f32⟩
  | 123 => ⟨S1x4096x512, .f32⟩
  | 124 => ⟨S1x4096x512, .f32⟩
  | 125 => ⟨S1x4096x1x512, .f32⟩
  | 126 => ⟨S_, .f32⟩
  | 127 => ⟨S1x4096x4x512, .f32⟩
  | _ => ⟨S4096x2048, .f32⟩

abbrev hbmTy0_1 (i : Nat) : BufTy := match i % 128 with
  | 0 => ⟨S1x4096x4x512, .f32⟩
  | 1 => ⟨S1x4096x512, .f32⟩
  | 2 => ⟨S1x4096x1x512, .f32⟩
  | 3 => ⟨S_, .f32⟩
  | 4 => ⟨S1x4096x4x512, .f32⟩
  | 5 => ⟨S1x4096x4x512, .f32⟩
  | 6 => ⟨S1x4096x512, .f32⟩
  | 7 => ⟨S1x4096x512, .f32⟩
  | 8 => ⟨S1x4096x512, .f32⟩
  | 9 => ⟨S1x4x512, .f32⟩
  | 10 => ⟨S1x4092x512, .f32⟩
  | 11 => ⟨S_, .f32⟩
  | 12 => ⟨S1x4096x512, .f32⟩
  | 13 => ⟨S1x4096x512, .f32⟩
  | 14 => ⟨S1x4096x1x512, .f32⟩
  | 15 => ⟨S_, .f32⟩
  | 16 => ⟨S1x4096x4x512, .f32⟩
  | 17 => ⟨S1x4096x4x512, .f32⟩
  | 18 => ⟨S1x4096x512, .f32⟩
  | 19 => ⟨S1x4096x1x512, .f32⟩
  | 20 => ⟨S_, .f32⟩
  | 21 => ⟨S1x4096x4x512, .f32⟩
  | 22 => ⟨S1x4096x4x512, .f32⟩
  | 23 => ⟨S1x4096x512, .f32⟩
  | 24 => ⟨S1x4096x512, .f32⟩
  | 25 => ⟨S1x4096x512, .f32⟩
  | 26 => ⟨S1x2x512, .f32⟩
  | 27 => ⟨S1x4094x512, .f32⟩
  | 28 => ⟨S_, .f32⟩
  | 29 => ⟨S1x4096x512, .f32⟩
  | 30 => ⟨S1x4096x512, .f32⟩
  | 31 => ⟨S1x4096x1x512, .f32⟩
  | 32 => ⟨S_, .f32⟩
  | 33 => ⟨S1x4096x4x512, .f32⟩
  | 34 => ⟨S1x4096x4x512, .f32⟩
  | 35 => ⟨S_, .f32⟩
  | 36 => ⟨S_, .f32⟩
  | 37 => ⟨S1x4096x4x512, .f32⟩
  | 38 => ⟨S1x4096x4x512, .f32⟩
  | 39 => ⟨S1x4096x2048, .f32⟩
  | 40 => ⟨S_, .f32⟩
  | 41 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_12 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_13 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_14 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_15 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_16 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_17 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_18 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_19 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_20 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_21 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_22 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_23 : Ref sig .tc := ⟨.hbm, 160, rfl⟩
abbrev main_v132 : Ref sig .tc := ⟨.hbm, 161, rfl⟩
abbrev main_v133 : Ref sig .tc := ⟨.hbm, 162, rfl⟩
abbrev main_call1_call0_cst : Ref sig .tc := ⟨.hbm, 163, rfl⟩
abbrev main_call1_call0_v0 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_24 : Ref sig .tc := ⟨.hbm, 168, rfl⟩
abbrev main_v137 : Ref sig .tc := ⟨.hbm, 169, rfl⟩

abbrev nD : Nat := 1
abbrev τ : Topo := Topo.v7x

variable {F : FTy → Type} [FloatOps F]
-- ==== Kernel9.lean ====
abbrev S4096x1024 : Shape := ⟨2, ![4096, 1024]⟩
abbrev S32x256x256 : Shape := ⟨3, ![32, 256, 256]⟩
abbrev S4096x3328 : Shape := ⟨2, ![4096, 3328]⟩
abbrev S128x1024 : Shape := ⟨2, ![128, 1024]⟩
abbrev S1x256x256 : Shape := ⟨3, ![1, 256, 256]⟩
abbrev S128x3328 : Shape := ⟨2, ![128, 3328]⟩
abbrev S1x128x256 : Shape := ⟨3, ![1, 128, 256]⟩
abbrev S128x256 : Shape := ⟨2, ![128, 256]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S32x256x256, .f32⟩
  | .hbm, ⟨2, _⟩ => ⟨S4096x1024, .bf16⟩
  | .hbm, ⟨3, _⟩ => ⟨S4096x1024, .bf16⟩
  | .hbm, ⟨4, _⟩ => ⟨S4096x3328, .bf16⟩
  | .local _ .vmem, ⟨0, _⟩ => ⟨S128x1024, .bf16⟩
  | .local _ .vmem, ⟨1, _⟩ => ⟨S128x1024, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x3328, .bf16⟩
  | .local _ .vmem, ⟨11, _⟩ => ⟨S128x3328, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S32x256x256 : Shape := ⟨3, ![32, 256, 256]⟩
abbrev S32x256x128 : Shape := ⟨3, ![32, 256, 128]⟩
abbrev S_ : Shape := ⟨0, ![]⟩
abbrev S4096x3328 : Shape := ⟨2, ![4096, 3328]⟩
abbrev S4096x128 : Shape := ⟨2, ![4096, 128]⟩
abbrev S128x128 : Shape := ⟨2, ![128, 128]⟩
abbrev S4224x128 : Shape := ⟨2, ![4224, 128]⟩
abbrev S33x128x128 : Shape := ⟨3, ![33, 128, 128]⟩
abbrev S32x128x128 : Shape := ⟨3, ![32, 128, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S32x256x256, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S32x256x128, .f32⟩
  | .hbm, ⟨6, _⟩ => ⟨S32x256x128, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x3328, .f32⟩
  | .hbm, ⟨11, _⟩ => ⟨S4096x1024, .f32⟩
  | .hbm, ⟨12, _⟩ => ⟨S4096x128, .f32⟩
  | .hbm, ⟨13, _⟩ => ⟨S_, .f32⟩
  | .hbm, ⟨14, _⟩ => ⟨S128x128, .f32⟩
  | .hbm, ⟨15, _⟩ => ⟨S4224x128, .f32⟩
  | .hbm, ⟨16, _⟩ => ⟨S_, .f32⟩
  | .hbm, ⟨17, _⟩ => ⟨S128x128, .f32⟩
  | .hbm, ⟨18, _⟩ => ⟨S33x128x128, .f32⟩
  | .hbm, ⟨19, _⟩ => ⟨S32x128x128, .f32⟩
  | .hbm, ⟨20, _⟩ => ⟨S32x128x128, .f32⟩
  | .hbm, ⟨21, _⟩ => ⟨S32x256x128, .f32⟩
  | .hbm, ⟨22, _⟩ => ⟨S4096x128, .f32⟩
  | .hbm, ⟨23, _⟩ => ⟨S_, .f32⟩
  | .hbm, ⟨24, _⟩ => ⟨S128x128, .f32⟩
  | .hbm, ⟨25, _⟩ => ⟨S4224x128, .f32⟩
  | .hbm, ⟨26, _⟩ => ⟨S_, .f32⟩
  | .hbm, ⟨27, _⟩ => ⟨S128x128, .f32⟩
  | .hbm, ⟨28, _⟩ => ⟨S33x128x128, .f32⟩
  | .hbm, ⟨29, _⟩ => ⟨S32x128x128, .f32⟩
  | .hbm, ⟨30, _⟩ => ⟨S32x128x128, .f32⟩
  | .hbm, ⟨31, _⟩ => ⟨S32x256x128, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x3328, .f32⟩
  | .hbm, ⟨36, _⟩ => ⟨S_, .f32⟩
  | .hbm, ⟨37, _⟩ => ⟨S4096x3328, .f32⟩
  | .hbm, ⟨38, _⟩ => ⟨S4096x3328, .f32⟩
  | .hbm, ⟨39, _⟩ => ⟨S32x128x128, .f32⟩
  | .hbm, ⟨40, _⟩ => ⟨S32x128x128, .f32⟩
  | .hbm, ⟨41, _⟩ => ⟨S_, .f32⟩
  | .hbm, ⟨42, _⟩ => ⟨S33x128x128, .f32⟩
  | .hbm, ⟨43, _⟩ => ⟨S_, .f32⟩
  | .hbm, ⟨44, _⟩ => ⟨S33x128x128, .f32⟩
  | .hbm, ⟨45, _⟩ => ⟨S33x128x128, .f32⟩
  | .hbm, ⟨46, _⟩ => ⟨S4224x128, .f32⟩
  | .hbm, ⟨47, _⟩ => ⟨S128x128, .f32⟩
  | .hbm, ⟨48, _⟩ => ⟨S4096x128, .f32⟩
  | .hbm, ⟨49, _⟩ => ⟨S_, .f32⟩
  | .hbm, ⟨50, _⟩ => ⟨S4096x3328, .f32⟩
  | .hbm, ⟨51, _⟩ => ⟨S4096x3328, .f32⟩
  | .hbm, ⟨52, _⟩ => ⟨S32x128x128, .f32⟩
  | .hbm, ⟨53, _⟩ => ⟨S32x128x128, .f32⟩
  | .hbm, ⟨54, _⟩ => ⟨S_, .f32⟩
  | .hbm, ⟨55, _⟩ => ⟨S33x128x128, .f32⟩
  | .hbm, ⟨56, _⟩ => ⟨S_, .f32⟩
  | .hbm, ⟨57, _⟩ => ⟨S33x128x128, .f32⟩
  | .hbm, ⟨58, _⟩ => ⟨S33x128x128, .f32⟩
  | .hbm, ⟨59, _⟩ => ⟨S4224x128, .f32⟩
  | .hbm, ⟨60, _⟩ => ⟨S128x128, .f32⟩
  | .hbm, ⟨61, _⟩ => ⟨S4096x128, .f32⟩
  | .hbm, ⟨62, _⟩ => ⟨S_, .f32⟩
  | .hbm, ⟨63, _⟩ => ⟨S4096x3328, .f32⟩
  | .hbm, ⟨64, _⟩ => ⟨S4096x3328, .f32⟩
  | .hbm, ⟨65, _⟩ => ⟨S_, .f32⟩
  | .hbm, ⟨66, _⟩ => ⟨S4096x3328, .f32⟩
  | .hbm, ⟨67, _⟩ => ⟨S4096x3328, .f32⟩
  | .hbm, ⟨68, _⟩ => ⟨S4096x3328, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel10.lean ====
abbrev S4096x3328 : Shape := ⟨2, ![4096, 3328]⟩
abbrev S1x16 : Shape := ⟨2, ![1, 16]⟩
abbrev S4096x2048 : Shape := ⟨2, ![4096, 2048]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x384 : Shape := ⟨2, ![4096, 384]⟩
abbrev S4096x1024 : Shape := ⟨2, ![4096, 1024]⟩
abbrev S32x256x256 : Shape := ⟨3, ![32, 256, 256]⟩
abbrev S1x128 : Shape := ⟨2, ![1, 128]⟩
abbrev S128x1024 : Shape := ⟨2, ![128, 1024]⟩
abbrev S128x128 : Shape := ⟨2, ![128, 128]⟩
abbrev S128x384 : Shape := ⟨2, ![128, 384]⟩
abbrev S1x256x256 : Shape := ⟨3, ![1, 256, 256]⟩
abbrev S256x128 : Shape := ⟨2, ![256, 128]⟩
abbrev S128x256 : Shape := ⟨2, ![128, 256]⟩
abbrev S256x64 : Shape := ⟨2, ![256, 64]⟩
abbrev S64x256 : Shape := ⟨2, ![64, 256]⟩
abbrev S128x64 : Shape := ⟨2, ![128, 64]⟩
abbrev S1x1 : Shape := ⟨2, ![1, 1]⟩
abbrev S128 : Shape := ⟨1, ![128]⟩
abbrev S128x1 : Shape := ⟨2, ![128, 1]⟩
abbrev S1 : Shape := ⟨1, ![1]⟩
abbrev S256x256 : Shape := ⟨2, ![256, 256]⟩

abbrev nBuf : Space → Nat
  | .hbm => 47
  | .vmem => 21
  | .smem => 1
  | _ => 0

abbrev bufTy : (tb : Table) → Fin (tcTables nBuf tb) → BufTy
  | .hbm, ⟨0, _⟩ => ⟨S4096x3328, .f32⟩
  | .hbm, ⟨1, _⟩ => ⟨S1x16, .f32⟩
  | .hbm, ⟨2, _⟩ => ⟨S4096x2048, .bf16⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S4096, .f32⟩
  | .hbm, ⟨15, _⟩ => ⟨S4096x1, .f32⟩
  | .hbm, ⟨16, _⟩ => ⟨S1x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S4096x48, .f32⟩
  | .hbm, ⟨24, _⟩ => ⟨S4096x64, .f32⟩
  | .hbm, ⟨25, _⟩ => ⟨S4096x8, .f32⟩
  | .hbm, ⟨26, _⟩ => ⟨S_, .f32⟩
  | .hbm, ⟨27, _⟩ => ⟨S4096x56, .f32⟩
  | .hbm, ⟨28, _⟩ => ⟨S4096x64, .f32⟩
  | .hbm, ⟨29, _⟩ => ⟨S_, .f32⟩
  | .hbm, ⟨30, _⟩ => ⟨S4096x8, .f32⟩
  | .hbm, ⟨31, _⟩ => ⟨S_, .f32⟩
  | .hbm, ⟨32, _⟩ => ⟨S4096x48, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S4096x384, .f32⟩
  | .hbm, ⟨44, _⟩ => ⟨S4096x1024, .bf16⟩
  | .hbm, ⟨45, _⟩ => ⟨S32x256x256, .f32⟩
  | .hbm, ⟨46, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S1x256x256, .f32⟩
  | .local _ .vmem, ⟨19, _⟩ => ⟨S1x256x256, .f32⟩
  | .local _ .vmem, ⟨20, _⟩ => ⟨S1x128, .f32⟩
  | .local _ .smem, ⟨0, _⟩ => ⟨S1x16, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_3 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel10Ideal.lean ====
variable {F : FTy → Type} [FloatOps F] [Named F]
def κ : String → Option EReal := fun
  | "mask" => some ⊥
  | _ => none
-- ==== Reference10Ideal.lean ====
abbrev S4096x3328 : Shape := ⟨2, ![4096, 3328]⟩
abbrev S1x16 : Shape := ⟨2, ![1, 16]⟩
abbrev S4096x2048 : Shape := ⟨2, ![4096, 2048]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x128 : Shape := ⟨2, ![4096, 128]⟩
abbrev S128x128 : Shape := ⟨2, ![128, 128]⟩
abbrev S4224x128 : Shape := ⟨2, ![4224, 128]⟩
abbrev S33x128x128 : Shape := ⟨3, ![33, 128, 128]⟩
abbrev S32x128x128 : Shape := ⟨3, ![32, 128, 128]⟩
abbrev S32x256x128 : Shape := ⟨3, ![32, 256, 128]⟩
abbrev S4096x1024 : Shape := ⟨2, ![4096, 1024]⟩
abbrev S4096x16x64 : Shape := ⟨3, ![4096, 16, 64]⟩
abbrev S4096x16x8 : Shape := ⟨3, ![4096, 16, 8]⟩
abbrev S4096x16x48 : Shape := ⟨3, ![4096, 16, 48]⟩
abbrev S32x256x2x64 : Shape := ⟨4, ![32, 256, 2, 64]⟩
abbrev S128x1x8 : Shape := ⟨3, ![128, 1, 8]⟩
abbrev S4224x1x8 : Shape := ⟨3, ![4224, 1, 8]⟩
abbrev S33x128x1x8 : Shape := ⟨4, ![33, 128, 1, 8]⟩
abbrev S32x128x1x8 : Shape := ⟨4, ![32, 128, 1, 8]⟩
abbrev S32x256x1x8 : Shape := ⟨4, ![32, 256, 1, 8]⟩
abbrev S32x256x2x8 : Shape := ⟨4, ![32, 256, 2, 8]⟩
abbrev S32x256x2x48 : Shape := ⟨4, ![32, 256, 2, 48]⟩
abbrev S16 : Shape := ⟨1, ![16]⟩
abbrev S32x128x2x8x64 : Shape := ⟨5, ![32, 128, 2, 8, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128x1 : Shape := ⟨5, ![32, 2, 8, 128, 1]⟩
abbrev S32x2x8x128x257 : Shape := ⟨5, ![32, 2, 8, 128, 257]⟩
abbrev S32x2x8x128 : Shape := ⟨4, ![32, 2, 8, 128]⟩
abbrev S32x2x64x8x128 : Shape := ⟨5, ![32, 2, 64, 8, 128]⟩
abbrev S32x2x64x256 : Shape := ⟨4, ![32, 2, 64, 256]⟩
abbrev S32x2x128x8x64 : Shape := ⟨5, ![32, 2, 128, 8, 64]⟩
abbrev S32x2x256x64 : Shape := ⟨4, ![32, 2, 256, 64]⟩
abbrev S32x256x256 : Shape := ⟨3, ![32, 256, 256]⟩
abbrev S1x112 : Shape := ⟨2, ![1, 112]⟩
abbrev S1x128 : Shape := ⟨2, ![1, 128]⟩

abbrev nBuf : Space → Nat
  | .hbm => 276
  | .vmem => 0
  | .smem => 0
  | _ => 0

abbrev hbmTy0_0 (i : Nat) : BufTy := match i % 128 with
  | 0 => ⟨S4096x3328, .f32⟩
  | 1 => ⟨S1x16, .f32⟩
  | 2 => ⟨S4096x2048, .bf16⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S4096, .f32⟩
  | 15 => ⟨S4096x1, .f32⟩
  | 16 => ⟨S1x8, .f32⟩
  | 17 => ⟨S4096x8, .f32⟩
  | 18 => ⟨S4096x8, .f32⟩
  | 19 => ⟨S4096x8, .f32⟩
  | 20 => ⟨S4096x8, .f32⟩
  | 21 => ⟨S4096x1x8, .f32⟩
  | 22 => ⟨S4096x8, .f32⟩
  | 23 => ⟨S4096x1x8, .f32⟩
  | 24 => ⟨S4096x128, .f32⟩
  | 25 => ⟨S_, .f32⟩
  | 26 => ⟨S128x128, .f32⟩
  | 27 => ⟨S4224x128, .f32⟩
  | 28 => ⟨S33x128x128, .f32⟩
  | 29 => ⟨S32x128x128, .f32⟩
  | 30 => ⟨S32x128x128, .f32⟩
  | 31 => ⟨S32x256x128, .f32⟩
  | 32 => ⟨S4096x128, .f32⟩
  | 33 => ⟨S_, .f32⟩
  | 34 => ⟨S128x128, .f32⟩
  | 35 => ⟨S4224x128, .f32⟩
  | 36 => ⟨S33x128x128, .f32⟩
  | 37 => ⟨S32x128x128, .f32⟩
  | 38 => ⟨S32x128x128, .f32⟩
  | 39 => ⟨S32x256x128, .f32⟩
  | 40 => ⟨S4096x1024, .f32⟩
  | 41 => ⟨S4096x16x64, .f32⟩
  | 42 => ⟨S4096x16x8, .f32⟩
  | 43 => ⟨S4096x16x8, .f32⟩
  | 44 => ⟨S4096x16x8, .f32⟩
  | 45 => ⟨S4096x16x8, .f32⟩
  | 46 => ⟨S4096x16x8, .f32⟩
  | 47 => ⟨S4096x16x8, .f32⟩
  | 48 => ⟨S4096x16x8, .f32⟩
  | 49 => ⟨S4096x16x8, .f32⟩
  | 50 => ⟨S4096x16x8, .f32⟩
  | 51 => ⟨S4096x16x8, .f32⟩
  | 52 => ⟨S4096x16x8, .f32⟩
  | 53 => ⟨S4096x16x8, .f32⟩
  | 54 => ⟨S4096x16x48, .f32⟩
  | 55 => ⟨S4096x16x64, .f32⟩
  | 56 => ⟨S32x256x2x64, .f32⟩
  | 57 => ⟨S_, .f32⟩
  | 58 => ⟨S128x1x8, .f32⟩
  | 59 => ⟨S4224x1x8, .f32⟩
  | 60 => ⟨S33x128x1x8, .f32⟩
  | 61 => ⟨S32x128x1x8, .f32⟩
  | 62 => ⟨S32x128x1x8, .f32⟩
  | 63 => ⟨S32x256x1x8, .f32⟩
  | 64 => ⟨S_, .f32⟩
  | 65 => ⟨S128x1x8, .f32⟩
  | 66 => ⟨S4224x1x8, .f32⟩
  | 67 => ⟨S33x128x1x8, .f32⟩
  | 68 => ⟨S32x128x1x8, .f32⟩
  | 69 => ⟨S32x128x1x8, .f32⟩
  | 70 => ⟨S32x256x1x8, .f32⟩
  | 71 => ⟨S32x256x2x8, .f32⟩
  | 72 => ⟨S32x256x2x8, .f32⟩
  | 73 => ⟨S32x256x2x8, .f32⟩
  | 74 => ⟨S32x256x2x8, .f32⟩
  | 75 => ⟨S32x256x2x8, .f32⟩
  | 76 => ⟨S32x256x2x8, .f32⟩
  | 77 => ⟨S32x256x2x8, .f32⟩
  | 78 => ⟨S32x256x2x8, .f32⟩
  | 79 => ⟨S32x256x2x8, .f32⟩
  | 80 => ⟨S32x256x2x8, .f32⟩
  | 81 => ⟨S32x256x2x8, .f32⟩
  | 82 => ⟨S32x256x2x8, .f32⟩
  | 83 => ⟨S32x256x2x48, .f32⟩
  | 84 => ⟨S32x256x2x64, .f32⟩
  | 85 => ⟨S32x256x2x64, .f32⟩
  | 86 => ⟨S16, .f32⟩
  | 87 => ⟨S32x128x2x8x64, .f32⟩
  | 88 => ⟨S32x2x256x128x8, .f32⟩
  | 89 => ⟨S32x2x8x128x256, .f32⟩
  | 90 => ⟨S_, .f32⟩
  | 91 => ⟨S32x2x8x128x256, .f32⟩
  | 92 => ⟨S32x2x8x128x256, .f32⟩
  | 93 => ⟨S128, .i32⟩
  | 94 => ⟨S128x1, .i32⟩
  | 95 => ⟨S256, .i32⟩
  | 96 => ⟨S1x256, .i32⟩
  | 97 => ⟨S_, .i32⟩
  | 98 => ⟨S128x1, .i32⟩
  | 99 => ⟨S128x1, .i32⟩
  | 100 => ⟨S128x256, .i32⟩
  | 101 => ⟨S128x256, .i32⟩
  | 102 => ⟨S128x256, .i32⟩
  | 103 => ⟨S_, .i32⟩
  | 104 => ⟨S128x256, .i32⟩
  | 105 => ⟨S128x256, .i1⟩
  | 106 => ⟨S_, .i32⟩
  | 107 => ⟨S128x256, .i32⟩
  | 108 => ⟨S128x256, .i1⟩
  | 109 => ⟨S128x256, .i1⟩
  | 110 => ⟨S32, .i32⟩
  | 111 => ⟨S32x1x1, .i32⟩
  | 112 => ⟨S_, .i32⟩
  | 113 => ⟨S32x1x1, .i32⟩
  | 114 => ⟨S32x1x1, .i1⟩
  | 115 => ⟨S_, .i32⟩
  | 116 => ⟨S1x256, .i32⟩
  | 117 => ⟨S1x256, .i1⟩
  | 118 => ⟨S1x1x256, .i1⟩
  | 119 => ⟨S32x1x256, .i1⟩
  | 120 => ⟨S32x1x256, .i1⟩
  | 121 => ⟨S32x1x256, .i1⟩
  | 122 => ⟨S1x128x256, .i1⟩
  | 123 => ⟨S32x128x256, .i1⟩
  | 124 => ⟨S32x128x256, .i1⟩
  | 125 => ⟨S32x128x256, .i1⟩
  | 126 => ⟨S32x1x1x128x256, .i1⟩
  | 127 => ⟨S_, .f32⟩
  | _ => ⟨S4096x3328, .f32⟩

abbrev hbmTy0_1 (i : Nat) : BufTy := match i % 128 with
  | 0 => ⟨S_, .f32⟩
  | 1 => ⟨S32x2x8x128x256, .i1⟩
  | 2 => ⟨S32x2x8x128x256, .f32⟩
  | 3 => ⟨S32x2x8x128x256, .f32⟩
  | 4 => ⟨S_, .f32⟩
  | 5 => ⟨S32x2x8x128x256, .f32⟩
  | 6 => ⟨S2x8, .f32⟩
  | 7 => ⟨S1x2x8x1x1, .f32⟩
  | 8 => ⟨S32x2x8x128x1, .f32⟩
  | 9 => ⟨S32x2x8x128x257, .f32⟩
  | 10 => ⟨S_, .f32⟩
  | 11 => ⟨S32x2x8x128, .f32⟩
  | 12 => ⟨S32x2x8x128x1, .f32⟩
  | 13 => ⟨S32x2x8x128x257, .f32⟩
  | 14 => ⟨S32x2x8x128x257, .i1⟩
  | 15 => ⟨S32x2x8x128x257, .f32⟩
  | 16 => ⟨S_, .f32⟩
  | 17 => ⟨S32x2x8x128, .f32⟩
  | 18 => ⟨S_, .f32⟩
  | 19 => ⟨S32x2x8x128, .f32⟩
  | 20 => ⟨S32x2x8x128, .f32⟩
  | 21 => ⟨S_, .f32⟩
  | 22 => ⟨S32x2x8x128, .f32⟩
  | 23 => ⟨S32x2x8x128, .i1⟩
  | 24 => ⟨S_, .f32⟩
  | 25 => ⟨S32x2x8x128, .f32⟩
  | 26 => ⟨S32x2x8x128, .i1⟩
  | 27 => ⟨S_, .f32⟩
  | 28 => ⟨S32x2x8x128, .f32⟩
  | 29 => ⟨S_, .f32⟩
  | 30 => ⟨S32x2x8x128, .f32⟩
  | 31 => ⟨S_, .f32⟩
  | 32 => ⟨S32x2x8x128, .f32⟩
  | 33 => ⟨S32x2x8x128, .f32⟩
  | 34 => ⟨S32x2x8x128, .f32⟩
  | 35 => ⟨S32x2x8x128x1, .f32⟩
  | 36 => ⟨S32x2x8x128x257, .f32⟩
  | 37 => ⟨S32x2x8x128x257, .f32⟩
  | 38 => ⟨S32x2x8x128x257, .f32⟩
  | 39 => ⟨S_, .f32⟩
  | 40 => ⟨S32x2x8x128, .f32⟩
  | 41 => ⟨S32x2x8x128x1, .f32⟩
  | 42 => ⟨S32x2x8x128x257, .f32⟩
  | 43 => ⟨S32x2x8x128x257, .f32⟩
  | 44 => ⟨S32x2x8x128x1, .f32⟩
  | 45 => ⟨S_, .f32⟩
  | 46 => ⟨S32x2x8x128x1, .f32⟩
  | 47 => ⟨S32x2x8x128x1, .f32⟩
  | 48 => ⟨S32x2x8x128x256, .f32⟩
  | 49 => ⟨S32x2x64x8x128, .f32⟩
  | 50 => ⟨S32x128x2x8x64, .f32⟩
  | 51 => ⟨S4096x1024, .f32⟩
  | 52 => ⟨S4096x1024, .bf16⟩
  | 53 => ⟨S4096x1024, .f32⟩
  | 54 => ⟨S32x128x2x8x64, .f32⟩
  | 55 => ⟨S32x2x64x8x128, .f32⟩
  | 56 => ⟨S32x2x8x128x256, .f32⟩
  | 57 => ⟨S32x2x64x256, .f32⟩
  | 58 => ⟨S32x256x2x64, .f32⟩
  | 59 => ⟨S_, .f32⟩
  | 60 => ⟨S32x2x8x128x257, .f32⟩
  | 61 => ⟨S32x2x8x128x257, .f32⟩
  | 62 => ⟨S32x2x8x128x257, .f32⟩
  | 63 => ⟨S32x2x8x128x257, .f32⟩
  | 64 => ⟨S_, .f32⟩
  | 65 => ⟨S32x2x8x128, .f32⟩
  | 66 => ⟨S32x2x8x128x1, .f32⟩
  | 67 => ⟨S32x2x8x128x1, .f32⟩
  | 68 => ⟨S32x2x8x128x257, .f32⟩
  | 69 => ⟨S32x2x8x128x257, .f32⟩
  | 70 => ⟨S_, .f32⟩
  | 71 => ⟨S32x2x8x128, .f32⟩
  | 72 => ⟨S32x2x8x128x257, .f32⟩
  | 73 => ⟨S32x2x8x128x257, .f32⟩
  | 74 => ⟨S32x2x8x128x257, .f32⟩
  | 75 => ⟨S32x2x8x128x256, .f32⟩
  | 76 => ⟨S32x2x8x128x1, .f32⟩
  | 77 => ⟨S_, .f32⟩
  | 78 => ⟨S2x8, .f32⟩
  | 79 => ⟨S1x2x8x1x1, .f32⟩
  | 80 => ⟨S_, .f32⟩
  | 81 => ⟨S2x8, .f32⟩
  | 82 => ⟨S16, .f32⟩
  | 83 => ⟨S_, .f32⟩
  | 84 => ⟨S32x2x8x128x256, .f32⟩
  | 85 => ⟨S32x2x8x128x256, .f32⟩
  | 86 => ⟨S_, .f32⟩
  | 87 => ⟨S32x2x8x128x256, .f32⟩
  | 88 => ⟨S32x2x8x128x256, .f32⟩
  | 89 => ⟨S32x2x256x128x8, .f32⟩
  | 90 => ⟨S32x2x128x8x64, .f32⟩
  | 91 => ⟨S32x128x2x8x64, .f32⟩
  | 92 => ⟨S32x2x256x64, .f32⟩
  | 93 => ⟨S32x256x2x64, .f32⟩
  | 94 => ⟨S4096x16x64, .f32⟩
  | 95 => ⟨S1x16, .f32⟩
  | 96 => ⟨S32x256x128, .f32⟩
  | 97 => ⟨S32x256x2x8, .f32⟩
  | 98 => ⟨S32x256x2x8, .f32⟩
  | 99 => ⟨S32x256x2x48, .f32⟩
  | 100 => ⟨S_, .f32⟩
  | 101 => ⟨S32x256x2x64, .f32⟩
  | 102 => ⟨S32x256x2x8, .f32⟩
  | 103 => ⟨S32x256x2x8, .f32⟩
  | 104 => ⟨S32x256x2x8, .f32⟩
  | 105 => ⟨S32x256x2x8, .f32⟩
  | 106 => ⟨S32x256x2x8, .f32⟩
  | 107 => ⟨S32x256x2x8, .f32⟩
  | 108 => ⟨S32x256x2x8, .f32⟩
  | 109 => ⟨S32x256x2x8, .f32⟩
  | 110 => ⟨S32x256x2x8, .f32⟩
  | 111 => ⟨S32x256x2x8, .f32⟩
  | 112 => ⟨S32x256x2x8, .f32⟩
  | 113 => ⟨S_, .f32⟩
  | 114 => ⟨S32x256x2x64, .f32⟩
  | 115 => ⟨S32x256x2x64, .f32⟩
  | 116 => ⟨S_, .f32⟩
  | 117 => ⟨S32x256x2x64, .f32⟩
  | 118 => ⟨S32x256x2x64, .f32⟩
  | 119 => ⟨S32x256x128, .f32⟩
  | 120 => ⟨S4096x16x8, .f32⟩
  | 121 => ⟨S4096x16x8, .f32⟩
  | 122 => ⟨S4096x16x48, .f32⟩
  | 123 => ⟨S_, .f32⟩
  | 124 => ⟨S4096x16x64, .f32⟩
  | 125 => ⟨S4096x16x8, .f32⟩
  | 126 => ⟨S4096x16x8, .f32⟩
  | 127 => ⟨S4096x16x8, .f32⟩
  | _ => ⟨S4096x3328, .f32⟩

abbrev hbmTy0_2 (i : Nat) : BufTy := match i % 128 with
  | 0 => ⟨S4096x16x8, .f32⟩
  | 1 => ⟨S4096x16x8, .f32⟩
  | 2 => ⟨S4096x16x8, .f32⟩
  | 3 => ⟨S4096x16x8, .f32⟩
  | 4 => ⟨S4096x16x8, .f32⟩
  | 5 => ⟨S4096x16x8, .f32⟩
  | 6 => ⟨S4096x16x8, .f32⟩
  | 7 => ⟨S4096x16x8, .f32⟩
  | 8 => ⟨S_, .f32⟩
  | 9 => ⟨S4096x16x64, .f32⟩
  | 10 => ⟨S4096x16x64, .f32⟩
  | 11 => ⟨S_, .f32⟩
  | 12 => ⟨S4096x16x64, .f32⟩
  | 13 => ⟨S4096x16x64, .f32⟩
  | 14 => ⟨S4096x1024, .f32⟩
  | 15 => ⟨S4096x1024, .bf16⟩
  | 16 => ⟨S32x256x256, .f32⟩
  | 17 => ⟨S_, .f32⟩
  | 18 => ⟨S1x112, .f32⟩
  | 19 => ⟨S1x128, .f32⟩
  | _ => ⟨S4096x3328, .f32⟩

abbrev hbmTy (i : Nat) : BufTy := match i / 128 with
  | 0 => hbmTy0_0 i
  | 1 => hbmTy0_1 i
  | 2 => hbmTy0_2 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_6 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_c : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_c_7 : Ref sig .tc := ⟨.hbm, 103, rfl⟩
abbrev main_v91 : Ref sig .tc := ⟨.hbm, 104, rfl⟩
abbrev main_v92 : Ref sig .tc := ⟨.hbm, 105, rfl⟩
abbrev main_c_8 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_c_9 : Ref sig .tc := ⟨.hbm, 112, rfl⟩
abbrev main_v98 : Ref sig .tc := ⟨.hbm, 113, rfl⟩
abbrev main_v99 : Ref sig .tc := ⟨.hbm, 114, rfl⟩
abbrev main_c_10 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_11 : Ref sig .tc := ⟨.hbm, 127, rfl⟩
abbrev main_call0_v0 : Ref sig .tc := ⟨.hbm, 128, rfl⟩
abbrev main_v111_1 : Ref sig .tc := ⟨.hbm, 129, rfl⟩
abbrev main_call0_v2 : Ref sig .tc := ⟨.hbm, 130, rfl⟩
abbrev main_v111_0 : Ref sig .tc := ⟨.hbm, 131, rfl⟩
abbrev main_call0_cst : Ref sig .tc := ⟨.hbm, 132, rfl⟩
abbrev main_v111_2 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_12 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_13 : Ref sig .tc := ⟨.hbm, 144, rfl⟩
abbrev main_v121 : Ref sig .tc := ⟨.hbm, 145, rfl⟩
abbrev main_cst_14 : Ref sig .tc := ⟨.hbm, 146, rfl⟩
abbrev main_v122 : Ref sig .tc := ⟨.hbm, 147, rfl⟩
abbrev main_v123 : Ref sig .tc := ⟨.hbm, 148, rfl⟩
abbrev main_cst_15 : Ref sig .tc := ⟨.hbm, 149, rfl⟩
abbrev main_v124 : Ref sig .tc := ⟨.hbm, 150, rfl⟩
abbrev main_v125 : Ref sig .tc := ⟨.hbm, 151, rfl⟩
abbrev main_cst_16 : Ref sig .tc := ⟨.hbm, 152, rfl⟩
abbrev main_v126 : Ref sig .tc := ⟨.hbm, 153, rfl⟩
abbrev main_v127 : Ref sig .tc := ⟨.hbm, 154, rfl⟩
abbrev main_cst_17 : Ref sig .tc := ⟨.hbm, 155, rfl⟩
abbrev main_v128 : Ref sig .tc := ⟨.hbm, 156, rfl⟩
abbrev main_cst_18 : Ref sig .tc := ⟨.hbm, 157, rfl⟩
abbrev main_v129 : Ref sig .tc := ⟨.hbm, 158, rfl⟩
abbrev main_cst_19 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_20 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_21 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_22 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_23 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_24 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_cst_25 : Ref sig .tc := ⟨.hbm, 205, rfl⟩
abbrev main_v170 : Ref sig .tc := ⟨.hbm, 206, rfl⟩
abbrev main_v171 : Ref sig .tc := ⟨.hbm, 207, rfl⟩
abbrev main_cst_26 : Ref sig .tc := ⟨.hbm, 208, rfl⟩
abbrev main_v172 : Ref sig .tc := ⟨.hbm, 209, rfl⟩
abbrev main_v173 : Ref sig .tc := ⟨.hbm, 210, rfl⟩
abbrev main_call1_cst : Ref sig .tc := ⟨.hbm, 211, rfl⟩
abbrev main_call1_v0 : Ref sig .tc := ⟨.hbm, 212, rfl⟩
abbrev main_v174 : Ref sig .tc := ⟨.hbm, 213, rfl⟩
abbrev main_cst_27 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_cst_28 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_29 : Ref sig .tc := ⟨.hbm, 241, rfl⟩
abbrev main_v200 : Ref sig .tc := ⟨.hbm, 242, rfl⟩
abbrev main_v201 : Ref sig .tc := ⟨.hbm, 243, rfl⟩
abbrev main_cst_30 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_31 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_cst_32 : Ref sig .tc := ⟨.hbm, 264, rfl⟩
abbrev main_v220 : Ref sig .tc := ⟨.hbm, 265, rfl⟩
abbrev main_v221 : Ref sig .tc := ⟨.hbm, 266, rfl⟩
abbrev main_cst_33 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_cst_34 : Ref sig .tc := ⟨.hbm, 273, rfl⟩
abbrev main_v227 : Ref sig .tc := ⟨.hbm, 274, rfl⟩
abbrev main_v228 : Ref sig .tc := ⟨.hbm, 275, rfl⟩

abbrev nD : Nat := 1
abbrev τ : Topo := Topo.v7x

variable {F : FTy → Type} [FloatOps F]
-- ==== Kernel11.lean ====
abbrev S4096x3328 : Shape := ⟨2, ![4096, 3328]⟩
abbrev S1x1024 : Shape := ⟨2, ![1, 1024]⟩
abbrev S8x128x128 : Shape := ⟨3, ![8, 128, 128]⟩
abbrev S8x128 : Shape := ⟨2, ![8, 128]⟩
abbrev S4096x2048 : Shape := ⟨2, ![4096, 2048]⟩
abbrev S128x8 : Shape := ⟨2, ![128, 8]⟩
abbrev S4096x1024 : Shape := ⟨2, ![4096, 1024]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S4096x3328, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x2048, .bf16⟩
  | .hbm, ⟨6, _⟩ => ⟨S8x128x128, .f32⟩
  | .hbm, ⟨7, _⟩ => ⟨S128x8, .f32⟩
  | .hbm, ⟨8, _⟩ => ⟨S4096x1024, .bf16⟩
  | .hbm, ⟨9, _⟩ => ⟨S4096x1024, .bf16⟩
  | .hbm, ⟨10, _⟩ => ⟨S8x128x128, .f32⟩
  | .hbm, ⟨11, _⟩ => ⟨S128x128, .f32⟩
  | .hbm, ⟨12, _⟩ => ⟨S1x1024, .f32⟩
  | .hbm, ⟨13, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S8x128x128, .f32⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S8x128x128, .f32⟩
  | .local _ .vmem, ⟨16, _⟩ => ⟨S128x128, .f32⟩
  | .local _ .vmem, ⟨17, _⟩ => ⟨S1x1024, .f32⟩
  | .local _ .vmem, ⟨18, _⟩ => ⟨S1x1024, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel11Ideal.lean ====
variable {F : FTy → Type} [FloatOps F] [Named F]
def κ : String → Option EReal := fun
  | "c" => some ((8943 / 200000 : ℝ) : EReal)
  | "c3" => some ((26829 / 200000 : ℝ) : EReal)
  | _ => none
-- ==== Reference11Ideal.lean ====
abbrev S4096x3328 : Shape := ⟨2, ![4096, 3328]⟩
abbrev S1x1024 : Shape := ⟨2, ![1, 1024]⟩
abbrev S8x128x128 : Shape := ⟨3, ![8, 128, 128]⟩
abbrev S8x128 : Shape := ⟨2, ![8, 128]⟩
abbrev S4096x2048 : Shape := ⟨2, ![4096, 2048]⟩
abbrev S4096x1024 : Shape := ⟨2, ![4096, 1024]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S128x120 : Shape := ⟨2, ![128, 120]⟩

abbrev nBuf : Space → Nat
  | .hbm => 237
  | .vmem => 0
  | .smem => 0
  | _ => 0

abbrev hbmTy0_0 (i : Nat) : BufTy := match i % 128 with
  | 0 => ⟨S4096x3328, .f32⟩
  | 1 => ⟨S1x1024, .f32⟩
  | 2 => ⟨S1x1024, .f32⟩
  | 3 => ⟨S8x128x128, .f32⟩
  | 4 => ⟨S8x128, .f32⟩
  | 5 => ⟨S4096x2048, .bf16⟩
  | 6 => ⟨S4096x1024, .bf16⟩
  | 7 => ⟨S4096x1024, .f32⟩
  | 8 => ⟨S4096x1024, .f32⟩
  | 9 => ⟨S4096x1024, .f32⟩
  | 10 => ⟨S1x4096x1024, .f32⟩
  | 11 => ⟨S1x4096x1024, .f32⟩
  | 12 => ⟨S1024, .f32⟩
  | 13 => ⟨S1024, .f32⟩
  | 14 => ⟨S_, .f32⟩
  | 15 => ⟨S_, .f32⟩
  | 16 => ⟨S_, .f32⟩
  | 17 => ⟨S1x4096x1024, .f32⟩
  | 18 => ⟨S1x4096x1024, .f32⟩
  | 19 => ⟨S1x4096x1024, .f32⟩
  | 20 => ⟨S_, .f32⟩
  | 21 => ⟨S1x4096x1024, .f32⟩
  | 22 => ⟨S1x4096x1024, .f32⟩
  | 23 => ⟨S1x4096x1024, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S1x4096x1024, .f32⟩
  | 37 => ⟨S_, .f32⟩
  | 38 => ⟨S1x4096x1024, .f32⟩
  | 39 => ⟨S1x4096x1024, .f32⟩
  | 40 => ⟨S_, .f32⟩
  | 41 => ⟨S1x4096x1024, .f32⟩
  | 42 => ⟨S1x4096x1024, .f32⟩
  | 43 => ⟨S1x4096x1024, .f32⟩
  | 44 => ⟨S_, .f32⟩
  | 45 => ⟨S_, .f32⟩
  | 46 => ⟨S_, .f32⟩
  | 47 => ⟨S1x4096x1024, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S_, .f32⟩
  | 71 => ⟨S1x4096x1024, .f32⟩
  | 72 => ⟨S1x4096x1024, .f32⟩
  | 73 => ⟨S1x4096x1024, .f32⟩
  | 74 => ⟨S_, .f32⟩
  | 75 => ⟨S1x4096, .f32⟩
  | 76 => ⟨S1x4096x1, .f32⟩
  | 77 => ⟨S_, .f32⟩
  | 78 => ⟨S1x4096x1, .f32⟩
  | 79 => ⟨S1x4096x1, .f32⟩
  | 80 => ⟨S1x4096x1024, .f32⟩
  | 81 => ⟨S1x4096x1024, .f32⟩
  | 82 => ⟨S1x4096x1024, .f32⟩
  | 83 => ⟨S_, .f32⟩
  | 84 => ⟨S1x4096x1024, .f32⟩
  | 85 => ⟨S1x4096x1024, .f32⟩
  | 86 => ⟨S_, .f32⟩
  | 87 => ⟨S1x4096, .f32⟩
  | 88 => ⟨S1x4096x1, .f32⟩
  | 89 => ⟨S_, .f32⟩
  | 90 => ⟨S1x4096x1, .f32⟩
  | 91 => ⟨S1x4096x1, .f32⟩
  | 92 => ⟨S1x4096x1024, .f32⟩
  | 93 => ⟨S1x4096x1024, .f32⟩
  | 94 => ⟨S_, .f32⟩
  | 95 => ⟨S1x4096x1, .f32⟩
  | 96 => ⟨S1x4096x1, .f32⟩
  | 97 => ⟨S1x4096x1, .f32⟩
  | 98 => ⟨S1x4096x1, .f32⟩
  | 99 => ⟨S_, .f32⟩
  | 100 => ⟨S1x4096x1, .f32⟩
  | 101 => ⟨S1x4096x1, .f32⟩
  | 102 => ⟨S1x4096x1024, .f32⟩
  | 103 => ⟨S1x4096x1024, .f32⟩
  | 104 => ⟨S1x1x1024, .f32⟩
  | 105 => ⟨S1x4096x1024, .f32⟩
  | 106 => ⟨S1x4096x1024, .f32⟩
  | 107 => ⟨S1x1x1024, .f32⟩
  | 108 => ⟨S1x4096x1024, .f32⟩
  | 109 => ⟨S1x4096x1024, .f32⟩
  | 110 => ⟨S1x32x128x8x128, .f32⟩
  | 111 => ⟨S_, .f32⟩
  | 112 => ⟨S128x128, .f32⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .f32⟩
  | 120 => ⟨S128x128, .f32⟩
  | 121 => ⟨S128x128, .f32⟩
  | 122 => ⟨S1x128x128, .f32⟩
  | 123 => ⟨S8x128x128, .f32⟩
  | 124 => ⟨S8x128x128, .f32⟩
  | 125 => ⟨S8x1x32x128x128, .f32⟩
  | 126 => ⟨S1x32x128x8x128, .f32⟩
  | 127 => ⟨S128x8, .f32⟩
  | _ => ⟨S4096x3328, .f32⟩

abbrev hbmTy0_1 (i : Nat) : BufTy := match i % 128 with
  | 0 => ⟨S1x1x128x8x1, .f32⟩
  | 1 => ⟨S1x32x128x8x128, .f32⟩
  | 2 => ⟨S1x32x128x8x128, .f32⟩
  | 3 => ⟨S1x4096x1024, .f32⟩
  | 4 => ⟨S1x4096x1024, .f32⟩
  | 5 => ⟨S4096x1024, .f32⟩
  | 6 => ⟨S1x4096x1024, .f32⟩
  | 7 => ⟨S1x4096x1024, .f32⟩
  | 8 => ⟨S1x4096x1024, .f32⟩
  | 9 => ⟨S1x32x128x8x128, .f32⟩
  | 10 => ⟨S_, .f32⟩
  | 11 => ⟨S1x128x8, .f32⟩
  | 12 => ⟨S1x1x128x8x1, .f32⟩
  | 13 => ⟨S_, .f32⟩
  | 14 => ⟨S128x8, .f32⟩
  | 15 => ⟨S8x128, .f32⟩
  | 16 => ⟨S8x1x32x128x128, .f32⟩
  | 17 => ⟨S8x128x128, .f32⟩
  | 18 => ⟨S8x1x32x128x128, .f32⟩
  | 19 => ⟨S1x32x128x8x128, .f32⟩
  | 20 => ⟨S8x128x128, .f32⟩
  | 21 => ⟨S8x128x128, .f32⟩
  | 22 => ⟨S1x4096x1024, .f32⟩
  | 23 => ⟨S_, .f32⟩
  | 24 => ⟨S1x1024, .f32⟩
  | 25 => ⟨S1x1x1024, .f32⟩
  | 26 => ⟨S_, .f32⟩
  | 27 => ⟨S1024, .f32⟩
  | 28 => ⟨S1x4096x1024, .f32⟩
  | 29 => ⟨S_, .f32⟩
  | 30 => ⟨S1x1024, .f32⟩
  | 31 => ⟨S1x1x1024, .f32⟩
  | 32 => ⟨S1x4096x1024, .f32⟩
  | 33 => ⟨S1x4096x1024, .f32⟩
  | 34 => ⟨S_, .f32⟩
  | 35 => ⟨S1024, .f32⟩
  | 36 => ⟨S1x4096x1024, .f32⟩
  | 37 => ⟨S_, .f32⟩
  | 38 => ⟨S1x4096, .f32⟩
  | 39 => ⟨S1x4096x1, .f32⟩
  | 40 => ⟨S1x4096x1024, .f32⟩
  | 41 => ⟨S1x4096x1024, .f32⟩
  | 42 => ⟨S1x4096x1, .f32⟩
  | 43 => ⟨S1x4096x1024, .f32⟩
  | 44 => ⟨S_, .f32⟩
  | 45 => ⟨S1x4096, .f32⟩
  | 46 => ⟨S1x4096x1, .f32⟩
  | 47 => ⟨S_, .f32⟩
  | 48 => ⟨S1x4096x1, .f32⟩
  | 49 => ⟨S1x4096x1, .f32⟩
  | 50 => ⟨S_, .f32⟩
  | 51 => ⟨S4096, .f32⟩
  | 52 => ⟨S1x4096, .f32⟩
  | 53 => ⟨S1x4096x1024, .f32⟩
  | 54 => ⟨S1x4096x1024, .f32⟩
  | 55 => ⟨S1x4096x1024, .f32⟩
  | 56 => ⟨S_, .f32⟩
  | 57 => ⟨S1x4096, .f32⟩
  | 58 => ⟨S1x4096x1, .f32⟩
  | 59 => ⟨S1x4096x1024, .f32⟩
  | 60 => ⟨S1x4096x1, .f32⟩
  | 61 => ⟨S_, .f32⟩
  | 62 => ⟨S1x4096x1, .f32⟩
  | 63 => ⟨S1x4096x1, .f32⟩
  | 64 => ⟨S_, .f32⟩
  | 65 => ⟨S4096, .f32⟩
  | 66 => ⟨S1x4096, .f32⟩
  | 67 => ⟨S1x4096x1024, .f32⟩
  | 68 => ⟨S1x4096x1024, .f32⟩
  | 69 => ⟨S1x4096x1024, .f32⟩
  | 70 => ⟨S1x4096x1024, .f32⟩
  | 71 => ⟨S_, .f32⟩
  | 72 => ⟨S1x4096x1024, .f32⟩
  | 73 => ⟨S1x4096x1024, .f32⟩
  | 74 => ⟨S1x4096x1024, .f32⟩
  | 75 => ⟨S_, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S_, .f32⟩
  | 86 => ⟨S1x4096x1024, .f32⟩
  | 87 => ⟨S1x4096x1024, .f32⟩
  | 88 => ⟨S1x4096x1024, .f32⟩
  | 89 => ⟨S_, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S1x1024, .f32⟩
  | 98 => ⟨S1x1024, .f32⟩
  | 99 => ⟨S_, .f32⟩
  | 100 => ⟨S4096x1024, .f32⟩
  | 101 => ⟨S_, .f32⟩
  | 102 => ⟨S4096x1024, .f32⟩
  | 103 => ⟨S128x8, .f32⟩
  | 104 => ⟨S_, .f32⟩
  | 105 => ⟨S128x120, .f32⟩
  | 106 => ⟨S128x128, .f32⟩
  | 107 => ⟨S4096x1024, .bf16⟩
  | 108 => ⟨S4096x1024, .bf16⟩
  | _ => ⟨S4096x3328, .f32⟩

abbrev hbmTy (i : Nat) : BufTy := match i / 128 with
  | 0 => hbmTy0_0 i
  | 1 => hbmTy0_1 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_22 : Ref sig .tc := ⟨.hbm, 111, rfl⟩
abbrev main_v82 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_cst : Ref sig .tc := ⟨.hbm, 119, rfl⟩
abbrev main_call0_v5 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_23 : Ref sig .tc := ⟨.hbm, 138, rfl⟩
abbrev main_v100 : Ref sig .tc := ⟨.hbm, 139, rfl⟩
abbrev main_v101 : Ref sig .tc := ⟨.hbm, 140, rfl⟩
abbrev main_cst_24 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_25 : Ref sig .tc := ⟨.hbm, 151, rfl⟩
abbrev main_v111 : Ref sig .tc := ⟨.hbm, 152, rfl⟩
abbrev main_v112 : Ref sig .tc := ⟨.hbm, 153, rfl⟩
abbrev main_cst_26 : Ref sig .tc := ⟨.hbm, 154, rfl⟩
abbrev main_v113 : Ref sig .tc := ⟨.hbm, 155, rfl⟩
abbrev main_v114 : Ref sig .tc := ⟨.hbm, 156, rfl⟩
abbrev main_cst_27 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_28 : Ref sig .tc := ⟨.hbm, 162, rfl⟩
abbrev main_v119 : Ref sig .tc := ⟨.hbm, 163, rfl⟩
abbrev main_v120 : Ref sig .tc := ⟨.hbm, 164, rfl⟩
abbrev main_cst_29 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_30 : Ref sig .tc := ⟨.hbm, 172, rfl⟩
abbrev main_v127 : Ref sig .tc := ⟨.hbm, 173, rfl⟩
abbrev main_v128 : Ref sig .tc := ⟨.hbm, 174, rfl⟩
abbrev main_cst_31 : Ref sig .tc := ⟨.hbm, 175, rfl⟩
abbrev main_v129 : Ref sig .tc := ⟨.hbm, 176, rfl⟩
abbrev main_v130 : Ref sig .tc := ⟨.hbm, 177, rfl⟩
abbrev main_cst_32 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_33 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_34 : Ref sig .tc := ⟨.hbm, 189, rfl⟩
abbrev main_v140 : Ref sig .tc := ⟨.hbm, 190, rfl⟩
abbrev main_v141 : Ref sig .tc := ⟨.hbm, 191, rfl⟩
abbrev main_cst_35 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_36 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_37 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_38 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_cst_39 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_cst_40 : Ref sig .tc := ⟨.hbm, 227, rfl⟩
abbrev main_v172 : Ref sig .tc := ⟨.hbm, 228, rfl⟩
abbrev main_cst_41 : Ref sig .tc := ⟨.hbm, 229, rfl⟩
abbrev main_v173 : Ref sig .tc := ⟨.hbm, 230, rfl⟩
abbrev main_v174 : Ref sig .tc := ⟨.hbm, 231, rfl⟩
abbrev main_cst_42 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩

abbrev nD : Nat := 1
abbrev τ : Topo := Topo.v7x

variable {F : FTy → Type} [FloatOps F]
-- ==== Kernel12.lean ====
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x512 : Shape := ⟨2, ![4096, 512]⟩
abbrev S256x512 : Shape := ⟨2, ![256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .f32⟩
  | .hbm, ⟨4, _⟩ => ⟨S256x512, .f32⟩
  | .hbm, ⟨5, _⟩ => ⟨S256x512, .f32⟩
  | .hbm, ⟨6, _⟩ => ⟨S1x4096x4x128, .f32⟩
  | .hbm, ⟨7, _⟩ => ⟨S1x256x4x128, .f32⟩
  | .hbm, ⟨8, _⟩ => ⟨S1x256x4x128, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x128x4096, .f32⟩
  | .hbm, ⟨28, _⟩ => ⟨S1x4096x4x128, .f32⟩
  | .hbm, ⟨29, _⟩ => ⟨S4096x512, .f32⟩
  | .hbm, ⟨30, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel14.lean ====
abbrev S4096x2048 : Shape := ⟨2, ![4096, 2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S2048x256, .bf16⟩
  | .local _ .vmem, ⟨11, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | .hbm, ⟨40, _⟩ => ⟨S2048x4096, .f32⟩
  | .hbm, ⟨41, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel15.lean ====
abbrev S4096x2048 : Shape := ⟨2, ![4096, 2048]⟩
abbrev S8x2048x704 : Shape := ⟨3, ![8, 2048, 704]⟩
abbrev S8x704x2048 : Shape := ⟨3, ![8, 704, 2048]⟩
abbrev S8x4096x704 : Shape := ⟨3, ![8, 4096, 704]⟩
abbrev S8x704x4096 : Shape := ⟨3, ![8, 704, 4096]⟩
abbrev S512x2048 : Shape := ⟨2, ![512, 2048]⟩
abbrev S1x2048x704 : Shape := ⟨3, ![1, 2048, 704]⟩
abbrev S1x704x2048 : Shape := ⟨3, ![1, 704, 2048]⟩
abbrev S1x512x704 : Shape := ⟨3, ![1, 512, 704]⟩
abbrev S1x704x512 : Shape := ⟨3, ![1, 704, 512]⟩
abbrev S2048x704 : Shape := ⟨2, ![2048, 704]⟩
abbrev S512x704 : Shape := ⟨2, ![512, 704]⟩
abbrev S704x512 : Shape := ⟨2, ![704, 512]⟩
abbrev S704x2048 : Shape := ⟨2, ![704, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8x4096x704, .bf16⟩
  | .hbm, ⟨5, _⟩ => ⟨S8x4096x704, .bf16⟩
  | .hbm, ⟨6, _⟩ => ⟨S8x704x4096, .bf16⟩
  | .hbm, ⟨7, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x704x512, .bf16⟩
  | .local _ .vmem, ⟨13, _⟩ => ⟨S1x704x512, .bf16⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_27 : BitVec 32 := 0#32
  let v41 : BitVec 1 := Scalar.cmpi .ne v40 c0_i32_27
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference15Ideal.lean ====
abbrev S4096x2048 : Shape := ⟨2, ![4096, 2048]⟩
abbrev S8x2048x704 : Shape := ⟨3, ![8, 2048, 704]⟩
abbrev S8x704x2048 : Shape := ⟨3, ![8, 704, 2048]⟩
abbrev S2048x8x704 : Shape := ⟨3, ![2048, 8, 704]⟩
abbrev S2048x5632 : Shape := ⟨2, ![2048, 5632]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩
abbrev S8x704x4096 : Shape := ⟨3, ![8, 704, 4096]⟩
abbrev S5632x2048 : Shape := ⟨2, ![5632, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S4096x2048, .f32⟩
  | .hbm, ⟨5, _⟩ => ⟨S8x2048x704, .f32⟩
  | .hbm, ⟨6, _⟩ => ⟨S8x2048x704, .f32⟩
  | .hbm, ⟨7, _⟩ => ⟨S8x704x2048, .f32⟩
  | .hbm, ⟨8, _⟩ => ⟨S2048x8x704, .f32⟩
  | .hbm, ⟨9, _⟩ => ⟨S2048x5632, .f32⟩
  | .hbm, ⟨10, _⟩ => ⟨S2048x8x704, .f32⟩
  | .hbm, ⟨11, _⟩ => ⟨S2048x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x8x704, .f32⟩
  | .hbm, ⟨25, _⟩ => ⟨S8x4096x704, .f32⟩
  | .hbm, ⟨26, _⟩ => ⟨S8x4096x704, .bf16⟩
  | .hbm, ⟨27, _⟩ => ⟨S4096x8x704, .f32⟩
  | .hbm, ⟨28, _⟩ => ⟨S8x4096x704, .f32⟩
  | .hbm, ⟨29, _⟩ => ⟨S8x4096x704, .bf16⟩
  | .hbm, ⟨30, _⟩ => ⟨S4096x8x704, .f32⟩
  | .hbm, ⟨31, _⟩ => ⟨S8x4096x704, .f32⟩
  | .hbm, ⟨32, _⟩ => ⟨S8x4096x704, .bf16⟩
  | .hbm, ⟨33, _⟩ => ⟨S8x704x4096, .bf16⟩
  | .hbm, ⟨34, _⟩ => ⟨S5632x2048, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S_, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel16.lean ====
abbrev S4096x3328 : Shape := ⟨2, ![4096, 3328]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S4096x1024 : Shape := ⟨2, ![4096, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 7
  | .vmem => 10
  | .smem => 0
  | _ => 0

abbrev bufTy : (tb : Table) → Fin (tcTables nBuf tb) → BufTy
  | .hbm, ⟨0, _⟩ => ⟨S4096x3328, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S128x1024, .bf16⟩
  | .local _ .vmem, ⟨9, _⟩ => ⟨S128x1024, .bf16⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
variable {F : FTy → Type} [FloatOps F] [Named F]
def κ : String → Option EReal := fun
  | "c" => some ((8943 / 200000 : ℝ) : EReal)
  | _ => none
-- ==== Reference16Ideal.lean ====
abbrev S4096x3328 : Shape := ⟨2, ![4096, 3328]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S1x4096x1024, .f32⟩
  | .hbm, ⟨7, _⟩ => ⟨S4096x1024, .f32⟩
  | .hbm, ⟨8, _⟩ => ⟨S1x4096x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S_, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S_, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x4096, .f32⟩
  | .hbm, ⟨51, _⟩ => ⟨S1x4096x1, .f32⟩
  | .hbm, ⟨52, _⟩ => ⟨S_, .f32⟩
  | .hbm, ⟨53, _⟩ => ⟨S1x4096x1, .f32⟩
  | .hbm, ⟨54, _⟩ => ⟨S1x4096x1, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S_, .f32⟩
  | .hbm, ⟨59, _⟩ => ⟨S1x4096, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1x4096x1, .f32⟩
  | .hbm, ⟨68, _⟩ => ⟨S1x4096x1, .f32⟩
  | .hbm, ⟨69, _⟩ => ⟨S1x4096x1, .f32⟩
  | .hbm, ⟨70, _⟩ => ⟨S1x4096x1024, .f32⟩
  | .hbm, ⟨71, _⟩ => ⟨S1x4096x1024, .f32⟩
  | .hbm, ⟨72, _⟩ => ⟨S1x1x1024, .f32⟩
  | .hbm, ⟨73, _⟩ => ⟨S1x4096x1024, .f32⟩
  | .hbm, ⟨74, _⟩ => ⟨S1x4096x1024, .f32⟩
  | .hbm, ⟨75, _⟩ => ⟨S1x1x1024, .f32⟩
  | .hbm, ⟨76, _⟩ => ⟨S1x4096x1024, .f32⟩
  | .hbm, ⟨77, _⟩ => ⟨S1x4096x1024, .f32⟩
  | .hbm, ⟨78, _⟩ => ⟨S1x32x128x8x128, .f32⟩
  | .hbm, ⟨79, _⟩ => ⟨S_, .f32⟩
  | .hbm, ⟨80, _⟩ => ⟨S128x128, .f32⟩
  | .hbm, ⟨81, _⟩ => ⟨S128x128, .i32⟩
  | .hbm, ⟨82, _⟩ => ⟨S_, .i32⟩
  | .hbm, ⟨83, _⟩ => ⟨S128x128, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S_, .f32⟩
  | .hbm, ⟨88, _⟩ => ⟨S128x128, .f32⟩
  | .hbm, ⟨89, _⟩ => ⟨S128x128, .f32⟩
  | .hbm, ⟨90, _⟩ => ⟨S1x128x128, .f32⟩
  | .hbm, ⟨91, _⟩ => ⟨S8x128x128, .f32⟩
  | .hbm, ⟨92, _⟩ => ⟨S8x128x128, .f32⟩
  | .hbm, ⟨93, _⟩ => ⟨S8x1x32x128x128, .f32⟩
  | .hbm, ⟨94, _⟩ => ⟨S1x32x128x8x128, .f32⟩
  | .hbm, ⟨95, _⟩ => ⟨S128x8, .f32⟩
  | .hbm, ⟨96, _⟩ => ⟨S1x1x128x8x1, .f32⟩
  | .hbm, ⟨97, _⟩ => ⟨S1x32x128x8x128, .f32⟩
  | .hbm, ⟨98, _⟩ => ⟨S1x32x128x8x128, .f32⟩
  | .hbm, ⟨99, _⟩ => ⟨S1x4096x1024, .f32⟩
  | .hbm, ⟨100, _⟩ => ⟨S1x4096x1024, .f32⟩
  | .hbm, ⟨101, _⟩ => ⟨S4096x1024, .f32⟩
  | .hbm, ⟨102, _⟩ => ⟨S4096x1024, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_cst : Ref sig .tc := ⟨.hbm, 87, rfl⟩
abbrev main_call0_v5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Kernel17.lean ====
abbrev S4096x3328 : Shape := ⟨2, ![4096, 3328]⟩
abbrev S1x16 : Shape := ⟨2, ![1, 16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x384 : Shape := ⟨2, ![4096, 384]⟩
abbrev S4096x1024 : Shape := ⟨2, ![4096, 1024]⟩
abbrev S128x1024 : Shape := ⟨2, ![128, 1024]⟩
abbrev S128x128 : Shape := ⟨2, ![128, 128]⟩
abbrev S128x384 : Shape := ⟨2, ![128, 384]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S1x1 : Shape := ⟨2, ![1, 1]⟩
abbrev S128 : Shape := ⟨1, ![128]⟩
abbrev S128x1 : Shape := ⟨2, ![128, 1]⟩

abbrev nBuf : Space → Nat
  | .hbm => 44
  | .vmem => 16
  | .smem => 1
  | _ => 0

abbrev bufTy : (tb : Table) → Fin (tcTables nBuf tb) → BufTy
  | .hbm, ⟨0, _⟩ => ⟨S4096x3328, .f32⟩
  | .hbm, ⟨1, _⟩ => ⟨S1x16, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S4096, .f32⟩
  | .hbm, ⟨14, _⟩ => ⟨S4096x1, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x48, .f32⟩
  | .hbm, ⟨23, _⟩ => ⟨S4096x64, .f32⟩
  | .hbm, ⟨24, _⟩ => ⟨S4096x8, .f32⟩
  | .hbm, ⟨25, _⟩ => ⟨S_, .f32⟩
  | .hbm, ⟨26, _⟩ => ⟨S4096x56, .f32⟩
  | .hbm, ⟨27, _⟩ => ⟨S4096x64, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S4096x384, .f32⟩
  | .hbm, ⟨43, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x1024, .bf16⟩
  | .local _ .vmem, ⟨15, _⟩ => ⟨S128x1024, .bf16⟩
  | .local _ .smem, ⟨0, _⟩ => ⟨S1x16, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_3 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17Ideal.lean ====
variable {F : FTy → Type} [FloatOps F] [Named F]
def κ : String → Option EReal := fun
  | "mask" => some ⊥
  | _ => none
-- ==== Reference17Ideal.lean ====
abbrev S4096x3328 : Shape := ⟨2, ![4096, 3328]⟩
abbrev S1x16 : Shape := ⟨2, ![1, 16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x1024 : Shape := ⟨2, ![4096, 1024]⟩
abbrev S4096x16x64 : Shape := ⟨3, ![4096, 16, 64]⟩
abbrev S4096x16x8 : Shape := ⟨3, ![4096, 16, 8]⟩
abbrev S4096x16x48 : Shape := ⟨3, ![4096, 16, 48]⟩
abbrev S4096x128 : Shape := ⟨2, ![4096, 128]⟩
abbrev S4096x2x64 : Shape := ⟨3, ![4096, 2, 64]⟩
abbrev S4096x2x8 : Shape := ⟨3, ![4096, 2, 8]⟩
abbrev S4096x2x48 : Shape := ⟨3, ![4096, 2, 48]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S16 : Shape := ⟨1, ![16]⟩
abbrev S32x128x2x8x64 : Shape := ⟨5, ![32, 128, 2, 8, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128x1 : Shape := ⟨5, ![32, 2, 8, 128, 1]⟩
abbrev S32x2x8x128x257 : Shape := ⟨5, ![32, 2, 8, 128, 257]⟩
abbrev S32x2x8x128 : Shape := ⟨4, ![32, 2, 8, 128]⟩
abbrev S32x2x64x8x128 : Shape := ⟨5, ![32, 2, 64, 8, 128]⟩

abbrev nBuf : Space → Nat
  | .hbm => 140
  | .vmem => 0
  | .smem => 0
  | _ => 0

abbrev hbmTy0_0 (i : Nat) : BufTy := match i % 128 with
  | 0 => ⟨S4096x3328, .f32⟩
  | 1 => ⟨S1x16, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S4096, .f32⟩
  | 14 => ⟨S4096x1, .f32⟩
  | 15 => ⟨S1x8, .f32⟩
  | 16 => ⟨S4096x8, .f32⟩
  | 17 => ⟨S4096x8, .f32⟩
  | 18 => ⟨S4096x8, .f32⟩
  | 19 => ⟨S4096x8, .f32⟩
  | 20 => ⟨S4096x1x8, .f32⟩
  | 21 => ⟨S4096x8, .f32⟩
  | 22 => ⟨S4096x1x8, .f32⟩
  | 23 => ⟨S4096x1024, .f32⟩
  | 24 => ⟨S4096x16x64, .f32⟩
  | 25 => ⟨S4096x16x8, .f32⟩
  | 26 => ⟨S4096x16x8, .f32⟩
  | 27 => ⟨S4096x16x8, .f32⟩
  | 28 => ⟨S4096x16x8, .f32⟩
  | 29 => ⟨S4096x16x8, .f32⟩
  | 30 => ⟨S4096x16x8, .f32⟩
  | 31 => ⟨S4096x16x8, .f32⟩
  | 32 => ⟨S4096x16x8, .f32⟩
  | 33 => ⟨S4096x16x8, .f32⟩
  | 34 => ⟨S4096x16x8, .f32⟩
  | 35 => ⟨S4096x16x8, .f32⟩
  | 36 => ⟨S4096x16x8, .f32⟩
  | 37 => ⟨S4096x16x48, .f32⟩
  | 38 => ⟨S4096x16x64, .f32⟩
  | 39 => ⟨S4096x128, .f32⟩
  | 40 => ⟨S4096x2x64, .f32⟩
  | 41 => ⟨S4096x2x8, .f32⟩
  | 42 => ⟨S4096x2x8, .f32⟩
  | 43 => ⟨S4096x2x8, .f32⟩
  | 44 => ⟨S4096x2x8, .f32⟩
  | 45 => ⟨S4096x2x8, .f32⟩
  | 46 => ⟨S4096x2x8, .f32⟩
  | 47 => ⟨S4096x2x8, .f32⟩
  | 48 => ⟨S4096x2x8, .f32⟩
  | 49 => ⟨S4096x2x8, .f32⟩
  | 50 => ⟨S4096x2x8, .f32⟩
  | 51 => ⟨S4096x2x8, .f32⟩
  | 52 => ⟨S4096x2x8, .f32⟩
  | 53 => ⟨S4096x2x48, .f32⟩
  | 54 => ⟨S4096x2x64, .f32⟩
  | 55 => ⟨S4096x128, .f32⟩
  | 56 => ⟨S4096x2x64, .f32⟩
  | 57 => ⟨S_, .f32⟩
  | 58 => ⟨S128x2x64, .f32⟩
  | 59 => ⟨S4224x2x64, .f32⟩
  | 60 => ⟨S33x128x2x64, .f32⟩
  | 61 => ⟨S32x128x2x64, .f32⟩
  | 62 => ⟨S32x128x2x64, .f32⟩
  | 63 => ⟨S32x256x2x64, .f32⟩
  | 64 => ⟨S_, .f32⟩
  | 65 => ⟨S128x2x64, .f32⟩
  | 66 => ⟨S4224x2x64, .f32⟩
  | 67 => ⟨S33x128x2x64, .f32⟩
  | 68 => ⟨S32x128x2x64, .f32⟩
  | 69 => ⟨S32x128x2x64, .f32⟩
  | 70 => ⟨S32x256x2x64, .f32⟩
  | 71 => ⟨S16, .f32⟩
  | 72 => ⟨S32x128x2x8x64, .f32⟩
  | 73 => ⟨S32x2x256x128x8, .f32⟩
  | 74 => ⟨S32x2x8x128x256, .f32⟩
  | 75 => ⟨S_, .f32⟩
  | 76 => ⟨S32x2x8x128x256, .f32⟩
  | 77 => ⟨S32x2x8x128x256, .f32⟩
  | 78 => ⟨S128, .i32⟩
  | 79 => ⟨S128x1, .i32⟩
  | 80 => ⟨S256, .i32⟩
  | 81 => ⟨S1x256, .i32⟩
  | 82 => ⟨S_, .i32⟩
  | 83 => ⟨S128x1, .i32⟩
  | 84 => ⟨S128x1, .i32⟩
  | 85 => ⟨S128x256, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i1⟩
  | 94 => ⟨S128x256, .i1⟩
  | 95 => ⟨S32, .i32⟩
  | 96 => ⟨S32x1x1, .i32⟩
  | 97 => ⟨S_, .i32⟩
  | 98 => ⟨S32x1x1, .i32⟩
  | 99 => ⟨S32x1x1, .i1⟩
  | 100 => ⟨S_, .i32⟩
  | 101 => ⟨S1x256, .i32⟩
  | 102 => ⟨S1x256, .i1⟩
  | 103 => ⟨S1x1x256, .i1⟩
  | 104 => ⟨S32x1x256, .i1⟩
  | 105 => ⟨S32x1x256, .i1⟩
  | 106 => ⟨S32x1x256, .i1⟩
  | 107 => ⟨S1x128x256, .i1⟩
  | 108 => ⟨S32x128x256, .i1⟩
  | 109 => ⟨S32x128x256, .i1⟩
  | 110 => ⟨S32x128x256, .i1⟩
  | 111 => ⟨S32x1x1x128x256, .i1⟩
  | 112 => ⟨S_, .f32⟩
  | 113 => ⟨S_, .f32⟩
  | 114 => ⟨S32x2x8x128x256, .i1⟩
  | 115 => ⟨S32x2x8x128x256, .f32⟩
  | 116 => ⟨S32x2x8x128x256, .f32⟩
  | 117 => ⟨S2x8, .f32⟩
  | 118 => ⟨S1x2x8x1x1, .f32⟩
  | 119 => ⟨S32x2x8x128x1, .f32⟩
  | 120 => ⟨S32x2x8x128x257, .f32⟩
  | 121 => ⟨S_, .f32⟩
  | 122 => ⟨S32x2x8x128, .f32⟩
  | 123 => ⟨S_, .f32⟩
  | 124 => ⟨S32x2x8x128, .f32⟩
  | 125 => ⟨S32x2x8x128, .f32⟩
  | 126 => ⟨S32x2x8x128x1, .f32⟩
  | 127 => ⟨S32x2x8x128x257, .f32⟩
  | _ => ⟨S4096x3328, .f32⟩

abbrev hbmTy0_1 (i : Nat) : BufTy := match i % 128 with
  | 0 => ⟨S32x2x8x128x257, .f32⟩
  | 1 => ⟨S32x2x8x128x257, .f32⟩
  | 2 => ⟨S_, .f32⟩
  | 3 => ⟨S32x2x8x128, .f32⟩
  | 4 => ⟨S32x2x8x128x1, .f32⟩
  | 5 => ⟨S32x2x8x128x257, .f32⟩
  | 6 => ⟨S32x2x8x128x257, .f32⟩
  | 7 => ⟨S32x2x8x128x256, .f32⟩
  | 8 => ⟨S32x2x64x8x128, .f32⟩
  | 9 => ⟨S32x128x2x8x64, .f32⟩
  | 10 => ⟨S4096x1024, .f32⟩
  | 11 => ⟨S4096x1024, .bf16⟩
  | _ => ⟨S4096x3328, .f32⟩

abbrev hbmTy (i : Nat) : BufTy := match i / 128 with
  | 0 => hbmTy0_0 i
  | 1 => hbmTy0_1 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_3 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_4 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_c : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_c_5 : Ref sig .tc := ⟨.hbm, 88, rfl⟩
abbrev main_v79 : Ref sig .tc := ⟨.hbm, 89, rfl⟩
abbrev main_v80 : Ref sig .tc := ⟨.hbm, 90, rfl⟩
abbrev main_c_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_c_7 : Ref sig .tc := ⟨.hbm, 97, rfl⟩
abbrev main_v86 : Ref sig .tc := ⟨.hbm, 98, rfl⟩
abbrev main_v87 : Ref sig .tc := ⟨.hbm, 99, rfl⟩
abbrev main_c_8 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_9 : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_10 : Ref sig .tc := ⟨.hbm, 121, rfl⟩
abbrev main_v104 : Ref sig .tc := ⟨.hbm, 122, rfl⟩
abbrev main_cst_11 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_12 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩

abbrev nD : Nat := 1
abbrev τ : Topo := Topo.v7x

variable {F : FTy → Type} [FloatOps F]
-- ==== Kernel18.lean ====
abbrev S4096x2048 : Shape := ⟨2, ![4096, 2048]⟩
abbrev S4x512x512 : Shape := ⟨3, ![4, 512, 512]⟩
abbrev S1x2048 : Shape := ⟨2, ![1, 2048]⟩
abbrev S256x2048 : Shape := ⟨2, ![256, 2048]⟩
abbrev S16x2048 : Shape := ⟨2, ![16, 2048]⟩
abbrev S272x2048 : Shape := ⟨2, ![272, 2048]⟩
abbrev S272x512 : Shape := ⟨2, ![272, 512]⟩
abbrev S256x512 : Shape := ⟨2, ![256, 512]⟩
abbrev S256x1 : Shape := ⟨2, ![256, 1]⟩
abbrev S1x512x512 : Shape := ⟨3, ![1, 512, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4x512x512, .bf16⟩
  | .hbm, ⟨2, _⟩ => ⟨S1x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S4x512x512, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S4096x2048 : Shape := ⟨2, ![4096, 2048]⟩
abbrev S4x512x512 : Shape := ⟨3, ![4, 512, 512]⟩
abbrev S1x2048 : Shape := ⟨2, ![1, 2048]⟩
abbrev S1x4096x2048 : Shape := ⟨3, ![1, 4096, 2048]⟩
abbrev S1x4096x4x512 : Shape := ⟨4, ![1, 4096, 4, 512]⟩
abbrev S_ : Shape := ⟨0, ![]⟩
abbrev S4096 : Shape := ⟨1, ![4096]⟩
abbrev S1x4096x1x512 : Shape := ⟨4, ![1, 4096, 1, 512]⟩
abbrev S1x4096x512 : Shape := ⟨3, ![1, 4096, 512]⟩
abbrev S1x2x512 : Shape := ⟨3, ![1, 2, 512]⟩
abbrev S1x4094x512 : Shape := ⟨3, ![1, 4094, 512]⟩
abbrev S1x4096x1 : Shape := ⟨3, ![1, 4096, 1]⟩
abbrev S1x4x512 : Shape := ⟨3, ![1, 4, 512]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S4x512x1x4096 : Shape := ⟨4, ![4, 512, 1, 4096]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x512x512, .bf16⟩
  | .hbm, ⟨2, _⟩ => ⟨S1x2048, .f32⟩
  | .hbm, ⟨3, _⟩ => ⟨S1x4096x2048, .f32⟩
  | .hbm, ⟨4, _⟩ => ⟨S1x4096x4x512, .f32⟩
  | .hbm, ⟨5, _⟩ => ⟨S_, .f32⟩
  | .hbm, ⟨6, _⟩ => ⟨S_, .f32⟩
  | .hbm, ⟨7, _⟩ => ⟨S1x4096x4x512, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096x1x512, .f32⟩
  | .hbm, ⟨13, _⟩ => ⟨S1x4096x512, .f32⟩
  | .hbm, ⟨14, _⟩ => ⟨S_, .f32⟩
  | .hbm, ⟨15, _⟩ => ⟨S1x2x512, .f32⟩
  | .hbm, ⟨16, _⟩ => ⟨S1x4094x512, .f32⟩
  | .hbm, ⟨17, _⟩ => ⟨S1x4096x512, .f32⟩
  | .hbm, ⟨18, _⟩ => ⟨S1x4096x512, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S1x4096x1, .f32⟩
  | .hbm, ⟨23, _⟩ => ⟨S1x4096x512, .f32⟩
  | .hbm, ⟨24, _⟩ => ⟨S1x4096x512, .f32⟩
  | .hbm, ⟨25, _⟩ => ⟨S1x4096x1x512, .f32⟩
  | .hbm, ⟨26, _⟩ => ⟨S1x4096x512, .f32⟩
  | .hbm, ⟨27, _⟩ => ⟨S1x4096x512, .f32⟩
  | .hbm, ⟨28, _⟩ => ⟨S1x4096x1x512, .f32⟩
  | .hbm, ⟨29, _⟩ => ⟨S1x4096x512, .f32⟩
  | .hbm, ⟨30, _⟩ => ⟨S_, .f32⟩
  | .hbm, ⟨31, _⟩ => ⟨S1x4x512, .f32⟩
  | .hbm, ⟨32, _⟩ => ⟨S1x4092x512, .f32⟩
  | .hbm, ⟨33, _⟩ => ⟨S1x4096x512, .f32⟩
  | .hbm, ⟨34, _⟩ => ⟨S1x4096x512, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S1x4096x1, .f32⟩
  | .hbm, ⟨39, _⟩ => ⟨S1x4096x512, .f32⟩
  | .hbm, ⟨40, _⟩ => ⟨S1x4096x512, .f32⟩
  | .hbm, ⟨41, _⟩ => ⟨S1x4096x1x512, .f32⟩
  | .hbm, ⟨42, _⟩ => ⟨S1x4096x512, .f32⟩
  | .hbm, ⟨43, _⟩ => ⟨S1x4096x512, .f32⟩
  | .hbm, ⟨44, _⟩ => ⟨S1x4096x1x512, .f32⟩
  | .hbm, ⟨45, _⟩ => ⟨S1x4096x512, .f32⟩
  | .hbm, ⟨46, _⟩ => ⟨S_, .f32⟩
  | .hbm, ⟨47, _⟩ => ⟨S1x8x512, .f32⟩
  | .hbm, ⟨48, _⟩ => ⟨S1x4088x512, .f32⟩
  | .hbm, ⟨49, _⟩ => ⟨S1x4096x512, .f32⟩
  | .hbm, ⟨50, _⟩ => ⟨S1x4096x512, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S1x4096x1, .f32⟩
  | .hbm, ⟨55, _⟩ => ⟨S1x4096x512, .f32⟩
  | .hbm, ⟨56, _⟩ => ⟨S1x4096x512, .f32⟩
  | .hbm, ⟨57, _⟩ => ⟨S1x4096x1x512, .f32⟩
  | .hbm, ⟨58, _⟩ => ⟨S1x4096x512, .f32⟩
  | .hbm, ⟨59, _⟩ => ⟨S1x4096x512, .f32⟩
  | .hbm, ⟨60, _⟩ => ⟨S1x4096x1x512, .f32⟩
  | .hbm, ⟨61, _⟩ => ⟨S1x4096x512, .f32⟩
  | .hbm, ⟨62, _⟩ => ⟨S_, .f32⟩
  | .hbm, ⟨63, _⟩ => ⟨S1x16x512, .f32⟩
  | .hbm, ⟨64, _⟩ => ⟨S1x4080x512, .f32⟩
  | .hbm, ⟨65, _⟩ => ⟨S1x4096x512, .f32⟩
  | .hbm, ⟨66, _⟩ => ⟨S1x4096x512, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S1x4096x1, .f32⟩
  | .hbm, ⟨71, _⟩ => ⟨S1x4096x512, .f32⟩
  | .hbm, ⟨72, _⟩ => ⟨S1x4096x512, .f32⟩
  | .hbm, ⟨73, _⟩ => ⟨S1x4096x1x512, .f32⟩
  | .hbm, ⟨74, _⟩ => ⟨S1x4096x512, .f32⟩
  | .hbm, ⟨75, _⟩ => ⟨S1x4096x512, .f32⟩
  | .hbm, ⟨76, _⟩ => ⟨S1x4096x1x512, .f32⟩
  | .hbm, ⟨77, _⟩ => ⟨S1x4096x1x512, .f32⟩
  | .hbm, ⟨78, _⟩ => ⟨S1x4096x1x512, .f32⟩
  | .hbm, ⟨79, _⟩ => ⟨S1x4096x1x512, .f32⟩
  | .hbm, ⟨80, _⟩ => ⟨S1x4096x4x512, .f32⟩
  | .hbm, ⟨81, _⟩ => ⟨S4x512x512, .f32⟩
  | .hbm, ⟨82, _⟩ => ⟨S4x512x1x4096, .f32⟩
  | .hbm, ⟨83, _⟩ => ⟨S1x4096x4x512, .f32⟩
  | .hbm, ⟨84, _⟩ => ⟨S1x4096x2048, .f32⟩
  | .hbm, ⟨85, _⟩ => ⟨S4096x2048, .f32⟩
  | .hbm, ⟨86, _⟩ => ⟨S2048, .f32⟩
  | .hbm, ⟨87, _⟩ => ⟨S1x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩

abbrev nD : Nat := 1
abbrev τ : Topo := Topo.v7x

variable {F : FTy → Type} [FloatOps F]
-- ==== Proof.Loss.lean ====
/-
  The loss kernel's two results are the host's: the gradient of the mean square error, and the error summed.
-/
module

public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Loss

open Cert.KernelIdeal Cert.KernelIdeal.Gen

variable (m : (ℓ : Loc nD τ sig) → Buf (Elt Ideal) ℓ)

abbrev SArr := Cert.ReferenceIdeal.S1x4096x2048
open Cert.ReferenceIdeal.Read in
abbrev DY (X T : FVec Ideal Cert.ReferenceIdeal.S1x4096x2048 .f32) : FVec Ideal Cert.ReferenceIdeal.S4096x2048 .f32 := val_main_v15 (F := Ideal) X T
open Cert.ReferenceIdeal.Read in
abbrev LOSS (X T : FVec Ideal Cert.ReferenceIdeal.S1x4096x2048 .f32) : FVec Ideal Cert.ReferenceIdeal.S1x1 .f32 := val_main_v16 (F := Ideal) X T

theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

theorem half : Ideal.ofBits FTy.f32 1056964608#32 = ((1 / 2 : ℝ) : EReal) := by
  simp [Ideal.ofBits, Ideal.ieee, ← EReal.coe_mul]; norm_num
theorem two : Ideal.ofBits FTy.f32 1073741824#32 = ((2 : ℝ) : EReal) := by
  simp [Ideal.ofBits, Ideal.ieee, ← EReal.coe_mul]; norm_num
theorem n2048 : Ideal.ofBits FTy.f32 1157627904#32 = ((2048 : ℝ) : EReal) := by
  simp [Ideal.ofBits, Ideal.ieee, ← EReal.coe_mul]; norm_num
theorem r2048 : Ideal.ofBits FTy.f32 973078528#32 = ((1 / 2048 : ℝ) : EReal) := by
  simp [Ideal.ofBits, Ideal.ieee, ← EReal.coe_mul]; norm_num
theorem r4096 : Ideal.ofBits FTy.f32 964689920#32 = ((1 / 4096 : ℝ) : EReal) := by
  simp [Ideal.ofBits, Ideal.ieee, ← EReal.coe_mul]; norm_num

open Cert.ReferenceIdeal.Read in
theorem dy_apply (X T : FVec Ideal Cert.ReferenceIdeal.S1x4096x2048 .f32) (i) :
    DY X T i = (X (ix3 0 (i 0) (i 1)) - T (ix3 0 (i 0) (i 1))) * ((1 / 2048 : ℝ) : EReal) := by
  unfold DY
  pointwise [val_main_v15, val_main_v14, val_main_v13, val_main_v12, val_main_v10, val_main_v11, val_main_v9, val_main_cst_4, val_main_cst_5, val_main_cst_6, val_main_v3, val_main_v2, val_main_cst, val_main_v0]
  rw [half, two, n2048, Ideal.div_coe (by norm_num), ← mul_assoc, ← EReal.coe_mul, ← EReal.coe_mul, mul_comm]
  norm_num

theorem sq_nonneg' (a : EReal) : 0 ≤ a * a := by
  rcases le_total 0 a with h | h
  · exact mul_nonneg h h
  · exact EReal.mul_nonneg_iff.mpr (Or.inr ⟨h, h⟩)

theorem coe_mul_sum {ι : Type*} (r : ℝ) (hr : 0 ≤ r) (s : Finset ι) (f : ι → EReal) (hf : ∀ i, 0 ≤ f i) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg (hf a) (Finset.sum_nonneg fun i _ => hf i)

open Cert.ReferenceIdeal.Read in
theorem loss_apply (X T : FVec Ideal Cert.ReferenceIdeal.S1x4096x2048 .f32) (i) :
    LOSS X T i = ((1 / 4096 : ℝ) : EReal) * ∑ r : Fin 4096, ∑ l : Fin 2048,
      (X (ix3 0 r l) - T (ix3 0 r l)) * (X (ix3 0 r l) - T (ix3 0 r l)) := by
  unfold LOSS
  pointwise [val_main_v16, val_main_v8, val_main_cst_3, val_main_v7, val_main_v6, val_main_v5, val_main_cst_1, val_main_v4, val_main_v1, val_main_v0, val_main_cst_0, val_main_cst_2]
  rw [half, n2048]
  simp only [Ideal.div_coe (by norm_num : (2048 : ℝ) ≠ 0)]
  rw [Fin.sum_univ_one, coe_mul_sum _ (by norm_num) _ _ fun r => mul_nonneg (Finset.sum_nonneg fun l _ => sq_nonneg' _) (EReal.coe_nonneg.mpr (by norm_num)),
    coe_mul_sum _ (by norm_num) _ _ fun r => Finset.sum_nonneg fun l _ => sq_nonneg' _]
  refine Finset.sum_congr rfl fun r _ => ?_
  rw [mul_comm, mul_assoc, ← EReal.coe_mul, mul_comm]
  norm_num

theorem pay2_apply (x0 x1 : FVec Ideal S256x2048 .f32) (j) : k0_pay2 (F := Ideal) x0 x1 j = (x0 j - x1 j) * ((1 / 2048 : ℝ) : EReal) := by
  pointwise [k0_pay2, k0_pay1]
  rw [r2048]
theorem pay4_apply (x0 x1 : FVec Ideal S256x2048 .f32) (a : FVec Ideal S1x2048 .f32) (j) :
    k0_pay4 (F := Ideal) x0 x1 a j = a j + ∑ r : Fin 256, (x0 (ix2 r (j 1)) - x1 (ix2 r (j 1))) * (x0 (ix2 r (j 1)) - x1 (ix2 r (j 1))) := by
  pointwise [k0_pay4, k0_pay1]
theorem pay5_apply (a : FVec Ideal S1x2048 .f32) (j) : k0_pay5 (F := Ideal) a j = ((1 / 4096 : ℝ) : EReal) * ∑ l : Fin 2048, a (ix2 0 l) := by
  pointwise [k0_pay5]
  rw [r4096]
theorem pay3_apply (j) : k0_pay3 (F := Ideal) j = 0 := by
  pointwise [k0_pay3]

theorem point2 (c : Dev nD) (t : Fin cfg0.N) (y : S256x2048.Idx) :
    k0_pay2 (F := Ideal) (iblk m c 0 t) (iblk m c 1 t) y = DY (m ((c : Thread nD τ).loc main_arg0)) (m ((c : Thread nD τ).loc main_arg1)) ((win0_2.blk t).view.emb y) := by
  obtain ⟨h0, h1, h2, h3⟩ := idx t
  rw [pay2_apply, dy_apply]
  blk_point [iblk, V, h0, h1, h2]

theorem final2 (c : Dev nD) : (dats m 0 c).arrAt 2 (cfgs 0).N
    = DY (m ((c : Thread nD τ).loc main_arg0)) (m ((c : Thread nD τ).loc main_arg1)) := by
  refine (dats m 0 c).arrAt_eq_of_covers 2 _ (by decide +kernel) fun t hf y => ?_
  blk_simp
  rw [after0_2]
  have key : (outsAt0 m c t.val t.isLt).1 = k0_pay2 (iblk m c 0 t) (iblk m c 1 t) := by
    by_cases h0 : t.val % 16 = 0
    · rw [outsAt0_A m c t h0 (by omega)]; frame_out
    · by_cases h1 : t.val % 16 = 15
      · rw [outsAt0_C m c t h0 h1]; frame_out
      · rw [outsAt0_B m c t h0 h1]; frame_out
  rw [key]
  exact point2 m c t y

/-- One block's squared errors, summed down each lane. -/
def SQ (x0 x1 : FVec Ideal S256x2048 .f32) (l : Fin 2048) : EReal :=
  ∑ r : Fin 256, (x0 (ix2 r l) - x1 (ix2 r l)) * (x0 (ix2 r l) - x1 (ix2 r l))

/-- The scratch row after the last point: the squared errors summed over every point's rows. -/
theorem scratch (c : Dev nD) (t : Fin cfg0.N) (l : Fin 2048) (hl : t.val % 16 = 15) :
    (outsAt0 m c t.val t.isLt).2.2 (ix2 0 l) = ∑ p : Fin cfg0.N, SQ (iblk m c 0 p) (iblk m c 1 p) l := by
  rw [Pipeline.eq_sum_fin_of_reset_step_apply_last (fun n h => (outsAt0 m c n h).2.2) 16 (fun _ => 0)
      (fun p j => SQ (iblk m c 0 p) (iblk m c 1 p) (j 1))
    (fun t h j => by
      rw [outsAt0_A m c t h (by omega)]; frame_out; rw [pay4_apply, pay3_apply]; rfl)
    (fun t h j => by
      by_cases h1 : t.val % 16 = 15
      · rw [outsAt0_C m c t h h1]; frame_out; rw [pay4_apply, read_unread_whole]; rfl
      · rw [outsAt0_B m c t h h1]; frame_out; rw [pay4_apply, read_unread_whole]; rfl)
    (le_of_eq N_0) t (by have : cfg0.N = 16 := rfl; have := t.isLt; omega) (ix2 0 l)]
  exact zero_add _

theorem final3 (c : Dev nD) : (dats m 0 c).arrAt 3 (cfgs 0).N
    = LOSS (m ((c : Thread nD τ).loc main_arg0)) (m ((c : Thread nD τ).loc main_arg1)) := by
  refine (dats m 0 c).arrAt_eq_of_covers 3 _ (by decide +kernel) fun t hf y => ?_
  blk_simp
  rw [after0_3]
  have h1 := (flush0_3 t).mp hf
  have hC : (outsAt0 m c t.val t.isLt).2.1 = k0_pay5 (F := Ideal) (outsAt0 m c t.val t.isLt).2.2 := by
    rw [outsAt0_C m c t (by omega) (by omega)]; frame_out
  rw [hC, loss_apply, pay5_apply]
  congr 1
  rw [Finset.sum_comm]
  refine Finset.sum_congr rfl fun l _ => ?_
  refine (scratch m c t l h1).trans ?_
  refine Fin.sum_mul_add_congr (fun p r hr => ?_)
  obtain ⟨h0, h1, h2, h3⟩ := idx p
  blk_point [iblk, V, h0, h1]

end Cert.Loss
-- ==== Proof.LossClaims.lean ====
/-
  The claims about the loss kernel: frames from the generated runs, and the value claim by the two results' closed forms.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Loss
public import Idealize.ShloMosaic.Lib.Claim

@[expose] public section

set_option maxRecDepth 16384

noncomputable section

open Idealize.ShloMosaic Idealize.ShloMosaic.TcCoe Idealize.SL.Sem

namespace Cert.Loss

/-- The kernel's frame, on device floats. -/
theorem frame_p : Cert.quiescent_Kernel (hKernel := Cert.Kernel.Gen.facts) := fun m ρ _ => Cert.Kernel.Gen.frame m ρ

/-- The kernel's frame, on extended reals. -/
theorem frame_pi : Cert.quiescent_KernelIdeal (hKernelIdeal := Cert.KernelIdeal.Gen.facts) := fun m ρ _ => Cert.KernelIdeal.Gen.frame m ρ

/-- The reference's frame: its run, read at the arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's gradient and loss are the reference's. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run m g
  · run_from Cert.ReferenceIdeal.Value.run m' g'
    · exact (final2 m c).symm.trans (Cert.KernelIdeal.Value.final2 m c)
    · exact (final3 m c).symm.trans (Cert.KernelIdeal.Value.final3 m c)

end Cert.Loss

end
-- ==== Proof.Lift.lean ====
/-
  Extended reals that are real numbers: the operations on them are the real operations.
-/
module

public import Idealize.ShloMosaic.Lib.Pipeline.ValueKit

@[expose] public section

noncomputable section

open Idealize.ShloMosaic

namespace Cert.Lift

/-- The array of extended reals that a real array is. -/
abbrev up {ι : Type*} (x : ι → ℝ) : ι → EReal := fun i => (x i : EReal)

/-- The real numbers of an array of extended reals. -/
def down {ι : Type*} (X : ι → EReal) : ι → ℝ := fun i => (X i).toReal

theorem up_down {ι : Type*} (X : ι → EReal) (h : ∀ i, X i ≠ ⊤ ∧ X i ≠ ⊥) : X = up (down X) :=
  funext fun i => (EReal.coe_toReal (h i).1 (h i).2).symm

/-- A sum of reals is real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem mul_coe (a b : ℝ) : (a : EReal) * (b : EReal) = ((a * b : ℝ) : EReal) := (EReal.coe_mul a b).symm
theorem neg_coe (a : ℝ) : -(a : EReal) = ((-a : ℝ) : EReal) := (EReal.coe_neg a).symm
theorem zero_coe : (0 : EReal) = ((0 : ℝ) : EReal) := EReal.coe_zero.symm
theorem one_coe : (1 : EReal) = ((1 : ℝ) : EReal) := EReal.coe_one.symm
theorem div_coe (a b : ℝ) (h : b ≠ 0) : Ideal.div (a : EReal) (b : EReal) = ((a / b : ℝ) : EReal) := by
  rw [Ideal.div_coe h, mul_coe, mul_one_div]
theorem exp_coe (a : ℝ) : Ideal.exp (a : EReal) = ((Real.exp a : ℝ) : EReal) := rfl

theorem half_word : Ideal.ofBits FTy.f32 0x3F000000#32 = ((1 / 2 : ℝ) : EReal) := by
  simp [Ideal.ofBits, Ideal.ieee, ← EReal.coe_mul]; norm_num
theorem one_word : Ideal.ofBits FTy.f32 0x3F800000#32 = ((1 : ℝ) : EReal) := by
  simp [Ideal.ofBits, Ideal.ieee, ← EReal.coe_mul]; norm_num
theorem zero_word : Ideal.ofBits FTy.f32 0x00000000#32 = ((0 : ℝ) : EReal) := by
  simp [Ideal.ofBits, Ideal.ieee]

theorem inf_word : Ideal.ofBits FTy.f32 0x7F800000#32 = ⊤ := by
  simp [Ideal.ofBits, Ideal.ieee]

/-- A magnitude below the infinity word is real. -/
theorem ne_of_lt_inf (a : EReal) (h : (if max a (-a) < Ideal.ofBits FTy.f32 0x7F800000#32 then 1#1 else 0#1) = 1#1) :
    a ≠ ⊤ ∧ a ≠ ⊥ := by
  rw [inf_word] at h
  constructor <;> rintro rfl <;> simp at h

/-- An array whose magnitudes compare below the infinity word is an array of reals. -/
theorem real_of {s : Shape} (a : s.Idx → EReal) (b : FVec Ideal s .f32)
    (h : cmpf (F := Ideal) .olt (Host.absf (F := Ideal) (φ := .f32) a) b = fun _ => 1#1)
    (hb : ∀ i, b i = Ideal.ofBits FTy.f32 0x7F800000#32 := by intro _; rfl) : a = up (down a) :=
  up_down a fun i => ne_of_lt_inf (a i) (by
    have h1 := congrFun h i
    have h2 := hb i
    simp only [cmpf] at h1
    rw [h2] at h1
    have h3 : BitVec.ofBool (decide (max (a i) (-(a i)) < Ideal.ofBits FTy.f32 0x7F800000#32)) = 1#1 := h1
    by_cases h4 : max (a i) (-(a i)) < Ideal.ofBits FTy.f32 0x7F800000#32
    · rw [if_pos h4]
    · rw [decide_eq_false h4] at h3; simp at h3)

end Cert.Lift

end
-- ==== Proof.FfnRef.lean ====
/-
  The feed-forward gradient's reference, at real arguments: real arrays in closed form.
-/
module

public import proofs.«01_k».proof.Proof.Gen.Reference2Ideal.Read
public import proofs.«01_k».proof.Proof.Lift

@[expose] public section

set_option maxRecDepth 16384

noncomputable section

open Idealize.ShloMosaic Idealize.ShloMosaic.TcCoe Idealize.SL.Sem

namespace Cert.Ffn

open Cert.Reference2Ideal Cert.Reference2Ideal.Read Cert.Lift

variable (h : S4096x2048.Idx → ℝ) (g u : S8x2048x704.Idx → ℝ) (w : S8x704x2048.Idx → ℝ) (e : S4096x2048.Idx → ℝ)

/-- The shard and the place within it of a hidden unit. -/
abbrev sh (n : Fin 5632) : Fin 8 := ⟨n.val / 704, by omega⟩
abbrev pl (n : Fin 5632) : Fin 704 := ⟨n.val % 704, by omega⟩

def sg (a : ℝ) : ℝ := 1 / (1 + Real.exp (-a))
/-- The hidden unit's product with a weight. -/
def A (r : Fin 4096) (s : Fin 8) (f : Fin 704) : ℝ := ∑ d : Fin 2048, h (ix2 r d) * g (ix3 s d f)
/-- The hidden unit's cotangent. -/
def E (r : Fin 4096) (s : Fin 8) (f : Fin 704) : ℝ := ∑ d : Fin 2048, e (ix2 r d) * w (ix3 s f d)
def DA (r : Fin 4096) (s : Fin 8) (f : Fin 704) : ℝ :=
  E w e r s f * A h u r s f * (sg (A h g r s f) * (1 + A h g r s f * (1 - sg (A h g r s f))))
def DB (r : Fin 4096) (s : Fin 8) (f : Fin 704) : ℝ := E w e r s f * (A h g r s f * sg (A h g r s f))
/-- One shard's part of the input's gradient. -/
def DP (r : Fin 4096) (s : Fin 8) (d : Fin 2048) : ℝ :=
  ∑ f : Fin 704, DA h g u w e r s f * g (ix3 s d f) + ∑ f : Fin 704, DB h g w e r s f * u (ix3 s d f)

theorem one_add_exp_ne (a : ℝ) : 1 + Real.exp a ≠ 0 := (add_pos one_pos (Real.exp_pos a)).ne'

theorem v10 (r : Fin 4096) (n : Fin 5632) : val_main_v10 (F := Ideal) (up h) (up g) (ix2 r n) = (A h g r (sh n) (pl n) : EReal) := by
  pointwise [val_main_v10, val_main_v0, val_main_v6, val_main_v5, val_main_v2]
  simp only [up, mul_coe, coe_sum, A]

theorem v11 (r : Fin 4096) (n : Fin 5632) : val_main_v11 (F := Ideal) (up h) (up u) (ix2 r n) = (A h u r (sh n) (pl n) : EReal) :=
  v10 h u r n

theorem v15 (r : Fin 4096) (n : Fin 5632) : val_main_v15 (F := Ideal) (up w) (up e) (ix2 r n) = (E w e r (sh n) (pl n) : EReal) := by
  pointwise [val_main_v15, val_main_v1, val_main_v9, val_main_v4]
  simp only [up, mul_coe, coe_sum, E]

theorem v12_2 (r : Fin 4096) (n : Fin 5632) : val_main_v12_2 (F := Ideal) (up h) (up g) (ix2 r n) = (sg (A h g r (sh n) (pl n)) : EReal) := by
  pointwise [val_main_v12_2, val_main_call0_v4, val_main_call0_cst_0, val_main_call0_v3, val_main_call0_v2, val_main_call0_cst, val_main_call0_v1, val_main_call0_v0]
  rw [v10]
  simp only [one_word, neg_coe, exp_coe, add_coe, one_coe, zero_coe, sub_coe]
  rw [div_coe _ _ (one_add_exp_ne _)]
  rfl

theorem v18 (r : Fin 4096) (n : Fin 5632) : val_main_v18 (F := Ideal) (up h) (up g) (up u) (up w) (up e) (ix2 r n) = (DA h g u w e r (sh n) (pl n) : EReal) := by
  pointwise [val_main_v18, val_main_call1_v1, val_main_call1_v2, val_main_call1_v0, val_main_v12_1, val_main_call0_v7, val_main_call0_v6, val_main_call0_cst_1, val_main_v17]
  rw [v10, v12_2, v15, v11]
  simp only [one_word, mul_coe, add_coe, sub_coe, one_coe]
  refine congrArg _ ?_
  unfold DA
  ring

theorem v16 (r : Fin 4096) (n : Fin 5632) : val_main_v16 (F := Ideal) (up h) (up g) (up w) (up e) (ix2 r n) = (DB h g w e r (sh n) (pl n) : EReal) := by
  pointwise [val_main_v16, val_main_v12_0]
  rw [v10, v12_2, v15]
  simp only [mul_coe]
  refine congrArg _ ?_
  unfold DB
  ring

theorem sh_mk (s : Fin 8) (f : Fin 704) (hn) : sh ⟨s.val * 704 + f.val, hn⟩ = s := Fin.ext (by show (s.val * 704 + f.val) / 704 = s.val; omega)
theorem pl_mk (s : Fin 8) (f : Fin 704) (hn) : pl ⟨s.val * 704 + f.val, hn⟩ = f := Fin.ext (by show (s.val * 704 + f.val) % 704 = f.val; omega)

/-- A sum over the hidden units is the shards' sums. -/
theorem sum_units (F : Fin 8 → Fin 704 → ℝ) : ∑ n : Fin 5632, F (sh n) (pl n) = ∑ s : Fin 8, ∑ f : Fin 704, F s f := by
  rw [← Fin.sum_mul_add_fin 8 704 (fun n : Fin 5632 => F (sh n) (pl n))]
  simp only [sh_mk, pl_mk]

theorem ref_da (s : Fin 8) (f : Fin 704) (r : Fin 4096) :
    val_main_v33 (F := Ideal) (up h) (up g) (up u) (up w) (up e) (ix3 s f r) = (DA h g u w e r s f : EReal) := by
  pointwise [val_main_v33, val_main_v32, val_main_v31]
  rw [v18, sh_mk, pl_mk]

theorem ref_db (s : Fin 8) (f : Fin 704) (r : Fin 4096) :
    val_main_v36 (F := Ideal) (up h) (up g) (up w) (up e) (ix3 s f r) = (DB h g w e r s f : EReal) := by
  pointwise [val_main_v36, val_main_v35, val_main_v34]
  rw [v16, sh_mk, pl_mk]

theorem v25 : val_main_v25 (F := Ideal) = val_main_v16 (F := Ideal) := rfl
theorem v28 : val_main_v28 (F := Ideal) = val_main_v18 (F := Ideal) := rfl

theorem ref_dh (r : Fin 4096) (d : Fin 2048) :
    val_main_v30 (F := Ideal) (up h) (up g) (up u) (up w) (up e) (ix2 r d) = ((∑ s : Fin 8, DP h g u w e r s d : ℝ) : EReal) := by
  pointwise [val_main_v30, val_main_v27, val_main_v29, val_main_v8, val_main_v7, val_main_v3, val_main_v6, val_main_v5, val_main_v2]
  simp only [v25, v28, v16, v18, up, mul_coe, coe_sum, add_coe]
  refine EReal.coe_eq_coe_iff.mpr ?_
  rw [add_comm, sum_units (fun s f => DA h g u w e r s f * g (ix3 s d f)), sum_units (fun s f => DB h g w e r s f * u (ix3 s d f)),
    ← Finset.sum_add_distrib]
  rfl

end Cert.Ffn
end
-- ==== Proof.FfnKer.lean ====
/-
  The feed-forward gradient's kernel, at real arguments: real arrays in closed form.
-/
module

public import proofs.«01_k».proof.Proof.Gen.Kernel2Ideal.Frame
public import proofs.«01_k».proof.Proof.FfnRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen Cert.Lift

variable (m : (ℓ : Loc nD τ sig) → Buf (Elt Ideal) ℓ)

theorem idx : ∀ t : Fin cfg0.N, win0_0.index t = ![t.val / 8, 0] ∧ win0_1.index t = ![t.val % 8, t.val / 8, 0] ∧ win0_2.index t = ![t.val % 8, t.val / 8, 0]
    ∧ win0_3.index t = ![t.val % 8, 0, 0] ∧ win0_4.index t = ![t.val % 8, 0, 0] ∧ win0_5.index t = ![t.val % 8, 0, 0]
    ∧ win0_6.index t = ![t.val % 8, 0, t.val / 8] ∧ win0_7.index t = ![t.val % 8, 0, t.val / 8] ∧ win0_8.index t = ![t.val / 8, 0] :=
  (by decide +kernel : ∀ t : Fin grid0.N, _)

/-- A point's row of the whole array, and its shard. -/
abbrev row (t : Fin cfg0.N) (r : Fin 512) : Fin 4096 := ⟨t.val / 8 * 512 + r.val, by have : cfg0.N = 64 := rfl; omega⟩
abbrev shard (t : Fin cfg0.N) : Fin 8 := ⟨t.val % 8, by omega⟩

section
variable (x0 : FVec Ideal S512x2048 .bf16) (x1 : FVec Ideal S1x704x2048 .bf16) (x4 x7 : FVec Ideal S1x512x704 .bf16) (r : Fin 512) (f : Fin 704)
variable (D va vb : ℝ) (hD : k0_pay5 (F := Ideal) x0 x1 (ix2 r f) = (D : EReal)) (ha : x4 (ix3 0 r f) = (va : EReal)) (hb : x7 (ix3 0 r f) = (vb : EReal))

include hD ha hb in
theorem pay8 : k0_pay8 (F := Ideal) x0 x1 x4 x7 (ix2 r f) = ((D * vb * (sg va * (1 + va * (1 - sg va))) : ℝ) : EReal) := by
  pointwise [k0_pay8, k0_pay6, k0_pay7]
  rw [hD, ha, hb]
  simp only [one_coe, zero_coe, sub_coe, exp_coe, add_coe, div_coe _ _ (one_add_exp_ne _), mul_coe, zero_sub]
  rfl

include hD ha in
theorem pay9 : k0_pay9 (F := Ideal) x0 x1 x4 (ix2 r f) = ((D * (va * sg va) : ℝ) : EReal) := by
  pointwise [k0_pay9, k0_pay6, k0_pay7]
  rw [hD, ha]
  simp only [one_coe, zero_coe, sub_coe, exp_coe, add_coe, div_coe _ _ (one_add_exp_ne _), mul_coe, zero_sub]
  rfl

theorem pay10 (z : Fin 1) : k0_pay10 (F := Ideal) x0 x1 x4 x7 (ix3 z f r) = k0_pay8 (F := Ideal) x0 x1 x4 x7 (ix2 r f) := by
  pointwise [k0_pay10]

theorem pay11 (z : Fin 1) : k0_pay1 (F := Ideal) (k0_pay11 (F := Ideal) x0 x1 x4) (ix3 z f r) = k0_pay9 (F := Ideal) x0 x1 x4 (ix2 r f) := by
  pointwise [k0_pay1, k0_pay11]

theorem pay2 (da db : FVec Ideal S512x704 .f32) (y z : FVec Ideal S1x2048x704 .bf16) (d : Fin 2048) :
    k0_pay2 (F := Ideal) da db y z (ix2 r d) = ∑ f : Fin 704, da (ix2 r f) * y (ix3 0 d f) + ∑ f : Fin 704, db (ix2 r f) * z (ix3 0 d f) := by
  pointwise [k0_pay2]

theorem pay3 (da db : FVec Ideal S512x704 .f32) (y z : FVec Ideal S1x2048x704 .bf16) : k0_pay3 (F := Ideal) da db y z = k0_pay2 (F := Ideal) da db y z := by
  funext j; idx_vars j
  pointwise [k0_pay3]

theorem pay4 (da db : FVec Ideal S512x704 .f32) (y z : FVec Ideal S1x2048x704 .bf16) (v : FVec Ideal S512x2048 .f32) (j) :
    k0_pay4 (F := Ideal) da db y z v j = v j + k0_pay2 (F := Ideal) da db y z j := by
  idx_vars j
  pointwise [k0_pay4]
end

variable (c : Dev nD) (h : S4096x2048.Idx → ℝ) (g u : S8x2048x704.Idx → ℝ) (w : S8x704x2048.Idx → ℝ) (e : S4096x2048.Idx → ℝ)

/-- The arguments are real arrays. -/
structure Args : Prop where
  a0 : m ((c : Thread nD τ).loc main_arg0) = up h
  a1 : m ((c : Thread nD τ).loc main_arg1) = up g
  a2 : m ((c : Thread nD τ).loc main_arg2) = up u
  a3 : m ((c : Thread nD τ).loc main_arg3) = up w
  a4 : m ((c : Thread nD τ).loc main_arg4) = up e

variable (H : Args m c h g u w e) (t : Fin cfg0.N)
include H

theorem iblk0 (r : Fin 512) (d : Fin 2048) : (iblk m c 0 t : FVec Ideal S512x2048 .bf16) (ix2 r d) = (e (ix2 (row t r) d) : EReal) := by
  obtain ⟨h0, h1, h2, h3, h4, h5, h6, h7, h8⟩ := idx t
  refine Eq.trans ?_ (congrFun H.a4 (ix2 (row t r) d))
  blk_point [iblk, V, h0]
theorem iblk5 (f : Fin 704) (d : Fin 2048) : (iblk m c 5 t : FVec Ideal S1x704x2048 .bf16) (ix3 0 f d) = (w (ix3 (shard t) f d) : EReal) := by
  obtain ⟨h0, h1, h2, h3, h4, h5, h6, h7, h8⟩ := idx t
  refine Eq.trans ?_ (congrFun H.a3 (ix3 (shard t) f d))
  blk_point [iblk, V, h5]
theorem iblk3 (d : Fin 2048) (f : Fin 704) : (iblk m c 3 t : FVec Ideal S1x2048x704 .bf16) (ix3 0 d f) = (g (ix3 (shard t) d f) : EReal) := by
  obtain ⟨h0, h1, h2, h3, h4, h5, h6, h7, h8⟩ := idx t
  refine Eq.trans ?_ (congrFun H.a1 (ix3 (shard t) d f))
  blk_point [iblk, V, h3]
theorem iblk4 (d : Fin 2048) (f : Fin 704) : (iblk m c 4 t : FVec Ideal S1x2048x704 .bf16) (ix3 0 d f) = (u (ix3 (shard t) d f) : EReal) := by
  obtain ⟨h0, h1, h2, h3, h4, h5, h6, h7, h8⟩ := idx t
  refine Eq.trans ?_ (congrFun H.a2 (ix3 (shard t) d f))
  blk_point [iblk, V, h4]
theorem host1 (s : Fin 8) (r : Fin 4096) (f : Fin 704) : (V m c main_v5 : FVec Ideal S8x4096x704 .bf16) (ix3 s r f) = (A h g r s f : EReal) := by
  have key : (V m c main_v5 : FVec Ideal S8x4096x704 .bf16) (ix3 s r f) = ∑ d : Fin 2048, up g (ix3 s d f) * up h (ix2 r d) := by
    rw [← H.a0, ← H.a1]
    entry_read
    pointwise
  rw [key]
  simp only [up, mul_coe, coe_sum, A, mul_comm]
theorem iblk1 (r : Fin 512) (f : Fin 704) : (iblk m c 1 t : FVec Ideal S1x512x704 .bf16) (ix3 0 r f) = (A h g (row t r) (shard t) f : EReal) := by
  obtain ⟨h0, h1, h2, h3, h4, h5, h6, h7, h8⟩ := idx t
  rw [← host1 m c h g u w e H]
  blk_point [iblk, h1]

theorem host2 (s : Fin 8) (r : Fin 4096) (f : Fin 704) : (V m c main_v8 : FVec Ideal S8x4096x704 .bf16) (ix3 s r f) = (A h u r s f : EReal) := by
  have key : (V m c main_v8 : FVec Ideal S8x4096x704 .bf16) (ix3 s r f) = ∑ d : Fin 2048, up u (ix3 s d f) * up h (ix2 r d) := by
    rw [← H.a0, ← H.a2]
    entry_read
    pointwise
  rw [key]
  simp only [up, mul_coe, coe_sum, A, mul_comm]
theorem iblk2 (r : Fin 512) (f : Fin 704) : (iblk m c 2 t : FVec Ideal S1x512x704 .bf16) (ix3 0 r f) = (A h u (row t r) (shard t) f : EReal) := by
  obtain ⟨h0, h1, h2, h3, h4, h5, h6, h7, h8⟩ := idx t
  rw [← host2 m c h g u w e H]
  blk_point [iblk, h2]

theorem pay5 (r : Fin 512) (f : Fin 704) : k0_pay5 (F := Ideal) (iblk m c 0 t) (iblk m c 5 t) (ix2 r f) = (E w e (row t r) (shard t) f : EReal) := by
  pointwise [k0_pay5]
  simp only [iblk0 m c h g u w e H, iblk5 m c h g u w e H, mul_coe, coe_sum, E]

theorem da (r : Fin 512) (f : Fin 704) : k0_pay8 (F := Ideal) (iblk m c 0 t) (iblk m c 5 t) (iblk m c 1 t) (iblk m c 2 t) (ix2 r f)
    = (DA h g u w e (row t r) (shard t) f : EReal) :=
  pay8 _ _ _ _ _ _ _ _ _ (pay5 m c h g u w e H t r f) (iblk1 m c h g u w e H t r f) (iblk2 m c h g u w e H t r f)
theorem db (r : Fin 512) (f : Fin 704) : k0_pay9 (F := Ideal) (iblk m c 0 t) (iblk m c 5 t) (iblk m c 1 t) (ix2 r f)
    = (DB h g w e (row t r) (shard t) f : EReal) :=
  pay9 _ _ _ _ _ _ _ (pay5 m c h g u w e H t r f) (iblk1 m c h g u w e H t r f)

/-- A point's part of the input's gradient. -/
theorem dp (r : Fin 512) (d : Fin 2048) : k0_pay2 (F := Ideal) (k0_pay8 (F := Ideal) (iblk m c 0 t) (iblk m c 5 t) (iblk m c 1 t) (iblk m c 2 t))
    (k0_pay9 (F := Ideal) (iblk m c 0 t) (iblk m c 5 t) (iblk m c 1 t)) (iblk m c 3 t) (iblk m c 4 t) (ix2 r d)
    = (DP h g u w e (row t r) (shard t) d : EReal) := by
  rw [pay2]
  simp only [da m c h g u w e H, db m c h g u w e H, iblk3 m c h g u w e H, iblk4 m c h g u w e H, mul_coe, coe_sum, add_coe, DP]

omit H in
theorem outs6 : (outsAt0 m c t.val t.isLt).1 = k0_pay10 (F := Ideal) (iblk m c 0 t) (iblk m c 5 t) (iblk m c 1 t) (iblk m c 2 t) := by
  by_cases h0 : t.val % 8 = 0
  · rw [outsAt0_A m c t h0 (by omega) (by omega)]; frame_out
  · by_cases h1 : t.val % 8 = 7
    · rw [outsAt0_C m c t h0 (by omega) h1]; frame_out
    · rw [outsAt0_B m c t h0 (by omega) h1]; frame_out
omit H in
theorem outs7 : (outsAt0 m c t.val t.isLt).2.1 = k0_pay1 (F := Ideal) (k0_pay11 (F := Ideal) (iblk m c 0 t) (iblk m c 5 t) (iblk m c 1 t)) := by
  by_cases h0 : t.val % 8 = 0
  · rw [outsAt0_A m c t h0 (by omega) (by omega)]; frame_out
  · by_cases h1 : t.val % 8 = 7
    · rw [outsAt0_C m c t h0 (by omega) h1]; frame_out
    · rw [outsAt0_B m c t h0 (by omega) h1]; frame_out

/-- The three results, as arrays. -/
def DAv : FVec Ideal S8x704x4096 .bf16 := fun i => (DA h g u w e (i 2) (i 0) (i 1) : EReal)
def DBv : FVec Ideal S8x704x4096 .bf16 := fun i => (DB h g w e (i 2) (i 0) (i 1) : EReal)
def DHv : FVec Ideal S4096x2048 .f32 := fun i => ((∑ s : Fin 8, DP h g u w e (i 0) s (i 1) : ℝ) : EReal)

theorem final6 : (dats m 0 c).arrAt 6 (cfgs 0).N = DAv h g u w e := by
  refine (dats m 0 c).arrAt_eq_of_covers 6 _ (by decide +kernel) fun t hf y => ?_
  blk_simp
  rw [after0_6, outs6]
  obtain ⟨h0, h1, h2, h3, h4, h5, h6, h7, h8⟩ := idx t
  idx_vars y
  rw [pay10]
  refine (da m c h g u w e H t y2 y1).trans ?_
  show DAv h g u w e (ix3 (shard t) y1 (row t y2)) = _
  blk_ext [h6]

theorem final7 : (dats m 0 c).arrAt 7 (cfgs 0).N = DBv h g w e := by
  refine (dats m 0 c).arrAt_eq_of_covers 7 _ (by decide +kernel) fun t hf y => ?_
  blk_simp
  rw [after0_7, outs7]
  obtain ⟨h0, h1, h2, h3, h4, h5, h6, h7, h8⟩ := idx t
  idx_vars y
  rw [pay11]
  refine (db m c h g u w e H t y2 y1).trans ?_
  show DBv h g w e (ix3 (shard t) y1 (row t y2)) = _
  blk_ext [h7]

omit H in
theorem outs8 (ht : t.val % 8 = 7) : (outsAt0 m c t.val t.isLt).2.2.1 = (outsAt0 m c t.val t.isLt).2.2.2 := by
  rw [outsAt0_C m c t (by omega) (by omega) ht]; frame_out

/-- A point's part of the input's gradient, as an array. -/
def part (t : Fin cfg0.N) : FVec Ideal S512x2048 .f32 := fun j => (DP h g u w e (row t (j 0)) (shard t) (j 1) : EReal)

theorem part_eq (j : S512x2048.Idx) : k0_pay2 (F := Ideal) (k0_pay8 (F := Ideal) (iblk m c 0 t) (iblk m c 5 t) (iblk m c 1 t) (iblk m c 2 t))
    (k0_pay9 (F := Ideal) (iblk m c 0 t) (iblk m c 5 t) (iblk m c 1 t)) (iblk m c 3 t) (iblk m c 4 t) j = part h g u w e t j := by
  idx_vars j
  exact dp m c h g u w e H t j0 j1

theorem acc (ht : t.val % 8 = 7) (j : S512x2048.Idx) : (outsAt0 m c t.val t.isLt).2.2.2 j
    = ((∑ s : Fin 8, DP h g u w e (row t (j 0)) s (j 1) : ℝ) : EReal) := by
  rw [Pipeline.eq_sum_fin_of_reset_step_apply_of_flush (fun n h => (outsAt0 m c n h).2.2.2) 8 (fun _ => 0) (part h g u w e)
    (fun t hz j => by
      rw [outsAt0_A m c t hz (by omega) (by omega)]; frame_out; rw [pay3, part_eq m c h g u w e H, zero_add])
    (fun t hz j => by
      by_cases h1 : t.val % 8 = 7
      · rw [outsAt0_C m c t hz (by omega) h1]; frame_out; rw [pay4, part_eq m c h g u w e H, read_unread_whole]
      · rw [outsAt0_B m c t hz (by omega) h1]; frame_out; rw [pay4, part_eq m c h g u w e H, read_unread_whole])
    t ht j, zero_add, ← coe_sum]
  refine Finset.sum_congr rfl fun s _ => ?_
  unfold part
  congr 2
  · exact Fin.ext (by show (8 * (t.val / 8) + s.val) / 8 * 512 + _ = t.val / 8 * 512 + _; omega)
  · exact Fin.ext (by show (8 * (t.val / 8) + s.val) % 8 = s.val; omega)

theorem final8 : (dats m 0 c).arrAt 8 (cfgs 0).N = DHv h g u w e := by
  refine (dats m 0 c).arrAt_eq_of_covers 8 _ (by decide +kernel) fun t hf y => ?_
  blk_simp
  have ht := (flush0_8 t).mp hf
  rw [after0_8, outs8 m c t ht, acc m c h g u w e H t ht]
  obtain ⟨h0, h1, h2, h3, h4, h5, h6, h7, h8⟩ := idx t
  idx_vars y
  show DHv h g u w e (ix2 (row t y0) y1) = _
  blk_ext [h8]

end Cert.Ffn
end
-- ==== Proof.FfnClaims.lean ====
/-
  The claims about the feed-forward block's gradient.
-/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.FfnKer
public import Idealize.ShloMosaic.Lib.Claim

@[expose] public section

set_option maxRecDepth 16384

noncomputable section

open Idealize.ShloMosaic Idealize.ShloMosaic.TcCoe Idealize.SL.Sem
open Cert.Lift

namespace Cert.Ffn

theorem frame_p : Cert.quiescent_Kernel2 (hKernel2 := Cert.Kernel2.Gen.facts) := fun m ρ _ => Cert.Kernel2.Gen.frame m ρ

theorem frame_pi : Cert.quiescent_Kernel2Ideal (hKernel2Ideal := Cert.Kernel2Ideal.Gen.facts) := fun m ρ _ => Cert.Kernel2Ideal.Gen.frame m ρ

theorem frame_pi_fin : Cert.quiescent_Kernel2Ideal_pre_finite2 (hKernel2Ideal := Cert.Kernel2Ideal.Gen.facts)
    (hPre_finite2 := Cert.Pre_finite2.Gen.facts) := fun m ρ _ => Cert.Kernel2Ideal.Gen.frame m ρ

theorem frame_ri : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem frame_ri_fin : Cert.quiescent_Reference2Ideal_pre_finite2 (hReference2Ideal := Cert.Reference2Ideal.Gen.facts)
    (hPre_finite2 := Cert.Pre_finite2.Gen.facts) := fun m ρ _ => frame_ri m ρ trivial

/-- Finite arguments are real arrays. -/
theorem args (m) (h : Cert.Pre_Kernel2Ideal_finite2 (hPre_finite2 := Cert.Pre_finite2.Gen.facts) m) (c) :
    ∃ h g u w e, Args m c h g u w e :=
  ⟨_, _, _, _, _, real_of _ _ (h c).1, real_of _ _ (h c).2.1, real_of _ _ (h c).2.2.1, real_of _ _ (h c).2.2.2.1, real_of _ _ (h c).2.2.2.2⟩

section
variable (m : (ℓ : Loc Cert.Kernel2Ideal.nD Cert.Kernel2Ideal.τ Cert.Kernel2Ideal.sig) → Buf (Elt Ideal) ℓ) (c : Dev Cert.Kernel2Ideal.nD)
  (hpre : Cert.Pre_Kernel2Ideal_finite2 (hPre_finite2 := Cert.Pre_finite2.Gen.facts) m)
include hpre

open Cert.Kernel2Ideal Cert.Reference2Ideal.Read Cert.Kernel2Ideal.Value

theorem res6 : val_main_v33 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = G6 m c := by
  obtain ⟨h, g, u, w, e, H⟩ := args m hpre c
  refine Eq.trans ?_ ((final6 m c h g u w e H).symm.trans (Cert.Kernel2Ideal.Value.final6 m c))
  refine (show _ = val_main_v33 (F := Ideal) (up h) (up g) (up u) (up w) (up e) by rw [← H.a0, ← H.a1, ← H.a2, ← H.a3, ← H.a4]).trans ?_
  funext i; idx_vars i; exact ref_da h g u w e _ _ _

theorem res7 : val_main_v36 (F := Ideal) (m ((c.tc : Thread nD τ).loc main_arg0)) (m ((c.tc : Thread nD τ).loc main_arg1))
    (m ((c.tc : Thread nD τ).loc main_arg3)) (m ((c.tc : Thread nD τ).loc main_arg4)) = G7 m c := by
  obtain ⟨h, g, u, w, e, H⟩ := args m hpre c
  refine Eq.trans ?_ ((final7 m c h g u w e H).symm.trans (Cert.Kernel2Ideal.Value.final7 m c))
  refine (show _ = val_main_v36 (F := Ideal) (up h) (up g) (up w) (up e) by rw [← H.a0, ← H.a1, ← H.a3, ← H.a4]).trans ?_
  funext i; idx_vars i; exact ref_db h g w e _ _ _

theorem res8 : val_main_v30 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = G8 m c := by
  obtain ⟨h, g, u, w, e, H⟩ := args m hpre c
  refine Eq.trans ?_ ((final8 m c h g u w e H).symm.trans (Cert.Kernel2Ideal.Value.final8 m c))
  refine (show _ = val_main_v30 (F := Ideal) (up h) (up g) (up u) (up w) (up e) by rw [← H.a0, ← H.a1, ← H.a2, ← H.a3, ← H.a4]).trans ?_
  funext i; idx_vars i; exact ref_dh h g u w e _ _

end

/-- The kernel's three gradients are the reference's. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  refine ⟨_, _, _, Cert.Kernel2Ideal.Value.run m g,
    (θ_run Cert.Reference2Ideal.defs _ _).mono (fun r h c => ?_) (Cert.Reference2Ideal.Value.run (F := Ideal) m' g')⟩
  obtain ⟨e0, e1, e2, e3, e4⟩ := hagree c
  obtain ⟨h0, h1, h2, h3⟩ := h c
  refine ⟨(h0.trans (Cert.Reference2Ideal.Read.val_main_v33_eq _ _ _ _ _)).trans ?_,
    (h1.trans (Cert.Reference2Ideal.Read.val_main_v36_eq _ _ _ _)).trans ?_,
    (h2.trans (Cert.Reference2Ideal.Read.val_main_v30_eq m' c)).trans ?_, h3⟩
  · rw [e0, e1, e2, e3, e4]; exact res6 m c hpre
  · rw [e0, e1, e3, e4]; exact res7 m c hpre
  · rw [e0, e1, e2, e3, e4]; exact res8 m c hpre

end Cert.Ffn

end
-- ==== Proof.Softmax.lean ====
/-
  A softmax over real scores: the greatest score, the exponentials' sum, the probabilities.
-/
module

public import proofs.«01_k».proof.Proof.Lift

@[expose] public section

noncomputable section

open Idealize.ShloMosaic

namespace Cert.Softmax

open Cert.Lift

variable {ι : Type*} [Fintype ι] [Nonempty ι]

/-- The greatest score. -/
def top (x : ι → ℝ) : ℝ := Finset.univ.sup' Finset.univ_nonempty x
def ex (x : ι → ℝ) (i : ι) : ℝ := Real.exp (x i - top x)
/-- The exponentials' sum. -/
def tot (x : ι → ℝ) : ℝ := ∑ i, ex x i
def prob (x : ι → ℝ) (i : ι) : ℝ := ex x i / tot x

theorem tot_pos (x : ι → ℝ) : 0 < tot x := Finset.sum_pos (fun _ _ => Real.exp_pos _) Finset.univ_nonempty
theorem tot_ne (x : ι → ℝ) : tot x ≠ 0 := (tot_pos x).ne'

theorem bot_word : Ideal.ofBits FTy.f32 0xFF800000#32 = ⊥ := by
  simp [Ideal.ofBits, Ideal.ieee]

/-- The fold of `max` from −∞ is the greatest score. -/
theorem fold_top (x : ι → ℝ) (f : ι → EReal) (hf : ∀ i, f i = (x i : EReal)) :
    Finset.fold max (Ideal.ofBits FTy.f32 0xFF800000#32) f Finset.univ = (top x : EReal) := by
  rw [bot_word]
  refine le_antisymm ((Finset.fold_max_le _).mpr ⟨bot_le, fun i hi => ?_⟩) ?_
  · rw [hf]; exact EReal.coe_le_coe_iff.mpr (Finset.le_sup' x hi)
  · obtain ⟨i, hi, e⟩ := Finset.exists_mem_eq_sup' Finset.univ_nonempty x
    refine (Finset.le_fold_max _).mpr (Or.inr ⟨i, hi, ?_⟩)
    rw [hf, top, e]

theorem inv_coe (a : ℝ) (h : a ≠ 0) : Ideal.div 1 (a : EReal) = ((1 / a : ℝ) : EReal) := by
  rw [one_coe, div_coe _ _ h]

/-- A sum over a leading and a last axis of length one is its only term. -/
theorem reduce_units {n₁ n₂ : ℕ} (h : (⟨4, ![1, n₁, n₂, 1]⟩ : Shape).ReducesTo [0, 3] ⟨2, ![n₁, n₂]⟩)
    (v : (⟨4, ![1, n₁, n₂, 1]⟩ : Shape).Idx → EReal) (init : EReal) (a : Fin n₁) (b : Fin n₂) :
    Ideal.hostReduceAdd h v init (ix2 a b) = init + v (ix4 0 a b 0) := by
  unfold Ideal.hostReduceAdd
  refine congrArg (init + ·) ?_
  refine Finset.sum_eq_single_of_mem _ (Finset.mem_filter.mpr ⟨Finset.mem_univ _, ?_⟩) fun i hi hne => absurd ?_ hne
  · funext c
    match c with
    | ⟨0, _⟩ => rfl
    | ⟨1, _⟩ => rfl
  · have e := (Finset.mem_filter.mp hi).2
    funext c
    match c with
    | ⟨0, _⟩ => exact Fin.ext (by have := (i ⟨0, (by omega : 0 < 4)⟩).isLt; exact Nat.lt_one_iff.mp this)
    | ⟨1, _⟩ => exact congrFun e 0
    | ⟨2, _⟩ => exact congrFun e 1
    | ⟨3, _⟩ => exact Fin.ext (by have := (i ⟨3, (by omega : 3 < 4)⟩).isLt; exact Nat.lt_one_iff.mp this)

end Cert.Softmax

end
-- ==== Proof.XattnRef.lean ====
/-
  The cross-attention gradient's reference, at real arguments: real arrays in closed form.
-/
module

public import proofs.«01_k».proof.Proof.Gen.Reference3Ideal.Read
public import proofs.«01_k».proof.Proof.Softmax

@[expose] public section

set_option maxRecDepth 16384

noncomputable section

open Idealize.ShloMosaic Idealize.ShloMosaic.TcCoe Idealize.SL.Sem

namespace Cert.Xattn

open Cert.Reference3Ideal Cert.Reference3Ideal.Read Cert.Lift Cert.Softmax

/-- A head's column. -/
abbrev col (h : Fin 4) (d : Fin 128) : Fin 512 := ⟨h.val * 128 + d.val, by omega⟩
abbrev hd (n : Fin 512) : Fin 4 := ⟨n.val / 128, by omega⟩
abbrev wi (n : Fin 512) : Fin 128 := ⟨n.val % 128, by omega⟩
theorem col_hd (n : Fin 512) : col (hd n) (wi n) = n := Fin.ext (by show n.val / 128 * 128 + n.val % 128 = n.val; omega)

/-- The scores' scale. -/
def κ : ℝ := (Ideal.ofBits FTy.f32 0x3DB504F3#32).toReal
theorem κ_word : Ideal.ofBits FTy.f32 0x3DB504F3#32 = (κ : EReal) := by
  refine (EReal.coe_toReal ?_ ?_).symm <;> simp [Ideal.ofBits, Ideal.ieee, ← EReal.coe_mul]

variable (q : S4096x512.Idx → ℝ) (k v : S256x512.Idx → ℝ) (e : S4096x512.Idx → ℝ)

/-- A head's scores, and its probabilities' cotangent. -/
def SC (h : Fin 4) (r : Fin 4096) (s : Fin 256) : ℝ := (∑ d : Fin 128, q (ix2 r (col h d)) * k (ix2 s (col h d))) * κ
def DPr (h : Fin 4) (r : Fin 4096) (s : Fin 256) : ℝ := ∑ d : Fin 128, e (ix2 r (col h d)) * v (ix2 s (col h d))
/-- The scores' cotangent, with the scale. -/
def DS (h : Fin 4) (r : Fin 4096) (s : Fin 256) : ℝ :=
  prob (SC q k h r) s * (DPr v e h r s - ∑ s' : Fin 256, prob (SC q k h r) s' * DPr v e h r s') * κ

theorem v9 (z : Fin 1) (h : Fin 4) (r : Fin 4096) (s : Fin 256) : val_main_v9 (F := Ideal) (up q) (up k) (ix4 z h r s) = (SC q k h r s : EReal) := by
  pointwise [val_main_v9, val_main_v7, val_main_v4, val_main_v5, val_main_v0, val_main_v1,val_main_v8, val_main_cst]
  simp only [κ_word, up, mul_coe, coe_sum, SC]

theorem v10 (z : Fin 1) (h : Fin 4) (r : Fin 4096) : val_main_v10 (F := Ideal) (up q) (up k) (ix3 z h r) = (top (SC q k h r) : EReal) := by
  obtain rfl : z = 0 := Subsingleton.elim _ _
  have h9 := v9 q k 0 h r
  unfold val_main_v10
  generalize val_main_v9 (F := Ideal) (up q) (up k) = W at h9 ⊢
  pointwise [val_main_cst_0]
  exact fold_top (SC q k h r) _ h9

theorem v17 (z : Fin 1) (h : Fin 4) (r : Fin 4096) : val_main_v17 (F := Ideal) (up q) (up k) (ix3 z h r) = (top (SC q k h r) : EReal) := by
  rw [val_main_v17_apply, v10, val_main_v16_apply]
  show max (Ideal.ofBits FTy.f32 0xFF800000#32) _ = _
  rw [bot_word, max_eq_right bot_le]

theorem v28 (z : Fin 1) (h : Fin 4) (r : Fin 4096) (s : Fin 256) : val_main_v28 (F := Ideal) (up q) (up k) (ix4 z h r s) = (top (SC q k h r) : EReal) := by
  have h17 := v17 q k 0 h r
  unfold val_main_v28 val_main_v27
  generalize val_main_v17 (F := Ideal) (up q) (up k) = M at h17 ⊢
  pointwise
  exact h17

theorem v30 (z : Fin 1) (h : Fin 4) (r : Fin 4096) (s : Fin 256) : val_main_v30 (F := Ideal) (up q) (up k) (ix4 z h r s) = (ex (SC q k h r) s : EReal) := by
  rw [val_main_v30_apply, val_main_v29_apply, v9, v28]
  show Ideal.exp ((SC q k h r s : EReal) - (top (SC q k h r) : EReal)) = _
  rw [sub_coe, exp_coe]
  rfl

theorem v31 (z : Fin 1) (h : Fin 4) (r : Fin 4096) : val_main_v31 (F := Ideal) (up q) (up k) (ix3 z h r) = (tot (SC q k h r) : EReal) := by
  obtain rfl : z = 0 := Subsingleton.elim _ _
  have h30 := v30 q k 0 h r
  unfold val_main_v31
  generalize val_main_v30 (F := Ideal) (up q) (up k) = W at h30 ⊢
  pointwise [val_main_cst_8]
  simp only [h30, coe_sum, tot]

theorem v32 (z : Fin 1) (h : Fin 4) (r : Fin 4096) (z' : Fin 1) : val_main_v32 (F := Ideal) (up q) (up k) (ix4 z h r z') = (tot (SC q k h r) : EReal) := by
  have h31 := v31 q k 0 h r
  unfold val_main_v32
  generalize val_main_v31 (F := Ideal) (up q) (up k) = W at h31 ⊢
  pointwise
  exact h31

theorem v34 (z : Fin 1) (h : Fin 4) (r : Fin 4096) (s : Fin 256) : val_main_v34 (F := Ideal) (up q) (up k) (ix4 z h r s) = (prob (SC q k h r) s : EReal) := by
  have h30 := v30 q k z h r s
  have h32 := v32 q k 0 h r 0
  unfold val_main_v34 val_main_v33
  generalize val_main_v30 (F := Ideal) (up q) (up k) = W at h30 ⊢
  generalize val_main_v32 (F := Ideal) (up q) (up k) = M at h32 ⊢
  pointwise
  rw [h30, h32, div_coe _ _ (tot_ne _)]
  rfl

theorem v37 (z : Fin 1) (h : Fin 4) (r : Fin 4096) (z' : Fin 1) :
    val_main_v37 (F := Ideal) (up q) (up k) (ix4 z h r z') = ((1 / (tot (SC q k h r) * tot (SC q k h r)) : ℝ) : EReal) := by
  have h32 := v32 q k z h r z'
  unfold val_main_v37 val_main_v35
  generalize val_main_v32 (F := Ideal) (up q) (up k) = M at h32 ⊢
  pointwise [val_main_v36, val_main_cst_9]
  rw [h32, mul_coe, inv_coe _ (mul_ne_zero (tot_ne _) (tot_ne _))]

theorem v43 (z : Fin 1) (h : Fin 4) (r : Fin 4096) (s : Fin 256) : val_main_v43 (F := Ideal) (up v) (up e) (ix4 z h r s) = (DPr v e h r s : EReal) := by
  pointwise [val_main_v43, val_main_v42, val_main_v41, val_main_v6, val_main_v3, val_main_v2]
  simp only [up, mul_coe, coe_sum, DPr]

/-- The sum that the quotient's gradient carries to its divisor. -/
theorem v49 (z : Fin 1) (h : Fin 4) (r : Fin 4096) : val_main_v49 (F := Ideal) (up q) (up k) (up v) (up e) (ix3 z h r)
    = ((∑ s : Fin 256, DPr v e h r s * (1 / (tot (SC q k h r) * tot (SC q k h r))) * ex (SC q k h r) s : ℝ) : EReal) := by
  obtain rfl : z = 0 := Subsingleton.elim _ _
  have h30 := v30 q k 0 h r
  have h37 := v37 q k 0 h r 0
  have h43 := v43 v e 0 h r
  unfold val_main_v49 val_main_v48 val_main_v47 val_main_v46
  generalize val_main_v30 (F := Ideal) (up q) (up k) = W at h30 ⊢
  generalize val_main_v37 (F := Ideal) (up q) (up k) = M at h37 ⊢
  generalize val_main_v43 (F := Ideal) (up v) (up e) = N at h43 ⊢
  pointwise [val_main_cst_10]
  simp only [h30, h37, h43, mul_coe, coe_sum]

theorem v55 (z : Fin 1) (h : Fin 4) (r : Fin 4096) : val_main_v55 (F := Ideal) (up q) (up k) (up v) (up e) (ix3 z h r)
    = ((-∑ s : Fin 256, DPr v e h r s * (1 / (tot (SC q k h r) * tot (SC q k h r))) * ex (SC q k h r) s : ℝ) : EReal) := by
  have h49 := v49 q k v e 0 h r
  unfold val_main_v55 val_main_v54 val_main_v51 val_main_v50
  generalize val_main_v49 (F := Ideal) (up q) (up k) (up v) (up e) = N at h49 ⊢
  pointwise [val_main_cst_11]
  rw [reduce_units]
  pointwise
  rw [h49, neg_coe]

theorem v60 (z : Fin 1) (h : Fin 4) (r : Fin 4096) (s : Fin 256) : val_main_v60 (F := Ideal) (up q) (up k) (up v) (up e) (ix4 z h r s) = (DS q k v e h r s : EReal) := by
  have h30 := v30 q k z h r s
  have h32 := v32 q k 0 h r 0
  have h43 := v43 v e z h r s
  have h55 := v55 q k v e 0 h r
  unfold val_main_v60 val_main_v58 val_main_v57 val_main_v56 val_main_v53 val_main_v52
  generalize val_main_v30 (F := Ideal) (up q) (up k) = W at h30 ⊢
  generalize val_main_v32 (F := Ideal) (up q) (up k) = M at h32 ⊢
  generalize val_main_v43 (F := Ideal) (up v) (up e) = N at h43 ⊢
  generalize val_main_v55 (F := Ideal) (up q) (up k) (up v) (up e) = L at h55 ⊢
  pointwise [val_main_v59, val_main_cst_12]
  rw [h30, h32, h43, h55, κ_word, div_coe _ _ (tot_ne _)]
  simp only [add_coe, mul_coe]
  refine congrArg _ ?_
  have ht := tot_ne (SC q k h r)
  have hsum : ∑ s : Fin 256, DPr v e h r s * (1 / (tot (SC q k h r) * tot (SC q k h r))) * ex (SC q k h r) s
      = (∑ s : Fin 256, prob (SC q k h r) s * DPr v e h r s) / tot (SC q k h r) := by
    rw [Finset.sum_div]
    refine Finset.sum_congr rfl fun s _ => ?_
    unfold prob
    field_simp
  rw [hsum]
  unfold DS
  conv_rhs => rw [prob]
  field_simp
  ring

def DV (s : Fin 256) (h : Fin 4) (d : Fin 128) : ℝ := ∑ r : Fin 4096, prob (SC q k h r) s * e (ix2 r (col h d))
def DK (s : Fin 256) (h : Fin 4) (d : Fin 128) : ℝ := ∑ r : Fin 4096, DS q k v e h r s * q (ix2 r (col h d))
def DQ (r : Fin 4096) (h : Fin 4) (d : Fin 128) : ℝ := ∑ s : Fin 256, DS q k v e h r s * k (ix2 s (col h d))

theorem v65 (s : Fin 256) (n : Fin 512) : val_main_v65 (F := Ideal) (up q) (up k) (up e) (ix2 s n) = (DV q k e s (hd n) (wi n) : EReal) := by
  have h34 := fun r => v34 q k 0 (hd n) r s
  unfold val_main_v65 val_main_v45 val_main_v44
  generalize val_main_v34 (F := Ideal) (up q) (up k) = W at h34 ⊢
  pointwise [val_main_v42, val_main_v41, val_main_v3]
  simp only [h34, up, mul_coe, coe_sum, DV, col_hd]
  refine congrArg _ (Finset.sum_congr rfl fun r _ => mul_comm _ _)

theorem v66 (s : Fin 256) (n : Fin 512) : val_main_v66 (F := Ideal) (up q) (up k) (up v) (up e) (ix2 s n) = (DK q k v e s (hd n) (wi n) : EReal) := by
  have h60 := fun r => v60 q k v e 0 (hd n) r s
  unfold val_main_v66 val_main_v62 val_main_v61
  generalize val_main_v60 (F := Ideal) (up q) (up k) (up v) (up e) = W at h60 ⊢
  pointwise [val_main_v4, val_main_v0]
  simp only [h60, up, mul_coe, coe_sum, DK, col_hd]

theorem v68 (r : Fin 4096) (n : Fin 512) : val_main_v68 (F := Ideal) (up q) (up k) (up v) (up e) (ix2 r n) = (DQ q k v e r (hd n) (wi n) : EReal) := by
  have h60 := fun s => v60 q k v e 0 (hd n) r s
  unfold val_main_v68 val_main_v67 val_main_v64 val_main_v63
  generalize val_main_v60 (F := Ideal) (up q) (up k) (up v) (up e) = W at h60 ⊢
  pointwise [val_main_v5, val_main_v1]
  simp only [h60, up, mul_coe, coe_sum, DQ, col_hd]

end Cert.Xattn

end
-- ==== Proof.XattnKer.lean ====
/-
  The cross-attention gradient's kernel, at real arguments: real arrays in closed form.
-/
module

public import proofs.«01_k».proof.Proof.Gen.Kernel3Ideal.Frame
public import proofs.«01_k».proof.Proof.XattnRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Xattn

open Cert.Kernel3Ideal Cert.Kernel3Ideal.Gen Cert.Lift Cert.Softmax

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- A point's row of the whole array. -/
abbrev row (t : Fin cfg0.N) (r : Fin 512) : Fin 4096 := ⟨t.val * 512 + r.val, by have : cfg0.N = 8 := rfl; omega⟩

/-- A head's columns of an array. -/
theorem ld_head {n : ℕ} {ε : EltTy} (X : (⟨2, ![n, 512]⟩ : Shape).Idx → Elt Ideal ε) (h : Fin 4) (o : ℕ) (ho : o = h.val * 128) (inb) (r : Fin n) (d : Fin 128) :
    View.ld (Val := Elt Ideal) X (Rect.unit (s := ⟨2, ![n, 512]⟩) ![0, o] ![n, 128] inb) (ix2 r d) = X (ix2 r (col h d)) := by
  subst ho
  refine View.ld_unit_apply_of X _ _ inb _ _ fun a => ?_
  match a with
  | ⟨0, _⟩ => exact (Nat.zero_add _).symm
  | ⟨1, _⟩ => rfl

variable (q : S4096x512.Idx → ℝ) (k v : S256x512.Idx → ℝ) (e : S4096x512.Idx → ℝ)

/-- A head's columns of a point's operands. -/
structure Head (t : Fin cfg0.N) (h : Fin 4) (x : FVec Ideal S512x128 .bf16) (y z : FVec Ideal S256x128 .bf16) (w : FVec Ideal S512x128 .bf16) : Prop where
  hx : ∀ r d, x (ix2 r d) = (q (ix2 (row t r) (col h d)) : EReal)
  hy : ∀ s d, y (ix2 s d) = (k (ix2 s (col h d)) : EReal)
  hz : ∀ s d, z (ix2 s d) = (v (ix2 s (col h d)) : EReal)
  hw : ∀ r d, w (ix2 r d) = (e (ix2 (row t r) (col h d)) : EReal)

/-- A point's terms of the keys' and values' gradients. -/
def DVp (t : Fin cfg0.N) (s : Fin 256) (h : Fin 4) (d : Fin 128) : ℝ := ∑ r : Fin 512, prob (SC q k h (row t r)) s * e (ix2 (row t r) (col h d))
def DKp (t : Fin cfg0.N) (s : Fin 256) (h : Fin 4) (d : Fin 128) : ℝ := ∑ r : Fin 512, DS q k v e h (row t r) s * q (ix2 (row t r) (col h d))

section
variable {q k v e}
variable {t : Fin cfg0.N} {h : Fin 4} {x w : FVec Ideal S512x128 .bf16} {y z : FVec Ideal S256x128 .bf16} (H : Head q k v e t h x y z w)
include H

theorem pay8 (r : Fin 512) (s : Fin 256) : k0_pay8 (F := Ideal) x y (ix2 r s) = (prob (SC q k h (row t r)) s : EReal) := by
  have hsc : ∀ s, (∑ d, x (ix2 r d) * y (ix2 s d)) * Ideal.ofBits FTy.f32 0x3DB504F3#32 = (SC q k h (row t r) s : EReal) := fun s => by
    simp only [H.hx, H.hy, κ_word, mul_coe, coe_sum, SC]
  have hf := fold_top (SC q k h (row t r)) (fun s => (SC q k h (row t r) s : EReal)) fun _ => rfl
  pointwise [k0_pay8]
  simp only [hsc, hf, sub_coe, exp_coe, coe_sum]
  rw [show (∑ s, Real.exp (SC q k h (row t r) s - top (SC q k h (row t r)))) = tot (SC q k h (row t r)) from rfl, inv_coe _ (tot_ne _), mul_coe, mul_one_div]
  rfl

/-- The scores' cotangent. -/
theorem pay11 (r : Fin 512) (s : Fin 256) : k0_pay11 (F := Ideal) (k0_pay10 (F := Ideal) x y z w) (Ideal.ofBits FTy.f32 0x3DB504F3#32) (ix2 r s)
    = (DS q k v e h (row t r) s : EReal) := by
  pointwise [k0_pay11, k0_pay10]
  simp only [pay8 H, H.hz, H.hw, κ_word, mul_coe, coe_sum, sub_coe]
  rfl

theorem pay12 (r : Fin 512) (d : Fin 128) : k0_pay12 (F := Ideal) y (k0_pay10 (F := Ideal) x y z w) (FloatOps.ofBits FTy.f32 0x3DB504F3#32) (ix2 r d)
    = (DQ q k v e (row t r) h d : EReal) := by
  pointwise [k0_pay12]
  simp only [pay11 H, H.hy, mul_coe, coe_sum, DQ]

theorem pay13 (A : FVec Ideal S256x512 .f32) (a : FVec Ideal S256x128 .f32) (ha : ∀ s d, a (ix2 s d) = A (ix2 s (col h d))) (s : Fin 256) (d : Fin 128) :
    k0_pay13 (F := Ideal) x (k0_pay10 (F := Ideal) x y z w) (FloatOps.ofBits FTy.f32 0x3DB504F3#32) a (ix2 s d)
      = A (ix2 s (col h d)) + (DKp q k v e t s h d : EReal) := by
  pointwise [k0_pay13]
  simp only [pay11 H, H.hx, mul_coe, coe_sum, DKp, ha]

theorem pay9 (A : FVec Ideal S256x512 .f32) (a : FVec Ideal S256x128 .f32) (ha : ∀ s d, a (ix2 s d) = A (ix2 s (col h d))) (s : Fin 256) (d : Fin 128) :
    k0_pay9 (F := Ideal) x y w a (ix2 s d) = A (ix2 s (col h d)) + (DVp q k e t s h d : EReal) := by
  pointwise [k0_pay9]
  simp only [pay8 H, H.hw, mul_coe, coe_sum, DVp, ha]

end

theorem hd_col (h : Fin 4) (d : Fin 128) : hd (col h d) = h := Fin.ext (by show (h.val * 128 + d.val) / 128 = h.val; omega)
theorem wi_col (h : Fin 4) (d : Fin 128) : wi (col h d) = d := Fin.ext (by show (h.val * 128 + d.val) % 128 = d.val; omega)

/-- An array whose columns are heads'. -/
def heads {n : ℕ} (g : Fin n → Fin 4 → Fin 128 → ℝ) : FVec Ideal ⟨2, ![n, 512]⟩ .f32 := fun i => (g (i 0) (hd (i 1)) (wi (i 1)) : EReal)

/-- A head's columns of a buffer are its part of the whole. -/
theorem piece (A : FVec Ideal S256x512 .f32) (g : Fin 256 → Fin 4 → Fin 128 → ℝ) (p : FVec Ideal S256x128 .f32) (h : Fin 4) (o : ℕ) (ho : o = h.val * 128)
    (inb) (hp : ∀ s d, p (ix2 s d) = A (ix2 s (col h d)) + (g s h d : EReal)) (j : S256x128.Idx) :
    p j = A ((Rect.unit (s := S256x512) ![0, o] ![256, 128] inb).emb j) + heads g ((Rect.unit (s := S256x512) ![0, o] ![256, 128] inb).emb j) := by
  subst ho
  idx_vars j
  rw [hp]
  have hi : (Rect.unit (s := S256x512) ![0, h.val * 128] ![256, 128] inb).emb (ix2 j0 j1) = ix2 j0 (col h j1) := by
    funext a
    apply Fin.ext
    match a with
    | ⟨0, _⟩ => show 0 + 1 * j0.val = j0.val; omega
    | ⟨1, _⟩ => show h.val * 128 + 1 * j1.val = h.val * 128 + j1.val; omega
  rw [hi]
  show _ = _ + (g j0 (hd (col h j1)) (wi (col h j1)) : EReal)
  rw [hd_col, wi_col]

variable (c : Dev nD)

/-- The arguments are real arrays. -/
structure Args : Prop where
  a0 : m ((c : Thread nD τ).loc main_arg0) = up q
  a1 : m ((c : Thread nD τ).loc main_arg1) = up k
  a2 : m ((c : Thread nD τ).loc main_arg2) = up v
  a3 : m ((c : Thread nD τ).loc main_arg3) = up e

variable (H : Args m q k v e c) (t : Fin cfg0.N)
include H

theorem iblk0 (r : Fin 512) (n : Fin 512) : (iblk m c 0 t : FVec Ideal S512x512 .bf16) (ix2 r n) = (q (ix2 (row t r) n) : EReal) := by
  obtain ⟨h0, h1, h2, h3, h4, h5, h6⟩ := idx t
  refine Eq.trans ?_ (congrFun H.a0 (ix2 (row t r) n))
  blk_point [iblk, V, h0]
theorem iblk1 (s : Fin 256) (n : Fin 512) : (iblk m c 1 t : FVec Ideal S256x512 .bf16) (ix2 s n) = (k (ix2 s n) : EReal) := by
  obtain ⟨h0, h1, h2, h3, h4, h5, h6⟩ := idx t
  refine Eq.trans ?_ (congrFun H.a1 (ix2 s n))
  blk_point [iblk, V, h1]
theorem iblk2 (s : Fin 256) (n : Fin 512) : (iblk m c 2 t : FVec Ideal S256x512 .bf16) (ix2 s n) = (v (ix2 s n) : EReal) := by
  obtain ⟨h0, h1, h2, h3, h4, h5, h6⟩ := idx t
  refine Eq.trans ?_ (congrFun H.a2 (ix2 s n))
  blk_point [iblk, V, h2]
theorem iblk3 (r : Fin 512) (n : Fin 512) : (iblk m c 3 t : FVec Ideal S512x512 .bf16) (ix2 r n) = (e (ix2 (row t r) n) : EReal) := by
  obtain ⟨h0, h1, h2, h3, h4, h5, h6⟩ := idx t
  refine Eq.trans ?_ (congrFun H.a3 (ix2 (row t r) n))
  blk_point [iblk, V, h3]

theorem head (h : Fin 4) (o : ℕ) (ho : o = h.val * 128) (inb inb') : Head q k v e t h
    (View.ld (iblk m c 0 t) (Rect.unit (s := S512x512) ![0, o] ![512, 128] inb)) (View.ld (iblk m c 1 t) (Rect.unit (s := S256x512) ![0, o] ![256, 128] inb'))
    (View.ld (iblk m c 2 t) (Rect.unit (s := S256x512) ![0, o] ![256, 128] inb')) (View.ld (iblk m c 3 t) (Rect.unit (s := S512x512) ![0, o] ![512, 128] inb)) where
  hx r d := (ld_head _ h o ho inb r d).trans (iblk0 m q k v e c H t r _)
  hy s d := (ld_head _ h o ho inb' s d).trans (iblk1 m q k v e c H t s _)
  hz s d := (ld_head _ h o ho inb' s d).trans (iblk2 m q k v e c H t s _)
  hw r d := (ld_head _ h o ho inb r d).trans (iblk3 m q k v e c H t r _)

omit H in
/-- Four heads' columns over earlier stores. -/
theorem canon4 (A : FVec Ideal S256x512 .f32) (g : Fin 256 → Fin 4 → Fin 128 → ℝ) (p3 p2 p1 p0 : FVec Ideal S256x128 .f32) (i3 i2 i1 i0)
    (e3 : ∀ s d, p3 (ix2 s d) = A (ix2 s (col 3 d)) + (g s 3 d : EReal)) (e2 : ∀ s d, p2 (ix2 s d) = A (ix2 s (col 2 d)) + (g s 2 d : EReal))
    (e1 : ∀ s d, p1 (ix2 s d) = A (ix2 s (col 1 d)) + (g s 1 d : EReal)) (e0 : ∀ s d, p0 (ix2 s d) = A (ix2 s (col 0 d)) + (g s 0 d : EReal))
    (L : List (View.Piece (Elt Ideal) S256x512 .f32)) (j : S256x512.Idx) :
    View.canon (Val := Elt Ideal) (e := .f32) ([⟨Rect.unit (s := S256x512) ![0, 384] ![256, 128] i3, p3⟩, ⟨Rect.unit (s := S256x512) ![0, 256] ![256, 128] i2, p2⟩,
      ⟨Rect.unit (s := S256x512) ![0, 128] ![256, 128] i1, p1⟩, ⟨Rect.unit (s := S256x512) ![0, 0] ![256, 128] i0, p0⟩] ++ L) j = A j + heads g j := by
  refine View.canon_append_of_piecesOf (fun j => A j + heads g j) L [⟨Rect.unit (s := S256x512) ![0, 384] ![256, 128] i3, p3⟩, ⟨Rect.unit (s := S256x512) ![0, 256] ![256, 128] i2, p2⟩,
    ⟨Rect.unit (s := S256x512) ![0, 128] ![256, 128] i1, p1⟩, ⟨Rect.unit (s := S256x512) ![0, 0] ![256, 128] i0, p0⟩] ?_ j (View.cover_of_tiledL _ ![256, 128] (by sl_kernel_rfl) j)
  exact ⟨piece A g p3 3 384 rfl i3 e3, piece A g p2 2 256 rfl i2 e2, piece A g p1 1 128 rfl i1 e1, piece A g p0 0 0 rfl i0 e0, trivial⟩

theorem dkA (h0 : t.val % 8 = 0) (j : S256x512.Idx) : (outsAt0 m c t.val t.isLt).2.1 j = 0 + heads (DKp q k v e t) j := by
  rw [outsAt0_A m c t h0]
  frame_open
  simp (disch := decide) only [↓ View.readCov_skip, ↓ View.readCov_cons_toLoadRect, ↓ View.readCov_fill]
  frame_out
  refine (canon4 (k0_pay6 (F := Ideal)) (DKp q k v e t) _ _ _ _ _ _ _ _ ?_ ?_ ?_ ?_ [_] j).trans (congrArg (· + heads (DKp q k v e t) j) (by idx_vars j; pointwise [k0_pay6]))
  · exact pay13 (head m q k v e c H t 3 384 rfl _ _) _ _ (ld_head _ 3 384 rfl _)
  · exact pay13 (head m q k v e c H t 2 256 rfl _ _) _ _ (ld_head _ 2 256 rfl _)
  · exact pay13 (head m q k v e c H t 1 128 rfl _ _) _ _ (ld_head _ 1 128 rfl _)
  · exact pay13 (head m q k v e c H t 0 0 rfl _ _) _ _ (ld_head _ 0 0 rfl _)

theorem dkB (h0 : ¬t.val % 8 = 0) (j : S256x512.Idx) : (outsAt0 m c t.val t.isLt).2.1 j
    = (outsAt0 m c (t.val - 1) (Nat.lt_of_le_of_lt (Nat.sub_le _ _) t.isLt)).2.1 j + heads (DKp q k v e t) j := by
  rw [outsAt0_B m c t h0]
  frame_open
  simp (disch := decide) only [↓ View.readCov_skip, ↓ View.readCov_cons_toLoadRect, ↓ View.readCov_fill]
  frame_out
  refine canon4 (outsAt0 m c (t.val - 1) (Nat.lt_of_le_of_lt (Nat.sub_le _ _) t.isLt)).2.1 (DKp q k v e t) _ _ _ _ _ _ _ _ ?_ ?_ ?_ ?_ [] j
  · exact pay13 (head m q k v e c H t 3 384 rfl _ _) _ _ (ld_head _ 3 384 rfl _)
  · exact pay13 (head m q k v e c H t 2 256 rfl _ _) _ _ (ld_head _ 2 256 rfl _)
  · exact pay13 (head m q k v e c H t 1 128 rfl _ _) _ _ (ld_head _ 1 128 rfl _)
  · exact pay13 (head m q k v e c H t 0 0 rfl _ _) _ _ (ld_head _ 0 0 rfl _)

theorem dvA (h0 : t.val % 8 = 0) (j : S256x512.Idx) : (outsAt0 m c t.val t.isLt).2.2 j = 0 + heads (DVp q k e t) j := by
  rw [outsAt0_A m c t h0]
  frame_open
  simp (disch := decide) only [↓ View.readCov_skip, ↓ View.readCov_cons_toLoadRect, ↓ View.readCov_fill]
  frame_out
  refine (canon4 (k0_pay7 (F := Ideal)) (DVp q k e t) _ _ _ _ _ _ _ _ ?_ ?_ ?_ ?_ [_] j).trans (congrArg (· + heads (DVp q k e t) j) (by idx_vars j; pointwise [k0_pay7]))
  · exact pay9 (head m q k v e c H t 3 384 rfl _ _) _ _ (ld_head _ 3 384 rfl _)
  · exact pay9 (head m q k v e c H t 2 256 rfl _ _) _ _ (ld_head _ 2 256 rfl _)
  · exact pay9 (head m q k v e c H t 1 128 rfl _ _) _ _ (ld_head _ 1 128 rfl _)
  · exact pay9 (head m q k v e c H t 0 0 rfl _ _) _ _ (ld_head _ 0 0 rfl _)

theorem dvB (h0 : ¬t.val % 8 = 0) (j : S256x512.Idx) : (outsAt0 m c t.val t.isLt).2.2 j
    = (outsAt0 m c (t.val - 1) (Nat.lt_of_le_of_lt (Nat.sub_le _ _) t.isLt)).2.2 j + heads (DVp q k e t) j := by
  rw [outsAt0_B m c t h0]
  frame_open
  simp (disch := decide) only [↓ View.readCov_skip, ↓ View.readCov_cons_toLoadRect, ↓ View.readCov_fill]
  frame_out
  refine canon4 (outsAt0 m c (t.val - 1) (Nat.lt_of_le_of_lt (Nat.sub_le _ _) t.isLt)).2.2 (DVp q k e t) _ _ _ _ _ _ _ _ ?_ ?_ ?_ ?_ [] j
  · exact pay9 (head m q k v e c H t 3 384 rfl _ _) _ _ (ld_head _ 3 384 rfl _)
  · exact pay9 (head m q k v e c H t 2 256 rfl _ _) _ _ (ld_head _ 2 256 rfl _)
  · exact pay9 (head m q k v e c H t 1 128 rfl _ _) _ _ (ld_head _ 1 128 rfl _)
  · exact pay9 (head m q k v e c H t 0 0 rfl _ _) _ _ (ld_head _ 0 0 rfl _)

omit H in
/-- The rows are the points' rows. -/
theorem sum_rows (f : Fin 4096 → ℝ) : ∑ t : Fin cfg0.N, ∑ r : Fin 512, f (row t r) = ∑ r : Fin 4096, f r := by
  rw [← Fintype.sum_prod_type']
  exact Fintype.sum_equiv (finProdFinEquiv.trans (finCongr (by decide))) _ _ fun x =>
    congrArg f (Fin.ext (by show x.1.val * 512 + x.2.val = x.2.val + 512 * x.1.val; omega))

theorem dk (ht : t.val + 1 = cfg0.N) (j : S256x512.Idx) : (outsAt0 m c t.val t.isLt).2.1 j = heads (DK q k v e) j := by
  rw [Pipeline.eq_sum_fin_of_reset_step_apply_last (fun n h => (outsAt0 m c n h).2.1) 8 (fun _ => 0) (fun t => heads (DKp q k v e t))
    (fun t hz j => dkA m q k v e c H t hz j) (fun t hz j => dkB m q k v e c H t hz j) (by decide) t ht j, zero_add]
  show ∑ t : Fin cfg0.N, ((DKp q k v e t (j 0) (hd (j 1)) (wi (j 1)) : ℝ) : EReal) = _
  rw [coe_sum]
  exact congrArg _ (sum_rows fun r => DS q k v e (hd (j 1)) r (j 0) * q (ix2 r (col (hd (j 1)) (wi (j 1)))))

theorem dv (ht : t.val + 1 = cfg0.N) (j : S256x512.Idx) : (outsAt0 m c t.val t.isLt).2.2 j = heads (DV q k e) j := by
  rw [Pipeline.eq_sum_fin_of_reset_step_apply_last (fun n h => (outsAt0 m c n h).2.2) 8 (fun _ => 0) (fun t => heads (DVp q k e t))
    (fun t hz j => dvA m q k v e c H t hz j) (fun t hz j => dvB m q k v e c H t hz j) (by decide) t ht j, zero_add]
  show ∑ t : Fin cfg0.N, ((DVp q k e t (j 0) (hd (j 1)) (wi (j 1)) : ℝ) : EReal) = _
  rw [coe_sum]
  exact congrArg _ (sum_rows fun r => prob (SC q k (hd (j 1)) r) (j 0) * e (ix2 r (col (hd (j 1)) (wi (j 1)))))

theorem dq (r : Fin 512) (n : Fin 512) : (outsAt0 m c t.val t.isLt).1 (ix2 r n) = (DQ q k v e (row t r) (hd n) (wi n) : EReal) := by
  have key : ∃ w0 w1 w2 w3 : FVec Ideal S512x128 .f32, (outsAt0 m c t.val t.isLt).1 = truncf .bf16 (concatenate S512x512 1
      [⟨S512x128, w0⟩, ⟨S512x128, w1⟩, ⟨S512x128, w2⟩, ⟨S512x128, w3⟩] concatenates_S512x128_S512x128_S512x128_S512x128_S512x512_d1) bitsLt_bf16_f32
      ∧ (∀ r d, w0 (ix2 r d) = (DQ q k v e (row t r) 0 d : EReal)) ∧ (∀ r d, w1 (ix2 r d) = (DQ q k v e (row t r) 1 d : EReal))
      ∧ (∀ r d, w2 (ix2 r d) = (DQ q k v e (row t r) 2 d : EReal)) ∧ (∀ r d, w3 (ix2 r d) = (DQ q k v e (row t r) 3 d : EReal)) := by
    refine ⟨_, _, _, _, ?_, pay12 (head m q k v e c H t 0 0 rfl inb_S512x512_S512x128_0_0 inb_S256x512_S256x128_0_0),
      pay12 (head m q k v e c H t 1 128 rfl inb_S512x512_S512x128_0_128 inb_S256x512_S256x128_0_128),
      pay12 (head m q k v e c H t 2 256 rfl inb_S512x512_S512x128_0_256 inb_S256x512_S256x128_0_256),
      pay12 (head m q k v e c H t 3 384 rfl inb_S512x512_S512x128_0_384 inb_S256x512_S256x128_0_384)⟩
    by_cases h0 : t.val % 8 = 0
    · rw [outsAt0_A m c t h0]; frame_out; rfl
    · rw [outsAt0_B m c t h0]; frame_out; rfl
  obtain ⟨w0, w1, w2, w3, e1, k0, k1, k2, k3⟩ := key
  rw [e1]
  pointwise
  have part : ∀ (g : Fin 4) (b : Fin 128), g.val * 128 + b.val = n.val → g = hd n ∧ b = wi n := fun g b hb =>
    ⟨Fin.ext (by show g.val = n.val / 128; omega), Fin.ext (by show b.val = n.val % 128; omega)⟩
  by_cases h1 : n.val < 128
  · obtain ⟨ha, hb⟩ := part 0 ⟨n.val, h1⟩ (by simp)
    rw [dif_pos h1, k0, ← ha, ← hb]
  by_cases h2 : n.val - 128 < 128
  · obtain ⟨ha, hb⟩ := part 1 ⟨n.val - 128, h2⟩ (by show 1 * 128 + (n.val - 128) = n.val; omega)
    rw [dif_neg h1, dif_pos h2, k1, ← ha, ← hb]
  by_cases h3 : n.val - 128 - 128 < 128
  · obtain ⟨ha, hb⟩ := part 2 ⟨n.val - 128 - 128, h3⟩ (by show 2 * 128 + (n.val - 128 - 128) = n.val; omega)
    rw [dif_neg h1, dif_neg h2, dif_pos h3, k2, ← ha, ← hb]
  · obtain ⟨ha, hb⟩ := part 3 ⟨n.val - 128 - 128 - 128, by omega⟩ (by show 3 * 128 + (n.val - 128 - 128 - 128) = n.val; omega)
    rw [dif_neg h1, dif_neg h2, dif_neg h3, k3, ← ha, ← hb]

/-- The three results, as arrays. -/
def DQv : FVec Ideal S4096x512 .bf16 := fun i => (DQ q k v e (i 0) (hd (i 1)) (wi (i 1)) : EReal)
def DKv : FVec Ideal S256x512 .f32 := heads (DK q k v e)
def DVv : FVec Ideal S256x512 .f32 := heads (DV q k e)

theorem final4 : (dats m 0 c).arrAt 4 (cfgs 0).N = DQv q k v e := by
  refine (dats m 0 c).arrAt_eq_of_covers 4 _ (by decide +kernel) fun t hf y => ?_
  blk_simp
  rw [after0_4]
  obtain ⟨h0, h1, h2, h3, h4, h5, h6⟩ := idx t
  idx_vars y
  refine (dq m q k v e c H t y0 y1).trans ?_
  show DQv q k v e (ix2 (row t y0) y1) = _
  blk_ext [h4]

theorem final5 : (dats m 0 c).arrAt 5 (cfgs 0).N = DKv q k v e := by
  refine (dats m 0 c).arrAt_eq_of_covers 5 _ (by decide +kernel) fun t hf y => ?_
  blk_simp
  have ht := (flush0_5 t).mp hf
  obtain ⟨h0, h1, h2, h3, h4, h5, h6⟩ := idx t
  rw [after0_5, dk m q k v e c H t (by have := t.isLt; have hN : cfg0.N = 8 := rfl; omega)]
  idx_vars y
  show DKv q k v e (ix2 y0 y1) = _
  blk_ext [h5]

theorem final6 : (dats m 0 c).arrAt 6 (cfgs 0).N = DVv q k e := by
  refine (dats m 0 c).arrAt_eq_of_covers 6 _ (by decide +kernel) fun t hf y => ?_
  blk_simp
  have ht := (flush0_6 t).mp hf
  obtain ⟨h0, h1, h2, h3, h4, h5, h6⟩ := idx t
  rw [after0_6, dv m q k v e c H t (by have := t.isLt; have hN : cfg0.N = 8 := rfl; omega)]
  idx_vars y
  show DVv q k e (ix2 y0 y1) = _
  blk_ext [h6]

end Cert.Xattn

end
-- ==== Proof.XattnClaims.lean ====
/-
  The claims about the cross-attention's gradient.
-/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.XattnKer
public import Idealize.ShloMosaic.Lib.Claim

@[expose] public section

set_option maxRecDepth 16384

noncomputable section

open Idealize.ShloMosaic Idealize.ShloMosaic.TcCoe Idealize.SL.Sem
open Cert.Lift

namespace Cert.Xattn

theorem frame_p : Cert.quiescent_Kernel3 (hKernel3 := Cert.Kernel3.Gen.facts) := fun m ρ _ => Cert.Kernel3.Gen.frame m ρ

theorem frame_pi : Cert.quiescent_Kernel3Ideal (hKernel3Ideal := Cert.Kernel3Ideal.Gen.facts) := fun m ρ _ => Cert.Kernel3Ideal.Gen.frame m ρ

theorem frame_ri : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem frame_pi_fin : Cert.quiescent_Kernel3Ideal_pre_finite3 (hKernel3Ideal := Cert.Kernel3Ideal.Gen.facts)
    (hPre_finite3 := Cert.Pre_finite3.Gen.facts) := fun m ρ _ => Cert.Kernel3Ideal.Gen.frame m ρ

theorem frame_ri_fin : Cert.quiescent_Reference3Ideal_pre_finite3 (hReference3Ideal := Cert.Reference3Ideal.Gen.facts)
    (hPre_finite3 := Cert.Pre_finite3.Gen.facts) := fun m ρ _ => frame_ri m ρ trivial

/-- Finite arguments are real arrays. -/
theorem args (m) (h : Cert.Pre_Kernel3Ideal_finite3 (hPre_finite3 := Cert.Pre_finite3.Gen.facts) m) (c) :
    ∃ q k v e, Args m q k v e c :=
  ⟨_, _, _, _, real_of _ _ (h c).1, real_of _ _ (h c).2.1, real_of _ _ (h c).2.2.1, real_of _ _ (h c).2.2.2⟩

section
variable (m : (ℓ : Loc Cert.Kernel3Ideal.nD Cert.Kernel3Ideal.τ Cert.Kernel3Ideal.sig) → Buf (Elt Ideal) ℓ) (c : Dev Cert.Kernel3Ideal.nD)
  (hpre : Cert.Pre_Kernel3Ideal_finite3 (hPre_finite3 := Cert.Pre_finite3.Gen.facts) m)
include hpre

open Cert.Kernel3Ideal Cert.Reference3Ideal.Read

theorem res4 : val_main_v68 (F := Ideal) (m ((c.tc : Thread nD τ).loc main_arg0)) (m ((c.tc : Thread nD τ).loc main_arg1)) (m ((c.tc : Thread nD τ).loc main_arg2)) (m ((c.tc : Thread nD τ).loc main_arg3)) = (Cert.Kernel3Ideal.Gen.dats m 0 c).arrAt 4 Cert.Kernel3Ideal.cfg0.N := by
  obtain ⟨q, k, v, e, H⟩ := args m hpre c
  refine Eq.trans ?_ (final4 m q k v e c H).symm
  refine (show _ = val_main_v68 (F := Ideal) (up q) (up k) (up v) (up e) by rw [← H.a0, ← H.a1, ← H.a2, ← H.a3]).trans ?_
  funext i; idx_vars i; exact v68 q k v e _ _

theorem res5 : val_main_v66 (F := Ideal) (m ((c.tc : Thread nD τ).loc main_arg0)) (m ((c.tc : Thread nD τ).loc main_arg1)) (m ((c.tc : Thread nD τ).loc main_arg2)) (m ((c.tc : Thread nD τ).loc main_arg3)) = (Cert.Kernel3Ideal.Gen.dats m 0 c).arrAt 5 Cert.Kernel3Ideal.cfg0.N := by
  obtain ⟨q, k, v, e, H⟩ := args m hpre c
  refine Eq.trans ?_ (final5 m q k v e c H).symm
  refine (show _ = val_main_v66 (F := Ideal) (up q) (up k) (up v) (up e) by rw [← H.a0, ← H.a1, ← H.a2, ← H.a3]).trans ?_
  funext i; idx_vars i; exact v66 q k v e _ _

theorem res6 : val_main_v65 (F := Ideal) (m ((c.tc : Thread nD τ).loc main_arg0)) (m ((c.tc : Thread nD τ).loc main_arg1)) (m ((c.tc : Thread nD τ).loc main_arg3)) = (Cert.Kernel3Ideal.Gen.dats m 0 c).arrAt 6 Cert.Kernel3Ideal.cfg0.N := by
  obtain ⟨q, k, v, e, H⟩ := args m hpre c
  refine Eq.trans ?_ (final6 m q k v e c H).symm
  refine (show _ = val_main_v65 (F := Ideal) (up q) (up k) (up e) by rw [← H.a0, ← H.a1, ← H.a3]).trans ?_
  funext i; idx_vars i; exact v65 q k e _ _

end

/-- The kernel's three gradients are the reference's. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  refine ⟨_, _, _, Cert.Kernel3Ideal.Value.run_blocks m g,
    (θ_run Cert.Reference3Ideal.defs _ _).mono (fun r h c => ?_) (Cert.Reference3Ideal.Value.run (F := Ideal) m' g')⟩
  obtain ⟨e0, e1, e2, e3⟩ := hagree c
  obtain ⟨h0, h1, h2, h3⟩ := h c
  refine ⟨(h0.trans (Cert.Reference3Ideal.Read.val_main_v68_eq m' c)).trans ?_,
    (h1.trans (Cert.Reference3Ideal.Read.val_main_v66_eq m' c)).trans ?_,
    (h2.trans (Cert.Reference3Ideal.Read.val_main_v65_eq _ _ _)).trans ?_, h3⟩
  · rw [e0, e1, e2, e3]; exact res4 m c hpre
  · rw [e0, e1, e2, e3]; exact res5 m c hpre
  · rw [e0, e1, e3]; exact res6 m c hpre

end Cert.Xattn

end
-- ==== Proof.Norm.lean ====
/-
  A norm's gradient at real arguments: the reference's stages, and the real numbers they are.
-/
module

public import proofs.«01_k».proof.Proof.Lift
public import proofs.«01_k».proof.Proof.Gen.Reference4Ideal.Read
public import proofs.«01_k».proof.Proof.Gen.Reference5Ideal.Read

@[expose] public section

set_option maxRecDepth 16384

noncomputable section

open Idealize.ShloMosaic Idealize.ShloMosaic.TcCoe Idealize.SL.Sem

namespace Cert.Norm

open Cert.Lift

/-- The norm's small addend. -/
def ε : ℝ := 8796093 / 8796093022208
theorem ε_word : Ideal.ofBits FTy.f32 0x358637BD#32 = (ε : EReal) := by
  simp [Ideal.ofBits, Ideal.ieee, ← EReal.coe_mul, ε]; norm_num
theorem width_word : Ideal.ofBits FTy.f32 0x45000000#32 = ((2048 : ℝ) : EReal) := by
  simp [Ideal.ofBits, Ideal.ieee, ← EReal.coe_mul]; norm_num
theorem neg_half_word : Ideal.ofBits FTy.f32 0xBF000000#32 = ((-(1 / 2) : ℝ) : EReal) := by
  simp [Ideal.ofBits, Ideal.ieee, ← EReal.coe_mul]; norm_num

/-- A row's mean square, and the inverse of its root. -/
def ms (u : Fin 2048 → ℝ) : ℝ := (∑ l, u l * u l) / 2048 + ε
def rs (u : Fin 2048 → ℝ) : ℝ := (Real.sqrt (ms u))⁻¹

theorem ms_pos (u : Fin 2048 → ℝ) : 0 < ms u :=
  add_pos_of_nonneg_of_pos (div_nonneg (Finset.sum_nonneg fun l _ => mul_self_nonneg _) (by norm_num)) (by norm_num [ε])
theorem ms_ne (u : Fin 2048 → ℝ) : ms u ≠ 0 := (ms_pos u).ne'
theorem rsqrt_ms (u : Fin 2048 → ℝ) : Ideal.rsqrt (ms u : EReal) = (rs u : EReal) := by
  rw [Ideal.rsqrt_coe, if_neg (ms_pos u).le.not_gt, if_neg (ms_ne u)]; rfl
theorem rs_div (u : Fin 2048 → ℝ) : rs u / ms u = rs u * (rs u * rs u) := by
  have h : rs u * rs u = (ms u)⁻¹ := by
    unfold rs; rw [← mul_inv, Real.mul_self_sqrt (ms_pos u).le]
  rw [h]; rfl

/-- A row's gradient, of a cotangent `y` of `u · rs u · g`. -/
def grad (u g y : Fin 2048 → ℝ) (l : Fin 2048) : ℝ :=
  rs u * (y l * g l - u l * rs u * ((∑ k, y k * g k * (u k * rs u)) / 2048))

/-- The transposed form of it. -/
theorem grad_eq (u g y : Fin 2048 → ℝ) (l : Fin 2048) :
    y l * g l * rs u + (u l * ((∑ k, u k * (y k * g k)) * (-(1 / 2) * (rs u / ms u)) / 2048) + (∑ k, u k * (y k * g k)) * (-(1 / 2) * (rs u / ms u)) / 2048 * u l) = grad u g y l := by
  have h : (∑ k, y k * g k * (u k * rs u)) = (∑ k, u k * (y k * g k)) * rs u := by
    rw [Finset.sum_mul]; exact Finset.sum_congr rfl fun k _ => by ring
  rw [grad, h, rs_div]; ring

/-- A row of an array, and a one-row array's row. -/
abbrev rw2 {n : ℕ} (u : (⟨2, ![n, 2048]⟩ : Shape).Idx → ℝ) (r : Fin n) : Fin 2048 → ℝ := fun l => u (ix2 r l)
abbrev rw1 (g : (⟨2, ![1, 2048]⟩ : Shape).Idx → ℝ) : Fin 2048 → ℝ := fun l => g (ix2 0 l)

section
open Cert.Reference5Ideal Cert.Reference5Ideal.Read
variable (u : S4096x2048.Idx → ℝ) (g : S1x2048.Idx → ℝ) (y : S4096x2048.Idx → ℝ) (d : FVec Ideal S4096x2048 .f32)

theorem v7 (r : Fin 4096) (z : Fin 1) : val_main_v7 (F := Ideal) (up u) (ix2 r z) = (ms (rw2 u r) : EReal) := by
  pointwise [val_main_v7, val_main_v5, val_main_v3, val_main_v2, val_main_v1, val_main_v4, val_main_v6, val_main_cst, val_main_cst_0, val_main_cst_1]
  simp only [up, mul_coe, coe_sum, zero_word, width_word, ε_word, add_coe, div_coe _ _ (by norm_num : (2048 : ℝ) ≠ 0), zero_coe, zero_add]
  rfl
theorem v8 (r : Fin 4096) (z : Fin 1) : val_main_v8 (F := Ideal) (up u) (ix2 r z) = (rs (rw2 u r) : EReal) := by
  rw [val_main_v8_apply, v7]; exact rsqrt_ms _
theorem v11 (r : Fin 4096) (z : Fin 1) : val_main_v11 (F := Ideal) (up u) (ix2 r z) = ((-(1 / 2) * (rs (rw2 u r) / ms (rw2 u r)) : ℝ) : EReal) := by
  have h7 := v7 u r z
  have h8 := v8 u r z
  unfold val_main_v11 val_main_v10 val_main_v9
  generalize val_main_v7 (F := Ideal) (up u) = W at h7 ⊢
  generalize val_main_v8 (F := Ideal) (up u) = X at h8 ⊢
  pointwise [val_main_cst_2]
  rw [h7, h8, neg_half_word, div_coe _ _ (ms_ne _), mul_coe]
theorem v13 (r : Fin 4096) (l : Fin 2048) : val_main_v13 (F := Ideal) (up u) (ix2 r l) = ((u (ix2 r l) * rs (rw2 u r) : ℝ) : EReal) := by
  have h8 := v8 u r 0
  unfold val_main_v13 val_main_v12
  generalize val_main_v8 (F := Ideal) (up u) = X at h8 ⊢
  pointwise
  rw [h8, ← mul_coe]
theorem v21 (r : Fin 4096) (l : Fin 2048) : val_main_v21 (F := Ideal) (up g) (up y) (ix2 r l) = ((y (ix2 r l) * g (ix2 0 l) : ℝ) : EReal) := by
  pointwise [val_main_v21, val_main_v20, val_main_v14, val_main_v0]
  exact mul_coe _ _
theorem v25 (r : Fin 4096) (z : Fin 1) : val_main_v25 (F := Ideal) (up u) (up g) (up y) (ix2 r z)
    = ((∑ k : Fin 2048, u (ix2 r k) * (y (ix2 r k) * g (ix2 0 k)) : ℝ) : EReal) := by
  have h : ∀ l, val_main_v21 (F := Ideal) (up g) (up y) (ix2 r l) = ((y (ix2 r l) * g (ix2 0 l) : ℝ) : EReal) := v21 g y r
  unfold val_main_v25 val_main_v24 val_main_v23
  generalize val_main_v21 (F := Ideal) (up g) (up y) = W at h ⊢
  pointwise [val_main_cst_5]
  simp only [h, up, mul_coe, coe_sum, zero_word, add_coe, zero_coe, zero_add]
theorem v33 (r : Fin 4096) (l : Fin 2048) : val_main_v33 (F := Ideal) (up u) (up g) (up y) (ix2 r l)
    = (((∑ k : Fin 2048, u (ix2 r k) * (y (ix2 r k) * g (ix2 0 k))) * (-(1 / 2) * (rs (rw2 u r) / ms (rw2 u r))) / 2048 : ℝ) : EReal) := by
  have h1 : ∀ z, _ := v25 u g y r
  have h2 : ∀ z, _ := v11 u r
  unfold val_main_v33 val_main_v32 val_main_v31 val_main_v30 val_main_v29
  generalize val_main_v25 (F := Ideal) (up u) (up g) (up y) = W at h1 ⊢
  generalize val_main_v11 (F := Ideal) (up u) = X at h2 ⊢
  pointwise [val_main_cst_6, val_main_cst_7]
  simp only [h1, h2, mul_coe, width_word, div_coe _ _ (by norm_num : (2048 : ℝ) ≠ 0), zero_word, add_coe, zero_coe, zero_add, coe_sum, Finset.sum_const, Finset.card_univ, Fintype.card_fin, one_smul]

/-- The gradient's three terms. -/
theorem v27 (r : Fin 4096) (l : Fin 2048) : val_main_v27 (F := Ideal) (up u) (up g) (up y) (ix2 r l) = ((y (ix2 r l) * g (ix2 0 l) * rs (rw2 u r) : ℝ) : EReal) := by
  have h1 := v21 g y r l
  have h2 := v8 u r 0
  unfold val_main_v27 val_main_v26
  generalize val_main_v21 (F := Ideal) (up g) (up y) = W at h1 ⊢
  generalize val_main_v8 (F := Ideal) (up u) = X at h2 ⊢
  pointwise
  rw [h1, h2, mul_coe]

/-- The gradient joined to the one that passes it by. -/
theorem v37 (r : Fin 4096) (l : Fin 2048) : val_main_v37 (F := Ideal) (up u) (up g) (up y) d (ix2 r l)
    = (grad (rw2 u r) (rw1 g) (rw2 y r) l : EReal) + d (ix2 r l) := by
  rw [val_main_v37_apply, val_main_v36_apply, val_main_v35_apply, val_main_v34_apply, val_main_v28_apply, v27, v33]
  show (d (ix2 r l) + _ + ((u (ix2 r l) : ℝ) : EReal) * _) + _ * ((u (ix2 r l) : ℝ) : EReal) = _
  rw [mul_coe, mul_coe, add_assoc, add_assoc, add_coe, add_coe, add_comm, ← grad_eq]

/-- The scale's gradient. -/
theorem v38 (z : Fin 1) (l : Fin 2048) : val_main_v38 (F := Ideal) (up u) (up y) (ix2 z l)
    = ((∑ r : Fin 4096, y (ix2 r l) * (u (ix2 r l) * rs (rw2 u r)) : ℝ) : EReal) := by
  have h : ∀ r, val_main_v13 (F := Ideal) (up u) (ix2 r l) = ((u (ix2 r l) * rs (rw2 u r) : ℝ) : EReal) := fun r => v13 u r l
  unfold val_main_v38 val_main_v22 val_main_v19 val_main_v18 val_main_v17
  generalize val_main_v13 (F := Ideal) (up u) = W at h ⊢
  pointwise [val_main_cst_3, val_main_cst_4]
  simp only [h, up, mul_coe, zero_word, add_coe, zero_coe, zero_add, coe_sum, Finset.sum_const, Finset.card_univ, Fintype.card_fin, one_smul]
  exact congrArg _ (Finset.sum_congr rfl fun r _ => mul_comm _ _)
end

section
open Cert.Reference4Ideal Cert.Reference4Ideal.Read
variable (u : S4096x2048.Idx → ℝ) (g : S1x2048.Idx → ℝ) (y : S4096x2048.Idx → ℝ)

/-- Half of an array. -/
abbrev half {ι : Type*} (y : ι → ℝ) : ι → ℝ := fun i => y i * (1 / 2)

theorem v20' : val_main_v20 (F := Ideal) (up y) = up (half y) := by
  funext i; idx_vars i
  pointwise [val_main_v20, val_main_v19, val_main_cst_4]
  rw [half_word, mul_coe, mul_comm]

/-- The halved branch's gradient. -/
theorem v42 (r : Fin 4096) (l : Fin 2048) : val_main_v42 (F := Ideal) (up u) (up g) (up y) (ix2 r l)
    = (grad (rw2 u r) (rw1 g) (rw2 (half y) r) l : EReal) := by
  have h1 : val_main_v31 (F := Ideal) (up u) (up g) (up y) = Reference5Ideal.Read.val_main_v27 (F := Ideal) (up u) (up g) (up (half y)) := by
    rw [← v20']; rfl
  have h2 : val_main_v36 (F := Ideal) (up u) (up g) (up y) = Reference5Ideal.Read.val_main_v33 (F := Ideal) (up u) (up g) (up (half y)) := by
    rw [← v20']; rfl
  have h3 := v27 u g (half y) r l
  have h4 := v33 u g (half y) r l
  rw [← h1] at h3
  rw [← h2] at h4
  show val_main_v40 (F := Ideal) (up u) (up g) (up y) (ix2 r l) = _
  rw [val_main_v40_apply, val_main_v39_apply, val_main_v38_apply, val_main_v37_apply, h3, h4]
  show (_ + ((u (ix2 r l) : ℝ) : EReal) * _) + _ * ((u (ix2 r l) : ℝ) : EReal) = _
  rw [mul_coe, mul_coe, add_assoc, add_coe, add_coe]
  exact congrArg _ (grad_eq (rw2 u r) (rw1 g) (rw2 (half y) r) l)

theorem v41 (z : Fin 1) (l : Fin 2048) : val_main_v41 (F := Ideal) (up u) (up y) (ix2 z l)
    = ((∑ r : Fin 4096, half y (ix2 r l) * (u (ix2 r l) * rs (rw2 u r)) : ℝ) : EReal) := by
  rw [← v38 u (half y) z l, ← v20']; rfl
end

end Cert.Norm

end
-- ==== Proof.NormPay.lean ====
/-
  The norms' gradient kernels: what a point computes of real rows.
-/
module

public import proofs.«01_k».proof.Proof.Gen.Kernel4Ideal.Frame
public import proofs.«01_k».proof.Proof.Gen.Kernel5Ideal.Frame
public import proofs.«01_k».proof.Proof.Norm

@[expose] public section

set_option maxRecDepth 16384

noncomputable section

open Idealize.ShloMosaic Idealize.ShloMosaic.TcCoe Idealize.SL.Sem

namespace Cert.Norm

open Cert.Lift

/-- One point's rows: an array of 256 rows that is real, and a scale. -/
abbrev Rows (x : FVec Ideal Kernel4Ideal.S256x2048 .f32) (u : Fin 256 → Fin 2048 → ℝ) : Prop := ∀ r l, x (ix2 r l) = (u r l : EReal)
abbrev Scale (w : FVec Ideal Kernel4Ideal.S1x2048 .f32) (g : Fin 2048 → ℝ) : Prop := ∀ l, w (ix2 0 l) = (g l : EReal)

section
open Cert.Kernel4Ideal Cert.Kernel4Ideal.Gen
variable {x y : FVec Ideal S256x2048 .f32} {w a : FVec Ideal S1x2048 .f32} {u e : Fin 256 → Fin 2048 → ℝ} {g : Fin 2048 → ℝ}
  (hx : Rows x u) (hw : Scale w g) (hy : Rows y e) (r : Fin 256) (l : Fin 2048)

include hx in
theorem pay3 (z : Fin 1) : k0_pay3 (F := Ideal) x (ix2 r z) = (rs (u r) : EReal) := by
  pointwise [k0_pay3]
  simp only [hx, mul_coe, coe_sum, width_word, ε_word, add_coe, div_coe _ _ (by norm_num : (2048 : ℝ) ≠ 0), zero_coe, zero_add]
  exact rsqrt_ms (u r)
include hx in
theorem pay4 : k0_pay4 (F := Ideal) x (ix2 r l) = ((u r l * rs (u r) : ℝ) : EReal) := by
  have h := pay3 hx r 0
  unfold k0_pay4
  generalize k0_pay3 (F := Ideal) x = W at h ⊢
  pointwise
  rw [h, hx, mul_coe]
include hy in
theorem pay2 : k0_pay2 (F := Ideal) y (ix2 r l) = ((e r l * (1 / 2) : ℝ) : EReal) := by
  pointwise [k0_pay2]
  rw [hy, half_word, mul_coe]
include hx hy in
/-- The scale's gradient, of half the cotangent. -/
theorem pay5 (z : Fin 1) : k0_pay5 (F := Ideal) x y a (ix2 z l) = a (ix2 z l) + ((∑ r : Fin 256, e r l * (1 / 2) * (u r l * rs (u r)) : ℝ) : EReal) := by
  have h : ∀ r, _ := fun r => pay4 hx r l
  have h2 : ∀ r, _ := fun r => pay2 hy r l
  unfold k0_pay5
  generalize k0_pay4 (F := Ideal) x = W at h ⊢
  generalize k0_pay2 (F := Ideal) y = X at h2 ⊢
  pointwise
  simp only [h, h2, mul_coe, coe_sum]
include hx hw hy in
/-- A row's gradient, of half the cotangent. -/
theorem pay6 : k0_pay6 (F := Ideal) x w y (ix2 r l) = (grad (u r) g (fun l => e r l * (1 / 2)) l : EReal) := by
  have h : ∀ l, _ := fun l => pay4 hx r l
  have h2 : ∀ l, _ := fun l => pay2 hy r l
  have h3 := pay3 hx r 0
  unfold k0_pay6
  generalize k0_pay4 (F := Ideal) x = W at h ⊢
  generalize k0_pay2 (F := Ideal) y = X at h2 ⊢
  generalize k0_pay3 (F := Ideal) x = Z at h3 ⊢
  pointwise
  simp only [h, h2, h3, hw, mul_coe, coe_sum, width_word, div_coe _ _ (by norm_num : (2048 : ℝ) ≠ 0), sub_coe]
  rfl
end

section
open Cert.Kernel5Ideal Cert.Kernel5Ideal.Gen
variable {x y : FVec Ideal S256x2048 .f32} {w a : FVec Ideal S1x2048 .f32} {u e : Fin 256 → Fin 2048 → ℝ} {g : Fin 2048 → ℝ}
  (hx : Rows x u) (hw : Scale w g) (hy : Rows y e) (r : Fin 256) (l : Fin 2048)

include hy in
theorem pay3' : k0_pay3 (F := Ideal) y (ix2 r l) = (e r l : EReal) := by
  pointwise [k0_pay3]
  rw [hy]
include hx hy in
/-- The scale's gradient. -/
theorem pay6' (z : Fin 1) : k0_pay6 (F := Ideal) x y a (ix2 z l) = a (ix2 z l) + ((∑ r : Fin 256, e r l * (u r l * rs (u r)) : ℝ) : EReal) := by
  have h : ∀ r, k0_pay5 (F := Ideal) x (ix2 r l) = _ := fun r => pay4 hx r l
  have h2 : ∀ r, _ := fun r => pay3' hy r l
  unfold k0_pay6
  generalize k0_pay5 (F := Ideal) x = W at h ⊢
  generalize k0_pay3 (F := Ideal) y = X at h2 ⊢
  pointwise
  simp only [h, h2, mul_coe, coe_sum]
include hx hw hy in
/-- A row's gradient. -/
theorem pay7' : k0_pay7 (F := Ideal) x w y (ix2 r l) = (grad (u r) g (e r) l : EReal) := by
  have h : ∀ l, k0_pay5 (F := Ideal) x (ix2 r l) = _ := fun l => pay4 hx r l
  have h2 : ∀ l, _ := fun l => pay3' hy r l
  have h3 : k0_pay4 (F := Ideal) x (ix2 r 0) = _ := pay3 hx r 0
  unfold k0_pay7
  generalize k0_pay5 (F := Ideal) x = W at h ⊢
  generalize k0_pay3 (F := Ideal) y = X at h2 ⊢
  generalize k0_pay4 (F := Ideal) x = Z at h3 ⊢
  pointwise
  simp only [h, h2, h3, hw, mul_coe, coe_sum, width_word, div_coe _ _ (by norm_num : (2048 : ℝ) ≠ 0), sub_coe]
  rfl
end

/-- A point's row of the whole array. -/
abbrev row (t : Fin 16) (r : Fin 256) : Fin 4096 := ⟨t.val * 256 + r.val, by omega⟩

/-- The rows are the points' rows. -/
theorem sum_rows (f : Fin 4096 → ℝ) : ∑ t : Fin 16, ∑ r : Fin 256, f (row t r) = ∑ r : Fin 4096, f r := by
  rw [← Fintype.sum_prod_type']
  exact Fintype.sum_equiv (finProdFinEquiv.trans (finCongr (by decide))) _ _ fun x =>
    congrArg f (Fin.ext (by show x.1.val * 256 + x.2.val = x.2.val + 256 * x.1.val; omega))

end Cert.Norm

end
-- ==== Proof.NormAKer.lean ====
/-
  The kernel of a norm's gradient, of a branch added with a factor, at real arguments: real arrays in closed form.
-/
module

public import proofs.«01_k».proof.Proof.NormPay

@[expose] public section

set_option maxRecDepth 16384

noncomputable section

open Idealize.ShloMosaic Idealize.ShloMosaic.TcCoe Idealize.SL.Sem
open Idealize.ShloMosaic.Pipeline (Dat)

namespace Cert.NormA

open Cert.Kernel4Ideal Cert.Kernel4Ideal.Gen Cert.Lift Cert.Norm

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

variable (u : S4096x2048.Idx → ℝ) (g : S1x2048.Idx → ℝ) (y : S4096x2048.Idx → ℝ) (c : Dev nD)

/-- The arguments are real arrays. -/
structure Args : Prop where
  a0 : m ((c : Thread nD τ).loc main_arg0) = up u
  a1 : m ((c : Thread nD τ).loc main_arg1) = up g
  a2 : m ((c : Thread nD τ).loc main_arg2) = up y

variable (H : Args m u g y c) (t : Fin cfg0.N)
include H

theorem iblk0 : Rows (iblk m c 0 t) (fun r => rw2 u (row t r)) := fun r l => by
  obtain ⟨h0, h1, h2, h3, h4⟩ := idx t
  refine Eq.trans ?_ (congrFun H.a0 (ix2 (row t r) l))
  blk_point [iblk, V, h0]
theorem iblk1 : Scale (iblk m c 1 t) (rw1 g) := fun l => by
  obtain ⟨h0, h1, h2, h3, h4⟩ := idx t
  refine Eq.trans ?_ (congrFun H.a1 (ix2 0 l))
  blk_point [iblk, V, h1]
theorem iblk2 : Rows (iblk m c 2 t) (fun r => rw2 y (row t r)) := fun r l => by
  obtain ⟨h0, h1, h2, h3, h4⟩ := idx t
  refine Eq.trans ?_ (congrFun H.a2 (ix2 (row t r) l))
  blk_point [iblk, V, h2]

/-- The results, as arrays. -/
def DUv : FVec Ideal S4096x2048 .bf16 := fun i => (grad (rw2 u (i 0)) (rw1 g) (rw2 (half y) (i 0)) (i 1) : EReal)
def DGv : FVec Ideal S1x2048 .f32 := fun i => ((∑ r : Fin 4096, half y (ix2 r (i 1)) * (u (ix2 r (i 1)) * rs (rw2 u r)) : ℝ) : EReal)

theorem final3 : (dats m 0 c).arrAt 3 (cfgs 0).N = DUv u g y := by
  refine (dats m 0 c).arrAt_eq_of_covers 3 _ (by decide +kernel) fun t hf j => ?_
  blk_simp
  have key : (outsAt0 m c t.val t.isLt).1 = k0_pay6 (F := Ideal) (iblk m c 0 t) (iblk m c 1 t) (iblk m c 2 t) := by
    by_cases h0 : t.val % 16 = 0
    · rw [outsAt0_A m c t h0]; frame_out
    · rw [outsAt0_B m c t h0]; frame_out
  rw [after0_3, key]
  obtain ⟨h0, h1, h2, h3, h4⟩ := idx t
  idx_vars j
  refine (pay6 (iblk0 m u g y c H t) (iblk1 m u g y c H t) (iblk2 m u g y c H t) j0 j1).trans ?_
  show DUv u g y (ix2 (row t j0) j1) = _
  blk_ext [h3]

/-- A point's term of the scale's gradient. -/
def part (t : Fin cfg0.N) (j : S1x2048.Idx) : ℝ := ∑ r : Fin 256, half y (ix2 (row t r) (j 1)) * (u (ix2 (row t r) (j 1)) * rs (rw2 u (row t r)))

theorem acc (a : FVec Ideal S1x2048 .f32) (j : S1x2048.Idx) : k0_pay5 (F := Ideal) (iblk m c 0 t) (iblk m c 2 t) a j = a j + (part u y t j : EReal) := by
  idx_vars j
  exact pay5 (iblk0 m u g y c H t) (iblk2 m u g y c H t) j1 j0

theorem final4 : (dats m 0 c).arrAt 4 (cfgs 0).N = DGv u y := by
  refine (dats m 0 c).arrAt_eq_of_covers 4 _ (by decide +kernel) fun t hf j => ?_
  blk_simp
  have ht := (flush0_4 t).mp hf
  obtain ⟨h0, h1, h2, h3, h4⟩ := idx t
  rw [after0_4, Pipeline.eq_sum_fin_of_reset_step_apply_last (fun n h => (outsAt0 m c n h).2) 16 (fun _ => 0) (fun t j => (part u y t j : EReal))
    (fun t hz j => by rw [outsAt0_A m c t hz]; frame_out; rw [acc m u g y c H]; exact congrArg (· + _) (by idx_vars j; pointwise [k0_pay1]))
    (fun t hz j => by rw [outsAt0_B m c t hz]; frame_out; rw [acc m u g y c H]) (by decide) t
    (by have := t.isLt; have hN : cfg0.N = 16 := rfl; omega), zero_add]
  show ∑ t : Fin cfg0.N, ((part u y t _ : ℝ) : EReal) = _
  rw [coe_sum]
  refine (congrArg _ (sum_rows fun r => half y (ix2 r (j 1)) * (u (ix2 r (j 1)) * rs (rw2 u r)))).trans ?_
  idx_vars j
  show DGv u y (ix2 j0 j1) = _
  blk_ext [h4]

end Cert.NormA

end
-- ==== Proof.NormAClaims.lean ====
/-
  The claims about a norm's gradient, of a branch added with a factor.
-/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.NormAKer
public import Idealize.ShloMosaic.Lib.Claim

@[expose] public section

set_option maxRecDepth 16384

noncomputable section

open Idealize.ShloMosaic Idealize.ShloMosaic.TcCoe Idealize.SL.Sem
open Cert.Lift

namespace Cert.NormA

theorem frame_p : Cert.quiescent_Kernel4 (hKernel4 := Cert.Kernel4.Gen.facts) := fun m ρ _ => Cert.Kernel4.Gen.frame m ρ

theorem frame_pi : Cert.quiescent_Kernel4Ideal (hKernel4Ideal := Cert.Kernel4Ideal.Gen.facts) := fun m ρ _ => Cert.Kernel4Ideal.Gen.frame m ρ

theorem frame_ri : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_pi_fin : Cert.quiescent_Kernel4Ideal_pre_finite4 (hKernel4Ideal := Cert.Kernel4Ideal.Gen.facts)
    (hPre_finite4 := Cert.Pre_finite4.Gen.facts) := fun m ρ _ => Cert.Kernel4Ideal.Gen.frame m ρ

theorem frame_ri_fin : Cert.quiescent_Reference4Ideal_pre_finite4 (hReference4Ideal := Cert.Reference4Ideal.Gen.facts)
    (hPre_finite4 := Cert.Pre_finite4.Gen.facts) := fun m ρ _ => frame_ri m ρ trivial

/-- Finite arguments are real arrays. -/
theorem args (m) (h : Cert.Pre_Kernel4Ideal_finite4 (hPre_finite4 := Cert.Pre_finite4.Gen.facts) m) (c) :
    ∃ u g y, Args m u g y c :=
  ⟨_, _, _, real_of _ _ (h c).1, real_of _ _ (h c).2.1, real_of _ _ (h c).2.2⟩

section
variable (m : (ℓ : Loc Cert.Kernel4Ideal.nD Cert.Kernel4Ideal.τ Cert.Kernel4Ideal.sig) → Buf (Elt Ideal) ℓ) (c : Dev Cert.Kernel4Ideal.nD)
  (hpre : Cert.Pre_Kernel4Ideal_finite4 (hPre_finite4 := Cert.Pre_finite4.Gen.facts) m)
include hpre

open Cert.Kernel4Ideal Cert.Reference4Ideal.Read

theorem res3 : val_main_v42 (F := Ideal) (m ((c.tc : Thread nD τ).loc main_arg0)) (m ((c.tc : Thread nD τ).loc main_arg1)) (m ((c.tc : Thread nD τ).loc main_arg2)) = (Cert.Kernel4Ideal.Gen.dats m 0 c).arrAt 3 Cert.Kernel4Ideal.cfg0.N := by
  obtain ⟨u, g, y, H⟩ := args m hpre c
  refine Eq.trans ?_ (final3 m u g y c H).symm
  refine (show _ = val_main_v42 (F := Ideal) (up u) (up g) (up y) by rw [← H.a0, ← H.a1, ← H.a2]).trans ?_
  funext i; idx_vars i; exact Norm.v42 u g y _ _

theorem res4 : val_main_v41 (F := Ideal) (m ((c.tc : Thread nD τ).loc main_arg0)) (m ((c.tc : Thread nD τ).loc main_arg2)) = (Cert.Kernel4Ideal.Gen.dats m 0 c).arrAt 4 Cert.Kernel4Ideal.cfg0.N := by
  obtain ⟨u, g, y, H⟩ := args m hpre c
  refine Eq.trans ?_ (final4 m u g y c H).symm
  refine (show _ = val_main_v41 (F := Ideal) (up u) (up y) by rw [← H.a0, ← H.a2]).trans ?_
  funext i; idx_vars i; exact Norm.v41 u y _ _

end

/-- The kernel's two gradients are the reference's. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hagree
  refine ⟨_, _, Cert.Kernel4Ideal.Value.run_blocks m g,
    (θ_run Cert.Reference4Ideal.defs _ _).mono (fun r h c => ?_) (Cert.Reference4Ideal.Value.run (F := Ideal) m' g')⟩
  obtain ⟨e0, e1, e2⟩ := hagree c
  obtain ⟨h0, h1, h2⟩ := h c
  refine ⟨(h0.trans (Cert.Reference4Ideal.Read.val_main_v42_eq m' c)).trans ?_,
    (h1.trans (Cert.Reference4Ideal.Read.val_main_v41_eq _ _)).trans ?_, h2⟩
  · rw [e0, e1, e2]; exact res3 m c hpre
  · rw [e0, e2]; exact res4 m c hpre

end Cert.NormA

end
-- ==== Proof.NormBKer.lean ====
/-
  The kernel of a norm's gradient, joined to the gradient that passes it by, at real arguments: real arrays in closed form.
-/
module

public import proofs.«01_k».proof.Proof.NormPay

@[expose] public section

set_option maxRecDepth 16384

noncomputable section

open Idealize.ShloMosaic Idealize.ShloMosaic.TcCoe Idealize.SL.Sem
open Idealize.ShloMosaic.Pipeline (Dat)

namespace Cert.NormB

open Cert.Kernel5Ideal Cert.Kernel5Ideal.Gen Cert.Lift Cert.Norm

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

variable (u : S4096x2048.Idx → ℝ) (g : S1x2048.Idx → ℝ) (y : S4096x2048.Idx → ℝ) (d : FVec Ideal S4096x2048 .f32) (c : Dev nD)

/-- The arguments, real arrays but for the gradient added. -/
structure Args : Prop where
  a0 : m ((c : Thread nD τ).loc main_arg0) = up u
  a1 : m ((c : Thread nD τ).loc main_arg1) = up g
  a2 : m ((c : Thread nD τ).loc main_arg2) = up y
  a3 : m ((c : Thread nD τ).loc main_arg3) = d

variable (H : Args m u g y d c) (t : Fin cfg0.N)
include H

theorem iblk0 : Rows (iblk m c 0 t) (fun r => rw2 u (row t r)) := fun r l => by
  obtain ⟨h0, h1, h2, h3, h4, h5⟩ := idx t
  refine Eq.trans ?_ (congrFun H.a0 (ix2 (row t r) l))
  blk_point [iblk, V, h0]
theorem iblk1 : Scale (iblk m c 1 t) (rw1 g) := fun l => by
  obtain ⟨h0, h1, h2, h3, h4, h5⟩ := idx t
  refine Eq.trans ?_ (congrFun H.a1 (ix2 0 l))
  blk_point [iblk, V, h1]
theorem iblk2 : Rows (iblk m c 2 t) (fun r => rw2 y (row t r)) := fun r l => by
  obtain ⟨h0, h1, h2, h3, h4, h5⟩ := idx t
  refine Eq.trans ?_ (congrFun H.a2 (ix2 (row t r) l))
  blk_point [iblk, V, h2]
theorem iblk3 (r : Fin 256) (l : Fin 2048) : (iblk m c 3 t : FVec Ideal S256x2048 .f32) (ix2 r l) = d (ix2 (row t r) l) := by
  obtain ⟨h0, h1, h2, h3, h4, h5⟩ := idx t
  refine Eq.trans ?_ (congrFun H.a3 (ix2 (row t r) l))
  blk_point [iblk, V, h3]

/-- The results, as arrays. -/
def DUv : FVec Ideal S4096x2048 .f32 := fun i => (grad (rw2 u (i 0)) (rw1 g) (rw2 y (i 0)) (i 1) : EReal) + d i
def DGv : FVec Ideal S1x2048 .f32 := fun i => ((∑ r : Fin 4096, y (ix2 r (i 1)) * (u (ix2 r (i 1)) * rs (rw2 u r)) : ℝ) : EReal)

theorem final4 : (dats m 0 c).arrAt 4 (cfgs 0).N = DUv u g y d := by
  refine (dats m 0 c).arrAt_eq_of_covers 4 _ (by decide +kernel) fun t hf j => ?_
  blk_simp
  have key : (outsAt0 m c t.val t.isLt).1 = k0_pay1 (F := Ideal) (k0_pay7 (F := Ideal) (iblk m c 0 t) (iblk m c 1 t) (iblk m c 2 t)) (iblk m c 3 t) := by
    by_cases h0 : t.val % 16 = 0
    · rw [outsAt0_A m c t h0]; frame_out
    · rw [outsAt0_B m c t h0]; frame_out
  rw [after0_4, key]
  obtain ⟨h0, h1, h2, h3, h4, h5⟩ := idx t
  idx_vars j
  have h : k0_pay1 (F := Ideal) (k0_pay7 (F := Ideal) (iblk m c 0 t) (iblk m c 1 t) (iblk m c 2 t)) (iblk m c 3 t) (ix2 j0 j1)
      = k0_pay7 (F := Ideal) (iblk m c 0 t) (iblk m c 1 t) (iblk m c 2 t) (ix2 j0 j1) + (iblk m c 3 t : FVec Ideal S256x2048 .f32) (ix2 j0 j1) := rfl
  rw [h, pay7' (iblk0 m u g y d c H t) (iblk1 m u g y d c H t) (iblk2 m u g y d c H t), iblk3 m u g y d c H t]
  show DUv u g y d (ix2 (row t j0) j1) = _
  blk_ext [h4]

/-- A point's term of the scale's gradient. -/
def part (t : Fin cfg0.N) (j : S1x2048.Idx) : ℝ := ∑ r : Fin 256, y (ix2 (row t r) (j 1)) * (u (ix2 (row t r) (j 1)) * rs (rw2 u (row t r)))

theorem acc (a : FVec Ideal S1x2048 .f32) (j : S1x2048.Idx) : k0_pay6 (F := Ideal) (iblk m c 0 t) (iblk m c 2 t) a j = a j + (part u y t j : EReal) := by
  idx_vars j
  exact pay6' (iblk0 m u g y d c H t) (iblk2 m u g y d c H t) j1 j0

theorem final5 : (dats m 0 c).arrAt 5 (cfgs 0).N = DGv u y := by
  refine (dats m 0 c).arrAt_eq_of_covers 5 _ (by decide +kernel) fun t hf j => ?_
  blk_simp
  have ht := (flush0_5 t).mp hf
  obtain ⟨h0, h1, h2, h3, h4, h5⟩ := idx t
  rw [after0_5, Pipeline.eq_sum_fin_of_reset_step_apply_last (fun n h => (outsAt0 m c n h).2) 16 (fun _ => 0) (fun t j => (part u y t j : EReal))
    (fun t hz j => by rw [outsAt0_A m c t hz]; frame_out; rw [acc m u g y d c H]; exact congrArg (· + _) (by idx_vars j; pointwise [k0_pay2]))
    (fun t hz j => by rw [outsAt0_B m c t hz]; frame_out; rw [acc m u g y d c H]) (by decide) t
    (by have := t.isLt; have hN : cfg0.N = 16 := rfl; omega), zero_add]
  show ∑ t : Fin cfg0.N, ((part u y t _ : ℝ) : EReal) = _
  rw [coe_sum]
  refine (congrArg _ (sum_rows fun r => y (ix2 r (j 1)) * (u (ix2 r (j 1)) * rs (rw2 u r)))).trans ?_
  idx_vars j
  show DGv u y (ix2 j0 j1) = _
  blk_ext [h5]

end Cert.NormB

end
-- ==== Proof.NormBClaims.lean ====
/-
  The claims about a norm's gradient joined to the gradient that passes it by.
-/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.NormBKer
public import Idealize.ShloMosaic.Lib.Claim

@[expose] public section

set_option maxRecDepth 16384

noncomputable section

open Idealize.ShloMosaic Idealize.ShloMosaic.TcCoe Idealize.SL.Sem
open Cert.Lift

namespace Cert.NormB

theorem frame_p : Cert.quiescent_Kernel5 (hKernel5 := Cert.Kernel5.Gen.facts) := fun m ρ _ => Cert.Kernel5.Gen.frame m ρ

theorem frame_pi : Cert.quiescent_Kernel5Ideal (hKernel5Ideal := Cert.Kernel5Ideal.Gen.facts) := fun m ρ _ => Cert.Kernel5Ideal.Gen.frame m ρ

theorem frame_ri : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_pi_fin : Cert.quiescent_Kernel5Ideal_pre_finite5 (hKernel5Ideal := Cert.Kernel5Ideal.Gen.facts)
    (hPre_finite5 := Cert.Pre_finite5.Gen.facts) := fun m ρ _ => Cert.Kernel5Ideal.Gen.frame m ρ

theorem frame_ri_fin : Cert.quiescent_Reference5Ideal_pre_finite5 (hReference5Ideal := Cert.Reference5Ideal.Gen.facts)
    (hPre_finite5 := Cert.Pre_finite5.Gen.facts) := fun m ρ _ => frame_ri m ρ trivial

/-- Finite arguments are real arrays. -/
theorem args (m) (h : Cert.Pre_Kernel5Ideal_finite5 (hPre_finite5 := Cert.Pre_finite5.Gen.facts) m) (c) :
    ∃ u g y d, Args m u g y d c :=
  ⟨_, _, _, _, real_of _ _ (h c).1, real_of _ _ (h c).2.1, real_of _ _ (h c).2.2, rfl⟩

section
variable (m : (ℓ : Loc Cert.Kernel5Ideal.nD Cert.Kernel5Ideal.τ Cert.Kernel5Ideal.sig) → Buf (Elt Ideal) ℓ) (c : Dev Cert.Kernel5Ideal.nD)
  (hpre : Cert.Pre_Kernel5Ideal_finite5 (hPre_finite5 := Cert.Pre_finite5.Gen.facts) m)
include hpre

open Cert.Kernel5Ideal Cert.Reference5Ideal.Read

theorem res4 : val_main_v37 (F := Ideal) (m ((c.tc : Thread nD τ).loc main_arg0)) (m ((c.tc : Thread nD τ).loc main_arg1)) (m ((c.tc : Thread nD τ).loc main_arg2)) (m ((c.tc : Thread nD τ).loc main_arg3)) = (Cert.Kernel5Ideal.Gen.dats m 0 c).arrAt 4 Cert.Kernel5Ideal.cfg0.N := by
  obtain ⟨u, g, y, d, H⟩ := args m hpre c
  refine Eq.trans ?_ (final4 m u g y d c H).symm
  refine (show _ = val_main_v37 (F := Ideal) (up u) (up g) (up y) d by rw [← H.a0, ← H.a1, ← H.a2, ← H.a3]).trans ?_
  funext i; idx_vars i; exact Norm.v37 u g y d _ _

theorem res5 : val_main_v38 (F := Ideal) (m ((c.tc : Thread nD τ).loc main_arg0)) (m ((c.tc : Thread nD τ).loc main_arg2)) = (Cert.Kernel5Ideal.Gen.dats m 0 c).arrAt 5 Cert.Kernel5Ideal.cfg0.N := by
  obtain ⟨u, g, y, d, H⟩ := args m hpre c
  refine Eq.trans ?_ (final5 m u g y d c H).symm
  refine (show _ = val_main_v38 (F := Ideal) (up u) (up y) by rw [← H.a0, ← H.a2]).trans ?_
  funext i; idx_vars i; exact Norm.v38 u y _ _

end

/-- The kernel's two gradients are the reference's. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hagree
  refine ⟨_, _, Cert.Kernel5Ideal.Value.run_blocks m g,
    (θ_run Cert.Reference5Ideal.defs _ _).mono (fun r h c => ?_) (Cert.Reference5Ideal.Value.run (F := Ideal) m' g')⟩
  obtain ⟨e0, e1, e2, e3⟩ := hagree c
  obtain ⟨h0, h1, h2⟩ := h c
  refine ⟨(h0.trans (Cert.Reference5Ideal.Read.val_main_v37_eq m' c)).trans ?_,
    (h1.trans (Cert.Reference5Ideal.Read.val_main_v38_eq _ _)).trans ?_, h2⟩
  · rw [e0, e1, e2, e3]; exact res4 m c hpre
  · rw [e0, e2]; exact res5 m c hpre

end Cert.NormB

end
-- ==== Proof.NormCKer.lean ====
/-
  Two norms' gradients in one call, at real arguments: the reference and the kernel, real arrays in closed form.
-/
module

public import proofs.«01_k».proof.Proof.Gen.Kernel6Ideal.Frame
public import proofs.«01_k».proof.Proof.Gen.Reference6Ideal.Read
public import proofs.«01_k».proof.Proof.NormPay

@[expose] public section

set_option maxRecDepth 16384

noncomputable section

open Idealize.ShloMosaic Idealize.ShloMosaic.TcCoe Idealize.SL.Sem
open Idealize.ShloMosaic.Pipeline (Dat)

namespace Cert.NormC

open Cert.Kernel6Ideal Cert.Kernel6Ideal.Gen Cert.Lift Cert.Norm

variable (m : (ℓ : Loc nD τ sig) → Buf (Elt Ideal) ℓ)
variable (p a : S4096x2048.Idx → ℝ) (b g : S1x2048.Idx → ℝ) (y d : S4096x2048.Idx → ℝ)

/-- The sum the second norm is of, its gradient, and the first branch's. -/
def XN (i : S4096x2048.Idx) : ℝ := p i + 1 / 2 * (a i * rs (rw2 a (i 0)) * b (ix2 0 (i 1)))
def DX (i : S4096x2048.Idx) : ℝ := grad (rw2 (XN p a b) (i 0)) (rw1 g) (rw2 y (i 0)) (i 1) + d i
def DM (i : S4096x2048.Idx) : ℝ := grad (rw2 a (i 0)) (rw1 b) (rw2 (half (DX p a b g y d)) (i 0)) (i 1)
/-- The scales' gradients. -/
def DG (l : Fin 2048) : ℝ := ∑ r : Fin 4096, y (ix2 r l) * (XN p a b (ix2 r l) * rs (rw2 (XN p a b) r))
def DB (l : Fin 2048) : ℝ := ∑ r : Fin 4096, half (DX p a b g y d) (ix2 r l) * (a (ix2 r l) * rs (rw2 a r))

section
open Cert.Reference6Ideal.Read

theorem v19 : val_main_v19 (F := Ideal) (up p) (up a) (up b) = up (XN p a b) := by
  funext i; idx_vars i
  have h : val_main_v13 (F := Ideal) (up a) (ix2 i0 i1) = _ := v13 a i0 i1
  unfold val_main_v19 val_main_v18 val_main_v17 val_main_v16 val_main_v15 val_main_v14 val_main_v0 val_main_cst_3
  generalize val_main_v13 (F := Ideal) (up a) = W at h ⊢
  pointwise
  rw [h, half_word, mul_coe, mul_coe, add_coe]
  rfl

theorem v57 : val_main_v57 (F := Ideal) (up p) (up a) (up b) (up g) (up y) (up d) = up (DX p a b g y d) := by
  have h : val_main_v57 (F := Ideal) (up p) (up a) (up b) (up g) (up y) (up d)
      = Reference5Ideal.Read.val_main_v37 (F := Ideal) (up (XN p a b)) (up g) (up y) (up d) := by rw [← v19]; rfl
  rw [h]
  funext i; idx_vars i
  rw [v37, add_coe]
  rfl
theorem v59 : val_main_v59 (F := Ideal) (up p) (up a) (up b) (up g) (up y) (up d) = up (DX p a b g y d) := by
  rw [← v57]
  unfold val_main_v59
  funext i; idx_vars i
  generalize val_main_v57 (F := Ideal) (up p) (up a) (up b) (up g) (up y) (up d) = W
  pointwise
theorem v58 (z : Fin 1) (l : Fin 2048) : val_main_v58 (F := Ideal) (up p) (up a) (up b) (up y) (ix2 z l) = (DG p a b y l : EReal) := by
  have h : val_main_v58 (F := Ideal) (up p) (up a) (up b) (up y)
      = Reference5Ideal.Read.val_main_v38 (F := Ideal) (up (XN p a b)) (up y) := by rw [← v19]; rfl
  rw [h, v38]; rfl
theorem v83 (r : Fin 4096) (l : Fin 2048) : val_main_v83 (F := Ideal) (up p) (up a) (up b) (up g) (up y) (up d) (ix2 r l) = (DM p a b g y d (ix2 r l) : EReal) := by
  have h : val_main_v83 (F := Ideal) (up p) (up a) (up b) (up g) (up y) (up d)
      = Reference4Ideal.Read.val_main_v42 (F := Ideal) (up a) (up b) (up (DX p a b g y d)) := by rw [← v59]; rfl
  rw [h, v42]; rfl
theorem v82 (z : Fin 1) (l : Fin 2048) : val_main_v82 (F := Ideal) (up p) (up a) (up b) (up g) (up y) (up d) (ix2 z l) = (DB p a b g y d l : EReal) := by
  have h : val_main_v82 (F := Ideal) (up p) (up a) (up b) (up g) (up y) (up d)
      = Reference4Ideal.Read.val_main_v41 (F := Ideal) (up a) (up (DX p a b g y d)) := by rw [← v59]; rfl
  rw [h, v41]; rfl
end

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0]
    ∧ win0_6.index t = ![t.val, 0] ∧ win0_7.index t = ![0, 0] ∧ win0_8.index t = ![t.val, 0] ∧ win0_9.index t = ![0, 0] :=
  (by decide +kernel : ∀ t : Fin grid0.N, _)

variable (c : Dev nD)

/-- The arguments are real arrays. -/
structure Args : Prop where
  a0 : m ((c : Thread nD τ).loc main_arg0) = up p
  a1 : m ((c : Thread nD τ).loc main_arg1) = up a
  a2 : m ((c : Thread nD τ).loc main_arg2) = up b
  a3 : m ((c : Thread nD τ).loc main_arg3) = up g
  a4 : m ((c : Thread nD τ).loc main_arg4) = up y
  a5 : m ((c : Thread nD τ).loc main_arg5) = up d

variable (H : Args m p a b g y d c) (t : Fin cfg0.N)
include H

theorem host : (V m c main_v16 : FVec Ideal S4096x2048 .f32) = up (XN p a b) := by
  rw [← v19, ← H.a0, ← H.a1, ← H.a2]
  entry_read
  rfl
theorem iblk0 : Rows (iblk m c 0 t) (fun r => rw2 (XN p a b) (row t r)) := fun r l => by
  obtain ⟨h0, h1, h2, h3, h4, h5, h6, h7, h8, h9⟩ := idx t
  refine Eq.trans ?_ (congrFun (host m p a b g y d c H) (ix2 (row t r) l))
  blk_point [iblk, h0]
theorem iblk1 : Scale (iblk m c 1 t) (rw1 g) := fun l => by
  obtain ⟨h0, h1, h2, h3, h4, h5, h6, h7, h8, h9⟩ := idx t
  refine Eq.trans ?_ (congrFun H.a3 (ix2 0 l))
  blk_point [iblk, V, h1]
theorem iblk2 : Rows (iblk m c 2 t) (fun r => rw2 y (row t r)) := fun r l => by
  obtain ⟨h0, h1, h2, h3, h4, h5, h6, h7, h8, h9⟩ := idx t
  refine Eq.trans ?_ (congrFun H.a4 (ix2 (row t r) l))
  blk_point [iblk, V, h2]
theorem iblk3 : Rows (iblk m c 3 t) (fun r => rw2 d (row t r)) := fun r l => by
  obtain ⟨h0, h1, h2, h3, h4, h5, h6, h7, h8, h9⟩ := idx t
  refine Eq.trans ?_ (congrFun H.a5 (ix2 (row t r) l))
  blk_point [iblk, V, h3]
theorem iblk4 : Rows (iblk m c 4 t) (fun r => rw2 a (row t r)) := fun r l => by
  obtain ⟨h0, h1, h2, h3, h4, h5, h6, h7, h8, h9⟩ := idx t
  refine Eq.trans ?_ (congrFun H.a1 (ix2 (row t r) l))
  blk_point [iblk, V, h4]
theorem iblk5 : Scale (iblk m c 5 t) (rw1 b) := fun l => by
  obtain ⟨h0, h1, h2, h3, h4, h5, h6, h7, h8, h9⟩ := idx t
  refine Eq.trans ?_ (congrFun H.a2 (ix2 0 l))
  blk_point [iblk, V, h5]

omit H in
theorem pay3 (x : FVec Ideal S256x2048 .f32) : k0_pay3 (F := Ideal) x = x := by
  funext i; idx_vars i
  pointwise [k0_pay3]

/-- The sum's gradient at a point. -/
abbrev du (t : Fin cfg0.N) : FVec Ideal S256x2048 .f32 := k0_pay9 (F := Ideal) (k0_pay8 (F := Ideal) (iblk m c 0 t) (iblk m c 1 t) (iblk m c 2 t)) (iblk m c 3 t)

theorem du_eq : Rows (du m c t) (fun r => rw2 (DX p a b g y d) (row t r)) := fun r l => by
  have h : du m c t (ix2 r l) = Kernel5Ideal.Gen.k0_pay7 (F := Ideal) (k0_pay3 (F := Ideal) (iblk m c 0 t)) (iblk m c 1 t) (iblk m c 2 t) (ix2 r l)
      + (iblk m c 3 t : FVec Ideal S256x2048 .f32) (ix2 r l) := rfl
  rw [h, pay3, pay7' (iblk0 m p a b g y d c H t) (iblk1 m p a b g y d c H t) (iblk2 m p a b g y d c H t), iblk3 m p a b g y d c H t, add_coe]
  rfl

/-- The points' terms of the scales' gradients. -/
def partG (t : Fin cfg0.N) (j : S1x2048.Idx) : ℝ := ∑ r : Fin 256, y (ix2 (row t r) (j 1)) * (XN p a b (ix2 (row t r) (j 1)) * rs (rw2 (XN p a b) (row t r)))
def partB (t : Fin cfg0.N) (j : S1x2048.Idx) : ℝ := ∑ r : Fin 256, half (DX p a b g y d) (ix2 (row t r) (j 1)) * (a (ix2 (row t r) (j 1)) * rs (rw2 a (row t r)))

theorem accG (w : FVec Ideal S1x2048 .f32) (j : S1x2048.Idx) : k0_pay7 (F := Ideal) (iblk m c 0 t) (iblk m c 2 t) w j = w j + (partG p a b y t j : EReal) := by
  show Kernel5Ideal.Gen.k0_pay6 (F := Ideal) (k0_pay3 (F := Ideal) (iblk m c 0 t)) (iblk m c 2 t) w j = _
  rw [pay3]
  idx_vars j
  exact pay6' (iblk0 m p a b g y d c H t) (iblk2 m p a b g y d c H t) j1 j0
theorem accB (w : FVec Ideal S1x2048 .f32) (j : S1x2048.Idx) : k0_pay13 (F := Ideal) (k0_pay8 (F := Ideal) (iblk m c 0 t) (iblk m c 1 t) (iblk m c 2 t)) (iblk m c 3 t) (iblk m c 4 t) w j
    = w j + (partB p a b g y d t j : EReal) := by
  show Kernel4Ideal.Gen.k0_pay5 (F := Ideal) (iblk m c 4 t) (du m c t) w j = _
  idx_vars j
  exact pay5 (iblk4 m p a b g y d c H t) (du_eq m p a b g y d c H t) j1 j0

/-- The results, as arrays. -/
def DXv : FVec Ideal S4096x2048 .f32 := up (DX p a b g y d)
def DMv : FVec Ideal S4096x2048 .bf16 := up (DM p a b g y d)
def DGv : FVec Ideal S1x2048 .f32 := fun i => (DG p a b y (i 1) : EReal)
def DBv : FVec Ideal S1x2048 .f32 := fun i => (DB p a b g y d (i 1) : EReal)

theorem final6 : (dats m 0 c).arrAt 6 (cfgs 0).N = DXv p a b g y d := by
  refine (dats m 0 c).arrAt_eq_of_covers 6 _ (by decide +kernel) fun t hf j => ?_
  blk_simp
  have key : (outsAt0 m c t.val t.isLt).1 = du m c t := by
    by_cases h0 : t.val % 16 = 0
    · rw [outsAt0_A m c t h0]; frame_out
    · rw [outsAt0_B m c t h0]; frame_out
  rw [after0_6, key]
  obtain ⟨h0, h1, h2, h3, h4, h5, h6, h7, h8, h9⟩ := idx t
  idx_vars j
  refine (du_eq m p a b g y d c H t j0 j1).trans ?_
  show DXv p a b g y d (ix2 (row t j0) j1) = _
  blk_ext [h6]

theorem final8 : (dats m 0 c).arrAt 8 (cfgs 0).N = DMv p a b g y d := by
  refine (dats m 0 c).arrAt_eq_of_covers 8 _ (by decide +kernel) fun t hf j => ?_
  blk_simp
  have key : (outsAt0 m c t.val t.isLt).2.2.1 = Kernel4Ideal.Gen.k0_pay6 (F := Ideal) (iblk m c 4 t) (iblk m c 5 t) (du m c t) := by
    by_cases h0 : t.val % 16 = 0
    · rw [outsAt0_A m c t h0]; frame_out; rfl
    · rw [outsAt0_B m c t h0]; frame_out; rfl
  rw [after0_8, key]
  obtain ⟨h0, h1, h2, h3, h4, h5, h6, h7, h8, h9⟩ := idx t
  idx_vars j
  refine (pay6 (iblk4 m p a b g y d c H t) (iblk5 m p a b g y d c H t) (du_eq m p a b g y d c H t) j0 j1).trans ?_
  show DMv p a b g y d (ix2 (row t j0) j1) = _
  blk_ext [h8]

theorem final7 : (dats m 0 c).arrAt 7 (cfgs 0).N = DGv p a b y := by
  refine (dats m 0 c).arrAt_eq_of_covers 7 _ (by decide +kernel) fun t hf j => ?_
  blk_simp
  have ht := (flush0_7 t).mp hf
  obtain ⟨h0, h1, h2, h3, h4, h5, h6, h7, h8, h9⟩ := idx t
  rw [after0_7, Pipeline.eq_sum_fin_of_reset_step_apply_last (fun n h => (outsAt0 m c n h).2.1) 16 (fun _ => 0) (fun t j => (partG p a b y t j : EReal))
    (fun t hz j => by rw [outsAt0_A m c t hz]; frame_out; rw [accG m p a b g y d c H]; exact congrArg (· + _) (by idx_vars j; pointwise [k0_pay1]))
    (fun t hz j => by rw [outsAt0_B m c t hz]; frame_out; rw [accG m p a b g y d c H]) (by decide) t
    (by have := t.isLt; have hN : cfg0.N = 16 := rfl; omega), zero_add]
  show ∑ t : Fin cfg0.N, ((partG p a b y t _ : ℝ) : EReal) = _
  rw [coe_sum]
  refine (congrArg _ (sum_rows fun r => y (ix2 r (j 1)) * (XN p a b (ix2 r (j 1)) * rs (rw2 (XN p a b) r)))).trans ?_
  idx_vars j
  show DGv p a b y (ix2 j0 j1) = _
  blk_ext [h7]

theorem final9 : (dats m 0 c).arrAt 9 (cfgs 0).N = DBv p a b g y d := by
  refine (dats m 0 c).arrAt_eq_of_covers 9 _ (by decide +kernel) fun t hf j => ?_
  blk_simp
  have ht := (flush0_9 t).mp hf
  obtain ⟨h0, h1, h2, h3, h4, h5, h6, h7, h8, h9⟩ := idx t
  rw [after0_9, Pipeline.eq_sum_fin_of_reset_step_apply_last (fun n h => (outsAt0 m c n h).2.2.2) 16 (fun _ => 0) (fun t j => (partB p a b g y d t j : EReal))
    (fun t hz j => by rw [outsAt0_A m c t hz]; frame_out; rw [accB m p a b g y d c H]; exact congrArg (· + _) (by idx_vars j; pointwise [k0_pay2]))
    (fun t hz j => by rw [outsAt0_B m c t hz]; frame_out; rw [accB m p a b g y d c H]) (by decide) t
    (by have := t.isLt; have hN : cfg0.N = 16 := rfl; omega), zero_add]
  show ∑ t : Fin cfg0.N, ((partB p a b g y d t _ : ℝ) : EReal) = _
  rw [coe_sum]
  refine (congrArg _ (sum_rows fun r => half (DX p a b g y d) (ix2 r (j 1)) * (a (ix2 r (j 1)) * rs (rw2 a r)))).trans ?_
  idx_vars j
  show DBv p a b g y d (ix2 j0 j1) = _
  blk_ext [h9]

end Cert.NormC

end
-- ==== Proof.NormCClaims.lean ====
/-
  The claims about two norms' gradients in one call.
-/
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.NormCKer
public import Idealize.ShloMosaic.Lib.Claim

@[expose] public section

set_option maxRecDepth 16384

noncomputable section

open Idealize.ShloMosaic Idealize.ShloMosaic.TcCoe Idealize.SL.Sem
open Cert.Lift

namespace Cert.NormC

theorem frame_p : Cert.quiescent_Kernel6 (hKernel6 := Cert.Kernel6.Gen.facts) := fun m ρ _ => Cert.Kernel6.Gen.frame m ρ

theorem frame_pi : Cert.quiescent_Kernel6Ideal (hKernel6Ideal := Cert.Kernel6Ideal.Gen.facts) := fun m ρ _ => Cert.Kernel6Ideal.Gen.frame m ρ

theorem frame_ri : Cert.quiescent_Reference6Ideal (hReference6Ideal := Cert.Reference6Ideal.Gen.facts) := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem frame_pi_fin : Cert.quiescent_Kernel6Ideal_pre_finite6 (hKernel6Ideal := Cert.Kernel6Ideal.Gen.facts)
    (hPre_finite6 := Cert.Pre_finite6.Gen.facts) := fun m ρ _ => Cert.Kernel6Ideal.Gen.frame m ρ

theorem frame_ri_fin : Cert.quiescent_Reference6Ideal_pre_finite6 (hReference6Ideal := Cert.Reference6Ideal.Gen.facts)
    (hPre_finite6 := Cert.Pre_finite6.Gen.facts) := fun m ρ _ => frame_ri m ρ trivial

/-- Finite arguments are real arrays. -/
theorem args (m) (h : Cert.Pre_Kernel6Ideal_finite6 (hPre_finite6 := Cert.Pre_finite6.Gen.facts) m) (c) :
    ∃ p a b g y d, Args m p a b g y d c :=
  ⟨_, _, _, _, _, _, real_of _ _ (h c).1, real_of _ _ (h c).2.1, real_of _ _ (h c).2.2.1, real_of _ _ (h c).2.2.2.1, real_of _ _ (h c).2.2.2.2.1, real_of _ _ (h c).2.2.2.2.2⟩

section
variable (m : (ℓ : Loc Cert.Kernel6Ideal.nD Cert.Kernel6Ideal.τ Cert.Kernel6Ideal.sig) → Buf (Elt Ideal) ℓ) (c : Dev Cert.Kernel6Ideal.nD)
  (hpre : Cert.Pre_Kernel6Ideal_finite6 (hPre_finite6 := Cert.Pre_finite6.Gen.facts) m)
include hpre

open Cert.Kernel6Ideal Cert.Reference6Ideal.Read

theorem res6 : val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (Cert.Kernel6Ideal.Gen.dats m 0 c).arrAt 6 Cert.Kernel6Ideal.cfg0.N := by
  obtain ⟨p, a, b, g, y, d, H⟩ := args m hpre c
  refine Eq.trans ?_ (final6 m p a b g y d c H).symm
  refine (show _ = val_main_v57 (F := Ideal) (up p) (up a) (up b) (up g) (up y) (up d) by rw [← H.a0, ← H.a1, ← H.a2, ← H.a3, ← H.a4, ← H.a5]).trans ?_
  exact v57 p a b g y d

theorem res7 : val_main_v58 (F := Ideal) (m ((c.tc : Thread nD τ).loc main_arg0)) (m ((c.tc : Thread nD τ).loc main_arg1)) (m ((c.tc : Thread nD τ).loc main_arg2)) (m ((c.tc : Thread nD τ).loc main_arg4)) = (Cert.Kernel6Ideal.Gen.dats m 0 c).arrAt 7 Cert.Kernel6Ideal.cfg0.N := by
  obtain ⟨p, a, b, g, y, d, H⟩ := args m hpre c
  refine Eq.trans ?_ (final7 m p a b g y d c H).symm
  refine (show _ = val_main_v58 (F := Ideal) (up p) (up a) (up b) (up y) by rw [← H.a0, ← H.a1, ← H.a2, ← H.a4]).trans ?_
  funext i; idx_vars i; exact v58 p a b y _ _

theorem res8 : val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (Cert.Kernel6Ideal.Gen.dats m 0 c).arrAt 8 Cert.Kernel6Ideal.cfg0.N := by
  obtain ⟨p, a, b, g, y, d, H⟩ := args m hpre c
  refine Eq.trans ?_ (final8 m p a b g y d c H).symm
  refine (show _ = val_main_v83 (F := Ideal) (up p) (up a) (up b) (up g) (up y) (up d) by rw [← H.a0, ← H.a1, ← H.a2, ← H.a3, ← H.a4, ← H.a5]).trans ?_
  funext i; idx_vars i; exact v83 p a b g y d _ _

theorem res9 : val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (Cert.Kernel6Ideal.Gen.dats m 0 c).arrAt 9 Cert.Kernel6Ideal.cfg0.N := by
  obtain ⟨p, a, b, g, y, d, H⟩ := args m hpre c
  refine Eq.trans ?_ (final9 m p a b g y d c H).symm
  refine (show _ = val_main_v82 (F := Ideal) (up p) (up a) (up b) (up g) (up y) (up d) by rw [← H.a0, ← H.a1, ← H.a2, ← H.a3, ← H.a4, ← H.a5]).trans ?_
  funext i; idx_vars i; exact v82 p a b g y d _ _

end

/-- The kernel's four gradients are the reference's. -/
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hagree
  refine ⟨_, _, _, _, Cert.Kernel6Ideal.Value.run_blocks m g,
    (θ_run Cert.Reference6Ideal.defs _ _).mono (fun r h c => ?_) (Cert.Reference6Ideal.Value.run (F := Ideal) m' g')⟩
  obtain ⟨e0, e1, e2, e3, e4, e5⟩ := hagree c
  obtain ⟨h0, h1, h2, h3, h4⟩ := h c
  refine ⟨(h0.trans (Cert.Reference6Ideal.Read.val_main_v57_eq m' c)).trans ?_,
    (h1.trans (Cert.Reference6Ideal.Read.val_main_v58_eq _ _ _ _)).trans ?_,
    (h2.trans (Cert.Reference6Ideal.Read.val_main_v83_eq m' c)).trans ?_,
    (h3.trans (Cert.Reference6Ideal.Read.val_main_v82_eq m' c)).trans ?_, h4⟩
  · rw [e0, e1, e2, e3, e4, e5]; exact res6 m c hpre
  · rw [e0, e1, e2, e4]; exact res7 m c hpre
  · rw [e0, e1, e2, e3, e4, e5]; exact res8 m c hpre
  · rw [e0, e1, e2, e3, e4, e5]; exact res9 m c hpre

end Cert.NormC

end
-- ==== Proof.PoolProjRef.lean ====
/-
  The pooling projection's gradient, as its reference writes it: sums in closed form.
-/
module

public import proofs.«01_k».proof.Proof.Gen.Reference7Ideal.Read
public import proofs.«01_k».proof.Proof.Lift

@[expose] public section

set_option maxRecDepth 16384

noncomputable section

open Idealize.ShloMosaic Idealize.ShloMosaic.TcCoe Idealize.SL.Sem

namespace Cert.PoolProj

open Cert.Reference7Ideal Cert.Reference7Ideal.Read Cert.Lift

/-- A group's column. -/
abbrev col (g : Fin 4) (d : Fin 512) : Fin 2048 := ⟨g.val * 512 + d.val, by omega⟩
abbrev gr (n : Fin 2048) : Fin 4 := ⟨n.val / 512, by omega⟩
abbrev wi (n : Fin 2048) : Fin 512 := ⟨n.val % 512, by omega⟩
theorem col_gr (n : Fin 2048) : col (gr n) (wi n) = n := Fin.ext (by show n.val / 512 * 512 + n.val % 512 = n.val; omega)

variable (P : FVec Ideal S1x4096x4x512 .f32) (x0 e : FVec Ideal S4096x2048 .f32) (w : FVec Ideal S4x512x512 .bf16) (s : FVec Ideal S1x2048 .f32)

/-- The projection's output, of the pooled rows. -/
def Y (r : Fin 4096) (n : Fin 2048) : EReal := ∑ k : Fin 512, P (ix4 0 r (gr n) k) * w (ix3 (gr n) k (wi n))
/-- The pooled rows' cotangent, the projection's output's, and the scale's. -/
def DP (r : Fin 4096) (n : Fin 2048) : EReal := ∑ k : Fin 512, e (ix2 r (col (gr n) k)) * s (ix2 0 (col (gr n) k)) * w (ix3 (gr n) (wi n) k)
def DY (r : Fin 4096) (n : Fin 2048) : EReal := e (ix2 r n) * s (ix2 0 n)
def DS (n : Fin 2048) : EReal := ∑ r : Fin 4096, e (ix2 r n) * Y P w r n

theorem v97 (r : Fin 4096) (n : Fin 2048) : val_main_v97 (F := Ideal) e w s (ix2 r n) = DP e w s r n := by
  pointwise [val_main_v97, val_main_v96, val_main_v95, val_main_v94, val_main_v93, val_main_v92, val_main_v91, val_main_v90, val_main_v87, val_main_v86, val_main_v67]
  rfl
theorem v98 (r : Fin 4096) (n : Fin 2048) : val_main_v98 (F := Ideal) e s (ix2 r n) = DY e s r n := by
  pointwise [val_main_v98, val_main_v80, val_main_v79, val_main_v73, val_main_v72]
  rfl
theorem v71 (r : Fin 4096) (n : Fin 2048) : val_main_v71 (F := Ideal) x0 w (ix2 r n) = Y (val_main_v66 (F := Ideal) x0) w r n := by
  unfold val_main_v71 val_main_v70 val_main_v69 val_main_v68
  generalize val_main_v66 (F := Ideal) x0 = W
  pointwise [val_main_v67]
  exact Finset.sum_congr rfl fun _ _ => mul_comm _ _
theorem v82 (z : Fin 1) (n : Fin 2048) : val_main_v82 (F := Ideal) x0 e w (ix2 z n) = DS (val_main_v66 (F := Ideal) x0) e w n := by
  have h : ∀ r n, _ := v71 x0 w
  unfold val_main_v82 val_main_v81 val_main_v78 val_main_v77 val_main_v76
  generalize val_main_v71 (F := Ideal) x0 w = W at h ⊢
  pointwise [val_main_cst_8, val_main_cst_9]
  simp only [h, mul_comm (Y _ _ _ _)]
  exact Fin.sum_univ_one _

end Cert.PoolProj

end
-- ==== Proof.PoolProjKer.lean ====
/-
  The kernel of the pooling projection's gradient: its results in closed form.
-/
module

public import proofs.«01_k».proof.Proof.Gen.Kernel7Ideal.Frame
public import proofs.«01_k».proof.Proof.PoolProjRef
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.PoolProj

open Cert.Kernel7Ideal Cert.Kernel7Ideal.Gen Cert.Lift

variable (m : (ℓ : Loc nD τ sig) → Buf (Elt Ideal) ℓ)

theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![t.val, 0] ∧ win0_6.index t = ![0, 0] :=
  (by decide +kernel : ∀ t : Fin grid0.N, _)

/-- A point's row of the whole array. -/
abbrev row (t : Fin cfg0.N) (r : Fin 256) : Fin 4096 := ⟨t.val * 256 + r.val, by have : cfg0.N = 16 := rfl; omega⟩

variable (x0 e : FVec Ideal S4096x2048 .f32) (w : FVec Ideal S4x512x512 .bf16) (s : FVec Ideal S1x2048 .f32) (c : Dev nD)

/-- The pooled rows, as the forward lines give them. -/
abbrev Pl : FVec Ideal S1x4096x4x512 .f32 := Cert.Reference7Ideal.Read.val_main_v66 (F := Ideal) x0

/-- The arguments. -/
structure Args : Prop where
  a0 : m ((c : Thread nD τ).loc main_arg0) = x0
  a1 : m ((c : Thread nD τ).loc main_arg1) = e
  a2 : m ((c : Thread nD τ).loc main_arg2) = w
  a3 : m ((c : Thread nD τ).loc main_arg3) = s

section
variable (H : Args m x0 e w s c) (t : Fin cfg0.N)
include H

/-- What the host lines before the kernel hold before their operation number `n`. -/
abbrev pre (n : ℕ) (r : Ref sig .tc) := StableHlo.upto [hostOps0, hostOps0_1, hostOps0_2].flatten (fun b => m (c, b)) n (Proc.tc.devRef r)

omit H in
/-- The shifted running sums' two parts, window by window. -/
theorem parts : pre m c 14 main_v8 = Cert.Reference7Ideal.Read.val_main_v8 (F := Ideal) ∧ pre m c 14 main_v9 = Cert.Reference7Ideal.Read.val_main_v9 (F := Ideal) (m ((c : Thread nD τ).loc main_arg0))
    ∧ pre m c 30 main_v22 = Cert.Reference7Ideal.Read.val_main_v22 (F := Ideal) ∧ pre m c 30 main_v23 = Cert.Reference7Ideal.Read.val_main_v23 (F := Ideal) (m ((c : Thread nD τ).loc main_arg0))
    ∧ pre m c 46 main_v36 = Cert.Reference7Ideal.Read.val_main_v36 (F := Ideal) ∧ pre m c 46 main_v37 = Cert.Reference7Ideal.Read.val_main_v37 (F := Ideal) (m ((c : Thread nD τ).loc main_arg0))
    ∧ pre m c 62 main_v50 = Cert.Reference7Ideal.Read.val_main_v50 (F := Ideal) ∧ pre m c 62 main_v51 = Cert.Reference7Ideal.Read.val_main_v51 (F := Ideal) (m ((c : Thread nD τ).loc main_arg0)) := by
  refine ⟨?_, ?_, ?_, ?_, ?_, ?_, ?_, ?_⟩ <;> after_reads_simp <;> (try simp only [StableHlo.TRef.toBuf, StableHlo.TRef.ofBuf, cast_eq]) <;> rfl

omit H in
/-- The pooled rows, window by window. -/
theorem pools : pre m c 77 main_v62 = Cert.Reference7Ideal.Read.val_main_v62 (F := Ideal) (m ((c : Thread nD τ).loc main_arg0))
    ∧ pre m c 77 main_v63 = Cert.Reference7Ideal.Read.val_main_v63 (F := Ideal) (m ((c : Thread nD τ).loc main_arg0))
    ∧ pre m c 77 main_v64 = Cert.Reference7Ideal.Read.val_main_v64 (F := Ideal) (m ((c : Thread nD τ).loc main_arg0))
    ∧ pre m c 77 main_v65 = Cert.Reference7Ideal.Read.val_main_v65 (F := Ideal) (m ((c : Thread nD τ).loc main_arg0)) := by
  obtain ⟨h1, h2, h3, h4, h5, h6, h7, h8⟩ := parts m c
  unfold pre at h1 h2 h3 h4 h5 h6 h7 h8 ⊢
  refine ⟨?_, ?_, ?_, ?_⟩ <;> after_reads_simp
  · rw [h1, h2]; simp only [StableHlo.TRef.toBuf, StableHlo.TRef.ofBuf, cast_eq]; rfl
  · rw [h3, h4]; simp only [StableHlo.TRef.toBuf, StableHlo.TRef.ofBuf, cast_eq]; rfl
  · rw [h5, h6]; simp only [StableHlo.TRef.toBuf, StableHlo.TRef.ofBuf, cast_eq]; rfl
  · rw [h7, h8]; simp only [StableHlo.TRef.toBuf, StableHlo.TRef.ofBuf, cast_eq]; rfl

theorem v68 : V m c main_v68 = (truncf .bf16 (shapeCast S4096x2048 (Pl x0) shapeCasts_S1x4096x4x512_S4096x2048) bitsLt_bf16_f32 : FVec Ideal S4096x2048 .bf16) := by
  obtain ⟨h2, h3, h4, h5⟩ := pools m c
  rw [Pl, ← H.a0]
  unfold V Cert.Reference7Ideal.Read.val_main_v66
  unfold pre at h2 h3 h4 h5
  after_reads_simp
  simp only [Matrix.cons_val]
  rw [h2, h3, h4, h5]
  rfl

theorem iblk0 (r : Fin 256) (n : Fin 2048) : (iblk m c 0 t : FVec Ideal S256x2048 .f32) (ix2 r n) = e (ix2 (row t r) n) := by
  obtain ⟨h0, h1, h2, h3, h4, h5, h6⟩ := idx t
  refine Eq.trans ?_ (congrFun H.a1 (ix2 (row t r) n))
  blk_point [iblk, V, h0]
theorem iblk1 (r : Fin 256) (n : Fin 2048) : (iblk m c 1 t : FVec Ideal S256x2048 .bf16) (ix2 r n) = Pl x0 (ix4 0 (row t r) (gr n) (wi n)) := by
  obtain ⟨h0, h1, h2, h3, h4, h5, h6⟩ := idx t
  refine Eq.trans ?_ ((congrFun (v68 m x0 e w s c H) (ix2 (row t r) n)).trans ?_)
  · blk_point [iblk, h1]
  · generalize Pl x0 = W
    pointwise
theorem iblk2 (g : Fin 4) (k d : Fin 512) : (iblk m c 2 t : FVec Ideal S4x512x512 .bf16) (ix3 g k d) = w (ix3 g k d) := by
  obtain ⟨h0, h1, h2, h3, h4, h5, h6⟩ := idx t
  refine Eq.trans ?_ (congrFun H.a2 (ix3 g k d))
  blk_point [iblk, V, h2]
theorem iblk3 (n : Fin 2048) : (iblk m c 3 t : FVec Ideal S1x2048 .f32) (ix2 0 n) = s (ix2 0 n) := by
  obtain ⟨h0, h1, h2, h3, h4, h5, h6⟩ := idx t
  refine Eq.trans ?_ (congrFun H.a3 (ix2 0 n))
  blk_point [iblk, V, h3]

end
section
variable {x : FVec Ideal S256x2048 .f32} {b : FVec Ideal S1x2048 .f32}

/-- Four groups' columns, side by side. -/
theorem four (f : Fin 256 → Fin 4 → Fin 512 → EReal) {w0 w1 w2 w3 : FVec Ideal S256x512 .f32} (k0 : ∀ r d, w0 (ix2 r d) = f r 0 d) (k1 : ∀ r d, w1 (ix2 r d) = f r 1 d)
    (k2 : ∀ r d, w2 (ix2 r d) = f r 2 d) (k3 : ∀ r d, w3 (ix2 r d) = f r 3 d) (r : Fin 256) (n : Fin 2048) :
    (concatenate S256x2048 1 [⟨S256x512, w0⟩, ⟨S256x512, w1⟩, ⟨S256x512, w2⟩, ⟨S256x512, w3⟩] concatenates_S256x512_S256x512_S256x512_S256x512_S256x2048_d1 : FVec Ideal S256x2048 .f32) (ix2 r n)
      = f r (gr n) (wi n) := by
  pointwise
  have part : ∀ (g : Fin 4) (b : Fin 512), g.val * 512 + b.val = n.val → g = gr n ∧ b = wi n := fun g b hb =>
    ⟨Fin.ext (by show g.val = n.val / 512; omega), Fin.ext (by show b.val = n.val % 512; omega)⟩
  by_cases h1 : n.val < 512
  · obtain ⟨ha, hb⟩ := part 0 ⟨n.val, h1⟩ (by simp)
    rw [dif_pos h1, k0, ← ha, ← hb]
  by_cases h2 : n.val - 512 < 512
  · obtain ⟨ha, hb⟩ := part 1 ⟨n.val - 512, h2⟩ (by show 1 * 512 + (n.val - 512) = n.val; omega)
    rw [dif_neg h1, dif_pos h2, k1, ← ha, ← hb]
  by_cases h3 : n.val - 512 - 512 < 512
  · obtain ⟨ha, hb⟩ := part 2 ⟨n.val - 512 - 512, h3⟩ (by show 2 * 512 + (n.val - 512 - 512) = n.val; omega)
    rw [dif_neg h1, dif_neg h2, dif_pos h3, k2, ← ha, ← hb]
  · obtain ⟨ha, hb⟩ := part 3 ⟨n.val - 512 - 512 - 512, by omega⟩ (by show 3 * 512 + (n.val - 512 - 512 - 512) = n.val; omega)
    rw [dif_neg h1, dif_neg h2, dif_neg h3, k3, ← ha, ← hb]

/-- A group's matrix, loaded. -/
theorem ld_w (X : S4x512x512.Idx → Elt Ideal .bf16) (g : Fin 4) (o : ℕ) (ho : o = g.val) (inb) (k d : Fin 512) :
    View.ld (Val := Elt Ideal) X (Rect.unit (s := S4x512x512) ![o, 0, 0] ![1, 512, 512] inb) (ix3 0 k d) = X (ix3 g k d) := by
  subst ho
  refine View.ld_unit_apply_of X _ _ inb _ _ fun a => ?_
  match a with
  | ⟨0, _⟩ => rfl
  | ⟨1, _⟩ => exact (Nat.zero_add _).symm
  | ⟨2, _⟩ => exact (Nat.zero_add _).symm
/-- A group's columns, loaded. -/
theorem ld_c (X : S256x2048.Idx → Elt Ideal .bf16) (g : Fin 4) (o : ℕ) (ho : o = g.val * 512) (inb) (r : Fin 256) (d : Fin 512) :
    View.ld (Val := Elt Ideal) X (Rect.unit (s := S256x2048) ![0, o] ![256, 512] inb) (ix2 r d) = X (ix2 r (col g d)) := by
  subst ho
  refine View.ld_unit_apply_of X _ _ inb _ _ fun a => ?_
  match a with
  | ⟨0, _⟩ => exact (Nat.zero_add _).symm
  | ⟨1, _⟩ => rfl

theorem pay4 (r : Fin 256) (n : Fin 2048) : k0_pay4 (F := Ideal) x b (ix2 r n) = x (ix2 r n) * b (ix2 0 n) := by
  pointwise [k0_pay4]

/-- A group's columns against its matrix, transposed. -/
def back (Q : FVec Ideal S256x2048 .bf16) (W : FVec Ideal S4x512x512 .bf16) (r : Fin 256) (g : Fin 4) (d : Fin 512) : EReal := ∑ k : Fin 512, Q (ix2 r (col g k)) * W (ix3 g d k)
/-- A group's columns against its matrix. -/
def fore (Q : FVec Ideal S256x2048 .bf16) (W : FVec Ideal S4x512x512 .bf16) (r : Fin 256) (g : Fin 4) (d : Fin 512) : EReal := ∑ k : Fin 512, Q (ix2 r (col g k)) * W (ix3 g k d)

theorem pay6 (W : FVec Ideal S4x512x512 .bf16) {U : FVec Ideal S1x512x512 .bf16} (hU : ∀ k d, U (ix3 0 k d) = W (ix3 0 k d)) (r : Fin 256) (d : Fin 512) :
    k0_pay6 (F := Ideal) x b U (ix2 r d) = back (k0_pay4 (F := Ideal) x b) W r 0 d := by
  unfold k0_pay6 back
  generalize k0_pay4 (F := Ideal) x b = Q
  pointwise
  simp only [hU]
  rfl
theorem pay8 (W : FVec Ideal S4x512x512 .bf16) {U : FVec Ideal S1x512x512 .bf16} (hU : ∀ k d, U (ix3 0 k d) = W (ix3 1 k d)) (r : Fin 256) (d : Fin 512) :
    k0_pay8 (F := Ideal) x b U (ix2 r d) = back (k0_pay4 (F := Ideal) x b) W r 1 d := by
  unfold k0_pay8 back
  generalize k0_pay4 (F := Ideal) x b = Q
  pointwise
  simp only [hU]
  rfl
/-- The pooled rows' cotangent. -/
theorem pay1 (Q : FVec Ideal S256x2048 .bf16) (W : FVec Ideal S4x512x512 .bf16) {A B : FVec Ideal S256x512 .f32} {U V : FVec Ideal S1x512x512 .bf16}
    (hA : ∀ r d, A (ix2 r d) = back Q W r 0 d) (hB : ∀ r d, B (ix2 r d) = back Q W r 1 d) (hU : ∀ k d, U (ix3 0 k d) = W (ix3 2 k d)) (hV : ∀ k d, V (ix3 0 k d) = W (ix3 3 k d))
    (r : Fin 256) (n : Fin 2048) : k0_pay1 (F := Ideal) Q A B U V (ix2 r n) = back Q W r (gr n) (wi n) := by
  unfold k0_pay1
  refine four (back Q W) hA hB (fun r d => ?_) (fun r d => ?_) r n
  · pointwise
    simp only [hU]
    rfl
  · pointwise
    simp only [hV]
    rfl
theorem pay9 {X : FVec Ideal S256x512 .bf16} (r : Fin 256) (k : Fin 512) : k0_pay9 (F := Ideal) X (ix2 r k) = X (ix2 r k) := by
  pointwise [k0_pay9]
theorem pay5 (Q : FVec Ideal S256x2048 .bf16) (W : FVec Ideal S4x512x512 .bf16) {X : FVec Ideal S256x512 .bf16} {U : FVec Ideal S1x512x512 .bf16} (g : Fin 4)
    (hX : ∀ r k, X (ix2 r k) = Q (ix2 r (col g k))) (hU : ∀ k d, U (ix3 0 k d) = W (ix3 g k d)) (r : Fin 256) (d : Fin 512) :
    k0_pay5 (F := Ideal) X U (ix2 r d) = fore Q W r g d := by
  pointwise [k0_pay5]
  simp only [hU, hX]
  rfl
/-- A row of sums, added to what is there. -/
theorem rows {C : FVec Ideal S256x2048 .f32} {f : Fin 256 → Fin 2048 → EReal} (h : ∀ r n, C (ix2 r n) = f r n) (a : FVec Ideal S1x2048 .f32) (z : Fin 1) (n : Fin 2048) :
    (addf (shapeCast S1x2048 a shapeCasts_S1x2048_S1x2048) (shapeCast S1x2048 (multiReduction .add [0] S2048 (mulf x C) 0x00000000#32 reduces_S256x2048_S2048 (.inl rfl) rfl) shapeCasts_S2048_S1x2048)
      : FVec Ideal S1x2048 .f32) (ix2 z n) = a (ix2 z n) + ∑ r : Fin 256, x (ix2 r n) * f r n := by
  pointwise
  simp only [h]
/-- The scale's gradient. -/
theorem pay3 (Q : FVec Ideal S256x2048 .bf16) (W : FVec Ideal S4x512x512 .bf16) {A B : FVec Ideal S256x512 .f32} {X Y : FVec Ideal S256x512 .bf16} {U V : FVec Ideal S1x512x512 .bf16}
    (hA : ∀ r d, A (ix2 r d) = fore Q W r 0 d) (hB : ∀ r d, B (ix2 r d) = fore Q W r 1 d) (hU : ∀ k d, U (ix3 0 k d) = W (ix3 2 k d)) (hV : ∀ k d, V (ix3 0 k d) = W (ix3 3 k d))
    (hX : ∀ r k, X (ix2 r k) = Q (ix2 r (col 2 k))) (hY : ∀ r k, Y (ix2 r k) = Q (ix2 r (col 3 k))) (a : FVec Ideal S1x2048 .f32) (z : Fin 1) (n : Fin 2048) :
    k0_pay3 (F := Ideal) x A B X U Y V a (ix2 z n) = a (ix2 z n) + ∑ r : Fin 256, x (ix2 r n) * fore Q W r (gr n) (wi n) := by
  have key := fun (C D : FVec Ideal S256x512 .f32) => four (fore Q W) (w2 := C) (w3 := D) hA hB
  have hC : ∀ r d, (matmul dot_S256x512_S512x512_S256x512_1_0_0_1_n_n none X (shapeCast S512x512 U shapeCasts_S1x512x512_S512x512) (constant S256x512 .f32 0x00000000#32)
      : FVec Ideal S256x512 .f32) (ix2 r d) = fore Q W r 2 d := fun r d => by
    pointwise
    simp only [hU, hX]
    rfl
  have hD := fun r d => pay5 Q W 3 hY hV r d
  unfold k0_pay5 at hD
  exact rows (key _ _ hC hD) a z n
end

section
variable (H : Args m x0 e w s c) (t : Fin cfg0.N)
include H

/-- The results, as arrays. -/
def DPv : FVec Ideal S4096x2048 .f32 := fun i => DP e w s (i 0) (i 1)
def DYv : FVec Ideal S4096x2048 .bf16 := fun i => DY e s (i 0) (i 1)
def DSv : FVec Ideal S1x2048 .f32 := fun i => DS (Pl x0) e w (i 1)

theorem dyb (r : Fin 256) (n : Fin 2048) : k0_pay4 (F := Ideal) (iblk m c 0 t) (iblk m c 3 t) (ix2 r n) = DY e s (row t r) n := by
  rw [pay4, iblk0 m x0 e w s c H, iblk3 m x0 e w s c H]
  rfl

theorem final5 : (dats m 0 c).arrAt 5 (cfgs 0).N = DYv e s := by
  refine (dats m 0 c).arrAt_eq_of_covers 5 _ (by decide +kernel) fun t hf j => ?_
  blk_simp
  have key : (outsAt0 m c t.val t.isLt).2.1 = k0_pay4 (F := Ideal) (iblk m c 0 t) (iblk m c 3 t) := by
    by_cases h0 : t.val % 16 = 0
    · rw [outsAt0_A m c t h0]; frame_out
    · rw [outsAt0_B m c t h0]; frame_out
  rw [after0_5, key]
  obtain ⟨h0, h1, h2, h3, h4, h5, h6⟩ := idx t
  idx_vars j
  refine (dyb m x0 e w s c H t j0 j1).trans ?_
  show DYv e s (ix2 (row t j0) j1) = _
  blk_ext [h5]

theorem dpb (r : Fin 256) (n : Fin 2048) : (outsAt0 m c t.val t.isLt).1 (ix2 r n) = DP e w s (row t r) n := by
  have key : (outsAt0 m c t.val t.isLt).1 (ix2 r n) = back (k0_pay4 (F := Ideal) (iblk m c 0 t) (iblk m c 3 t)) (iblk m c 2 t) r (gr n) (wi n) := by
    by_cases h0 : t.val % 16 = 0
    · rw [outsAt0_A m c t h0]; frame_out
      exact pay1 _ _ (pay6 _ (ld_w _ 0 0 rfl _)) (pay8 _ (ld_w _ 1 1 rfl _)) (ld_w _ 2 2 rfl _) (ld_w _ 3 3 rfl _) r n
    · rw [outsAt0_B m c t h0]; frame_out
      exact pay1 _ _ (pay6 _ (ld_w _ 0 0 rfl _)) (pay8 _ (ld_w _ 1 1 rfl _)) (ld_w _ 2 2 rfl _) (ld_w _ 3 3 rfl _) r n
  rw [key, back, DP]
  exact Finset.sum_congr rfl fun k _ => by rw [dyb m x0 e w s c H, iblk2 m x0 e w s c H]; rfl

theorem final4 : (dats m 0 c).arrAt 4 (cfgs 0).N = DPv e w s := by
  refine (dats m 0 c).arrAt_eq_of_covers 4 _ (by decide +kernel) fun t hf j => ?_
  blk_simp
  rw [after0_4]
  obtain ⟨h0, h1, h2, h3, h4, h5, h6⟩ := idx t
  idx_vars j
  refine (dpb m x0 e w s c H t j0 j1).trans ?_
  show DPv e w s (ix2 (row t j0) j1) = _
  blk_ext [h4]

/-- A point's term of the scale's gradient. -/
def part (t : Fin cfg0.N) (j : S1x2048.Idx) : EReal := ∑ r : Fin 256, e (ix2 (row t r) (j 1)) * Y (Pl x0) w (row t r) (j 1)

theorem acc (a : FVec Ideal S1x2048 .f32) (j : S1x2048.Idx) (i0 i1 i2 i3 i4 i5 i6 i7) : k0_pay3 (F := Ideal) (iblk m c 0 t)
    (k0_pay5 (View.ld (Val := Elt Ideal) (iblk m c 1 t) (Rect.unit (s := S256x2048) ![0, 0] ![256, 512] i0)) (View.ld (Val := Elt Ideal) (iblk m c 2 t) (Rect.unit (s := S4x512x512) ![0, 0, 0] ![1, 512, 512] i1)))
    (k0_pay7 (View.ld (Val := Elt Ideal) (iblk m c 1 t) (Rect.unit (s := S256x2048) ![0, 512] ![256, 512] i2)) (View.ld (Val := Elt Ideal) (iblk m c 2 t) (Rect.unit (s := S4x512x512) ![1, 0, 0] ![1, 512, 512] i3)))
    (k0_pay9 (View.ld (Val := Elt Ideal) (iblk m c 1 t) (Rect.unit (s := S256x2048) ![0, 1024] ![256, 512] i4)))
    (View.ld (Val := Elt Ideal) (iblk m c 2 t) (Rect.unit (s := S4x512x512) ![2, 0, 0] ![1, 512, 512] i5))
    (View.ld (Val := Elt Ideal) (iblk m c 1 t) (Rect.unit (s := S256x2048) ![0, 1536] ![256, 512] i6))
    (View.ld (Val := Elt Ideal) (iblk m c 2 t) (Rect.unit (s := S4x512x512) ![3, 0, 0] ![1, 512, 512] i7)) a j = a j + part x0 e w t j := by
  idx_vars j
  refine (pay3 (iblk m c 1 t) (iblk m c 2 t) (pay5 _ _ 0 (ld_c _ 0 0 rfl _) (ld_w _ 0 0 rfl _)) (pay5 _ _ 1 (ld_c _ 1 512 rfl _) (ld_w _ 1 1 rfl _)) (ld_w _ 2 2 rfl _) (ld_w _ 3 3 rfl _)
    (fun r k => (pay9 r k).trans (ld_c _ 2 1024 rfl _ r k)) (ld_c _ 3 1536 rfl _) a j0 j1).trans ?_
  refine congrArg (a (ix2 j0 j1) + ·) (Finset.sum_congr rfl fun r _ => ?_)
  rw [iblk0 m x0 e w s c H, fore]
  show _ = e (ix2 (row t r) j1) * ∑ k : Fin 512, Pl x0 (ix4 0 (row t r) (gr j1) k) * w (ix3 (gr j1) k (wi j1))
  refine congrArg (e (ix2 (row t r) j1) * ·) (Finset.sum_congr rfl fun k _ => ?_)
  rw [iblk1 m x0 e w s c H, iblk2 m x0 e w s c H]
  have hg : gr (col (gr j1) k) = gr j1 := Fin.ext (by show (j1.val / 512 * 512 + k.val) / 512 = j1.val / 512; omega)
  have hw : wi (col (gr j1) k) = k := Fin.ext (by show (j1.val / 512 * 512 + k.val) % 512 = k.val; omega)
  rw [hg, hw]

omit H in
/-- The rows are the points' rows. -/
theorem sum_rows (f : Fin 4096 → EReal) : ∑ t : Fin 16, ∑ r : Fin 256, f (row t r) = ∑ r : Fin 4096, f r := by
  rw [← Fintype.sum_prod_type']
  exact Fintype.sum_equiv (finProdFinEquiv.trans (finCongr (by decide))) _ _ fun x =>
    congrArg f (Fin.ext (by show x.1.val * 256 + x.2.val = x.2.val + 256 * x.1.val; omega))

theorem final6 : (dats m 0 c).arrAt 6 (cfgs 0).N = DSv x0 e w := by
  refine (dats m 0 c).arrAt_eq_of_covers 6 _ (by decide +kernel) fun t hf j => ?_
  blk_simp
  have ht := (flush0_6 t).mp hf
  obtain ⟨h0, h1, h2, h3, h4, h5, h6⟩ := idx t
  rw [after0_6, Pipeline.eq_sum_fin_of_reset_step_apply_last (fun n h => (outsAt0 m c n h).2.2) 16 (fun _ => 0) (fun t j => part x0 e w t j)
    (fun t hz j => by rw [outsAt0_A m c t hz]; frame_out; rw [acc m x0 e w s c H]; exact congrArg (· + _) (by idx_vars j; pointwise [k0_pay2]))
    (fun t hz j => by rw [outsAt0_B m c t hz]; frame_out; rw [acc m x0 e w s c H]) (by decide) t
    (by have := t.isLt; have hN : cfg0.N = 16 := rfl; omega), zero_add]
  show ∑ t : Fin cfg0.N, part x0 e w t _ = _
  refine (sum_rows fun r => e (ix2 r (j 1)) * Y (Pl x0) w r (j 1)).trans ?_
  idx_vars j
  show DSv x0 e w (ix2 j0 j1) = _
  blk_ext [h6]
end

end Cert.PoolProj

end
-- ==== Proof.PoolProjClaims.lean ====
/-
  The claims about the pooling projection's gradient.
-/
module

public import proofs.«01_k».proof.Defs
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.PoolProjKer
public import Idealize.ShloMosaic.Lib.Claim

@[expose] public section

set_option maxRecDepth 16384

noncomputable section

open Idealize.ShloMosaic Idealize.ShloMosaic.TcCoe Idealize.SL.Sem
open Cert.Lift

namespace Cert.PoolProj

theorem frame_p : Cert.quiescent_Kernel7 (hKernel7 := Cert.Kernel7.Gen.facts) := fun m ρ _ => Cert.Kernel7.Gen.frame m ρ

theorem frame_pi : Cert.quiescent_Kernel7Ideal (hKernel7Ideal := Cert.Kernel7Ideal.Gen.facts) := fun m ρ _ => Cert.Kernel7Ideal.Gen.frame m ρ

theorem frame_ri : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem args (m) (c) : ∃ x0 e w s, Args m x0 e w s c := ⟨_, _, _, _, rfl, rfl, rfl, rfl⟩

section
variable (m : (ℓ : Loc Cert.Kernel7Ideal.nD Cert.Kernel7Ideal.τ Cert.Kernel7Ideal.sig) → Buf (Elt Ideal) ℓ) (c : Dev Cert.Kernel7Ideal.nD)

open Cert.Kernel7Ideal Cert.Reference7Ideal.Read

theorem res4 : val_main_v97 (F := Ideal) (m ((c.tc : Thread nD τ).loc main_arg1)) (m ((c.tc : Thread nD τ).loc main_arg2)) (m ((c.tc : Thread nD τ).loc main_arg3)) = (Cert.Kernel7Ideal.Gen.dats m 0 c).arrAt 4 Cert.Kernel7Ideal.cfg0.N := by
  obtain ⟨x0, e, w, s, H⟩ := args m c
  refine Eq.trans ?_ (final4 m x0 e w s c H).symm
  refine (show _ = val_main_v97 (F := Ideal) e w s by rw [← H.a1, ← H.a2, ← H.a3]).trans ?_
  funext i; idx_vars i; exact v97 e w s _ _

theorem res5 : val_main_v98 (F := Ideal) (m ((c.tc : Thread nD τ).loc main_arg1)) (m ((c.tc : Thread nD τ).loc main_arg3)) = (Cert.Kernel7Ideal.Gen.dats m 0 c).arrAt 5 Cert.Kernel7Ideal.cfg0.N := by
  obtain ⟨x0, e, w, s, H⟩ := args m c
  refine Eq.trans ?_ (final5 m x0 e w s c H).symm
  refine (show _ = val_main_v98 (F := Ideal) e s by rw [← H.a1, ← H.a3]).trans ?_
  funext i; idx_vars i; exact v98 e s _ _

theorem res6 : val_main_v82 (F := Ideal) (m ((c.tc : Thread nD τ).loc main_arg0)) (m ((c.tc : Thread nD τ).loc main_arg1)) (m ((c.tc : Thread nD τ).loc main_arg2)) = (Cert.Kernel7Ideal.Gen.dats m 0 c).arrAt 6 Cert.Kernel7Ideal.cfg0.N := by
  obtain ⟨x0, e, w, s, H⟩ := args m c
  refine Eq.trans ?_ (final6 m x0 e w s c H).symm
  refine (show _ = val_main_v82 (F := Ideal) x0 e w by rw [← H.a0, ← H.a1, ← H.a2]).trans ?_
  funext i; idx_vars i; exact v82 x0 e w _ _

end

/-- The kernel's three gradients are the reference's. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨_, _, _, Cert.Kernel7Ideal.Value.run_blocks m g,
    (θ_run Cert.Reference7Ideal.defs _ _).mono (fun r h c => ?_) (Cert.Reference7Ideal.Value.run (F := Ideal) m' g')⟩
  obtain ⟨e0, e1, e2, e3⟩ := hagree c
  obtain ⟨h0, h1, h2, h3⟩ := h c
  refine ⟨(h0.trans (Cert.Reference7Ideal.Read.val_main_v97_eq _ _ _)).trans ?_,
    (h1.trans (Cert.Reference7Ideal.Read.val_main_v98_eq _ _)).trans ?_,
    (h2.trans (Cert.Reference7Ideal.Read.val_main_v82_eq m' c)).trans ?_, h3⟩
  · rw [e1, e2, e3]; exact res4 m c
  · rw [e1, e3]; exact res5 m c
  · rw [e0, e1, e2]; exact res6 m c

end Cert.PoolProj

end
-- ==== Proof.PoolWinRef.lean ====
/-
  The pooling's windows, seen from their gradient: the reference's result in closed form.
-/
module

public import proofs.«01_k».proof.Proof.Gen.Reference8Ideal.Read
public import proofs.«01_k».proof.Proof.Lift
public import Idealize.ShloMosaic.Lib.Pointwise

@[expose] public section

set_option maxRecDepth 16384

noncomputable section

open Idealize.ShloMosaic Idealize.ShloMosaic.TcCoe Idealize.SL.Sem

namespace Cert.PoolWin

open Cert.Reference8Ideal Cert.Reference8Ideal.Read Cert.Lift

/-- A group's column. -/
abbrev col (g : Fin 4) (d : Fin 512) : Fin 2048 := ⟨g.val * 512 + d.val, by omega⟩
abbrev gr (n : Fin 2048) : Fin 4 := ⟨n.val / 512, by omega⟩
abbrev wi (n : Fin 2048) : Fin 512 := ⟨n.val % 512, by omega⟩
theorem col_gr (n : Fin 2048) : col (gr n) (wi n) = n := Fin.ext (by show n.val / 512 * 512 + n.val % 512 = n.val; omega)

/-- A group's window. -/
abbrev wd : Fin 4 → ℕ := ![2, 4, 8, 16]

/-- How many rows a window ending at a row holds. -/
def cnt (w j : ℕ) : ℝ := min (1 + (j : ℝ)) w
theorem cnt_ne (w j : ℕ) (hw : 0 < w) : cnt w j ≠ 0 := by
  have h : (0 : ℝ) < w := Nat.cast_pos.mpr hw
  have h2 : (0 : ℝ) ≤ j := Nat.cast_nonneg j
  exact ne_of_gt (lt_min (by linarith) h)

variable (p : S4096x2048.Idx → ℝ)

/-- A row's cotangent over its window's count; nothing past the last row. -/
def U (g : Fin 4) (d : Fin 512) (n : ℕ) : ℝ := if h : n < 4096 then p (ix2 ⟨n, h⟩ (col g d)) / cnt (wd g) n else 0

/-- The gradient of a row: its windows' shares, less its own. -/
def DH (i : Fin 4096) (n : Fin 2048) : ℝ := (∑ k ∈ Finset.range (wd (gr n)), U p (gr n) (wi n) (i.val + k)) - p (ix2 i n)

/-! ## A running sum -/

theorem foldl_add {α : Type*} (l : List α) (f : α → EReal) (v : EReal) : l.foldl (fun r n => r + f n) v = v + (l.map f).sum := by
  induction l generalizing v with
  | nil => simp
  | cons a l ih => rw [List.foldl_cons, ih, List.map_cons, List.sum_cons, add_assoc]

/-- The positions of a column. -/
def colW (N : ℕ) : Fin N ≃ (⟨4, ![1, N, 1, 1]⟩ : Shape).Idx where
  toFun k := ix4 (0 : Fin 1) k (0 : Fin 1) (0 : Fin 1)
  invFun i := i 1
  left_inv k := rfl
  right_inv i := funext fun a => match a with
    | ⟨0, _⟩ => Subsingleton.elim (α := Fin 1) _ _
    | ⟨1, _⟩ => rfl
    | ⟨2, _⟩ => Subsingleton.elim (α := Fin 1) _ _
    | ⟨3, _⟩ => Subsingleton.elim (α := Fin 1) _ _

/-- A sum over a column, as the host takes it. -/
theorem window_sum {N G D L : ℕ} (X : (⟨4, ![1, N, G, D]⟩ : Shape).Idx → EReal) (v : EReal) (hi : Fin 4 → ℕ)
    (h : (⟨4, ![1, N, G, D]⟩ : Shape).ReduceWindows ![1, N, 1, 1] ![1, 1, 1, 1] ![0, L, 0, 0] hi ⟨4, ![1, N, G, D]⟩) (hu) (i : Fin N) (g : Fin G) (d : Fin D) :
    Host.reduceWindow (· + ·) ![1, N, 1, 1] ![1, 1, 1, 1] ![0, L, 0, 0] hi X (fun _ : (⟨0, ![]⟩ : Shape).Idx => v) h hu (ix4 (0 : Fin 1) i g d)
      = v + ∑ k : Fin N, if h : L ≤ i.val + k.val ∧ i.val + k.val - L < N then X (ix4 (0 : Fin 1) ⟨i.val + k.val - L, h.2⟩ g d) else v := by
  unfold Host.reduceWindow
  dsimp only
  rw [foldl_add, ← Fin.sum_univ_def]
  refine congrArg (v + ·) ((Equiv.sum_comp (Shape.rowMajor ⟨4, ![1, N, 1, 1]⟩) _).symm.trans ((Equiv.sum_comp (colW N) _).symm.trans (Finset.sum_congr rfl fun k _ => ?_)))
  simp only [Equiv.symm_apply_apply]
  have e : (∀ a : Fin 4, (![0, L, 0, 0] : Fin 4 → ℕ) a ≤ (ix4 (0 : Fin 1) i g d a).val * (![1, 1, 1, 1] : Fin 4 → ℕ) a + (ix4 (0 : Fin 1) k (0 : Fin 1) (0 : Fin 1) a).val
      ∧ (ix4 (0 : Fin 1) i g d a).val * (![1, 1, 1, 1] : Fin 4 → ℕ) a + (ix4 (0 : Fin 1) k (0 : Fin 1) (0 : Fin 1) a).val - (![0, L, 0, 0] : Fin 4 → ℕ) a < (![1, N, G, D] : Fin 4 → ℕ) a) ↔ L ≤ i.val + k.val ∧ i.val + k.val - L < N := by
    constructor
    · intro h
      have := h 1
      simpa using this
    · intro h a
      match a with
      | ⟨0, _⟩ => exact ⟨Nat.zero_le _, Nat.one_pos⟩
      | ⟨1, _⟩ => exact ⟨by show L ≤ i.val * 1 + k.val; omega, by show i.val * 1 + k.val - L < N; omega⟩
      | ⟨2, _⟩ => exact ⟨Nat.zero_le _, by show g.val * 1 + 0 - 0 < G; omega⟩
      | ⟨3, _⟩ => exact ⟨Nat.zero_le _, by show d.val * 1 + 0 - 0 < D; omega⟩
  refine dite_congr (propext e) (fun hk => congrArg X (funext fun a => ?_)) fun _ => rfl
  match a with
  | ⟨0, _⟩ => rfl
  | ⟨1, _⟩ => exact Fin.ext (by show i.val * 1 + k.val - L = i.val + k.val - L; omega)
  | ⟨2, _⟩ => exact Fin.ext (by show g.val * 1 + 0 - 0 = g.val; omega)
  | ⟨3, _⟩ => exact Fin.ext (by show d.val * 1 + 0 - 0 = d.val; omega)

/-- A sum up to a row. -/
theorem window_before {N G D L : ℕ} (X : FVec Ideal ⟨4, ![1, N, G, D]⟩ .f32) (V : FVec Ideal ⟨0, ![]⟩ .f32) (hV : V = fun _ => (0 : EReal)) (hi : Fin 4 → ℕ)
    (h : (⟨4, ![1, N, G, D]⟩ : Shape).ReduceWindows ![1, N, 1, 1] ![1, 1, 1, 1] ![0, L, 0, 0] hi ⟨4, ![1, N, G, D]⟩) (hu) (i : Fin N) (g : Fin G) (d : Fin D) :
    Host.reduceWindowAdd ![1, N, 1, 1] ![1, 1, 1, 1] ![0, L, 0, 0] hi X V h hu (ix4 (0 : Fin 1) i g d)
      = ∑ k : Fin N, if h : L ≤ i.val + k.val ∧ i.val + k.val - L < N then X (ix4 (0 : Fin 1) ⟨i.val + k.val - L, h.2⟩ g d) else (0 : EReal) := by
  subst hV
  exact (window_sum X 0 hi h hu i g d).trans (zero_add _)

/-- A sum from a row on. -/
theorem add_window {N G D : ℕ} (X : FVec Ideal ⟨4, ![1, N, G, D]⟩ .f32) (V : FVec Ideal ⟨0, ![]⟩ .f32) (hV : V = fun _ => (0 : EReal)) (hi : Fin 4 → ℕ)
    (h : (⟨4, ![1, N, G, D]⟩ : Shape).ReduceWindows ![1, N, 1, 1] ![1, 1, 1, 1] ![0, 0, 0, 0] hi ⟨4, ![1, N, G, D]⟩) (hu) (i : Fin N) (g : Fin G) (d : Fin D) :
    Host.reduceWindowAdd ![1, N, 1, 1] ![1, 1, 1, 1] ![0, 0, 0, 0] hi X V h hu (ix4 (0 : Fin 1) i g d)
      = ∑ k : Fin N, if h : i.val + k.val < N then X (ix4 (0 : Fin 1) ⟨i.val + k.val, h⟩ g d) else (0 : EReal) := by
  refine (window_before X V hV hi h hu i g d).trans (Finset.sum_congr rfl fun k _ => ?_)
  exact dite_congr (propext ⟨fun h => h.2, fun h => ⟨Nat.zero_le _, h⟩⟩) (fun _ => rfl) fun _ => rfl

/-- A running sum of differences `w` apart is a sum of `w` terms. -/
theorem telescope (f : ℕ → ℝ) (N w i : ℕ) (hf : ∀ n, N ≤ n → f n = 0) :
    ∑ k ∈ Finset.range N, (f (i + k) - f (i + k + w)) = ∑ k ∈ Finset.range w, f (i + k) := by
  have h1 := Finset.sum_range_add (fun k => f (i + k)) N w
  have h2 := Finset.sum_range_add (fun k => f (i + k)) w N
  rw [Nat.add_comm w N, h1] at h2
  have h3 : ∑ k ∈ Finset.range w, f (i + (N + k)) = 0 := Finset.sum_eq_zero fun k _ => hf _ (by omega)
  rw [Finset.sum_sub_distrib, sub_eq_iff_eq_add]
  rw [h3, add_zero] at h2
  rw [h2]
  exact congrArg _ (Finset.sum_congr rfl fun k _ => congrArg f (by omega))

/-! ## The reference's lines -/

theorem words : Ideal.ofBits FTy.f32 0x40000000#32 = ((2 : ℝ) : EReal) ∧ Ideal.ofBits FTy.f32 0x40800000#32 = ((4 : ℝ) : EReal)
    ∧ Ideal.ofBits FTy.f32 0x41000000#32 = ((8 : ℝ) : EReal) ∧ Ideal.ofBits FTy.f32 0x41800000#32 = ((16 : ℝ) : EReal) := by
  refine ⟨?_, ?_, ?_, ?_⟩ <;> (simp [Ideal.ofBits, Ideal.ieee, ← EReal.coe_mul] <;> norm_num)

theorem row_word (j : ℕ) (h : j < 8192) : (BitVec.ofNat 32 j).toInt = (j : ℤ) := by
  rw [BitVec.toInt_eq_toNat_of_lt] <;> simp only [BitVec.toNat_ofNat] <;> omega

theorem count {w j : ℕ} {c : EReal} (h : c = ((w : ℝ) : EReal)) (hj : j < 4096) : min (1 + (FloatOps.sitofp (F := Ideal) FTy.f32 (BitVec.ofNat 32 j) : EReal)) c = (cnt w j : EReal) := by
  show min (1 + (((BitVec.ofNat 32 j).toInt : ℝ) : EReal)) c = _
  rw [row_word j (by omega), h, one_coe, add_coe, cnt, Int.cast_natCast]
  exact (Monotone.map_min fun a b h => EReal.coe_le_coe_iff.2 h).symm

variable (j : Fin 4096) (d : Fin 512)

theorem counts : val_main_v14 (F := Ideal) (ix1 j) = (cnt 2 j.val : EReal) ∧ val_main_v29 (F := Ideal) (ix1 j) = (cnt 4 j.val : EReal)
    ∧ val_main_v44 (F := Ideal) (ix1 j) = (cnt 8 j.val : EReal) ∧ val_main_v59 (F := Ideal) (ix1 j) = (cnt 16 j.val : EReal) := by
  obtain ⟨h1, h2, h3, h4⟩ := words
  refine ⟨?_, ?_, ?_, ?_⟩
  · pointwise [val_main_v14, val_main_v5, val_main_v4, val_main_v3, val_main_cst, val_main_v13, val_main_cst_2]
    exact count h1 j.isLt
  · pointwise [val_main_v29, val_main_v5, val_main_v4, val_main_v3, val_main_cst, val_main_v28, val_main_cst_5]
    exact count h2 j.isLt
  · pointwise [val_main_v44, val_main_v5, val_main_v4, val_main_v3, val_main_cst, val_main_v43, val_main_cst_8]
    exact count h3 j.isLt
  · pointwise [val_main_v59, val_main_v5, val_main_v4, val_main_v3, val_main_cst, val_main_v58, val_main_cst_11]
    exact count h4 j.isLt

theorem U_lt {g : Fin 4} {d : Fin 512} {n : ℕ} (h : n < 4096) : U p g d n = p (ix2 ⟨n, h⟩ (col g d)) / cnt (wd g) n := dif_pos h
theorem U_ge {g : Fin 4} {d : Fin 512} {n : ℕ} (h : ¬ n < 4096) : U p g d n = 0 := dif_neg h

theorem shares : val_main_v125 (F := Ideal) (up p) (ix3 0 j d) = (U p 0 d j.val : EReal) ∧ val_main_v111 (F := Ideal) (up p) (ix3 0 j d) = (U p 1 d j.val : EReal)
    ∧ val_main_v97 (F := Ideal) (up p) (ix3 0 j d) = (U p 2 d j.val : EReal) ∧ val_main_v84 (F := Ideal) (up p) (ix3 0 j d) = (U p 3 d j.val : EReal) := by
  have hc := fun j => counts j
  unfold val_main_v125 val_main_v111 val_main_v97 val_main_v84 val_main_v124 val_main_v110 val_main_v96 val_main_v83 val_main_v15 val_main_v30 val_main_v45 val_main_v60
  generalize val_main_v14 (F := Ideal) = A at hc ⊢
  generalize val_main_v29 (F := Ideal) = B at hc ⊢
  generalize val_main_v44 (F := Ideal) = C at hc ⊢
  generalize val_main_v59 (F := Ideal) = D at hc ⊢
  refine ⟨?_, ?_, ?_, ?_⟩ <;> rw [U_lt p j.isLt]
  · pointwise [val_main_v73, val_main_v72, val_main_v71]
    rw [(hc j).1, up, div_coe _ _ (cnt_ne 2 _ (by norm_num))]
    exact congrArg (fun a => ((p (ix2 j a) / _ : ℝ) : EReal)) (Fin.ext (by simp))
  · pointwise [val_main_v75, val_main_v74, val_main_v71]
    rw [(hc j).2.1, up, div_coe _ _ (cnt_ne 4 _ (by norm_num))]
    rfl
  · pointwise [val_main_v77, val_main_v76, val_main_v71]
    rw [(hc j).2.2.1, up, div_coe _ _ (cnt_ne 8 _ (by norm_num))]
    rfl
  · pointwise [val_main_v79, val_main_v78, val_main_v71]
    rw [(hc j).2.2.2, up, div_coe _ _ (cnt_ne 16 _ (by norm_num))]
    rfl

/-- A row's share less the share a window further on. -/
theorem diff {g : Fin 4} {w b : ℕ} (hw : wd g = w) (hb : w + b = 4096) {X : FVec Ideal S1x4096x512 .f32} (h : ∀ j d, X (ix3 0 j d) = (U p g d j.val : EReal)) (hh : j.val < b → w + j.val < 4096) :
    (X (ix3 0 j d) + if h : j.val < b then -X (ix3 0 ⟨w + j.val, hh h⟩ d) else 0) = ((U p g d j.val - U p g d (j.val + w) : ℝ) : EReal) := by
  rw [h]
  by_cases hj : j.val < b
  · rw [dif_pos hj, h, neg_coe, add_coe]
    simp only [Nat.add_comm w, sub_eq_add_neg]
  · rw [dif_neg hj, U_ge p (by omega : ¬ j.val + w < 4096), add_zero, sub_zero]

theorem diffs : val_main_v130 (F := Ideal) (up p) (ix3 0 j d) = ((U p 0 d j.val - U p 0 d (j.val + 2) : ℝ) : EReal) ∧ val_main_v116 (F := Ideal) (up p) (ix3 0 j d) = ((U p 1 d j.val - U p 1 d (j.val + 4) : ℝ) : EReal)
    ∧ val_main_v102 (F := Ideal) (up p) (ix3 0 j d) = ((U p 2 d j.val - U p 2 d (j.val + 8) : ℝ) : EReal) ∧ val_main_v89 (F := Ideal) (up p) (ix3 0 j d) = ((U p 3 d j.val - U p 3 d (j.val + 16) : ℝ) : EReal) := by
  have hs := fun j d => shares p j d
  unfold val_main_v130 val_main_v116 val_main_v102 val_main_v89 val_main_v129 val_main_v128 val_main_v126 val_main_v115 val_main_v114 val_main_v112 val_main_v101 val_main_v100 val_main_v98 val_main_v88 val_main_v87 val_main_v85
  generalize val_main_v125 (F := Ideal) (up p) = A at hs ⊢
  generalize val_main_v111 (F := Ideal) (up p) = B at hs ⊢
  generalize val_main_v97 (F := Ideal) (up p) = C at hs ⊢
  generalize val_main_v84 (F := Ideal) (up p) = D at hs ⊢
  refine ⟨?_, ?_, ?_, ?_⟩
  · pointwise [val_main_cst_22]
    exact diff p j d rfl rfl (fun j d => (hs j d).1) (by simp [wd]; omega)
  · pointwise [val_main_cst_19]
    exact diff p j d rfl rfl (fun j d => (hs j d).2.1) (by simp [wd]; omega)
  · pointwise [val_main_cst_16]
    exact diff p j d rfl rfl (fun j d => (hs j d).2.2.1) (by simp [wd]; omega)
  · pointwise [val_main_cst_13]
    exact diff p j d rfl rfl (fun j d => (hs j d).2.2.2) (by simp [wd]; omega)

theorem v133 (g : Fin 4) : val_main_v133 (F := Ideal) (up p) (ix4 0 j g d) = ((U p g d j.val - U p g d (j.val + wd g) : ℝ) : EReal) := by
  obtain ⟨h0, h1, h2, h3⟩ := diffs p j d
  unfold val_main_v133 val_main_v132 val_main_v131 val_main_v119 val_main_v118 val_main_v117 val_main_v105 val_main_v104 val_main_v103 val_main_v91 val_main_v90
  generalize val_main_v130 (F := Ideal) (up p) = A at h0 ⊢
  generalize val_main_v116 (F := Ideal) (up p) = B at h1 ⊢
  generalize val_main_v102 (F := Ideal) (up p) = C at h2 ⊢
  generalize val_main_v89 (F := Ideal) (up p) = D at h3 ⊢
  match g with
  | 0 => pointwise [val_main_cst_23, val_main_cst_20, val_main_cst_17, val_main_cst_14]; exact h0
  | 1 => pointwise [val_main_cst_23, val_main_cst_20, val_main_cst_17, val_main_cst_14]; exact h1
  | 2 => pointwise [val_main_cst_23, val_main_cst_20, val_main_cst_17, val_main_cst_14]; exact h2
  | 3 => pointwise [val_main_cst_23, val_main_cst_20, val_main_cst_17, val_main_cst_14]; exact h3

theorem v123 (g : Fin 4) : val_main_v123 (F := Ideal) (up p) (ix4 0 j g d) = ((- p (ix2 j (col g d)) : ℝ) : EReal) := by
  unfold val_main_v123 val_main_v122 val_main_v121 val_main_v120 val_main_v109 val_main_v108 val_main_v107 val_main_v106 val_main_v95 val_main_v94 val_main_v93 val_main_v92 val_main_v82 val_main_v81 val_main_v80
  match g with
  | 0 =>
    pointwise [val_main_cst_12, val_main_cst_15, val_main_cst_18, val_main_cst_21, val_main_v73, val_main_v72, val_main_v71]
    exact congrArg (fun a => ((- p (ix2 j a) : ℝ) : EReal)) (Fin.ext (by simp))
  | 1 => pointwise [val_main_cst_12, val_main_cst_15, val_main_cst_18, val_main_cst_21, val_main_v75, val_main_v74, val_main_v71]; rfl
  | 2 => pointwise [val_main_cst_12, val_main_cst_15, val_main_cst_18, val_main_cst_21, val_main_v77, val_main_v76, val_main_v71]; rfl
  | 3 => pointwise [val_main_cst_12, val_main_cst_15, val_main_cst_18, val_main_cst_21, val_main_v79, val_main_v78, val_main_v71]; rfl

theorem v134 (g : Fin 4) : val_main_v134 (F := Ideal) (up p) (ix4 0 j g d) = ((∑ k ∈ Finset.range (wd g), U p g d (j.val + k) : ℝ) : EReal) := by
  have h := fun j => v133 p j d g
  have hz : val_main_call1_call0_v0 (F := Ideal) = fun _ => (0 : EReal) := by
    unfold val_main_call1_call0_v0 val_main_call1_call0_cst
    exact funext fun _ => zero_word
  unfold val_main_v134
  generalize val_main_v133 (F := Ideal) (up p) = X at h ⊢
  generalize val_main_call1_call0_v0 (F := Ideal) = V at hz ⊢
  rw [add_window X V hz]
  rw [← telescope (U p g d) 4096 (wd g) j.val fun n hn => U_ge p (by omega), ← coe_sum, Finset.sum_range]
  refine Finset.sum_congr rfl fun k _ => ?_
  by_cases hk : j.val + k.val < 4096
  · rw [dif_pos hk, h]
  · rw [dif_neg hk, U_ge p hk, U_ge p (by omega : ¬ j.val + k.val + wd g < 4096), sub_zero]
    rfl

/-- The reference's gradient. -/
theorem v137 (n : Fin 2048) : val_main_v137 (F := Ideal) (up p) (ix2 j n) = (DH p j n : EReal) := by
  have h1 := v123 p j (wi n) (gr n)
  have h2 := v134 p j (wi n) (gr n)
  unfold val_main_v137 val_main_v136 val_main_v135
  generalize val_main_v123 (F := Ideal) (up p) = X at h1 ⊢
  generalize val_main_v134 (F := Ideal) (up p) = Y at h2 ⊢
  pointwise [val_main_cst_24]
  refine (Fin.sum_univ_one _).trans ?_
  rw [h1, h2, add_coe, DH, col_gr, neg_add_eq_sub]

end Cert.PoolWin
end
-- ==== Proof.PoolWinKer.lean ====
/-
  The kernel of the pooling windows' gradient: its result in closed form.
-/
module

public import proofs.«01_k».proof.Proof.Gen.Kernel8Ideal.Frame
public import proofs.«01_k».proof.Proof.PoolWinRef
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.PoolWin

open Cert.Kernel8Ideal Cert.Kernel8Ideal.Gen Cert.Lift

variable (m : (ℓ : Loc nD τ sig) → Buf (Elt Ideal) ℓ)

theorem idx : ∀ t : Fin cfg0.N, win0_0.index t = ![t.val, 0] ∧ win0_1.index t = ![min ((t.val + 1) * 16) 255, 0] ∧ win0_2.index t = ![t.val, 0] :=
  (by decide +kernel : ∀ t : Fin grid0.N, _)

theorem coord : ∀ t : Fin cfg0.N, (grid0.coords t 0).val = t.val := (by decide +kernel : ∀ t : Fin grid0.N, _)

/-- A point's row of the whole array. -/
abbrev row (t : Fin cfg0.N) (r : Fin 256) : Fin 4096 := ⟨t.val * 256 + r.val, by have : cfg0.N = 16 := rfl; omega⟩

variable (h : FVec Ideal S4096x2048 .f32) (p : S4096x2048.Idx → ℝ) (c : Dev nD)

/-- The arguments. -/
structure Args : Prop where
  a0 : m ((c : Thread nD τ).loc main_arg0) = h
  a1 : m ((c : Thread nD τ).loc main_arg1) = up p

/-! ## The body's arithmetic -/

/-- The kernel's count of the rows a window covers. -/
theorem kcount {t r w : ℕ} (ht : t < 16) (hr : r < 256) (hw : w < 4096) :
    (FloatOps.sitofp (F := Ideal) FTy.f32 (IntOp.minsi (IntOp.addi (IntOp.addi (Scalar.muli (BitVec.ofNat 32 t) 256#32) (BitVec.ofNat 32 r)) 1#32) (BitVec.ofNat 32 w)) : EReal)
      = (cnt w (t * 256 + r) : EReal) := by
  have e : IntOp.addi (IntOp.addi (Scalar.muli (BitVec.ofNat 32 t) 256#32) (BitVec.ofNat 32 r)) 1#32 = BitVec.ofNat 32 (1 + (t * 256 + r)) := by
    show BitVec.ofNat 32 t * BitVec.ofNat 32 256 + BitVec.ofNat 32 r + BitVec.ofNat 32 1 = _
    rw [← BitVec.ofNat_mul, ← BitVec.ofNat_add, ← BitVec.ofNat_add, Nat.add_comm]
  rw [e]
  show (((IntOp.minsi (BitVec.ofNat 32 (1 + (t * 256 + r))) (BitVec.ofNat 32 w)).toInt : ℝ) : EReal) = _
  have hm : (IntOp.minsi (BitVec.ofNat 32 (1 + (t * 256 + r))) (BitVec.ofNat 32 w)).toInt = min ((1 + (t * 256 + r) : ℕ) : ℤ) w := by
    unfold IntOp.minsi
    split_ifs with hc <;> rw [BitVec.slt_iff_toInt_lt, row_word _ (by omega), row_word _ (by omega)] at hc <;> rw [row_word _ (by omega)] <;> omega
  rw [hm, cnt]
  push_cast
  rfl

section
variable (t : Fin cfg0.N) {x : FVec Ideal S256x2048 .f32} {v : FVec Ideal S16x2048 .f32}
variable (hx : ∀ r n, x (ix2 r n) = (p (ix2 (row t r) n) : EReal))
variable (hv : ∀ r n, v (ix2 r n) = ((if h : t.val * 256 + 256 + r.val < 4096 then p (ix2 ⟨t.val * 256 + 256 + r.val, h⟩ n) else 0 : ℝ) : EReal))
include hx hv

/-- A group's rows divided by their counts, the rows after the point's among them. -/
theorem cat (g : Fin 4) (w o : ℕ) (hg : wd g = w) (hw : w < 4096) (h16 : w ≤ 16) (h1 : 0 < w) {ww : EReal} (hww : ww = ((w : ℝ) : EReal)) (r : Fin 272) (d : Fin 512) (n : Fin 2048) (hn : n = col g d) (b1 : r.val < 256 → r.val < 256)
    (b2 : ¬ r.val < 256 → r.val - 256 < 16) :
    (if h : r.val < 256 then Ideal.div (x (ix2 ⟨r.val, b1 h⟩ n)) (FloatOps.sitofp (F := Ideal) FTy.f32 (IntOp.minsi (IntOp.addi (IntOp.addi (Scalar.muli (BitVec.ofNat 32 t.val) 256#32) (BitVec.ofNat 32 r.val)) 1#32) (BitVec.ofNat 32 w)))
      else Ideal.div (v (ix2 ⟨r.val - 256, b2 h⟩ n)) ww) = (U p g d (t.val * 256 + r.val) : EReal) := by
  have hN : cfg0.N = 16 := rfl
  have ht := t.isLt
  subst hn hg
  by_cases hr : r.val < 256
  · rw [dif_pos hr, kcount (by omega) hr hw, hx, div_coe _ _ (cnt_ne _ _ h1), U_lt p (by omega : t.val * 256 + r.val < 4096)]
  · rw [dif_neg hr, hv, hww, div_coe _ _ (by exact_mod_cast h1.ne')]
    have e : t.val * 256 + 256 + (r.val - 256) = t.val * 256 + r.val := by omega
    simp only [e]
    by_cases hl : t.val * 256 + r.val < 4096
    · rw [dif_pos hl, U_lt p hl]
      refine congrArg (fun a : ℝ => ((p _ / a : ℝ) : EReal)) ?_
      exact (min_eq_right (by exact_mod_cast (by omega : wd g ≤ 1 + (t.val * 256 + r.val)))).symm
    · rw [dif_neg hl, U_ge p hl, zero_div]
end

/-- Sums of `n` rows from each row on, as far as the rows reach. -/
def Sums (t : Fin cfg0.N) (g : Fin 4) (n : ℕ) (X : FVec Ideal S272x512 .f32) : Prop :=
  ∀ (r : Fin 272) (d : Fin 512), r.val + n ≤ 272 → X (ix2 r d) = ((∑ k ∈ Finset.range n, U p g d (t.val * 256 + r.val + k) : ℝ) : EReal)

variable {p}

/-- The rows turned by a window's length and added double it. -/
theorem double {t : Fin cfg0.N} {g : Fin 4} {n : ℕ} {X : FVec Ideal S272x512 .f32} (H : Sums p t g n X) (s : BitVec 32) (hs : s.toNat + n = 272) (hn : 0 < n) (hr) :
    Sums p t g (n + n) (addf X (dynamicRotate 0 s none X hr)) := by
  intro r d h
  have e : dynamicRotate 0 s none X hr (ix2 r d) = X (ix2 ⟨r.val + n, by omega⟩ d) := by
    refine dynamicRotate_apply (s := S272x512) (0 : Fin 2) s X hr _ _ fun b => ?_
    match b with
    | ⟨0, _⟩ =>
      show r.val + n = (r.val + 272 - s.toNat % 272) % 272
      rw [Nat.mod_eq_of_lt (by omega : s.toNat < 272)]
      omega
    | ⟨1, _⟩ => rfl
  show X (ix2 r d) + dynamicRotate 0 s none X hr (ix2 r d) = _
  rw [e, H r d (by omega), H _ d (by show r.val + n + n ≤ 272; omega), add_coe, Finset.sum_range_add]
  simp only [Nat.add_assoc, Nat.add_comm, Nat.add_left_comm]

variable (p)

section
variable (t : Fin cfg0.N) {x : FVec Ideal S256x2048 .f32} {v : FVec Ideal S16x2048 .f32}
variable (hx : ∀ r n, x (ix2 r n) = (p (ix2 (row t r) n) : EReal))
include hx

/-- A group's result. -/
abbrev R (r : Fin 256) (g : Fin 4) (d : Fin 512) : EReal := ((∑ k ∈ Finset.range (wd g), U p g d (t.val * 256 + r.val + k) - p (ix2 (row t r) (col g d)) : ℝ) : EReal)

theorem less {g : Fin 4} {n : ℕ} {X : FVec Ideal S272x512 .f32} (H : Sums p t g n X) (hn : wd g = n) (h16 : n ≤ 16) (r : Fin 256) (d : Fin 512) (q : Fin 2048) (hq : q = col g d) (r' : Fin 272) (hr : r'.val = r.val) :
    X (ix2 r' d) - x (ix2 r q) = R p t r g d := by
  subst hq hn
  rw [H r' d (by omega), hx, sub_coe, hr]

variable (hv : ∀ r n, v (ix2 r n) = ((if h : t.val * 256 + 256 + r.val < 4096 then p (ix2 ⟨t.val * 256 + 256 + r.val, h⟩ n) else 0 : ℝ) : EReal))
include hv

/-- One group's rows divided are sums of one row. -/
theorem one {g : Fin 4} {X : FVec Ideal S272x512 .f32} (h : ∀ r d, X (ix2 r d) = (U p g d (t.val * 256 + r.val) : EReal)) : Sums p t g 1 X := by
  intro r d _
  rw [h, Finset.sum_range_one, Nat.add_zero]

theorem pay4 (u : FVec Ideal S16x2048 .f32) (hu : k0_pay2 (F := Ideal) (grid0.coords t) u = v) : Sums p t 1 1 (k0_pay4 (F := Ideal) (grid0.coords t) x u) := by
  refine one p t hx hv fun r d => ?_
  unfold k0_pay4
  rw [hu, coord]
  pointwise
  exact cat p t hx hv 1 4 512 rfl (by norm_num) (by norm_num) (by norm_num) words.2.1 r d _ rfl _ _

theorem pay6 (u : FVec Ideal S16x2048 .f32) (hu : k0_pay2 (F := Ideal) (grid0.coords t) u = v) (r : Fin 256) (d : Fin 512) :
    k0_pay6 (F := Ideal) x (k0_pay4 (F := Ideal) (grid0.coords t) x u) (k0_pay5 (F := Ideal) (grid0.coords t) x u) (ix2 r d) = R p t r 1 d := by
  have H := double (double (pay4 p t hx hv u hu) 271#32 rfl (by norm_num) rotates_S272x512_d0) 270#32 rfl (by norm_num) rotates_S272x512_d0
  unfold k0_pay6 k0_pay5
  dsimp only
  generalize addf (addf (k0_pay4 (F := Ideal) (grid0.coords t) x u) _) _ = X at H ⊢
  pointwise
  exact less p t hx H rfl (by norm_num) r d _ rfl _ rfl

theorem pay3 (u : FVec Ideal S16x2048 .f32) (hu : k0_pay2 (F := Ideal) (grid0.coords t) u = v) (r : Fin 256) (d : Fin 512) :
    k0_pay3 (F := Ideal) (grid0.coords t) x u (ix2 r d) = R p t r 0 d := by
  unfold k0_pay3
  rw [hu, coord]
  dsimp only
  generalize hX : concatenate S272x512 0 [⟨S256x512, _⟩, ⟨S16x512, _⟩] concatenates_S256x512_S16x512_S272x512_d0 = X
  have H0 : Sums p t 0 1 X := by
    refine one p t hx hv fun r d => ?_
    rw [← hX]
    pointwise
    exact cat p t hx hv 0 2 0 rfl (by norm_num) (by norm_num) (by norm_num) words.1 r d ⟨d.val, by omega⟩ (Fin.ext (by show d.val = 0 * 512 + d.val; omega)) _ _
  have H := double H0 271#32 rfl (by norm_num) rotates_S272x512_d0
  generalize addf X _ = Y at H ⊢
  pointwise
  exact less p t hx H rfl (by norm_num) r d _ (Fin.ext (by show d.val = 0 * 512 + d.val; omega)) _ rfl

theorem pay7 (r : Fin 256) (d : Fin 512) : k0_pay7 (F := Ideal) (BitVec.ofNat 32 t.val) x v (ix2 r d) = R p t r 2 d := by
  unfold k0_pay7
  dsimp only
  generalize hX : concatenate S272x512 0 [⟨S256x512, _⟩, ⟨S16x512, _⟩] concatenates_S256x512_S16x512_S272x512_d0 = X
  have H0 : Sums p t 2 1 X := by
    refine one p t hx hv fun r d => ?_
    rw [← hX]
    pointwise
    exact cat p t hx hv 2 8 1024 rfl (by norm_num) (by norm_num) (by norm_num) words.2.2.1 r d _ rfl _ _
  have H := double (double (double H0 271#32 rfl (by norm_num) rotates_S272x512_d0) 270#32 rfl (by norm_num) rotates_S272x512_d0) 268#32 rfl (by norm_num) rotates_S272x512_d0
  generalize addf (addf (addf X _) _) _ = Y at H ⊢
  pointwise
  exact less p t hx H rfl (by norm_num) r d _ rfl _ rfl

theorem pay8 : Sums p t 3 1 (k0_pay8 (F := Ideal) (BitVec.ofNat 32 t.val) x v) := by
  refine one p t hx hv fun r d => ?_
  unfold k0_pay8
  pointwise
  exact cat p t hx hv 3 16 1536 rfl (by norm_num) (by norm_num) (by norm_num) words.2.2.2 r d _ rfl _ _

omit hx hv in
/-- Four groups' columns, side by side. -/
theorem four (f : Fin 256 → Fin 4 → Fin 512 → EReal) {w0 w1 w2 w3 : FVec Ideal S256x512 .f32} (k0 : ∀ r d, w0 (ix2 r d) = f r 0 d) (k1 : ∀ r d, w1 (ix2 r d) = f r 1 d)
    (k2 : ∀ r d, w2 (ix2 r d) = f r 2 d) (k3 : ∀ r d, w3 (ix2 r d) = f r 3 d) (r : Fin 256) (n : Fin 2048) :
    (concatenate S256x2048 1 [⟨S256x512, w0⟩, ⟨S256x512, w1⟩, ⟨S256x512, w2⟩, ⟨S256x512, w3⟩] concatenates_S256x512_S256x512_S256x512_S256x512_S256x2048_d1 : FVec Ideal S256x2048 .f32) (ix2 r n)
      = f r (gr n) (wi n) := by
  pointwise
  have part : ∀ (g : Fin 4) (b : Fin 512), g.val * 512 + b.val = n.val → g = gr n ∧ b = wi n := fun g b hb =>
    ⟨Fin.ext (by show g.val = n.val / 512; omega), Fin.ext (by show b.val = n.val % 512; omega)⟩
  by_cases h1 : n.val < 512
  · obtain ⟨ha, hb⟩ := part 0 ⟨n.val, h1⟩ (by simp)
    rw [dif_pos h1, k0, ← ha, ← hb]
  by_cases h2 : n.val - 512 < 512
  · obtain ⟨ha, hb⟩ := part 1 ⟨n.val - 512, h2⟩ (by show 1 * 512 + (n.val - 512) = n.val; omega)
    rw [dif_neg h1, dif_pos h2, k1, ← ha, ← hb]
  by_cases h3 : n.val - 512 - 512 < 512
  · obtain ⟨ha, hb⟩ := part 2 ⟨n.val - 512 - 512, h3⟩ (by show 2 * 512 + (n.val - 512 - 512) = n.val; omega)
    rw [dif_neg h1, dif_neg h2, dif_pos h3, k2, ← ha, ← hb]
  · obtain ⟨ha, hb⟩ := part 3 ⟨n.val - 512 - 512 - 512, by omega⟩ (by show 3 * 512 + (n.val - 512 - 512 - 512) = n.val; omega)
    rw [dif_neg h1, dif_neg h2, dif_neg h3, k3, ← ha, ← hb]

/-- A point's result. -/
theorem body (u : FVec Ideal S16x2048 .f32) (hu : k0_pay2 (F := Ideal) (grid0.coords t) u = v) (r : Fin 256) (n : Fin 2048) :
    k0_pay1 (F := Ideal) x (k0_pay3 (F := Ideal) (grid0.coords t) x u) (k0_pay6 (F := Ideal) x (k0_pay4 (F := Ideal) (grid0.coords t) x u) (k0_pay5 (F := Ideal) (grid0.coords t) x u))
      (k0_pay7 (F := Ideal) (BitVec.ofNat 32 t.val) x v) (k0_pay8 (F := Ideal) (BitVec.ofNat 32 t.val) x v) 271#32 (ix2 r n) = (DH p (row t r) n : EReal) := by
  have H := double (double (double (double (pay8 p t hx hv) 271#32 rfl (by norm_num) rotates_S272x512_d0) 270#32 rfl (by norm_num) rotates_S272x512_d0) 268#32 rfl (by norm_num) rotates_S272x512_d0)
    264#32 rfl (by norm_num) rotates_S272x512_d0
  unfold k0_pay1
  dsimp only
  generalize addf (addf (addf (addf (k0_pay8 (F := Ideal) (BitVec.ofNat 32 t.val) x v) _) _) _) _ = X at H ⊢
  refine (four (R p t) (pay3 p t hx hv u hu) (pay6 p t hx hv u hu) (pay7 p t hx hv) (fun r d => ?_) r n).trans ?_
  · pointwise
    exact less p t hx H rfl (by norm_num) r d _ rfl _ rfl
  · rw [R, col_gr, DH]
end

section
variable (H : Args m h p c) (t : Fin cfg0.N)
include H

theorem iblk0 (r : Fin 256) (n : Fin 2048) : (iblk m c 0 t : FVec Ideal S256x2048 .f32) (ix2 r n) = (p (ix2 (row t r) n) : EReal) := by
  obtain ⟨h0, h1, h2⟩ := idx t
  refine Eq.trans ?_ (congrFun H.a1 (ix2 (row t r) n))
  blk_point [iblk, V, h0]

theorem iblk1 (ht : t.val < 15) (r : Fin 16) (n : Fin 2048) : (iblk m c 1 t : FVec Ideal S16x2048 .f32) (ix2 r n) = (p (ix2 ⟨t.val * 256 + 256 + r.val, by omega⟩ n) : EReal) := by
  obtain ⟨h0, h1, h2⟩ := idx t
  rw [show min ((t.val + 1) * 16) 255 = (t.val + 1) * 16 by omega] at h1
  refine Eq.trans ?_ (congrFun H.a1 (ix2 ⟨t.val * 256 + 256 + r.val, by omega⟩ n))
  blk_point [iblk, V, h1]

theorem after (r : Fin 16) (n : Fin 2048) : k0_pay2 (F := Ideal) (grid0.coords t) (iblk m c 1 t) (ix2 r n)
    = ((if h : t.val * 256 + 256 + r.val < 4096 then p (ix2 ⟨t.val * 256 + 256 + r.val, h⟩ n) else 0 : ℝ) : EReal) := by
  have hk := iblk1 m h p c H t
  unfold k0_pay2
  rw [coord]
  generalize (iblk m c 1 t : FVec Ideal S16x2048 .f32) = W at hk ⊢
  pointwise
  have hN : cfg0.N = 16 := rfl
  have ht := t.isLt
  have hs : Scalar.cmpi CmpIPredicate.slt (BitVec.ofNat 32 t.val) 15#32 = BitVec.ofBool (decide (t.val < 15)) := by
    generalize t.val = k at ht ⊢
    rw [hN] at ht
    interval_cases k <;> rfl
  rw [hs]
  by_cases hl : t.val < 15
  · rw [dif_pos (by omega : t.val * 256 + 256 + r.val < 4096), decide_eq_true hl]
    exact hk hl r n
  · rw [dif_neg (by omega : ¬ t.val * 256 + 256 + r.val < 4096), decide_eq_false hl]
    rfl

/-- The result, as an array. -/
def DHv : FVec Ideal S4096x2048 .f32 := fun i => (DH p (i 0) (i 1) : EReal)

theorem final2 : (dats m 0 c).arrAt 2 (cfgs 0).N = DHv p := by
  refine (dats m 0 c).arrAt_eq_of_covers 2 _ (by decide +kernel) fun t hf j => ?_
  blk_simp
  rw [after0_2]
  have key := body p t (iblk0 m h p c H t) (after m h p c H t) (iblk m c 1 t) rfl
  obtain ⟨h0, h1, h2⟩ := idx t
  idx_vars j
  refine Eq.trans ?_ ((key j0 j1).trans ?_)
  · unfold_out out0_2
    rw [coord]
    frame_out
  · show DHv p (ix2 (row t j0) j1) = _
    blk_ext [h2]
end

end Cert.PoolWin

end
-- ==== Proof.PoolWinClaims.lean ====
/-
  The claims about the pooling windows' gradient.
-/
module

public import proofs.«01_k».proof.Defs
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.PoolWinKer
public import Idealize.ShloMosaic.Lib.Claim

@[expose] public section

set_option maxRecDepth 16384

noncomputable section

open Idealize.ShloMosaic Idealize.ShloMosaic.TcCoe Idealize.SL.Sem
open Cert.Lift

namespace Cert.PoolWin

theorem frame_p : Cert.quiescent_Kernel8 (hKernel8 := Cert.Kernel8.Gen.facts) := fun m ρ _ => Cert.Kernel8.Gen.frame m ρ

theorem frame_pi : Cert.quiescent_Kernel8Ideal (hKernel8Ideal := Cert.Kernel8Ideal.Gen.facts) := fun m ρ _ => Cert.Kernel8Ideal.Gen.frame m ρ

theorem frame_ri : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_pi_fin : Cert.quiescent_Kernel8Ideal_pre_finite8 (hKernel8Ideal := Cert.Kernel8Ideal.Gen.facts)
    (hPre_finite8 := Cert.Pre_finite8.Gen.facts) := fun m ρ _ => Cert.Kernel8Ideal.Gen.frame m ρ

theorem frame_ri_fin : Cert.quiescent_Reference8Ideal_pre_finite8 (hReference8Ideal := Cert.Reference8Ideal.Gen.facts)
    (hPre_finite8 := Cert.Pre_finite8.Gen.facts) := fun m ρ _ => frame_ri m ρ trivial

/-- Finite arguments are real arrays. -/
theorem args (m) (h : Cert.Pre_Kernel8Ideal_finite8 (hPre_finite8 := Cert.Pre_finite8.Gen.facts) m) (c) :
    ∃ h p, Args m h p c :=
  ⟨_, _, rfl, real_of _ _ (h c)⟩

section
variable (m : (ℓ : Loc Cert.Kernel8Ideal.nD Cert.Kernel8Ideal.τ Cert.Kernel8Ideal.sig) → Buf (Elt Ideal) ℓ) (c : Dev Cert.Kernel8Ideal.nD)
  (hpre : Cert.Pre_Kernel8Ideal_finite8 (hPre_finite8 := Cert.Pre_finite8.Gen.facts) m)
include hpre

open Cert.Kernel8Ideal Cert.Reference8Ideal.Read

theorem res2 : val_main_v137 (F := Ideal) (m ((c.tc : Thread nD τ).loc main_arg1)) = (Cert.Kernel8Ideal.Gen.dats m 0 c).arrAt 2 Cert.Kernel8Ideal.cfg0.N := by
  obtain ⟨h, p, H⟩ := args m hpre c
  refine Eq.trans ?_ (final2 m h p c H).symm
  refine (show _ = val_main_v137 (F := Ideal) (up p) by rw [← H.a1]).trans ?_
  funext i; idx_vars i; exact v137 p _ _

end

/-- The kernel's gradient is the reference's. -/
theorem algebraic : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m g m' g' hpre hagree
  refine ⟨_, Cert.Kernel8Ideal.Value.run_blocks m g,
    (θ_run Cert.Reference8Ideal.defs _ _).mono (fun r h c => ?_) (Cert.Reference8Ideal.Value.run (F := Ideal) m' g')⟩
  obtain ⟨e0, e1⟩ := hagree c
  obtain ⟨h0, h1⟩ := h c
  refine ⟨(h0.trans (Cert.Reference8Ideal.Read.val_main_v137_eq m' c)).trans ?_, h1⟩
  · rw [e1]; exact res2 m c hpre

end Cert.PoolWin

end
-- ==== Proof.DzaRef.lean ====
/-
  The projection's gradient put together: the reference's result in closed form.
-/
module

public import proofs.«01_k».proof.Proof.Gen.Reference9Ideal.Read
public import proofs.«01_k».proof.Proof.Lift
public import Idealize.ShloMosaic.Lib.Pointwise

@[expose] public section

set_option maxRecDepth 16384

noncomputable section

open Idealize.ShloMosaic Idealize.ShloMosaic.TcCoe Idealize.SL.Sem

namespace Cert.Dza

open Cert.Reference9Ideal Cert.Reference9Ideal.Read Cert.Lift

variable (q : FVec Ideal S4096x1024 .bf16) (k : FVec Ideal S32x256x256 .f32) (u v : FVec Ideal S4096x1024 .bf16)

/-- A row's own block's term, and the next block's. -/
def KV (i : Fin 4096) (d : Fin 256) : EReal :=
  k (ix3 ⟨i.val / 128, by omega⟩ ⟨128 + i.val % 128, by omega⟩ d) + if h : i.val / 128 + 1 < 32 then k (ix3 ⟨i.val / 128 + 1, h⟩ ⟨i.val % 128, by omega⟩ d) else 0

/-- The columns: the queries', the two gates', the keys' and values'. -/
def DZ (i : Fin 4096) (n : Fin 3328) : EReal :=
  if h0 : n.val < 1024 then q (ix2 i ⟨n.val, h0⟩)
  else if h1 : n.val < 2048 then u (ix2 i ⟨n.val - 1024, by omega⟩)
  else if h2 : n.val < 3072 then v (ix2 i ⟨n.val - 2048, by omega⟩)
  else KV k i ⟨n.val - 3072, by omega⟩

theorem own (i : Fin 4096) (d : Fin 256) (a b : ℕ) (ha : a = i.val / 128 + 1) (hb : b = i.val % 128) :
    ((if h : (1 ≤ a ∧ a - 1 < 32) ∧ b < 128 then k (ix3 ⟨a - 1, h.1.2⟩ ⟨128 + b, by omega⟩ d) else 0)
      + if h : a < 32 ∧ b < 128 then k (ix3 ⟨a, h.1⟩ ⟨b, by omega⟩ d) else 0) = KV k i d := by
  subst ha hb
  have hi := i.isLt
  have hm := Nat.mod_lt i.val (by norm_num : 0 < 128)
  rw [dif_pos ⟨⟨by omega, by omega⟩, hm⟩, KV]
  refine congrArg₂ (· + ·) rfl ?_
  by_cases h : i.val / 128 + 1 < 32
  · rw [dif_pos ⟨h, hm⟩, dif_pos h]
  · rw [dif_neg (fun g => h g.1), dif_neg h]

theorem v45 (i : Fin 4096) (d : Fin 128) : val_main_v45 (F := Ideal) k (ix2 i d) = KV k i ⟨d.val, by omega⟩ := by
  pointwise [val_main_v45, val_main_v43, val_main_v42, val_main_v41, val_main_v40, val_main_v39, val_main_v38, val_main_v1, val_main_cst_9, val_main_cst_10]
  exact own k i ⟨d.val, by omega⟩ ((128 + i.val) / 128) ((128 + i.val) % 128) (by omega) (by omega)
theorem v35 (i : Fin 4096) (d : Fin 128) : val_main_v35 (F := Ideal) k (ix2 i d) = KV k i ⟨128 + d.val, by omega⟩ := by
  pointwise [val_main_v35, val_main_v33, val_main_v32, val_main_v31, val_main_v30, val_main_v29, val_main_v28, val_main_v2, val_main_cst_6, val_main_cst_7]
  exact own k i ⟨128 + d.val, by omega⟩ ((128 + i.val) / 128) ((128 + i.val) % 128) (by omega) (by omega)

theorem v50 (i : Fin 4096) (n : Fin 3328) : val_main_v50 (F := Ideal) q k u v (ix2 i n) = DZ q k u v i n := by
  have hA := v45 k i
  have hB := v35 k i
  unfold val_main_v50 val_main_v49 val_main_v47 val_main_v46 val_main_v37 val_main_v36
  generalize val_main_v45 (F := Ideal) k = A at hA ⊢
  generalize val_main_v35 (F := Ideal) k = B at hB ⊢
  pointwise [val_main_v48, val_main_v27, val_main_v26, val_main_v25, val_main_v0, val_main_v3, val_main_v4, val_main_cst_4, val_main_cst_5, val_main_cst_8, val_main_cst_11, val_main_cst_12]
  have hn := n.isLt
  by_cases h0 : n.val < 1024
  · rw [dif_neg (by omega), dif_neg (by omega), dif_neg (by omega), dif_neg (by omega), dif_pos h0, DZ, dif_pos h0]
    simp only [zero_add]
  by_cases h1 : n.val < 2048
  · rw [dif_neg (by omega), dif_pos (by omega), dif_neg (by omega), dif_neg (by omega), dif_neg h0, DZ, dif_neg h0, dif_pos h1]
    simp only [zero_add, add_zero]
  by_cases h2 : n.val < 3072
  · rw [dif_pos (by omega), dif_neg (by omega), dif_neg (by omega), dif_neg (by omega), dif_neg h0, DZ, dif_neg h0, dif_neg h1, dif_pos h2]
    simp only [add_zero]
  by_cases h3 : n.val < 3200
  · rw [dif_neg (by omega), dif_neg (by omega), dif_neg (by omega), dif_pos (by omega), dif_neg h0, DZ, dif_neg h0, dif_neg h1, dif_neg h2, hA]
    simp only [zero_add, add_zero]
  · rw [dif_neg (by omega), dif_neg (by omega), dif_pos (by omega), dif_neg (by omega), dif_neg h0, DZ, dif_neg h0, dif_neg h1, dif_neg h2, hB]
    simp only [zero_add, add_zero]
    exact congrArg (KV k i) (Fin.ext (by show 128 + (n.val - 3200) = n.val - 3072; omega))

end Cert.Dza

end
-- ==== Proof.DzaKer.lean ====
/-
  The kernel that puts the projection's gradient together: its result in closed form.
-/
module

public import proofs.«01_k».proof.Proof.Gen.Kernel9Ideal.Frame
public import proofs.«01_k».proof.Proof.DzaRef
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Dza

open Cert.Kernel9Ideal Cert.Kernel9Ideal.Gen Cert.Lift

variable (m : (ℓ : Loc nD τ sig) → Buf (Elt Ideal) ℓ)

theorem idx : ∀ t : Fin cfg0.N, win0_0.index t = ![t.val, 0] ∧ win0_1.index t = ![t.val, 0, 0] ∧ win0_2.index t = ![min (t.val + 1) 31, 0, 0]
    ∧ win0_3.index t = ![t.val, 0] ∧ win0_4.index t = ![t.val, 0] ∧ win0_5.index t = ![t.val, 0] :=
  (by decide +kernel : ∀ t : Fin grid0.N, _)

theorem coord : ∀ t : Fin cfg0.N, (grid0.coords t 0).val = t.val := (by decide +kernel : ∀ t : Fin grid0.N, _)

/-- A point's row of the whole array. -/
abbrev row (t : Fin cfg0.N) (r : Fin 128) : Fin 4096 := ⟨t.val * 128 + r.val, by have : cfg0.N = 32 := rfl; omega⟩

variable (q : FVec Ideal S4096x1024 .bf16) (k : FVec Ideal S32x256x256 .f32) (u v : FVec Ideal S4096x1024 .bf16) (c : Dev nD)

/-- The arguments. -/
structure Args : Prop where
  a0 : m ((c : Thread nD τ).loc main_arg0) = q
  a1 : m ((c : Thread nD τ).loc main_arg1) = k
  a2 : m ((c : Thread nD τ).loc main_arg2) = u
  a3 : m ((c : Thread nD τ).loc main_arg3) = v

variable (H : Args m q k u v c) (t : Fin cfg0.N)
include H

theorem iblk0 (r : Fin 128) (n : Fin 1024) : (iblk m c 0 t : FVec Ideal S128x1024 .bf16) (ix2 r n) = q (ix2 (row t r) n) := by
  obtain ⟨h0, h1, h2, h3, h4, h5⟩ := idx t
  refine Eq.trans ?_ (congrFun H.a0 (ix2 (row t r) n))
  blk_point [iblk, V, h0]
theorem iblk3 (r : Fin 128) (n : Fin 1024) : (iblk m c 3 t : FVec Ideal S128x1024 .bf16) (ix2 r n) = u (ix2 (row t r) n) := by
  obtain ⟨h0, h1, h2, h3, h4, h5⟩ := idx t
  refine Eq.trans ?_ (congrFun H.a2 (ix2 (row t r) n))
  blk_point [iblk, V, h3]
theorem iblk4 (r : Fin 128) (n : Fin 1024) : (iblk m c 4 t : FVec Ideal S128x1024 .bf16) (ix2 r n) = v (ix2 (row t r) n) := by
  obtain ⟨h0, h1, h2, h3, h4, h5⟩ := idx t
  refine Eq.trans ?_ (congrFun H.a3 (ix2 (row t r) n))
  blk_point [iblk, V, h4]
theorem iblk1 (r d : Fin 256) : (iblk m c 1 t : FVec Ideal S1x256x256 .f32) (ix3 0 r d) = k (ix3 ⟨t.val, t.isLt⟩ r d) := by
  obtain ⟨h0, h1, h2, h3, h4, h5⟩ := idx t
  refine Eq.trans ?_ (congrFun H.a1 (ix3 ⟨t.val, t.isLt⟩ r d))
  blk_point [iblk, V, h1]
theorem iblk2 (ht : t.val + 1 < 32) (r d : Fin 256) : (iblk m c 2 t : FVec Ideal S1x256x256 .f32) (ix3 0 r d) = k (ix3 ⟨t.val + 1, ht⟩ r d) := by
  obtain ⟨h0, h1, h2, h3, h4, h5⟩ := idx t
  rw [show min (t.val + 1) 31 = t.val + 1 by omega] at h2
  refine Eq.trans ?_ (congrFun H.a1 (ix3 ⟨t.val + 1, ht⟩ r d))
  blk_point [iblk, V, h2]

omit H in
/-- A block's rows, loaded. -/
theorem ld_b (X : S1x256x256.Idx → Elt Ideal .f32) (o : ℕ) (ho : o ≤ 128) (inb) (r : Fin 128) (d : Fin 256) :
    View.ld (Val := Elt Ideal) X (Rect.unit (s := S1x256x256) ![0, o, 0] ![1, 128, 256] inb) (ix3 0 r d) = X (ix3 0 ⟨o + r.val, by omega⟩ d) := by
  refine View.ld_unit_apply_of X _ _ inb _ _ fun a => ?_
  match a with
  | ⟨0, _⟩ => rfl
  | ⟨1, _⟩ => rfl
  | ⟨2, _⟩ => exact (Nat.zero_add _).symm

/-- The keys' and values' columns. -/
theorem kv (inb inb') (r : Fin 128) (d : Fin 256) : k0_pay1 (F := Ideal) (grid0.coords t) (View.ld (Val := Elt Ideal) (iblk m c 1 t) (Rect.unit (s := S1x256x256) ![0, 128, 0] ![1, 128, 256] inb))
    (View.ld (Val := Elt Ideal) (iblk m c 2 t) (Rect.unit (s := S1x256x256) ![0, 0, 0] ![1, 128, 256] inb')) (ix2 r d) = KV k (row t r) d := by
  have hA := fun r d => (ld_b (iblk m c 1 t) 128 le_rfl inb r d).trans (iblk1 m q k u v c H t _ d)
  have hB := fun r d ht => (ld_b (iblk m c 2 t) 0 (by norm_num) inb' r d).trans (iblk2 m q k u v c H t ht _ d)
  unfold k0_pay1
  rw [coord]
  generalize View.ld (Val := Elt Ideal) (iblk m c 1 t) _ = A at hA ⊢
  generalize View.ld (Val := Elt Ideal) (iblk m c 2 t) _ = B at hB ⊢
  have hN : cfg0.N = 32 := rfl
  have ht := t.isLt
  have hs : Scalar.cmpi CmpIPredicate.slt (BitVec.ofNat 32 t.val) 31#32 = BitVec.ofBool (decide (t.val < 31)) := by
    generalize t.val = k at ht ⊢
    rw [hN] at ht
    interval_cases k <;> rfl
  have e1 : (t.val * 128 + r.val) / 128 = t.val := by omega
  have e2 : (t.val * 128 + r.val) % 128 = r.val := by omega
  pointwise
  rw [hs, hA, KV]
  simp only [e1, e2]
  refine congrArg (_ + ·) ?_
  by_cases hl : t.val < 31
  · rw [dif_pos (by omega), decide_eq_true hl]
    refine (hB r d (by omega)).trans (congrArg k (by funext a; match a with | ⟨0, _⟩ => rfl | ⟨1, _⟩ => exact Fin.ext (Nat.zero_add _) | ⟨2, _⟩ => rfl))
  · rw [dif_neg (by omega), decide_eq_false hl]
    rfl

omit H in
/-- Columns of a point's block are its part of the whole. -/
theorem piece {w : ℕ} {f : Fin 128 → Fin 3328 → EReal} (o : ℕ) (inb) (p : (⟨2, ![128, w]⟩ : Shape).Idx → EReal) (how : o + w ≤ 3328)
    (hp : ∀ r (d : Fin w), p (ix2 r d) = f r ⟨o + d.val, by omega⟩) (j : (⟨2, ![128, w]⟩ : Shape).Idx) :
    p j = (fun y : S128x3328.Idx => f (y 0) (y 1)) ((Rect.unit (s := S128x3328) ![0, o] ![128, w] inb).emb j) := by
  rw [show j = ix2 (j 0) (j 1) from funext fun a => match a with | ⟨0, _⟩ => rfl | ⟨1, _⟩ => rfl]
  refine (hp (j 0) (j 1)).trans (congrArg₂ f (Fin.ext ?_) (Fin.ext ?_))
  · show (j 0).val = 0 + 1 * (j 0).val; omega
  · show o + (j 1).val = o + 1 * (j 1).val; omega

theorem out (j : S128x3328.Idx) : (outsAt0 m c t) j = DZ q k u v (row t (j 0)) (j 1) := by
  unfold outsAt0
  rw [out0_A_5]
  frame_out
  refine View.canon_append_of_piecesOf (fun y : S128x3328.Idx => DZ q k u v (row t (y 0)) (y 1)) [] [⟨Rect.unit (s := S128x3328) ![0, 3072] ![128, 256] inb_S128x3328_S128x256_0_3072, _⟩,
    ⟨Rect.unit (s := S128x3328) ![0, 2048] ![128, 1024] inb_S128x3328_S128x1024_0_2048, iblk m c 4 t⟩, ⟨Rect.unit (s := S128x3328) ![0, 1024] ![128, 1024] inb_S128x3328_S128x1024_0_1024, iblk m c 3 t⟩,
    ⟨Rect.unit (s := S128x3328) ![0, 0] ![128, 1024] inb_S128x3328_S128x1024_0_0, iblk m c 0 t⟩] ?_ j (View.cover_of_tiledBy _ ![128, 256] (by sl_kernel_rfl) j)
  refine ⟨piece (f := fun r => DZ q k u v (row t r)) 3072 inb_S128x3328_S128x256_0_3072 _ (by norm_num) fun r d => ?_, piece (f := fun r => DZ q k u v (row t r)) 2048 inb_S128x3328_S128x1024_0_2048 _ (by norm_num) fun r d => ?_,
    piece (f := fun r => DZ q k u v (row t r)) 1024 inb_S128x3328_S128x1024_0_1024 _ (by norm_num) fun r d => ?_, piece (f := fun r => DZ q k u v (row t r)) 0 inb_S128x3328_S128x1024_0_0 _ (by norm_num) fun r d => ?_, trivial⟩
  · refine (kv m q k u v c H t _ _ r d).trans ?_
    rw [DZ, dif_neg (by show ¬3072 + d.val < 1024; omega), dif_neg (by show ¬3072 + d.val < 2048; omega), dif_neg (by show ¬3072 + d.val < 3072; omega)]
    exact congrArg (KV k (row t r)) (Fin.ext (Nat.add_sub_cancel_left 3072 d.val).symm)
  · refine (iblk4 m q k u v c H t r d).trans ?_
    rw [DZ, dif_neg (by show ¬2048 + d.val < 1024; omega), dif_neg (by show ¬2048 + d.val < 2048; omega), dif_pos (by show 2048 + d.val < 3072; omega)]
    exact congrArg (fun n => v (ix2 (row t r) n)) (Fin.ext (Nat.add_sub_cancel_left 2048 d.val).symm)
  · refine (iblk3 m q k u v c H t r d).trans ?_
    rw [DZ, dif_neg (by show ¬1024 + d.val < 1024; omega), dif_pos (by show 1024 + d.val < 2048; omega)]
    exact congrArg (fun n => u (ix2 (row t r) n)) (Fin.ext (Nat.add_sub_cancel_left 1024 d.val).symm)
  · refine (iblk0 m q k u v c H t r d).trans ?_
    rw [DZ, dif_pos (by show 0 + d.val < 1024; omega)]
    exact congrArg (fun n => q (ix2 (row t r) n)) (Fin.ext (Nat.zero_add d.val).symm)

/-- The result, as an array. -/
def DZv : FVec Ideal S4096x3328 .bf16 := fun i => DZ q k u v (i 0) (i 1)

theorem final5 : (dats m 0 c).arrAt 5 (cfgs 0).N = DZv q k u v := by
  refine (dats m 0 c).arrAt_eq_of_covers 5 _ (by decide +kernel) fun t hf j => ?_
  blk_simp
  rw [after0_5, out m q k u v c H]
  obtain ⟨h0, h1, h2, h3, h4, h5⟩ := idx t
  idx_vars j
  show DZv q k u v (ix2 (row t j0) j1) = _
  blk_ext [h5]

end Cert.Dza

end
-- ==== Proof.DzaClaims.lean ====
/-
  The claims about putting the projection's gradient together.
-/
module

public import proofs.«01_k».proof.Defs
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.DzaKer
public import Idealize.ShloMosaic.Lib.Claim

@[expose] public section

set_option maxRecDepth 16384

noncomputable section

open Idealize.ShloMosaic Idealize.ShloMosaic.TcCoe Idealize.SL.Sem
open Cert.Lift

namespace Cert.Dza

theorem frame_p : Cert.quiescent_Kernel9 (hKernel9 := Cert.Kernel9.Gen.facts) := fun m ρ _ => Cert.Kernel9.Gen.frame m ρ

theorem frame_pi : Cert.quiescent_Kernel9Ideal (hKernel9Ideal := Cert.Kernel9Ideal.Gen.facts) := fun m ρ _ => Cert.Kernel9Ideal.Gen.frame m ρ

theorem frame_ri : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem args (m) (c) : ∃ q k u v, Args m q k u v c := ⟨_, _, _, _, rfl, rfl, rfl, rfl⟩

section
variable (m : (ℓ : Loc Cert.Kernel9Ideal.nD Cert.Kernel9Ideal.τ Cert.Kernel9Ideal.sig) → Buf (Elt Ideal) ℓ) (c : Dev Cert.Kernel9Ideal.nD)

open Cert.Kernel9Ideal Cert.Reference9Ideal.Read

theorem res5 : val_main_v50 (F := Ideal) (m ((c.tc : Thread nD τ).loc main_arg0)) (m ((c.tc : Thread nD τ).loc main_arg1)) (m ((c.tc : Thread nD τ).loc main_arg2)) (m ((c.tc : Thread nD τ).loc main_arg3)) = (Cert.Kernel9Ideal.Gen.dats m 0 c).arrAt 5 Cert.Kernel9Ideal.cfg0.N := by
  obtain ⟨q, k, u, v, H⟩ := args m c
  refine Eq.trans ?_ (final5 m q k u v c H).symm
  refine (show _ = val_main_v50 (F := Ideal) q k u v by rw [← H.a0, ← H.a1, ← H.a2, ← H.a3]).trans ?_
  funext i; idx_vars i; exact v50 q k u v _ _

end

/-- The kernel's gradient is the reference's. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨_, Cert.Kernel9Ideal.Value.run_blocks m g,
    (θ_run Cert.Reference9Ideal.defs _ _).mono (fun r h c => ?_) (Cert.Reference9Ideal.Value.run (F := Ideal) m' g')⟩
  obtain ⟨e0, e1, e2, e3⟩ := hagree c
  obtain ⟨h0, h1⟩ := h c
  refine ⟨(h0.trans (Cert.Reference9Ideal.Read.val_main_v50_eq _ _ _ _)).trans ?_, h1⟩
  · rw [e0, e1, e2, e3]; exact res5 m c

end Cert.Dza

end
-- ==== Proof.AttnMath.lean ====
/-
  Windowed attention with a sink, over the real numbers: a row's weights, its probabilities and the
  cotangent of its scores; the turned queries and keys; the gradients.
-/
module

public import proofs.«01_k».proof.Proof.Softmax

@[expose] public section

noncomputable section

open Idealize.ShloMosaic

namespace Cert.Attn

open Cert.Lift Cert.Softmax

/-! ### A row of scores -/

section
variable (M : Fin 256 → Prop) [DecidablePred M] (x dp : Fin 256 → ℝ) (σ : ℝ)

/-- The weights of the keys in the window, their sum with the sink's, the probabilities. -/
def wt (s : Fin 256) : ℝ := if M s then Real.exp (x s) else 0
def tt : ℝ := (∑ s, wt M x s) + Real.exp σ
def pr (s : Fin 256) : ℝ := wt M x s / tt M x σ
/-- The sink's probability. -/
def sp : ℝ := Real.exp σ / tt M x σ
def rd : ℝ := ∑ s, pr M x σ s * dp s
/-- The scores' cotangent, with the scale. -/
def ds (s : Fin 256) : ℝ := pr M x σ s * (dp s - rd M x dp σ) * (1 / 8)

theorem tt_pos : 0 < tt M x σ := by
  refine add_pos_of_nonneg_of_pos (Finset.sum_nonneg fun s _ => ?_) (Real.exp_pos _)
  unfold wt
  split_ifs
  · exact (Real.exp_pos _).le
  · exact le_rfl
theorem tt_ne : tt M x σ ≠ 0 := (tt_pos M x σ).ne'
theorem pr_off {s : Fin 256} (h : ¬M s) : pr M x σ s = 0 := by rw [pr, wt, if_neg h, zero_div]
theorem ds_off {s : Fin 256} (h : ¬M s) : ds M x dp σ s = 0 := by rw [ds, pr_off M x σ h, zero_mul, zero_mul]

/-- Only the keys in the window matter. -/
theorem pr_congr {x' : Fin 256 → ℝ} (hx : ∀ s, M s → x s = x' s) : pr M x σ = pr M x' σ ∧ sp M x σ = sp M x' σ := by
  have hw : wt M x = wt M x' := by
    funext s
    unfold wt
    split_ifs with h
    · rw [hx s h]
    · rfl
  unfold pr sp tt
  rw [hw]
  exact ⟨rfl, rfl⟩
theorem ds_congr {x' dp' : Fin 256 → ℝ} (hx : ∀ s, M s → x s = x' s) (hd : ∀ s, M s → dp s = dp' s) :
    rd M x dp σ = rd M x' dp' σ ∧ ds M x dp σ = ds M x' dp' σ := by
  obtain ⟨hp, -⟩ := pr_congr M x σ hx
  have hr : rd M x dp σ = rd M x' dp' σ := by
    unfold rd
    rw [hp]
    refine Finset.sum_congr rfl fun s _ => ?_
    by_cases h : M s
    · rw [hd s h]
    · rw [pr_off M x' σ h, zero_mul, zero_mul]
  refine ⟨hr, funext fun s => ?_⟩
  by_cases h : M s
  · rw [ds, ds, hr, hp, hd s h]
  · rw [ds_off M x dp σ h, ds_off M x' dp' σ h]

/-- A score out of the window is −∞: its exponential is zero, whatever the shift. -/
theorem exp_masked (m : ℝ) (s : Fin 256) (f : EReal) (hf : f = if M s then (x s : EReal) else ⊥) :
    Ideal.exp (f - (m : EReal)) = ((wt M x s * Real.exp (-m) : ℝ) : EReal) := by
  rw [hf, wt]
  split_ifs
  · rw [sub_coe, exp_coe, sub_eq_add_neg, Real.exp_add]
  · rw [zero_mul, EReal.bot_sub]; rfl
end

/-- A greatest score is real when one score is and none is +∞. -/
theorem fold_real {ι : Type*} [Fintype ι] (f : ι → EReal) (h : ∀ i, f i ≠ ⊤) (i : ι) (hi : f i ≠ ⊥) :
    Finset.fold max (Ideal.ofBits FTy.f32 0xFF800000#32) f Finset.univ = (((Finset.fold max (Ideal.ofBits FTy.f32 0xFF800000#32) f Finset.univ).toReal : ℝ) : EReal) := by
  rw [bot_word]
  refine (EReal.coe_toReal (ne_of_lt ((Finset.fold_max_lt _).mpr ⟨bot_lt_top, fun j _ => lt_top_iff_ne_top.mpr (h j)⟩)) ?_).symm
  exact ne_of_gt (lt_of_lt_of_le (bot_lt_iff_ne_bot.mpr hi) ((Finset.le_fold_max _).mpr (Or.inr ⟨i, Finset.mem_univ _, le_rfl⟩)))

theorem masked_ne_top {p : Prop} [Decidable p] (x : ℝ) : (if p then (x : EReal) else ⊥) ≠ ⊤ := by
  split_ifs
  · exact EReal.coe_ne_top _
  · exact bot_ne_top

/-! ### Turned columns -/

/-- A head's columns with the first sixteen turned. -/
def turn (g : ℝ) (co si : Fin 8 → ℝ) (x : Fin 64 → ℝ) (l : Fin 64) : ℝ :=
  if h : l.val < 8 then x l * co ⟨l.val, h⟩ - g * (x ⟨l.val + 8, by omega⟩ * si ⟨l.val, h⟩)
  else if h' : l.val - 8 < 8 then x l * co ⟨l.val - 8, h'⟩ + g * (x ⟨l.val - 8, by omega⟩ * si ⟨l.val - 8, h'⟩)
  else x l

theorem turn_zero (g : ℝ) (co si : Fin 8 → ℝ) (x : Fin 64 → ℝ) (hx : ∀ l, x l = 0) (l : Fin 64) : turn g co si x l = 0 := by
  unfold turn
  split_ifs <;> simp [hx]

/-! ### The gradients -/

abbrev A4096x3328 : Shape := ⟨2, ![4096, 3328]⟩
abbrev A4096x2048 : Shape := ⟨2, ![4096, 2048]⟩
abbrev A1x16 : Shape := ⟨2, ![1, 16]⟩

/-- A block's row, and the row of its window's key (the first block's earlier keys are none). -/
abbrev qrow (n : Fin 32) (r : Fin 128) : Fin 4096 := ⟨n.val * 128 + r.val, by omega⟩
abbrev krow (n : Fin 32) (s : Fin 256) : Fin 4096 := ⟨if s.val < 128 then (n.val - 1) * 128 + s.val else n.val * 128 + (s.val - 128), by split_ifs <;> omega⟩
def live (n : Fin 32) (s : Fin 256) : Prop := 0 < n.val ∨ 128 ≤ s.val
instance (n : Fin 32) (s : Fin 256) : Decidable (live n s) := by unfold live; infer_instance
/-- The keys that a row sees. -/
def sees (n : Fin 32) (r : Fin 128) (s : Fin 256) : Prop := s.val ≤ r.val + 128 ∧ r.val < s.val ∧ live n s
instance (n : Fin 32) (r : Fin 128) : DecidablePred (sees n r) := fun s => by unfold sees; infer_instance
/-- A query head's group. -/
abbrev gp (h : Fin 16) : Fin 2 := ⟨h.val / 8, by omega⟩
abbrev hof (g : Fin 2) (j : Fin 8) : Fin 16 := ⟨g.val * 8 + j.val, by omega⟩
abbrev cof {k n : ℕ} (o : ℕ) (h : Fin k) (d : Fin 64) (hk : o + k * 64 ≤ n := by omega) : Fin n := ⟨o + h.val * 64 + d.val, by
  have : (h.val + 1) * 64 ≤ k * 64 := Nat.mul_le_mul_right _ h.isLt
  omega⟩

variable (co si : Fin 4096 → Fin 8 → ℝ) (z : A4096x3328.Idx → ℝ) (sk : A1x16.Idx → ℝ) (e : A4096x2048.Idx → ℝ)

def QR (n : Fin 32) (h : Fin 16) (r : Fin 128) (d : Fin 64) : ℝ :=
  turn 1 (co (qrow n r)) (si (qrow n r)) (fun l => z (ix2 (qrow n r) (cof 0 h l))) d
def KB (n : Fin 32) (g : Fin 2) (s : Fin 256) (d : Fin 64) : ℝ :=
  turn 1 (co (krow n s)) (si (krow n s)) (fun l => z (ix2 (krow n s) (cof 3072 g l))) d
def VB (n : Fin 32) (g : Fin 2) (s : Fin 256) (d : Fin 64) : ℝ := z (ix2 (krow n s) (cof 3200 g d))
def XS (n : Fin 32) (h : Fin 16) (r : Fin 128) (s : Fin 256) : ℝ := (∑ d : Fin 64, QR co si z n h r d * KB co si z n (gp h) s d) * (1 / 8)
def DPs (n : Fin 32) (h : Fin 16) (r : Fin 128) (s : Fin 256) : ℝ := ∑ d : Fin 64, e (ix2 (qrow n r) (cof 0 h d)) * VB z n (gp h) s d
def PR (n : Fin 32) (h : Fin 16) (r : Fin 128) : Fin 256 → ℝ := pr (sees n r) (XS co si z n h r) (sk (ix2 0 h))
def DS (n : Fin 32) (h : Fin 16) (r : Fin 128) : Fin 256 → ℝ := ds (sees n r) (XS co si z n h r) (DPs z e n h r) (sk (ix2 0 h))
def DQ (n : Fin 32) (h : Fin 16) (r : Fin 128) (d : Fin 64) : ℝ := ∑ s : Fin 256, DS co si z sk e n h r s * KB co si z n (gp h) s d
def DK (n : Fin 32) (g : Fin 2) (s : Fin 256) (d : Fin 64) : ℝ :=
  ∑ j : Fin 8, ∑ r : Fin 128, QR co si z n (hof g j) r d * DS co si z sk e n (hof g j) r s
def DV (n : Fin 32) (g : Fin 2) (s : Fin 256) (d : Fin 64) : ℝ :=
  ∑ j : Fin 8, ∑ r : Fin 128, e (ix2 (qrow n r) (cof 0 (hof g j) d)) * PR co si z sk n (hof g j) r s
/-- A block's part of a sink's gradient. -/
def DSk (n : Fin 32) (h : Fin 16) : ℝ :=
  -∑ r : Fin 128, sp (sees n r) (XS co si z n h r) (sk (ix2 0 h)) * rd (sees n r) (XS co si z n h r) (DPs z e n h r) (sk (ix2 0 h))

/-- The three results: by row and column; by block, key and column; by lane. -/
def RQ (i : Fin 4096) (n : Fin 1024) : ℝ :=
  turn (-1) (co i) (si i) (DQ co si z sk e ⟨i.val / 128, by omega⟩ ⟨n.val / 64, by omega⟩ ⟨i.val % 128, by omega⟩) ⟨n.val % 64, by omega⟩
def RKV (n : Fin 32) (s : Fin 256) (c : Fin 256) : ℝ :=
  if c.val < 128 then turn (-1) (co (krow n s)) (si (krow n s)) (DK co si z sk e n ⟨c.val % 128 / 64, by omega⟩ s) ⟨c.val % 64, by omega⟩
  else DV co si z sk e n ⟨c.val % 128 / 64, by omega⟩ s ⟨c.val % 64, by omega⟩
def RS (l : Fin 128) : ℝ := if h : l.val < 16 then ∑ n : Fin 32, DSk co si z sk e n ⟨l.val, h⟩ else 0

/-- The first block sees none of its earlier keys. -/
theorem DK_off {n : Fin 32} {s : Fin 256} (h : ¬live n s) (g : Fin 2) (d : Fin 64) : DK co si z sk e n g s d = 0 := by
  unfold DK DS
  exact Finset.sum_eq_zero fun j _ => Finset.sum_eq_zero fun r _ => by rw [ds_off _ _ _ _ fun hs => h hs.2.2, mul_zero]

end Cert.Attn

end
-- ==== Proof.AttnHead.lean ====
/-
  The windowed attention's gradient, head by head: the kernel's operations on one head's columns,
  and the kernel's three results in their terms.
-/
module

public import proofs.«01_k».proof.Proof.Gen.Kernel10Ideal.Frame
public import proofs.«01_k».proof.Proof.AttnMath
public import Idealize.ShloMosaic.Lib.Pipeline.ReadBack
public import Idealize.ShloMosaic.Lib.KernelVsHost

@[expose] public section

set_option maxRecDepth 65536

noncomputable section

open Idealize.ShloMosaic Idealize.ShloMosaic.TcCoe Idealize.SL.Sem

namespace Cert.Attn

open Cert.Kernel10Ideal Cert.Kernel10Ideal.Gen

theorem slq : ∀ h : Fin 16, S128x1024.Slices ![0, h.val * 64] S128x64 := by decide +kernel
theorem slk : ∀ g : Fin 2, S256x128.Slices ![0, g.val * 64] S256x64 := by decide +kernel

section
variable (Q E : FVec Ideal S128x1024 .bf16) (K V : FVec Ideal S256x128 .bf16) (M : IVec S128x256 1) (σ : Fin 16 → EReal) (h : Fin 16)

/-- A head's queries, its cotangent, its group's keys and values. -/
def hq : FVec Ideal S128x64 .bf16 := extractStridedSlice S128x64 ![0, h.val * 64] Q (slq h)
def hk : FVec Ideal S256x64 .bf16 := extractStridedSlice S256x64 ![0, (gp h).val * 64] K (slk (gp h))

def hsc : FVec Ideal S128x256 .f32 :=
  select M (matmul dot_S128x64_S256x64_S128x256_1_1_0_0_n_n none (hq Q h) (hk K h) (constant S128x256 .f32 0x00000000#32))
    (broadcast S128x256 (Named.named κ "mask" 0xF149F2CA#32 : Ideal .f32))
def hmx : FVec Ideal S128x1 .f32 :=
  maximumf (shapeCast S128x1 (multiReduction .maximumf [1] S128 (hsc Q K M h) 0xFF800000#32 reduces_S128x256_S128 (.inl rfl) rfl) shapeCasts_S128_S128x1)
    (broadcast S128x1 (σ h : Ideal .f32))
def hex : FVec Ideal S128x256 .f32 := exp (subf (hsc Q K M h) (broadcastTo S128x256 (hmx Q K M σ h) broadcasts_S128x1_S128x256))
def hes : FVec Ideal S128x1 .f32 := exp (subf (broadcast S128x1 (σ h : Ideal .f32)) (hmx Q K M σ h))
def hiv : FVec Ideal S128x1 .f32 :=
  divf (broadcast S128x1 (Scalar.ofBits .f32 0x3F800000#32))
    (addf (shapeCast S128x1 (multiReduction .add [1] S128 (hex Q K M σ h) 0x00000000#32 reduces_S128x256_S128 (.inl rfl) rfl) shapeCasts_S128_S128x1) (hes Q K M σ h))
/-- A head's probabilities. -/
def hp : FVec Ideal S128x256 .f32 := mulf (hex Q K M σ h) (broadcastTo S128x256 (hiv Q K M σ h) broadcasts_S128x1_S128x256)
def hdp : FVec Ideal S128x256 .f32 := matmul dot_S128x64_S256x64_S128x256_1_1_0_0_n_n none (hq E h) (hk V h) (constant S128x256 .f32 0x00000000#32)
def hrd : FVec Ideal S128x1 .f32 :=
  shapeCast S128x1 (multiReduction .add [1] S128 (mulf (hp Q K M σ h) (hdp E V h)) 0x00000000#32 reduces_S128x256_S128 (.inl rfl) rfl) shapeCasts_S128_S128x1
/-- The scores' cotangent. -/
def hds : FVec Ideal S128x256 .bf16 :=
  truncf .bf16 (mulf (mulf (hp Q K M σ h) (subf (hdp E V h) (broadcastTo S128x256 (hrd Q E K V M σ h) broadcasts_S128x1_S128x256)))
    (broadcast S128x256 (Scalar.ofBits .f32 0x3E000000#32))) bitsLt_bf16_f32
def hdq : FVec Ideal S128x64 .f32 := matmul dot_S128x256_S256x64_S128x64_1_0_0_1_n_n none (hds Q E K V M σ h) (hk K h) (constant S128x64 .f32 0x00000000#32)
/-- What a head adds to its group's keys' and values' gradients and to the sinks'. -/
def hdk (a : FVec Ideal S64x256 .f32) : FVec Ideal S64x256 .f32 :=
  addf a (matmul dot_S128x64_S128x256_S64x256_0_0_1_1_n_n none (hq Q h) (hds Q E K V M σ h) (constant S64x256 .f32 0x00000000#32))
def hdv (a : FVec Ideal S64x256 .f32) : FVec Ideal S64x256 .f32 :=
  addf a (matmul dot_S128x64_S128x256_S64x256_0_0_1_1_n_n none (hq E h) (truncf .bf16 (hp Q K M σ h) bitsLt_bf16_f32) (constant S64x256 .f32 0x00000000#32))
def hsk (a : FVec Ideal S1x128 .f32) : FVec Ideal S1x128 .f32 :=
  addf a (select (cmpi .eq (iota .tc S1x128 32 [1] iota_S1x128_d1_w32) (broadcast S1x128 (BitVec.ofNat 32 h.val)))
    (broadcastTo S1x128 (shapeCast S1x1 (subf (broadcast S1x1 (Scalar.ofBits .f32 0x00000000#32)) (shapeCast S1x1
      (multiReduction .add [0] S1 (mulf (mulf (hes Q K M σ h) (hiv Q K M σ h)) (hrd Q E K V M σ h)) 0x00000000#32 reduces_S128x1_S1 (.inl rfl) rfl) shapeCasts_S1_S1x1)) shapeCasts_S1x1_S1x1)
      broadcasts_S1x1_S1x128) (broadcast S1x128 (Scalar.ofBits .f32 0x00000000#32)))
end

/-- Eight heads in turn. -/
def eight {α : Type} (f : Fin 16 → α → α) (h0 h1 h2 h3 h4 h5 h6 h7 : Fin 16) (a : α) : α := f h7 (f h6 (f h5 (f h4 (f h3 (f h2 (f h1 (f h0 a)))))))

variable (m : (ℓ : Loc nD τ sig) → Buf (Elt Ideal) ℓ) (c : Dev nD) (t : Fin cfg0.N)

/-- A point's operands. -/
abbrev Qp : FVec Ideal S128x1024 .bf16 := k0_pay1 (X0_0 m c t) (iblk m c 5 t)
abbrev Kp : FVec Ideal S256x128 .bf16 := k0_pay5 (k0_pay2 (iblk m c 2 t) (iblk m c 6 t)) (iblk m c 1 t) (k0_pay3 (iblk m c 5 t)) (k0_pay4 (iblk m c 5 t))
abbrev Vp : FVec Ideal S256x128 .bf16 := k0_pay6 (iblk m c 4 t) (iblk m c 3 t)
abbrev Mp : IVec S128x256 1 := k0_pay7 (BitVec.ofNat 32 (grid0.coords t 0).val)
theorem inbs : ∀ h : Fin 16, ∀ a, (![0, h.val] : Fin 2 → ℕ) a + (![1, 1] : Fin 2 → ℕ) a ≤ S1x16.size a := by decide +kernel
theorem ones : ∀ h : Fin 16, 0 < (Rect.unit (s := S1x16) ![0, h.val] ![1, 1] (inbs h)).shape.numel := by decide +kernel
abbrev Sp (h : Fin 16) : EReal := View.ld (iblk m c 7 t) (Rect.unit (s := S1x16) ![0, h.val] ![1, 1] (inbs h)) (Shape.Idx.first (ones h))

section
variable (Q E : FVec Ideal S128x1024 .bf16) (K V : FVec Ideal S256x128 .bf16) (M : IVec S128x256 1) (σ : Fin 16 → EReal)

/-- The gradients' parts, from all heads. -/
def DQs : FVec Ideal S128x1024 .f32 := concatenate S128x1024 1 [⟨S128x64, hdq Q E K V M σ 0⟩, ⟨S128x64, hdq Q E K V M σ 1⟩, ⟨S128x64, hdq Q E K V M σ 2⟩, ⟨S128x64, hdq Q E K V M σ 3⟩,
  ⟨S128x64, hdq Q E K V M σ 4⟩, ⟨S128x64, hdq Q E K V M σ 5⟩, ⟨S128x64, hdq Q E K V M σ 6⟩, ⟨S128x64, hdq Q E K V M σ 7⟩, ⟨S128x64, hdq Q E K V M σ 8⟩, ⟨S128x64, hdq Q E K V M σ 9⟩,
  ⟨S128x64, hdq Q E K V M σ 10⟩, ⟨S128x64, hdq Q E K V M σ 11⟩, ⟨S128x64, hdq Q E K V M σ 12⟩, ⟨S128x64, hdq Q E K V M σ 13⟩, ⟨S128x64, hdq Q E K V M σ 14⟩, ⟨S128x64, hdq Q E K V M σ 15⟩]
  concatenates_S128x64_S128x64_S128x64_S128x64_S128x64_S128x64_S128x64_S128x64_S128x64_S128x64_S128x64_S128x64_S128x64_S128x64_S128x64_S128x64_S128x1024_d1
def DKs : FVec Ideal S128x256 .f32 := concatenate S128x256 0 [⟨S64x256, eight (hdk Q E K V M σ) 0 1 2 3 4 5 6 7 (k0_pay11 (F := Ideal))⟩,
  ⟨S64x256, eight (hdk Q E K V M σ) 8 9 10 11 12 13 14 15 (k0_pay11 (F := Ideal))⟩] concatenates_S64x256_S64x256_S128x256_d0
def DVs : FVec Ideal S128x256 .f32 := concatenate S128x256 0 [⟨S64x256, eight (hdv Q E K M σ) 0 1 2 3 4 5 6 7 (k0_pay12 (F := Ideal))⟩,
  ⟨S64x256, eight (hdv Q E K M σ) 8 9 10 11 12 13 14 15 (k0_pay12 (F := Ideal))⟩] concatenates_S64x256_S64x256_S128x256_d0
def SKs : FVec Ideal S1x128 .f32 := eight (hsk Q E K V M σ) 8 9 10 11 12 13 14 15 (eight (hsk Q E K V M σ) 0 1 2 3 4 5 6 7 (k0_pay8 (F := Ideal)))
end

/-- Rows with the first sixteen columns of each head turned, by the sign of a word. -/
def back1024 (w : BitVec 32) (X : FVec Ideal S128x1024 .f32) (T : FVec Ideal S128x384 .f32) : FVec Ideal S128x1024 .f32 :=
  have c0 := extractStridedSlice S128x128 ![0, 0] T slices_S128x384_o0_0_S128x128
  have c1 := extractStridedSlice S128x128 ![0, 128] T slices_S128x384_o0_128_S128x128
  have c2 := extractStridedSlice S128x128 ![0, 256] T slices_S128x384_o0_256_S128x128
  addf (mulf X (concatenate S128x1024 1 [⟨S128x128, c0⟩, ⟨S128x128, c0⟩, ⟨S128x128, c0⟩, ⟨S128x128, c0⟩, ⟨S128x128, c0⟩, ⟨S128x128, c0⟩, ⟨S128x128, c0⟩, ⟨S128x128, c0⟩]
      concatenates_S128x128_S128x128_S128x128_S128x128_S128x128_S128x128_S128x128_S128x128_S128x1024_d1))
    (mulf (broadcast S128x1024 (Scalar.ofBits .f32 w)) (addf
      (mulf (dynamicRotate 1 1016#32 none X rotates_S128x1024_d1) (concatenate S128x1024 1 [⟨S128x128, c1⟩, ⟨S128x128, c1⟩, ⟨S128x128, c1⟩, ⟨S128x128, c1⟩, ⟨S128x128, c1⟩, ⟨S128x128, c1⟩, ⟨S128x128, c1⟩, ⟨S128x128, c1⟩]
        concatenates_S128x128_S128x128_S128x128_S128x128_S128x128_S128x128_S128x128_S128x128_S128x1024_d1))
      (mulf (dynamicRotate 1 8#32 none X rotates_S128x1024_d1) (concatenate S128x1024 1 [⟨S128x128, c2⟩, ⟨S128x128, c2⟩, ⟨S128x128, c2⟩, ⟨S128x128, c2⟩, ⟨S128x128, c2⟩, ⟨S128x128, c2⟩, ⟨S128x128, c2⟩, ⟨S128x128, c2⟩]
        concatenates_S128x128_S128x128_S128x128_S128x128_S128x128_S128x128_S128x128_S128x128_S128x1024_d1))))

/-- The same for a block of keys. -/
def back128 (w : BitVec 32) (X : FVec Ideal S128x128 .f32) (T : FVec Ideal S128x384 .f32) : FVec Ideal S128x128 .f32 :=
  addf (mulf X (extractStridedSlice S128x128 ![0, 0] T slices_S128x384_o0_0_S128x128))
    (mulf (broadcast S128x128 (Scalar.ofBits .f32 w)) (addf
      (mulf (dynamicRotate 1 120#32 none X rotates_S128x128_d1) (extractStridedSlice S128x128 ![0, 128] T slices_S128x384_o0_128_S128x128))
      (mulf (dynamicRotate 1 8#32 none X rotates_S128x128_d1) (extractStridedSlice S128x128 ![0, 256] T slices_S128x384_o0_256_S128x128))))

/-- A point's keys' and values' gradients. -/
def pair (DK DV : FVec Ideal S128x256 .f32) (T T' : FVec Ideal S128x384 .f32) : FVec Ideal S1x256x256 .f32 :=
  have k := mulf (transpose S256x128 [1, 0] DK transposes_S128x256_p1_0_S256x128) (broadcast S256x128 (Scalar.ofBits .f32 0x41000000#32))
  shapeCast S1x256x256 (concatenate S256x256 1 [
    ⟨S256x128, concatenate S256x128 0 [⟨S128x128, back128 0xBF800000#32 (extractStridedSlice S128x128 ![0, 0] k slices_S256x128_o0_0_S128x128) T'⟩,
      ⟨S128x128, back128 0xBF800000#32 (extractStridedSlice S128x128 ![128, 0] k slices_S256x128_o128_0_S128x128) T⟩] concatenates_S128x128_S128x128_S256x128_d0⟩,
    ⟨S256x128, transpose S256x128 [1, 0] DV transposes_S128x256_p1_0_S256x128⟩] concatenates_S256x128_S256x128_S256x256_d1) shapeCasts_S256x256_S1x256x256

/-- The kernel's three results at a point. -/
theorem out9 : (outsAt0 m c t.val t.isLt).1 = (truncf .bf16 (back1024 0xBF800000#32 (DQs (Qp m c t) (iblk m c 8 t) (Kp m c t) (Vp m c t) (Mp t) (Sp m c t))
    (shapeCast S128x384 (iblk m c 5 t) shapeCasts_S128x384_S128x384)) bitsLt_bf16_f32 : FVec Ideal S128x1024 .bf16) := by
  by_cases h0 : t.val % 32 = 0
  · rw [outsAt0_A m c t h0]; frame_out; rfl
  · rw [outsAt0_B m c t h0]; frame_out; rfl

theorem out10 : (outsAt0 m c t.val t.isLt).2.1 = (pair (DKs (Qp m c t) (iblk m c 8 t) (Kp m c t) (Vp m c t) (Mp t) (Sp m c t))
    (DVs (Qp m c t) (iblk m c 8 t) (Kp m c t) (Mp t) (Sp m c t)) (shapeCast S128x384 (iblk m c 5 t) shapeCasts_S128x384_S128x384)
    (shapeCast S128x384 (iblk m c 6 t) shapeCasts_S128x384_S128x384) : FVec Ideal S1x256x256 .f32) := by
  by_cases h0 : t.val % 32 = 0
  · rw [outsAt0_A m c t h0]; frame_out; rfl
  · rw [outsAt0_B m c t h0]; frame_out; rfl

theorem out11A (h0 : t.val % 32 = 0) : (outsAt0 m c t.val t.isLt).2.2 = (addf (shapeCast S1x128 (k0_pay285 (F := Ideal)) shapeCasts_S1x128_S1x128)
    (SKs (Qp m c t) (iblk m c 8 t) (Kp m c t) (Vp m c t) (Mp t) (Sp m c t)) : FVec Ideal S1x128 .f32) := by
  rw [outsAt0_A m c t h0]; frame_open
  simp (disch := decide) only [↓ View.readCov_skip, ↓ View.readCov_cons_toLoadRect, ↓ View.readCov_fill]
  frame_out
  rfl
theorem out11B (h0 : ¬t.val % 32 = 0) : (outsAt0 m c t.val t.isLt).2.2 = (addf (shapeCast S1x128
    (outsAt0 m c (t.val - 1) (Nat.lt_of_le_of_lt (Nat.sub_le _ _) t.isLt)).2.2 shapeCasts_S1x128_S1x128)
    (SKs (Qp m c t) (iblk m c 8 t) (Kp m c t) (Vp m c t) (Mp t) (Sp m c t)) : FVec Ideal S1x128 .f32) := by
  rw [outsAt0_B m c t h0]; frame_out; rfl

end Cert.Attn

end
-- ==== Proof.AttnRow.lean ====
/-
  The windowed attention's gradient, head by head: the kernel's operations at real columns.
-/
module

public import proofs.«01_k».proof.Proof.AttnHead

@[expose] public section

set_option maxRecDepth 65536

noncomputable section

open Idealize.ShloMosaic Idealize.ShloMosaic.TcCoe Idealize.SL.Sem

namespace Cert.Attn

open Cert.Kernel10Ideal Cert.Kernel10Ideal.Gen Cert.Lift Cert.Softmax

theorem mask_value : (Named.named κ "mask" 0xF149F2CA#32 : Ideal .f32) = (⊥ : EReal) := rfl
theorem eighth_word : Ideal.ofBits FTy.f32 0x3E000000#32 = ((1 / 8 : ℝ) : EReal) := by
  simp [Ideal.ofBits, Ideal.ieee, ← EReal.coe_mul]; norm_num

theorem cmp_eq (a b : ℕ) (ha : a < 4294967296) (hb : b < 4294967296) : IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  rw [beq_eq_decide]
  refine decide_eq_decide.mpr ⟨fun h => ?_, fun h => h ▸ rfl⟩
  have := congrArg BitVec.toNat h
  rwa [BitVec.toNat_ofNat, BitVec.toNat_ofNat, Nat.mod_eq_of_lt ha, Nat.mod_eq_of_lt hb] at this

/-- A point's operands, real: queries, keys, values, the results' cotangent; the window; the sinks. -/
structure Cols (Q E : FVec Ideal S128x1024 .bf16) (K V : FVec Ideal S256x128 .bf16) (M : IVec S128x256 1) (σ : Fin 16 → EReal)
    (q e : Fin 16 → Fin 128 → Fin 64 → ℝ) (k v : Fin 2 → Fin 256 → Fin 64 → ℝ) (S : Fin 128 → Fin 256 → Prop) [∀ r, DecidablePred (S r)] (y : Fin 16 → ℝ) : Prop where
  hQ : ∀ r h d, Q (ix2 r (cof 0 h d)) = (q h r d : EReal)
  hE : ∀ r h d, E (ix2 r (cof 0 h d)) = (e h r d : EReal)
  hK : ∀ s g d, K (ix2 s (cof 0 g d)) = (k g s d : EReal)
  hV : ∀ s g d, V (ix2 s (cof 0 g d)) = (v g s d : EReal)
  hM : ∀ r s, M (ix2 r s) = BitVec.ofBool (decide (S r s))
  hσ : ∀ h, σ h = (y h : EReal)
  hS : ∀ r, ∃ s, S r s

section
variable {Q E : FVec Ideal S128x1024 .bf16} {K V : FVec Ideal S256x128 .bf16} {M : IVec S128x256 1} {σ : Fin 16 → EReal}
  {q e : Fin 16 → Fin 128 → Fin 64 → ℝ} {k v : Fin 2 → Fin 256 → Fin 64 → ℝ} {S : Fin 128 → Fin 256 → Prop} [∀ r, DecidablePred (S r)] {y : Fin 16 → ℝ}
  (H : Cols Q E K V M σ q e k v S y) (h : Fin 16) (r : Fin 128)
include H

abbrev xs (q : Fin 16 → Fin 128 → Fin 64 → ℝ) (k : Fin 2 → Fin 256 → Fin 64 → ℝ) (h : Fin 16) (r : Fin 128) (s : Fin 256) : ℝ := ∑ d, q h r d * k (gp h) s d

theorem hq_at (d : Fin 64) : hq Q h (ix2 r d) = (q h r d : EReal) := by
  rw [← H.hQ]
  pointwise [hq]
  exact congrArg (fun a => Q (ix2 r a)) (Fin.ext (by simp))
theorem he_at (d : Fin 64) : hq E h (ix2 r d) = (e h r d : EReal) := by
  rw [← H.hE]
  pointwise [hq]
  exact congrArg (fun a => E (ix2 r a)) (Fin.ext (by simp))
theorem hk_at (s : Fin 256) (d : Fin 64) : hk K h (ix2 s d) = (k (gp h) s d : EReal) := by
  rw [← H.hK]
  pointwise [hk]
  exact congrArg (fun a => K (ix2 s a)) (Fin.ext (by simp))
theorem hv_at (s : Fin 256) (d : Fin 64) : hk V h (ix2 s d) = (v (gp h) s d : EReal) := by
  rw [← H.hV]
  pointwise [hk]
  exact congrArg (fun a => V (ix2 s a)) (Fin.ext (by simp))

theorem hsc_at (s : Fin 256) : hsc Q K M h (ix2 r s) = if S r s then (xs q k h r s : EReal) else ⊥ := by
  have h1 := hq_at H h r
  have h2 := hk_at H h
  unfold hsc
  generalize hq Q h = A at h1 ⊢
  generalize hk K h = B at h2 ⊢
  pointwise
  simp only [h1, h2, H.hM, mul_coe, coe_sum, mask_value]
  split_ifs with hs
  · rw [decide_eq_true hs]; rfl
  · rw [decide_eq_false hs]; rfl

theorem hmx_real : ∃ a : ℝ, hmx Q K M σ h (ix2 r 0) = (a : EReal) := by
  have h1 := hsc_at H h r
  unfold hmx
  generalize hsc Q K M h = A at h1 ⊢
  obtain ⟨s, hs⟩ := H.hS r
  have h2 := fold_real (fun s => A (ix2 r s)) (fun s => by rw [h1]; exact masked_ne_top _) s (by rw [h1, if_pos hs]; exact EReal.coe_ne_bot _)
  refine ⟨max (Finset.fold max (Ideal.ofBits FTy.f32 0xFF800000#32) (fun s => A (ix2 r s)) Finset.univ).toReal (y h), ?_⟩
  rw [EReal.coe_strictMono.monotone.map_max, ← h2, ← H.hσ]
  show max _ _ = max _ _
  refine congrArg (max · _) ?_
  pointwise

/-- The greatest score, and the exponentials' common factor. -/
def gm (H : Cols Q E K V M σ q e k v S y) (h : Fin 16) (r : Fin 128) : ℝ := (hmx_real H h r).choose
theorem hmx_at : hmx Q K M σ h (ix2 r 0) = (gm H h r : EReal) := (hmx_real H h r).choose_spec
def cc (H : Cols Q E K V M σ q e k v S y) (h : Fin 16) (r : Fin 128) : ℝ := Real.exp (-gm H h r)
theorem cc_ne : cc H h r ≠ 0 := (Real.exp_pos _).ne'

theorem hex_at (s : Fin 256) : hex Q K M σ h (ix2 r s) = ((wt (S r) (xs q k h r) s * cc H h r : ℝ) : EReal) := by
  have h1 := hsc_at H h r s
  have h2 := hmx_at H h r
  unfold hex
  generalize hmx Q K M σ h = B at h2 ⊢
  refine Eq.trans (?_ : _ = Ideal.exp (hsc Q K M h (ix2 r s) - B (ix2 r 0))) ?_
  · generalize hsc Q K M h = A
    pointwise
  · rw [h2]
    exact exp_masked _ _ _ _ _ h1

theorem hes_at : hes Q K M σ h (ix2 r 0) = ((Real.exp (y h) * cc H h r : ℝ) : EReal) := by
  have h2 := hmx_at H h r
  unfold hes
  generalize hmx Q K M σ h = B at h2 ⊢
  pointwise
  rw [h2, H.hσ, sub_coe, exp_coe, sub_eq_add_neg, Real.exp_add]
  rfl

theorem hiv_at : hiv Q K M σ h (ix2 r 0) = ((1 / (tt (S r) (xs q k h r) (y h) * cc H h r) : ℝ) : EReal) := by
  have h1 := hex_at H h r
  have h2 := hes_at H h r
  unfold hiv
  generalize hex Q K M σ h = A at h1 ⊢
  generalize hes Q K M σ h = B at h2 ⊢
  pointwise
  simp only [h1, h2, coe_sum, add_coe, ← Finset.sum_mul, ← add_mul]
  exact inv_coe _ (mul_ne_zero (tt_ne _ _ _) (cc_ne H h r))

theorem hp_at (s : Fin 256) : hp Q K M σ h (ix2 r s) = (pr (S r) (xs q k h r) (y h) s : EReal) := by
  have h1 := hex_at H h r
  have h2 := hiv_at H h r
  unfold hp
  generalize hex Q K M σ h = A at h1 ⊢
  generalize hiv Q K M σ h = B at h2 ⊢
  pointwise
  rw [h1, h2, mul_coe, mul_one_div, mul_div_mul_right _ _ (cc_ne H h r), pr]

theorem hdp_at (s : Fin 256) : hdp E V h (ix2 r s) = (xs e v h r s : EReal) := by
  have h1 := he_at H h r
  have h2 := hv_at H h
  unfold hdp
  generalize hq E h = A at h1 ⊢
  generalize hk V h = B at h2 ⊢
  pointwise
  simp only [h1, h2, mul_coe, coe_sum]

theorem hrd_at : hrd Q E K V M σ h (ix2 r 0) = (rd (S r) (xs q k h r) (xs e v h r) (y h) : EReal) := by
  have h1 := hp_at H h r
  have h2 := hdp_at H h r
  unfold hrd
  generalize hp Q K M σ h = A at h1 ⊢
  generalize hdp E V h = B at h2 ⊢
  pointwise
  simp only [h1, h2, mul_coe, coe_sum, rd]

theorem hds_at (s : Fin 256) : hds Q E K V M σ h (ix2 r s) = (ds (S r) (xs q k h r) (xs e v h r) (y h) s : EReal) := by
  have h1 := hp_at H h r
  have h2 := hdp_at H h r
  have h3 := hrd_at H h r
  unfold hds
  generalize hp Q K M σ h = A at h1 ⊢
  generalize hdp E V h = B at h2 ⊢
  generalize hrd Q E K V M σ h = C at h3 ⊢
  pointwise
  rw [h1, h2, h3, eighth_word, sub_coe, mul_coe, mul_coe, ds]

theorem hdq_at (d : Fin 64) : hdq Q E K V M σ h (ix2 r d) = ((∑ s, ds (S r) (xs q k h r) (xs e v h r) (y h) s * k (gp h) s d : ℝ) : EReal) := by
  have h1 := hds_at H h r
  have h2 := hk_at H h
  unfold hdq
  generalize hds Q E K V M σ h = A at h1 ⊢
  generalize hk K h = B at h2 ⊢
  pointwise
  simp only [h1, h2, mul_coe, coe_sum]

theorem hdk_at (a : FVec Ideal S64x256 .f32) (d : Fin 64) (s : Fin 256) :
    hdk Q E K V M σ h a (ix2 d s) = a (ix2 d s) + ((∑ r, q h r d * ds (S r) (xs q k h r) (xs e v h r) (y h) s : ℝ) : EReal) := by
  have h1 := hds_at H h
  have h2 := hq_at H h
  unfold hdk
  generalize hds Q E K V M σ h = A at h1 ⊢
  generalize hq Q h = B at h2 ⊢
  pointwise
  simp only [h1, h2, mul_coe, coe_sum]

theorem hdv_at (a : FVec Ideal S64x256 .f32) (d : Fin 64) (s : Fin 256) :
    hdv Q E K M σ h a (ix2 d s) = a (ix2 d s) + ((∑ r, e h r d * pr (S r) (xs q k h r) (y h) s : ℝ) : EReal) := by
  have h1 := hp_at H h
  have h2 := he_at H h
  unfold hdv
  generalize hp Q K M σ h = A at h1 ⊢
  generalize hq E h = B at h2 ⊢
  pointwise
  simp only [h1, h2, mul_coe, coe_sum]

theorem hsk_at (a : FVec Ideal S1x128 .f32) (l : Fin 128) :
    hsk Q E K V M σ h a (ix2 0 l) = a (ix2 0 l) + ((if l.val = h.val then -∑ r, sp (S r) (xs q k h r) (y h) * rd (S r) (xs q k h r) (xs e v h r) (y h) else 0 : ℝ) : EReal) := by
  have h1 := hes_at H h
  have h2 := hiv_at H h
  have h3 := hrd_at H h
  unfold hsk
  generalize hes Q K M σ h = A at h1 ⊢
  generalize hiv Q K M σ h = B at h2 ⊢
  generalize hrd Q E K V M σ h = C at h3 ⊢
  pointwise
  have e1 : (∑ x, A (ix2 x 0) * B (ix2 x 0) * C (ix2 x 0)) = ((∑ r, sp (S r) (xs q k h r) (y h) * rd (S r) (xs q k h r) (xs e v h r) (y h) : ℝ) : EReal) := by
    simp only [h1, h2, h3, mul_coe, coe_sum]
    exact congrArg _ (Finset.sum_congr rfl fun r _ => by rw [mul_one_div, mul_div_mul_right _ _ (cc_ne H h r), sp])
  rw [e1, cmp_eq _ _ (by omega) (by omega), zero_coe, sub_coe, zero_sub]
  refine congrArg (a (ix2 0 l) + ·) ?_
  by_cases hl : l.val = h.val
  · rw [if_pos hl, decide_eq_true hl]; rfl
  · rw [if_neg hl, decide_eq_false hl]; rfl
end

end Cert.Attn

end
-- ==== Proof.AttnOut.lean ====
/-
  The windowed attention's gradient: the kernel's turned columns and its parts of all heads, element by element.
-/
module

public import proofs.«01_k».proof.Proof.AttnRow

@[expose] public section

set_option maxRecDepth 65536

noncomputable section

open Idealize.ShloMosaic Idealize.ShloMosaic.TcCoe Idealize.SL.Sem

namespace Cert.Attn

open Cert.Kernel10Ideal Cert.Kernel10Ideal.Gen Cert.Lift Cert.Softmax

/-! ### The table's three columns -/

def t0 (co : Fin 8 → ℝ) (d : ℕ) : ℝ := if h : d < 8 then co ⟨d, h⟩ else if h' : d - 8 < 8 then co ⟨d - 8, h'⟩ else 1
def t1 (si : Fin 8 → ℝ) (d : ℕ) : ℝ := if h : d < 8 then -si ⟨d, h⟩ else 0
def t2 (si : Fin 8 → ℝ) (d : ℕ) : ℝ := if _h : d < 8 then 0 else if h' : d - 8 < 8 then si ⟨d - 8, h'⟩ else 0

theorem turn_eq (g : ℝ) (co si : Fin 8 → ℝ) (x : Fin 64 → ℝ) (l : Fin 64) (a b : ℝ) (ha : ∀ h : l.val + 8 < 64, a = x ⟨l.val + 8, h⟩) (hb : 8 ≤ l.val → b = x ⟨l.val - 8, by omega⟩) :
    x l * t0 co l.val + g * (a * t1 si l.val + b * t2 si l.val) = turn g co si x l := by
  unfold turn t0 t1 t2
  by_cases h : l.val < 8
  · rw [dif_pos h, dif_pos h, dif_pos h, dif_pos h, ha (by omega)]
    ring
  · by_cases h' : l.val - 8 < 8
    · rw [dif_neg h, dif_neg h, dif_neg h, dif_neg h, dif_pos h', dif_pos h', dif_pos h', hb (by omega)]
      ring
    · rw [dif_neg h, dif_neg h, dif_neg h, dif_neg h, dif_neg h', dif_neg h', dif_neg h']
      ring

structure Tab (T : FVec Ideal S128x384 .f32) (co si : Fin 128 → Fin 8 → ℝ) : Prop where
  h0 : ∀ r (l : Fin 128), T (ix2 r ⟨l.val, by omega⟩) = (t0 (co r) (l.val % 64) : EReal)
  h1 : ∀ r (l : Fin 128), T (ix2 r ⟨128 + l.val, by omega⟩) = (t1 (si r) (l.val % 64) : EReal)
  h2 : ∀ r (l : Fin 128), T (ix2 r ⟨256 + l.val, by omega⟩) = (t2 (si r) (l.val % 64) : EReal)

theorem tile8 (C : FVec Ideal S128x128 .f32) (r : Fin 128) (n : Fin 1024) :
    concatenate S128x1024 1 [⟨S128x128, C⟩, ⟨S128x128, C⟩, ⟨S128x128, C⟩, ⟨S128x128, C⟩, ⟨S128x128, C⟩, ⟨S128x128, C⟩, ⟨S128x128, C⟩, ⟨S128x128, C⟩]
      concatenates_S128x128_S128x128_S128x128_S128x128_S128x128_S128x128_S128x128_S128x128_S128x1024_d1 (ix2 r n) = C (ix2 r ⟨n.val % 128, by omega⟩) := by
  pointwise
  split_ifs <;> exact congrArg (fun a => C (ix2 r a)) (Fin.ext (by simp; omega))

/-- Sixteen heads' columns, side by side. -/
theorem tile16 (w : Fin 16 → FVec Ideal S128x64 .f32) (r : Fin 128) (n : Fin 1024) :
    concatenate S128x1024 1 [⟨S128x64, w 0⟩, ⟨S128x64, w 1⟩, ⟨S128x64, w 2⟩, ⟨S128x64, w 3⟩, ⟨S128x64, w 4⟩, ⟨S128x64, w 5⟩, ⟨S128x64, w 6⟩, ⟨S128x64, w 7⟩, ⟨S128x64, w 8⟩, ⟨S128x64, w 9⟩, ⟨S128x64, w 10⟩, ⟨S128x64, w 11⟩, ⟨S128x64, w 12⟩, ⟨S128x64, w 13⟩, ⟨S128x64, w 14⟩, ⟨S128x64, w 15⟩]
      concatenates_S128x64_S128x64_S128x64_S128x64_S128x64_S128x64_S128x64_S128x64_S128x64_S128x64_S128x64_S128x64_S128x64_S128x64_S128x64_S128x64_S128x1024_d1 (ix2 r n) = w ⟨n.val / 64, by omega⟩ (ix2 r ⟨n.val % 64, by omega⟩) := by
  refine concatenate_ofFn_apply (t := S128x1024) (s₁ := S128x64) 1 w _ rfl 64 rfl (ix2 r n) ⟨n.val / 64, by omega⟩ rfl (ix2 r ⟨n.val % 64, by omega⟩) rfl fun b hb => ?_
  match b with
  | ⟨0, _⟩ => rfl
  | ⟨1, _⟩ => exact absurd rfl hb

section
variable {w : BitVec 32} {g : ℝ} (hw : Ideal.ofBits FTy.f32 w = (g : EReal)) {T : FVec Ideal S128x384 .f32} {co si : Fin 128 → Fin 8 → ℝ} (H : Tab T co si)
include hw H

theorem back1024_at (X : FVec Ideal S128x1024 .f32) (x : Fin 128 → Fin 1024 → ℝ) (hX : ∀ r n, X (ix2 r n) = (x r n : EReal)) (r : Fin 128) (h : Fin 16) (d : Fin 64) :
    back1024 w X T (ix2 r (cof 0 h d)) = (turn g (co r) (si r) (fun l => x r (cof 0 h l)) d : EReal) := by
  have k0 := tile8 (extractStridedSlice S128x128 ![0, 0] T slices_S128x384_o0_0_S128x128) r (cof 0 h d)
  have k1 := tile8 (extractStridedSlice S128x128 ![0, 128] T slices_S128x384_o0_128_S128x128) r (cof 0 h d)
  have k2 := tile8 (extractStridedSlice S128x128 ![0, 256] T slices_S128x384_o0_256_S128x128) r (cof 0 h d)
  unfold back1024
  dsimp only
  generalize concatenate S128x1024 1 _ _ = C0 at k0 ⊢
  generalize concatenate S128x1024 1 _ _ = C1 at k1 ⊢
  generalize concatenate S128x1024 1 _ _ = C2 at k2 ⊢
  pointwise at k0 k1 k2
  have e : ((h.val * 64 + d.val) % 128) % 64 = d.val := by omega
  have g0 := k0.trans ((H.h0 r ⟨(h.val * 64 + d.val) % 128, by omega⟩).trans (by rw [e]))
  have g1 := k1.trans ((H.h1 r ⟨(h.val * 64 + d.val) % 128, by omega⟩).trans (by rw [e]))
  have g2 := k2.trans ((H.h2 r ⟨(h.val * 64 + d.val) % 128, by omega⟩).trans (by rw [e]))
  pointwise
  rw [g0, g1, g2, hX, hX, hX, hw]
  simp only [mul_coe, add_coe]
  refine congrArg _ (turn_eq g (co r) (si r) (fun l => x r (cof 0 h l)) d _ _ (fun hd => congrArg (x r) (Fin.ext ?_)) (fun hd => congrArg (x r) (Fin.ext ?_))) <;> simp <;> omega

theorem back128_at (X : FVec Ideal S128x128 .f32) (x : Fin 128 → Fin 128 → ℝ) (hX : ∀ r n, X (ix2 r n) = (x r n : EReal)) (r : Fin 128) (h : Fin 2) (d : Fin 64) :
    back128 w X T (ix2 r (cof 0 h d)) = (turn g (co r) (si r) (fun l => x r (cof 0 h l)) d : EReal) := by
  have e : (0 + h.val * 64 + d.val) % 64 = d.val := by omega
  have g0 := (H.h0 r ⟨0 + h.val * 64 + d.val, by omega⟩).trans (by rw [e])
  have g1 := (H.h1 r ⟨0 + h.val * 64 + d.val, by omega⟩).trans (by rw [e])
  have g2 := (H.h2 r ⟨0 + h.val * 64 + d.val, by omega⟩).trans (by rw [e])
  unfold back128
  pointwise
  simp only [Nat.zero_add] at g0 g1 g2
  rw [g0, g1, g2, hX, hX, hX, hw]
  simp only [mul_coe, add_coe]
  refine congrArg _ (turn_eq g (co r) (si r) (fun l => x r (cof 0 h l)) d _ _ (fun hd => congrArg (x r) (Fin.ext ?_)) (fun hd => congrArg (x r) (Fin.ext ?_))) <;> simp <;> omega

end

/-! ### All heads together -/

theorem eight_at {ι : Type} (f : Fin 16 → (ι → EReal) → ι → EReal) (u : Fin 16 → ℝ) (i : ι) (hf : ∀ h a, f h a i = a i + (u h : EReal)) (h0 h1 h2 h3 h4 h5 h6 h7 : Fin 16) (a : ι → EReal) (b : ℝ)
    (ha : a i = (b : EReal)) : eight f h0 h1 h2 h3 h4 h5 h6 h7 a i = ((b + (u h0 + u h1 + u h2 + u h3 + u h4 + u h5 + u h6 + u h7) : ℝ) : EReal) := by
  unfold eight
  rw [hf, hf, hf, hf, hf, hf, hf, hf, ha]
  simp only [add_coe]
  exact congrArg _ (by ring)

section
variable {Q E : FVec Ideal S128x1024 .bf16} {K V : FVec Ideal S256x128 .bf16} {M : IVec S128x256 1} {σ : Fin 16 → EReal}
  {q e : Fin 16 → Fin 128 → Fin 64 → ℝ} {k v : Fin 2 → Fin 256 → Fin 64 → ℝ} {S : Fin 128 → Fin 256 → Prop} [∀ r, DecidablePred (S r)] {y : Fin 16 → ℝ}
  (H : Cols Q E K V M σ q e k v S y)
include H

theorem DQs_at (r : Fin 128) (n : Fin 1024) : DQs Q E K V M σ (ix2 r n)
    = ((∑ s, ds (S r) (xs q k ⟨n.val / 64, by omega⟩ r) (xs e v ⟨n.val / 64, by omega⟩ r) (y ⟨n.val / 64, by omega⟩) s * k (gp ⟨n.val / 64, by omega⟩) s ⟨n.val % 64, by omega⟩ : ℝ) : EReal) :=
  (tile16 (hdq Q E K V M σ) r n).trans (hdq_at H _ r _)

theorem DKs_at (g : Fin 2) (d : Fin 64) (s : Fin 256) : DKs Q E K V M σ (ix2 (cof 0 g d) s)
    = ((∑ j : Fin 8, ∑ r, q (hof g j) r d * ds (S r) (xs q k (hof g j) r) (xs e v (hof g j) r) (y (hof g j)) s : ℝ) : EReal) := by
  have h1 := fun d => eight_at (hdk Q E K V M σ) (fun h => ∑ r, q h r d * ds (S r) (xs q k h r) (xs e v h r) (y h) s) (ix2 d s) (fun h a => hdk_at H h a d s)
  unfold DKs
  generalize hdk Q E K V M σ = A at h1 ⊢
  rw [Fin.sum_univ_eight]
  match g with
  | ⟨0, _⟩ =>
    refine Eq.trans (?_ : _ = eight A 0 1 2 3 4 5 6 7 (k0_pay11 (F := Ideal)) (ix2 d s)) ((h1 d _ _ _ _ _ _ _ _ _ _ zero_word).trans ?_)
    · pointwise
    · rw [zero_add]; rfl
  | ⟨1, _⟩ =>
    refine Eq.trans (?_ : _ = eight A 8 9 10 11 12 13 14 15 (k0_pay11 (F := Ideal)) (ix2 d s)) ((h1 d _ _ _ _ _ _ _ _ _ _ zero_word).trans ?_)
    · pointwise
    · rw [zero_add]; rfl

theorem DVs_at (g : Fin 2) (d : Fin 64) (s : Fin 256) : DVs Q E K M σ (ix2 (cof 0 g d) s)
    = ((∑ j : Fin 8, ∑ r, e (hof g j) r d * pr (S r) (xs q k (hof g j) r) (y (hof g j)) s : ℝ) : EReal) := by
  have h1 := fun d => eight_at (hdv Q E K M σ) (fun h => ∑ r, e h r d * pr (S r) (xs q k h r) (y h) s) (ix2 d s) (fun h a => hdv_at H h a d s)
  unfold DVs
  generalize hdv Q E K M σ = A at h1 ⊢
  rw [Fin.sum_univ_eight]
  match g with
  | ⟨0, _⟩ =>
    refine Eq.trans (?_ : _ = eight A 0 1 2 3 4 5 6 7 (k0_pay12 (F := Ideal)) (ix2 d s)) ((h1 d _ _ _ _ _ _ _ _ _ _ zero_word).trans ?_)
    · pointwise
    · rw [zero_add]; rfl
  | ⟨1, _⟩ =>
    refine Eq.trans (?_ : _ = eight A 8 9 10 11 12 13 14 15 (k0_pay12 (F := Ideal)) (ix2 d s)) ((h1 d _ _ _ _ _ _ _ _ _ _ zero_word).trans ?_)
    · pointwise
    · rw [zero_add]; rfl

theorem SKs_at (l : Fin 128) : SKs Q E K V M σ (ix2 0 l)
    = ((if hl : l.val < 16 then -∑ r, sp (S r) (xs q k ⟨l.val, hl⟩ r) (y ⟨l.val, hl⟩) * rd (S r) (xs q k ⟨l.val, hl⟩ r) (xs e v ⟨l.val, hl⟩ r) (y ⟨l.val, hl⟩) else 0 : ℝ) : EReal) := by
  have h1 := eight_at (hsk Q E K V M σ) (fun h => if l.val = h.val then -∑ r, sp (S r) (xs q k h r) (y h) * rd (S r) (xs q k h r) (xs e v h r) (y h) else 0) (ix2 0 l) (fun h a => hsk_at H h a l)
  refine (h1 _ _ _ _ _ _ _ _ _ _ (h1 _ _ _ _ _ _ _ _ _ _ zero_word)).trans (congrArg _ ?_)
  refine Eq.trans (?_ : _ = ∑ h : Fin 16, if l.val = h.val then -∑ r, sp (S r) (xs q k h r) (y h) * rd (S r) (xs q k h r) (xs e v h r) (y h) else 0) ?_
  · rw [Fin.sum_univ_add (a := 8) (b := 8), Fin.sum_univ_eight, Fin.sum_univ_eight, zero_add]; rfl
  · split_ifs with hl
    · exact (Finset.sum_eq_single ⟨l.val, hl⟩ (fun h _ hne => if_neg fun e => hne (Fin.ext e.symm)) (fun h => absurd (Finset.mem_univ _) h)).trans (if_pos rfl)
    · exact Finset.sum_eq_zero fun h _ => if_neg (by omega)
end

/-- A point's keys' and values' gradients. -/
theorem pair_at {T T' : FVec Ideal S128x384 .f32} {co si co' si' : Fin 128 → Fin 8 → ℝ} (H : Tab T co si) (H' : Tab T' co' si') (DK DV : FVec Ideal S128x256 .f32) (x : Fin 128 → Fin 256 → ℝ)
    (hX : ∀ n s, DK (ix2 n s) = (x n s : EReal)) (s c : Fin 256) :
    pair DK DV T T' (ix3 0 s c) = if hc : c.val < 128 then
        (turn (-1) (if h : s.val < 128 then co' ⟨s.val, h⟩ else co ⟨s.val - 128, by omega⟩) (if h : s.val < 128 then si' ⟨s.val, h⟩ else si ⟨s.val - 128, by omega⟩)
          (fun l => x (cof 0 (⟨c.val / 64, by omega⟩ : Fin 2) l) s * 8) ⟨c.val % 64, by omega⟩ : EReal)
      else DV (ix2 ⟨c.val - 128, by omega⟩ s) := by
  have ew : Ideal.ofBits FTy.f32 0xBF800000#32 = ((-1 : ℝ) : EReal) := by simp [Ideal.ofBits, Ideal.ieee, ← EReal.coe_mul]; norm_num
  have e8 : Ideal.ofBits FTy.f32 0x41000000#32 = ((8 : ℝ) : EReal) := by simp [Ideal.ofBits, Ideal.ieee, ← EReal.coe_mul]; norm_num
  have k1 := back128_at ew H (extractStridedSlice S128x128 ![128, 0] (mulf (transpose S256x128 [1, 0] DK transposes_S128x256_p1_0_S256x128) (broadcast S256x128 (Scalar.ofBits .f32 0x41000000#32)))
    slices_S256x128_o128_0_S128x128) (fun r n => x n ⟨128 + r.val, by omega⟩ * 8) (fun r n => by pointwise; rw [hX, e8, mul_coe])
  have k0 := back128_at ew H' (extractStridedSlice S128x128 ![0, 0] (mulf (transpose S256x128 [1, 0] DK transposes_S128x256_p1_0_S256x128) (broadcast S256x128 (Scalar.ofBits .f32 0x41000000#32)))
    slices_S256x128_o0_0_S128x128) (fun r n => x n ⟨r.val, by omega⟩ * 8) (fun r n => by pointwise; rw [hX, e8, mul_coe])
  unfold pair
  dsimp only
  generalize back128 _ _ T = B at k1 ⊢
  generalize back128 _ _ T' = B' at k0 ⊢
  pointwise
  by_cases hc : c.val < 128
  · rw [dif_pos hc, dif_pos hc]
    have ec : (⟨c.val, hc⟩ : Fin 128) = cof 0 (⟨c.val / 64, by omega⟩ : Fin 2) ⟨c.val % 64, by omega⟩ := Fin.ext (by simp; omega)
    by_cases hs : s.val < 128
    · rw [dif_pos hs, dif_pos hs, dif_pos hs, ec]
      exact k0 ⟨s.val, hs⟩ _ _
    · rw [dif_neg hs, dif_neg hs, dif_neg hs, ec]
      refine (k1 ⟨s.val - 128, by omega⟩ _ _).trans ?_
      have es : (⟨128 + (s.val - 128), by omega⟩ : Fin 256) = s := Fin.ext (by simp; omega)
      simp only [es]
  · rw [dif_neg hc, dif_neg hc]

end Cert.Attn

end
-- ==== Proof.AttnRef.lean ====
/-
  The windowed attention gradient's reference, at real arguments: real arrays in closed form.
-/
module

public import proofs.«01_k».proof.Proof.Gen.Reference10Ideal.Read
public import proofs.«01_k».proof.Proof.AttnMath

@[expose] public section

set_option maxRecDepth 16384

noncomputable section

open Idealize.ShloMosaic Idealize.ShloMosaic.TcCoe Idealize.SL.Sem

namespace Cert.Attn

open Cert.Reference10Ideal Cert.Reference10Ideal.Read Cert.Lift Cert.Softmax

/-! ### The angles -/

theorem pow_coe (a b : ℝ) : Ideal.pow (a : EReal) (b : EReal) = ((a ^ b : ℝ) : EReal) := rfl
theorem words : Ideal.ofBits FTy.f32 0x40000000#32 = ((2 : ℝ) : EReal) ∧ Ideal.ofBits FTy.f32 0x41800000#32 = ((16 : ℝ) : EReal)
    ∧ Ideal.ofBits FTy.f32 0x48F42400#32 = ((500000 : ℝ) : EReal) ∧ Ideal.ofBits FTy.f32 0x3E000000#32 = ((1 / 8 : ℝ) : EReal) := by
  refine ⟨?_, ?_, ?_, ?_⟩ <;> (simp [Ideal.ofBits, Ideal.ieee, ← EReal.coe_mul] <;> norm_num)
theorem word_int (b : BitVec 32) : (FloatOps.sitofp (F := Ideal) FTy.f32 b : EReal) = ((b.toInt : ℝ) : EReal) := rfl

/-- A row's angles. -/
def ang (i : Fin 4096) (j : Fin 8) : ℝ := ((BitVec.ofNat 32 i.val).toInt : ℝ) * (500000 : ℝ) ^ (-((BitVec.ofNat 32 j.val).toInt : ℝ) * 2 / 16)
def co (i : Fin 4096) (j : Fin 8) : ℝ := Real.cos (ang i j)
def si (i : Fin 4096) (j : Fin 8) : ℝ := Real.sin (ang i j)

theorem v13 (i : Fin 4096) (j : Fin 8) : val_main_v13 (F := Ideal) (ix2 i j) = (ang i j : EReal) := by
  obtain ⟨h2, h16, h5, h8⟩ := words
  pointwise [val_main_v13, val_main_v11, val_main_v9, val_main_v8, val_main_v12, val_main_v10, val_main_v7, val_main_v6, val_main_cst_1, val_main_v5, val_main_v4, val_main_cst_0,
    val_main_v3, val_main_v2, val_main_cst, val_main_v1, val_main_v0]
  simp only [word_int]
  rw [h2, h16, h5, neg_coe, mul_coe, div_coe _ _ (by norm_num), pow_coe, mul_coe]
  rfl
theorem v14 (i : Fin 4096) (j : Fin 8) : val_main_v14 (F := Ideal) (ix2 i j) = (co i j : EReal) := by
  rw [val_main_v14_apply, v13]; rfl
theorem v16 (i : Fin 4096) (j : Fin 8) : val_main_v16 (F := Ideal) (ix2 i j) = (si i j : EReal) := by
  rw [val_main_v16_apply, v13]; rfl

variable (z : S4096x3328.Idx → ℝ) (sk : S1x16.Idx → ℝ) (e : S4096x2048.Idx → ℝ)

/-- A head's columns, turned. -/
theorem turn_coe {cc ss : Fin 8 → EReal} {X : Fin 64 → EReal} {c s : Fin 8 → ℝ} {x : Fin 64 → ℝ} (hc : ∀ j, cc j = (c j : EReal)) (hs : ∀ j, ss j = (s j : EReal))
    (hx : ∀ l, X l = (x l : EReal)) (l : Fin 64) :
    (if h : l.val < 8 then X ⟨l.val, by omega⟩ * cc ⟨l.val, h⟩ - X ⟨8 + l.val, by omega⟩ * ss ⟨l.val, h⟩
      else if h' : l.val - 8 < 8 then X ⟨8 + (l.val - 8), by omega⟩ * cc ⟨l.val - 8, h'⟩ + X ⟨l.val - 8, by omega⟩ * ss ⟨l.val - 8, h'⟩
      else X ⟨16 + (l.val - 8 - 8), by omega⟩) = (turn 1 c s x l : EReal) := by
  have k : ∀ {a b : Fin 64}, a.val = b.val → X a = (x b : EReal) := fun h => by rw [Fin.ext h, hx]
  unfold turn
  by_cases h : l.val < 8
  · rw [dif_pos h, dif_pos h, hc, hs, k (b := l) rfl, k (b := ⟨l.val + 8, by omega⟩) (Nat.add_comm _ _)]
    simp only [mul_coe, sub_coe, one_mul]
  · by_cases h' : l.val - 8 < 8
    · rw [dif_neg h, dif_neg h, dif_pos h', dif_pos h', hc, hs, k (b := l) (by simp; omega), k (b := ⟨l.val - 8, by omega⟩) rfl]
      simp only [mul_coe, add_coe, one_mul]
    · rw [dif_neg h, dif_neg h, dif_neg h', dif_neg h', k (b := l) (by simp; omega)]

theorem v47 (i : Fin 4096) (h : Fin 16) (d : Fin 64) : val_main_v47 (F := Ideal) (up z) (ix3 i h d)
    = (turn 1 (co i) (si i) (fun l => z (ix2 i (cof 0 h l))) d : EReal) := by
  have hc := v14 i
  have hs := v16 i
  unfold val_main_v47 val_main_v40 val_main_v45 val_main_v37 val_main_v39 val_main_v42 val_main_v44 val_main_v36 val_main_v38 val_main_v41 val_main_v43 val_main_v15 val_main_v17
  generalize val_main_v14 (F := Ideal) = C at hc ⊢
  generalize val_main_v16 (F := Ideal) = D at hs ⊢
  pointwise [val_main_v34, val_main_v35, val_main_v46, val_main_v33, val_main_v32]
  exact turn_coe (X := fun k => up z (ix2 i ⟨h.val * 64 + k.val, by omega⟩)) hc hs (fun k => congrArg (fun a : Fin 3328 => (z (ix2 i a) : EReal)) (Fin.ext (by simp))) d

theorem v77 (n : Fin 32) (r : Fin 128) (g : Fin 2) (j : Fin 8) (d : Fin 64) : val_main_v77 (F := Ideal) (up z) (ix5 n r g j d) = (QR co si z n (hof g j) r d : EReal) := by
  have h := v47 z
  unfold val_main_v77
  generalize val_main_v47 (F := Ideal) (up z) = W at h ⊢
  pointwise
  exact h _ _ _

/-- A window's row of an array that begins with a block of zeros. -/
theorem window {X : Fin 4096 → EReal} {x : Fin 4096 → ℝ} (hX : ∀ i, X i = (x i : EReal)) (n : Fin 32) (s : Fin 256) :
    (if h : s.val < 128 then if h' : n.val * 128 + s.val < 128 then 0 else X ⟨n.val * 128 + s.val - 128, by omega⟩
      else if h' : (1 + n.val) * 128 + (s.val - 128) < 128 then 0 else X ⟨(1 + n.val) * 128 + (s.val - 128) - 128, by omega⟩)
      = ((if live n s then x (krow n s) else 0 : ℝ) : EReal) := by
  have k : ∀ {a b : Fin 4096}, a.val = b.val → X a = (x b : EReal) := fun h => by rw [Fin.ext h, hX]
  by_cases h : s.val < 128
  · rw [dif_pos h]
    by_cases h' : n.val * 128 + s.val < 128
    · rw [dif_pos h', if_neg (show ¬live n s from by unfold live; omega), zero_coe]
    · rw [dif_neg h', if_pos (show live n s from by unfold live; omega)]
      exact k (by simp [h]; omega)
  · rw [dif_neg h, dif_neg (by omega), if_pos (show live n s from by unfold live; omega)]
    exact k (by simp [h]; omega)

/-- The windows' keys before the turn, the angles of their rows, their values: none before the first block. -/
theorem v24 (n : Fin 32) (s : Fin 256) (c : Fin 128) : val_main_v24 (F := Ideal) (up z) (ix3 n s c) = ((if live n s then z (ix2 (krow n s) ⟨3072 + c.val, by omega⟩) else 0 : ℝ) : EReal) := by
  pointwise [val_main_v24, val_main_v22, val_main_v23, val_main_v21, val_main_v20, val_main_v19, val_main_cst_2, val_main_v18]
  exact window (X := fun i => (z (ix2 i ⟨3072 + c.val, by omega⟩) : EReal)) (fun _ => rfl) n s
theorem v54 (n : Fin 32) (s : Fin 256) (j : Fin 8) : val_main_v54 (F := Ideal) (ix4 n s 0 j) = ((if live n s then co (krow n s) j else 0 : ℝ) : EReal) := by
  have hc := v14
  unfold val_main_v54 val_main_v52 val_main_v53 val_main_v51 val_main_v50 val_main_v15
  generalize val_main_v14 (F := Ideal) = C at hc ⊢
  pointwise [val_main_v49, val_main_cst_4]
  exact window (fun i => hc i j) n s
theorem v60 (n : Fin 32) (s : Fin 256) (j : Fin 8) : val_main_v60 (F := Ideal) (ix4 n s 0 j) = ((if live n s then si (krow n s) j else 0 : ℝ) : EReal) := by
  have hc := v16
  unfold val_main_v60 val_main_v58 val_main_v59 val_main_v57 val_main_v56 val_main_v17
  generalize val_main_v16 (F := Ideal) = C at hc ⊢
  pointwise [val_main_v55, val_main_cst_5]
  exact window (fun i => hc i j) n s
theorem v75 (n : Fin 32) (s : Fin 256) (g : Fin 2) (d : Fin 64) : val_main_v75 (F := Ideal) (up z) (ix4 n s g d) = ((if live n s then VB z n g s d else 0 : ℝ) : EReal) := by
  pointwise [val_main_v75, val_main_v31, val_main_v29, val_main_v30, val_main_v28, val_main_v27, val_main_v26, val_main_cst_3, val_main_v25]
  simp only [← Nat.add_assoc]
  exact window (X := fun i => (z (ix2 i (cof 3200 g d)) : EReal)) (fun _ => rfl) n s

theorem v74 (n : Fin 32) (s : Fin 256) (g : Fin 2) (d : Fin 64) : val_main_v74 (F := Ideal) (up z) (ix4 n s g d) = ((if live n s then KB co si z n g s d else 0 : ℝ) : EReal) := by
  have hc := v54 n s
  have hs := v60 n s
  have hk := v24 z n s
  unfold val_main_v74 val_main_v67 val_main_v72 val_main_v64 val_main_v66 val_main_v69 val_main_v71 val_main_v63 val_main_v65 val_main_v68 val_main_v70
  generalize val_main_v54 (F := Ideal) = C at hc ⊢
  generalize val_main_v60 (F := Ideal) = D at hs ⊢
  unfold val_main_v61 val_main_v62 val_main_v73 val_main_v48
  generalize val_main_v24 (F := Ideal) (up z) = K at hk ⊢
  pointwise
  by_cases hl : live n s
  · simp only [if_pos hl] at hc hs hk ⊢
    exact turn_coe (X := fun k => K (ix3 n s ⟨g.val * 64 + k.val, by omega⟩)) hc hs (fun k => (hk _).trans (congrArg (fun a : Fin 3328 => (z (ix2 (krow n s) a) : EReal)) (Fin.ext (by simp; omega)))) d
  · simp only [if_neg hl] at hc hs hk ⊢
    simp only [hc, hs, hk]
    split_ifs <;> simp only [mul_coe, sub_coe, add_coe, mul_zero, sub_zero, add_zero]

theorem word (j : ℕ) (h : j < 4096) : (BitVec.ofNat 32 j).toInt = (j : ℤ) := by
  rw [BitVec.toInt_eq_toNat_of_lt] <;> simp only [BitVec.toNat_ofNat] <;> omega
theorem and_bool (a b : Bool) : IntOp.andi (BitVec.ofBool a) (BitVec.ofBool b) = BitVec.ofBool (a && b) := by cases a <;> cases b <;> rfl
theorem or_bool (a b : Bool) : IntOp.ori (BitVec.ofBool a) (BitVec.ofBool b) = BitVec.ofBool (a || b) := by cases a <;> cases b <;> rfl
theorem cmp_sge (a b : BitVec 32) : IntOp.cmpi .sge a b = BitVec.ofBool (decide (b.toInt ≤ a.toInt)) := rfl
theorem cmp_sle (a b : BitVec 32) : IntOp.cmpi .sle a b = BitVec.ofBool (decide (a.toInt ≤ b.toInt)) := rfl
theorem cmp_slt (a b : BitVec 32) : IntOp.cmpi .slt a b = BitVec.ofBool (decide (a.toInt < b.toInt)) := rfl
theorem cmp_sgt (a b : BitVec 32) : IntOp.cmpi .sgt a b = BitVec.ofBool (decide (b.toInt < a.toInt)) := rfl

theorem mask (n : Fin 32) (g : Fin 2) (j : Fin 8) (r : Fin 128) (s : Fin 256) : val_main_v111_1 (F := Ideal) (ix5 n g j r s) = BitVec.ofBool (decide (sees n r s)) := by
  pointwise [val_main_v111_1, val_main_v110, val_main_v109, val_main_v107, val_main_v106, val_main_v95, val_main_v92, val_main_v94, val_main_v93, val_main_v91, val_main_v90, val_main_v88, val_main_v89,
    val_main_v87, val_main_v86, val_main_v85, val_main_v84, val_main_v83, val_main_v82, val_main_c, val_main_c_7, val_main_c_8, val_main_v108, val_main_v105, val_main_v103, val_main_v104,
    val_main_v99, val_main_v98, val_main_v97, val_main_v96, val_main_c_9, val_main_v102, val_main_v101, val_main_v100, val_main_c_10]
  have ha : IntOp.addi (BitVec.ofNat 32 r.val) 128#32 = BitVec.ofNat 32 (r.val + 128) := (BitVec.ofNat_add _ _).symm
  have hd : (IntOp.subi (BitVec.ofNat 32 (r.val + 128)) (BitVec.ofNat 32 s.val)).toInt = (r.val + 128 : ℤ) - s.val := by
    show (BitVec.ofNat 32 (r.val + 128) - BitVec.ofNat 32 s.val).toInt = _
    rw [BitVec.toInt_sub, word _ (by omega), word _ (by omega), Int.bmod_eq_of_le (by omega) (by omega)]
    push_cast
    rfl
  rw [ha, cmp_sge, cmp_slt, cmp_sgt, cmp_sge, hd, word _ (by omega : s.val < 4096), word _ (by omega : n.val < 4096)]
  simp only [and_bool, or_bool]
  refine congrArg BitVec.ofBool ?_
  rw [← Bool.decide_and, ← Bool.decide_or, ← Bool.decide_and]
  refine decide_eq_decide.mpr ?_
  show _ ↔ s.val ≤ r.val + 128 ∧ r.val < s.val ∧ (0 < n.val ∨ 128 ≤ s.val)
  show ((0 : ℤ) ≤ _ ∧ _ < (128 : ℤ)) ∧ ((0 : ℤ) < _ ∨ (128 : ℤ) ≤ _) ↔ _
  omega

end Cert.Attn

end
-- ==== Proof.AttnTbl.lean ====
/-
  The windowed attention's gradient: the table of cosines and sines that the host prepares for the kernel.
-/
module

public import proofs.«01_k».proof.Proof.AttnOut
public import proofs.«01_k».proof.Proof.AttnRef
public import Idealize.ShloMosaic.Lib.StableHlo.RunRead

@[expose] public section

set_option maxRecDepth 65536

noncomputable section

open Idealize.ShloMosaic Idealize.ShloMosaic.TcCoe Idealize.SL.Sem

namespace Cert.Attn

open Cert.Kernel10Ideal Cert.Kernel10Ideal.Gen Cert.Lift Cert.Softmax

variable (m : (ℓ : Loc nD τ sig) → Buf (Elt Ideal) ℓ) (c : Dev nD)

abbrev Rc : FVec Ideal S4096x8 .f32 := Cert.Reference10Ideal.Read.val_main_v14 (F := Ideal)
abbrev Rs : FVec Ideal S4096x8 .f32 := Cert.Reference10Ideal.Read.val_main_v16 (F := Ideal)
def fill (s : Shape) (h : S_.BroadcastsInDim s ![]) (w : BitVec 32) : FVec Ideal s .f32 := broadcastInDim s ![] h (constant (F := Ideal) S_ .f32 w)

/-- A head's columns of the three tables. -/
def TC (C : FVec Ideal S4096x8 .f32) : FVec Ideal S4096x64 .f32 := concatenate S4096x64 1 [⟨S4096x8, C⟩, ⟨S4096x8, C⟩, ⟨S4096x48, fill S4096x48 bcast_S_S4096x48 0x3F800000#32⟩] concatenates_S4096x8_S4096x8_S4096x48_S4096x64_d1
def TS (D : FVec Ideal S4096x8 .f32) : FVec Ideal S4096x64 .f32 := concatenate S4096x64 1 [⟨S4096x8, Host.negf D⟩, ⟨S4096x56, fill S4096x56 bcast_S_S4096x56 0x00000000#32⟩] concatenates_S4096x8_S4096x56_S4096x64_d1
def TP (D : FVec Ideal S4096x8 .f32) : FVec Ideal S4096x64 .f32 := concatenate S4096x64 1 [⟨S4096x8, fill S4096x8 bcast_S_S4096x8 0x00000000#32⟩, ⟨S4096x8, D⟩, ⟨S4096x48, fill S4096x48 bcast_S_S4096x48 0x00000000#32⟩] concatenates_S4096x8_S4096x8_S4096x48_S4096x64_d1
/-- The columns of two heads. -/
def wide (X : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 X shapeCasts_S4096x64_S1x4096x1x64)) shapeCasts_S1x4096x2x64_S4096x128

theorem TC_at (C : FVec Ideal S4096x8 .f32) (x : Fin 8 → ℝ) (i : Fin 4096) (h : ∀ j, C (ix2 i j) = (x j : EReal)) (d : Fin 64) : TC C (ix2 i d) = (t0 x d.val : EReal) := by
  unfold TC fill
  pointwise
  unfold t0
  by_cases h1 : d.val < 8
  · rw [dif_pos h1, dif_pos h1]; exact h _
  · by_cases h2 : d.val - 8 < 8
    · rw [dif_neg h1, dif_neg h1, dif_pos h2, dif_pos h2]; exact h _
    · rw [dif_neg h1, dif_neg h1, dif_neg h2, dif_neg h2]; exact one_coe
theorem TS_at (C : FVec Ideal S4096x8 .f32) (x : Fin 8 → ℝ) (i : Fin 4096) (h : ∀ j, C (ix2 i j) = (x j : EReal)) (d : Fin 64) : TS C (ix2 i d) = (t1 x d.val : EReal) := by
  unfold TS fill
  pointwise
  unfold t1
  by_cases h1 : d.val < 8
  · rw [dif_pos h1, dif_pos h1]; exact (congrArg (- ·) (h _)).trans (neg_coe _)
  · rw [dif_neg h1, dif_neg h1]; exact zero_coe
theorem TP_at (C : FVec Ideal S4096x8 .f32) (x : Fin 8 → ℝ) (i : Fin 4096) (h : ∀ j, C (ix2 i j) = (x j : EReal)) (d : Fin 64) : TP C (ix2 i d) = (t2 x d.val : EReal) := by
  unfold TP fill
  pointwise
  unfold t2
  by_cases h1 : d.val < 8
  · rw [dif_pos h1, dif_pos h1]; exact zero_coe
  · by_cases h2 : d.val - 8 < 8
    · rw [dif_neg h1, dif_neg h1, dif_pos h2, dif_pos h2]; exact h _
    · rw [dif_neg h1, dif_neg h1, dif_neg h2, dif_neg h2]; exact zero_coe
theorem wide_at (X : FVec Ideal S4096x64 .f32) (i : Fin 4096) (l : Fin 128) : wide X (ix2 i l) = X (ix2 i ⟨l.val % 64, by omega⟩) := by
  unfold wide
  pointwise

/-- What the host lines before the kernel hold before their operation number `n`. -/
abbrev pre (n : ℕ) (r : Ref sig .tc) := StableHlo.upto hostOps0 (fun b => m (c, b)) n (Proc.tc.devRef r)

theorem pre21 : pre m c 21 main_v14 = Rc ∧ pre m c 21 main_v16 = fill S4096x48 bcast_S_S4096x48 0x3F800000#32 := by
  refine ⟨?_, ?_⟩ <;> after_reads_simp <;> rfl
theorem pre30 : pre m c 30 main_v21 = fill S4096x8 bcast_S_S4096x8 0x00000000#32 ∧ pre m c 30 main_v15 = Rs ∧ pre m c 30 main_v22 = fill S4096x48 bcast_S_S4096x48 0x00000000#32 := by
  refine ⟨?_, ?_, ?_⟩ <;> after_reads_simp <;> rfl
theorem pre40 : pre m c 40 main_v26 = wide (TC Rc) ∧ pre m c 40 main_v29 = wide (TS Rs) ∧ pre m c 40 main_v32 = wide (TP Rs) := by
  obtain ⟨h1, h2⟩ := pre21 m c
  obtain ⟨h3, h4, h5⟩ := pre30 m c
  unfold pre at h1 h2 h3 h4 h5 ⊢
  refine ⟨?_, ?_, ?_⟩ <;> after_reads_simp
  · simp only [Matrix.cons_val]; rw [h1, h2]; rfl
  · rfl
  · simp only [Matrix.cons_val]; rw [h3, h4, h5]; rfl

/-- The table. -/
def TBL : FVec Ideal S4096x384 .f32 := concatenate S4096x384 1 [⟨S4096x128, wide (TC Rc)⟩, ⟨S4096x128, wide (TS Rs)⟩, ⟨S4096x128, wide (TP Rs)⟩]
  concatenates_S4096x128_S4096x128_S4096x128_S4096x384_d1
theorem v33 : (V m c main_v33 : FVec Ideal S4096x384 .f32) = TBL := by
  obtain ⟨h1, h2, h3⟩ := pre40 m c
  unfold V TBL
  unfold pre at h1 h2 h3
  after_reads_simp
  simp only [Matrix.cons_val]
  rw [h1, h2, h3]

/-- The table's rows. -/
theorem tbl_at (i : Fin 4096) (l : Fin 128) : TBL (ix2 i ⟨l.val, by omega⟩) = (t0 (co i) (l.val % 64) : EReal)
    ∧ TBL (ix2 i ⟨128 + l.val, by omega⟩) = (t1 (si i) (l.val % 64) : EReal)
    ∧ TBL (ix2 i ⟨256 + l.val, by omega⟩) = (t2 (si i) (l.val % 64) : EReal) := by
  have h0 := (wide_at (TC Rc) i l).trans (TC_at Rc (co i) i (v14 i) _)
  have h1 := (wide_at (TS Rs) i l).trans (TS_at Rs (si i) i (v16 i) _)
  have h2 := (wide_at (TP Rs) i l).trans (TP_at Rs (si i) i (v16 i) _)
  unfold TBL
  generalize wide (TC Rc) = A at h0 ⊢
  generalize wide (TS Rs) = B at h1 ⊢
  generalize wide (TP Rs) = C at h2 ⊢
  refine ⟨?_, ?_, ?_⟩ <;> pointwise
  · exact h0
  · exact h1
  · rw [dif_neg (by omega), dif_neg (by omega)]
    exact (congrArg (fun a => C (ix2 i a)) (Fin.ext (by simp; omega))).trans h2

end Cert.Attn

end
-- ==== Proof.AttnKer.lean ====
/-
  The windowed attention's gradient: the kernel's three results at real arguments.
-/
module

public import proofs.«01_k».proof.Proof.AttnTbl

@[expose] public section

set_option maxRecDepth 65536

noncomputable section

open Idealize.ShloMosaic Idealize.ShloMosaic.TcCoe Idealize.SL.Sem
open Idealize.ShloMosaic.Pipeline (Dat)

namespace Cert.Attn

open Cert.Kernel10Ideal Cert.Kernel10Ideal.Gen Cert.Lift Cert.Softmax

variable (m : (ℓ : Loc nD τ sig) → Buf (Elt Ideal) ℓ)

theorem idx : ∀ t : Fin cfg0.N, win0_0.index t = ![t.val, 0] ∧ win0_1.index t = ![t.val, 24] ∧ win0_2.index t = ![t.val - 1, 24]
    ∧ win0_3.index t = ![t.val, 25] ∧ win0_4.index t = ![t.val - 1, 25] ∧ win0_5.index t = ![t.val, 0] ∧ win0_6.index t = ![t.val - 1, 0]
    ∧ win0_7.index t = ![0, 0] ∧ win0_8.index t = ![t.val, 0] ∧ win0_9.index t = ![t.val, 0] ∧ win0_10.index t = ![t.val, 0, 0] ∧ win0_11.index t = ![0, 0] :=
  (by decide +kernel : ∀ t : Fin grid0.N, _)
theorem coord : ∀ t : Fin cfg0.N, (grid0.coords t 0).val = t.val := (by decide +kernel : ∀ t : Fin grid0.N, _)

/-- A point's block, and the row before it. -/
abbrev bl (t : Fin cfg0.N) : Fin 32 := ⟨t.val, t.isLt⟩
abbrev prow (n : Fin 32) (r : Fin 128) : Fin 4096 := ⟨(n.val - 1) * 128 + r.val, by omega⟩

variable (z : S4096x3328.Idx → ℝ) (sk : S1x16.Idx → ℝ) (e : S4096x2048.Idx → ℝ) (c : Dev nD)

/-- A block of the table's rows. -/
theorem tab (o : Fin 128 → Fin 4096) (T : FVec Ideal S128x384 .f32) (hT : ∀ r l, T (ix2 r l) = TBL (ix2 (o r) l)) :
    Tab (shapeCast S128x384 T shapeCasts_S128x384_S128x384) (fun r => co (o r)) (fun r => si (o r)) := by
  have k : ∀ (r : Fin 128) (l : Fin 384), shapeCast S128x384 T shapeCasts_S128x384_S128x384 (ix2 r l) = TBL (ix2 (o r) l) := fun r l => by
    rw [← hT]
    pointwise
  exact ⟨fun r l => (k r _).trans (tbl_at _ l).1, fun r l => (k r _).trans (tbl_at _ l).2.1, fun r l => (k r _).trans (tbl_at _ l).2.2⟩

section
variable {z} (n : Fin 32) {T T' : FVec Ideal S128x384 .f32}
  (h5 : Tab (shapeCast S128x384 T shapeCasts_S128x384_S128x384) (fun r => co (qrow n r)) (fun r => si (qrow n r)))
  (h6 : Tab (shapeCast S128x384 T' shapeCasts_S128x384_S128x384) (fun r => co (prow n r)) (fun r => si (prow n r)))
include h5

/-- A block's queries. -/
theorem Qp_at (X : FVec Ideal S128x1024 .f32) (hX : ∀ (r : Fin 128) (l : Fin 1024), X (ix2 r l) = (z (ix2 (qrow n r) ⟨l.val, by omega⟩) : EReal)) (r : Fin 128) (h : Fin 16) (d : Fin 64) :
    k0_pay1 (F := Ideal) X T (ix2 r (cof 0 h d)) = ((QR co si z n h r d * (1 / 8) : ℝ) : EReal) := by
  have k := back1024_at one_word h5 X _ hX r h d
  refine Eq.trans (?_ : _ = back1024 0x3F800000#32 X (shapeCast S128x384 T shapeCasts_S128x384_S128x384) (ix2 r (cof 0 h d)) * Ideal.ofBits FTy.f32 0x3E000000#32) ?_
  · show truncf .bf16 (mulf (back1024 0x3F800000#32 X (shapeCast S128x384 T shapeCasts_S128x384_S128x384)) (broadcast S128x1024 (Scalar.ofBits .f32 0x3E000000#32))) bitsLt_bf16_f32 _ = _
    generalize back1024 _ _ _ = W
    pointwise
  · rw [k, eighth_word, mul_coe]
    rfl
include h6
/-- A block's keys. -/
theorem Kp_at (X X' : FVec Ideal S128x128 .f32) (hX : ∀ r l : Fin 128, X (ix2 r l) = (z (ix2 (qrow n r) ⟨3072 + l.val, by omega⟩) : EReal))
    (hX' : ∀ r l : Fin 128, X' (ix2 r l) = (z (ix2 (prow n r) ⟨3072 + l.val, by omega⟩) : EReal)) (s : Fin 256) (g : Fin 2) (d : Fin 64) :
    k0_pay5 (F := Ideal) (k0_pay2 X' T') X (k0_pay3 T) (k0_pay4 T) (ix2 s (cof 0 g d)) = (KB co si z n g s d : EReal) := by
  have k5 := back128_at one_word h5 X _ hX
  have k6 := back128_at one_word h6 X' _ hX'
  show truncf .bf16 (concatenate S256x128 0 [⟨S128x128, back128 0x3F800000#32 X' (shapeCast S128x384 T' shapeCasts_S128x384_S128x384)⟩,
    ⟨S128x128, back128 0x3F800000#32 X (shapeCast S128x384 T shapeCasts_S128x384_S128x384)⟩] concatenates_S128x128_S128x128_S256x128_d0) bitsLt_bf16_f32 _ = _
  generalize back128 _ X' _ = A at k6 ⊢
  generalize back128 _ X _ = B at k5 ⊢
  pointwise
  unfold KB
  by_cases hs : s.val < 128
  · rw [dif_pos hs]
    have ek : krow n s = prow n ⟨s.val, hs⟩ := Fin.ext (if_pos hs)
    simp only [ek]
    exact (congrArg (fun a => A (ix2 _ a)) (Fin.ext (by simp))).trans ((k6 ⟨s.val, hs⟩ g d).trans (by simp only [cof, Nat.zero_add, Nat.add_assoc]))
  · rw [dif_neg hs]
    have ek : krow n s = qrow n ⟨s.val - 128, by omega⟩ := Fin.ext (if_neg hs)
    simp only [ek]
    exact (congrArg (fun a => B (ix2 _ a)) (Fin.ext (by simp))).trans ((k5 ⟨s.val - 128, by omega⟩ g d).trans (by simp only [cof, Nat.zero_add, Nat.add_assoc]))
end

/-- A block's values. -/
theorem Vp_at {z} (n : Fin 32) (A B : FVec Ideal S128x128 .f32) (k5 : ∀ r l : Fin 128, A (ix2 r l) = (z (ix2 (qrow n r) ⟨3200 + l.val, by omega⟩) : EReal))
    (k6 : ∀ r l : Fin 128, B (ix2 r l) = (z (ix2 (prow n r) ⟨3200 + l.val, by omega⟩) : EReal)) (s : Fin 256) (g : Fin 2) (d : Fin 64) :
    k0_pay6 (F := Ideal) B A (ix2 s (cof 0 g d)) = (VB z n g s d : EReal) := by
  pointwise [k0_pay6]
  unfold VB
  by_cases hs : s.val < 128
  · rw [dif_pos hs]
    have ek : krow n s = prow n ⟨s.val, hs⟩ := Fin.ext (if_pos hs)
    simp only [ek]
    exact (k6 ⟨s.val, hs⟩ _).trans (by simp only [cof, Nat.add_assoc])
  · rw [dif_neg hs]
    have ek : krow n s = qrow n ⟨s.val - 128, by omega⟩ := Fin.ext (if_neg hs)
    simp only [ek]
    exact (k5 ⟨s.val - 128, by omega⟩ _).trans (by simp only [cof, Nat.add_assoc])

/-- A block's mask. -/
theorem Mp_at (n : Fin 32) (r : Fin 128) (s : Fin 256) : k0_pay7 (BitVec.ofNat 32 n.val) (ix2 r s) = BitVec.ofBool (decide (sees n r s)) := by
  pointwise [k0_pay7]
  have hr : (IntOp.addi (BitVec.ofNat 32 r.val) 128#32).toInt = (r.val : ℤ) + 128 := by
    show (BitVec.ofNat 32 r.val + BitVec.ofNat 32 128).toInt = _
    rw [BitVec.toInt_add, word _ (by omega), word _ (by omega), Int.bmod_eq_of_le (by omega) (by omega)]
    rfl
  have h0 : (0#32 : BitVec 32).toInt = 0 := rfl
  have h128 : (128#32 : BitVec 32).toInt = 128 := rfl
  have hsc : Scalar.cmpi CmpIPredicate.sgt (BitVec.ofNat 32 n.val) 0#32 = IntOp.cmpi CmpIPredicate.sgt (BitVec.ofNat 32 n.val) 0#32 := rfl
  have ht : n.val < 32 := n.isLt
  rw [hsc, cmp_sle, cmp_sgt, cmp_sgt, cmp_sge, hr, word _ (by omega : s.val < 4096), word _ (by omega : r.val < 4096), word _ (by omega : n.val < 4096), h0, h128, and_bool, or_bool, and_bool]
  congr 1
  rw [Bool.eq_iff_iff]
  simp only [Bool.and_eq_true, Bool.or_eq_true, decide_eq_true_eq]
  unfold sees live
  show _ ↔ s.val ≤ r.val + 128 ∧ r.val < s.val ∧ (0 < n.val ∨ 128 ≤ s.val)
  omega

/-- The arguments are real arrays. -/
structure Args : Prop where
  a0 : m ((c : Thread nD τ).loc main_arg0) = up z
  a1 : m ((c : Thread nD τ).loc main_arg1) = up sk
  a2 : m ((c : Thread nD τ).loc main_arg2) = up e

section
variable (H : Args m z sk e c) (t : Fin cfg0.N)
include H

theorem x0 (r : Fin 128) (n : Fin 1024) : (X0_0 m c t : FVec Ideal S128x1024 .f32) (ix2 r n) = (z (ix2 (qrow (bl t) r) ⟨n.val, by omega⟩) : EReal) := by
  obtain ⟨h0, h1, h2, h3, h4, h5, h6, h7, h8, h9, h10, h11⟩ := idx t
  refine Eq.trans ?_ (congrFun H.a0 (ix2 (qrow (bl t) r) ⟨n.val, by omega⟩))
  unfold X0_0 Pipeline.Window.fill
  rw [dif_pos (moved0_0 t _)]
  blk_point [iblk, V, h0]
theorem iblk1 (r : Fin 128) (n : Fin 128) : (iblk m c 1 t : FVec Ideal S128x128 .f32) (ix2 r n) = (z (ix2 (qrow (bl t) r) ⟨3072 + n.val, by omega⟩) : EReal) := by
  obtain ⟨h0, h1, h2, h3, h4, h5, h6, h7, h8, h9, h10, h11⟩ := idx t
  refine Eq.trans ?_ (congrFun H.a0 (ix2 (qrow (bl t) r) ⟨3072 + n.val, by omega⟩))
  blk_point [iblk, V, h1]
theorem iblk2 (r : Fin 128) (n : Fin 128) : (iblk m c 2 t : FVec Ideal S128x128 .f32) (ix2 r n) = (z (ix2 (prow (bl t) r) ⟨3072 + n.val, by omega⟩) : EReal) := by
  obtain ⟨h0, h1, h2, h3, h4, h5, h6, h7, h8, h9, h10, h11⟩ := idx t
  refine Eq.trans ?_ (congrFun H.a0 (ix2 (prow (bl t) r) ⟨3072 + n.val, by omega⟩))
  blk_point [iblk, V, h2]
theorem iblk3 (r : Fin 128) (n : Fin 128) : (iblk m c 3 t : FVec Ideal S128x128 .f32) (ix2 r n) = (z (ix2 (qrow (bl t) r) ⟨3200 + n.val, by omega⟩) : EReal) := by
  obtain ⟨h0, h1, h2, h3, h4, h5, h6, h7, h8, h9, h10, h11⟩ := idx t
  refine Eq.trans ?_ (congrFun H.a0 (ix2 (qrow (bl t) r) ⟨3200 + n.val, by omega⟩))
  blk_point [iblk, V, h3]
theorem iblk4 (r : Fin 128) (n : Fin 128) : (iblk m c 4 t : FVec Ideal S128x128 .f32) (ix2 r n) = (z (ix2 (prow (bl t) r) ⟨3200 + n.val, by omega⟩) : EReal) := by
  obtain ⟨h0, h1, h2, h3, h4, h5, h6, h7, h8, h9, h10, h11⟩ := idx t
  refine Eq.trans ?_ (congrFun H.a0 (ix2 (prow (bl t) r) ⟨3200 + n.val, by omega⟩))
  blk_point [iblk, V, h4]
theorem iblk7 (h : Fin 16) : (iblk m c 7 t : FVec Ideal S1x16 .f32) (ix2 0 h) = (sk (ix2 0 h) : EReal) := by
  obtain ⟨h0, h1, h2, h3, h4, h5, h6, h7, h8, h9, h10, h11⟩ := idx t
  refine Eq.trans ?_ (congrFun H.a1 (ix2 0 h))
  blk_point [iblk, V, h7]
theorem iblk8 (r : Fin 128) (n : Fin 1024) : (iblk m c 8 t : FVec Ideal S128x1024 .bf16) (ix2 r n) = (e (ix2 (qrow (bl t) r) ⟨n.val, by omega⟩) : EReal) := by
  obtain ⟨h0, h1, h2, h3, h4, h5, h6, h7, h8, h9, h10, h11⟩ := idx t
  refine Eq.trans ?_ (congrFun H.a2 (ix2 (qrow (bl t) r) ⟨n.val, by omega⟩))
  blk_point [iblk, V, h8]

omit H in
theorem tab5 : Tab (shapeCast S128x384 (iblk m c 5 t) shapeCasts_S128x384_S128x384) (fun r => co (qrow (bl t) r)) (fun r => si (qrow (bl t) r)) := by
  obtain ⟨h0, h1, h2, h3, h4, h5, h6, h7, h8, h9, h10, h11⟩ := idx t
  refine tab _ _ fun r l => Eq.trans ?_ (congrFun (v33 m c) (ix2 (qrow (bl t) r) l))
  blk_point [iblk, h5]
omit H in
theorem tab6 : Tab (shapeCast S128x384 (iblk m c 6 t) shapeCasts_S128x384_S128x384) (fun r => co (prow (bl t) r)) (fun r => si (prow (bl t) r)) := by
  obtain ⟨h0, h1, h2, h3, h4, h5, h6, h7, h8, h9, h10, h11⟩ := idx t
  refine tab _ _ fun r l => Eq.trans ?_ (congrFun (v33 m c) (ix2 (prow (bl t) r) l))
  blk_point [iblk, h6]

theorem hQp (r : Fin 128) (h : Fin 16) (d : Fin 64) : Qp m c t (ix2 r (cof 0 h d)) = ((QR co si z (bl t) h r d * (1 / 8) : ℝ) : EReal) :=
  Qp_at (bl t) (tab5 m c t) _ (x0 m z sk e c H t) r h d
theorem hKp (s : Fin 256) (g : Fin 2) (d : Fin 64) : Kp m c t (ix2 s (cof 0 g d)) = (KB co si z (bl t) g s d : EReal) :=
  Kp_at (bl t) (tab5 m c t) (tab6 m c t) _ _ (iblk1 m z sk e c H t) (iblk2 m z sk e c H t) s g d
theorem hVp (s : Fin 256) (g : Fin 2) (d : Fin 64) : Vp m c t (ix2 s (cof 0 g d)) = (VB z (bl t) g s d : EReal) :=
  Vp_at (bl t) _ _ (iblk3 m z sk e c H t) (iblk4 m z sk e c H t) s g d
omit H in
theorem hMp (r : Fin 128) (s : Fin 256) : Mp t (ix2 r s) = BitVec.ofBool (decide (sees (bl t) r s)) := by
  unfold Mp
  rw [coord]
  exact Mp_at (bl t) r s

theorem hSp (h : Fin 16) : Sp m c t h = (sk (ix2 0 h) : EReal) := by
  refine Eq.trans ?_ (iblk7 m z sk e c H t h)
  refine View.ld_unit_apply_of _ _ _ (inbs h) _ _ fun a => ?_
  match a with
  | ⟨0, _⟩ => rfl
  | ⟨1, _⟩ => rfl

theorem cols : Cols (Qp m c t) (iblk m c 8 t) (Kp m c t) (Vp m c t) (Mp t) (Sp m c t) (fun h r d => QR co si z (bl t) h r d * (1 / 8)) (fun h r d => e (ix2 (qrow (bl t) r) (cof 0 h d)))
    (KB co si z (bl t)) (VB z (bl t)) (sees (bl t)) (fun h => sk (ix2 0 h)) where
  hQ := hQp m z sk e c H t
  hE r h d := iblk8 m z sk e c H t r _
  hK := hKp m z sk e c H t
  hV := hVp m z sk e c H t
  hM := hMp t
  hσ := hSp m z sk e c H t
  hS r := ⟨⟨r.val + 128, by omega⟩, le_rfl, by show r.val < r.val + 128; omega, Or.inr (by show 128 ≤ r.val + 128; omega)⟩

omit H in
theorem xs_eq (n : Fin 32) (h : Fin 16) (r : Fin 128) : xs (fun h r d => QR co si z n h r d * (1 / 8)) (KB co si z n) h r = XS co si z n h r := funext fun s => by
  unfold xs XS
  rw [Finset.sum_mul]
  exact Finset.sum_congr rfl fun d _ => by ring

theorem dq (r : Fin 128) (n : Fin 1024) : (outsAt0 m c t.val t.isLt).1 (ix2 r n) = (RQ co si z sk e (qrow (bl t) r) n : EReal) := by
  have hn : n = cof 0 (⟨n.val / 64, by omega⟩ : Fin 16) ⟨n.val % 64, by omega⟩ := Fin.ext (by simp; omega)
  have ew : Ideal.ofBits FTy.f32 0xBF800000#32 = ((-1 : ℝ) : EReal) := by simp [Ideal.ofBits, Ideal.ieee, ← EReal.coe_mul]; norm_num
  have k := back1024_at ew (tab5 m c t) _ (fun r n => _) (fun r n => DQs_at (cols m z sk e c H t) r n) r ⟨n.val / 64, by omega⟩ ⟨n.val % 64, by omega⟩
  rw [← hn] at k
  rw [out9]
  refine Eq.trans (?_ : _ = back1024 0xBF800000#32 (DQs (Qp m c t) (iblk m c 8 t) (Kp m c t) (Vp m c t) (Mp t) (Sp m c t)) (shapeCast S128x384 (iblk m c 5 t) shapeCasts_S128x384_S128x384) (ix2 r n)) (k.trans ?_)
  · rfl
  · have e1 : (⟨(qrow (bl t) r).val / 128, by omega⟩ : Fin 32) = bl t := Fin.ext (by simp; omega)
    have e2 : (⟨(qrow (bl t) r).val % 128, by omega⟩ : Fin 128) = r := Fin.ext (by simp)
    unfold RQ
    rw [e1, e2]
    refine congrArg _ (congrArg (fun f => turn (-1) _ _ f _) (funext fun l => ?_))
    unfold DQ DS
    have e3 : (⟨(cof (n := 1024) 0 (⟨n.val / 64, by omega⟩ : Fin 16) l).val / 64, by omega⟩ : Fin 16) = ⟨n.val / 64, by omega⟩ := Fin.ext (by simp; omega)
    have e4 : (⟨(cof (n := 1024) 0 (⟨n.val / 64, by omega⟩ : Fin 16) l).val % 64, by omega⟩ : Fin 64) = l := Fin.ext (by simp)
    rw [e3, e4, xs_eq]
    rfl

theorem dkv (s : Fin 256) (n : Fin 256) : (outsAt0 m c t.val t.isLt).2.1 (ix3 0 s n) = (RKV co si z sk e (bl t) s n : EReal) := by
  have hc := cols m z sk e c H t
  have kd : ∀ (n : Fin 128) (s : Fin 256), DKs (Qp m c t) (iblk m c 8 t) (Kp m c t) (Vp m c t) (Mp t) (Sp m c t) (ix2 n s)
      = ((DK co si z sk e (bl t) ⟨n.val / 64, by omega⟩ s ⟨n.val % 64, by omega⟩ * (1 / 8) : ℝ) : EReal) := fun n s => by
    have hn : n = cof 0 (⟨n.val / 64, by omega⟩ : Fin 2) ⟨n.val % 64, by omega⟩ := Fin.ext (by simp; omega)
    have k := DKs_at hc ⟨n.val / 64, by omega⟩ ⟨n.val % 64, by omega⟩ s
    rw [← hn] at k
    rw [k]
    unfold DK DS
    rw [Finset.sum_mul]
    refine congrArg _ (Finset.sum_congr rfl fun j _ => ?_)
    rw [Finset.sum_mul]
    refine Finset.sum_congr rfl fun r _ => ?_
    rw [xs_eq]
    show _ * (1 / 8) * ds _ _ (DPs z e (bl t) (hof _ j) r) _ _ = _
    ring
  rw [out10]
  refine (pair_at (tab5 m c t) (tab6 m c t) _ _ (fun n s => _) kd s n).trans ?_
  unfold RKV
  by_cases hn : n.val < 128
  · have e1 : (⟨n.val % 128 / 64, by omega⟩ : Fin 2) = ⟨n.val / 64, by omega⟩ := Fin.ext (by simp; omega)
    rw [dif_pos hn, if_pos hn, e1]
    have ec : ∀ f : Fin 4096 → Fin 8 → ℝ, (if h : s.val < 128 then f (prow (bl t) ⟨s.val, h⟩) else f (qrow (bl t) ⟨s.val - 128, by omega⟩)) = f (krow (bl t) s) := fun f => by
      by_cases hs : s.val < 128
      · rw [dif_pos hs]; exact congrArg f (Fin.ext (if_pos hs).symm)
      · rw [dif_neg hs]; exact congrArg f (Fin.ext (if_neg hs).symm)
    rw [ec co, ec si]
    refine congrArg _ (congrArg (fun f => turn (-1) _ _ f _) (funext fun l => ?_))
    have e3 : (⟨(cof (n := 128) 0 (⟨n.val / 64, by omega⟩ : Fin 2) l).val / 64, by omega⟩ : Fin 2) = ⟨n.val / 64, by omega⟩ := Fin.ext (by simp; omega)
    have e4 : (⟨(cof (n := 128) 0 (⟨n.val / 64, by omega⟩ : Fin 2) l).val % 64, by omega⟩ : Fin 64) = l := Fin.ext (by simp)
    rw [e3, e4]
    ring
  · rw [dif_neg hn, if_neg hn]
    have hn' : (⟨n.val - 128, by omega⟩ : Fin 128) = cof 0 (⟨n.val % 128 / 64, by omega⟩ : Fin 2) ⟨n.val % 64, by omega⟩ := Fin.ext (by simp; omega)
    rw [hn', DVs_at hc]
    refine congrArg _ ?_
    unfold DV PR
    refine Finset.sum_congr rfl fun j _ => Finset.sum_congr rfl fun r _ => ?_
    rw [xs_eq]

/-- A block's part of the sinks' gradients, by lane. -/
def RSp (n : Fin 32) (l : Fin 128) : ℝ := if h : l.val < 16 then DSk co si z sk e n ⟨l.val, h⟩ else 0

theorem sks (j : S1x128.Idx) : SKs (Qp m c t) (iblk m c 8 t) (Kp m c t) (Vp m c t) (Mp t) (Sp m c t) j = (RSp z sk e (bl t) (j 1) : EReal) := by
  idx_vars j
  refine (SKs_at (cols m z sk e c H t) j1).trans (congrArg _ ?_)
  show _ = RSp z sk e (bl t) j1
  unfold RSp
  by_cases hl : j1.val < 16
  · rw [dif_pos hl, dif_pos hl]
    unfold DSk
    refine congrArg _ (Finset.sum_congr rfl fun r _ => ?_)
    rw [xs_eq]
    rfl
  · rw [dif_neg hl, dif_neg hl]
end

theorem cast128 (X : FVec Ideal S1x128 .f32) (j : S1x128.Idx) : shapeCast S1x128 X shapeCasts_S1x128_S1x128 j = X j := by
  idx_vars j
  pointwise

theorem skA (H : Args m z sk e c) (t : Fin cfg0.N) (hz : t.val % 32 = 0) (j : S1x128.Idx) : (outsAt0 m c t.val t.isLt).2.2 j = 0 + (RSp z sk e (bl t) (j 1) : EReal) := by
  rw [out11A m c t hz]
  show shapeCast S1x128 (k0_pay285 (F := Ideal)) shapeCasts_S1x128_S1x128 j + _ = _
  rw [cast128, sks m z sk e c H t]
  exact congrArg (· + _) zero_word
theorem skB (H : Args m z sk e c) (t : Fin cfg0.N) (hz : ¬t.val % 32 = 0) (j : S1x128.Idx) : (outsAt0 m c t.val t.isLt).2.2 j
    = (outsAt0 m c (t.val - 1) (Nat.lt_of_le_of_lt (Nat.sub_le _ _) t.isLt)).2.2 j + (RSp z sk e (bl t) (j 1) : EReal) := by
  rw [out11B m c t hz]
  show shapeCast S1x128 (outsAt0 m c (t.val - 1) _).2.2 shapeCasts_S1x128_S1x128 j + _ = _
  rw [cast128, sks m z sk e c H t]
theorem dsk (H : Args m z sk e c) (t : Fin cfg0.N) (ht : t.val + 1 = cfg0.N) (j : S1x128.Idx) : (outsAt0 m c t.val t.isLt).2.2 j = (RS co si z sk e (j 1) : EReal) := by
  rw [Pipeline.eq_sum_fin_of_reset_step_apply_last (fun n h => (outsAt0 m c n h).2.2) 32 (fun _ => 0) (fun t j => (RSp z sk e (bl t) (j 1) : EReal))
    (fun t hz j => skA m z sk e c H t hz j) (fun t hz j => skB m z sk e c H t hz j) (by decide) t ht j, zero_add]
  show ∑ t : Fin cfg0.N, ((RSp z sk e (bl t) (j 1) : ℝ) : EReal) = _
  rw [coe_sum]
  refine congrArg _ ?_
  show ∑ n : Fin 32, RSp z sk e n (j 1) = _
  unfold RSp RS
  by_cases hl : (j 1).val < 16
  · simp only [dif_pos hl]
  · simp only [dif_neg hl, Finset.sum_const_zero]

/-- The three results, as arrays. -/
def DQv : FVec Ideal S4096x1024 .bf16 := fun i => (RQ co si z sk e (i 0) (i 1) : EReal)
def DKVv : FVec Ideal S32x256x256 .f32 := fun i => (RKV co si z sk e (i 0) (i 1) (i 2) : EReal)
def DSv : FVec Ideal S1x128 .f32 := fun i => (RS co si z sk e (i 1) : EReal)

theorem final9 (H : Args m z sk e c) : (dats m 0 c).arrAt 9 (cfgs 0).N = DQv z sk e := by
  refine (dats m 0 c).arrAt_eq_of_covers 9 _ (by decide +kernel) fun t hf y => ?_
  blk_simp
  rw [after0_9]
  obtain ⟨h0, h1, h2, h3, h4, h5, h6, h7, h8, h9, h10, h11⟩ := idx t
  idx_vars y
  refine (dq m z sk e c H t y0 y1).trans ?_
  show DQv z sk e (ix2 (qrow (bl t) y0) y1) = _
  blk_ext [h9]

theorem final10 (H : Args m z sk e c) : (dats m 0 c).arrAt 10 (cfgs 0).N = DKVv z sk e := by
  refine (dats m 0 c).arrAt_eq_of_covers 10 _ (by decide +kernel) fun t hf y => ?_
  blk_simp
  rw [after0_10]
  obtain ⟨h0, h1, h2, h3, h4, h5, h6, h7, h8, h9, h10, h11⟩ := idx t
  idx_vars y
  obtain rfl : y0 = 0 := Subsingleton.elim _ _
  refine (dkv m z sk e c H t y1 y2).trans ?_
  show DKVv z sk e (ix3 (bl t) y1 y2) = _
  blk_ext [h10]

theorem final11 (H : Args m z sk e c) : (dats m 0 c).arrAt 11 (cfgs 0).N = DSv z sk e := by
  refine (dats m 0 c).arrAt_eq_of_covers 11 _ (by decide +kernel) fun t hf y => ?_
  blk_simp
  have ht := (flush0_11 t).mp hf
  obtain ⟨h0, h1, h2, h3, h4, h5, h6, h7, h8, h9, h10, h11⟩ := idx t
  rw [after0_11, dsk m z sk e c H t (by have := t.isLt; have hN : cfg0.N = 32 := rfl; omega)]
  idx_vars y
  show DSv z sk e (ix2 y0 y1) = _
  blk_ext [h11]

end Cert.Attn

end
-- ==== Proof.AttnRefB.lean ====
/-
  The windowed attention gradient's reference: probabilities and the scores' cotangent.
-/
module

public import proofs.«01_k».proof.Proof.AttnRef

@[expose] public section

set_option maxRecDepth 16384

noncomputable section

open Idealize.ShloMosaic Idealize.ShloMosaic.TcCoe Idealize.SL.Sem

namespace Cert.Attn

open Cert.Reference10Ideal Cert.Reference10Ideal.Read Cert.Lift Cert.Softmax

variable (z : S4096x3328.Idx → ℝ) (sk : S1x16.Idx → ℝ) (e : S4096x2048.Idx → ℝ)
variable (n : Fin 32) (g : Fin 2) (j : Fin 8) (r : Fin 128)

theorem gp_hof (g : Fin 2) (j : Fin 8) : gp (hof g j) = g := Fin.ext (by show (g.val * 8 + j.val) / 8 = g.val; omega)

/-- The scores and the probabilities' cotangent as the reference has them: zero before the first block. -/
def XZ (s : Fin 256) : ℝ := (∑ d : Fin 64, (if live n s then KB co si z n g s d else 0) * QR co si z n (hof g j) r d) * (1 / 8)
def DZ (s : Fin 256) : ℝ := ∑ d : Fin 64, e (ix2 (qrow n r) (cof 0 (hof g j) d)) * (if live n s then VB z n g s d else 0)

theorem XZ_eq (s : Fin 256) (h : sees n r s) : XS co si z n (hof g j) r s = XZ z n g j r s := by
  unfold XS XZ
  rw [gp_hof]
  exact congrArg (· * (1 / 8 : ℝ)) (Finset.sum_congr rfl fun d _ => by rw [if_pos h.2.2, mul_comm])
theorem DZ_eq (s : Fin 256) (h : sees n r s) : DPs z e n (hof g j) r s = DZ z e n g j r s := by
  unfold DPs DZ
  rw [gp_hof]
  exact Finset.sum_congr rfl fun d _ => by rw [if_pos h.2.2]

abbrev σ : ℝ := sk (ix2 0 (hof g j))

theorem PR_eq : PR co si z sk n (hof g j) r = pr (sees n r) (XZ z n g j r) (σ sk g j) := (pr_congr _ _ _ (XZ_eq z n g j r)).1
theorem DS_eq : DS co si z sk e n (hof g j) r = ds (sees n r) (XZ z n g j r) (DZ z e n g j r) (σ sk g j) := (ds_congr _ _ _ _ (XZ_eq z n g j r) (DZ_eq z e n g j r)).2

theorem v81 (s : Fin 256) : val_main_v81 (F := Ideal) (up z) (ix5 n g j r s) = (XZ z n g j r s : EReal) := by
  have hk := v74 z n s g
  have hq := v77 z n r g j
  unfold val_main_v81 val_main_v79 val_main_v78
  generalize val_main_v74 (F := Ideal) (up z) = K at hk ⊢
  generalize val_main_v77 (F := Ideal) (up z) = Q at hq ⊢
  pointwise [val_main_v80, val_main_cst_6]
  simp only [hk, hq, words.2.2.2, mul_coe, coe_sum, XZ]

theorem v115 (k : Fin 257) : val_main_v115 (F := Ideal) (up z) (up sk) (ix5 n g j r k)
    = if h : k.val < 256 then (if sees n r ⟨k.val, h⟩ then (XZ z n g j r ⟨k.val, h⟩ : EReal) else ⊥) else (σ sk g j : EReal) := by
  have hx := v81 z n g j r
  have hm := mask n g j r
  unfold val_main_v115 val_main_v111_0
  generalize val_main_v81 (F := Ideal) (up z) = X at hx ⊢
  generalize val_main_v111_1 (F := Ideal) = M at hm ⊢
  pointwise [val_main_call0_v2, val_main_call0_v0, val_main_cst_11, val_main_v114, val_main_v113, val_main_v112, val_main_v76]
  split_ifs with h hs
  · rw [hm, hx, decide_eq_true hs]; rfl
  · rw [hm, hx, decide_eq_false hs]; exact bot_word
  · rfl

theorem max_real : ∃ a : ℝ, val_main_v116 (F := Ideal) (up z) (up sk) (ix4 n g j r) = (a : EReal) := by
  have h := v115 z sk n g j r
  unfold val_main_v116
  generalize val_main_v115 (F := Ideal) (up z) (up sk) = W at h ⊢
  pointwise [val_main_cst_12]
  refine ⟨_, fold_real _ (fun k => ?_) (⟨256, by omega⟩ : Fin 257) ?_⟩
  · rw [h]
    split_ifs
    · exact EReal.coe_ne_top _
    · exact bot_ne_top
    · exact EReal.coe_ne_top _
  · rw [h, dif_neg (by simp)]
    exact EReal.coe_ne_bot _

/-- The greatest score. -/
def mx : ℝ := (max_real z sk n g j r).choose
theorem v116 : val_main_v116 (F := Ideal) (up z) (up sk) (ix4 n g j r) = (mx z sk n g j r : EReal) := (max_real z sk n g j r).choose_spec

/-- The exponentials' common factor. -/
def cm : ℝ := Real.exp (-mx z sk n g j r)
theorem cm_ne : cm z sk n g j r ≠ 0 := (Real.exp_pos _).ne'
def EX (k : Fin 257) : ℝ := if h : k.val < 256 then wt (sees n r) (XZ z n g j r) ⟨k.val, h⟩ * cm z sk n g j r else Real.exp (σ sk g j) * cm z sk n g j r

theorem v123 : val_main_v123 (F := Ideal) (up z) (up sk) (ix4 n g j r) = (mx z sk n g j r : EReal) := by
  rw [val_main_v123_apply, v116, val_main_v122_apply]
  show max (Ideal.ofBits FTy.f32 0xFF800000#32) _ = _
  rw [bot_word, max_eq_right bot_le]

theorem v134 (k : Fin 257) : val_main_v134 (F := Ideal) (up z) (up sk) (ix5 n g j r k) = (mx z sk n g j r : EReal) := by
  have h6 := v123 z sk n g j r
  unfold val_main_v134 val_main_v133
  generalize val_main_v123 (F := Ideal) (up z) (up sk) = T at h6 ⊢
  pointwise
  exact h6

theorem v136 (k : Fin 257) : val_main_v136 (F := Ideal) (up z) (up sk) (ix5 n g j r k) = (EX z sk n g j r k : EReal) := by
  have h5 := v115 z sk n g j r k
  rw [val_main_v136_apply, val_main_v135_apply, v134]
  show Ideal.exp (val_main_v115 (F := Ideal) (up z) (up sk) (ix5 n g j r k) - (mx z sk n g j r : EReal)) = _
  generalize val_main_v115 (F := Ideal) (up z) (up sk) (ix5 n g j r k) = w at h5 ⊢
  unfold EX cm
  by_cases h : k.val < 256
  · rw [dif_pos h] at h5 ⊢
    exact exp_masked _ _ _ _ _ h5
  · rw [dif_neg h] at h5 ⊢
    rw [h5, sub_coe, exp_coe, sub_eq_add_neg, Real.exp_add]

end Cert.Attn

end
-- ==== Proof.AttnRefC.lean ====
/-
  The windowed attention gradient's reference: the probabilities and the scores' cotangent.
-/
module

public import proofs.«01_k».proof.Proof.AttnRefB

@[expose] public section

set_option maxRecDepth 16384

noncomputable section

open Idealize.ShloMosaic Idealize.ShloMosaic.TcCoe Idealize.SL.Sem

namespace Cert.Attn

open Cert.Reference10Ideal Cert.Reference10Ideal.Read Cert.Lift Cert.Softmax

variable (z : S4096x3328.Idx → ℝ) (sk : S1x16.Idx → ℝ) (e : S4096x2048.Idx → ℝ)
variable (n : Fin 32) (g : Fin 2) (j : Fin 8) (r : Fin 128)

abbrev ts : ℝ := tt (sees n r) (XZ z n g j r) (σ sk g j)
theorem v137 : val_main_v137 (F := Ideal) (up z) (up sk) (ix4 n g j r) = ((ts z sk n g j r * cm z sk n g j r : ℝ) : EReal) := by
  have h := v136 z sk n g j r
  unfold val_main_v137
  generalize val_main_v136 (F := Ideal) (up z) (up sk) = W at h ⊢
  pointwise [val_main_cst_20]
  simp only [h, coe_sum]
  refine congrArg _ ?_
  unfold ts tt
  rw [Fin.sum_univ_castSucc, add_mul, Finset.sum_mul]
  refine congrArg₂ (· + ·) (Finset.sum_congr rfl fun s _ => ?_) ?_
  · exact dif_pos s.isLt
  · exact dif_neg (by simp)

theorem T_ne : ts z sk n g j r * cm z sk n g j r ≠ 0 := mul_ne_zero (tt_ne _ _ _) (cm_ne z sk n g j r)

theorem v144 (s : Fin 256) : val_main_v144 (F := Ideal) (up z) (up sk) (ix5 n g j r s) = (PR co si z sk n (hof g j) r s : EReal) := by
  have h6 := v136 z sk n g j r
  have h7 := v137 z sk n g j r
  unfold val_main_v144 val_main_v140 val_main_v139 val_main_v138
  generalize val_main_v136 (F := Ideal) (up z) (up sk) = W at h6 ⊢
  generalize val_main_v137 (F := Ideal) (up z) (up sk) = T at h7 ⊢
  pointwise
  rw [h6, h7, div_coe _ _ (T_ne z sk n g j r), PR_eq, EX, dif_pos s.isLt, pr]
  exact congrArg _ (mul_div_mul_right _ _ (cm_ne z sk n g j r))

theorem v152 (s : Fin 256) : val_main_v152 (F := Ideal) (up z) (up e) (ix5 n g j r s) = (DZ z e n g j r s : EReal) := by
  have hv := v75 z n s g
  unfold val_main_v152
  generalize val_main_v75 (F := Ideal) (up z) = V at hv ⊢
  pointwise [val_main_v151, val_main_v150, val_main_v149, val_main_v148]
  simp only [hv, up, mul_coe, coe_sum, DZ]
  refine congrArg _ (Finset.sum_congr rfl fun d _ => congrArg (· * _) ?_)
  exact congrArg₂ (fun a b => e (ix2 a b)) rfl (Fin.ext (by simp <;> omega))

/-- The probabilities' cotangent with the sink's zero. -/
def DX (k : Fin 257) : ℝ := if h : k.val < 256 then DZ z e n g j r ⟨k.val, h⟩ else 0
theorem v155 (k : Fin 257) : val_main_v155 (F := Ideal) (up z) (up e) (ix5 n g j r k) = (DX z e n g j r k : EReal) := by
  have h := v152 z e n g j r
  unfold val_main_v155
  generalize val_main_v152 (F := Ideal) (up z) (up e) = W at h ⊢
  pointwise [val_main_cst_22]
  unfold DX
  split_ifs with hk
  · exact h _
  · exact zero_coe

abbrev rs : ℝ := rd (sees n r) (XZ z n g j r) (DZ z e n g j r) (σ sk g j)
theorem v164 : val_main_v164 (F := Ideal) (up z) (up sk) (up e) (ix4 n g j r) = ((-(rs z sk e n g j r / (ts z sk n g j r * cm z sk n g j r)) : ℝ) : EReal) := by
  have h6 := v136 z sk n g j r
  have h7 := v137 z sk n g j r
  have h5 := v155 z e n g j r
  have hT := T_ne z sk n g j r
  unfold val_main_v164 val_main_v161 val_main_v160 val_main_v159 val_main_v158 val_main_v157 val_main_v156 val_main_v143 val_main_v141 val_main_v138
  generalize val_main_v136 (F := Ideal) (up z) (up sk) = W at h6 ⊢
  generalize val_main_v137 (F := Ideal) (up z) (up sk) = T at h7 ⊢
  generalize val_main_v155 (F := Ideal) (up z) (up e) = D at h5 ⊢
  pointwise [val_main_cst_24, val_main_cst_23, val_main_v142, val_main_cst_21]
  refine (Fin.sum_univ_one _).trans ?_
  simp only [h5, h6, h7, mul_coe]
  rw [inv_coe _ (mul_ne_zero hT hT)]
  simp only [mul_coe, coe_sum, neg_coe]
  refine congrArg (fun a : ℝ => ((-a : ℝ) : EReal)) ?_
  rw [Fin.sum_univ_castSucc]
  have h0 : DX z e n g j r (Fin.last 256) = 0 := dif_neg (by simp)
  rw [h0, zero_mul, zero_mul, add_zero]
  unfold rs rd
  rw [Finset.sum_div]
  refine Finset.sum_congr rfl fun s _ => ?_
  have h1 : DX z e n g j r s.castSucc = DZ z e n g j r s := dif_pos s.isLt
  have h2 : EX z sk n g j r s.castSucc = wt (sees n r) (XZ z n g j r) s * cm z sk n g j r := dif_pos s.isLt
  rw [h1, h2, pr]
  have := cm_ne z sk n g j r
  have := tt_ne (sees n r) (XZ z n g j r) (σ sk g j)
  unfold ts
  field_simp

theorem v167 (k : Fin 257) : val_main_v167 (F := Ideal) (up z) (up sk) (up e) (ix5 n g j r k)
    = ((((DX z e n g j r k) - rs z sk e n g j r) * (EX z sk n g j r k / (ts z sk n g j r * cm z sk n g j r)) : ℝ) : EReal) := by
  have h6 := v136 z sk n g j r
  have h7 := v137 z sk n g j r
  have h5 := v155 z e n g j r
  have h4 := v164 z sk e n g j r
  have hT := T_ne z sk n g j r
  unfold val_main_v167 val_main_v166 val_main_v165 val_main_v163 val_main_v162 val_main_v138
  generalize val_main_v136 (F := Ideal) (up z) (up sk) = W at h6 ⊢
  generalize val_main_v137 (F := Ideal) (up z) (up sk) = T at h7 ⊢
  generalize val_main_v155 (F := Ideal) (up z) (up e) = D at h5 ⊢
  generalize val_main_v164 (F := Ideal) (up z) (up sk) (up e) = L at h4 ⊢
  pointwise
  rw [h5, h6, h7, h4, div_coe _ _ hT]
  simp only [add_coe, mul_coe]
  refine congrArg _ ?_
  field_simp
  ring

/-- The sink's cotangent on one row. -/
theorem v169 : val_main_v169 (F := Ideal) (up z) (up sk) (up e) (ix5 n g j r 0)
    = ((-(sp (sees n r) (XS co si z n (hof g j) r) (σ sk g j) * rd (sees n r) (XS co si z n (hof g j) r) (DPs z e n (hof g j) r) (σ sk g j)) : ℝ) : EReal) := by
  have h := v167 z sk e n g j r
  unfold val_main_v169
  generalize val_main_v167 (F := Ideal) (up z) (up sk) (up e) = W at h ⊢
  pointwise
  rw [h, (pr_congr _ _ _ (XZ_eq z n g j r)).2, (ds_congr _ _ _ _ (XZ_eq z n g j r) (DZ_eq z e n g j r)).1]
  refine congrArg _ ?_
  rw [DX, dif_neg (by simp), EX, dif_neg (by simp), mul_div_mul_right _ _ (cm_ne z sk n g j r), sp]
  ring

/-- The scores' cotangent. -/
theorem v176 (s : Fin 256) : val_main_v176 (F := Ideal) (up z) (up sk) (up e) (ix5 n g j r s) = (DS co si z sk e n (hof g j) r s : EReal) := by
  have h := v167 z sk e n g j r
  have hm := mask n g j r
  unfold val_main_v176 val_main_v174 val_main_v168
  generalize val_main_v167 (F := Ideal) (up z) (up sk) (up e) = W at h ⊢
  generalize val_main_v111_1 (F := Ideal) = M at hm ⊢
  pointwise [val_main_v175, val_main_cst_27, val_main_call1_v0, val_main_call1_cst]
  rw [hm, h, words.2.2.2, DS_eq]
  by_cases hs : sees n r s
  · rw [decide_eq_true hs, ds]
    refine (mul_coe _ _).trans (congrArg (fun a : ℝ => ((a * (1 / 8) : ℝ) : EReal)) ?_)
    rw [DX, dif_pos s.isLt, EX, dif_pos s.isLt, mul_div_mul_right _ _ (cm_ne z sk n g j r), pr, mul_comm]
  · rw [decide_eq_false hs, ds_off _ _ _ _ hs]
    exact zero_coe

/-! ### The gradients -/

theorem v178 (d : Fin 64) : val_main_v178 (F := Ideal) (up z) (up sk) (up e) (ix5 n g r j d) = (DQ co si z sk e n (hof g j) r d : EReal) := by
  have hk := v74 z n
  have hd := v176 z sk e n g j r
  unfold val_main_v178 val_main_v177
  generalize val_main_v74 (F := Ideal) (up z) = K at hk ⊢
  generalize val_main_v176 (F := Ideal) (up z) (up sk) (up e) = D at hd ⊢
  pointwise
  simp only [hk, hd, mul_coe, coe_sum, DQ, gp_hof]
  refine congrArg _ (Finset.sum_congr rfl fun s _ => ?_)
  by_cases h : live n s
  · rw [if_pos h]
  · rw [if_neg h, DS, ds_off _ _ _ _ (fun hs => h hs.2.2), zero_mul, zero_mul]

theorem v180 (s : Fin 256) (d : Fin 64) : val_main_v180 (F := Ideal) (up z) (up sk) (up e) (ix4 n g s d) = (DK co si z sk e n g s d : EReal) := by
  have hq := v77 z n
  have hd := v176 z sk e n g
  unfold val_main_v180 val_main_v177
  generalize val_main_v77 (F := Ideal) (up z) = Q at hq ⊢
  generalize val_main_v176 (F := Ideal) (up z) (up sk) (up e) = D at hd ⊢
  pointwise
  simp only [hq, hd, mul_coe, coe_sum, DK]
  rw [Finset.sum_comm]
  exact congrArg _ (Finset.sum_congr rfl fun j _ => Finset.sum_congr rfl fun r _ => mul_comm _ _)

theorem v153 (s : Fin 256) (d : Fin 64) : val_main_v153 (F := Ideal) (up z) (up sk) (up e) (ix4 n g d s) = (DV co si z sk e n g s d : EReal) := by
  have hd := v144 z sk n g
  unfold val_main_v153
  generalize val_main_v144 (F := Ideal) (up z) (up sk) = D at hd ⊢
  pointwise [val_main_v151, val_main_v150, val_main_v149, val_main_v148]
  simp only [hd, up, mul_coe, coe_sum, DV]
  refine congrArg _ (Finset.sum_congr rfl fun j _ => Finset.sum_congr rfl fun r _ => congrArg (· * _) ?_)
  exact congrArg₂ (fun a b => e (ix2 a b)) rfl (Fin.ext (by simp; omega))

/-- A turned row's cotangent, in the three parts that the reference adds. -/
theorem back_coe {cc ss : Fin 8 → EReal} {X : Fin 64 → EReal} {c s : Fin 8 → ℝ} {x : Fin 64 → ℝ} (hc : ∀ j, cc j = (c j : EReal)) (hs : ∀ j, ss j = (s j : EReal))
    (hx : ∀ l, X l = (x l : EReal)) (l : Fin 64) :
    (((if h : 16 ≤ l.val ∧ l.val - 16 < 48 then X ⟨16 + (l.val - 16), by omega⟩ else 0)
      + if h : 8 ≤ l.val ∧ l.val - 8 < 8 then X ⟨8 + (l.val - 8), by omega⟩ * cc ⟨l.val - 8, h.2⟩ + -X ⟨l.val - 8, by omega⟩ * ss ⟨l.val - 8, h.2⟩ else 0)
      + if h : l.val < 8 then X ⟨8 + l.val, by omega⟩ * ss ⟨l.val, h⟩ + X l * cc ⟨l.val, h⟩ else 0) = (turn (-1) c s x l : EReal) := by
  have k : ∀ {a b : Fin 64}, a.val = b.val → X a = (x b : EReal) := fun h => by rw [Fin.ext h, hx]
  unfold turn
  by_cases h : l.val < 8
  · rw [dif_neg (by omega), dif_neg (by omega), dif_pos h, dif_pos h, hc, hs, hx l, k (a := ⟨8 + l.val, by omega⟩) (b := ⟨l.val + 8, by omega⟩) (Nat.add_comm _ _), zero_coe]
    simp only [mul_coe, add_coe]
    exact congrArg _ (by ring)
  · by_cases h' : l.val - 8 < 8
    · rw [dif_neg (by omega), dif_pos (by omega), dif_neg h, dif_neg h, dif_pos h', hc, hs, k (b := l) (by simp; omega), k (b := ⟨l.val - 8, by omega⟩) rfl, zero_coe]
      simp only [mul_coe, add_coe, neg_coe]
      exact congrArg _ (by ring)
    · rw [dif_pos (by omega), dif_neg (by omega), dif_neg h, dif_neg h, dif_neg h', k (b := l) (by simp; omega), zero_coe]
      simp only [add_coe]
      exact congrArg _ (by ring)

/-- Where the block sees no earlier keys there is nothing to turn back. -/
theorem back_live (s : Fin 256) (d : Fin 64) :
    turn (-1) (fun j => if live n s then co (krow n s) j else 0) (fun j => if live n s then si (krow n s) j else 0) (DK co si z sk e n g s) d
      = turn (-1) (co (krow n s)) (si (krow n s)) (DK co si z sk e n g s) d := by
  by_cases h : live n s
  · simp only [if_pos h]
  · rw [turn_zero _ _ _ _ (DK_off co si z sk e h g), turn_zero _ _ _ _ (DK_off co si z sk e h g)]

theorem v203 (s : Fin 256) (d : Fin 64) : val_main_v203 (F := Ideal) (up z) (up sk) (up e) (ix4 n s g d)
    = (turn (-1) (co (krow n s)) (si (krow n s)) (DK co si z sk e n g s) d : EReal) := by
  have hc := v54 n s
  have hs := v60 n s
  have hk := v180 z sk e n g s
  unfold val_main_v203 val_main_v201 val_main_v202 val_main_v200 val_main_v199 val_main_v198 val_main_v197 val_main_v196 val_main_v195 val_main_v194 val_main_v192 val_main_v191 val_main_v190 val_main_v189
  generalize val_main_v54 (F := Ideal) = C at hc ⊢
  generalize val_main_v60 (F := Ideal) = D at hs ⊢
  unfold val_main_v193 val_main_v188 val_main_v187 val_main_v186 val_main_v185 val_main_v181
  generalize val_main_v180 (F := Ideal) (up z) (up sk) (up e) = K at hk ⊢
  pointwise [val_main_cst_28, val_main_cst_29, val_main_cst_30]
  rw [← back_live]
  exact back_coe (X := fun k => K (ix4 n g s k)) hc hs hk d

theorem v223 (i : Fin 4096) (h : Fin 16) (d : Fin 64) : val_main_v223 (F := Ideal) (up z) (up sk) (up e) (ix3 i h d)
    = (turn (-1) (co i) (si i) (DQ co si z sk e ⟨i.val / 128, by omega⟩ h ⟨i.val % 128, by omega⟩) d : EReal) := by
  have hc := v14 i
  have hs := v16 i
  have hk := v178 z sk e
  unfold val_main_v223 val_main_v221 val_main_v222 val_main_v220 val_main_v219 val_main_v218 val_main_v217 val_main_v216 val_main_v215 val_main_v214 val_main_v212 val_main_v211 val_main_v210 val_main_v209
    val_main_v15 val_main_v17
  generalize val_main_v14 (F := Ideal) = C at hc ⊢
  generalize val_main_v16 (F := Ideal) = D at hs ⊢
  unfold val_main_v213 val_main_v208 val_main_v207 val_main_v206 val_main_v205 val_main_v182 val_main_v179
  generalize val_main_v178 (F := Ideal) (up z) (up sk) (up e) = K at hk ⊢
  pointwise [val_main_cst_31, val_main_cst_32, val_main_cst_33]
  refine back_coe (X := fun k => K (ix5 ⟨i.val / 128, by omega⟩ ⟨h.val / 8, by omega⟩ ⟨i.val % 128, by omega⟩ ⟨h.val % 8, by omega⟩ k)) hc hs (fun k => (hk _ _ _ _ _).trans ?_) d
  exact congrArg (fun a => (DQ co si z sk e ⟨i.val / 128, by omega⟩ a ⟨i.val % 128, by omega⟩ k : EReal)) (Fin.ext (by simp; omega))

/-- The first result. -/
theorem v225 (i : Fin 4096) (l : Fin 1024) : val_main_v225 (F := Ideal) (up z) (up sk) (up e) (ix2 i l) = (RQ co si z sk e i l : EReal) := by
  have hk := v223 z sk e
  unfold val_main_v225 val_main_v224
  generalize val_main_v223 (F := Ideal) (up z) (up sk) (up e) = K at hk ⊢
  pointwise
  exact hk _ _ _

/-- The second result: the keys' columns, then the values'. -/
theorem v226 (s c : Fin 256) : val_main_v226 (F := Ideal) (up z) (up sk) (up e) (ix3 n s c) = (RKV co si z sk e n s c : EReal) := by
  have hk := v203 z sk e n
  have hv := v153 z sk e n
  unfold val_main_v226 val_main_v204 val_main_v184 val_main_v154
  generalize val_main_v203 (F := Ideal) (up z) (up sk) (up e) = K at hk ⊢
  generalize val_main_v153 (F := Ideal) (up z) (up sk) (up e) = W at hv ⊢
  pointwise
  unfold RKV
  by_cases h : c.val < 128
  · rw [dif_pos h, if_pos h]
    refine (hk _ _ _).trans (congrArg (fun a : Fin 2 => (turn (-1) (co (krow n s)) (si (krow n s)) (DK co si z sk e n a s) ⟨c.val % 64, by omega⟩ : EReal)) ?_)
    exact Fin.ext (by simp; omega)
  · rw [dif_neg h, if_neg h]
    refine (hv _ _ _).trans (congrArg₂ (fun (a : Fin 2) b => (DV co si z sk e n a s b : EReal)) (Fin.ext ?_) (Fin.ext ?_)) <;> simp <;> omega

/-- A sum over the first and the last two axes, of which the last is of length one. -/
theorem reduce_034 {n₀ n₁ n₂ n₃ : ℕ} (h : (⟨5, ![n₀, n₁, n₂, n₃, 1]⟩ : Shape).ReducesTo [0, 3, 4] ⟨2, ![n₁, n₂]⟩)
    (v : (⟨5, ![n₀, n₁, n₂, n₃, 1]⟩ : Shape).Idx → EReal) (init : EReal) (a : Fin n₁) (b : Fin n₂) :
    Ideal.hostReduceAdd h v init (ix2 a b) = init + ∑ p : Fin n₀, ∑ q : Fin n₃, v (ix5 p a b q 0) := by
  unfold Ideal.hostReduceAdd
  refine congrArg (init + ·) ?_
  rw [← Fintype.sum_prod_type' (f := fun p q => v (ix5 p a b q 0))]
  refine Finset.sum_nbij' (fun i => (i 0, i 3)) (fun p => ix5 p.1 a b p.2 0) (fun _ _ => Finset.mem_univ _) (fun p _ => Finset.mem_filter.mpr ⟨Finset.mem_univ _, ?_⟩) ?_ (fun _ _ => rfl) ?_
  · funext c
    match c with
    | ⟨0, _⟩ => rfl
    | ⟨1, _⟩ => rfl
  · intro i hi
    have e := (Finset.mem_filter.mp hi).2
    funext c
    match c with
    | ⟨0, _⟩ => rfl
    | ⟨1, _⟩ => exact (congrFun e 0).symm
    | ⟨2, _⟩ => exact (congrFun e 1).symm
    | ⟨3, _⟩ => rfl
    | ⟨4, _⟩ => exact Fin.ext (by have := (i ⟨4, (by omega : 4 < 5)⟩).isLt; exact (Nat.lt_one_iff.mp this).symm)
  · intro i hi
    have e := (Finset.mem_filter.mp hi).2
    refine congrArg v ?_
    funext c
    match c with
    | ⟨0, _⟩ => rfl
    | ⟨1, _⟩ => exact congrFun e 0
    | ⟨2, _⟩ => exact congrFun e 1
    | ⟨3, _⟩ => rfl
    | ⟨4, _⟩ => exact Fin.ext (by have := (i ⟨4, (by omega : 4 < 5)⟩).isLt; exact Nat.lt_one_iff.mp this)

theorem v170 (g : Fin 2) (j : Fin 8) : val_main_v170 (F := Ideal) (up z) (up sk) (up e) (ix2 g j) = ((∑ n : Fin 32, DSk co si z sk e n (hof g j) : ℝ) : EReal) := by
  have hd := v169 z sk e
  unfold val_main_v170
  generalize val_main_v169 (F := Ideal) (up z) (up sk) (up e) = K at hd ⊢
  refine (reduce_034 _ _ _ _ _).trans ?_
  simp only [hd, coe_sum]
  refine (congrArg (· + _) (zero_word : val_main_cst_25 (F := Ideal) _ = _)).trans ?_
  rw [add_coe, zero_add]
  exact congrArg _ (Finset.sum_congr rfl fun n _ => (Finset.sum_neg_distrib _).trans rfl)

/-- The third result. -/
theorem v228 (l : Fin 128) : val_main_v228 (F := Ideal) (up z) (up sk) (up e) (ix2 0 l) = (RS co si z sk e l : EReal) := by
  have hd := v170 z sk e
  unfold val_main_v228 val_main_v183 val_main_v173 val_main_v172 val_main_v171
  generalize val_main_v170 (F := Ideal) (up z) (up sk) (up e) = K at hd ⊢
  pointwise [val_main_v227, val_main_cst_34]
  unfold RS
  split_ifs with h
  · refine (reduce_034 _ _ _ _ _).trans ?_
    rw [Fin.sum_univ_one, Fin.sum_univ_one]
    refine (congrArg (· + _) (zero_word : val_main_cst_26 (F := Ideal) _ = _)).trans ?_
    refine (congrArg (_ + ·) (?_ : _ = ((∑ n : Fin 32, DSk co si z sk e n ⟨l.val, h⟩ : ℝ) : EReal))).trans (by rw [add_coe, zero_add])
    pointwise
    refine (hd _ _).trans (congrArg (fun a : Fin 16 => ((∑ n : Fin 32, DSk co si z sk e n a : ℝ) : EReal)) (Fin.ext ?_))
    simp
    omega
  · exact zero_coe

end Cert.Attn

end
-- ==== Proof.AttnClaims.lean ====
/-
  The claims about the windowed attention's gradient.
-/
module

public import proofs.«01_k».proof.Defs
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.AttnKer
public import proofs.«01_k».proof.Proof.AttnRefC
public import Idealize.ShloMosaic.Lib.Claim

@[expose] public section

set_option maxRecDepth 16384

noncomputable section

open Idealize.ShloMosaic Idealize.ShloMosaic.TcCoe Idealize.SL.Sem
open Cert.Lift

namespace Cert.Attn

theorem frame_p : Cert.quiescent_Kernel10 (hKernel10 := Cert.Kernel10.Gen.facts) := fun m ρ _ => Cert.Kernel10.Gen.frame m ρ

theorem frame_pi : Cert.quiescent_Kernel10Ideal (hKernel10Ideal := Cert.Kernel10Ideal.Gen.facts) := fun m ρ _ => Cert.Kernel10Ideal.Gen.frame m ρ

theorem frame_ri : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem frame_pi_fin : Cert.quiescent_Kernel10Ideal_pre_finite10 (hKernel10Ideal := Cert.Kernel10Ideal.Gen.facts)
    (hPre_finite10 := Cert.Pre_finite10.Gen.facts) := fun m ρ _ => Cert.Kernel10Ideal.Gen.frame m ρ

theorem frame_ri_fin : Cert.quiescent_Reference10Ideal_pre_finite10 (hReference10Ideal := Cert.Reference10Ideal.Gen.facts)
    (hPre_finite10 := Cert.Pre_finite10.Gen.facts) := fun m ρ _ => frame_ri m ρ trivial

/-- Finite arguments are real arrays. -/
theorem args (m) (h : Cert.Pre_Kernel10Ideal_finite10 (hPre_finite10 := Cert.Pre_finite10.Gen.facts) m) (c) :
    ∃ z sk e, Args m z sk e c :=
  ⟨_, _, _, real_of _ _ (h c).1, real_of _ _ (h c).2.1, real_of _ _ (h c).2.2⟩

section
variable (m : (ℓ : Loc Cert.Kernel10Ideal.nD Cert.Kernel10Ideal.τ Cert.Kernel10Ideal.sig) → Buf (Elt Ideal) ℓ) (c : Dev Cert.Kernel10Ideal.nD)
  (hpre : Cert.Pre_Kernel10Ideal_finite10 (hPre_finite10 := Cert.Pre_finite10.Gen.facts) m)
include hpre

open Cert.Kernel10Ideal Cert.Reference10Ideal.Read

theorem res9 : val_main_v225 (F := Ideal) (m ((c.tc : Thread nD τ).loc main_arg0)) (m ((c.tc : Thread nD τ).loc main_arg1)) (m ((c.tc : Thread nD τ).loc main_arg2)) = (Cert.Kernel10Ideal.Gen.dats m 0 c).arrAt 9 Cert.Kernel10Ideal.cfg0.N := by
  obtain ⟨z, sk, e, H⟩ := args m hpre c
  refine Eq.trans ?_ (final9 m z sk e c H).symm
  refine (show _ = val_main_v225 (F := Ideal) (up z) (up sk) (up e) by rw [← H.a0, ← H.a1, ← H.a2]).trans ?_
  funext i; idx_vars i; exact v225 z sk e _ _

theorem res10 : val_main_v226 (F := Ideal) (m ((c.tc : Thread nD τ).loc main_arg0)) (m ((c.tc : Thread nD τ).loc main_arg1)) (m ((c.tc : Thread nD τ).loc main_arg2)) = (Cert.Kernel10Ideal.Gen.dats m 0 c).arrAt 10 Cert.Kernel10Ideal.cfg0.N := by
  obtain ⟨z, sk, e, H⟩ := args m hpre c
  refine Eq.trans ?_ (final10 m z sk e c H).symm
  refine (show _ = val_main_v226 (F := Ideal) (up z) (up sk) (up e) by rw [← H.a0, ← H.a1, ← H.a2]).trans ?_
  funext i; idx_vars i; exact v226 z sk e _ _ _

theorem res11 : val_main_v228 (F := Ideal) (m ((c.tc : Thread nD τ).loc main_arg0)) (m ((c.tc : Thread nD τ).loc main_arg1)) (m ((c.tc : Thread nD τ).loc main_arg2)) = (Cert.Kernel10Ideal.Gen.dats m 0 c).arrAt 11 Cert.Kernel10Ideal.cfg0.N := by
  obtain ⟨z, sk, e, H⟩ := args m hpre c
  refine Eq.trans ?_ (final11 m z sk e c H).symm
  refine (show _ = val_main_v228 (F := Ideal) (up z) (up sk) (up e) by rw [← H.a0, ← H.a1, ← H.a2]).trans ?_
  funext i; idx_vars i; obtain rfl : i0 = 0 := Subsingleton.elim _ _; exact v228 z sk e _

end

/-- The kernel's three results are the reference's. -/
theorem algebraic : Cert.algebraic_Kernel10Ideal_Reference10Ideal_pre_finite10 (hKernel10Ideal := Cert.Kernel10Ideal.Gen.facts)
    (hReference10Ideal := Cert.Reference10Ideal.Gen.facts) (hPre_finite10 := Cert.Pre_finite10.Gen.facts) := by
  intro m g m' g' hpre hagree
  refine ⟨_, _, _, Cert.Kernel10Ideal.Value.run_blocks m g,
    (θ_run Cert.Reference10Ideal.defs _ _).mono (fun r h c => ?_) (Cert.Reference10Ideal.Value.run (F := Ideal) m' g')⟩
  obtain ⟨e0, e1, e2⟩ := hagree c
  obtain ⟨h0, h1, h2, h3⟩ := h c
  refine ⟨(h0.trans (Cert.Reference10Ideal.Read.val_main_v225_eq (F := Ideal) (StableHlo.launchContents m' c))).trans ?_,
    (h1.trans (Cert.Reference10Ideal.Read.val_main_v226_eq (F := Ideal) (StableHlo.launchContents m' c))).trans ?_,
    (h2.trans (Cert.Reference10Ideal.Read.val_main_v228_eq (F := Ideal) (StableHlo.launchContents m' c))).trans ?_, h3⟩
  · show Cert.Reference10Ideal.Read.val_main_v225 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) = _
    rw [e0, e1, e2]; exact res9 m c hpre
  · show Cert.Reference10Ideal.Read.val_main_v226 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) = _
    rw [e0, e1, e2]; exact res10 m c hpre
  · show Cert.Reference10Ideal.Read.val_main_v228 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) = _
    rw [e0, e1, e2]; exact res11 m c hpre

/-- The mask's constant is named, and read as minus infinity. -/
theorem preserves : Cert.preserves_Kernel10_Kernel10Ideal := IdealRules.named_const.statement Cert.Kernel10Ideal.κ "mask" .f32 0xF149F2CA#32 ⊥ rfl

end Cert.Attn

end
-- ==== Proof.SguMath.lean ====
/-
  Spatial gating over the real numbers: the gelu and its slope, a row's layer norm and its gradient,
  the mixed rows of a chunk and the gradients of all the arguments.
-/
module

public import proofs.«01_k».proof.Proof.Norm
public import Mathlib.Analysis.SpecialFunctions.Trigonometric.DerivHyp

@[expose] public section

noncomputable section

open Idealize.ShloMosaic

namespace Cert.Sgu

open Cert.Lift
open Cert.Norm (ε ε_word)

theorem width_word : Ideal.ofBits FTy.f32 0x44800000#32 = ((1024 : ℝ) : EReal) := by
  simp [Ideal.ofBits, Ideal.ieee, ← EReal.coe_mul]; norm_num
theorem two_word : Ideal.ofBits FTy.f32 0x40000000#32 = ((2 : ℝ) : EReal) := by
  simp [Ideal.ofBits, Ideal.ieee, ← EReal.coe_mul]; norm_num
theorem three_word : Ideal.ofBits FTy.f32 0x40400000#32 = ((3 : ℝ) : EReal) := by
  simp [Ideal.ofBits, Ideal.ieee, ← EReal.coe_mul]; norm_num
theorem num_word : Ideal.ofBits FTy.f32 0x472EAB00#32 = ((44715 : ℝ) : EReal) := by
  simp [Ideal.ofBits, Ideal.ieee, ← EReal.coe_mul]; norm_num
theorem den_word : Ideal.ofBits FTy.f32 0x49742400#32 = ((1000000 : ℝ) : EReal) := by
  simp [Ideal.ofBits, Ideal.ieee, ← EReal.coe_mul]; norm_num

/-- The gelu's two constants. -/
def K : ℝ := 13386282 / 16777216
def cc : ℝ := 44715 / 1000000
theorem K_word : Ideal.ofBits FTy.f32 0x3F4C422A#32 = (K : EReal) := by
  simp [Ideal.ofBits, Ideal.ieee, ← EReal.coe_mul, K]; norm_num

/-- The gelu and its slope. -/
def th (x : ℝ) : ℝ := Real.tanh (K * (x + cc * (x * x * x)))
def gl (x : ℝ) : ℝ := x * (1 / 2 * (1 + th x))
def gs (x : ℝ) : ℝ := 1 / 2 * (1 + th x) + 1 / 2 * x * (1 - th x * th x) * (K * (1 + 3 * cc * (x * x)))

/-! ### A row's layer norm -/

section
variable (v y : Fin 1024 → ℝ) (l : Fin 1024)

def mu : ℝ := (∑ k, v k) / 1024
def va : ℝ := (∑ k, (v k - mu v) * (v k - mu v)) / 1024 + ε
def rs : ℝ := (Real.sqrt (va v))⁻¹
def xh : ℝ := (v l - mu v) * rs v
/-- The gradient of a cotangent of the normalised row. -/
def lng : ℝ := rs v * (y l - (∑ k, y k) / 1024 - xh v l * ((∑ k, y k * xh v k) / 1024))

theorem va_pos : 0 < va v :=
  add_pos_of_nonneg_of_pos (div_nonneg (Finset.sum_nonneg fun l _ => mul_self_nonneg _) (by norm_num)) (by norm_num [ε])
theorem va_ne : va v ≠ 0 := (va_pos v).ne'
theorem rsqrt_va : Ideal.rsqrt (va v : EReal) = (rs v : EReal) := by
  rw [Ideal.rsqrt_coe, if_neg (va_pos v).le.not_gt, if_neg (va_ne v)]; rfl
theorem rs_div : rs v / va v = rs v * (rs v * rs v) := by
  have h : rs v * rs v = (va v)⁻¹ := by
    unfold rs; rw [← mul_inv, Real.mul_self_sqrt (va_pos v).le]
  rw [h]; rfl
theorem sum_dev : ∑ k, (v k - mu v) = 0 := by
  rw [Finset.sum_sub_distrib, Finset.sum_const, Finset.card_univ, Fintype.card_fin, mu, nsmul_eq_mul]
  push_cast; ring

/-- The transposed form of it, as the steps of the norm's derivative. -/
def pv : ℝ := (∑ k, (v k - mu v) * y k) * (-(1 / 2) * (rs v / va v)) / 1024
theorem lng_eq : y l * rs v + pv v y * (2 * (v l - mu v)) + ((∑ k, -(y k * rs v)) + ∑ k, -(pv v y * (2 * (v k - mu v)))) / 1024 = lng v y l := by
  have h1 : ∑ k, -(pv v y * (2 * (v k - mu v))) = 0 := by
    rw [Finset.sum_neg_distrib, ← Finset.mul_sum, ← Finset.mul_sum, sum_dev]; ring
  have h2 : ∑ k, -(y k * rs v) = -((∑ k, y k) * rs v) := by rw [Finset.sum_neg_distrib, Finset.sum_mul]
  have h3 : ∑ k, y k * xh v k = (∑ k, (v k - mu v) * y k) * rs v := by
    rw [Finset.sum_mul]; exact Finset.sum_congr rfl fun k _ => by unfold xh; ring
  rw [h1, h2, lng, h3, pv, rs_div, xh]
  ring
end

/-! ### The gate -/

/-- Row `p` of chunk `n`; channel `k` of group `g`. -/
abbrev rw_ (n : Fin 32) (p : Fin 128) : Fin 4096 := ⟨n.val * 128 + p.val, by omega⟩
abbrev cl (g : Fin 8) (k : Fin 128) : Fin 1024 := ⟨g.val * 128 + k.val, by omega⟩
abbrev rn (i : Fin 4096) : Fin 32 := ⟨i.val / 128, by omega⟩
abbrev rp (i : Fin 4096) : Fin 128 := ⟨i.val % 128, by omega⟩
abbrev cg (l : Fin 1024) : Fin 8 := ⟨l.val / 128, by omega⟩
abbrev ck (l : Fin 1024) : Fin 128 := ⟨l.val % 128, by omega⟩

section
variable (zu zv : Fin 4096 → Fin 1024 → ℝ) (gn bn : Fin 1024 → ℝ) (w : Fin 8 → Fin 128 → Fin 128 → ℝ) (bs : Fin 8 → Fin 128 → ℝ) (D : Fin 4096 → Fin 1024 → ℝ)

abbrev gv (i : Fin 4096) (l : Fin 1024) : ℝ := gl (zv i l)
/-- The normalised rows, the causal weights, the mixed rows. -/
def vn (i : Fin 4096) (l : Fin 1024) : ℝ := xh (gv zv i) l * gn l + bn l
def wc (g : Fin 8) (p j : Fin 128) : ℝ := if j.val ≤ p.val then w g p j else 0
def mix (n : Fin 32) (p : Fin 128) (g : Fin 8) (k : Fin 128) : ℝ := (∑ j, wc w g p j * vn zv gn bn (rw_ n j) (cl g k)) + bs g p
/-- The mixed rows' cotangent. -/
def dm (i : Fin 4096) (l : Fin 1024) : ℝ := gl (zu i l) * D i l
/-- The gradients. -/
def du (i : Fin 4096) (l : Fin 1024) : ℝ := D i l * mix zv gn bn w bs (rn i) (rp i) (cg l) (ck l) * gs (zu i l)
def dw (g : Fin 8) (p j : Fin 128) : ℝ := if j.val ≤ p.val then ∑ n, ∑ k, dm zu D (rw_ n p) (cl g k) * vn zv gn bn (rw_ n j) (cl g k) else 0
def db (g : Fin 8) (p : Fin 128) : ℝ := ∑ n, ∑ k, dm zu D (rw_ n p) (cl g k)
def dvn (n : Fin 32) (j : Fin 128) (g : Fin 8) (k : Fin 128) : ℝ := ∑ p, wc w g p j * dm zu D (rw_ n p) (cl g k)
def dv' (i : Fin 4096) (l : Fin 1024) : ℝ := dvn zu w D (rn i) (rp i) (cg l) (ck l)
def dlb (l : Fin 1024) : ℝ := ∑ n, ∑ j, dv' zu w D (rw_ n j) l
def dlg (l : Fin 1024) : ℝ := ∑ n, ∑ j, dv' zu w D (rw_ n j) l * xh (gv zv (rw_ n j)) l
def dv (i : Fin 4096) (l : Fin 1024) : ℝ := lng (gv zv i) (fun k => dv' zu w D i k * gn k) l * gs (zv i l)
end

/-- A sum over rows, by chunk. -/
theorem sum_rows (f : Fin 4096 → ℝ) : ∑ i, f i = ∑ n, ∑ p, f (rw_ n p) := by
  rw [← Fin.sum_mul_add_fin (S := 32) (n := 128) f]

/-! ### Sums over several axes -/

/-- A sum over axes of which only one index is kept. -/
theorem reduce_sole {s t : Shape} {d : List (Fin s.rank)} (h : s.ReducesTo d t) (v : s.Idx → EReal) (init : EReal) (j : t.Idx) (i : s.Idx)
    (h0 : h.drop i = j) (hi : ∀ k, h.drop k = j → k = i) : Ideal.hostReduceAdd h v init j = init + v i := by
  unfold Ideal.hostReduceAdd
  refine congrArg (init + ·) ?_
  exact Finset.sum_eq_single_of_mem _ (Finset.mem_filter.mpr ⟨Finset.mem_univ _, h0⟩) fun k hk hne => absurd (hi k (Finset.mem_filter.mp hk).2) hne

theorem reduce_01 {n : ℕ} (h : (⟨3, ![1, 1, n]⟩ : Shape).ReducesTo [0, 1] ⟨1, ![n]⟩) (v : (⟨3, ![1, 1, n]⟩ : Shape).Idx → EReal) (init : EReal) (a : Fin n) :
    Ideal.hostReduceAdd h v init (ix1 a) = init + v (ix3 0 0 a) := by
  refine reduce_sole h v init _ _ (funext fun c => match c with | ⟨0, _⟩ => rfl) fun k hk => ?_
  funext x
  match x with
  | ⟨0, _⟩ => exact Subsingleton.elim (α := Fin 1) _ _
  | ⟨1, _⟩ => exact Subsingleton.elim (α := Fin 1) _ _
  | ⟨2, _⟩ => exact congrFun hk 0

theorem reduce_02 {n : ℕ} (h : (⟨3, ![1, n, 1]⟩ : Shape).ReducesTo [0, 2] ⟨1, ![n]⟩) (v : (⟨3, ![1, n, 1]⟩ : Shape).Idx → EReal) (init : EReal) (a : Fin n) :
    Ideal.hostReduceAdd h v init (ix1 a) = init + v (ix3 0 a 0) := by
  refine reduce_sole h v init _ _ (funext fun c => match c with | ⟨0, _⟩ => rfl) fun k hk => ?_
  funext x
  match x with
  | ⟨0, _⟩ => exact Subsingleton.elim (α := Fin 1) _ _
  | ⟨1, _⟩ => exact congrFun hk 0
  | ⟨2, _⟩ => exact Subsingleton.elim (α := Fin 1) _ _

theorem reduce_014 {n₁ n₂ : ℕ} (h : (⟨5, ![1, 1, n₁, n₂, 1]⟩ : Shape).ReducesTo [0, 1, 4] ⟨2, ![n₁, n₂]⟩) (v : (⟨5, ![1, 1, n₁, n₂, 1]⟩ : Shape).Idx → EReal)
    (init : EReal) (a : Fin n₁) (b : Fin n₂) : Ideal.hostReduceAdd h v init (ix2 a b) = init + v (ix5 0 0 a b 0) := by
  refine reduce_sole h v init _ _ (funext fun c => match c with | ⟨0, _⟩ => rfl | ⟨1, _⟩ => rfl) fun k hk => ?_
  funext x
  match x with
  | ⟨0, _⟩ => exact Subsingleton.elim (α := Fin 1) _ _
  | ⟨1, _⟩ => exact Subsingleton.elim (α := Fin 1) _ _
  | ⟨2, _⟩ => exact congrFun hk 0
  | ⟨3, _⟩ => exact congrFun hk 1
  | ⟨4, _⟩ => exact Subsingleton.elim (α := Fin 1) _ _

theorem reduce_14 {n₀ n₁ n₂ n₃ n₄ : ℕ} (h : (⟨5, ![n₀, n₁, n₂, n₃, n₄]⟩ : Shape).ReducesTo [1, 4] ⟨3, ![n₀, n₂, n₃]⟩)
    (v : (⟨5, ![n₀, n₁, n₂, n₃, n₄]⟩ : Shape).Idx → EReal) (init : EReal) (a : Fin n₀) (b : Fin n₂) (c : Fin n₃) :
    Ideal.hostReduceAdd h v init (ix3 a b c) = init + ∑ p : Fin n₁, ∑ q : Fin n₄, v (ix5 a p b c q) := by
  unfold Ideal.hostReduceAdd
  refine congrArg (init + ·) ?_
  rw [← Fintype.sum_prod_type' (f := fun p q => v (ix5 a p b c q))]
  have k : ∀ i ∈ Finset.univ.filter (fun i => h.drop i = ix3 a b c), ix5 a (i 1) b c (i 4) = i := fun i hi => by
    have e := (Finset.mem_filter.mp hi).2
    funext x
    match x with
    | ⟨0, _⟩ => exact (congrFun e 0).symm
    | ⟨1, _⟩ => rfl
    | ⟨2, _⟩ => exact (congrFun e 1).symm
    | ⟨3, _⟩ => exact (congrFun e 2).symm
    | ⟨4, _⟩ => rfl
  refine Finset.sum_nbij' (fun i => (i 1, i 4)) (fun p => ix5 a p.1 b c p.2) (fun _ _ => Finset.mem_univ _) (fun p _ => Finset.mem_filter.mpr ⟨Finset.mem_univ _, ?_⟩) k (fun _ _ => rfl)
    fun i hi => (congrArg v (k i hi)).symm
  funext x
  match x with
  | ⟨0, _⟩ => rfl
  | ⟨1, _⟩ => rfl
  | ⟨2, _⟩ => rfl

/-- A multi-index of three coordinates is the three. -/
theorem sum3 {M : Type*} [AddCommMonoid M] (d : Fin 3 → ℕ) (g : Fin (d 0) → Fin (d 1) → Fin (d 2) → M) :
    ∑ q : ((a : Fin 3) → Fin (d a)), g (q 0) (q 1) (q 2) = ∑ a, ∑ b, ∑ c, g a b c := by
  simp only [← Fintype.sum_prod_type']
  exact Fintype.sum_equiv ⟨fun q => (q 0, q 1, q 2), fun p a => match a with | 0 => p.1 | 1 => p.2.1 | 2 => p.2.2,
    fun q => funext fun a => match a with | 0 => rfl | 1 => rfl | 2 => rfl, fun _ => rfl⟩ _ _ fun _ => rfl

/-! ### The arrays' parts -/
section
variable (z : (⟨2, ![4096, 3328]⟩ : Shape).Idx → ℝ) (e : (⟨2, ![4096, 2048]⟩ : Shape).Idx → ℝ) (a : (⟨2, ![1, 1024]⟩ : Shape).Idx → ℝ)
  (w : (⟨3, ![8, 128, 128]⟩ : Shape).Idx → ℝ) (b : (⟨2, ![8, 128]⟩ : Shape).Idx → ℝ)
abbrev ZU (i : Fin 4096) (l : Fin 1024) : ℝ := z (ix2 i ⟨1024 + l.val, by omega⟩)
abbrev ZV (i : Fin 4096) (l : Fin 1024) : ℝ := z (ix2 i ⟨2048 + l.val, by omega⟩)
abbrev DD (i : Fin 4096) (l : Fin 1024) : ℝ := e (ix2 i ⟨1024 + l.val, by omega⟩)
abbrev R1 (l : Fin 1024) : ℝ := a (ix2 0 l)
abbrev W3 (g : Fin 8) (p j : Fin 128) : ℝ := w (ix3 g p j)
abbrev B2 (g : Fin 8) (p : Fin 128) : ℝ := b (ix2 g p)
end

end Cert.Sgu

end
-- ==== Proof.SguHead.lean ====
/-
  The spatial gating's gradient, group by group: the kernel's operations on one group's columns,
  and the kernel's six results in their terms.
-/
module

public import proofs.«01_k».proof.Proof.Gen.Kernel11Ideal.Frame
public import proofs.«01_k».proof.Proof.SguMath
public import Idealize.ShloMosaic.Lib.Pipeline.ReadBack
public import Idealize.ShloMosaic.Lib.KernelVsHost

@[expose] public section

set_option maxRecDepth 65536
set_option maxHeartbeats 1000000

noncomputable section

open Idealize.ShloMosaic Idealize.ShloMosaic.TcCoe Idealize.SL.Sem

namespace Cert.Sgu

open Cert.Kernel11Ideal Cert.Kernel11Ideal.Gen

theorem slg : ∀ g : Fin 8, S128x1024.Slices ![0, g.val * 128] S128x128 := by decide +kernel

section
variable (X : FVec Ideal S128x1024 .bf16) (D : FVec Ideal S128x1024 .f32) (wg old : FVec Ideal S1x128x128 .f32) (bg : FVec Ideal S128x1 .f32) (g : Fin 8)

abbrev io0 : IVec S128x128 32 := iota .tc S128x128 32 [0] iota_S128x128_d0_w32
abbrev io1 : IVec S128x128 32 := iota .tc S128x128 32 [1] iota_S128x128_d1_w32

/-- A group's columns of the normalised rows, and of the mixed rows' cotangent. -/
def gx : FVec Ideal S128x128 .bf16 := extractStridedSlice S128x128 ![0, g.val * 128] X (slg g)
def gd : FVec Ideal S128x128 .f32 := extractStridedSlice S128x128 ![0, g.val * 128] D (slg g)
/-- A group's mixed rows. -/
def gmix : FVec Ideal S128x128 .f32 :=
  addf (matmul dot_S128x128_S128x128_S128x128_1_0_0_1_n_n none (truncf .bf16 (select (cmpi .sge io0 io1) (shapeCast S128x128 wg shapeCasts_S1x128x128_S128x128)
      (broadcast S128x128 (Scalar.ofBits .f32 0x00000000#32))) bitsLt_bf16_f32) (gx X g) (constant S128x128 .f32 0x00000000#32))
    (broadcastTo S128x128 (shapeCast S128x1 bg shapeCasts_S128x1_S128x1) broadcasts_S128x1_S128x128)
/-- Its normalised rows' gradient. -/
def gvn : FVec Ideal S128x128 .f32 :=
  matmul dot_S128x128_S128x128_S128x128_1_0_0_1_n_n none (truncf .bf16 (select (cmpi .sge io1 io0) (shapeCast S128x128 wg shapeCasts_S1x128x128_S128x128)
      (broadcast S128x128 (Scalar.ofBits .f32 0x00000000#32))) bitsLt_bf16_f32) (truncf .bf16 (gd D g) bitsLt_bf16_f32) (constant S128x128 .f32 0x00000000#32)
/-- What it adds to its weights' gradient and to the biases'. -/
def gdw : FVec Ideal S1x128x128 .f32 :=
  shapeCast S1x128x128 (addf (shapeCast S128x128 old shapeCasts_S1x128x128_S128x128) (select (cmpi .sge io0 io1)
    (matmul dot_S128x128_S128x128_S128x128_1_1_0_0_n_n none (truncf .bf16 (gd D g) bitsLt_bf16_f32) (gx X g) (constant S128x128 .f32 0x00000000#32))
    (broadcast S128x128 (Scalar.ofBits .f32 0x00000000#32)))) shapeCasts_S128x128_S1x128x128
def gdb (a : FVec Ideal S128x128 .f32) : FVec Ideal S128x128 .f32 :=
  addf a (select (cmpi .eq io1 (broadcast S128x128 (BitVec.ofNat 32 g.val)))
    (broadcastTo S128x128 (shapeCast S128x1 (shapeCast S128x1 (multiReduction .add [1] S128 (gd D g) 0x00000000#32 reduces_S128x128_S128 (.inl rfl) rfl)
      shapeCasts_S128_S128x1) shapeCasts_S128x1_S128x1) broadcasts_S128x1_S128x128) (broadcast S128x128 (Scalar.ofBits .f32 0x00000000#32)))
end

/-- The groups side by side. -/
def groups (f : Fin 8 → FVec Ideal S128x128 .f32) : FVec Ideal S128x1024 .f32 := concatenate S128x1024 1 [⟨S128x128, f 0⟩, ⟨S128x128, f 1⟩, ⟨S128x128, f 2⟩, ⟨S128x128, f 3⟩,
  ⟨S128x128, f 4⟩, ⟨S128x128, f 5⟩, ⟨S128x128, f 6⟩, ⟨S128x128, f 7⟩]
  concatenates_S128x128_S128x128_S128x128_S128x128_S128x128_S128x128_S128x128_S128x128_S128x1024_d1

/-- The biases' gradients' part, from all groups. -/
def gdbs (D : FVec Ideal S128x1024 .f32) : FVec Ideal S128x128 .f32 :=
  gdb D 7 (gdb D 6 (gdb D 5 (gdb D 4 (gdb D 3 (gdb D 2 (gdb D 1 (gdb D 0 (broadcast S128x128 (Scalar.ofBits .f32 0x00000000#32)))))))))

variable (m : (ℓ : Loc nD τ sig) → Buf (Elt Ideal) ℓ) (c : Dev nD) (t : Fin cfg0.N)

theorem inbw : ∀ g : Fin 8, ∀ a, (![g.val, 0, 0] : Fin 3 → ℕ) a + (![1, 128, 128] : Fin 3 → ℕ) a ≤ S8x128x128.size a := by decide +kernel
theorem inbb : ∀ g : Fin 8, ∀ a, (![0, g.val] : Fin 2 → ℕ) a + (![128, 1] : Fin 2 → ℕ) a ≤ S128x8.size a := by decide +kernel
/-- A group's matrix of an array of eight, its column of an array of columns. -/
abbrev rw3 (g : Fin 8) : Rect S8x128x128 := Rect.unit (s := S8x128x128) ![g.val, 0, 0] ![1, 128, 128] (inbw g)
abbrev mat (W : FVec Ideal S8x128x128 .f32) (g : Fin 8) : FVec Ideal S1x128x128 .f32 := View.ld (Val := Elt Ideal) (e' := .f32) W (rw3 g)
abbrev col (B : FVec Ideal S128x8 .f32) (g : Fin 8) : FVec Ideal S128x1 .f32   := View.ld (Val := Elt Ideal) (e' := .f32) B (Rect.unit (s := S128x8) ![0, g.val] ![128, 1] (inbb g))

/-- A point's normalised rows, its mixed rows' cotangent, the normalised rows' cotangent. -/
abbrev Xh : FVec Ideal S128x1024 .f32 := k0_pay7 (k0_pay5 (X0_1 m c t)) (k0_pay6 (X0_1 m c t))
abbrev Xp : FVec Ideal S128x1024 .bf16 := k0_pay8 (k0_pay5 (X0_1 m c t)) (k0_pay6 (X0_1 m c t)) (iblk m c 2 t) (iblk m c 3 t)
abbrev Dp : FVec Ideal S128x1024 .f32 := k0_pay21 (k0_pay3 (X0_0 m c t)) (k0_pay17 (iblk m c 7 t))
abbrev Mx : FVec Ideal S128x1024 .f32 := groups fun g => gmix (Xp m c t) (mat (iblk m c 4 t) g) (col (iblk m c 5 t) g) g
abbrev Vx : FVec Ideal S128x1024 .f32 := groups fun g => gvn (Dp m c t) (mat (iblk m c 6 t) g) g
/-- What a point adds to the norm's gradients. -/
def glb (Y : FVec Ideal S128x1024 .f32) : FVec Ideal S1x1024 .f32 :=
  shapeCast S1x1024 (multiReduction .add [0] S1024 Y 0x00000000#32 reduces_S128x1024_S1024 (.inl rfl) rfl) shapeCasts_S1024_S1x1024

abbrev prev (t : Fin cfg0.N) : t.val - 1 < cfg0.N := Nat.lt_of_le_of_lt (Nat.sub_le _ _) t.isLt

theorem out8 : (outsAt0 m c t.val t.isLt).1 = k0_pay20 (X0_0 m c t) (k0_pay2 (X0_0 m c t)) (mulf (k0_pay17 (iblk m c 7 t)) (Mx m c t)) (k0_pay19 (k0_pay2 (X0_0 m c t)))
    (Scalar.ofBits .f32 0x3F000000#32) := by
  by_cases h0 : t.val % 32 = 0
  · rw [outsAt0_A m c t h0]; frame_out; rfl
  · rw [outsAt0_B m c t h0]; frame_out; rfl

theorem out9 : (outsAt0 m c t.val t.isLt).2.1 = k0_pay1 (k0_pay76 (k0_pay6 (X0_1 m c t)) (Xh m c t) (Vx m c t) (iblk m c 2 t)) (k0_pay77 (k0_pay4 (X0_1 m c t)))
    (k0_pay78 (X0_1 m c t) (k0_pay4 (X0_1 m c t))) (k0_pay79 (X0_1 m c t)) (Named.named κ "c3" 0x3E095D4F#32 : Ideal .f32) := by
  by_cases h0 : t.val % 32 = 0
  · rw [outsAt0_A m c t h0]; frame_out; rfl
  · rw [outsAt0_B m c t h0]; frame_out; rfl

theorem out11A (h0 : t.val % 32 = 0) : (outsAt0 m c t.val t.isLt).2.2.2.1 = (addf (shapeCast S128x128 (k0_pay23 (F := Ideal)) shapeCasts_S128x128_S128x128)
    (gdbs (Dp m c t)) : FVec Ideal S128x128 .f32) := by
  rw [outsAt0_A m c t h0]; frame_open
  simp (disch := decide) only [↓ View.readCov_skip, ↓ View.readCov_cons_toLoadRect, ↓ View.readCov_fill]
  frame_out
  rfl
theorem out11B (h0 : ¬t.val % 32 = 0) : (outsAt0 m c t.val t.isLt).2.2.2.1 = (addf (shapeCast S128x128 (outsAt0 m c (t.val - 1) (prev t)).2.2.2.1 shapeCasts_S128x128_S128x128)
    (gdbs (Dp m c t)) : FVec Ideal S128x128 .f32) := by
  rw [outsAt0_B m c t h0]; frame_out; rfl

theorem out12A (h0 : t.val % 32 = 0) : (outsAt0 m c t.val t.isLt).2.2.2.2.1 = (addf (shapeCast S1x1024 (k0_pay24 (F := Ideal)) shapeCasts_S1x1024_S1x1024)
    (glb (mulf (Vx m c t) (Xh m c t))) : FVec Ideal S1x1024 .f32) := by
  rw [outsAt0_A m c t h0]; frame_open
  simp (disch := decide) only [↓ View.readCov_skip, ↓ View.readCov_cons_toLoadRect, ↓ View.readCov_fill]
  frame_out
  rfl
theorem out12B (h0 : ¬t.val % 32 = 0) : (outsAt0 m c t.val t.isLt).2.2.2.2.1 = (addf (shapeCast S1x1024 (outsAt0 m c (t.val - 1) (prev t)).2.2.2.2.1 shapeCasts_S1x1024_S1x1024)
    (glb (mulf (Vx m c t) (Xh m c t))) : FVec Ideal S1x1024 .f32) := by
  rw [outsAt0_B m c t h0]; frame_out; rfl

theorem out13A (h0 : t.val % 32 = 0) : (outsAt0 m c t.val t.isLt).2.2.2.2.2 = (addf (shapeCast S1x1024 (k0_pay25 (F := Ideal)) shapeCasts_S1x1024_S1x1024)
    (glb (Vx m c t)) : FVec Ideal S1x1024 .f32) := by
  rw [outsAt0_A m c t h0]; frame_open
  simp (disch := decide) only [↓ View.readCov_skip, ↓ View.readCov_cons_toLoadRect, ↓ View.readCov_fill]
  frame_out
  rfl
theorem out13B (h0 : ¬t.val % 32 = 0) : (outsAt0 m c t.val t.isLt).2.2.2.2.2 = (addf (shapeCast S1x1024 (outsAt0 m c (t.val - 1) (prev t)).2.2.2.2.2 shapeCasts_S1x1024_S1x1024)
    (glb (Vx m c t)) : FVec Ideal S1x1024 .f32) := by
  rw [outsAt0_B m c t h0]; frame_out; rfl

/-- The weights' gradients: the groups' matrices, stored one by one. -/
def piece (X : FVec Ideal S128x1024 .bf16) (D : FVec Ideal S128x1024 .f32) (O : FVec Ideal S8x128x128 .f32) (g : Fin 8) : View.Piece (Elt Ideal) S8x128x128 .f32 :=
  ⟨rw3 g, gdw X D (mat O g) g⟩
def pieces (X : FVec Ideal S128x1024 .bf16) (D : FVec Ideal S128x1024 .f32) (O : FVec Ideal S8x128x128 .f32) : List (View.Piece (Elt Ideal) S8x128x128 .f32) :=
  [piece X D O 7, piece X D O 6, piece X D O 5, piece X D O 4, piece X D O 3, piece X D O 2, piece X D O 1, piece X D O 0]
theorem out10A (h0 : t.val % 32 = 0) : ∃ L, (outsAt0 m c t.val t.isLt).2.2.1 = View.canon (pieces (Xp m c t) (Dp m c t) (k0_pay22 (F := Ideal)) ++ L) := by
  rw [outsAt0_A m c t h0]; frame_open
  simp (disch := decide) only [↓ View.readCov_skip, ↓ View.readCov_cons_toLoadRect, ↓ View.readCov_fill]
  exact ⟨[⟨Rect.unit (s := S8x128x128) ![0, 0, 0] ![8, 128, 128] inb_S8x128x128_S8x128x128_0_0_0, k0_pay22 (F := Ideal)⟩], by frame_out; rfl⟩
theorem out10B (h0 : ¬t.val % 32 = 0) : ∃ L, (outsAt0 m c t.val t.isLt).2.2.1 = View.canon (pieces (Xp m c t) (Dp m c t) (outsAt0 m c (t.val - 1) (prev t)).2.2.1 ++ L) := by
  rw [outsAt0_B m c t h0]; frame_open
  exact ⟨[], by frame_out; rfl⟩

end Cert.Sgu

end
-- ==== Proof.SguOut.lean ====
/-
  The spatial gating's gradient: the kernel's operations at a point with real operands, element by element.
-/
module

public import proofs.«01_k».proof.Proof.SguHead
public import proofs.«01_k».proof.Proof.AttnRow
public import proofs.«01_k».proof.Proof.AttnRef

@[expose] public section

set_option maxRecDepth 65536

noncomputable section

open Idealize.ShloMosaic Idealize.ShloMosaic.TcCoe Idealize.SL.Sem

namespace Cert.Sgu

open Cert.Kernel11Ideal Cert.Kernel11Ideal.Gen Cert.Lift
open Cert.Norm (ε ε_word)

theorem c_value : (Named.named κ "c" 0x3D372713#32 : Ideal .f32) = (cc : EReal) := by
  show ((8943 / 200000 : ℝ) : EReal) = _
  exact congrArg _ (by norm_num [cc])
theorem c3_value : (Named.named κ "c3" 0x3E095D4F#32 : Ideal .f32) = ((3 * cc : ℝ) : EReal) := by
  show ((26829 / 200000 : ℝ) : EReal) = _
  exact congrArg _ (by norm_num [cc])
theorem tanh_coe (x : ℝ) : Ideal.tanh (x : EReal) = (Real.tanh x : EReal) := rfl

section
variable (X : FVec Ideal S128x1024 .f32) (x : Fin 1024 → ℝ) (r : Fin 128) (hX : ∀ l, X (ix2 r l) = (x l : EReal)) (l : Fin 1024)
include hX

theorem pay2_at : k0_pay2 (F := Ideal) X (ix2 r l) = (th (x l) : EReal) := by
  pointwise [k0_pay2]
  simp only [hX, c_value, K_word, mul_coe, add_coe]
  rfl
theorem pay4_at : k0_pay4 (F := Ideal) X (ix2 r l) = (th (x l) : EReal) := by
  pointwise [k0_pay4]
  simp only [hX, c_value, K_word, mul_coe, add_coe]
  rfl
theorem pay3_at : k0_pay3 (F := Ideal) X (ix2 r l) = (gl (x l) : EReal) := by
  have h := pay2_at X x r hX l
  unfold k0_pay3
  generalize k0_pay2 (F := Ideal) X = T at h ⊢
  pointwise
  rw [h, hX, half_word, one_coe, add_coe, mul_coe, mul_coe]
  exact congrArg _ (by unfold gl; ring)
theorem pay5_at : k0_pay5 (F := Ideal) X (ix2 r l) = ((gl (x l) - mu fun l => gl (x l) : ℝ) : EReal) := by
  have h := pay4_at X x r hX
  unfold k0_pay5
  generalize k0_pay4 (F := Ideal) X = T at h ⊢
  pointwise
  have e : ∀ l, 1 / 2 * x l * (1 + th (x l)) = gl (x l) := fun l => by unfold gl; ring
  simp only [h, hX, half_word, one_coe, add_coe, mul_coe, e, coe_sum, width_word, div_coe _ _ (by norm_num : (1024 : ℝ) ≠ 0), sub_coe]
  rfl
theorem pay6_at : k0_pay6 (F := Ideal) X (ix2 r 0) = (rs (fun l => gl (x l)) : EReal) := by
  have h := pay5_at X x r hX
  unfold k0_pay6
  generalize k0_pay5 (F := Ideal) X = T at h ⊢
  pointwise
  simp only [h, mul_coe, coe_sum, width_word, ε_word, div_coe _ _ (by norm_num : (1024 : ℝ) ≠ 0), add_coe]
  exact rsqrt_va fun l => gl (x l)
theorem pay7_at : k0_pay7 (F := Ideal) (k0_pay5 X) (k0_pay6 X) (ix2 r l) = (xh (fun l => gl (x l)) l : EReal) := by
  have h5 := pay5_at X x r hX
  have h6 := pay6_at X x r hX
  generalize k0_pay5 (F := Ideal) X = T at h5 ⊢
  generalize k0_pay6 (F := Ideal) X = R at h6 ⊢
  pointwise [k0_pay7]
  rw [h5, h6, mul_coe]
  rfl
theorem pay8_at (G B : FVec Ideal S1x1024 .f32) (g b : Fin 1024 → ℝ) (hG : ∀ l, G (ix2 0 l) = (g l : EReal)) (hB : ∀ l, B (ix2 0 l) = (b l : EReal)) :
    k0_pay8 (F := Ideal) (k0_pay5 X) (k0_pay6 X) G B (ix2 r l) = ((xh (fun l => gl (x l)) l * g l + b l : ℝ) : EReal) := by
  have h := pay7_at X x r hX l
  unfold k0_pay8
  generalize k0_pay7 (F := Ideal) (k0_pay5 X) (k0_pay6 X) = T at h ⊢
  pointwise
  rw [h, hG, hB, mul_coe, add_coe]

/-- The kernel's slope, over its hyperbolic tangent. -/
theorem pay20_at (Y : FVec Ideal S128x1024 .f32) (y : ℝ) (hY : Y (ix2 r l) = (y : EReal)) :
    k0_pay20 (F := Ideal) X (k0_pay2 X) Y (k0_pay19 (k0_pay2 X)) (Scalar.ofBits .f32 0x3F000000#32) (ix2 r l) = ((y * gs (x l) : ℝ) : EReal) := by
  have h := pay2_at X x r hX l
  generalize k0_pay2 (F := Ideal) X = T at h ⊢
  pointwise [k0_pay20, k0_pay19]
  rw [h, hX, hY, half_word, one_coe, c3_value, K_word]
  simp only [mul_coe, add_coe, sub_coe]
  rfl
theorem pay1_at (Y : FVec Ideal S128x1024 .f32) (y : ℝ) (hY : Y (ix2 r l) = (y : EReal)) :
    k0_pay1 (F := Ideal) Y (k0_pay77 (k0_pay4 X)) (k0_pay78 X (k0_pay4 X)) (k0_pay79 X) (Named.named κ "c3" 0x3E095D4F#32 : Ideal .f32) (ix2 r l) = ((y * gs (x l) : ℝ) : EReal) := by
  have h := pay4_at X x r hX l
  generalize k0_pay4 (F := Ideal) X = T at h ⊢
  pointwise [k0_pay1, k0_pay77, k0_pay78, k0_pay79]
  rw [h, hX, hY, half_word, one_coe, c3_value, K_word]
  simp only [mul_coe, add_coe, sub_coe]
  rfl
end

/-- The layer norm's gradient. -/
theorem pay76_at (R : FVec Ideal S128x1 .f32) (Y Z : FVec Ideal S128x1024 .f32) (G : FVec Ideal S1x1024 .f32) (v y g : Fin 1024 → ℝ) (r : Fin 128)
    (hR : R (ix2 r 0) = (rs v : EReal)) (hY : ∀ l, Y (ix2 r l) = (xh v l : EReal)) (hZ : ∀ l, Z (ix2 r l) = (y l : EReal)) (hG : ∀ l, G (ix2 0 l) = (g l : EReal)) (l : Fin 1024) :
    k0_pay76 (F := Ideal) R Y Z G (ix2 r l) = (lng v (fun k => y k * g k) l : EReal) := by
  pointwise [k0_pay76]
  simp only [hR, hY, hZ, hG, mul_coe, coe_sum, width_word, div_coe _ _ (by norm_num : (1024 : ℝ) ≠ 0), sub_coe]
  rfl

/-! ### One group -/

theorem groups_at (f : Fin 8 → FVec Ideal S128x128 .f32) (r : Fin 128) (l : Fin 1024) : groups f (ix2 r l) = f (cg l) (ix2 r (ck l)) := by
  refine concatenate_ofFn_apply (t := S128x1024) (s₁ := S128x128) 1 f _ rfl 128 rfl (ix2 r l) ⟨l.val / 128, by omega⟩ rfl (ix2 r ⟨l.val % 128, by omega⟩) rfl fun b hb => ?_
  match b with
  | ⟨0, _⟩ => rfl
  | ⟨1, _⟩ => exact absurd rfl hb

theorem causal (p j : Fin 128) : IntOp.cmpi .sge (BitVec.ofNat 32 p.val) (BitVec.ofNat 32 j.val) = BitVec.ofBool (decide (j.val ≤ p.val)) := by
  rw [Cert.Attn.cmp_sge, Cert.Attn.word _ (by omega), Cert.Attn.word _ (by omega)]
  exact congrArg BitVec.ofBool (decide_eq_decide.mpr Int.ofNat_le)

section
variable (X : FVec Ideal S128x1024 .bf16) (D : FVec Ideal S128x1024 .f32) (wg old : FVec Ideal S1x128x128 .f32) (bg : FVec Ideal S128x1 .f32) (g : Fin 8)
  (x d : Fin 128 → Fin 1024 → ℝ) (w : Fin 128 → Fin 128 → ℝ) (b : Fin 128 → ℝ)

theorem gx_at (hX : ∀ r l, X (ix2 r l) = (x r l : EReal)) (r k : Fin 128) : gx X g (ix2 r k) = (x r (cl g k) : EReal) := by
  pointwise [gx]
  exact hX r _
theorem gd_at (hD : ∀ r l, D (ix2 r l) = (d r l : EReal)) (r k : Fin 128) : gd D g (ix2 r k) = (d r (cl g k) : EReal) := by
  pointwise [gd]
  exact hD r _

theorem gmix_at (hX : ∀ r l, X (ix2 r l) = (x r l : EReal)) (hw : ∀ p j, wg (ix3 0 p j) = (w p j : EReal)) (hb : ∀ p, bg (ix2 p 0) = (b p : EReal)) (p k : Fin 128) :
    gmix X wg bg g (ix2 p k) = (((∑ j, (if j.val ≤ p.val then w p j else 0) * x j (cl g k)) + b p : ℝ) : EReal) := by
  have h := gx_at X g x hX
  unfold gmix
  generalize gx X g = A at h ⊢
  pointwise
  rw [hb]
  refine (congrArg (· + _) (Finset.sum_congr rfl fun j _ => (?_ : _ = (((if j.val ≤ p.val then w p j else 0) * x j (cl g k) : ℝ) : EReal)))).trans ?_
  · rw [h, causal, hw]
    split_ifs with hj
    · rw [decide_eq_true hj, ← mul_coe]; rfl
    · rw [decide_eq_false hj, zero_mul]; exact zero_coe
  · rw [coe_sum, add_coe]

theorem gvn_at (hD : ∀ r l, D (ix2 r l) = (d r l : EReal)) (hw : ∀ j p, wg (ix3 0 j p) = (w p j : EReal)) (j k : Fin 128) :
    gvn D wg g (ix2 j k) = ((∑ p, (if j.val ≤ p.val then w p j else 0) * d p (cl g k) : ℝ) : EReal) := by
  have h := gd_at D g d hD
  unfold gvn
  generalize gd D g = A at h ⊢
  pointwise
  rw [← coe_sum]
  refine Finset.sum_congr rfl fun p _ => ?_
  rw [h, causal, hw]
  split_ifs with hj
  · rw [decide_eq_true hj, ← mul_coe]; rfl
  · rw [decide_eq_false hj, zero_mul]; exact zero_coe

theorem gdw_at (hX : ∀ r l, X (ix2 r l) = (x r l : EReal)) (hD : ∀ r l, D (ix2 r l) = (d r l : EReal)) (p j : Fin 128) :
    gdw X D old g (ix3 0 p j) = old (ix3 0 p j) + ((if j.val ≤ p.val then ∑ k, d p (cl g k) * x j (cl g k) else 0 : ℝ) : EReal) := by
  have h := gd_at D g d hD
  have h' := gx_at X g x hX
  unfold gdw
  generalize gd D g = A at h ⊢
  generalize gx X g = B at h' ⊢
  pointwise
  refine congrArg (old (ix3 0 p j) + ·) ?_
  simp only [h, h', causal, mul_coe, coe_sum]
  split_ifs with hj
  · rw [decide_eq_true hj]; rfl
  · rw [decide_eq_false hj]; rfl

theorem gdb_at (hD : ∀ r l, D (ix2 r l) = (d r l : EReal)) (a : FVec Ideal S128x128 .f32) (p l : Fin 128) :
    gdb D g a (ix2 p l) = a (ix2 p l) + ((if l.val = g.val then ∑ k, d p (cl g k) else 0 : ℝ) : EReal) := by
  have h := gd_at D g d hD
  unfold gdb
  generalize gd D g = A at h ⊢
  pointwise
  refine congrArg (a (ix2 p l) + ·) ?_
  simp only [h, coe_sum]
  rw [Cert.Attn.cmp_eq _ _ (by omega) (by omega)]
  split_ifs with hl
  · rw [decide_eq_true hl]; rfl
  · rw [decide_eq_false hl]; rfl

theorem gdbs_at (hD : ∀ r l, D (ix2 r l) = (d r l : EReal)) (p l : Fin 128) :
    gdbs D (ix2 p l) = ((if h : l.val < 8 then ∑ k, d p (cl ⟨l.val, h⟩ k) else 0 : ℝ) : EReal) := by
  unfold gdbs
  simp only [gdb_at D _ d hD]
  have k : (∑ g : Fin 8, if l.val = g.val then ∑ k, d p (cl g k) else 0) = if h : l.val < 8 then ∑ k, d p (cl ⟨l.val, h⟩ k) else 0 := by
    by_cases h : l.val < 8
    · rw [dif_pos h, Finset.sum_eq_single (⟨l.val, h⟩ : Fin 8) (fun g _ hg => if_neg fun e : l.val = g.val => hg (Fin.ext e.symm)) (fun hn => absurd (Finset.mem_univ _) hn), if_pos rfl]
    · rw [dif_neg h]
      exact Finset.sum_eq_zero fun g _ => if_neg fun e : l.val = g.val => h (e ▸ g.isLt)
  rw [← k, Fin.sum_univ_eight]
  have z : (broadcast S128x128 (Scalar.ofBits .f32 0x00000000#32) : FVec Ideal S128x128 .f32) (ix2 p l) = ((0 : ℝ) : EReal) := zero_word
  rw [z]
  simp only [add_coe, zero_add]
end

theorem glb_at (Y : FVec Ideal S128x1024 .f32) (y : Fin 128 → Fin 1024 → ℝ) (hY : ∀ r l, Y (ix2 r l) = (y r l : EReal)) (l : Fin 1024) :
    glb Y (ix2 0 l) = ((∑ r, y r l : ℝ) : EReal) := by
  pointwise [glb]
  simp only [hY, coe_sum]

end Cert.Sgu

end
-- ==== Proof.SguKer.lean ====
/-
  The spatial gating's gradient: the kernel's six results at real arguments.
-/
module

public import proofs.«01_k».proof.Proof.SguOut
public import Idealize.ShloMosaic.Lib.StableHlo.RunRead

@[expose] public section

set_option maxRecDepth 65536

noncomputable section

open Idealize.ShloMosaic Idealize.ShloMosaic.TcCoe Idealize.SL.Sem
open Idealize.ShloMosaic.Pipeline (Dat)

namespace Cert.Sgu

open Cert.Kernel11Ideal Cert.Kernel11Ideal.Gen Cert.Lift

variable (m : (ℓ : Loc nD τ sig) → Buf (Elt Ideal) ℓ)

theorem idx : ∀ t : Fin cfg0.N, win0_0.index t = ![t.val, 1] ∧ win0_1.index t = ![t.val, 2] ∧ win0_2.index t = ![0, 0]
    ∧ win0_3.index t = ![0, 0] ∧ win0_4.index t = ![0, 0, 0] ∧ win0_5.index t = ![0, 0] ∧ win0_6.index t = ![0, 0, 0]
    ∧ win0_7.index t = ![t.val, 1] ∧ win0_8.index t = ![t.val, 0] ∧ win0_9.index t = ![t.val, 0] ∧ win0_10.index t = ![0, 0, 0] ∧ win0_11.index t = ![0, 0]
    ∧ win0_12.index t = ![0, 0] ∧ win0_13.index t = ![0, 0] :=
  (by decide +kernel : ∀ t : Fin grid0.N, _)

/-- A point's chunk. -/
abbrev bl (t : Fin cfg0.N) : Fin 32 := ⟨t.val, t.isLt⟩
theorem rn_rw (n : Fin 32) (r : Fin 128) : rn (rw_ n r) = n := Fin.ext (by show (n.val * 128 + r.val) / 128 = n.val; omega)
theorem rp_rw (n : Fin 32) (r : Fin 128) : rp (rw_ n r) = r := Fin.ext (by show (n.val * 128 + r.val) % 128 = r.val; omega)

variable (z : S4096x3328.Idx → ℝ) (a b : S1x1024.Idx → ℝ) (w : S8x128x128.Idx → ℝ) (s : S8x128.Idx → ℝ) (e : S4096x2048.Idx → ℝ) (c : Dev nD)

/-- The arguments are real arrays. -/
structure Args : Prop where
  a0 : m ((c : Thread nD τ).loc main_arg0) = up z
  a1 : m ((c : Thread nD τ).loc main_arg1) = up a
  a2 : m ((c : Thread nD τ).loc main_arg2) = up b
  a3 : m ((c : Thread nD τ).loc main_arg3) = up w
  a4 : m ((c : Thread nD τ).loc main_arg4) = up s
  a5 : m ((c : Thread nD τ).loc main_arg5) = up e

section
variable (H : Args m z a b w s e c) (t : Fin cfg0.N)
include H

theorem v0 (g : Fin 8) (j p : Fin 128) : (V m c main_v0 : FVec Ideal S8x128x128 .f32) (ix3 g j p) = (w (ix3 g p j) : EReal) := by
  have h : (V m c main_v0 : FVec Ideal S8x128x128 .f32) = transpose S8x128x128 [0, 2, 1] (m ((c : Thread nD τ).loc main_arg3)) transposes_S8x128x128_S8x128x128_0_2_1 := by
    unfold V
    after_reads_simp
  rw [h, H.a3]
  pointwise
theorem v1 (p : Fin 128) (g : Fin 8) : (V m c main_v1 : FVec Ideal S128x8 .f32) (ix2 p g) = (s (ix2 g p) : EReal) := by
  have h : (V m c main_v1 : FVec Ideal S128x8 .f32) = transpose S128x8 [1, 0] (m ((c : Thread nD τ).loc main_arg4)) transposes_S8x128_S128x8_1_0 := by
    unfold V
    after_reads_simp
  rw [h, H.a4]
  pointwise

theorem x0 (r : Fin 128) (l : Fin 1024) : (X0_0 m c t : FVec Ideal S128x1024 .f32) (ix2 r l) = (ZU z (rw_ (bl t) r) l : EReal) := by
  obtain ⟨h0, h1, h2, h3, h4, h5, h6, h7, h8, h9, h10, h11, h12, h13⟩ := idx t
  refine Eq.trans ?_ (congrFun H.a0 (ix2 (rw_ (bl t) r) ⟨1024 + l.val, by omega⟩))
  unfold X0_0 Pipeline.Window.fill
  rw [dif_pos (moved0_0 t _)]
  blk_point [iblk, V, h0]
theorem x1 (r : Fin 128) (l : Fin 1024) : (X0_1 m c t : FVec Ideal S128x1024 .f32) (ix2 r l) = (ZV z (rw_ (bl t) r) l : EReal) := by
  obtain ⟨h0, h1, h2, h3, h4, h5, h6, h7, h8, h9, h10, h11, h12, h13⟩ := idx t
  refine Eq.trans ?_ (congrFun H.a0 (ix2 (rw_ (bl t) r) ⟨2048 + l.val, by omega⟩))
  unfold X0_1 Pipeline.Window.fill
  rw [dif_pos (moved0_1 t _)]
  blk_point [iblk, V, h1]
theorem iblk2 (l : Fin 1024) : (iblk m c 2 t : FVec Ideal S1x1024 .f32) (ix2 0 l) = (R1 a l : EReal) := by
  obtain ⟨h0, h1, h2, h3, h4, h5, h6, h7, h8, h9, h10, h11, h12, h13⟩ := idx t
  refine Eq.trans ?_ (congrFun H.a1 (ix2 0 l))
  blk_point [iblk, V, h2]
theorem iblk3 (l : Fin 1024) : (iblk m c 3 t : FVec Ideal S1x1024 .f32) (ix2 0 l) = (R1 b l : EReal) := by
  obtain ⟨h0, h1, h2, h3, h4, h5, h6, h7, h8, h9, h10, h11, h12, h13⟩ := idx t
  refine Eq.trans ?_ (congrFun H.a2 (ix2 0 l))
  blk_point [iblk, V, h3]
theorem iblk7 (r : Fin 128) (l : Fin 1024) : (iblk m c 7 t : FVec Ideal S128x1024 .bf16) (ix2 r l) = (DD e (rw_ (bl t) r) l : EReal) := by
  obtain ⟨h0, h1, h2, h3, h4, h5, h6, h7, h8, h9, h10, h11, h12, h13⟩ := idx t
  refine Eq.trans ?_ (congrFun H.a5 (ix2 (rw_ (bl t) r) ⟨1024 + l.val, by omega⟩))
  blk_point [iblk, V, h7]
omit H in
theorem ld_mat (W : FVec Ideal S8x128x128 .f32) (g : Fin 8) (p j : Fin 128) : mat W g (ix3 0 p j) = W (ix3 g p j) := by
  refine View.ld_unit_apply_of _ _ _ (inbw g) _ _ fun a => ?_
  match a with
  | ⟨0, _⟩ => rfl
  | ⟨1, _⟩ => exact (Nat.zero_add _).symm
  | ⟨2, _⟩ => exact (Nat.zero_add _).symm
theorem mat4 (g : Fin 8) (p j : Fin 128) : mat (iblk m c 4 t) g (ix3 0 p j) = (W3 w g p j : EReal) := by
  obtain ⟨h0, h1, h2, h3, h4, h5, h6, h7, h8, h9, h10, h11, h12, h13⟩ := idx t
  refine (ld_mat _ g p j).trans (Eq.trans ?_ (congrFun H.a3 (ix3 g p j)))
  blk_point [iblk, V, h4]
theorem mat6 (g : Fin 8) (j p : Fin 128) : mat (iblk m c 6 t) g (ix3 0 j p) = (W3 w g p j : EReal) := by
  obtain ⟨h0, h1, h2, h3, h4, h5, h6, h7, h8, h9, h10, h11, h12, h13⟩ := idx t
  refine (ld_mat _ g j p).trans (Eq.trans ?_ (v0 m z a b w s e c H g j p))
  blk_point [iblk, h6]
theorem col5 (g : Fin 8) (p : Fin 128) : col (iblk m c 5 t) g (ix2 p 0) = (B2 s g p : EReal) := by
  obtain ⟨h0, h1, h2, h3, h4, h5, h6, h7, h8, h9, h10, h11, h12, h13⟩ := idx t
  refine (View.ld_unit_apply_of _ _ _ (inbb g) _ (ix2 p g) fun a => ?_).trans (Eq.trans ?_ (v1 m z a b w s e c H p g))
  · match a with
    | ⟨0, _⟩ => exact (Nat.zero_add _).symm
    | ⟨1, _⟩ => rfl
  · blk_point [iblk, h5]

theorem hXh (r : Fin 128) (l : Fin 1024) : Xh m c t (ix2 r l) = (xh (gv (ZV z) (rw_ (bl t) r)) l : EReal) :=
  pay7_at _ _ r (x1 m z a b w s e c H t r) l
theorem hXp (r : Fin 128) (l : Fin 1024) : Xp m c t (ix2 r l) = (vn (ZV z) (R1 a) (R1 b) (rw_ (bl t) r) l : EReal) :=
  pay8_at _ _ r (x1 m z a b w s e c H t r) l _ _ _ _ (iblk2 m z a b w s e c H t) (iblk3 m z a b w s e c H t)
theorem h17 (r : Fin 128) (l : Fin 1024) : k0_pay17 (F := Ideal) (iblk m c 7 t) (ix2 r l) = (DD e (rw_ (bl t) r) l : EReal) :=
  iblk7 m z a b w s e c H t r l
theorem hDp (r : Fin 128) (l : Fin 1024) : Dp m c t (ix2 r l) = (dm (ZU z) (DD e) (rw_ (bl t) r) l : EReal) := by
  show k0_pay17 (F := Ideal) (iblk m c 7 t) (ix2 r l) * k0_pay3 (F := Ideal) (X0_0 m c t) (ix2 r l) = _
  rw [h17 m z a b w s e c H t, pay3_at _ _ r (x0 m z a b w s e c H t r), mul_coe]
  exact congrArg _ (mul_comm _ _)
theorem hMx (r : Fin 128) (l : Fin 1024) : Mx m c t (ix2 r l) = (mix (ZV z) (R1 a) (R1 b) (W3 w) (B2 s) (bl t) r (cg l) (ck l) : EReal) :=
  (groups_at _ r l).trans (gmix_at _ _ _ (cg l) _ _ _ (hXp m z a b w s e c H t) (mat4 m z a b w s e c H t (cg l)) (col5 m z a b w s e c H t (cg l)) r (ck l))
theorem hVx (r : Fin 128) (l : Fin 1024) : Vx m c t (ix2 r l) = (dv' (ZU z) (W3 w) (DD e) (rw_ (bl t) r) l : EReal) := by
  refine (groups_at _ r l).trans ((gvn_at _ _ (cg l) _ _ (hDp m z a b w s e c H t) (mat6 m z a b w s e c H t (cg l)) r (ck l)).trans (congrArg _ ?_))
  unfold dv'
  rw [rn_rw, rp_rw]
  rfl

theorem du_at (r : Fin 128) (l : Fin 1024) : (outsAt0 m c t.val t.isLt).1 (ix2 r l)
    = (du (ZU z) (ZV z) (R1 a) (R1 b) (W3 w) (B2 s) (DD e) (rw_ (bl t) r) l : EReal) := by
  rw [out8]
  have k : (mulf (k0_pay17 (iblk m c 7 t)) (Mx m c t) : FVec Ideal S128x1024 .f32) (ix2 r l)
      = ((DD e (rw_ (bl t) r) l * mix (ZV z) (R1 a) (R1 b) (W3 w) (B2 s) (bl t) r (cg l) (ck l) : ℝ) : EReal) := by
    show k0_pay17 (F := Ideal) (iblk m c 7 t) (ix2 r l) * Mx m c t (ix2 r l) = _
    rw [h17 m z a b w s e c H t, hMx m z a b w s e c H t, mul_coe]
  refine (pay20_at _ _ r (x0 m z a b w s e c H t r) l _ _ k).trans (congrArg _ ?_)
  unfold du
  rw [rn_rw, rp_rw]

theorem dv_at (r : Fin 128) (l : Fin 1024) : (outsAt0 m c t.val t.isLt).2.1 (ix2 r l)
    = (dv (ZU z) (ZV z) (R1 a) (W3 w) (DD e) (rw_ (bl t) r) l : EReal) := by
  rw [out9]
  exact pay1_at _ _ r (x1 m z a b w s e c H t r) l _ _ (pay76_at _ _ _ _ _ _ _ r (pay6_at _ _ r (x1 m z a b w s e c H t r)) (hXh m z a b w s e c H t r)
    (hVx m z a b w s e c H t r) (iblk2 m z a b w s e c H t) l)
end

/-! ### The sums over the points -/

/-- A chunk's parts. -/
def DWp (n : Fin 32) (j : S8x128x128.Idx) : ℝ :=
  if (j 2).val ≤ (j 1).val then ∑ k, dm (ZU z) (DD e) (rw_ n (j 1)) (cl (j 0) k) * vn (ZV z) (R1 a) (R1 b) (rw_ n (j 2)) (cl (j 0) k) else 0
def DBp (n : Fin 32) (j : S128x128.Idx) : ℝ := if h : (j 1).val < 8 then ∑ k, dm (ZU z) (DD e) (rw_ n (j 0)) (cl ⟨(j 1).val, h⟩ k) else 0
def DLp (n : Fin 32) (j : S1x1024.Idx) : ℝ := ∑ r, dv' (ZU z) (W3 w) (DD e) (rw_ n r) (j 1)
def DGp (n : Fin 32) (j : S1x1024.Idx) : ℝ := ∑ r, dv' (ZU z) (W3 w) (DD e) (rw_ n r) (j 1) * xh (gv (ZV z) (rw_ n r)) (j 1)

theorem cast1024 (X : FVec Ideal S1x1024 .f32) (j : S1x1024.Idx) : shapeCast S1x1024 X shapeCasts_S1x1024_S1x1024 j = X j := by
  idx_vars j
  pointwise
theorem castSq (X : FVec Ideal S128x128 .f32) (j : S128x128.Idx) : shapeCast S128x128 X shapeCasts_S128x128_S128x128 j = X j := by
  idx_vars j
  pointwise

section
variable (H : Args m z a b w s e c) (t : Fin cfg0.N)
include H

theorem piece_at (O : FVec Ideal S8x128x128 .f32) (g : Fin 8) (x : S1x128x128.Idx) :
    gdw (Xp m c t) (Dp m c t) (mat O g) g x = O ((rw3 g).emb x) + (DWp z a b e (bl t) ((rw3 g).emb x) : EReal) := by
  idx_vars x
  obtain rfl : x0 = 0 := Subsingleton.elim _ _
  have hi : (rw3 g).emb (ix3 0 x1 x2) = ix3 g x1 x2 := by
    funext d
    apply Fin.ext
    match d with
    | ⟨0, _⟩ => show g.val + 1 * 0 = g.val; omega
    | ⟨1, _⟩ => show 0 + 1 * x1.val = x1.val; omega
    | ⟨2, _⟩ => show 0 + 1 * x2.val = x2.val; omega
  rw [hi]
  exact (gdw_at _ _ _ g _ _ (hXp m z a b w s e c H t) (hDp m z a b w s e c H t) x1 x2).trans (congrArg (· + _) (ld_mat O g x1 x2))
theorem pieces_at (O : FVec Ideal S8x128x128 .f32) (L : List (View.Piece (Elt Ideal) S8x128x128 .f32)) (j : S8x128x128.Idx) :
    View.canon (pieces (Xp m c t) (Dp m c t) O ++ L) j = O j + (DWp z a b e (bl t) j : EReal) := by
  have k : ∀ g (x : (piece (Xp m c t) (Dp m c t) O g).1.shape.Idx), (piece (Xp m c t) (Dp m c t) O g).2 x
      = O ((piece (Xp m c t) (Dp m c t) O g).1.emb x) + (DWp z a b e (bl t) ((piece (Xp m c t) (Dp m c t) O g).1.emb x) : EReal) :=
    fun g x => piece_at m z a b w s e c H t O g x
  exact View.canon_append_of_piecesOf (fun j => O j + (DWp z a b e (bl t) j : EReal)) L (pieces (Xp m c t) (Dp m c t) O)
    ⟨k 7, k 6, k 5, k 4, k 3, k 2, k 1, k 0, trivial⟩ j (View.cover_of_tiledL _ ![1, 128, 128] (by sl_kernel_rfl) j)

theorem dwA (hz : t.val % 32 = 0) (j : S8x128x128.Idx) : (outsAt0 m c t.val t.isLt).2.2.1 j = 0 + (DWp z a b e (bl t) j : EReal) := by
  obtain ⟨L, h⟩ := out10A m c t hz
  rw [h, pieces_at m z a b w s e c H t]
  exact congrArg (· + _) zero_word
theorem dwB (hz : ¬t.val % 32 = 0) (j : S8x128x128.Idx) : (outsAt0 m c t.val t.isLt).2.2.1 j = (outsAt0 m c (t.val - 1) (prev t)).2.2.1 j + (DWp z a b e (bl t) j : EReal) := by
  obtain ⟨L, h⟩ := out10B m c t hz
  rw [h, pieces_at m z a b w s e c H t]

theorem hDB (j : S128x128.Idx) : gdbs (Dp m c t) j = (DBp z e (bl t) j : EReal) := by
  idx_vars j
  exact gdbs_at _ _ (hDp m z a b w s e c H t) j0 j1
theorem dbA (hz : t.val % 32 = 0) (j : S128x128.Idx) : (outsAt0 m c t.val t.isLt).2.2.2.1 j = 0 + (DBp z e (bl t) j : EReal) := by
  rw [out11A m c t hz]
  show shapeCast S128x128 (k0_pay23 (F := Ideal)) shapeCasts_S128x128_S128x128 j + _ = _
  rw [castSq, hDB m z a b w s e c H t]
  exact congrArg (· + _) zero_word
theorem dbB (hz : ¬t.val % 32 = 0) (j : S128x128.Idx) : (outsAt0 m c t.val t.isLt).2.2.2.1 j = (outsAt0 m c (t.val - 1) (prev t)).2.2.2.1 j + (DBp z e (bl t) j : EReal) := by
  rw [out11B m c t hz]
  show shapeCast S128x128 (outsAt0 m c (t.val - 1) _).2.2.2.1 shapeCasts_S128x128_S128x128 j + _ = _
  rw [castSq, hDB m z a b w s e c H t]

theorem hDL (j : S1x1024.Idx) : glb (Vx m c t) j = (DLp z w e (bl t) j : EReal) := by
  idx_vars j
  obtain rfl : j0 = 0 := Subsingleton.elim _ _
  exact glb_at _ _ (hVx m z a b w s e c H t) j1
theorem hDG (j : S1x1024.Idx) : glb (mulf (Vx m c t) (Xh m c t)) j = (DGp z w e (bl t) j : EReal) := by
  idx_vars j
  obtain rfl : j0 = 0 := Subsingleton.elim _ _
  refine glb_at _ (fun r l => dv' (ZU z) (W3 w) (DD e) (rw_ (bl t) r) l * xh (gv (ZV z) (rw_ (bl t) r)) l) (fun r l => ?_) j1
  show Vx m c t (ix2 r l) * Xh m c t (ix2 r l) = _
  rw [hVx m z a b w s e c H t, hXh m z a b w s e c H t, mul_coe]
theorem dgA (hz : t.val % 32 = 0) (j : S1x1024.Idx) : (outsAt0 m c t.val t.isLt).2.2.2.2.1 j = 0 + (DGp z w e (bl t) j : EReal) := by
  rw [out12A m c t hz]
  show shapeCast S1x1024 (k0_pay24 (F := Ideal)) shapeCasts_S1x1024_S1x1024 j + _ = _
  rw [cast1024, hDG m z a b w s e c H t]
  exact congrArg (· + _) zero_word
theorem dgB (hz : ¬t.val % 32 = 0) (j : S1x1024.Idx) : (outsAt0 m c t.val t.isLt).2.2.2.2.1 j = (outsAt0 m c (t.val - 1) (prev t)).2.2.2.2.1 j + (DGp z w e (bl t) j : EReal) := by
  rw [out12B m c t hz]
  show shapeCast S1x1024 (outsAt0 m c (t.val - 1) _).2.2.2.2.1 shapeCasts_S1x1024_S1x1024 j + _ = _
  rw [cast1024, hDG m z a b w s e c H t]
theorem dlA (hz : t.val % 32 = 0) (j : S1x1024.Idx) : (outsAt0 m c t.val t.isLt).2.2.2.2.2 j = 0 + (DLp z w e (bl t) j : EReal) := by
  rw [out13A m c t hz]
  show shapeCast S1x1024 (k0_pay25 (F := Ideal)) shapeCasts_S1x1024_S1x1024 j + _ = _
  rw [cast1024, hDL m z a b w s e c H t]
  exact congrArg (· + _) zero_word
theorem dlB (hz : ¬t.val % 32 = 0) (j : S1x1024.Idx) : (outsAt0 m c t.val t.isLt).2.2.2.2.2 j = (outsAt0 m c (t.val - 1) (prev t)).2.2.2.2.2 j + (DLp z w e (bl t) j : EReal) := by
  rw [out13B m c t hz]
  show shapeCast S1x1024 (outsAt0 m c (t.val - 1) _).2.2.2.2.2 shapeCasts_S1x1024_S1x1024 j + _ = _
  rw [cast1024, hDL m z a b w s e c H t]
end

/-- The six results, as arrays. -/
def DUv : FVec Ideal S4096x1024 .bf16 := fun i => (du (ZU z) (ZV z) (R1 a) (R1 b) (W3 w) (B2 s) (DD e) (i 0) (i 1) : EReal)
def DVv : FVec Ideal S4096x1024 .bf16 := fun i => (dv (ZU z) (ZV z) (R1 a) (W3 w) (DD e) (i 0) (i 1) : EReal)
def DWv : FVec Ideal S8x128x128 .f32 := fun i => (dw (ZU z) (ZV z) (R1 a) (R1 b) (DD e) (i 0) (i 1) (i 2) : EReal)
def DBv : FVec Ideal S128x128 .f32 := fun i => ((if h : (i 1).val < 8 then db (ZU z) (DD e) ⟨(i 1).val, h⟩ (i 0) else 0 : ℝ) : EReal)
def DGv : FVec Ideal S1x1024 .f32 := fun i => (dlg (ZU z) (ZV z) (W3 w) (DD e) (i 1) : EReal)
def DLv : FVec Ideal S1x1024 .f32 := fun i => (dlb (ZU z) (W3 w) (DD e) (i 1) : EReal)

section
variable (H : Args m z a b w s e c) (t : Fin cfg0.N) (ht : t.val + 1 = cfg0.N)
include H ht

theorem dw_last (j : S8x128x128.Idx) : (outsAt0 m c t.val t.isLt).2.2.1 j = DWv z a b e j := by
  rw [Pipeline.eq_sum_fin_of_reset_step_apply_last (fun n h => (outsAt0 m c n h).2.2.1) 32 (fun _ => 0) (fun t j => (DWp z a b e (bl t) j : EReal))
    (fun t hz j => dwA m z a b w s e c H t hz j) (fun t hz j => dwB m z a b w s e c H t hz j) (by decide) t ht j, zero_add]
  show ∑ t : Fin cfg0.N, ((DWp z a b e (bl t) j : ℝ) : EReal) = _
  rw [coe_sum]
  refine congrArg _ ?_
  show ∑ n : Fin 32, DWp z a b e n j = _
  unfold DWp dw
  split_ifs
  · rfl
  · exact Finset.sum_const_zero
theorem db_last (j : S128x128.Idx) : (outsAt0 m c t.val t.isLt).2.2.2.1 j = DBv z e j := by
  rw [Pipeline.eq_sum_fin_of_reset_step_apply_last (fun n h => (outsAt0 m c n h).2.2.2.1) 32 (fun _ => 0) (fun t j => (DBp z e (bl t) j : EReal))
    (fun t hz j => dbA m z a b w s e c H t hz j) (fun t hz j => dbB m z a b w s e c H t hz j) (by decide) t ht j, zero_add]
  show ∑ t : Fin cfg0.N, ((DBp z e (bl t) j : ℝ) : EReal) = _
  rw [coe_sum]
  refine congrArg _ ?_
  show ∑ n : Fin 32, DBp z e n j = _
  unfold DBp db
  by_cases h : (j 1).val < 8
  · simp only [dif_pos h]
  · simp only [dif_neg h, Finset.sum_const_zero]
theorem dg_last (j : S1x1024.Idx) : (outsAt0 m c t.val t.isLt).2.2.2.2.1 j = DGv z w e j := by
  rw [Pipeline.eq_sum_fin_of_reset_step_apply_last (fun n h => (outsAt0 m c n h).2.2.2.2.1) 32 (fun _ => 0) (fun t j => (DGp z w e (bl t) j : EReal))
    (fun t hz j => dgA m z a b w s e c H t hz j) (fun t hz j => dgB m z a b w s e c H t hz j) (by decide) t ht j, zero_add]
  show ∑ t : Fin cfg0.N, ((DGp z w e (bl t) j : ℝ) : EReal) = _
  rw [coe_sum]
  rfl
theorem dl_last (j : S1x1024.Idx) : (outsAt0 m c t.val t.isLt).2.2.2.2.2 j = DLv z w e j := by
  rw [Pipeline.eq_sum_fin_of_reset_step_apply_last (fun n h => (outsAt0 m c n h).2.2.2.2.2) 32 (fun _ => 0) (fun t j => (DLp z w e (bl t) j : EReal))
    (fun t hz j => dlA m z a b w s e c H t hz j) (fun t hz j => dlB m z a b w s e c H t hz j) (by decide) t ht j, zero_add]
  show ∑ t : Fin cfg0.N, ((DLp z w e (bl t) j : ℝ) : EReal) = _
  rw [coe_sum]
  rfl
end

theorem last {t : Fin cfg0.N} (ht : t.val % 32 = 31) : t.val + 1 = cfg0.N := by
  have := t.isLt
  have hN : cfg0.N = 32 := rfl
  omega

theorem final8 (H : Args m z a b w s e c) : (dats m 0 c).arrAt 8 (cfgs 0).N = DUv z a b w s e := by
  refine (dats m 0 c).arrAt_eq_of_covers 8 _ (by decide +kernel) fun t hf y => ?_
  blk_simp
  rw [after0_8]
  obtain ⟨h0, h1, h2, h3, h4, h5, h6, h7, h8, h9, h10, h11, h12, h13⟩ := idx t
  idx_vars y
  refine (du_at m z a b w s e c H t y0 y1).trans ?_
  show DUv z a b w s e (ix2 (rw_ (bl t) y0) y1) = _
  blk_ext [h8]
theorem final9 (H : Args m z a b w s e c) : (dats m 0 c).arrAt 9 (cfgs 0).N = DVv z a w e := by
  refine (dats m 0 c).arrAt_eq_of_covers 9 _ (by decide +kernel) fun t hf y => ?_
  blk_simp
  rw [after0_9]
  obtain ⟨h0, h1, h2, h3, h4, h5, h6, h7, h8, h9, h10, h11, h12, h13⟩ := idx t
  idx_vars y
  refine (dv_at m z a b w s e c H t y0 y1).trans ?_
  show DVv z a w e (ix2 (rw_ (bl t) y0) y1) = _
  blk_ext [h9]
theorem final10 (H : Args m z a b w s e c) : (dats m 0 c).arrAt 10 (cfgs 0).N = DWv z a b e := by
  refine (dats m 0 c).arrAt_eq_of_covers 10 _ (by decide +kernel) fun t hf y => ?_
  blk_simp
  obtain ⟨h0, h1, h2, h3, h4, h5, h6, h7, h8, h9, h10, h11, h12, h13⟩ := idx t
  rw [after0_10, dw_last m z a b w s e c H t (last ((flush0_10 t).mp hf))]
  idx_vars y
  show DWv z a b e (ix3 y0 y1 y2) = _
  blk_ext [h10]
theorem final11 (H : Args m z a b w s e c) : (dats m 0 c).arrAt 11 (cfgs 0).N = DBv z e := by
  refine (dats m 0 c).arrAt_eq_of_covers 11 _ (by decide +kernel) fun t hf y => ?_
  blk_simp
  obtain ⟨h0, h1, h2, h3, h4, h5, h6, h7, h8, h9, h10, h11, h12, h13⟩ := idx t
  rw [after0_11, db_last m z a b w s e c H t (last ((flush0_11 t).mp hf))]
  idx_vars y
  show DBv z e (ix2 y0 y1) = _
  blk_ext [h11]
theorem final12 (H : Args m z a b w s e c) : (dats m 0 c).arrAt 12 (cfgs 0).N = DGv z w e := by
  refine (dats m 0 c).arrAt_eq_of_covers 12 _ (by decide +kernel) fun t hf y => ?_
  blk_simp
  obtain ⟨h0, h1, h2, h3, h4, h5, h6, h7, h8, h9, h10, h11, h12, h13⟩ := idx t
  rw [after0_12, dg_last m z a b w s e c H t (last ((flush0_12 t).mp hf))]
  idx_vars y
  show DGv z w e (ix2 y0 y1) = _
  blk_ext [h12]
theorem final13 (H : Args m z a b w s e c) : (dats m 0 c).arrAt 13 (cfgs 0).N = DLv z w e := by
  refine (dats m 0 c).arrAt_eq_of_covers 13 _ (by decide +kernel) fun t hf y => ?_
  blk_simp
  obtain ⟨h0, h1, h2, h3, h4, h5, h6, h7, h8, h9, h10, h11, h12, h13⟩ := idx t
  rw [after0_13, dl_last m z a b w s e c H t (last ((flush0_13 t).mp hf))]
  idx_vars y
  show DLv z w e (ix2 y0 y1) = _
  blk_ext [h13]

end Cert.Sgu

end
-- ==== Proof.SguRef.lean ====
/-
  The spatial gating gradient's reference: the gelu, the layer norm and the mixed rows.
-/
module

public import proofs.«01_k».proof.Proof.SguMath
public import proofs.«01_k».proof.Proof.AttnRef
public import proofs.«01_k».proof.Proof.Gen.Reference11Ideal.Read

@[expose] public section

set_option maxRecDepth 16384

noncomputable section

open Idealize.ShloMosaic Idealize.ShloMosaic.TcCoe Idealize.SL.Sem

namespace Cert.Sgu

open Cert.Reference11Ideal Cert.Reference11Ideal.Read Cert.Lift
open Cert.Norm (ε ε_word neg_half_word)

variable (z : S4096x3328.Idx → ℝ) (a b : S1x1024.Idx → ℝ) (w : S8x128x128.Idx → ℝ) (s : S8x128.Idx → ℝ) (e : S4096x2048.Idx → ℝ)
variable (i : Fin 4096) (l : Fin 1024)

theorem tanh_real (x : ℝ) : Ideal.tanh (x : EReal) = (Real.tanh x : EReal) := rfl

theorem v4 : val_main_v4 (F := Ideal) (up z) (ix3 0 i l) = (ZU z i l : EReal) := by
  pointwise [val_main_v4, val_main_v2]
theorem v5 : val_main_v5 (F := Ideal) (up z) (ix3 0 i l) = (ZV z i l : EReal) := by
  pointwise [val_main_v5, val_main_v3]
theorem v19 : val_main_v19 (F := Ideal) (up z) (ix3 0 i l) = (th (ZU z i l) : EReal) := by
  have h := v4 z i l
  unfold val_main_v19 val_main_v18 val_main_v16 val_main_v15 val_main_v10 val_main_v9
  generalize val_main_v4 (F := Ideal) (up z) = W at h ⊢
  pointwise [val_main_v17, val_main_cst_2, val_main_v14, val_main_v8, val_main_cst, val_main_cst_0]
  rw [h, num_word, den_word, K_word, div_coe _ _ (by norm_num : (1000000 : ℝ) ≠ 0)]
  simp only [mul_coe, add_coe, tanh_real]
  rfl
theorem v41 : val_main_v41 (F := Ideal) (up z) (ix3 0 i l) = (th (ZV z i l) : EReal) := by
  have h := v5 z i l
  unfold val_main_v41 val_main_v40 val_main_v38 val_main_v37 val_main_v32 val_main_v31
  generalize val_main_v5 (F := Ideal) (up z) = W at h ⊢
  pointwise [val_main_v39, val_main_cst_10, val_main_v36, val_main_v30, val_main_cst_7, val_main_cst_8]
  rw [h, num_word, den_word, K_word, div_coe _ _ (by norm_num : (1000000 : ℝ) ≠ 0)]
  simp only [mul_coe, add_coe, tanh_real]
  rfl
theorem v28 : val_main_v28 (F := Ideal) (up z) (ix3 0 i l) = ((1 / 2 * (1 + th (ZU z i l)) : ℝ) : EReal) := by
  have h := v19 z i l
  unfold val_main_v28 val_main_v26
  generalize val_main_v19 (F := Ideal) (up z) = W at h ⊢
  pointwise [val_main_v27, val_main_cst_6, val_main_v25, val_main_cst_5]
  rw [h, half_word, one_coe]
  simp only [mul_coe, add_coe]
theorem v50 : val_main_v50 (F := Ideal) (up z) (ix3 0 i l) = ((1 / 2 * (1 + th (ZV z i l)) : ℝ) : EReal) := by
  have h := v41 z i l
  unfold val_main_v50 val_main_v48
  generalize val_main_v41 (F := Ideal) (up z) = W at h ⊢
  pointwise [val_main_v49, val_main_cst_14, val_main_v47, val_main_cst_13]
  rw [h, half_word, one_coe]
  simp only [mul_coe, add_coe]
theorem v24 : val_main_v24 (F := Ideal) (up z) (ix3 0 i l) = (((1 + th (ZU z i l)) * (1 - th (ZU z i l)) : ℝ) : EReal) := by
  have h := v19 z i l
  unfold val_main_v24 val_main_v21 val_main_v23
  generalize val_main_v19 (F := Ideal) (up z) = W at h ⊢
  pointwise [val_main_v20, val_main_cst_3, val_main_v22, val_main_cst_4]
  rw [h, one_coe]
  simp only [mul_coe, add_coe, sub_coe]
theorem v46 : val_main_v46 (F := Ideal) (up z) (ix3 0 i l) = (((1 + th (ZV z i l)) * (1 - th (ZV z i l)) : ℝ) : EReal) := by
  have h := v41 z i l
  unfold val_main_v46 val_main_v43 val_main_v45
  generalize val_main_v41 (F := Ideal) (up z) = W at h ⊢
  pointwise [val_main_v42, val_main_cst_11, val_main_v44, val_main_cst_12]
  rw [h, one_coe]
  simp only [mul_coe, add_coe, sub_coe]
theorem v29 : val_main_v29 (F := Ideal) (up z) (ix3 0 i l) = (gl (ZU z i l) : EReal) := by
  rw [val_main_v29_apply, v4, v28]
  exact mul_coe _ _
theorem v51 : val_main_v51 (F := Ideal) (up z) (ix3 0 i l) = (gv (ZV z) i l : EReal) := by
  rw [val_main_v51_apply, v5, v50]
  exact mul_coe _ _

/-! ### The layer norm -/

theorem v55 (q : Fin 1) : val_main_v55 (F := Ideal) (up z) (ix3 0 i q) = (mu (gv (ZV z) i) : EReal) := by
  have h := v51 z i
  unfold val_main_v55 val_main_v53 val_main_v52
  generalize val_main_v51 (F := Ideal) (up z) = W at h ⊢
  pointwise [val_main_v54, val_main_cst_16, val_main_cst_15]
  simp only [h, coe_sum, zero_word, add_coe, width_word, zero_coe, zero_add, div_coe _ _ (by norm_num : (1024 : ℝ) ≠ 0)]
  rfl
theorem v66 : val_main_v66 (F := Ideal) (up z) (ix3 0 i l) = ((gv (ZV z) i l - mu (gv (ZV z) i) : ℝ) : EReal) := by
  have h := v51 z i l
  have h5 := v55 z i 0
  unfold val_main_v66 val_main_v65
  generalize val_main_v51 (F := Ideal) (up z) = W at h ⊢
  generalize val_main_v55 (F := Ideal) (up z) = M at h5 ⊢
  pointwise
  rw [h, h5, sub_coe]
theorem v60 : val_main_v60 (F := Ideal) (up z) (ix3 0 i l) = ((2 * (gv (ZV z) i l - mu (gv (ZV z) i)) : ℝ) : EReal) := by
  have h : val_main_v57 (F := Ideal) (up z) (ix3 0 i l) = _ := v66 z i l
  unfold val_main_v60
  generalize val_main_v57 (F := Ideal) (up z) = W at h ⊢
  pointwise [val_main_v59, val_main_cst_17]
  rw [h, two_word, mul_coe]
theorem v68 (q : Fin 1) : val_main_v68 (F := Ideal) (up z) (ix3 0 i q) = (va (gv (ZV z) i) : EReal) := by
  have h : ∀ l, val_main_v57 (F := Ideal) (up z) (ix3 0 i l) = _ := v66 z i
  unfold val_main_v68 val_main_v64 val_main_v62 val_main_v61 val_main_v58
  generalize val_main_v57 (F := Ideal) (up z) = W at h ⊢
  pointwise [val_main_v67, val_main_cst_20, val_main_v63, val_main_cst_19, val_main_cst_18]
  simp only [h, mul_coe, coe_sum, zero_word, add_coe, width_word, ε_word, zero_coe, zero_add, div_coe _ _ (by norm_num : (1024 : ℝ) ≠ 0)]
  rfl
theorem v69 (q : Fin 1) : val_main_v69 (F := Ideal) (up z) (ix3 0 i q) = (rs (gv (ZV z) i) : EReal) := by
  rw [val_main_v69_apply, v68]; exact rsqrt_va _
theorem v72 (q : Fin 1) : val_main_v72 (F := Ideal) (up z) (ix3 0 i q) = ((-(1 / 2) * (rs (gv (ZV z) i) / va (gv (ZV z) i)) : ℝ) : EReal) := by
  have h8 := v68 z i q
  have h9 := v69 z i q
  unfold val_main_v72 val_main_v70
  generalize val_main_v68 (F := Ideal) (up z) = W at h8 ⊢
  generalize val_main_v69 (F := Ideal) (up z) = X at h9 ⊢
  pointwise [val_main_v71, val_main_cst_21]
  rw [h8, h9, neg_half_word, div_coe _ _ (va_ne _), mul_coe]
theorem v74 : val_main_v74 (F := Ideal) (up z) (ix3 0 i l) = (xh (gv (ZV z) i) l : EReal) := by
  have h6 := v66 z i l
  have h9 := v69 z i 0
  unfold val_main_v74 val_main_v73
  generalize val_main_v66 (F := Ideal) (up z) = W at h6 ⊢
  generalize val_main_v69 (F := Ideal) (up z) = X at h9 ⊢
  pointwise
  rw [h6, h9, mul_coe]
  rfl
theorem v80 : val_main_v80 (F := Ideal) (up z) (up a) (up b) (ix3 0 i l) = (vn (ZV z) (R1 a) (R1 b) i l : EReal) := by
  have h := v74 z i l
  unfold val_main_v80 val_main_v77
  generalize val_main_v74 (F := Ideal) (up z) = W at h ⊢
  pointwise [val_main_v76, val_main_v75, val_main_v6, val_main_v79, val_main_v78, val_main_v7]
  rw [h]
  simp only [mul_coe, add_coe]
  rfl
theorem v81 (n : Fin 32) (p : Fin 128) (g : Fin 8) (k : Fin 128) : val_main_v81 (F := Ideal) (up z) (up a) (up b) (ix5 0 n p g k) = (vn (ZV z) (R1 a) (R1 b) (rw_ n p) (cl g k) : EReal) := by
  have h := v80 z a b (rw_ n p) (cl g k)
  unfold val_main_v81
  generalize val_main_v80 (F := Ideal) (up z) (up a) (up b) = W at h ⊢
  pointwise
  exact h

/-! ### The mixed rows -/

theorem v83 (p j : Fin 128) : val_main_v83 (F := Ideal) (ix2 p j) = ((if j.val ≤ p.val then 1 else 0 : ℝ) : EReal) := by
  pointwise [val_main_v83, val_main_call0_v4, val_main_call0_v2, val_main_call0_v0, val_main_call0_v1, val_main_call0_c, val_main_call0_v3, val_main_v82, val_main_cst_22, val_main_call0_v5, val_main_call0_cst]
  have hr : (IntOp.addi (BitVec.ofNat 32 p.val) 0#32).toInt = (p.val : ℤ) := by
    show (BitVec.ofNat 32 p.val + 0#32).toInt = _
    rw [BitVec.add_zero, Cert.Attn.word _ (by omega)]
  rw [Cert.Attn.cmp_sge, hr, Cert.Attn.word _ (by omega : j.val < 4096)]
  by_cases h : j.val ≤ p.val
  · rw [if_pos h, decide_eq_true (by omega : (j.val : ℤ) ≤ p.val)]; rfl
  · rw [if_neg h, decide_eq_false (by omega : ¬(j.val : ℤ) ≤ p.val)]; exact zero_coe
theorem v84 (p j : Fin 128) : val_main_v84 (F := Ideal) (ix3 0 p j) = ((if j.val ≤ p.val then 1 else 0 : ℝ) : EReal) := by
  have h := v83 p j
  unfold val_main_v84
  generalize val_main_v83 (F := Ideal) = W at h ⊢
  pointwise
  exact h
theorem v86 (g : Fin 8) (p j : Fin 128) : val_main_v86 (F := Ideal) (up w) (ix3 g p j) = (wc (W3 w) g p j : EReal) := by
  have h := v84 p j
  unfold val_main_v86 val_main_v85
  generalize val_main_v84 (F := Ideal) = W at h ⊢
  pointwise
  rw [h, mul_coe]
  refine congrArg _ ?_
  unfold wc
  split_ifs
  · exact mul_one _
  · exact mul_zero _
theorem v92 (n : Fin 32) (p : Fin 128) (g : Fin 8) (k : Fin 128) : val_main_v92 (F := Ideal) (up z) (up a) (up b) (up w) (up s) (ix5 0 n p g k)
    = (mix (ZV z) (R1 a) (R1 b) (W3 w) (B2 s) n p g k : EReal) := by
  have h1 := v81 z a b n
  have h6 := v86 w g p
  unfold val_main_v92 val_main_v88 val_main_v87
  generalize val_main_v81 (F := Ideal) (up z) (up a) (up b) = X at h1 ⊢
  generalize val_main_v86 (F := Ideal) (up w) = Y at h6 ⊢
  pointwise [val_main_v91, val_main_v90, val_main_v89]
  simp only [h1, h6, mul_coe, coe_sum, add_coe, up]
  refine congrArg _ (congrArg (· + _) (Finset.sum_congr rfl fun j _ => mul_comm _ _))
theorem v93 : val_main_v93 (F := Ideal) (up z) (up a) (up b) (up w) (up s) (ix3 0 i l) = (mix (ZV z) (R1 a) (R1 b) (W3 w) (B2 s) (rn i) (rp i) (cg l) (ck l) : EReal) := by
  have h := v92 z a b w s (rn i) (rp i) (cg l) (ck l)
  unfold val_main_v93
  generalize val_main_v92 (F := Ideal) (up z) (up a) (up b) (up w) (up s) = X at h ⊢
  pointwise
  exact h

end Cert.Sgu

end
-- ==== Proof.SguRefB.lean ====
/-
  The spatial gating gradient's reference: the six gradients.
-/
module

public import proofs.«01_k».proof.Proof.SguRef

@[expose] public section

set_option maxRecDepth 16384

noncomputable section

open Idealize.ShloMosaic Idealize.ShloMosaic.TcCoe Idealize.SL.Sem

namespace Cert.Sgu

open Cert.Reference11Ideal Cert.Reference11Ideal.Read Cert.Lift

variable (z : S4096x3328.Idx → ℝ) (a b : S1x1024.Idx → ℝ) (w : S8x128x128.Idx → ℝ) (s : S8x128.Idx → ℝ) (e : S4096x2048.Idx → ℝ)
variable (i : Fin 4096) (l : Fin 1024)

theorem v96 : val_main_v96 (F := Ideal) (up e) (ix3 0 i l) = (DD e i l : EReal) := by
  pointwise [val_main_v96, val_main_v1, val_main_v0]
theorem v97 : val_main_v97 (F := Ideal) (up z) (up e) (ix3 0 i l) = (dm (ZU z) (DD e) i l : EReal) := by
  rw [val_main_v97_apply, v29, v96]
  exact mul_coe _ _
theorem v98 : val_main_v98 (F := Ideal) (up z) (up a) (up b) (up w) (up s) (up e) (ix3 0 i l)
    = ((DD e i l * mix (ZV z) (R1 a) (R1 b) (W3 w) (B2 s) (rn i) (rp i) (cg l) (ck l) : ℝ) : EReal) := by
  rw [val_main_v98_apply, v93, v96]
  exact mul_coe _ _
theorem v99 (n : Fin 32) (p : Fin 128) (g : Fin 8) (k : Fin 128) : val_main_v99 (F := Ideal) (up z) (up e) (ix5 0 n p g k) = (dm (ZU z) (DD e) (rw_ n p) (cl g k) : EReal) := by
  have h := v97 z e (rw_ n p) (cl g k)
  unfold val_main_v99
  generalize val_main_v97 (F := Ideal) (up z) (up e) = W at h ⊢
  pointwise
  exact h

/-- The slope, as the reference multiplies it out. -/
theorem gs_eq (x d : ℝ) : d * (1 / 2 * (1 + th x)) + K * (1 / 2 * (x * d) * ((1 + th x) * (1 - th x)))
    + 44715 / 1000000 * (K * (1 / 2 * (x * d) * ((1 + th x) * (1 - th x)))) * (3 * (x * x)) = d * gs x := by
  unfold gs cc; ring

theorem v177 : val_main_v177 (F := Ideal) (up z) (up a) (up b) (up w) (up s) (up e) (ix2 i l) = (du (ZU z) (ZV z) (R1 a) (R1 b) (W3 w) (B2 s) (DD e) i l : EReal) := by
  have h1 := v98 z a b w s e i l
  have h2 := v28 z i l
  have h3 := v24 z i l
  have h4 := v4 z i l
  unfold val_main_v177 val_main_v173 val_main_v169 val_main_v168 val_main_v167 val_main_v165 val_main_v164 val_main_v162 val_main_v161 val_main_v159 val_main_v158 val_main_v13 val_main_v11
  generalize val_main_v98 (F := Ideal) (up z) (up a) (up b) (up w) (up s) (up e) = X1 at h1 ⊢
  generalize val_main_v28 (F := Ideal) (up z) = X2 at h2 ⊢
  generalize val_main_v24 (F := Ideal) (up z) = X3 at h3 ⊢
  generalize val_main_v4 (F := Ideal) (up z) = X4 at h4 ⊢
  pointwise [val_main_cst_41, val_main_v166, val_main_v8, val_main_cst, val_main_cst_0, val_main_v163, val_main_cst_39, val_main_v160, val_main_cst_38, val_main_v12, val_main_cst_1]
  refine (Fin.sum_univ_one _).trans ?_
  rw [h1, h2, h3, h4, num_word, den_word, K_word, half_word, three_word, div_coe _ _ (by norm_num : (1000000 : ℝ) ≠ 0)]
  simp only [mul_coe, add_coe]
  exact congrArg _ (gs_eq _ _)

/-! ### The weights' and the biases' gradients -/

/-- The weights' product, over a chunk's channels and all chunks. -/
theorem dot3 (L : FVec Ideal S8x1x32x128x128 .f32) (R : FVec Ideal S1x32x128x8x128 .f32) (g : Fin 8) (p j : Fin 128) :
    Ideal.matmul dot_S8x1x32x128x128_S1x32x128x8x128_S8x128x128_123_014_4_2_0_3 L R (fun _ => 0) (ix3 g p j)
      = ∑ a : Fin 1, ∑ n : Fin 32, ∑ k : Fin 128, L (ix5 g a n k p) * R (ix5 a n j g k) := by
  refine (zero_add _).trans ((Finset.sum_congr rfl fun q _ => ?_).trans
    (sum3 dot_S8x1x32x128x128_S1x32x128x8x128_S8x128x128_123_014_4_2_0_3.contr.size fun (a : Fin 1) (n : Fin 32) (k : Fin 128) => L (ix5 g a n k p) * R (ix5 a n j g k)))
  refine congrArg₂ (· * ·) (congrArg L (funext fun x => ?_)) (congrArg R (funext fun x => ?_))
  · match x with
    | ⟨0, _⟩ => rfl
    | ⟨1, _⟩ => rfl
    | ⟨2, _⟩ => rfl
    | ⟨3, _⟩ => rfl
    | ⟨4, _⟩ => rfl
  · match x with
    | ⟨0, _⟩ => rfl
    | ⟨1, _⟩ => rfl
    | ⟨2, _⟩ => rfl
    | ⟨3, _⟩ => rfl
    | ⟨4, _⟩ => rfl

theorem v109 (g : Fin 8) (p j : Fin 128) : val_main_v109 (F := Ideal) (up z) (up a) (up b) (up e) (ix3 g p j) = (dw (ZU z) (ZV z) (R1 a) (R1 b) (DD e) g p j : EReal) := by
  have h1 := v81 z a b
  have h2 := v99 z e
  have h4 := v84 p j
  unfold val_main_v109 val_main_v108 val_main_v105 val_main_v104
  generalize val_main_v81 (F := Ideal) (up z) (up a) (up b) = X1 at h1 ⊢
  generalize val_main_v99 (F := Ideal) (up z) (up e) = X2 at h2 ⊢
  generalize val_main_v84 (F := Ideal) = X4 at h4 ⊢
  pointwise
  rw [h4]
  refine (congrArg (· * _) (dot3 _ _ g p j)).trans ?_
  refine (congrArg (· * _) (Fin.sum_univ_one _)).trans ?_
  have k : ∀ n k, transpose S8x1x32x128x128 [3, 0, 1, 4, 2] X2 Gen.transposes_S1x32x128x8x128_S8x1x32x128x128_3_0_1_4_2 (ix5 g 0 n k p) = X2 (ix5 0 n p g k) := fun n k => by pointwise
  simp only [k, h1, h2, mul_coe, coe_sum]
  refine congrArg _ ?_
  unfold dw
  split_ifs
  · exact mul_one _
  · exact mul_zero _

theorem v107 (n : Fin 32) (j : Fin 128) (g : Fin 8) (k : Fin 128) : val_main_v107 (F := Ideal) (up z) (up w) (up e) (ix5 0 n j g k) = (dvn (ZU z) (W3 w) (DD e) n j g k : EReal) := by
  have h2 := v99 z e n
  have h6 := v86 w g
  unfold val_main_v107 val_main_v106 val_main_v104
  generalize val_main_v99 (F := Ideal) (up z) (up e) = X2 at h2 ⊢
  generalize val_main_v86 (F := Ideal) (up w) = X6 at h6 ⊢
  pointwise
  simp only [h2, h6, mul_coe, coe_sum]
  exact congrArg _ (Finset.sum_congr rfl fun p _ => mul_comm _ _)
theorem v110 : val_main_v110 (F := Ideal) (up z) (up w) (up e) (ix3 0 i l) = (dv' (ZU z) (W3 w) (DD e) i l : EReal) := by
  have h := v107 z w e (rn i) (rp i) (cg l) (ck l)
  unfold val_main_v110
  generalize val_main_v107 (F := Ideal) (up z) (up w) (up e) = W at h ⊢
  pointwise
  exact h

theorem v103 (g : Fin 8) (p : Fin 128) : val_main_v103 (F := Ideal) (up z) (up e) (ix2 g p) = (db (ZU z) (DD e) g p : EReal) := by
  have h := fun n k => v99 z e n p g k
  unfold val_main_v103 val_main_v102 val_main_v101 val_main_v100
  generalize val_main_v99 (F := Ideal) (up z) (up e) = W at h ⊢
  pointwise [val_main_cst_24, val_main_cst_23]
  refine (reduce_014 _ _ _ p g).trans ?_
  rw [zero_add]
  have k : ∀ X : FVec Ideal S1x128x8 .f32, shapeCast S1x1x128x8x1 X Gen.shapeCasts_S1x128x8_S1x1x128x8x1 (ix5 0 0 p g 0) = X (ix3 0 p g) := fun X => by pointwise
  refine (k _).trans ((reduce_14 _ _ _ 0 p g).trans ?_)
  simp only [h, coe_sum]
  exact (congrArg (· + _) zero_word).trans (zero_add _)
theorem v176 (p l : Fin 128) : val_main_v176 (F := Ideal) (up z) (up e) (ix2 p l) = ((if h : l.val < 8 then db (ZU z) (DD e) ⟨l.val, h⟩ p else 0 : ℝ) : EReal) := by
  have h := fun g => v103 z e g p
  unfold val_main_v176 val_main_v174
  generalize val_main_v103 (F := Ideal) (up z) (up e) = W at h ⊢
  pointwise [val_main_v175, val_main_cst_42]
  by_cases hl : l.val < 8
  · rw [dif_pos hl, dif_pos hl]; exact h _
  · rw [dif_neg hl, dif_neg hl]; exact zero_coe

theorem v170 (q : Fin 1) : val_main_v170 (F := Ideal) (up z) (up w) (up e) (ix2 q l) = (dlb (ZU z) (W3 w) (DD e) l : EReal) := by
  have h := fun i => v110 z w e i l
  unfold val_main_v170 val_main_v113 val_main_v112 val_main_v111
  generalize val_main_v110 (F := Ideal) (up z) (up w) (up e) = W at h ⊢
  pointwise [val_main_cst_25, val_main_cst_26]
  refine (reduce_01 _ _ _ l).trans ?_
  pointwise
  simp only [h, coe_sum, zero_add]
  exact congrArg _ (sum_rows _)
theorem v171 (q : Fin 1) : val_main_v171 (F := Ideal) (up z) (up w) (up e) (ix2 q l) = (dlg (ZU z) (ZV z) (W3 w) (DD e) l : EReal) := by
  have h := fun i => v110 z w e i l
  have h4 := fun i => v74 z i l
  unfold val_main_v171 val_main_v119 val_main_v116 val_main_v115 val_main_v114
  generalize val_main_v110 (F := Ideal) (up z) (up w) (up e) = W at h ⊢
  generalize val_main_v74 (F := Ideal) (up z) = X at h4 ⊢
  pointwise [val_main_cst_27, val_main_cst_29]
  refine (reduce_01 _ _ _ l).trans ?_
  pointwise [val_main_cst_28]
  simp only [h, h4, mul_coe, coe_sum, zero_add]
  refine congrArg _ ((sum_rows _).trans ?_)
  exact Finset.sum_congr rfl fun n _ => Finset.sum_congr rfl fun p _ => mul_comm _ _

/-! ### The layer norm's gradient -/

abbrev DX (k : Fin 1024) : ℝ := dv' (ZU z) (W3 w) (DD e) i k * R1 a k
theorem v118 : val_main_v118 (F := Ideal) (up z) (up a) (up w) (up e) (ix3 0 i l) = (DX z a w e i l : EReal) := by
  have h := v110 z w e i l
  unfold val_main_v118
  generalize val_main_v110 (F := Ideal) (up z) (up w) (up e) = W at h ⊢
  pointwise [val_main_v117, val_main_v75, val_main_v6]
  rw [h, mul_coe]
theorem v124 : val_main_v124 (F := Ideal) (up z) (up a) (up w) (up e) (ix3 0 i l) = ((DX z a w e i l * rs (gv (ZV z) i) : ℝ) : EReal) := by
  have h := v118 z a w e i l
  have h9 := v69 z i 0
  unfold val_main_v124 val_main_v123
  generalize val_main_v118 (F := Ideal) (up z) (up a) (up w) (up e) = W at h ⊢
  generalize val_main_v69 (F := Ideal) (up z) = X at h9 ⊢
  pointwise
  rw [h, h9, mul_coe]
theorem v130 (q : Fin 1) : val_main_v130 (F := Ideal) (up z) (up a) (up w) (up e) (ix3 0 i q) = (pv (gv (ZV z) i) (DX z a w e i) : EReal) := by
  have h := v118 z a w e i
  have h6 := v66 z i
  have h2 := fun q => v72 z i q
  unfold val_main_v130 val_main_v125 val_main_v122 val_main_v121 val_main_v120
  generalize val_main_v118 (F := Ideal) (up z) (up a) (up w) (up e) = W at h ⊢
  generalize val_main_v66 (F := Ideal) (up z) = X at h6 ⊢
  generalize val_main_v72 (F := Ideal) (up z) = Y at h2 ⊢
  pointwise [val_main_v129, val_main_cst_31, val_main_cst_29]
  simp only [h, h6, h2, mul_coe, coe_sum, width_word, zero_word, zero_coe, add_coe, zero_add, div_coe _ _ (by norm_num : (1024 : ℝ) ≠ 0)]
  rfl
theorem v134 : val_main_v134 (F := Ideal) (up z) (up a) (up w) (up e) (ix3 0 i l)
    = ((pv (gv (ZV z) i) (DX z a w e i) * (2 * (gv (ZV z) i l - mu (gv (ZV z) i))) : ℝ) : EReal) := by
  have h := fun q => v130 z a w e i q
  have h6 := v60 z i l
  unfold val_main_v134 val_main_v133 val_main_v132 val_main_v131
  generalize val_main_v130 (F := Ideal) (up z) (up a) (up w) (up e) = W at h ⊢
  generalize val_main_v60 (F := Ideal) (up z) = X at h6 ⊢
  pointwise [val_main_cst_32]
  rw [h6]
  refine (congrArg (· * _) ((reduce_02 _ _ _ i).trans ((zero_add _).trans (h 0)))).trans (mul_coe _ _)
theorem v145 : val_main_v145 (F := Ideal) (up z) (up a) (up w) (up e) (ix3 0 i l) = (lng (gv (ZV z) i) (DX z a w e i) l : EReal) := by
  have h := v124 z a w e i
  have h4 := v134 z a w e i
  unfold val_main_v145 val_main_v144 val_main_v143 val_main_v142 val_main_v141 val_main_v139 val_main_v138 val_main_v137 val_main_v136 val_main_v135 val_main_v128 val_main_v127 val_main_v126
  generalize val_main_v124 (F := Ideal) (up z) (up a) (up w) (up e) = W at h ⊢
  generalize val_main_v134 (F := Ideal) (up z) (up a) (up w) (up e) = X at h4 ⊢
  pointwise [val_main_cst_35, val_main_v140, val_main_cst_34, val_main_cst_33, val_main_cst_30]
  refine (congrArg (_ + ·) ((reduce_02 _ _ _ i).trans (zero_add _))).trans ?_
  pointwise
  simp only [h, h4, neg_coe, coe_sum, add_coe, width_word, zero_add, div_coe _ _ (by norm_num : (1024 : ℝ) ≠ 0)]
  exact congrArg _ (lng_eq _ _ _)
theorem v178 : val_main_v178 (F := Ideal) (up z) (up a) (up w) (up e) (ix2 i l) = (dv (ZU z) (ZV z) (R1 a) (W3 w) (DD e) i l : EReal) := by
  have h1 := v145 z a w e i l
  have h2 := v50 z i l
  have h3 := v46 z i l
  have h4 := v5 z i l
  unfold val_main_v178 val_main_v172 val_main_v157 val_main_v156 val_main_v155 val_main_v153 val_main_v152 val_main_v150 val_main_v149 val_main_v147 val_main_v146 val_main_v35 val_main_v33
  generalize val_main_v145 (F := Ideal) (up z) (up a) (up w) (up e) = X1 at h1 ⊢
  generalize val_main_v50 (F := Ideal) (up z) = X2 at h2 ⊢
  generalize val_main_v46 (F := Ideal) (up z) = X3 at h3 ⊢
  generalize val_main_v5 (F := Ideal) (up z) = X4 at h4 ⊢
  pointwise [val_main_cst_40, val_main_v154, val_main_v30, val_main_cst_7, val_main_cst_8, val_main_v151, val_main_cst_37, val_main_v148, val_main_cst_36, val_main_v34, val_main_cst_9]
  refine (Fin.sum_univ_one _).trans ?_
  rw [h1, h2, h3, h4, num_word, den_word, K_word, half_word, three_word, div_coe _ _ (by norm_num : (1000000 : ℝ) ≠ 0)]
  simp only [mul_coe, add_coe]
  exact congrArg _ (gs_eq _ _)

end Cert.Sgu

end
-- ==== Proof.SguClaims.lean ====
/-
  The claims about the spatial gating's gradient.
-/
module

public import proofs.«01_k».proof.Defs
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.SguKer
public import proofs.«01_k».proof.Proof.SguRefB
public import Idealize.ShloMosaic.Lib.Claim

@[expose] public section

set_option maxRecDepth 16384

noncomputable section

open Idealize.ShloMosaic Idealize.ShloMosaic.TcCoe Idealize.SL.Sem
open Cert.Lift

namespace Cert.Sgu

theorem frame_p : Cert.quiescent_Kernel11 (hKernel11 := Cert.Kernel11.Gen.facts) := fun m ρ _ => Cert.Kernel11.Gen.frame m ρ

theorem frame_pi : Cert.quiescent_Kernel11Ideal (hKernel11Ideal := Cert.Kernel11Ideal.Gen.facts) := fun m ρ _ => Cert.Kernel11Ideal.Gen.frame m ρ

theorem frame_ri : Cert.quiescent_Reference11Ideal (hReference11Ideal := Cert.Reference11Ideal.Gen.facts) := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

theorem frame_pi_fin : Cert.quiescent_Kernel11Ideal_pre_finite11 (hKernel11Ideal := Cert.Kernel11Ideal.Gen.facts)
    (hPre_finite11 := Cert.Pre_finite11.Gen.facts) := fun m ρ _ => Cert.Kernel11Ideal.Gen.frame m ρ

theorem frame_ri_fin : Cert.quiescent_Reference11Ideal_pre_finite11 (hReference11Ideal := Cert.Reference11Ideal.Gen.facts)
    (hPre_finite11 := Cert.Pre_finite11.Gen.facts) := fun m ρ _ => frame_ri m ρ trivial

/-- Finite arguments are real arrays. -/
theorem args (m) (h : Cert.Pre_Kernel11Ideal_finite11 (hPre_finite11 := Cert.Pre_finite11.Gen.facts) m) (c) :
    ∃ z a b w s e, Args m z a b w s e c :=
  ⟨_, _, _, _, _, _, real_of _ _ (h c).1, real_of _ _ (h c).2.1, real_of _ _ (h c).2.2.1, real_of _ _ (h c).2.2.2.1, real_of _ _ (h c).2.2.2.2.1, real_of _ _ (h c).2.2.2.2.2⟩

section
variable (m : (ℓ : Loc Cert.Kernel11Ideal.nD Cert.Kernel11Ideal.τ Cert.Kernel11Ideal.sig) → Buf (Elt Ideal) ℓ) (c : Dev Cert.Kernel11Ideal.nD)
  (hpre : Cert.Pre_Kernel11Ideal_finite11 (hPre_finite11 := Cert.Pre_finite11.Gen.facts) m)
include hpre

open Cert.Kernel11Ideal Cert.Reference11Ideal.Read

theorem res8 : val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (Cert.Kernel11Ideal.Gen.dats m 0 c).arrAt 8 Cert.Kernel11Ideal.cfg0.N := by
  obtain ⟨z, a, b, w, s, e, H⟩ := args m hpre c
  refine Eq.trans ?_ (final8 m z a b w s e c H).symm
  refine (show _ = val_main_v177 (F := Ideal) (up z) (up a) (up b) (up w) (up s) (up e) by rw [← H.a0, ← H.a1, ← H.a2, ← H.a3, ← H.a4, ← H.a5]).trans ?_
  funext i; idx_vars i; exact v177 z a b w s e _ _

theorem res9 : val_main_v178 (F := Ideal) (m ((c.tc : Thread nD τ).loc main_arg0)) (m ((c.tc : Thread nD τ).loc main_arg1)) (m ((c.tc : Thread nD τ).loc main_arg3)) (m ((c.tc : Thread nD τ).loc main_arg5)) = (Cert.Kernel11Ideal.Gen.dats m 0 c).arrAt 9 Cert.Kernel11Ideal.cfg0.N := by
  obtain ⟨z, a, b, w, s, e, H⟩ := args m hpre c
  refine Eq.trans ?_ (final9 m z a b w s e c H).symm
  refine (show _ = val_main_v178 (F := Ideal) (up z) (up a) (up w) (up e) by rw [← H.a0, ← H.a1, ← H.a3, ← H.a5]).trans ?_
  funext i; idx_vars i; exact v178 z a w e _ _

theorem res10 : val_main_v109 (F := Ideal) (m ((c.tc : Thread nD τ).loc main_arg0)) (m ((c.tc : Thread nD τ).loc main_arg1)) (m ((c.tc : Thread nD τ).loc main_arg2)) (m ((c.tc : Thread nD τ).loc main_arg5)) = (Cert.Kernel11Ideal.Gen.dats m 0 c).arrAt 10 Cert.Kernel11Ideal.cfg0.N := by
  obtain ⟨z, a, b, w, s, e, H⟩ := args m hpre c
  refine Eq.trans ?_ (final10 m z a b w s e c H).symm
  refine (show _ = val_main_v109 (F := Ideal) (up z) (up a) (up b) (up e) by rw [← H.a0, ← H.a1, ← H.a2, ← H.a5]).trans ?_
  funext i; idx_vars i; exact v109 z a b e _ _ _

theorem res11 : val_main_v176 (F := Ideal) (m ((c.tc : Thread nD τ).loc main_arg0)) (m ((c.tc : Thread nD τ).loc main_arg5)) = (Cert.Kernel11Ideal.Gen.dats m 0 c).arrAt 11 Cert.Kernel11Ideal.cfg0.N := by
  obtain ⟨z, a, b, w, s, e, H⟩ := args m hpre c
  refine Eq.trans ?_ (final11 m z a b w s e c H).symm
  refine (show _ = val_main_v176 (F := Ideal) (up z) (up e) by rw [← H.a0, ← H.a5]).trans ?_
  funext i; idx_vars i; exact v176 z e _ _

theorem res12 : val_main_v171 (F := Ideal) (m ((c.tc : Thread nD τ).loc main_arg0)) (m ((c.tc : Thread nD τ).loc main_arg3)) (m ((c.tc : Thread nD τ).loc main_arg5)) = (Cert.Kernel11Ideal.Gen.dats m 0 c).arrAt 12 Cert.Kernel11Ideal.cfg0.N := by
  obtain ⟨z, a, b, w, s, e, H⟩ := args m hpre c
  refine Eq.trans ?_ (final12 m z a b w s e c H).symm
  refine (show _ = val_main_v171 (F := Ideal) (up z) (up w) (up e) by rw [← H.a0, ← H.a3, ← H.a5]).trans ?_
  funext i; idx_vars i; exact v171 z w e _ _

theorem res13 : val_main_v170 (F := Ideal) (m ((c.tc : Thread nD τ).loc main_arg0)) (m ((c.tc : Thread nD τ).loc main_arg3)) (m ((c.tc : Thread nD τ).loc main_arg5)) = (Cert.Kernel11Ideal.Gen.dats m 0 c).arrAt 13 Cert.Kernel11Ideal.cfg0.N := by
  obtain ⟨z, a, b, w, s, e, H⟩ := args m hpre c
  refine Eq.trans ?_ (final13 m z a b w s e c H).symm
  refine (show _ = val_main_v170 (F := Ideal) (up z) (up w) (up e) by rw [← H.a0, ← H.a3, ← H.a5]).trans ?_
  funext i; idx_vars i; exact v170 z w e _ _

end

/-- The kernel's six results are the reference's. -/
theorem algebraic : Cert.algebraic_Kernel11Ideal_Reference11Ideal_pre_finite11 (hKernel11Ideal := Cert.Kernel11Ideal.Gen.facts)
    (hReference11Ideal := Cert.Reference11Ideal.Gen.facts) (hPre_finite11 := Cert.Pre_finite11.Gen.facts) := by
  intro m g m' g' hpre hagree
  refine ⟨_, _, _, _, _, _, Cert.Kernel11Ideal.Value.run_blocks m g,
    (θ_run Cert.Reference11Ideal.defs _ _).mono (fun r h c => ?_) (Cert.Reference11Ideal.Value.run (F := Ideal) m' g')⟩
  obtain ⟨e0, e1, e2, e3, e4, e5⟩ := hagree c
  obtain ⟨h0, h1, h2, h3, h4, h5, h6⟩ := h c
  refine ⟨(h0.trans (Cert.Reference11Ideal.Read.val_main_v177_eq (F := Ideal) (StableHlo.launchContents m' c))).trans ?_,
    (h1.trans (Cert.Reference11Ideal.Read.val_main_v178_eq (F := Ideal) (StableHlo.launchContents m' c))).trans ?_,
    (h2.trans (Cert.Reference11Ideal.Read.val_main_v109_eq (F := Ideal) (StableHlo.launchContents m' c))).trans ?_,
    (h3.trans (Cert.Reference11Ideal.Read.val_main_v176_eq (F := Ideal) (StableHlo.launchContents m' c))).trans ?_,
    (h4.trans (Cert.Reference11Ideal.Read.val_main_v171_eq (F := Ideal) (StableHlo.launchContents m' c))).trans ?_,
    (h5.trans (Cert.Reference11Ideal.Read.val_main_v170_eq (F := Ideal) (StableHlo.launchContents m' c))).trans ?_, h6⟩
  · show Cert.Reference11Ideal.Read.val_main_v177 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) = _
    rw [e0, e1, e2, e3, e4, e5]; exact res8 m c hpre
  · show Cert.Reference11Ideal.Read.val_main_v178 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg5)) = _
    rw [e0, e1, e3, e5]; exact res9 m c hpre
  · show Cert.Reference11Ideal.Read.val_main_v109 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg5)) = _
    rw [e0, e1, e2, e5]; exact res10 m c hpre
  · show Cert.Reference11Ideal.Read.val_main_v176 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg5)) = _
    rw [e0, e5]; exact res11 m c hpre
  · show Cert.Reference11Ideal.Read.val_main_v171 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg5)) = _
    rw [e0, e3, e5]; exact res12 m c hpre
  · show Cert.Reference11Ideal.Read.val_main_v170 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg5)) = _
    rw [e0, e3, e5]; exact res13 m c hpre

/-- The two constants of the tanh approximation are named, and read as the quotients they stand for. -/
theorem preserves : Cert.preserves_Kernel11_Kernel11Ideal :=
  ⟨IdealRules.named_const.statement Cert.Kernel11Ideal.κ "c" .f32 0x3D372713#32 _ rfl, IdealRules.named_const.statement Cert.Kernel11Ideal.κ "c3" .f32 0x3E095D4F#32 _ rfl⟩

end Cert.Sgu

end
-- ==== Proof.XattnFRef.lean ====
/-
  The cross-attention's reference, at real queries and keys: the probabilities in closed form.
-/
module

public import proofs.«01_k».proof.Proof.Gen.Reference12Ideal.Read
public import proofs.«01_k».proof.Proof.XattnRef

@[expose] public section

set_option maxRecDepth 16384

noncomputable section

open Idealize.ShloMosaic Idealize.ShloMosaic.TcCoe Idealize.SL.Sem

namespace Cert.XattnF

open Cert.Reference12Ideal Cert.Reference12Ideal.Read Cert.Lift Cert.Softmax
open Cert.Xattn (col hd wi col_hd κ_word SC)

variable (q : S4096x512.Idx → ℝ) (k : S256x512.Idx → ℝ) (v : S256x512.Idx → EReal)

/-- A head's column of the attention's output. -/
def OUT (r : Fin 4096) (h : Fin 4) (d : Fin 128) : EReal := ∑ s : Fin 256, (prob (SC q k h r) s : EReal) * v (ix2 s (col h d))

theorem v8 (z : Fin 1) (h : Fin 4) (r : Fin 4096) (s : Fin 256) : val_main_v8 (F := Ideal) (up q) (up k) (ix4 z h r s) = (SC q k h r s : EReal) := by
  pointwise [val_main_v8, val_main_v6, val_main_v3, val_main_v4, val_main_v0, val_main_v1, val_main_v7, val_main_cst]
  simp only [κ_word, up, mul_coe, coe_sum, SC]

theorem v9 (z : Fin 1) (h : Fin 4) (r : Fin 4096) : val_main_v9 (F := Ideal) (up q) (up k) (ix3 z h r) = (top (SC q k h r) : EReal) := by
  obtain rfl : z = 0 := Subsingleton.elim _ _
  have h8 := v8 q k 0 h r
  unfold val_main_v9
  generalize val_main_v8 (F := Ideal) (up q) (up k) = W at h8 ⊢
  pointwise [val_main_cst_0]
  exact fold_top (SC q k h r) _ h8

theorem v13 (z : Fin 1) (h : Fin 4) (r : Fin 4096) (s : Fin 256) : val_main_v13 (F := Ideal) (up q) (up k) (ix4 z h r s) = (top (SC q k h r) : EReal) := by
  have h11 : val_main_v11 (F := Ideal) (up q) (up k) (ix3 0 h r) = (top (SC q k h r) : EReal) := by
    rw [val_main_v11_apply, v9, val_main_v10_apply]
    show max (Ideal.ofBits FTy.f32 0xFF800000#32) _ = _
    rw [bot_word, max_eq_right bot_le]
  unfold val_main_v13 val_main_v12
  generalize val_main_v11 (F := Ideal) (up q) (up k) = M at h11 ⊢
  pointwise
  exact h11

theorem v15 (z : Fin 1) (h : Fin 4) (r : Fin 4096) (s : Fin 256) : val_main_v15 (F := Ideal) (up q) (up k) (ix4 z h r s) = (ex (SC q k h r) s : EReal) := by
  rw [val_main_v15_apply, val_main_v14_apply, v8, v13]
  show Ideal.exp ((SC q k h r s : EReal) - (top (SC q k h r) : EReal)) = _
  rw [sub_coe, exp_coe]
  rfl

theorem v16 (z : Fin 1) (h : Fin 4) (r : Fin 4096) : val_main_v16 (F := Ideal) (up q) (up k) (ix3 z h r) = (tot (SC q k h r) : EReal) := by
  obtain rfl : z = 0 := Subsingleton.elim _ _
  have h15 := v15 q k 0 h r
  unfold val_main_v16
  generalize val_main_v15 (F := Ideal) (up q) (up k) = W at h15 ⊢
  pointwise [val_main_cst_2]
  simp only [h15, coe_sum, tot]

theorem v19 (z : Fin 1) (h : Fin 4) (r : Fin 4096) (s : Fin 256) : val_main_v19 (F := Ideal) (up q) (up k) (ix4 z h r s) = (prob (SC q k h r) s : EReal) := by
  have h15 := v15 q k z h r s
  have h16 := v16 q k 0 h r
  unfold val_main_v19 val_main_v18 val_main_v17
  generalize val_main_v15 (F := Ideal) (up q) (up k) = W at h15 ⊢
  generalize val_main_v16 (F := Ideal) (up q) (up k) = M at h16 ⊢
  pointwise
  rw [h15, h16, div_coe _ _ (tot_ne _)]
  rfl

/-- The result. -/
theorem v23 (r : Fin 4096) (n : Fin 512) : val_main_v23 (F := Ideal) (up q) (up k) v (ix2 r n) = OUT q k v r (hd n) (wi n) := by
  have h19 := v19 q k 0 (hd n) r
  unfold val_main_v23 val_main_v22 val_main_v21 val_main_v20
  generalize val_main_v19 (F := Ideal) (up q) (up k) = W at h19 ⊢
  pointwise [val_main_v5, val_main_v2]
  refine Finset.sum_congr rfl fun s _ => ?_
  rw [h19, mul_comm, col_hd]

end Cert.XattnF

end
-- ==== Proof.XattnFKer.lean ====
/-
  The cross-attention's kernel, at real queries and keys: its result in closed form.
-/
module

public import proofs.«01_k».proof.Proof.Gen.Kernel12Ideal.Frame
public import proofs.«01_k».proof.Proof.XattnFRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.XattnF

open Cert.Kernel12Ideal Cert.Kernel12Ideal.Gen Cert.Lift Cert.Softmax
open Cert.Xattn (col hd wi col_hd κ_word SC)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- A point's row of the whole array. -/
abbrev row (t : Fin cfg0.N) (r : Fin 512) : Fin 4096 := ⟨t.val * 512 + r.val, by have : cfg0.N = 8 := rfl; omega⟩

/-- A head's columns of an array. -/
theorem ld_head {n : ℕ} {ε : EltTy} (X : (⟨2, ![n, 512]⟩ : Shape).Idx → Elt Ideal ε) (h : Fin 4) (o : ℕ) (ho : o = h.val * 128) (inb) (r : Fin n) (d : Fin 128) :
    View.ld (Val := Elt Ideal) X (Rect.unit (s := ⟨2, ![n, 512]⟩) ![0, o] ![n, 128] inb) (ix2 r d) = X (ix2 r (col h d)) := by
  subst ho
  refine View.ld_unit_apply_of X _ _ inb _ _ fun a => ?_
  match a with
  | ⟨0, _⟩ => exact (Nat.zero_add _).symm
  | ⟨1, _⟩ => rfl

variable (q : S4096x512.Idx → ℝ) (k : S256x512.Idx → ℝ) (v : S256x512.Idx → EReal)

/-- A head's columns of a point's operands. -/
structure Head (t : Fin cfg0.N) (h : Fin 4) (x : FVec Ideal S512x128 .bf16) (y z : FVec Ideal S256x128 .bf16) : Prop where
  hx : ∀ r d, x (ix2 r d) = (q (ix2 (row t r) (col h d)) : EReal)
  hy : ∀ s d, y (ix2 s d) = (k (ix2 s (col h d)) : EReal)
  hz : ∀ s d, z (ix2 s d) = v (ix2 s (col h d))

section
variable {q k v}
variable {t : Fin cfg0.N} {h : Fin 4} {x : FVec Ideal S512x128 .bf16} {y z : FVec Ideal S256x128 .bf16} (H : Head q k v t h x y z)
include H

/-- A head's probabilities. -/
theorem pay3 (r : Fin 512) (s : Fin 256) : k0_pay3 (F := Ideal) x y (ix2 r s) = (prob (SC q k h (row t r)) s : EReal) := by
  have hsc : ∀ s, (∑ d, x (ix2 r d) * y (ix2 s d)) * Ideal.ofBits FTy.f32 0x3DB504F3#32 = (SC q k h (row t r) s : EReal) := fun s => by
    simp only [H.hx, H.hy, κ_word, mul_coe, coe_sum, SC]
  have hf := fold_top (SC q k h (row t r)) (fun s => (SC q k h (row t r) s : EReal)) fun _ => rfl
  pointwise [k0_pay3]
  simp only [hsc, hf, sub_coe, exp_coe, coe_sum]
  rw [show (∑ s, Real.exp (SC q k h (row t r) s - top (SC q k h (row t r)))) = tot (SC q k h (row t r)) from rfl, inv_coe _ (tot_ne _), mul_coe, mul_one_div]
  rfl

/-- A head's output. -/
theorem pay4 (r : Fin 512) (d : Fin 128) : k0_pay4 (F := Ideal) (k0_pay3 (F := Ideal) x y) z (ix2 r d) = OUT q k v (row t r) h d := by
  have h3 := pay3 H r
  unfold k0_pay4
  generalize k0_pay3 (F := Ideal) x y = P at h3 ⊢
  pointwise
  simp only [h3, H.hz, OUT]

end

variable (c : Dev nD)

/-- The arguments: the queries and keys are real arrays. -/
structure Args : Prop where
  a0 : m ((c : Thread nD τ).loc main_arg0) = up q
  a1 : m ((c : Thread nD τ).loc main_arg1) = up k
  a2 : m ((c : Thread nD τ).loc main_arg2) = v

variable (H : Args m q k v c) (t : Fin cfg0.N)
include H

theorem iblk0 (r : Fin 512) (n : Fin 512) : (iblk m c 0 t : FVec Ideal S512x512 .bf16) (ix2 r n) = (q (ix2 (row t r) n) : EReal) := by
  obtain ⟨h0, h1, h2, h3⟩ := idx t
  refine Eq.trans ?_ (congrFun H.a0 (ix2 (row t r) n))
  blk_point [iblk, V, h0]
theorem iblk1 (s : Fin 256) (n : Fin 512) : (iblk m c 1 t : FVec Ideal S256x512 .bf16) (ix2 s n) = (k (ix2 s n) : EReal) := by
  obtain ⟨h0, h1, h2, h3⟩ := idx t
  refine Eq.trans ?_ (congrFun H.a1 (ix2 s n))
  blk_point [iblk, V, h1]
theorem iblk2 (s : Fin 256) (n : Fin 512) : (iblk m c 2 t : FVec Ideal S256x512 .bf16) (ix2 s n) = v (ix2 s n) := by
  obtain ⟨h0, h1, h2, h3⟩ := idx t
  refine Eq.trans ?_ (congrFun H.a2 (ix2 s n))
  blk_point [iblk, V, h2]

theorem head (h : Fin 4) (o : ℕ) (ho : o = h.val * 128) (inb inb') : Head q k v t h
    (View.ld (iblk m c 0 t) (Rect.unit (s := S512x512) ![0, o] ![512, 128] inb)) (View.ld (iblk m c 1 t) (Rect.unit (s := S256x512) ![0, o] ![256, 128] inb'))
    (View.ld (iblk m c 2 t) (Rect.unit (s := S256x512) ![0, o] ![256, 128] inb')) where
  hx r d := (ld_head _ h o ho inb r d).trans (iblk0 m q k v c H t r _)
  hy s d := (ld_head _ h o ho inb' s d).trans (iblk1 m q k v c H t s _)
  hz s d := (ld_head _ h o ho inb' s d).trans (iblk2 m q k v c H t s _)

theorem blk (r : Fin 512) (n : Fin 512) : out0_3 (F := Ideal) (iblk m c 0 t) (iblk m c 1 t) (iblk m c 2 t) (ix2 r n) = OUT q k v (row t r) (hd n) (wi n) := by
  have key : ∃ w0 w1 w2 w3 : FVec Ideal S512x128 .f32, out0_3 (F := Ideal) (iblk m c 0 t) (iblk m c 1 t) (iblk m c 2 t) = truncf .bf16 (concatenate S512x512 1
      [⟨S512x128, w0⟩, ⟨S512x128, w1⟩, ⟨S512x128, w2⟩, ⟨S512x128, w3⟩] concatenates_S512x128_S512x128_S512x128_S512x128_S512x512_d1) bitsLt_bf16_f32
      ∧ (∀ r d, w0 (ix2 r d) = OUT q k v (row t r) 0 d) ∧ (∀ r d, w1 (ix2 r d) = OUT q k v (row t r) 1 d)
      ∧ (∀ r d, w2 (ix2 r d) = OUT q k v (row t r) 2 d) ∧ (∀ r d, w3 (ix2 r d) = OUT q k v (row t r) 3 d) := by
    refine ⟨_, _, _, _, ?_, pay4 (head m q k v c H t 0 0 rfl inb_S512x512_S512x128_0_0 inb_S256x512_S256x128_0_0),
      pay4 (head m q k v c H t 1 128 rfl inb_S512x512_S512x128_0_128 inb_S256x512_S256x128_0_128),
      pay4 (head m q k v c H t 2 256 rfl inb_S512x512_S512x128_0_256 inb_S256x512_S256x128_0_256),
      pay4 (head m q k v c H t 3 384 rfl inb_S512x512_S512x128_0_384 inb_S256x512_S256x128_0_384)⟩
    unfold out0_3
    frame_out
    rfl
  obtain ⟨w0, w1, w2, w3, e1, k0, k1, k2, k3⟩ := key
  rw [e1]
  pointwise
  have part : ∀ (g : Fin 4) (b : Fin 128), g.val * 128 + b.val = n.val → g = hd n ∧ b = wi n := fun g b hb =>
    ⟨Fin.ext (by show g.val = n.val / 128; omega), Fin.ext (by show b.val = n.val % 128; omega)⟩
  by_cases h1 : n.val < 128
  · obtain ⟨ha, hb⟩ := part 0 ⟨n.val, h1⟩ (by simp)
    rw [dif_pos h1, k0, ← ha, ← hb]
  by_cases h2 : n.val - 128 < 128
  · obtain ⟨ha, hb⟩ := part 1 ⟨n.val - 128, h2⟩ (by show 1 * 128 + (n.val - 128) = n.val; omega)
    rw [dif_neg h1, dif_pos h2, k1, ← ha, ← hb]
  by_cases h3 : n.val - 128 - 128 < 128
  · obtain ⟨ha, hb⟩ := part 2 ⟨n.val - 128 - 128, h3⟩ (by show 2 * 128 + (n.val - 128 - 128) = n.val; omega)
    rw [dif_neg h1, dif_neg h2, dif_pos h3, k2, ← ha, ← hb]
  · obtain ⟨ha, hb⟩ := part 3 ⟨n.val - 128 - 128 - 128, by omega⟩ (by show 3 * 128 + (n.val - 128 - 128 - 128) = n.val; omega)
    rw [dif_neg h1, dif_neg h2, dif_neg h3, k3, ← ha, ← hb]

/-- The result, as an array. -/
def OUTv : FVec Ideal S4096x512 .bf16 := fun i => OUT q k v (i 0) (hd (i 1)) (wi (i 1))

theorem final3 : (dats m 0 c).arrAt 3 (cfgs 0).N = OUTv q k v := by
  refine (dats m 0 c).arrAt_eq_of_covers 3 _ (by decide +kernel) fun t hf y => ?_
  blk_simp
  rw [after0_3]
  obtain ⟨h0, h1, h2, h3⟩ := idx t
  idx_vars y
  refine (blk m q k v c H t y0 y1).trans ?_
  show OUTv q k v (ix2 (row t y0) y1) = _
  blk_ext [h3]

end Cert.XattnF

end
-- ==== Proof.XattnFClaims.lean ====
/-
  The claims about the cross-attention.
-/
module

public import proofs.«01_k».proof.Defs
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite12
public import proofs.«01_k».proof.Proof.XattnFKer
public import Idealize.ShloMosaic.Lib.Claim

@[expose] public section

set_option maxRecDepth 16384

noncomputable section

open Idealize.ShloMosaic Idealize.ShloMosaic.TcCoe Idealize.SL.Sem
open Cert.Lift

namespace Cert.XattnF

theorem frame_p : Cert.quiescent_Kernel12 (hKernel12 := Cert.Kernel12.Gen.facts) := fun m ρ _ => Cert.Kernel12.Gen.frame m ρ

theorem frame_pi : Cert.quiescent_Kernel12Ideal (hKernel12Ideal := Cert.Kernel12Ideal.Gen.facts) := fun m ρ _ => Cert.Kernel12Ideal.Gen.frame m ρ

theorem frame_ri : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_pi_fin : Cert.quiescent_Kernel12Ideal_pre_finite12 (hKernel12Ideal := Cert.Kernel12Ideal.Gen.facts)
    (hPre_finite12 := Cert.Pre_finite12.Gen.facts) := fun m ρ _ => Cert.Kernel12Ideal.Gen.frame m ρ

theorem frame_ri_fin : Cert.quiescent_Reference12Ideal_pre_finite12 (hReference12Ideal := Cert.Reference12Ideal.Gen.facts)
    (hPre_finite12 := Cert.Pre_finite12.Gen.facts) := fun m ρ _ => frame_ri m ρ trivial

/-- Finite arguments are real arrays. -/
theorem args (m) (h : Cert.Pre_Kernel12Ideal_finite12 (hPre_finite12 := Cert.Pre_finite12.Gen.facts) m) (c) :
    ∃ q k v, Args m q k v c :=
  ⟨_, _, _, real_of _ _ (h c).1, real_of _ _ (h c).2, rfl⟩

section
variable (m : (ℓ : Loc Cert.Kernel12Ideal.nD Cert.Kernel12Ideal.τ Cert.Kernel12Ideal.sig) → Buf (Elt Ideal) ℓ) (c : Dev Cert.Kernel12Ideal.nD)
  (hpre : Cert.Pre_Kernel12Ideal_finite12 (hPre_finite12 := Cert.Pre_finite12.Gen.facts) m)
include hpre

open Cert.Kernel12Ideal Cert.Reference12Ideal.Read

theorem res3 : val_main_v23 (F := Ideal) (m ((c.tc : Thread nD τ).loc main_arg0)) (m ((c.tc : Thread nD τ).loc main_arg1)) (m ((c.tc : Thread nD τ).loc main_arg2)) = (Cert.Kernel12Ideal.Gen.dats m 0 c).arrAt 3 Cert.Kernel12Ideal.cfg0.N := by
  obtain ⟨q, k, v, H⟩ := args m hpre c
  refine Eq.trans ?_ (final3 m q k v c H).symm
  refine (show _ = val_main_v23 (F := Ideal) (up q) (up k) v by rw [← H.a0, ← H.a1, ← H.a2]).trans ?_
  funext i; idx_vars i; exact v23 q k v _ _

end

/-- The kernel's output is the reference's. -/
theorem algebraic : Cert.algebraic_Kernel12Ideal_Reference12Ideal_pre_finite12 (hKernel12Ideal := Cert.Kernel12Ideal.Gen.facts)
    (hReference12Ideal := Cert.Reference12Ideal.Gen.facts) (hPre_finite12 := Cert.Pre_finite12.Gen.facts) := by
  intro m g m' g' hpre hagree
  refine ⟨_, Cert.Kernel12Ideal.Value.run_blocks m g,
    (θ_run Cert.Reference12Ideal.defs _ _).mono (fun r h c => ?_) (Cert.Reference12Ideal.Value.run (F := Ideal) m' g')⟩
  obtain ⟨e0, e1, e2⟩ := hagree c
  obtain ⟨h0, h1⟩ := h c
  refine ⟨(h0.trans (Cert.Reference12Ideal.Read.val_main_v23_eq _ _ _)).trans ?_, h1⟩
  · rw [e0, e1, e2]; exact res3 m c hpre

end Cert.XattnF

end
-- ==== Proof.NormFKer.lean ====
/-
  A norm's forward call: the kernel's rows and the reference's.
-/
module

public import proofs.«01_k».proof.Proof.Gen.Kernel13Ideal.Frame
public import proofs.«01_k».proof.Proof.Gen.Reference13Ideal.Read
public import proofs.«01_k».proof.Proof.Lift
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormF

/-- A row over the root of its mean square, with the scale. -/
def nrm (x g : Fin 2048 → EReal) (l : Fin 2048) : EReal :=
  x l * Ideal.rsqrt (Ideal.div (∑ j, x j * x j) (Ideal.ofBits FTy.f32 0x45000000#32) + Ideal.ofBits FTy.f32 0x358637BD#32) * g l

section
open Cert.Reference13Ideal Cert.Reference13Ideal.Read

/-- The reference's result. -/
theorem v14 (x : S4096x2048.Idx → EReal) (g : S1x2048.Idx → EReal) (r : Fin 4096) (l : Fin 2048) :
    val_main_v14 (F := Ideal) x g (ix2 r l) = nrm (fun j => x (ix2 r j)) (fun j => g (ix2 0 j)) l := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

end

open Cert.Kernel13Ideal Cert.Kernel13Ideal.Gen Cert.Lift

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- A point's row of the whole array. -/
abbrev row (t : Fin cfg0.N) (r : Fin 256) : Fin 4096 := ⟨t.val * 256 + r.val, by have : cfg0.N = 16 := rfl; omega⟩

theorem pay1 (x : FVec Ideal S256x2048 .f32) (g : FVec Ideal S1x2048 .f32) (r : Fin 256) (l : Fin 2048) :
    k0_pay1 (F := Ideal) x g (ix2 r l) = nrm (fun j => x (ix2 r j)) (fun j => g (ix2 0 j)) l := by
  pointwise [k0_pay1]
  rfl

variable (x : FVec Ideal S4096x2048 .f32) (g : FVec Ideal S1x2048 .f32) (c : Dev nD)

/-- The arguments. -/
structure Args : Prop where
  a0 : m ((c : Thread nD τ).loc main_arg0) = x
  a1 : m ((c : Thread nD τ).loc main_arg1) = g

variable (H : Args m x g c) (t : Fin cfg0.N)
include H

theorem iblk0 (r : Fin 256) (l : Fin 2048) : (iblk m c 0 t : FVec Ideal S256x2048 .f32) (ix2 r l) = x (ix2 (row t r) l) := by
  obtain ⟨h0, h1, h2⟩ := idx t
  refine Eq.trans ?_ (congrFun H.a0 (ix2 (row t r) l))
  blk_point [iblk, V, h0]
theorem iblk1 (l : Fin 2048) : (iblk m c 1 t : FVec Ideal S1x2048 .f32) (ix2 0 l) = g (ix2 0 l) := by
  obtain ⟨h0, h1, h2⟩ := idx t
  refine Eq.trans ?_ (congrFun H.a1 (ix2 0 l))
  blk_point [iblk, V, h1]

/-- The result, as an array. -/
def OUTv : FVec Ideal S4096x2048 .bf16 := fun i => nrm (fun j => x (ix2 (i 0) j)) (fun j => g (ix2 0 j)) (i 1)

theorem final2 : (dats m 0 c).arrAt 2 (cfgs 0).N = OUTv x g := by
  refine (dats m 0 c).arrAt_eq_of_covers 2 _ (by decide +kernel) fun t hf y => ?_
  blk_simp
  rw [after0_2]
  unfold out0_2
  frame_out
  obtain ⟨h0, h1, h2⟩ := idx t
  idx_vars y
  refine (pay1 (iblk m c 0 t) (iblk m c 1 t) y0 y1).trans ?_
  simp only [iblk0 m x g c H t, iblk1 m x g c H t]
  show OUTv x g (ix2 (row t y0) y1) = _
  blk_ext [h2]

end Cert.NormF

end
-- ==== Proof.NormFClaims.lean ====
/-
  The claims about a norm's forward call.
-/
module

public import proofs.«01_k».proof.Defs
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.NormFKer
public import Idealize.ShloMosaic.Lib.Claim

@[expose] public section

set_option maxRecDepth 16384

noncomputable section

open Idealize.ShloMosaic Idealize.ShloMosaic.TcCoe Idealize.SL.Sem
open Cert.Lift

namespace Cert.NormF

theorem frame_p : Cert.quiescent_Kernel13 (hKernel13 := Cert.Kernel13.Gen.facts) := fun m ρ _ => Cert.Kernel13.Gen.frame m ρ

theorem frame_pi : Cert.quiescent_Kernel13Ideal (hKernel13Ideal := Cert.Kernel13Ideal.Gen.facts) := fun m ρ _ => Cert.Kernel13Ideal.Gen.frame m ρ

theorem frame_ri : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem args (m) (c) : ∃ x g, Args m x g c := ⟨_, _, rfl, rfl⟩

section
variable (m : (ℓ : Loc Cert.Kernel13Ideal.nD Cert.Kernel13Ideal.τ Cert.Kernel13Ideal.sig) → Buf (Elt Ideal) ℓ) (c : Dev Cert.Kernel13Ideal.nD)

open Cert.Kernel13Ideal Cert.Reference13Ideal.Read

theorem res2 : val_main_v14 (F := Ideal) (m ((c.tc : Thread nD τ).loc main_arg0)) (m ((c.tc : Thread nD τ).loc main_arg1)) = (Cert.Kernel13Ideal.Gen.dats m 0 c).arrAt 2 Cert.Kernel13Ideal.cfg0.N := by
  obtain ⟨x, g, H⟩ := args m c
  refine Eq.trans ?_ (final2 m x g c H).symm
  refine (show _ = val_main_v14 (F := Ideal) x g by rw [← H.a0, ← H.a1]).trans ?_
  funext i; idx_vars i; exact v14 x g _ _

end

/-- The kernel's rows are the reference's. -/
theorem algebraic : Cert.algebraic_Kernel13Ideal_Reference13Ideal (hKernel13Ideal := Cert.Kernel13Ideal.Gen.facts)
    (hReference13Ideal := Cert.Reference13Ideal.Gen.facts) := by
  intro m g m' g' _ hagree
  refine ⟨_, Cert.Kernel13Ideal.Value.run_blocks m g,
    (θ_run Cert.Reference13Ideal.defs _ _).mono (fun r h c => ?_) (Cert.Reference13Ideal.Value.run (F := Ideal) m' g')⟩
  obtain ⟨e0, e1⟩ := hagree c
  obtain ⟨h0, h1⟩ := h c
  refine ⟨(h0.trans (Cert.Reference13Ideal.Read.val_main_v14_eq _ _)).trans ?_, h1⟩
  · rw [e0, e1]; exact res2 m c

end Cert.NormF

end
-- ==== Proof.ResidFKer.lean ====
/-
  A residual sum followed by a norm, the forward call: the kernel's rows and the reference's.
-/
module

public import proofs.«01_k».proof.Proof.Gen.Kernel14Ideal.Frame
public import proofs.«01_k».proof.Proof.Gen.Reference14Ideal.Read
public import proofs.«01_k».proof.Proof.NormFKer

@[expose] public section

set_option maxRecDepth 16384

noncomputable section

open Idealize.ShloMosaic Idealize.ShloMosaic.TcCoe Idealize.SL.Sem
open Idealize.ShloMosaic.Pipeline (Dat)

namespace Cert.ResidF

open Cert.NormF (nrm)

/-- A row of the residual sum. -/
def sm (x m g : Fin 2048 → EReal) (l : Fin 2048) : EReal := x l + nrm m g l

section
open Cert.Reference14Ideal Cert.Reference14Ideal.Read

variable (x m : S4096x2048.Idx → EReal) (g gn : S1x2048.Idx → EReal)

/-- The reference's residual sum. -/
theorem v14 (r : Fin 4096) (l : Fin 2048) :
    val_main_v14 (F := Ideal) x m g (ix2 r l) = sm (fun j => x (ix2 r j)) (fun j => m (ix2 r j)) (fun j => g (ix2 0 j)) l := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem v28 (r : Fin 4096) (l : Fin 2048) : val_main_v28 (F := Ideal) x m g gn (ix2 r l)
    = nrm (sm (fun j => x (ix2 r j)) (fun j => m (ix2 r j)) (fun j => g (ix2 0 j))) (fun j => gn (ix2 0 j)) l := by
  have h14 := v14 x m g r
  unfold val_main_v28 val_main_v25 val_main_v24 val_main_v23 val_main_v22 val_main_v20 val_main_v18 val_main_v17 val_main_v16
  generalize val_main_v14 (F := Ideal) x m g = W at h14 ⊢
  pointwise [val_main_v27, val_main_v26, val_main_v21, val_main_v19, val_main_v15, val_main_cst_2, val_main_cst_3, val_main_cst_4]
  simp only [h14]
  rfl

/-- The norm, and its transpose. -/
theorem v29 (r : Fin 4096) (l : Fin 2048) : val_main_v29 (F := Ideal) x m g gn (ix2 r l)
    = nrm (sm (fun j => x (ix2 r j)) (fun j => m (ix2 r j)) (fun j => g (ix2 0 j))) (fun j => gn (ix2 0 j)) l := v28 x m g gn r l
theorem v31 (r : Fin 4096) (l : Fin 2048) : val_main_v31 (F := Ideal) x m g gn (ix2 l r)
    = nrm (sm (fun j => x (ix2 r j)) (fun j => m (ix2 r j)) (fun j => g (ix2 0 j))) (fun j => gn (ix2 0 j)) l := by
  have h28 := v28 x m g gn r l
  unfold val_main_v31 val_main_v30
  generalize val_main_v28 (F := Ideal) x m g gn = W at h28 ⊢
  pointwise
  exact h28

end

open Cert.Kernel14Ideal Cert.Kernel14Ideal.Gen Cert.Lift

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, t.val] :=
  (by decide +kernel : ∀ t : Fin grid0.N, _)

/-- A point's row of the whole array. -/
abbrev row (t : Fin cfg0.N) (r : Fin 256) : Fin 4096 := ⟨t.val * 256 + r.val, by have : cfg0.N = 16 := rfl; omega⟩

section
variable (y x : FVec Ideal S256x2048 .f32) (g gn : FVec Ideal S1x2048 .f32)

theorem pay1 (r : Fin 256) (l : Fin 2048) :
    k0_pay1 (F := Ideal) y x g (ix2 r l) = sm (fun j => x (ix2 r j)) (fun j => y (ix2 r j)) (fun j => g (ix2 0 j)) l := by
  pointwise [k0_pay1]
  rfl

theorem pay2 (r : Fin 256) (l : Fin 2048) : k0_pay2 (F := Ideal) y x g gn (ix2 r l)
    = nrm (sm (fun j => x (ix2 r j)) (fun j => y (ix2 r j)) (fun j => g (ix2 0 j))) (fun j => gn (ix2 0 j)) l := by
  have h1 := pay1 y x g r
  unfold k0_pay2
  generalize k0_pay1 (F := Ideal) y x g = W at h1 ⊢
  pointwise
  simp only [h1]
  rfl

theorem pay4 (r : Fin 256) (l : Fin 2048) : k0_pay4 (F := Ideal) y x g gn (ix2 l r)
    = nrm (sm (fun j => x (ix2 r j)) (fun j => y (ix2 r j)) (fun j => g (ix2 0 j))) (fun j => gn (ix2 0 j)) l := by
  have h2 := pay2 y x g gn r l
  unfold k0_pay4
  generalize k0_pay2 (F := Ideal) y x g gn = W at h2 ⊢
  pointwise
  exact h2

end

variable (x y : FVec Ideal S4096x2048 .f32) (g gn : FVec Ideal S1x2048 .f32) (c : Dev nD)

/-- The arguments. -/
structure Args : Prop where
  a0 : m ((c : Thread nD τ).loc main_arg0) = x
  a1 : m ((c : Thread nD τ).loc main_arg1) = y
  a2 : m ((c : Thread nD τ).loc main_arg2) = g
  a3 : m ((c : Thread nD τ).loc main_arg3) = gn

variable (H : Args m x y g gn c) (t : Fin cfg0.N)
include H

theorem iblk0 (r : Fin 256) (l : Fin 2048) : (iblk m c 0 t : FVec Ideal S256x2048 .f32) (ix2 r l) = x (ix2 (row t r) l) := by
  obtain ⟨h0, h1, h2, h3, h4, h5, h6⟩ := idx t
  refine Eq.trans ?_ (congrFun H.a0 (ix2 (row t r) l))
  blk_point [iblk, V, h0]
theorem iblk1 (r : Fin 256) (l : Fin 2048) : (iblk m c 1 t : FVec Ideal S256x2048 .f32) (ix2 r l) = y (ix2 (row t r) l) := by
  obtain ⟨h0, h1, h2, h3, h4, h5, h6⟩ := idx t
  refine Eq.trans ?_ (congrFun H.a1 (ix2 (row t r) l))
  blk_point [iblk, V, h1]
theorem iblk2 (l : Fin 2048) : (iblk m c 2 t : FVec Ideal S1x2048 .f32) (ix2 0 l) = g (ix2 0 l) := by
  obtain ⟨h0, h1, h2, h3, h4, h5, h6⟩ := idx t
  refine Eq.trans ?_ (congrFun H.a2 (ix2 0 l))
  blk_point [iblk, V, h2]
theorem iblk3 (l : Fin 2048) : (iblk m c 3 t : FVec Ideal S1x2048 .f32) (ix2 0 l) = gn (ix2 0 l) := by
  obtain ⟨h0, h1, h2, h3, h4, h5, h6⟩ := idx t
  refine Eq.trans ?_ (congrFun H.a3 (ix2 0 l))
  blk_point [iblk, V, h3]

/-- The results, as arrays. -/
def SUMv : FVec Ideal S4096x2048 .f32 := fun i => sm (fun j => x (ix2 (i 0) j)) (fun j => y (ix2 (i 0) j)) (fun j => g (ix2 0 j)) (i 1)
def NRMv : FVec Ideal S4096x2048 .bf16 := fun i =>
  nrm (sm (fun j => x (ix2 (i 0) j)) (fun j => y (ix2 (i 0) j)) (fun j => g (ix2 0 j))) (fun j => gn (ix2 0 j)) (i 1)
def NTv : FVec Ideal S2048x4096 .bf16 := fun i => NRMv x y g gn (ix2 (i 1) (i 0))

theorem final4 : (dats m 0 c).arrAt 4 (cfgs 0).N = SUMv x y g := by
  refine (dats m 0 c).arrAt_eq_of_covers 4 _ (by decide +kernel) fun t hf j => ?_
  blk_simp
  rw [after0_4]
  unfold out0_4
  frame_out
  obtain ⟨h0, h1, h2, h3, h4, h5, h6⟩ := idx t
  idx_vars j
  refine (pay1 (iblk m c 1 t) (iblk m c 0 t) (iblk m c 2 t) j0 j1).trans ?_
  simp only [iblk0 m x y g gn c H t, iblk1 m x y g gn c H t, iblk2 m x y g gn c H t]
  show SUMv x y g (ix2 (row t j0) j1) = _
  blk_ext [h4]

theorem final5 : (dats m 0 c).arrAt 5 (cfgs 0).N = NRMv x y g gn := by
  refine (dats m 0 c).arrAt_eq_of_covers 5 _ (by decide +kernel) fun t hf j => ?_
  blk_simp
  rw [after0_5]
  unfold out0_5
  frame_out
  obtain ⟨h0, h1, h2, h3, h4, h5, h6⟩ := idx t
  idx_vars j
  refine (pay2 (iblk m c 1 t) (iblk m c 0 t) (iblk m c 2 t) (iblk m c 3 t) j0 j1).trans ?_
  simp only [iblk0 m x y g gn c H t, iblk1 m x y g gn c H t, iblk2 m x y g gn c H t, iblk3 m x y g gn c H t]
  show NRMv x y g gn (ix2 (row t j0) j1) = _
  blk_ext [h5]

theorem final6 : (dats m 0 c).arrAt 6 (cfgs 0).N = NTv x y g gn := by
  refine (dats m 0 c).arrAt_eq_of_covers 6 _ (by decide +kernel) fun t hf j => ?_
  blk_simp
  rw [after0_6]
  unfold out0_6
  frame_out
  obtain ⟨h0, h1, h2, h3, h4, h5, h6⟩ := idx t
  idx_vars j
  refine (pay4 (iblk m c 1 t) (iblk m c 0 t) (iblk m c 2 t) (iblk m c 3 t) j1 j0).trans ?_
  simp only [iblk0 m x y g gn c H t, iblk1 m x y g gn c H t, iblk2 m x y g gn c H t, iblk3 m x y g gn c H t]
  show NTv x y g gn (ix2 j0 (row t j1)) = _
  blk_ext [h6]

end Cert.ResidF

end
-- ==== Proof.ResidFClaims.lean ====
/-
  The claims about a residual sum followed by a norm.
-/
module

public import proofs.«01_k».proof.Defs
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.ResidFKer
public import Idealize.ShloMosaic.Lib.Claim

@[expose] public section

set_option maxRecDepth 16384

noncomputable section

open Idealize.ShloMosaic Idealize.ShloMosaic.TcCoe Idealize.SL.Sem
open Cert.Lift

namespace Cert.ResidF

theorem frame_p : Cert.quiescent_Kernel14 (hKernel14 := Cert.Kernel14.Gen.facts) := fun m ρ _ => Cert.Kernel14.Gen.frame m ρ

theorem frame_pi : Cert.quiescent_Kernel14Ideal (hKernel14Ideal := Cert.Kernel14Ideal.Gen.facts) := fun m ρ _ => Cert.Kernel14Ideal.Gen.frame m ρ

theorem frame_ri : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem args (m) (c) : ∃ x y g gn, Args m x y g gn c := ⟨_, _, _, _, rfl, rfl, rfl, rfl⟩

section
variable (m : (ℓ : Loc Cert.Kernel14Ideal.nD Cert.Kernel14Ideal.τ Cert.Kernel14Ideal.sig) → Buf (Elt Ideal) ℓ) (c : Dev Cert.Kernel14Ideal.nD)

open Cert.Kernel14Ideal Cert.Reference14Ideal.Read

theorem res4 : val_main_v14 (F := Ideal) (m ((c.tc : Thread nD τ).loc main_arg0)) (m ((c.tc : Thread nD τ).loc main_arg1)) (m ((c.tc : Thread nD τ).loc main_arg2)) = (Cert.Kernel14Ideal.Gen.dats m 0 c).arrAt 4 Cert.Kernel14Ideal.cfg0.N := by
  obtain ⟨x, y, g, gn, H⟩ := args m c
  refine Eq.trans ?_ (final4 m x y g gn c H).symm
  refine (show _ = val_main_v14 (F := Ideal) x y g by rw [← H.a0, ← H.a1, ← H.a2]).trans ?_
  funext i; idx_vars i; exact v14 x y g _ _

theorem res5 : val_main_v29 (F := Ideal) (m ((c.tc : Thread nD τ).loc main_arg0)) (m ((c.tc : Thread nD τ).loc main_arg1)) (m ((c.tc : Thread nD τ).loc main_arg2)) (m ((c.tc : Thread nD τ).loc main_arg3)) = (Cert.Kernel14Ideal.Gen.dats m 0 c).arrAt 5 Cert.Kernel14Ideal.cfg0.N := by
  obtain ⟨x, y, g, gn, H⟩ := args m c
  refine Eq.trans ?_ (final5 m x y g gn c H).symm
  refine (show _ = val_main_v29 (F := Ideal) x y g gn by rw [← H.a0, ← H.a1, ← H.a2, ← H.a3]).trans ?_
  funext i; idx_vars i; exact v29 x y g gn _ _

theorem res6 : val_main_v31 (F := Ideal) (m ((c.tc : Thread nD τ).loc main_arg0)) (m ((c.tc : Thread nD τ).loc main_arg1)) (m ((c.tc : Thread nD τ).loc main_arg2)) (m ((c.tc : Thread nD τ).loc main_arg3)) = (Cert.Kernel14Ideal.Gen.dats m 0 c).arrAt 6 Cert.Kernel14Ideal.cfg0.N := by
  obtain ⟨x, y, g, gn, H⟩ := args m c
  refine Eq.trans ?_ (final6 m x y g gn c H).symm
  refine (show _ = val_main_v31 (F := Ideal) x y g gn by rw [← H.a0, ← H.a1, ← H.a2, ← H.a3]).trans ?_
  funext i; idx_vars i; exact v31 x y g gn _ _

end

/-- The kernel's three results are the reference's. -/
theorem algebraic : Cert.algebraic_Kernel14Ideal_Reference14Ideal (hKernel14Ideal := Cert.Kernel14Ideal.Gen.facts)
    (hReference14Ideal := Cert.Reference14Ideal.Gen.facts) := by
  intro m g m' g' _ hagree
  refine ⟨_, _, _, Cert.Kernel14Ideal.Value.run_blocks m g,
    (θ_run Cert.Reference14Ideal.defs _ _).mono (fun r h c => ?_) (Cert.Reference14Ideal.Value.run (F := Ideal) m' g')⟩
  obtain ⟨e0, e1, e2, e3⟩ := hagree c
  obtain ⟨h0, h1, h2, h3⟩ := h c
  refine ⟨(h0.trans (Cert.Reference14Ideal.Read.val_main_v14_eq _ _ _)).trans ?_,
    (h1.trans (Cert.Reference14Ideal.Read.val_main_v29_eq _ _ _ _)).trans ?_,
    (h2.trans (Cert.Reference14Ideal.Read.val_main_v31_eq _ _ _ _)).trans ?_, h3⟩
  · rw [e0, e1, e2]; exact res4 m c
  · rw [e0, e1, e2, e3]; exact res5 m c
  · rw [e0, e1, e2, e3]; exact res6 m c

end Cert.ResidF

end
-- ==== Proof.FfnFRef.lean ====
/-
  The feed-forward block's forward call: the reference, entry by entry.
-/
module

public import proofs.«01_k».proof.Proof.Gen.Reference15Ideal.Read
public import proofs.«01_k».proof.Proof.FfnRef

@[expose] public section

set_option maxRecDepth 16384

noncomputable section

open Idealize.ShloMosaic Idealize.ShloMosaic.TcCoe Idealize.SL.Sem

namespace Cert.FfnF

open Cert.Reference15Ideal Cert.Reference15Ideal.Read Cert.Lift
open Cert.Ffn (sh pl sh_mk pl_mk)

variable (h : S4096x2048.Idx → EReal) (g u : S8x2048x704.Idx → EReal) (w : S8x704x2048.Idx → EReal)

/-- A hidden unit's product with a weight. -/
def A (r : Fin 4096) (s : Fin 8) (f : Fin 704) : EReal := ∑ d : Fin 2048, h (ix2 r d) * g (ix3 s d f)
/-- The gated hidden unit, from its two products. -/
def gate (a b : EReal) : EReal := a * Ideal.div 1 (1 + Ideal.exp (-a)) * b
/-- One shard's part of the block's output. -/
def MP (r : Fin 4096) (s : Fin 8) (d : Fin 2048) : EReal := ∑ f : Fin 704, gate (A h g r s f) (A h u r s f) * w (ix3 s f d)

theorem v8 (r : Fin 4096) (n : Fin 5632) : val_main_v8 (F := Ideal) h g (ix2 r n) = A h g r (sh n) (pl n) := by
  pointwise [val_main_v8, val_main_v5, val_main_v4, val_main_v1, val_main_v0]
  rfl

theorem v9 (r : Fin 4096) (n : Fin 5632) : val_main_v9 (F := Ideal) h u (ix2 r n) = A h u r (sh n) (pl n) := v8 h u r n

theorem v11 (r : Fin 4096) (n : Fin 5632) : val_main_v11 (F := Ideal) h g u (ix2 r n) = gate (A h g r (sh n) (pl n)) (A h u r (sh n) (pl n)) := by
  have h8 := v8 h g r n
  have h9 := v9 h u r n
  unfold val_main_v11 val_main_v10 val_main_call0_v5 val_main_call0_v3 val_main_call0_v1 val_main_call0_v0
  generalize val_main_v8 (F := Ideal) h g = W at h8 ⊢
  generalize val_main_v9 (F := Ideal) h u = W' at h9 ⊢
  pointwise [val_main_call0_v4, val_main_call0_v2, val_main_call0_cst, val_main_call0_cst_0]
  rw [h8, h9]
  rfl

theorem v14 (s : Fin 8) (r : Fin 4096) (f : Fin 704) : val_main_v14 (F := Ideal) h g (ix3 s r f) = A h g r s f := by
  have h8 := v8 h g r
  unfold val_main_v14 val_main_v13 val_main_v12
  generalize val_main_v8 (F := Ideal) h g = W at h8 ⊢
  pointwise
  rw [h8, sh_mk, pl_mk]

theorem v17 (s : Fin 8) (r : Fin 4096) (f : Fin 704) : val_main_v17 (F := Ideal) h u (ix3 s r f) = A h u r s f := v14 h u s r f

theorem v21 (s : Fin 8) (f : Fin 704) (r : Fin 4096) : val_main_v21 (F := Ideal) h g u (ix3 s f r) = gate (A h g r s f) (A h u r s f) := by
  have h11 := v11 h g u r
  unfold val_main_v21 val_main_v20 val_main_v19 val_main_v18
  generalize val_main_v11 (F := Ideal) h g u = W at h11 ⊢
  pointwise
  rw [h11, sh_mk, pl_mk]

theorem v26 : val_main_v26 (F := Ideal) h g u = val_main_v11 (F := Ideal) h g u := rfl

/-- The block's output. -/
theorem v27 (r : Fin 4096) (d : Fin 2048) : val_main_v27 (F := Ideal) h g u w (ix2 r d) = ∑ s : Fin 8, MP h g u w r s d := by
  have h11 := v11 h g u r
  unfold val_main_v27
  rw [v26]
  generalize val_main_v11 (F := Ideal) h g u = W at h11 ⊢
  pointwise [val_main_v22, val_main_v3]
  simp only [h11]
  rw [← Fin.sum_mul_add_fin 8 704 (fun n : Fin 5632 => gate (A h g r (sh n) (pl n)) (A h u r (sh n) (pl n)) * w (ix3 (sh n) (pl n) d))]
  simp only [sh_mk, pl_mk]
  rfl

end Cert.FfnF

end
-- ==== Proof.FfnFKer.lean ====
/-
  The feed-forward block's forward call: the kernel, entry by entry.
-/
module

public import proofs.«01_k».proof.Proof.Gen.Kernel15Ideal.Frame
public import proofs.«01_k».proof.Proof.FfnFRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnF

open Cert.Kernel15Ideal Cert.Kernel15Ideal.Gen Cert.Lift

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val % 8, 0, 0]
    ∧ win0_3.index t = ![t.val % 8, 0, 0] ∧ win0_4.index t = ![t.val % 8, t.val / 8, 0] ∧ win0_5.index t = ![t.val % 8, t.val / 8, 0]
    ∧ win0_6.index t = ![t.val % 8, 0, t.val / 8] ∧ win0_7.index t = ![t.val / 8, 0] :=
  (by decide +kernel : ∀ t : Fin grid0.N, _)

/-- A point's row of the whole array, and its shard. -/
abbrev row (t : Fin cfg0.N) (r : Fin 512) : Fin 4096 := ⟨t.val / 8 * 512 + r.val, by have : cfg0.N = 64 := rfl; omega⟩
abbrev shard (t : Fin cfg0.N) : Fin 8 := ⟨t.val % 8, by omega⟩

section
variable (x : FVec Ideal S512x2048 .bf16) (y z : FVec Ideal S1x2048x704 .bf16) (r : Fin 512) (f : Fin 704)

theorem pay4 : k0_pay4 (F := Ideal) x y (ix2 r f) = ∑ d : Fin 2048, x (ix2 r d) * y (ix3 0 d f) := by
  pointwise [k0_pay4]
theorem pay8 (o : Fin 1) : k0_pay8 (F := Ideal) x y (ix3 o r f) = k0_pay4 (F := Ideal) x y (ix2 r f) := by
  pointwise [k0_pay8]
theorem pay9 (o : Fin 1) : k0_pay9 (F := Ideal) x y (ix3 o r f) = k0_pay4 (F := Ideal) x y (ix2 r f) := pay8 x y r f o
theorem pay6 : k0_pay6 (F := Ideal) x y z (ix2 r f) = gate (k0_pay4 (F := Ideal) x y (ix2 r f)) (k0_pay4 (F := Ideal) x z (ix2 r f)) := by
  unfold k0_pay6
  rw [show k0_pay5 (F := Ideal) x z = k0_pay4 (F := Ideal) x z from rfl]
  generalize k0_pay4 (F := Ideal) x y = P
  generalize k0_pay4 (F := Ideal) x z = Q
  pointwise
  simp only [zero_sub]
  rfl
theorem pay10 (o : Fin 1) : k0_pay10 (F := Ideal) x y z (ix3 o f r) = k0_pay6 (F := Ideal) x y z (ix2 r f) := by
  unfold k0_pay10
  generalize k0_pay6 (F := Ideal) x y z = P
  pointwise
theorem pay1 (v : FVec Ideal S1x704x2048 .bf16) (d : Fin 2048) :
    k0_pay1 (F := Ideal) (k0_pay7 (F := Ideal) x y z) v (ix2 r d) = ∑ f : Fin 704, k0_pay6 (F := Ideal) x y z (ix2 r f) * v (ix3 0 f d) := by
  unfold k0_pay1 k0_pay7
  generalize k0_pay6 (F := Ideal) x y z = P
  pointwise
theorem pay2 (p : FVec Ideal S512x704 .bf16) (v : FVec Ideal S1x704x2048 .bf16) : k0_pay2 (F := Ideal) p v = k0_pay1 (F := Ideal) p v := by
  unfold k0_pay2
  generalize k0_pay1 (F := Ideal) p v = P
  funext j; idx_vars j
  pointwise
theorem pay3 (p : FVec Ideal S512x704 .bf16) (v : FVec Ideal S1x704x2048 .bf16) (a : FVec Ideal S512x2048 .f32) (j) :
    k0_pay3 (F := Ideal) p v a j = a j + k0_pay1 (F := Ideal) p v j := by
  unfold k0_pay3
  generalize k0_pay1 (F := Ideal) p v = P
  idx_vars j
  pointwise
end

variable (h : FVec Ideal S4096x2048 .bf16) (g u : FVec Ideal S8x2048x704 .bf16) (w : FVec Ideal S8x704x2048 .bf16) (c : Dev nD)

/-- The arguments. -/
structure Args : Prop where
  a0 : m ((c : Thread nD τ).loc main_arg0) = h
  a1 : m ((c : Thread nD τ).loc main_arg1) = g
  a2 : m ((c : Thread nD τ).loc main_arg2) = u
  a3 : m ((c : Thread nD τ).loc main_arg3) = w

variable (H : Args m h g u w c) (t : Fin cfg0.N)
include H

theorem iblk0 (r : Fin 512) (d : Fin 2048) : (iblk m c 0 t : FVec Ideal S512x2048 .bf16) (ix2 r d) = h (ix2 (row t r) d) := by
  obtain ⟨h0, h1, h2, h3, h4, h5, h6, h7⟩ := idx t
  refine Eq.trans ?_ (congrFun H.a0 (ix2 (row t r) d))
  blk_point [iblk, V, h0]
theorem iblk1 (d : Fin 2048) (f : Fin 704) : (iblk m c 1 t : FVec Ideal S1x2048x704 .bf16) (ix3 0 d f) = g (ix3 (shard t) d f) := by
  obtain ⟨h0, h1, h2, h3, h4, h5, h6, h7⟩ := idx t
  refine Eq.trans ?_ (congrFun H.a1 (ix3 (shard t) d f))
  blk_point [iblk, V, h1]
theorem iblk2 (d : Fin 2048) (f : Fin 704) : (iblk m c 2 t : FVec Ideal S1x2048x704 .bf16) (ix3 0 d f) = u (ix3 (shard t) d f) := by
  obtain ⟨h0, h1, h2, h3, h4, h5, h6, h7⟩ := idx t
  refine Eq.trans ?_ (congrFun H.a2 (ix3 (shard t) d f))
  blk_point [iblk, V, h2]
theorem iblk3 (f : Fin 704) (d : Fin 2048) : (iblk m c 3 t : FVec Ideal S1x704x2048 .bf16) (ix3 0 f d) = w (ix3 (shard t) f d) := by
  obtain ⟨h0, h1, h2, h3, h4, h5, h6, h7⟩ := idx t
  refine Eq.trans ?_ (congrFun H.a3 (ix3 (shard t) f d))
  blk_point [iblk, V, h3]

theorem a (r : Fin 512) (f : Fin 704) : k0_pay4 (F := Ideal) (iblk m c 0 t) (iblk m c 1 t) (ix2 r f) = A h g (row t r) (shard t) f := by
  rw [pay4]
  simp only [iblk0 m h g u w c H, iblk1 m h g u w c H, A]
theorem b (r : Fin 512) (f : Fin 704) : k0_pay4 (F := Ideal) (iblk m c 0 t) (iblk m c 2 t) (ix2 r f) = A h u (row t r) (shard t) f := by
  rw [pay4]
  simp only [iblk0 m h g u w c H, iblk2 m h g u w c H, A]
theorem hid (r : Fin 512) (f : Fin 704) : k0_pay6 (F := Ideal) (iblk m c 0 t) (iblk m c 1 t) (iblk m c 2 t) (ix2 r f)
    = gate (A h g (row t r) (shard t) f) (A h u (row t r) (shard t) f) := by
  rw [pay6, a m h g u w c H, b m h g u w c H]

/-- A point's part of the output. -/
def part (t : Fin cfg0.N) : FVec Ideal S512x2048 .f32 := fun j => MP h g u w (row t (j 0)) (shard t) (j 1)

theorem part_eq (j : S512x2048.Idx) : k0_pay1 (F := Ideal) (k0_pay7 (F := Ideal) (iblk m c 0 t) (iblk m c 1 t) (iblk m c 2 t)) (iblk m c 3 t) j = part h g u w t j := by
  idx_vars j
  rw [pay1]
  simp only [hid m h g u w c H, iblk3 m h g u w c H]
  rfl

omit H in
theorem outs : (outsAt0 m c t.val t.isLt).1 = k0_pay8 (F := Ideal) (iblk m c 0 t) (iblk m c 1 t)
    ∧ (outsAt0 m c t.val t.isLt).2.1 = k0_pay9 (F := Ideal) (iblk m c 0 t) (iblk m c 2 t)
    ∧ (outsAt0 m c t.val t.isLt).2.2.1 = k0_pay10 (F := Ideal) (iblk m c 0 t) (iblk m c 1 t) (iblk m c 2 t) := by
  by_cases h0 : t.val % 8 = 0
  · rw [outsAt0_A m c t h0 (by omega) (by omega)]; refine ⟨?_, ?_, ?_⟩ <;> frame_out
  · by_cases h1 : t.val % 8 = 7
    · rw [outsAt0_C m c t h0 (by omega) h1]; refine ⟨?_, ?_, ?_⟩ <;> frame_out
    · rw [outsAt0_B m c t h0 (by omega) h1]; refine ⟨?_, ?_, ?_⟩ <;> frame_out

/-- The four results, as arrays. -/
def Av : FVec Ideal S8x4096x704 .bf16 := fun i => A h g (i 1) (i 0) (i 2)
def HTv : FVec Ideal S8x704x4096 .bf16 := fun i => gate (A h g (i 2) (i 0) (i 1)) (A h u (i 2) (i 0) (i 1))
def Mv : FVec Ideal S4096x2048 .f32 := fun i => ∑ s : Fin 8, MP h g u w (i 0) s (i 1)

theorem final4 : (dats m 0 c).arrAt 4 (cfgs 0).N = Av h g := by
  refine (dats m 0 c).arrAt_eq_of_covers 4 _ (by decide +kernel) fun t hf y => ?_
  blk_simp
  rw [after0_4, (outs m c t).1]
  obtain ⟨h0, h1, h2, h3, h4, h5, h6, h7⟩ := idx t
  idx_vars y
  rw [pay8]
  refine (a m h g u w c H t y1 y2).trans ?_
  show Av h g (ix3 (shard t) (row t y1) y2) = _
  blk_ext [h4]

theorem final5 : (dats m 0 c).arrAt 5 (cfgs 0).N = Av h u := by
  refine (dats m 0 c).arrAt_eq_of_covers 5 _ (by decide +kernel) fun t hf y => ?_
  blk_simp
  rw [after0_5, (outs m c t).2.1]
  obtain ⟨h0, h1, h2, h3, h4, h5, h6, h7⟩ := idx t
  idx_vars y
  rw [pay9]
  refine (b m h g u w c H t y1 y2).trans ?_
  show Av h u (ix3 (shard t) (row t y1) y2) = _
  blk_ext [h5]

theorem final6 : (dats m 0 c).arrAt 6 (cfgs 0).N = HTv h g u := by
  refine (dats m 0 c).arrAt_eq_of_covers 6 _ (by decide +kernel) fun t hf y => ?_
  blk_simp
  rw [after0_6, (outs m c t).2.2]
  obtain ⟨h0, h1, h2, h3, h4, h5, h6, h7⟩ := idx t
  idx_vars y
  rw [pay10]
  refine (hid m h g u w c H t y2 y1).trans ?_
  show HTv h g u (ix3 (shard t) y1 (row t y2)) = _
  blk_ext [h6]

omit H in
theorem outs7 (ht : t.val % 8 = 7) : (outsAt0 m c t.val t.isLt).2.2.2.1 = (outsAt0 m c t.val t.isLt).2.2.2.2 := by
  rw [outsAt0_C m c t (by omega) (by omega) ht]; frame_out

theorem acc (ht : t.val % 8 = 7) (j : S512x2048.Idx) : (outsAt0 m c t.val t.isLt).2.2.2.2 j = ∑ s : Fin 8, MP h g u w (row t (j 0)) s (j 1) := by
  rw [Pipeline.eq_sum_fin_of_reset_step_apply_of_flush (fun n h => (outsAt0 m c n h).2.2.2.2) 8 (fun _ => 0) (part h g u w)
    (fun t hz j => by
      rw [outsAt0_A m c t hz (by omega) (by omega)]; frame_out; rw [pay2, part_eq m h g u w c H, zero_add])
    (fun t hz j => by
      by_cases h1 : t.val % 8 = 7
      · rw [outsAt0_C m c t hz (by omega) h1]; frame_out; rw [pay3, part_eq m h g u w c H, read_unread_whole]
      · rw [outsAt0_B m c t hz (by omega) h1]; frame_out; rw [pay3, part_eq m h g u w c H, read_unread_whole])
    t ht j, zero_add]
  refine Finset.sum_congr rfl fun s _ => ?_
  unfold part
  congr 1
  · exact Fin.ext (by show (8 * (t.val / 8) + s.val) / 8 * 512 + _ = t.val / 8 * 512 + _; omega)
  · exact Fin.ext (by show (8 * (t.val / 8) + s.val) % 8 = s.val; omega)

theorem final7 : (dats m 0 c).arrAt 7 (cfgs 0).N = Mv h g u w := by
  refine (dats m 0 c).arrAt_eq_of_covers 7 _ (by decide +kernel) fun t hf y => ?_
  blk_simp
  have ht := (flush0_7 t).mp hf
  rw [after0_7, outs7 m c t ht, acc m h g u w c H t ht]
  obtain ⟨h0, h1, h2, h3, h4, h5, h6, h7⟩ := idx t
  idx_vars y
  show Mv h g u w (ix2 (row t y0) y1) = _
  blk_ext [h7]

end Cert.FfnF

end
-- ==== Proof.FfnFClaims.lean ====
/-
  The claims about the feed-forward block's forward call.
-/
module

public import proofs.«01_k».proof.Defs
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.FfnFKer
public import Idealize.ShloMosaic.Lib.Claim

@[expose] public section

set_option maxRecDepth 16384

noncomputable section

open Idealize.ShloMosaic Idealize.ShloMosaic.TcCoe Idealize.SL.Sem
open Cert.Lift

namespace Cert.FfnF

theorem frame_p : Cert.quiescent_Kernel15 (hKernel15 := Cert.Kernel15.Gen.facts) := fun m ρ _ => Cert.Kernel15.Gen.frame m ρ

theorem frame_pi : Cert.quiescent_Kernel15Ideal (hKernel15Ideal := Cert.Kernel15Ideal.Gen.facts) := fun m ρ _ => Cert.Kernel15Ideal.Gen.frame m ρ

theorem frame_ri : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem args (m) (c) : ∃ h g u w, Args m h g u w c := ⟨_, _, _, _, rfl, rfl, rfl, rfl⟩

section
variable (m : (ℓ : Loc Cert.Kernel15Ideal.nD Cert.Kernel15Ideal.τ Cert.Kernel15Ideal.sig) → Buf (Elt Ideal) ℓ) (c : Dev Cert.Kernel15Ideal.nD)

open Cert.Kernel15Ideal Cert.Reference15Ideal.Read

theorem res4 : val_main_v14 (F := Ideal) (m ((c.tc : Thread nD τ).loc main_arg0)) (m ((c.tc : Thread nD τ).loc main_arg1)) = (Cert.Kernel15Ideal.Gen.dats m 0 c).arrAt 4 Cert.Kernel15Ideal.cfg0.N := by
  obtain ⟨h, g, u, w, H⟩ := args m c
  refine Eq.trans ?_ (final4 m h g u w c H).symm
  refine (show _ = val_main_v14 (F := Ideal) h g by rw [← H.a0, ← H.a1]).trans ?_
  funext i; idx_vars i; exact v14 h g _ _ _

theorem res5 : val_main_v17 (F := Ideal) (m ((c.tc : Thread nD τ).loc main_arg0)) (m ((c.tc : Thread nD τ).loc main_arg2)) = (Cert.Kernel15Ideal.Gen.dats m 0 c).arrAt 5 Cert.Kernel15Ideal.cfg0.N := by
  obtain ⟨h, g, u, w, H⟩ := args m c
  refine Eq.trans ?_ (final5 m h g u w c H).symm
  refine (show _ = val_main_v17 (F := Ideal) h u by rw [← H.a0, ← H.a2]).trans ?_
  funext i; idx_vars i; exact v17 h u _ _ _

theorem res6 : val_main_v21 (F := Ideal) (m ((c.tc : Thread nD τ).loc main_arg0)) (m ((c.tc : Thread nD τ).loc main_arg1)) (m ((c.tc : Thread nD τ).loc main_arg2)) = (Cert.Kernel15Ideal.Gen.dats m 0 c).arrAt 6 Cert.Kernel15Ideal.cfg0.N := by
  obtain ⟨h, g, u, w, H⟩ := args m c
  refine Eq.trans ?_ (final6 m h g u w c H).symm
  refine (show _ = val_main_v21 (F := Ideal) h g u by rw [← H.a0, ← H.a1, ← H.a2]).trans ?_
  funext i; idx_vars i; exact v21 h g u _ _ _

theorem res7 : val_main_v27 (F := Ideal) (m ((c.tc : Thread nD τ).loc main_arg0)) (m ((c.tc : Thread nD τ).loc main_arg1)) (m ((c.tc : Thread nD τ).loc main_arg2)) (m ((c.tc : Thread nD τ).loc main_arg3)) = (Cert.Kernel15Ideal.Gen.dats m 0 c).arrAt 7 Cert.Kernel15Ideal.cfg0.N := by
  obtain ⟨h, g, u, w, H⟩ := args m c
  refine Eq.trans ?_ (final7 m h g u w c H).symm
  refine (show _ = val_main_v27 (F := Ideal) h g u w by rw [← H.a0, ← H.a1, ← H.a2, ← H.a3]).trans ?_
  funext i; idx_vars i; exact v27 h g u w _ _

end

/-- The kernel's four results are the reference's. -/
theorem algebraic : Cert.algebraic_Kernel15Ideal_Reference15Ideal (hKernel15Ideal := Cert.Kernel15Ideal.Gen.facts)
    (hReference15Ideal := Cert.Reference15Ideal.Gen.facts) := by
  intro m g m' g' _ hagree
  refine ⟨_, _, _, _, Cert.Kernel15Ideal.Value.run_blocks m g,
    (θ_run Cert.Reference15Ideal.defs _ _).mono (fun r h c => ?_) (Cert.Reference15Ideal.Value.run (F := Ideal) m' g')⟩
  obtain ⟨e0, e1, e2, e3⟩ := hagree c
  obtain ⟨h0, h1, h2, h3, h4⟩ := h c
  refine ⟨(h0.trans (Cert.Reference15Ideal.Read.val_main_v14_eq _ _)).trans ?_,
    (h1.trans (Cert.Reference15Ideal.Read.val_main_v17_eq _ _)).trans ?_,
    (h2.trans (Cert.Reference15Ideal.Read.val_main_v21_eq _ _ _)).trans ?_,
    (h3.trans (Cert.Reference15Ideal.Read.val_main_v27_eq _ _ _ _)).trans ?_, h4⟩
  · rw [e0, e1]; exact res4 m c
  · rw [e0, e2]; exact res5 m c
  · rw [e0, e1, e2]; exact res6 m c
  · rw [e0, e1, e2, e3]; exact res7 m c

end Cert.FfnF

end
-- ==== Proof.SguFRef.lean ====
/-
  The spatial gating's forward call: its result at a point, and the reference's stages.
-/
module

public import proofs.«01_k».proof.Proof.SguMath
public import proofs.«01_k».proof.Proof.AttnRef
public import proofs.«01_k».proof.Proof.Gen.Reference16Ideal.Read

@[expose] public section

set_option maxRecDepth 16384

noncomputable section

open Idealize.ShloMosaic Idealize.ShloMosaic.TcCoe Idealize.SL.Sem

namespace Cert.SguF

open Cert.Reference16Ideal Cert.Reference16Ideal.Read Cert.Lift
open Cert.Sgu (num_word den_word cc rw_ cl rn rp cg ck)

/-- The gelu; a row's deviations from its mean and the reciprocal of their spread. -/
def gle (x : EReal) : EReal := x * (Ideal.ofBits .f32 0x3F000000#32 * (1 + Ideal.tanh (Ideal.ofBits .f32 0x3F4C422A#32 * (x + (cc : EReal) * (x * x * x)))))
def de (v : Fin 1024 → EReal) (l : Fin 1024) : EReal := v l - Ideal.div (∑ k, v k) (Ideal.ofBits .f32 0x44800000#32)
def rse (v : Fin 1024 → EReal) : EReal := Ideal.rsqrt (Ideal.div (∑ k, de v k * de v k) (Ideal.ofBits .f32 0x44800000#32) + Ideal.ofBits .f32 0x358637BD#32)

variable (z : FVec Ideal S4096x3328 .f32) (a b : FVec Ideal S1x1024 .f32) (w : FVec Ideal S8x128x128 .f32) (s : FVec Ideal S8x128 .f32)
variable (i : Fin 4096) (l : Fin 1024)

/-- The two parts' gelus, the normalised rows, the mixed rows, the result. -/
def GU : EReal := gle (z (ix2 i ⟨1024 + l.val, by omega⟩))
def GV : EReal := gle (z (ix2 i ⟨2048 + l.val, by omega⟩))
def VN : EReal := de (GV z i) l * rse (GV z i) * a (ix2 0 l) + b (ix2 0 l)
def MIX (n : Fin 32) (p : Fin 128) (g : Fin 8) (k : Fin 128) : EReal :=
  (∑ j : Fin 128, (if j.val ≤ p.val then w (ix3 g p j) else 0) * VN z a b (rw_ n j) (cl g k)) + s (ix2 g p)
def OUT : EReal := GU z i l * MIX z a b w s (rn i) (rp i) (cg l) (ck l)

theorem cc_div : Ideal.div (Ideal.ofBits FTy.f32 0x472EAB00#32) (Ideal.ofBits FTy.f32 0x49742400#32) = (cc : EReal) := by
  rw [num_word, den_word, div_coe _ _ (by norm_num : (1000000 : ℝ) ≠ 0)]; rfl

theorem v1 : val_main_v1 (F := Ideal) z (ix3 0 i l) = z (ix2 i ⟨1024 + l.val, by omega⟩) := by
  pointwise [val_main_v1, val_main_v0]
theorem v3 : val_main_v3 (F := Ideal) z (ix3 0 i l) = z (ix2 i ⟨2048 + l.val, by omega⟩) := by
  pointwise [val_main_v3, val_main_v2]
theorem v19 : val_main_v19 (F := Ideal) z (ix3 0 i l) = GU z i l := by
  have h := v1 z i l
  unfold val_main_v19 val_main_v18 val_main_v16 val_main_v14 val_main_v13 val_main_v11 val_main_v10 val_main_v8 val_main_v7
  generalize val_main_v1 (F := Ideal) z = W at h ⊢
  pointwise [val_main_v17, val_main_cst_3, val_main_v15, val_main_cst_2, val_main_v12, val_main_cst_1, val_main_v9, val_main_v6, val_main_cst, val_main_cst_0]
  rw [h, cc_div]
  rfl
theorem v33 : val_main_v33 (F := Ideal) z (ix3 0 i l) = GV z i l := by
  have h := v3 z i l
  unfold val_main_v33 val_main_v32 val_main_v30 val_main_v28 val_main_v27 val_main_v25 val_main_v24 val_main_v22 val_main_v21
  generalize val_main_v3 (F := Ideal) z = W at h ⊢
  pointwise [val_main_v31, val_main_cst_8, val_main_v29, val_main_cst_7, val_main_v26, val_main_cst_6, val_main_v23, val_main_v20, val_main_cst_4, val_main_cst_5]
  rw [h, cc_div]
  rfl

/-! ### The layer norm -/

theorem v37 (q : Fin 1) : val_main_v37 (F := Ideal) z (ix3 0 i q) = Ideal.div (∑ k, GV z i k) (Ideal.ofBits .f32 0x44800000#32) := by
  have h := v33 z i
  unfold val_main_v37 val_main_v35 val_main_v34
  generalize val_main_v33 (F := Ideal) z = W at h ⊢
  pointwise [val_main_v36, val_main_cst_10, val_main_cst_9]
  simp only [h]
theorem v39 : val_main_v39 (F := Ideal) z (ix3 0 i l) = de (GV z i) l := by
  have h := v33 z i l
  have h7 := v37 z i 0
  unfold val_main_v39 val_main_v38
  generalize val_main_v33 (F := Ideal) z = W at h ⊢
  generalize val_main_v37 (F := Ideal) z = M at h7 ⊢
  pointwise
  rw [h, h7]
  rfl
theorem v46 : val_main_v46 (F := Ideal) z (ix3 0 i l) = de (GV z i) l := v39 z i l
theorem v49 (q : Fin 1) : val_main_v49 (F := Ideal) z (ix3 0 i q) = rse (GV z i) := by
  have h := v39 z i
  unfold val_main_v49 val_main_v48 val_main_v44 val_main_v42 val_main_v41 val_main_v40
  generalize val_main_v39 (F := Ideal) z = W at h ⊢
  pointwise [val_main_v47, val_main_cst_13, val_main_v43, val_main_cst_12, val_main_cst_11]
  simp only [h]
  rfl
theorem v57 : val_main_v57 (F := Ideal) z a b (ix3 0 i l) = VN z a b i l := by
  have h6 := v46 z i l
  have h9 := v49 z i 0
  unfold val_main_v57 val_main_v54 val_main_v51 val_main_v50
  generalize val_main_v46 (F := Ideal) z = W at h6 ⊢
  generalize val_main_v49 (F := Ideal) z = X at h9 ⊢
  pointwise [val_main_v53, val_main_v52, val_main_v4, val_main_v56, val_main_v55, val_main_v5]
  rw [h6, h9]
  rfl
theorem v58 (n : Fin 32) (p : Fin 128) (g : Fin 8) (k : Fin 128) : val_main_v58 (F := Ideal) z a b (ix5 0 n p g k) = VN z a b (rw_ n p) (cl g k) := by
  have h := v57 z a b (rw_ n p) (cl g k)
  unfold val_main_v58
  generalize val_main_v57 (F := Ideal) z a b = W at h ⊢
  pointwise
  exact h

/-! ### The mixed rows -/

theorem v60 (p j : Fin 128) : val_main_v60 (F := Ideal) (ix2 p j) = if j.val ≤ p.val then 1 else 0 := by
  pointwise [val_main_v60, val_main_call0_v4, val_main_call0_v2, val_main_call0_v0, val_main_call0_v1, val_main_call0_c, val_main_call0_v3, val_main_v59, val_main_cst_14, val_main_call0_v5, val_main_call0_cst]
  have hr : (IntOp.addi (BitVec.ofNat 32 p.val) 0#32).toInt = (p.val : ℤ) := by
    show (BitVec.ofNat 32 p.val + 0#32).toInt = _
    rw [BitVec.add_zero, Cert.Attn.word _ (by omega)]
  rw [Cert.Attn.cmp_sge, hr, Cert.Attn.word _ (by omega : j.val < 4096)]
  by_cases h : j.val ≤ p.val
  · rw [if_pos h, decide_eq_true (by omega : (j.val : ℤ) ≤ p.val)]; rfl
  · rw [if_neg h, decide_eq_false (by omega : ¬(j.val : ℤ) ≤ p.val)]; rfl
theorem v63 (g : Fin 8) (p j : Fin 128) : val_main_v63 (F := Ideal) w (ix3 g p j) = if j.val ≤ p.val then w (ix3 g p j) else 0 := by
  have h := v60 p j
  unfold val_main_v63 val_main_v62 val_main_v61
  generalize val_main_v60 (F := Ideal) = W at h ⊢
  pointwise
  rw [h]
  split_ifs
  · exact mul_one _
  · exact mul_zero _
theorem v69 (n : Fin 32) (p : Fin 128) (g : Fin 8) (k : Fin 128) : val_main_v69 (F := Ideal) z a b w s (ix5 0 n p g k) = MIX z a b w s n p g k := by
  have h1 := v58 z a b n
  have h6 := v63 w g p
  unfold val_main_v69 val_main_v65 val_main_v64
  generalize val_main_v58 (F := Ideal) z a b = X at h1 ⊢
  generalize val_main_v63 (F := Ideal) w = Y at h6 ⊢
  pointwise [val_main_v68, val_main_v67, val_main_v66]
  simp only [h1, h6]
  exact congrArg (· + _) (Finset.sum_congr rfl fun j _ => mul_comm _ _)
theorem v73 : val_main_v73 (F := Ideal) z a b w s (ix2 i l) = OUT z a b w s i l := by
  have h := v69 z a b w s (rn i) (rp i) (cg l) (ck l)
  have h9 := v19 z i l
  unfold val_main_v73 val_main_v72 val_main_v71 val_main_v70
  generalize val_main_v69 (F := Ideal) z a b w s = X at h ⊢
  generalize val_main_v19 (F := Ideal) z = Y at h9 ⊢
  pointwise
  exact congrArg₂ (· * ·) h9 h

end Cert.SguF

end
-- ==== Proof.SguFKer.lean ====
/-
  The spatial gating's forward call: the kernel's result.
-/
module

public import proofs.«01_k».proof.Proof.Gen.Kernel16Ideal.Frame
public import proofs.«01_k».proof.Proof.SguFRef
public import proofs.«01_k».proof.Proof.SguKer

@[expose] public section

set_option maxRecDepth 65536
set_option maxHeartbeats 1000000

noncomputable section

open Idealize.ShloMosaic Idealize.ShloMosaic.TcCoe Idealize.SL.Sem
open Idealize.ShloMosaic.Pipeline (Dat)

namespace Cert.SguF

open Cert.Kernel16Ideal Cert.Kernel16Ideal.Gen Cert.Lift
open Cert.Sgu (cc rw_ cl rn rp cg ck rn_rw rp_rw gmix gx groups groups_at mat col ld_mat causal inbb)

theorem c_value : (Named.named κ "c" 0x3D372713#32 : Ideal .f32) = (cc : EReal) := by
  show ((8943 / 200000 : ℝ) : EReal) = _
  exact congrArg _ (by norm_num [cc])

section
variable (X : FVec Ideal S128x1024 .f32) (x : Fin 1024 → EReal) (r : Fin 128) (hX : ∀ l, X (ix2 r l) = x l) (l : Fin 1024)
include hX

theorem pay2_at : k0_pay2 (F := Ideal) X (ix2 r l) = gle (x l) := by
  pointwise [k0_pay2]
  rw [hX, c_value, mul_comm _ (x l), mul_assoc]
  rfl
theorem pay3_at : k0_pay3 (F := Ideal) X (ix2 r l) = de (fun l => gle (x l)) l := by
  pointwise [k0_pay3]
  simp only [hX, c_value, mul_comm (Ideal.ofBits .f32 0x3F000000#32) (x _), mul_assoc (x _) (Ideal.ofBits .f32 0x3F000000#32)]
  rfl
theorem pay4_at : k0_pay4 (F := Ideal) X (ix2 r 0) = rse fun l => gle (x l) := by
  have h := pay3_at X x r hX
  unfold k0_pay4
  generalize k0_pay3 (F := Ideal) X = T at h ⊢
  pointwise
  simp only [h]
  rfl
theorem pay5_at (G B : FVec Ideal S1x1024 .f32) : k0_pay5 (F := Ideal) (k0_pay3 X) (k0_pay4 X) G B (ix2 r l)
    = de (fun l => gle (x l)) l * (rse fun l => gle (x l)) * G (ix2 0 l) + B (ix2 0 l) := by
  have h3 := pay3_at X x r hX l
  have h4 := pay4_at X x r hX
  unfold k0_pay5
  generalize k0_pay3 (F := Ideal) X = T at h3 ⊢
  generalize k0_pay4 (F := Ideal) X = R at h4 ⊢
  pointwise
  rw [h3, h4]
end

theorem gmix_at (X : FVec Ideal S128x1024 .bf16) (wg : FVec Ideal S1x128x128 .f32) (bg : FVec Ideal S128x1 .f32) (g : Fin 8) (p k : Fin 128) :
    gmix X wg bg g (ix2 p k) = (∑ j : Fin 128, (if j.val ≤ p.val then wg (ix3 0 p j) else 0) * X (ix2 j (cl g k))) + bg (ix2 p 0) := by
  have h : ∀ r k, gx X g (ix2 r k) = X (ix2 r (cl g k)) := fun r k => by pointwise [gx]
  unfold gmix
  generalize gx X g = A at h ⊢
  pointwise
  refine congrArg (· + _) (Finset.sum_congr rfl fun j _ => ?_)
  rw [h, causal]
  split_ifs with hj
  · rw [decide_eq_true hj]; rfl
  · rw [decide_eq_false hj]; exact (zero_mul _).symm

variable (m : (ℓ : Loc nD τ sig) → Buf (Elt Ideal) ℓ)

theorem idx : ∀ t : Fin cfg0.N, win0_0.index t = ![t.val, 1] ∧ win0_1.index t = ![t.val, 2] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

abbrev bl (t : Fin cfg0.N) : Fin 32 := ⟨t.val, t.isLt⟩

variable (z : FVec Ideal S4096x3328 .f32) (a b : FVec Ideal S1x1024 .f32) (w : FVec Ideal S8x128x128 .f32) (s : FVec Ideal S8x128 .f32) (c : Dev nD)

/-- The arguments. -/
structure Args : Prop where
  a0 : m ((c : Thread nD τ).loc main_arg0) = z
  a1 : m ((c : Thread nD τ).loc main_arg1) = a
  a2 : m ((c : Thread nD τ).loc main_arg2) = b
  a3 : m ((c : Thread nD τ).loc main_arg3) = w
  a4 : m ((c : Thread nD τ).loc main_arg4) = s

section
variable (H : Args m z a b w s c) (t : Fin cfg0.N)

abbrev Xp : FVec Ideal S128x1024 .bf16 := k0_pay5 (k0_pay3 (X0_1 m c t)) (k0_pay4 (X0_1 m c t)) (iblk m c 2 t) (iblk m c 3 t)

theorem out6 : outsAt0 m c t = (truncf .bf16 (mulf (k0_pay2 (X0_0 m c t)) (groups fun g => gmix (Xp m c t) (mat (iblk m c 4 t) g) (col (iblk m c 5 t) g) g))
    bitsLt_bf16_f32 : FVec Ideal S128x1024 .bf16) := by
  unfold outsAt0 out0_A_6
  frame_out
  rfl

include H

theorem bias (p : Fin 128) (g : Fin 8) : (V m c main_v0 : FVec Ideal S128x8 .f32) (ix2 p g) = s (ix2 g p) := by
  have h : (V m c main_v0 : FVec Ideal S128x8 .f32) = transpose S128x8 [1, 0] (m ((c : Thread nD τ).loc main_arg4)) transposes_S8x128_S128x8_1_0 := by
    unfold V
    after_reads_simp
  rw [h, H.a4]
  pointwise
theorem x0 (r : Fin 128) (l : Fin 1024) : (X0_0 m c t : FVec Ideal S128x1024 .f32) (ix2 r l) = z (ix2 (rw_ (bl t) r) ⟨1024 + l.val, by omega⟩) := by
  obtain ⟨h0, h1, h2, h3, h4, h5, h6⟩ := idx t
  refine Eq.trans ?_ (congrFun H.a0 (ix2 (rw_ (bl t) r) ⟨1024 + l.val, by omega⟩))
  unfold X0_0 Pipeline.Window.fill
  rw [dif_pos (moved0_0 t _)]
  blk_point [iblk, V, h0]
theorem x1 (r : Fin 128) (l : Fin 1024) : (X0_1 m c t : FVec Ideal S128x1024 .f32) (ix2 r l) = z (ix2 (rw_ (bl t) r) ⟨2048 + l.val, by omega⟩) := by
  obtain ⟨h0, h1, h2, h3, h4, h5, h6⟩ := idx t
  refine Eq.trans ?_ (congrFun H.a0 (ix2 (rw_ (bl t) r) ⟨2048 + l.val, by omega⟩))
  unfold X0_1 Pipeline.Window.fill
  rw [dif_pos (moved0_1 t _)]
  blk_point [iblk, V, h1]
theorem iblk2 (l : Fin 1024) : (iblk m c 2 t : FVec Ideal S1x1024 .f32) (ix2 0 l) = a (ix2 0 l) := by
  obtain ⟨h0, h1, h2, h3, h4, h5, h6⟩ := idx t
  refine Eq.trans ?_ (congrFun H.a1 (ix2 0 l))
  blk_point [iblk, V, h2]
theorem iblk3 (l : Fin 1024) : (iblk m c 3 t : FVec Ideal S1x1024 .f32) (ix2 0 l) = b (ix2 0 l) := by
  obtain ⟨h0, h1, h2, h3, h4, h5, h6⟩ := idx t
  refine Eq.trans ?_ (congrFun H.a2 (ix2 0 l))
  blk_point [iblk, V, h3]
theorem mat4 (g : Fin 8) (p j : Fin 128) : mat (iblk m c 4 t) g (ix3 0 p j) = w (ix3 g p j) := by
  obtain ⟨h0, h1, h2, h3, h4, h5, h6⟩ := idx t
  refine (ld_mat _ g p j).trans (Eq.trans ?_ (congrFun H.a3 (ix3 g p j)))
  blk_point [iblk, V, h4]
theorem col5 (g : Fin 8) (p : Fin 128) : col (iblk m c 5 t) g (ix2 p 0) = s (ix2 g p) := by
  obtain ⟨h0, h1, h2, h3, h4, h5, h6⟩ := idx t
  refine (View.ld_unit_apply_of _ _ _ (inbb g) _ (ix2 p g) fun a => ?_).trans (Eq.trans ?_ (bias m z a b w s c H p g))
  · match a with
    | ⟨0, _⟩ => exact (Nat.zero_add _).symm
    | ⟨1, _⟩ => rfl
  · blk_point [iblk, h5]

theorem hXp (r : Fin 128) (l : Fin 1024) : Xp m c t (ix2 r l) = VN z a b (rw_ (bl t) r) l := by
  refine (pay5_at _ _ r (x1 m z a b w s c H t r) l _ _).trans ?_
  rw [iblk2 m z a b w s c H t, iblk3 m z a b w s c H t]
  rfl

theorem out_at (r : Fin 128) (l : Fin 1024) : outsAt0 m c t (ix2 r l) = OUT z a b w s (rw_ (bl t) r) l := by
  rw [out6]
  show k0_pay2 (F := Ideal) (X0_0 m c t) (ix2 r l) * groups _ (ix2 r l) = _
  rw [pay2_at _ _ r (x0 m z a b w s c H t r), groups_at, gmix_at]
  simp only [mat4 m z a b w s c H t, col5 m z a b w s c H t, hXp m z a b w s c H t]
  unfold OUT
  rw [rn_rw, rp_rw]
  rfl
end

/-- The result, as an array. -/
def OUTv : FVec Ideal S4096x1024 .bf16 := fun i => OUT z a b w s (i 0) (i 1)

theorem final6 (H : Args m z a b w s c) : (dats m 0 c).arrAt 6 (cfgs 0).N = OUTv z a b w s := by
  refine (dats m 0 c).arrAt_eq_of_covers 6 _ (by decide +kernel) fun t hf y => ?_
  blk_simp
  rw [after0_6]
  obtain ⟨h0, h1, h2, h3, h4, h5, h6⟩ := idx t
  idx_vars y
  refine (out_at m z a b w s c H t y0 y1).trans ?_
  show OUTv z a b w s (ix2 (rw_ (bl t) y0) y1) = _
  blk_ext [h6]

end Cert.SguF

end
-- ==== Proof.SguFClaims.lean ====
/-
  The claims about the spatial gating's forward call.
-/
module

public import proofs.«01_k».proof.Defs
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.SguFKer
public import Idealize.ShloMosaic.Lib.Claim

@[expose] public section

set_option maxRecDepth 16384

noncomputable section

open Idealize.ShloMosaic Idealize.ShloMosaic.TcCoe Idealize.SL.Sem
open Cert.Lift

namespace Cert.SguF

theorem frame_p : Cert.quiescent_Kernel16 (hKernel16 := Cert.Kernel16.Gen.facts) := fun m ρ _ => Cert.Kernel16.Gen.frame m ρ

theorem frame_pi : Cert.quiescent_Kernel16Ideal (hKernel16Ideal := Cert.Kernel16Ideal.Gen.facts) := fun m ρ _ => Cert.Kernel16Ideal.Gen.frame m ρ

theorem frame_ri : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem args (m) (c) : ∃ z a b w s, Args m z a b w s c := ⟨_, _, _, _, _, rfl, rfl, rfl, rfl, rfl⟩

section
variable (m : (ℓ : Loc Cert.Kernel16Ideal.nD Cert.Kernel16Ideal.τ Cert.Kernel16Ideal.sig) → Buf (Elt Ideal) ℓ) (c : Dev Cert.Kernel16Ideal.nD)

open Cert.Kernel16Ideal Cert.Reference16Ideal.Read

theorem res6 : val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (Cert.Kernel16Ideal.Gen.dats m 0 c).arrAt 6 Cert.Kernel16Ideal.cfg0.N := by
  obtain ⟨z, a, b, w, s, H⟩ := args m c
  refine Eq.trans ?_ (final6 m z a b w s c H).symm
  refine (show _ = val_main_v73 (F := Ideal) z a b w s by rw [← H.a0, ← H.a1, ← H.a2, ← H.a3, ← H.a4]).trans ?_
  funext i; idx_vars i; exact v73 z a b w s _ _

end

/-- The kernel's result is the reference's. -/
theorem algebraic : Cert.algebraic_Kernel16Ideal_Reference16Ideal (hKernel16Ideal := Cert.Kernel16Ideal.Gen.facts)
    (hReference16Ideal := Cert.Reference16Ideal.Gen.facts) := by
  intro m g m' g' _ hagree
  refine ⟨_, Cert.Kernel16Ideal.Value.run_blocks m g,
    (θ_run Cert.Reference16Ideal.defs _ _).mono (fun r h c => ?_) (Cert.Reference16Ideal.Value.run (F := Ideal) m' g')⟩
  obtain ⟨e0, e1, e2, e3, e4⟩ := hagree c
  obtain ⟨h0, h1⟩ := h c
  refine ⟨(h0.trans (Cert.Reference16Ideal.Read.val_main_v73_eq m' c)).trans ?_, h1⟩
  · rw [e0, e1, e2, e3, e4]; exact res6 m c

/-- The constant of the tanh approximation is named, and read as the quotient it stands for. -/
theorem preserves : Cert.preserves_Kernel16_Kernel16Ideal := IdealRules.named_const.statement Cert.Kernel16Ideal.κ "c" .f32 0x3D372713#32 _ rfl

end Cert.SguF

end
-- ==== Proof.AttnFRef.lean ====
/-
  The windowed attention's forward call: the reference's result at real arguments. Its stages are those of the
  gradient's reference, with the keys turned before they are cut into windows.
-/
module

public import proofs.«01_k».proof.Proof.AttnRefC
public import proofs.«01_k».proof.Proof.Gen.Reference17Ideal.Read

@[expose] public section

set_option maxRecDepth 16384

noncomputable section

open Idealize.ShloMosaic Idealize.ShloMosaic.TcCoe Idealize.SL.Sem

namespace Cert.AttnF

open Cert.Reference17Ideal Cert.Reference17Ideal.Read Cert.Lift Cert.Softmax
open Cert.Attn (co si turn turn_coe window live krow qrow cof hof gp sees KB VB PR gp_hof pr_off)

variable (z : S4096x3328.Idx → ℝ) (sk : S1x16.Idx → ℝ)

/-- The result at a row and a column. -/
def RO (i : Fin 4096) (n : Fin 1024) : ℝ :=
  ∑ s : Fin 256, PR co si z sk ⟨i.val / 128, by omega⟩ ⟨n.val / 64, by omega⟩ ⟨i.val % 128, by omega⟩ s
    * VB z ⟨i.val / 128, by omega⟩ (gp ⟨n.val / 64, by omega⟩) s ⟨n.val % 64, by omega⟩

theorem v14 (i : Fin 4096) (j : Fin 8) : val_main_v14 (F := Ideal) (ix2 i j) = (co i j : EReal) := Cert.Attn.v14 i j
theorem v16 (i : Fin 4096) (j : Fin 8) : val_main_v16 (F := Ideal) (ix2 i j) = (si i j : EReal) := Cert.Attn.v16 i j

/-- The turned keys. -/
theorem v49 (i : Fin 4096) (g : Fin 2) (d : Fin 64) : val_main_v49 (F := Ideal) (up z) (ix3 i g d)
    = (turn 1 (co i) (si i) (fun l => z (ix2 i (cof 3072 g l))) d : EReal) := by
  have hc := v14 i
  have hs := v16 i
  unfold val_main_v49 val_main_v42 val_main_v47 val_main_v39 val_main_v41 val_main_v44 val_main_v46 val_main_v38 val_main_v40 val_main_v43 val_main_v45 val_main_v15 val_main_v17
  generalize val_main_v14 (F := Ideal) = C at hc ⊢
  generalize val_main_v16 (F := Ideal) = D at hs ⊢
  pointwise [val_main_v36, val_main_v37, val_main_v48, val_main_v35, val_main_v34]
  exact turn_coe (X := fun k => up z (ix2 i ⟨3072 + (g.val * 64 + k.val), by omega⟩)) hc hs (fun k => congrArg (fun a : Fin 3328 => (z (ix2 i a) : EReal)) (Fin.ext (by simp; omega))) d
theorem v57 (n : Fin 32) (s : Fin 256) (g : Fin 2) (d : Fin 64) : val_main_v57 (F := Ideal) (up z) (ix4 n s g d) = ((if live n s then KB co si z n g s d else 0 : ℝ) : EReal) := by
  have h := v49 z
  unfold val_main_v57 val_main_v55 val_main_v56 val_main_v54 val_main_v53
  generalize val_main_v49 (F := Ideal) (up z) = W at h ⊢
  pointwise [val_main_v52, val_main_cst_2]
  exact window (X := fun i => W (ix3 i g d)) (fun i => h i g d) n s
theorem v63 (n : Fin 32) (s : Fin 256) (g : Fin 2) (d : Fin 64) : val_main_v63 (F := Ideal) (up z) (ix4 n s g d) = ((if live n s then VB z n g s d else 0 : ℝ) : EReal) := by
  pointwise [val_main_v63, val_main_v61, val_main_v62, val_main_v60, val_main_v59, val_main_v58, val_main_cst_3, val_main_v51, val_main_v50]
  simp only [← Nat.add_assoc]
  exact window (X := fun i => (z (ix2 i (cof 3200 g d)) : EReal)) (fun _ => rfl) n s

/-- The scores with the sinks, and the probabilities, are the gradient's reference's. -/
theorem v103 : val_main_v103 (F := Ideal) (up z) (up sk) = Cert.Reference10Ideal.Read.val_main_v115 (F := Ideal) (up z) (up sk) := by
  have h : val_main_v57 (F := Ideal) (up z) = Cert.Reference10Ideal.Read.val_main_v74 (F := Ideal) (up z) := by
    funext i; idx_vars i; exact (v57 z _ _ _ _).trans (Cert.Attn.v74 z _ _ _ _).symm
  unfold val_main_v103 val_main_v99 val_main_v69 val_main_v67 val_main_v66
  rw [h]
  rfl
theorem v115 (n : Fin 32) (g : Fin 2) (j : Fin 8) (r : Fin 128) (s : Fin 256) : val_main_v115 (F := Ideal) (up z) (up sk) (ix5 n g j r s) = (PR co si z sk n (hof g j) r s : EReal) := by
  refine Eq.trans (congrFun (?_ : _ = Cert.Reference10Ideal.Read.val_main_v144 (F := Ideal) (up z) (up sk)) _) (Cert.Attn.v144 z sk n g j r s)
  unfold val_main_v115 val_main_v114 val_main_v113 val_main_v112 val_main_v111 val_main_v110 val_main_v109 val_main_v108 val_main_v107 val_main_v106 val_main_v104
  rw [v103]
  rfl

theorem v119 (i : Fin 4096) (n : Fin 1024) : val_main_v119 (F := Ideal) (up z) (up sk) (ix2 i n) = (RO z sk i n : EReal) := by
  have hp := v115 z sk
  have hv := v63 z
  unfold val_main_v119 val_main_v118 val_main_v117 val_main_v116
  generalize val_main_v115 (F := Ideal) (up z) (up sk) = P at hp ⊢
  generalize val_main_v63 (F := Ideal) (up z) = W at hv ⊢
  pointwise
  simp only [hp, hv, mul_coe, coe_sum]
  refine congrArg _ (Finset.sum_congr rfl fun s _ => ?_)
  have eh : hof ⟨n.val / 512, by omega⟩ ⟨n.val / 64 % 8, by omega⟩ = (⟨n.val / 64, by omega⟩ : Fin 16) := Fin.ext (by simp [hof]; omega)
  have eg : gp (⟨n.val / 64, by omega⟩ : Fin 16) = ⟨n.val / 512, by omega⟩ := Fin.ext (by simp [gp]; omega)
  rw [eh, eg]
  by_cases h : live ⟨i.val / 128, by omega⟩ s
  · rw [if_pos h, mul_comm]
  · rw [if_neg h, PR, pr_off _ _ _ (fun hs => h hs.2.2), zero_mul, zero_mul]

end Cert.AttnF

end
-- ==== Proof.AttnFKer.lean ====
/-
  The windowed attention's forward call: the kernel's result at real arguments.
-/
module

public import proofs.«01_k».proof.Proof.Gen.Kernel17Ideal.Frame
public import proofs.«01_k».proof.Proof.AttnFRef
public import proofs.«01_k».proof.Proof.AttnKer

@[expose] public section

set_option maxRecDepth 65536
set_option maxHeartbeats 1000000

noncomputable section

open Idealize.ShloMosaic Idealize.ShloMosaic.TcCoe Idealize.SL.Sem
open Idealize.ShloMosaic.Pipeline (Dat)

namespace Cert.AttnF

open Cert.Kernel17Ideal Cert.Kernel17Ideal.Gen Cert.Lift Cert.Softmax
open Cert.Attn (co si turn krow qrow prow cof hof gp sees KB VB QR XS PR pr xs xs_eq Cols Tab hp hp_at hk hv_at tile16 back1024 back1024_at back128 back128_at
  eighth_word wide TC TS TP Rc Rs TBL fill inbs ones word and_bool or_bool cmp_sge cmp_sle cmp_sgt)

/-- A head's result. -/
def ho (Q : FVec Ideal S128x1024 .bf16) (K V : FVec Ideal S256x128 .bf16) (M : IVec S128x256 1) (σ : Fin 16 → EReal) (h : Fin 16) : FVec Ideal S128x64 .f32 :=
  matmul dot_S128x256_S256x64_S128x64_1_0_0_1_n_n none (truncf .bf16 (hp Q K M σ h) bitsLt_bf16_f32) (hk V h) (constant S128x64 .f32 0x00000000#32)

theorem ho_at {Q E : FVec Ideal S128x1024 .bf16} {K V : FVec Ideal S256x128 .bf16} {M : IVec S128x256 1} {σ : Fin 16 → EReal}
    {q e : Fin 16 → Fin 128 → Fin 64 → ℝ} {k v : Fin 2 → Fin 256 → Fin 64 → ℝ} {S : Fin 128 → Fin 256 → Prop} [∀ r, DecidablePred (S r)] {y : Fin 16 → ℝ}
    (H : Cols Q E K V M σ q e k v S y) (h : Fin 16) (r : Fin 128) (d : Fin 64) :
    ho Q K V M σ h (ix2 r d) = ((∑ s, pr (S r) (xs q k h r) (y h) s * v (gp h) s d : ℝ) : EReal) := by
  have h1 := hp_at H h r
  have h2 := hv_at H h
  unfold ho
  generalize hp Q K M σ h = A at h1 ⊢
  generalize hk V h = B at h2 ⊢
  pointwise
  simp only [h1, h2, mul_coe, coe_sum]

variable (m : (ℓ : Loc nD τ sig) → Buf (Elt Ideal) ℓ)

theorem idx : ∀ t : Fin cfg0.N, win0_0.index t = ![t.val, 0] ∧ win0_1.index t = ![t.val, 24] ∧ win0_2.index t = ![t.val - 1, 24]
    ∧ win0_3.index t = ![t.val, 25] ∧ win0_4.index t = ![t.val - 1, 25] ∧ win0_5.index t = ![t.val, 0] ∧ win0_6.index t = ![t.val - 1, 0]
    ∧ win0_7.index t = ![0, 0] ∧ win0_8.index t = ![t.val, 0] :=
  (by decide +kernel : ∀ t : Fin grid0.N, _)
theorem coord : ∀ t : Fin cfg0.N, (grid0.coords t 0).val = t.val := (by decide +kernel : ∀ t : Fin grid0.N, _)

abbrev bl (t : Fin cfg0.N) : Fin 32 := ⟨t.val, t.isLt⟩

variable (z : S4096x3328.Idx → ℝ) (sk : S1x16.Idx → ℝ) (c : Dev nD)

/-- The arguments are real arrays. -/
structure Args : Prop where
  a0 : m ((c : Thread nD τ).loc main_arg0) = up z
  a1 : m ((c : Thread nD τ).loc main_arg1) = up sk

/-- What the host lines before the kernel hold before their operation number `n`. -/
abbrev pre (n : ℕ) (r : Ref sig .tc) := StableHlo.upto hostOps0 (fun b => m (c, b)) n (Proc.tc.devRef r)

theorem pre21 : pre m c 21 main_v14 = Rc ∧ pre m c 21 main_v16 = fill S4096x48 bcast_S_S4096x48 0x3F800000#32 := by
  refine ⟨?_, ?_⟩ <;> after_reads_simp <;> rfl
theorem pre30 : pre m c 30 main_v21 = fill S4096x8 bcast_S_S4096x8 0x00000000#32 ∧ pre m c 30 main_v15 = Rs ∧ pre m c 30 main_v22 = fill S4096x48 bcast_S_S4096x48 0x00000000#32 := by
  refine ⟨?_, ?_, ?_⟩ <;> after_reads_simp <;> rfl
theorem pre40 : pre m c 40 main_v26 = wide (TC Rc) ∧ pre m c 40 main_v29 = wide (TS Rs) ∧ pre m c 40 main_v32 = wide (TP Rs) := by
  obtain ⟨h1, h2⟩ := pre21 m c
  obtain ⟨h3, h4, h5⟩ := pre30 m c
  unfold pre at h1 h2 h3 h4 h5 ⊢
  refine ⟨?_, ?_, ?_⟩ <;> after_reads_simp
  · simp only [Matrix.cons_val]; rw [h1, h2]; rfl
  · rfl
  · simp only [Matrix.cons_val]; rw [h3, h4, h5]; rfl

theorem v33 : (V m c main_v33 : FVec Ideal S4096x384 .f32) = TBL := by
  obtain ⟨h1, h2, h3⟩ := pre40 m c
  unfold V Cert.Attn.TBL
  unfold pre at h1 h2 h3
  after_reads_simp
  simp only [Matrix.cons_val]
  rw [h1, h2, h3]

section
variable (H : Args m z sk c) (t : Fin cfg0.N)

/-- A point's operands. -/
abbrev Qp : FVec Ideal S128x1024 .bf16 := k0_pay1 (X0_0 m c t) (iblk m c 5 t)
abbrev Kp : FVec Ideal S256x128 .bf16 := k0_pay5 (k0_pay2 (iblk m c 2 t) (iblk m c 6 t)) (iblk m c 1 t) (k0_pay3 (iblk m c 5 t)) (k0_pay4 (iblk m c 5 t))
abbrev Vp : FVec Ideal S256x128 .bf16 := k0_pay6 (iblk m c 4 t) (iblk m c 3 t)
abbrev Mp : IVec S128x256 1 := k0_pay7 (BitVec.ofNat 32 (grid0.coords t 0).val)
abbrev Sp (h : Fin 16) : EReal := View.ld (iblk m c 7 t) (Rect.unit (s := S1x16) ![0, h.val] ![1, 1] (inbs h)) (Shape.Idx.first (ones h))

/-- The heads' results side by side. -/
def HO (w : Fin 16 → FVec Ideal S128x64 .f32) : FVec Ideal S128x1024 .f32 := concatenate S128x1024 1 [⟨S128x64, w 0⟩, ⟨S128x64, w 1⟩, ⟨S128x64, w 2⟩, ⟨S128x64, w 3⟩, ⟨S128x64, w 4⟩, ⟨S128x64, w 5⟩, ⟨S128x64, w 6⟩, ⟨S128x64, w 7⟩, ⟨S128x64, w 8⟩, ⟨S128x64, w 9⟩, ⟨S128x64, w 10⟩, ⟨S128x64, w 11⟩, ⟨S128x64, w 12⟩, ⟨S128x64, w 13⟩, ⟨S128x64, w 14⟩, ⟨S128x64, w 15⟩]
  concatenates_S128x64_S128x64_S128x64_S128x64_S128x64_S128x64_S128x64_S128x64_S128x64_S128x64_S128x64_S128x64_S128x64_S128x64_S128x64_S128x64_S128x1024_d1

theorem out8 : outsAt0 m c t = (truncf .bf16 (HO (ho (Qp m c t) (Kp m c t) (Vp m c t) (Mp t) (Sp m c t))) bitsLt_bf16_f32 : FVec Ideal S128x1024 .bf16) := by
  unfold outsAt0 out0_A_8
  frame_out
  rw [(hs0_5 t).read_unread, View.ld_unit_lit' _ _ (by decide)]
  rfl

theorem tab5 : Tab (shapeCast S128x384 (iblk m c 5 t) shapeCasts_S128x384_S128x384) (fun r => co (qrow (bl t) r)) (fun r => si (qrow (bl t) r)) := by
  obtain ⟨h0, h1, h2, h3, h4, h5, h6, h7, h8⟩ := idx t
  refine Cert.Attn.tab _ _ fun r l => Eq.trans ?_ (congrFun (v33 m c) (ix2 (qrow (bl t) r) l))
  blk_point [iblk, h5]
theorem tab6 : Tab (shapeCast S128x384 (iblk m c 6 t) shapeCasts_S128x384_S128x384) (fun r => co (prow (bl t) r)) (fun r => si (prow (bl t) r)) := by
  obtain ⟨h0, h1, h2, h3, h4, h5, h6, h7, h8⟩ := idx t
  refine Cert.Attn.tab _ _ fun r l => Eq.trans ?_ (congrFun (v33 m c) (ix2 (prow (bl t) r) l))
  blk_point [iblk, h6]

include H

theorem x0 (r : Fin 128) (n : Fin 1024) : (X0_0 m c t : FVec Ideal S128x1024 .f32) (ix2 r n) = (z (ix2 (qrow (bl t) r) ⟨n.val, by omega⟩) : EReal) := by
  obtain ⟨h0, h1, h2, h3, h4, h5, h6, h7, h8⟩ := idx t
  refine Eq.trans ?_ (congrFun H.a0 (ix2 (qrow (bl t) r) ⟨n.val, by omega⟩))
  unfold X0_0 Pipeline.Window.fill
  rw [dif_pos (moved0_0 t _)]
  blk_point [iblk, V, h0]
theorem iblk1 (r : Fin 128) (n : Fin 128) : (iblk m c 1 t : FVec Ideal S128x128 .f32) (ix2 r n) = (z (ix2 (qrow (bl t) r) ⟨3072 + n.val, by omega⟩) : EReal) := by
  obtain ⟨h0, h1, h2, h3, h4, h5, h6, h7, h8⟩ := idx t
  refine Eq.trans ?_ (congrFun H.a0 (ix2 (qrow (bl t) r) ⟨3072 + n.val, by omega⟩))
  blk_point [iblk, V, h1]
theorem iblk2 (r : Fin 128) (n : Fin 128) : (iblk m c 2 t : FVec Ideal S128x128 .f32) (ix2 r n) = (z (ix2 (prow (bl t) r) ⟨3072 + n.val, by omega⟩) : EReal) := by
  obtain ⟨h0, h1, h2, h3, h4, h5, h6, h7, h8⟩ := idx t
  refine Eq.trans ?_ (congrFun H.a0 (ix2 (prow (bl t) r) ⟨3072 + n.val, by omega⟩))
  blk_point [iblk, V, h2]
theorem iblk3 (r : Fin 128) (n : Fin 128) : (iblk m c 3 t : FVec Ideal S128x128 .f32) (ix2 r n) = (z (ix2 (qrow (bl t) r) ⟨3200 + n.val, by omega⟩) : EReal) := by
  obtain ⟨h0, h1, h2, h3, h4, h5, h6, h7, h8⟩ := idx t
  refine Eq.trans ?_ (congrFun H.a0 (ix2 (qrow (bl t) r) ⟨3200 + n.val, by omega⟩))
  blk_point [iblk, V, h3]
theorem iblk4 (r : Fin 128) (n : Fin 128) : (iblk m c 4 t : FVec Ideal S128x128 .f32) (ix2 r n) = (z (ix2 (prow (bl t) r) ⟨3200 + n.val, by omega⟩) : EReal) := by
  obtain ⟨h0, h1, h2, h3, h4, h5, h6, h7, h8⟩ := idx t
  refine Eq.trans ?_ (congrFun H.a0 (ix2 (prow (bl t) r) ⟨3200 + n.val, by omega⟩))
  blk_point [iblk, V, h4]
theorem iblk7 (h : Fin 16) : (iblk m c 7 t : FVec Ideal S1x16 .f32) (ix2 0 h) = (sk (ix2 0 h) : EReal) := by
  obtain ⟨h0, h1, h2, h3, h4, h5, h6, h7, h8⟩ := idx t
  refine Eq.trans ?_ (congrFun H.a1 (ix2 0 h))
  blk_point [iblk, V, h7]

theorem hQp (r : Fin 128) (h : Fin 16) (d : Fin 64) : Qp m c t (ix2 r (cof 0 h d)) = ((QR co si z (bl t) h r d * (1 / 8) : ℝ) : EReal) :=
  Cert.Attn.Qp_at (bl t) (tab5 m c t) _ (x0 m z sk c H t) r h d
theorem hKp (s : Fin 256) (g : Fin 2) (d : Fin 64) : Kp m c t (ix2 s (cof 0 g d)) = (KB co si z (bl t) g s d : EReal) :=
  Cert.Attn.Kp_at (bl t) (tab5 m c t) (tab6 m c t) _ _ (iblk1 m z sk c H t) (iblk2 m z sk c H t) s g d
theorem hVp (s : Fin 256) (g : Fin 2) (d : Fin 64) : Vp m c t (ix2 s (cof 0 g d)) = (VB z (bl t) g s d : EReal) :=
  Cert.Attn.Vp_at (bl t) _ _ (iblk3 m z sk c H t) (iblk4 m z sk c H t) s g d
omit H in
theorem hMp (r : Fin 128) (s : Fin 256) : Mp t (ix2 r s) = BitVec.ofBool (decide (sees (bl t) r s)) := by
  unfold Mp
  rw [coord]
  exact Cert.Attn.Mp_at (bl t) r s
theorem hSp (h : Fin 16) : Sp m c t h = (sk (ix2 0 h) : EReal) := by
  refine Eq.trans ?_ (iblk7 m z sk c H t h)
  refine View.ld_unit_apply_of _ _ _ (inbs h) _ _ fun a => ?_
  match a with
  | ⟨0, _⟩ => rfl
  | ⟨1, _⟩ => rfl

theorem cols : Cols (Qp m c t) (Qp m c t) (Kp m c t) (Vp m c t) (Mp t) (Sp m c t) (fun h r d => QR co si z (bl t) h r d * (1 / 8)) (fun h r d => QR co si z (bl t) h r d * (1 / 8))
    (KB co si z (bl t)) (VB z (bl t)) (sees (bl t)) (fun h => sk (ix2 0 h)) where
  hQ := hQp m z sk c H t
  hE := hQp m z sk c H t
  hK := hKp m z sk c H t
  hV := hVp m z sk c H t
  hM := hMp t
  hσ := hSp m z sk c H t
  hS r := ⟨⟨r.val + 128, by omega⟩, le_rfl, by show r.val < r.val + 128; omega, Or.inr (by show 128 ≤ r.val + 128; omega)⟩

theorem out_at (r : Fin 128) (n : Fin 1024) : outsAt0 m c t (ix2 r n) = (RO z sk (qrow (bl t) r) n : EReal) := by
  rw [out8]
  refine (show _ = HO (ho (Qp m c t) (Kp m c t) (Vp m c t) (Mp t) (Sp m c t)) (ix2 r n) from rfl).trans ((tile16 _ r n).trans ((ho_at (cols m z sk c H t) _ r _).trans (congrArg _ ?_)))
  have e1 : (⟨(qrow (bl t) r).val / 128, by omega⟩ : Fin 32) = bl t := Fin.ext (by simp; omega)
  have e2 : (⟨(qrow (bl t) r).val % 128, by omega⟩ : Fin 128) = r := Fin.ext (by simp)
  unfold RO PR
  rw [e1, e2, xs_eq]
end

/-- The result, as an array. -/
def ROv : FVec Ideal S4096x1024 .bf16 := fun i => (RO z sk (i 0) (i 1) : EReal)

theorem final8 (H : Args m z sk c) : (dats m 0 c).arrAt 8 (cfgs 0).N = ROv z sk := by
  refine (dats m 0 c).arrAt_eq_of_covers 8 _ (by decide +kernel) fun t hf y => ?_
  blk_simp
  rw [after0_8]
  obtain ⟨h0, h1, h2, h3, h4, h5, h6, h7, h8⟩ := idx t
  idx_vars y
  refine (out_at m z sk c H t y0 y1).trans ?_
  show ROv z sk (ix2 (qrow (bl t) y0) y1) = _
  blk_ext [h8]

end Cert.AttnF

end
-- ==== Proof.AttnFClaims.lean ====
/-
  The claims about the windowed attention's forward call.
-/
module

public import proofs.«01_k».proof.Defs
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Pre_finite17
public import proofs.«01_k».proof.Proof.AttnFKer
public import Idealize.ShloMosaic.Lib.Claim

@[expose] public section

set_option maxRecDepth 16384

noncomputable section

open Idealize.ShloMosaic Idealize.ShloMosaic.TcCoe Idealize.SL.Sem
open Cert.Lift

namespace Cert.AttnF

theorem frame_p : Cert.quiescent_Kernel17 (hKernel17 := Cert.Kernel17.Gen.facts) := fun m ρ _ => Cert.Kernel17.Gen.frame m ρ

theorem frame_pi : Cert.quiescent_Kernel17Ideal (hKernel17Ideal := Cert.Kernel17Ideal.Gen.facts) := fun m ρ _ => Cert.Kernel17Ideal.Gen.frame m ρ

theorem frame_ri : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_pi_fin : Cert.quiescent_Kernel17Ideal_pre_finite17 (hKernel17Ideal := Cert.Kernel17Ideal.Gen.facts)
    (hPre_finite17 := Cert.Pre_finite17.Gen.facts) := fun m ρ _ => Cert.Kernel17Ideal.Gen.frame m ρ

theorem frame_ri_fin : Cert.quiescent_Reference17Ideal_pre_finite17 (hReference17Ideal := Cert.Reference17Ideal.Gen.facts)
    (hPre_finite17 := Cert.Pre_finite17.Gen.facts) := fun m ρ _ => frame_ri m ρ trivial

/-- Finite arguments are real arrays. -/
theorem args (m) (h : Cert.Pre_Kernel17Ideal_finite17 (hPre_finite17 := Cert.Pre_finite17.Gen.facts) m) (c) :
    ∃ z sk, Args m z sk c :=
  ⟨_, _, real_of _ _ (h c).1, real_of _ _ (h c).2⟩

section
variable (m : (ℓ : Loc Cert.Kernel17Ideal.nD Cert.Kernel17Ideal.τ Cert.Kernel17Ideal.sig) → Buf (Elt Ideal) ℓ) (c : Dev Cert.Kernel17Ideal.nD)
  (hpre : Cert.Pre_Kernel17Ideal_finite17 (hPre_finite17 := Cert.Pre_finite17.Gen.facts) m)
include hpre

open Cert.Kernel17Ideal Cert.Reference17Ideal.Read

theorem res8 : val_main_v119 (F := Ideal) (m ((c.tc : Thread nD τ).loc main_arg0)) (m ((c.tc : Thread nD τ).loc main_arg1)) = (Cert.Kernel17Ideal.Gen.dats m 0 c).arrAt 8 Cert.Kernel17Ideal.cfg0.N := by
  obtain ⟨z, sk, H⟩ := args m hpre c
  refine Eq.trans ?_ (final8 m z sk c H).symm
  refine (show _ = val_main_v119 (F := Ideal) (up z) (up sk) by rw [← H.a0, ← H.a1]).trans ?_
  funext i; idx_vars i; exact v119 z sk _ _

end

/-- The kernel's result is the reference's. -/
theorem algebraic : Cert.algebraic_Kernel17Ideal_Reference17Ideal_pre_finite17 (hKernel17Ideal := Cert.Kernel17Ideal.Gen.facts)
    (hReference17Ideal := Cert.Reference17Ideal.Gen.facts) (hPre_finite17 := Cert.Pre_finite17.Gen.facts) := by
  intro m g m' g' hpre hagree
  refine ⟨_, Cert.Kernel17Ideal.Value.run_blocks m g,
    (θ_run Cert.Reference17Ideal.defs _ _).mono (fun r h c => ?_) (Cert.Reference17Ideal.Value.run (F := Ideal) m' g')⟩
  obtain ⟨e0, e1⟩ := hagree c
  obtain ⟨h0, h1⟩ := h c
  refine ⟨(h0.trans (Cert.Reference17Ideal.Read.val_main_v119_eq m' c)).trans ?_, h1⟩
  · rw [e0, e1]; exact res8 m c hpre

/-- The mask's constant is named, and read as minus infinity. -/
theorem preserves : Cert.preserves_Kernel17_Kernel17Ideal := IdealRules.named_const.statement Cert.Kernel17Ideal.κ "mask" .f32 0xF149F2CA#32 ⊥ rfl

end Cert.AttnF

end
-- ==== Proof.PoolFRef.lean ====
/-
  The pooling's forward call: the reference's two results in closed form. Its stages are those of the
  pooling gradients' references.
-/
module

public import proofs.«01_k».proof.Proof.Gen.Reference18Ideal.Read
public import proofs.«01_k».proof.Proof.PoolWinRef
public import proofs.«01_k».proof.Proof.PoolProjRef

@[expose] public section

set_option maxRecDepth 16384

noncomputable section

open Idealize.ShloMosaic Idealize.ShloMosaic.TcCoe Idealize.SL.Sem

namespace Cert.PoolF

open Cert.Reference18Ideal Cert.Reference18Ideal.Read Cert.Lift
open Cert.PoolWin (col gr wi col_gr wd cnt cnt_ne counts window_before)

variable (x : S4096x2048.Idx → ℝ) (w : FVec Ideal S4x512x512 .bf16) (s : FVec Ideal S1x2048 .f32)

/-- A group's column, sixteen rows of nothing before it. -/
def ext (g : Fin 4) (d : Fin 512) (q : ℕ) : ℝ := if h : 16 ≤ q ∧ q < 4112 then x (ix2 ⟨q - 16, by omega⟩ (col g d)) else 0
theorem ext_lt {g : Fin 4} {d : Fin 512} {q : ℕ} (h : q < 16) : ext x g d q = 0 := dif_neg (by omega)
theorem ext_in {g : Fin 4} {d : Fin 512} {q : ℕ} (i : Fin 4096) (h : q = 16 + i.val) : ext x g d q = x (ix2 i (col g d)) := by
  subst h
  rw [ext, dif_pos (by omega)]
  exact congrArg (fun a => x (ix2 a _)) (Fin.ext (by simp))

/-- The running sum to a row, and a window's sum. -/
def run (g : Fin 4) (d : Fin 512) (i : ℕ) : ℝ := ∑ k ∈ Finset.range (i + 1), ext x g d (16 + i - k)
theorem tot (g : Fin 4) (d : Fin 512) {i n : ℕ} (h : i + 1 ≤ n) : ∑ k ∈ Finset.range n, ext x g d (16 + i - k) = run x g d i :=
  (Finset.sum_subset (Finset.range_subset_range.2 h) fun k _ hk => ext_lt x (by simp at hk; omega)).symm
theorem last (g : Fin 4) (d : Fin 512) (i w : ℕ) : run x g d i - (if i < w then 0 else run x g d (i - w)) = ∑ k ∈ Finset.range w, ext x g d (16 + i - k) := by
  by_cases h : i < w
  · rw [if_pos h, sub_zero, tot x g d h]
  · rw [if_neg h, run, run, show i + 1 = w + (i - w + 1) by omega, Finset.sum_range_add, add_sub_assoc]
    refine (congrArg (_ + ·) (sub_eq_zero.2 (Finset.sum_congr rfl fun k _ => congrArg _ ?_))).trans (add_zero _)
    omega

/-- The pooled rows. -/
def PG (i : Fin 4096) (g : Fin 4) (d : Fin 512) : ℝ := (∑ k ∈ Finset.range (wd g), ext x g d (16 + i.val - k)) / cnt (wd g) i.val - x (ix2 i (col g d))

variable (j : Fin 4096) (g : Fin 4) (d : Fin 512)

theorem v2 : val_main_v2 (F := Ideal) (up x) (ix4 0 j g d) = (run x g d j.val : EReal) := by
  have hX : ∀ j, val_main_v1 (F := Ideal) (up x) (ix4 0 j g d) = (x (ix2 j (col g d)) : EReal) := fun j => by
    pointwise [val_main_v1, val_main_v0]
  have hz : val_main_call0_call0_v0 (F := Ideal) = fun _ => (0 : EReal) := by
    unfold val_main_call0_call0_v0 val_main_call0_call0_cst
    exact funext fun _ => zero_word
  unfold val_main_v2
  generalize val_main_v1 (F := Ideal) (up x) = X at hX ⊢
  generalize val_main_call0_call0_v0 (F := Ideal) = V at hz ⊢
  rw [window_before X V hz]
  rw [← tot x g d (by omega : j.val + 1 ≤ 4096), ← Finset.sum_range_reflect, ← coe_sum, Finset.sum_range]
  refine Finset.sum_congr rfl fun k _ => ?_
  by_cases h : 4095 ≤ j.val + k.val ∧ j.val + k.val - 4095 < 4096
  · rw [dif_pos h, hX, ext_in x ⟨j.val + k.val - 4095, h.2⟩ (by simp; omega)]
  · rw [dif_neg h, ext_lt x (by omega)]
    rfl

variable {g d}
/-- A window's sum over its count, less the row. -/
theorem mean {X : Fin 4096 → EReal} (hX : ∀ j, X j = (run x g d j.val : EReal)) {w : ℕ} (hg : wd g = w) (h0 : 0 < w) {c y : EReal} (hc : c = (cnt w j.val : EReal)) (hy : y = (x (ix2 j (col g d)) : EReal))
    (b : ¬ j.val < w → j.val - w < 4096) : Ideal.div (X j - if h : j.val < w then 0 else X ⟨j.val - w, b h⟩) c - y = (PG x j g d : EReal) := by
  have e : (X j - if h : j.val < w then 0 else X ⟨j.val - w, b h⟩) = ((run x g d j.val - (if j.val < w then 0 else run x g d (j.val - w)) : ℝ) : EReal) := by
    by_cases h : j.val < w
    · rw [dif_pos h, if_pos h, hX, sub_zero, sub_zero]
    · rw [dif_neg h, if_neg h, hX, hX, sub_coe]
  rw [e, hc, hy, last, div_coe _ _ (cnt_ne w _ h0), sub_coe, PG, hg]
variable (g d)

theorem pools : val_main_v19 (F := Ideal) (up x) (ix3 0 j d) = (PG x j 0 d : EReal) ∧ val_main_v33 (F := Ideal) (up x) (ix3 0 j d) = (PG x j 1 d : EReal)
    ∧ val_main_v47 (F := Ideal) (up x) (ix3 0 j d) = (PG x j 2 d : EReal) ∧ val_main_v61 (F := Ideal) (up x) (ix3 0 j d) = (PG x j 3 d : EReal) := by
  have hs := fun g j => v2 x j g d
  have h0 : val_main_v13 (F := Ideal) (ix1 j) = (cnt 2 j.val : EReal) := (counts j).1
  have h1 : val_main_v27 (F := Ideal) (ix1 j) = (cnt 4 j.val : EReal) := (counts j).2.1
  have h2 : val_main_v41 (F := Ideal) (ix1 j) = (cnt 8 j.val : EReal) := (counts j).2.2.1
  have h3 : val_main_v55 (F := Ideal) (ix1 j) = (cnt 16 j.val : EReal) := (counts j).2.2.2
  unfold val_main_v19 val_main_v16 val_main_v15 val_main_v14 val_main_v11 val_main_v10 val_main_v9 val_main_v7 val_main_v6 val_main_v33 val_main_v30 val_main_v29 val_main_v28 val_main_v25 val_main_v24 val_main_v23 val_main_v21 val_main_v20
    val_main_v47 val_main_v44 val_main_v43 val_main_v42 val_main_v39 val_main_v38 val_main_v37 val_main_v35 val_main_v34 val_main_v61 val_main_v58 val_main_v57 val_main_v56 val_main_v53 val_main_v52 val_main_v51 val_main_v49 val_main_v48
  generalize val_main_v2 (F := Ideal) (up x) = X at hs ⊢
  generalize val_main_v13 (F := Ideal) = A at h0 ⊢
  generalize val_main_v27 (F := Ideal) = B at h1 ⊢
  generalize val_main_v41 (F := Ideal) = C at h2 ⊢
  generalize val_main_v55 (F := Ideal) = D at h3 ⊢
  refine ⟨?_, ?_, ?_, ?_⟩
  · pointwise [val_main_v8, val_main_cst_0, val_main_v18, val_main_v17, val_main_v1, val_main_v0]
    exact mean x j (hs 0) (w := 2) rfl (by omega) h0 (congrArg (fun a => (x (ix2 j a) : EReal)) (Fin.ext (by simp))) _
  · pointwise [val_main_v22, val_main_cst_2, val_main_v32, val_main_v31, val_main_v1, val_main_v0]
    exact mean x j (hs 1) (w := 4) rfl (by omega) h1 (congrArg (fun a => (x (ix2 j a) : EReal)) (Fin.ext (by simp))) _
  · pointwise [val_main_v36, val_main_cst_4, val_main_v46, val_main_v45, val_main_v1, val_main_v0]
    exact mean x j (hs 2) (w := 8) rfl (by omega) h2 (congrArg (fun a => (x (ix2 j a) : EReal)) (Fin.ext (by simp))) _
  · pointwise [val_main_v50, val_main_cst_6, val_main_v60, val_main_v59, val_main_v1, val_main_v0]
    exact mean x j (hs 3) (w := 16) rfl (by omega) h3 (congrArg (fun a => (x (ix2 j a) : EReal)) (Fin.ext (by simp))) _

theorem v66 : val_main_v66 (F := Ideal) (up x) (ix4 0 j g d) = (PG x j g d : EReal) := by
  obtain ⟨h0, h1, h2, h3⟩ := pools x j d
  unfold val_main_v66 val_main_v62 val_main_v63 val_main_v64 val_main_v65
  generalize val_main_v19 (F := Ideal) (up x) = A at h0 ⊢
  generalize val_main_v33 (F := Ideal) (up x) = B at h1 ⊢
  generalize val_main_v47 (F := Ideal) (up x) = C at h2 ⊢
  generalize val_main_v61 (F := Ideal) (up x) = D at h3 ⊢
  match g with
  | 0 => pointwise; exact h0
  | 1 => pointwise; exact h1
  | 2 => pointwise; exact h2
  | 3 => pointwise; exact h3

/-- The two results. -/
def OUT (i : Fin 4096) (n : Fin 2048) : EReal := (∑ k : Fin 512, (PG x i (gr n) k : EReal) * w (ix3 (gr n) k (wi n))) * s (ix2 0 n)
theorem v77 (n : Fin 2048) : val_main_v77 (F := Ideal) (up x) (ix2 j n) = (PG x j (gr n) (wi n) : EReal) := by
  have h := v66 x j
  unfold val_main_v77 val_main_v76
  generalize val_main_v66 (F := Ideal) (up x) = W at h ⊢
  pointwise
  exact h _ _
theorem v75 (n : Fin 2048) : val_main_v75 (F := Ideal) (up x) w s (ix2 j n) = OUT x w s j n := by
  have h : val_main_v71 (F := Ideal) (up x) w (ix2 j n) = Cert.PoolProj.Y (val_main_v66 (F := Ideal) (up x)) w j n := Cert.PoolProj.v71 (up x) w j n
  unfold Cert.PoolProj.Y at h
  simp only [v66] at h
  unfold val_main_v75
  generalize val_main_v71 (F := Ideal) (up x) w = W at h ⊢
  pointwise [val_main_v74, val_main_v73, val_main_v72]
  rw [h]
  rfl

end Cert.PoolF

end
-- ==== Proof.PoolFKer.lean ====
/-
  The pooling's forward call: the kernel's two results in closed form.
-/
module

public import proofs.«01_k».proof.Proof.Gen.Kernel18Ideal.Frame
public import proofs.«01_k».proof.Proof.PoolFRef
public import proofs.«01_k».proof.Proof.PoolWinKer
public import proofs.«01_k».proof.Proof.PoolProjKer

@[expose] public section

set_option maxRecDepth 16384

noncomputable section

open Idealize.ShloMosaic Idealize.ShloMosaic.TcCoe Idealize.SL.Sem
open Idealize.ShloMosaic.Pipeline (Dat)

namespace Cert.PoolF

open Cert.Kernel18Ideal Cert.Kernel18Ideal.Gen Cert.Lift
open Cert.PoolWin (col gr wi col_gr wd cnt cnt_ne kcount)
open Cert.PoolProj (ld_w)

variable (m : (ℓ : Loc nD τ sig) → Buf (Elt Ideal) ℓ)

theorem idx : ∀ t : Fin cfg0.N, win0_0.index t = ![t.val, 0] ∧ win0_1.index t = ![t.val * 16 - 1, 0] ∧ win0_2.index t = ![0, 0, 0] ∧ win0_3.index t = ![0, 0]
    ∧ win0_4.index t = ![t.val, 0] ∧ win0_5.index t = ![t.val, 0] :=
  (by decide +kernel : ∀ t : Fin grid0.N, _)
theorem coord : ∀ t : Fin cfg0.N, (grid0.coords t 0).val = t.val := (by decide +kernel : ∀ t : Fin grid0.N, _)

/-- A point's row of the whole array. -/
abbrev row (t : Fin cfg0.N) (r : Fin 256) : Fin 4096 := ⟨t.val * 256 + r.val, by have : cfg0.N = 16 := rfl; omega⟩

variable (x : S4096x2048.Idx → ℝ) (w : FVec Ideal S4x512x512 .bf16) (s : FVec Ideal S1x2048 .f32) (c : Dev nD)

/-- The arguments. -/
structure Args : Prop where
  a0 : m ((c : Thread nD τ).loc main_arg0) = up x
  a1 : m ((c : Thread nD τ).loc main_arg1) = w
  a2 : m ((c : Thread nD τ).loc main_arg2) = s

/-- Sums of `n` rows up to each row, from the row where there are as many. -/
def Sums (t : Fin cfg0.N) (g : Fin 4) (n : ℕ) (X : FVec Ideal S272x512 .f32) : Prop :=
  ∀ (r : Fin 272) (d : Fin 512), n ≤ r.val + 1 → X (ix2 r d) = ((∑ k ∈ Finset.range n, ext x g d (t.val * 256 + r.val - k) : ℝ) : EReal)

variable {x}

/-- The rows turned by a window's length and added double it. -/
theorem double {t : Fin cfg0.N} {g : Fin 4} {n : ℕ} {X : FVec Ideal S272x512 .f32} (H : Sums x t g n X) (b : BitVec 32) (hb : b.toNat = n) (hn : 0 < n) (hn' : n < 272) (hr) :
    Sums x t g (n + n) (addf X (dynamicRotate 0 b none X hr)) := by
  intro r d h
  have e : dynamicRotate 0 b none X hr (ix2 r d) = X (ix2 ⟨r.val - n, by omega⟩ d) := by
    refine dynamicRotate_apply (s := S272x512) (0 : Fin 2) b X hr _ _ fun a => ?_
    match a with
    | ⟨0, _⟩ =>
      show r.val - n = (r.val + 272 - b.toNat % 272) % 272
      rw [hb, Nat.mod_eq_of_lt hn']
      omega
    | ⟨1, _⟩ => rfl
  show X (ix2 r d) + dynamicRotate 0 b none X hr (ix2 r d) = _
  rw [e, H r d (by omega), H _ d (by show n ≤ r.val - n + 1; omega), add_coe, Finset.sum_range_add]
  refine congrArg _ (congrArg (_ + ·) (Finset.sum_congr rfl fun k hk => congrArg _ ?_))
  rw [Finset.mem_range] at hk
  show t.val * 256 + (r.val - n) - k = _
  omega

section
variable (t : Fin cfg0.N) {X : FVec Ideal S256x2048 .f32} {v : FVec Ideal S16x2048 .f32}
variable (hX : ∀ r n, X (ix2 r n) = (x (ix2 (row t r) n) : EReal))
variable (hv : ∀ (ht : 0 < t.val) (r : Fin 16) (n : Fin 2048), v (ix2 r n) = (x (ix2 ⟨t.val * 256 - 16 + r.val, by have := t.isLt; have : cfg0.N = 16 := rfl; omega⟩ n) : EReal))
include hX

/-- A window's sum over its count, less the row. -/
theorem less {g : Fin 4} {n : ℕ} {Y : FVec Ideal S272x512 .f32} (H : Sums x t g n Y) (hn : wd g = n) (h0 : 0 < n) (h16 : n ≤ 16) (r : Fin 256) (d : Fin 512) (q : Fin 2048) (hq : q = col g d) (r' : Fin 272) (hr : r'.val = 16 + r.val) :
    Ideal.div (Y (ix2 r' d)) (FloatOps.sitofp (F := Ideal) FTy.f32 (IntOp.minsi (IntOp.addi (IntOp.addi (Scalar.muli (BitVec.ofNat 32 t.val) 256#32) (BitVec.ofNat 32 r.val)) 1#32) (BitVec.ofNat 32 n))) - X (ix2 r q)
      = (PG x (row t r) g d : EReal) := by
  have hN : cfg0.N = 16 := rfl
  have ht := t.isLt
  subst hq hn
  rw [H r' d (by omega), kcount (by omega) r.isLt (by omega), hX, div_coe _ _ (cnt_ne _ _ h0), sub_coe, PG]
  refine congrArg _ (congrArg (fun a => a / _ - _) (Finset.sum_congr rfl fun k _ => congrArg _ ?_))
  show t.val * 256 + r'.val - k = 16 + (t.val * 256 + r.val) - k
  omega

include hv

/-- The rows with sixteen before them. -/
theorem pay4 (r : Fin 272) (g : Fin 4) (d : Fin 512) (n : Fin 2048) (hn : n = col g d) : k0_pay4 (F := Ideal) (grid0.coords t) X v (ix2 r n) = (ext x g d (t.val * 256 + r.val) : EReal) := by
  have hN : cfg0.N = 16 := rfl
  have ht := t.isLt
  subst hn
  unfold k0_pay4
  rw [coord]
  pointwise
  have hs : Scalar.cmpi CmpIPredicate.sgt (BitVec.ofNat 32 t.val) 0#32 = BitVec.ofBool (decide (0 < t.val)) := by
    generalize t.val = k at ht ⊢
    rw [hN] at ht
    interval_cases k <;> rfl
  rw [hs]
  by_cases hr : r.val < 16
  · rw [dif_pos hr]
    by_cases hl : 0 < t.val
    · rw [decide_eq_true hl, ext_in x ⟨t.val * 256 - 16 + r.val, by omega⟩ (by simp; omega)]
      exact hv hl ⟨r.val, hr⟩ _
    · rw [decide_eq_false hl, ext_lt x (by omega)]
      rfl
  · rw [dif_neg hr, hX, ext_in x (row t ⟨r.val - 16, by omega⟩) (by show _ = 16 + (t.val * 256 + (r.val - 16)); omega)]

theorem one (g : Fin 4) (o : ℕ) (ho : o = g.val * 512) (hs) : Sums x t g 1 (extractStridedSlice S272x512 ![0, o] (k0_pay4 (F := Ideal) (grid0.coords t) X v) hs) := by
  intro r d _
  have h := fun n hn => pay4 t hX hv r g d n hn
  generalize k0_pay4 (F := Ideal) (grid0.coords t) X v = W at h ⊢
  pointwise
  rw [h _ (Fin.ext (by show _ = g.val * 512 + d.val; simp; omega)), Finset.sum_range_one, Nat.sub_zero]

theorem two (g : Fin 4) (o : ℕ) (ho : o = g.val * 512) (hs hr) : Sums x t g 2 (addf (extractStridedSlice S272x512 ![0, o] (k0_pay4 (F := Ideal) (grid0.coords t) X v) hs) (dynamicRotate 0 1#32 none (extractStridedSlice S272x512 ![0, o] (k0_pay4 (F := Ideal) (grid0.coords t) X v) hs) hr)) :=
  double (one t hX hv g o ho hs) 1#32 rfl (by norm_num) (by norm_num) hr

theorem pay5 (r : Fin 256) (d : Fin 512) : k0_pay5 (F := Ideal) (grid0.coords t) X v (ix2 r d) = (PG x (row t r) 0 d : EReal) := by
  have H := two t hX hv 0 0 rfl slices_S272x2048_o0_0_S272x512 rotates_S272x512_d0
  unfold k0_pay5
  rw [coord]
  dsimp only
  generalize addf (extractStridedSlice S272x512 ![0, 0] (k0_pay4 (F := Ideal) (grid0.coords t) X v) _) _ = Y at H ⊢
  pointwise
  exact less t hX H rfl (by norm_num) (by norm_num) r d _ (Fin.ext (by show d.val = 0 * 512 + d.val; omega)) _ rfl

theorem pay10 (r : Fin 256) (d : Fin 512) : k0_pay10 (F := Ideal) X (k0_pay7 (F := Ideal) (grid0.coords t) X v) (k0_pay8 (grid0.coords t)) k0_pay9 (ix2 r d) = (PG x (row t r) 1 d : EReal) := by
  have H := double (two t hX hv 1 512 rfl slices_S272x2048_o0_512_S272x512 rotates_S272x512_d0) 2#32 rfl (by norm_num) (by norm_num) rotates_S272x512_d0
  unfold k0_pay10 k0_pay7 k0_pay8 k0_pay9
  rw [coord]
  dsimp only
  generalize addf (addf (extractStridedSlice S272x512 ![0, 512] (k0_pay4 (F := Ideal) (grid0.coords t) X v) _) _) _ = Y at H ⊢
  pointwise
  exact less t hX H rfl (by norm_num) (by norm_num) r d _ rfl _ rfl

theorem pay12 (r : Fin 256) (d : Fin 512) : k0_pay12 (F := Ideal) (BitVec.ofNat 32 t.val) X (k0_pay4 (F := Ideal) (grid0.coords t) X v) (ix2 r d) = (PG x (row t r) 2 d : EReal) := by
  have H := double (double (two t hX hv 2 1024 rfl slices_S272x2048_o0_1024_S272x512 rotates_S272x512_d0) 2#32 rfl (by norm_num) (by norm_num) rotates_S272x512_d0) 4#32 rfl (by norm_num) (by norm_num) rotates_S272x512_d0
  unfold k0_pay12
  dsimp only
  generalize addf (addf (addf (extractStridedSlice S272x512 ![0, 1024] (k0_pay4 (F := Ideal) (grid0.coords t) X v) _) _) _) _ = Y at H ⊢
  pointwise
  exact less t hX H rfl (by norm_num) (by norm_num) r d _ rfl _ rfl

theorem pay1 (r : Fin 256) (d : Fin 512) : k0_pay1 (F := Ideal) (BitVec.ofNat 32 t.val) X (k0_pay14 (F := Ideal) (k0_pay4 (F := Ideal) (grid0.coords t) X v)) 8#32 (ix2 r d) = (PG x (row t r) 3 d : EReal) := by
  have H := double (double (double (two t hX hv 3 1536 rfl slices_S272x2048_o0_1536_S272x512 rotates_S272x512_d0) 2#32 rfl (by norm_num) (by norm_num) rotates_S272x512_d0) 4#32 rfl (by norm_num) (by norm_num) rotates_S272x512_d0)
    8#32 rfl (by norm_num) (by norm_num) rotates_S272x512_d0
  unfold k0_pay1 k0_pay14
  dsimp only
  generalize addf (addf (addf (addf (extractStridedSlice S272x512 ![0, 1536] (k0_pay4 (F := Ideal) (grid0.coords t) X v) _) _) _) _) _ = Y at H ⊢
  pointwise
  exact less t hX H rfl (by norm_num) (by norm_num) r d _ rfl _ rfl

/-- A point's pooled rows. -/
theorem pooled (r : Fin 256) (n : Fin 2048) : k0_pay2 (F := Ideal) (BitVec.ofNat 32 t.val) X (k0_pay5 (F := Ideal) (grid0.coords t) X v)
    (k0_pay10 (F := Ideal) X (k0_pay7 (F := Ideal) (grid0.coords t) X v) (k0_pay8 (grid0.coords t)) k0_pay9) (k0_pay12 (F := Ideal) (BitVec.ofNat 32 t.val) X (k0_pay4 (F := Ideal) (grid0.coords t) X v))
    (k0_pay14 (F := Ideal) (k0_pay4 (F := Ideal) (grid0.coords t) X v)) 8#32 (ix2 r n) = (PG x (row t r) (gr n) (wi n) : EReal) :=
  Cert.PoolProj.four (fun r g d => (PG x (row t r) g d : EReal)) (pay5 t hX hv) (pay10 t hX hv) (pay12 t hX hv) (pay1 t hX hv) r n

omit hX hv in
/-- A group's pooled rows against its matrix. -/
theorem against {P : FVec Ideal S256x512 .bf16} {U : FVec Ideal S1x512x512 .bf16} (g : Fin 4) (hP : ∀ r d, P (ix2 r d) = (PG x (row t r) g d : EReal)) (hU : ∀ k d, U (ix3 0 k d) = w (ix3 g k d)) (r : Fin 256) (d : Fin 512) :
    (matmul dot_S256x512_S512x512_S256x512_1_0_0_1_n_n none P (shapeCast S512x512 U shapeCasts_S1x512x512_S512x512) (constant S256x512 .f32 0x00000000#32) : FVec Ideal S256x512 .f32) (ix2 r d)
      = ∑ k : Fin 512, (PG x (row t r) g k : EReal) * w (ix3 g k d) := by
  pointwise
  simp only [hP, hU]

/-- A point's projected rows. -/
theorem projected {U0 U1 U2 U3 : FVec Ideal S1x512x512 .bf16} (h0 : ∀ k d, U0 (ix3 0 k d) = w (ix3 0 k d)) (h1 : ∀ k d, U1 (ix3 0 k d) = w (ix3 1 k d)) (h2 : ∀ k d, U2 (ix3 0 k d) = w (ix3 2 k d))
    (h3 : ∀ k d, U3 (ix3 0 k d) = w (ix3 3 k d)) {b : FVec Ideal S1x2048 .f32} (hb : ∀ n, b (ix2 0 n) = s (ix2 0 n)) (r : Fin 256) (n : Fin 2048) :
    k0_pay3 (F := Ideal) (BitVec.ofNat 32 t.val) X (k0_pay6 (F := Ideal) (grid0.coords t) X v U0) (k0_pay11 (F := Ideal) X (k0_pay7 (F := Ideal) (grid0.coords t) X v) (k0_pay8 (grid0.coords t)) k0_pay9 U1)
      (k0_pay13 (F := Ideal) (BitVec.ofNat 32 t.val) X (k0_pay4 (F := Ideal) (grid0.coords t) X v) U2) (k0_pay14 (F := Ideal) (k0_pay4 (F := Ideal) (grid0.coords t) X v)) 8#32 U3 b (ix2 r n) = OUT x w s (row t r) n := by
  have h := Cert.PoolProj.four (fun r g d => ∑ k : Fin 512, (PG x (row t r) g k : EReal) * w (ix3 g k d)) (against w t 0 (pay5 t hX hv) h0) (against w t 1 (pay10 t hX hv) h1)
    (against w t 2 (pay12 t hX hv) h2) (against w t 3 (pay1 t hX hv) h3) r n
  unfold k0_pay3 k0_pay6 k0_pay11 k0_pay13
  dsimp only
  refine Eq.trans (?_ : _ = _ * s (ix2 0 n)) (congrArg (· * s (ix2 0 n)) h)
  generalize concatenate S256x2048 1 _ _ = W
  pointwise
  rw [hb]
end

section
variable (H : Args m x w s c) (t : Fin cfg0.N)
include H

theorem iblk0 (r : Fin 256) (n : Fin 2048) : (iblk m c 0 t : FVec Ideal S256x2048 .f32) (ix2 r n) = (x (ix2 (row t r) n) : EReal) := by
  obtain ⟨h0, h1, h2, h3, h4, h5⟩ := idx t
  refine Eq.trans ?_ (congrFun H.a0 (ix2 (row t r) n))
  blk_point [iblk, V, h0]
theorem iblk1 (ht : 0 < t.val) (r : Fin 16) (n : Fin 2048) :
    (iblk m c 1 t : FVec Ideal S16x2048 .f32) (ix2 r n) = (x (ix2 ⟨t.val * 256 - 16 + r.val, by have := t.isLt; have : cfg0.N = 16 := rfl; omega⟩ n) : EReal) := by
  have hN : cfg0.N = 16 := rfl
  have hl := t.isLt
  obtain ⟨h0, h1, h2, h3, h4, h5⟩ := idx t
  refine Eq.trans ?_ (congrFun H.a0 (ix2 ⟨t.val * 256 - 16 + r.val, by omega⟩ n))
  blk_point [iblk, V, h1]
theorem iblk2 (g : Fin 4) (k d : Fin 512) : (iblk m c 2 t : FVec Ideal S4x512x512 .bf16) (ix3 g k d) = w (ix3 g k d) := by
  obtain ⟨h0, h1, h2, h3, h4, h5⟩ := idx t
  refine Eq.trans ?_ (congrFun H.a1 (ix3 g k d))
  blk_point [iblk, V, h2]
theorem iblk3 (n : Fin 2048) : (iblk m c 3 t : FVec Ideal S1x2048 .f32) (ix2 0 n) = s (ix2 0 n) := by
  obtain ⟨h0, h1, h2, h3, h4, h5⟩ := idx t
  refine Eq.trans ?_ (congrFun H.a2 (ix2 0 n))
  blk_point [iblk, V, h3]

/-- The results, as arrays. -/
def OUTv (x : S4096x2048.Idx → ℝ) (w : FVec Ideal S4x512x512 .bf16) (s : FVec Ideal S1x2048 .f32) : FVec Ideal S4096x2048 .f32 := fun i => OUT x w s (i 0) (i 1)
def PGv (x : S4096x2048.Idx → ℝ) : FVec Ideal S4096x2048 .bf16 := fun i => (PG x (i 0) (gr (i 1)) (wi (i 1)) : EReal)

variable (x)
theorem final4 : (dats m 0 c).arrAt 4 (cfgs 0).N = OUTv x w s := by
  refine (dats m 0 c).arrAt_eq_of_covers 4 _ (by decide +kernel) fun t hf j => ?_
  blk_simp
  rw [after0_4]
  have hw := iblk2 m w s c H t
  have key := fun i0 i1 i2 i3 => projected (U0 := View.ld (Val := Elt Ideal) (iblk m c 2 t) (Rect.unit (s := S4x512x512) ![0, 0, 0] ![1, 512, 512] i0))
    (U1 := View.ld (Val := Elt Ideal) (iblk m c 2 t) (Rect.unit (s := S4x512x512) ![1, 0, 0] ![1, 512, 512] i1)) (U2 := View.ld (Val := Elt Ideal) (iblk m c 2 t) (Rect.unit (s := S4x512x512) ![2, 0, 0] ![1, 512, 512] i2))
    (U3 := View.ld (Val := Elt Ideal) (iblk m c 2 t) (Rect.unit (s := S4x512x512) ![3, 0, 0] ![1, 512, 512] i3)) w s t (iblk0 m w s c H t) (iblk1 m w s c H t)
    (fun k d => (ld_w _ 0 0 rfl _ k d).trans (hw 0 k d)) (fun k d => (ld_w _ 1 1 rfl _ k d).trans (hw 1 k d)) (fun k d => (ld_w _ 2 2 rfl _ k d).trans (hw 2 k d)) (fun k d => (ld_w _ 3 3 rfl _ k d).trans (hw 3 k d))
    (iblk3 m w s c H t)
  obtain ⟨h0, h1, h2, h3, h4, h5⟩ := idx t
  idx_vars j
  refine Eq.trans ?_ ((key inb_S4x512x512_S1x512x512_0_0_0 inb_S4x512x512_S1x512x512_1_0_0 inb_S4x512x512_S1x512x512_2_0_0 inb_S4x512x512_S1x512x512_3_0_0 j0 j1).trans ?_)
  · unfold_out out0_4
    rw [coord]
    frame_out
    rfl
  · show OUTv x w s (ix2 (row t j0) j1) = _
    blk_ext [h4]

theorem final5 : (dats m 0 c).arrAt 5 (cfgs 0).N = PGv x := by
  refine (dats m 0 c).arrAt_eq_of_covers 5 _ (by decide +kernel) fun t hf j => ?_
  blk_simp
  rw [after0_5]
  have key := pooled t (iblk0 m w s c H t) (iblk1 m w s c H t)
  obtain ⟨h0, h1, h2, h3, h4, h5⟩ := idx t
  idx_vars j
  refine Eq.trans ?_ ((key j0 j1).trans ?_)
  · unfold_out out0_5
    rw [coord]
    frame_out
  · show PGv x (ix2 (row t j0) j1) = _
    blk_ext [h5]
end

end Cert.PoolF

end
-- ==== Proof.PoolFClaims.lean ====
/-
  The claims about the pooling's forward call.
-/
module

public import proofs.«01_k».proof.Defs
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Pre_finite18
public import proofs.«01_k».proof.Proof.PoolFKer
public import Idealize.ShloMosaic.Lib.Claim

@[expose] public section

set_option maxRecDepth 16384

noncomputable section

open Idealize.ShloMosaic Idealize.ShloMosaic.TcCoe Idealize.SL.Sem
open Cert.Lift

namespace Cert.PoolF

theorem frame_p : Cert.quiescent_Kernel18 (hKernel18 := Cert.Kernel18.Gen.facts) := fun m ρ _ => Cert.Kernel18.Gen.frame m ρ

theorem frame_pi : Cert.quiescent_Kernel18Ideal (hKernel18Ideal := Cert.Kernel18Ideal.Gen.facts) := fun m ρ _ => Cert.Kernel18Ideal.Gen.frame m ρ

theorem frame_ri : Cert.quiescent_Reference18Ideal (hReference18Ideal := Cert.Reference18Ideal.Gen.facts) := fun m ρ _ =>
  (θ_run Cert.Reference18Ideal.defs _ _).mono (fun r h => ⟨fun c => (h c).2.2, sem_eq_zero_of_no_sems (by decide) r.2⟩)
    (Cert.Reference18Ideal.Value.run (F := Ideal) m ρ)

theorem frame_pi_fin : Cert.quiescent_Kernel18Ideal_pre_finite18 (hKernel18Ideal := Cert.Kernel18Ideal.Gen.facts)
    (hPre_finite18 := Cert.Pre_finite18.Gen.facts) := fun m ρ _ => Cert.Kernel18Ideal.Gen.frame m ρ

theorem frame_ri_fin : Cert.quiescent_Reference18Ideal_pre_finite18 (hReference18Ideal := Cert.Reference18Ideal.Gen.facts)
    (hPre_finite18 := Cert.Pre_finite18.Gen.facts) := fun m ρ _ => frame_ri m ρ trivial

/-- Finite arguments are real arrays. -/
theorem args (m) (h : Cert.Pre_Kernel18Ideal_finite18 (hPre_finite18 := Cert.Pre_finite18.Gen.facts) m) (c) :
    ∃ x w s, Args m x w s c :=
  ⟨_, _, _, real_of _ _ (h c), rfl, rfl⟩

section
variable (m : (ℓ : Loc Cert.Kernel18Ideal.nD Cert.Kernel18Ideal.τ Cert.Kernel18Ideal.sig) → Buf (Elt Ideal) ℓ) (c : Dev Cert.Kernel18Ideal.nD)
  (hpre : Cert.Pre_Kernel18Ideal_finite18 (hPre_finite18 := Cert.Pre_finite18.Gen.facts) m)
include hpre

open Cert.Kernel18Ideal Cert.Reference18Ideal.Read

theorem res4 : val_main_v75 (F := Ideal) (m ((c.tc : Thread nD τ).loc main_arg0)) (m ((c.tc : Thread nD τ).loc main_arg1)) (m ((c.tc : Thread nD τ).loc main_arg2)) = (Cert.Kernel18Ideal.Gen.dats m 0 c).arrAt 4 Cert.Kernel18Ideal.cfg0.N := by
  obtain ⟨x, w, s, H⟩ := args m hpre c
  refine Eq.trans ?_ (final4 m x w s c H).symm
  refine (show _ = val_main_v75 (F := Ideal) (up x) w s by rw [← H.a0, ← H.a1, ← H.a2]).trans ?_
  funext i; idx_vars i; exact v75 x w s _ _

theorem res5 : val_main_v77 (F := Ideal) (m ((c.tc : Thread nD τ).loc main_arg0)) = (Cert.Kernel18Ideal.Gen.dats m 0 c).arrAt 5 Cert.Kernel18Ideal.cfg0.N := by
  obtain ⟨x, w, s, H⟩ := args m hpre c
  refine Eq.trans ?_ (final5 m x w s c H).symm
  refine (show _ = val_main_v77 (F := Ideal) (up x) by rw [← H.a0]).trans ?_
  funext i; idx_vars i; exact v77 x _ _

end

/-- The kernel's two results are the reference's. -/
theorem algebraic : Cert.algebraic_Kernel18Ideal_Reference18Ideal_pre_finite18 (hKernel18Ideal := Cert.Kernel18Ideal.Gen.facts)
    (hReference18Ideal := Cert.Reference18Ideal.Gen.facts) (hPre_finite18 := Cert.Pre_finite18.Gen.facts) := by
  intro m g m' g' hpre hagree
  refine ⟨_, _, Cert.Kernel18Ideal.Value.run_blocks m g,
    (θ_run Cert.Reference18Ideal.defs _ _).mono (fun r h c => ?_) (Cert.Reference18Ideal.Value.run (F := Ideal) m' g')⟩
  obtain ⟨e0, e1, e2⟩ := hagree c
  obtain ⟨h0, h1, h2⟩ := h c
  refine ⟨(h0.trans (Cert.Reference18Ideal.Read.val_main_v75_eq m' c)).trans ?_,
    (h1.trans (Cert.Reference18Ideal.Read.val_main_v77_eq m' c)).trans ?_, h2⟩
  · rw [e0, e1, e2]; exact res4 m c hpre
  · rw [e0]; exact res5 m c hpre

end Cert.PoolF

end
-- ==== Proof.lean ====
/-
  The claims of this directory, put together from the modules that prove them.
-/
module

public import proofs.«01_k».proof.Defs
public import proofs.«01_k».proof.Proof.LossClaims
public import proofs.«01_k».proof.Proof.FfnClaims
public import proofs.«01_k».proof.Proof.XattnClaims
public import proofs.«01_k».proof.Proof.NormAClaims
public import proofs.«01_k».proof.Proof.NormBClaims
public import proofs.«01_k».proof.Proof.NormCClaims
public import proofs.«01_k».proof.Proof.PoolProjClaims
public import proofs.«01_k».proof.Proof.PoolWinClaims
public import proofs.«01_k».proof.Proof.DzaClaims
public import proofs.«01_k».proof.Proof.AttnClaims
public import proofs.«01_k».proof.Proof.SguClaims
public import proofs.«01_k».proof.Proof.XattnFClaims
public import proofs.«01_k».proof.Proof.NormFClaims
public import proofs.«01_k».proof.Proof.ResidFClaims
public import proofs.«01_k».proof.Proof.FfnFClaims
public import proofs.«01_k».proof.Proof.SguFClaims
public import proofs.«01_k».proof.Proof.AttnFClaims
public import proofs.«01_k».proof.Proof.PoolFClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_finite2.Gen.facts, Cert.Pre_finite3.Gen.facts, Cert.Pre_finite4.Gen.facts, Cert.Pre_finite5.Gen.facts,
    Cert.Pre_finite6.Gen.facts, Cert.Pre_finite8.Gen.facts, Cert.Pre_finite10.Gen.facts, Cert.Pre_finite11.Gen.facts,
    Cert.Pre_finite12.Gen.facts, Cert.Pre_finite17.Gen.facts, Cert.Pre_finite18.Gen.facts,
    Cert.Loss.frame_p, Cert.Loss.frame_pi, Cert.Loss.frame_ri,
    Cert.Ffn.frame_p, Cert.Ffn.frame_pi, Cert.Ffn.frame_pi_fin, Cert.Ffn.frame_ri, Cert.Ffn.frame_ri_fin,
    Cert.Xattn.frame_p, Cert.Xattn.frame_pi, Cert.Xattn.frame_pi_fin, Cert.Xattn.frame_ri, Cert.Xattn.frame_ri_fin,
    Cert.NormA.frame_p, Cert.NormA.frame_pi, Cert.NormA.frame_pi_fin, Cert.NormA.frame_ri, Cert.NormA.frame_ri_fin,
    Cert.NormB.frame_p, Cert.NormB.frame_pi, Cert.NormB.frame_pi_fin, Cert.NormB.frame_ri, Cert.NormB.frame_ri_fin,
    Cert.NormC.frame_p, Cert.NormC.frame_pi, Cert.NormC.frame_pi_fin, Cert.NormC.frame_ri, Cert.NormC.frame_ri_fin,
    Cert.PoolProj.frame_p, Cert.PoolProj.frame_pi, Cert.PoolProj.frame_ri,
    Cert.PoolWin.frame_p, Cert.PoolWin.frame_pi, Cert.PoolWin.frame_pi_fin, Cert.PoolWin.frame_ri, Cert.PoolWin.frame_ri_fin,
    Cert.Dza.frame_p, Cert.Dza.frame_pi, Cert.Dza.frame_ri,
    Cert.Attn.frame_p, Cert.Attn.frame_pi, Cert.Attn.frame_pi_fin, Cert.Attn.frame_ri, Cert.Attn.frame_ri_fin,
    Cert.Sgu.frame_p, Cert.Sgu.frame_pi, Cert.Sgu.frame_pi_fin, Cert.Sgu.frame_ri, Cert.Sgu.frame_ri_fin,
    Cert.XattnF.frame_p, Cert.XattnF.frame_pi, Cert.XattnF.frame_pi_fin, Cert.XattnF.frame_ri, Cert.XattnF.frame_ri_fin,
    Cert.NormF.frame_p, Cert.NormF.frame_pi, Cert.NormF.frame_ri,
    Cert.ResidF.frame_p, Cert.ResidF.frame_pi, Cert.ResidF.frame_ri,
    Cert.FfnF.frame_p, Cert.FfnF.frame_pi, Cert.FfnF.frame_ri,
    Cert.SguF.frame_p, Cert.SguF.frame_pi, Cert.SguF.frame_ri,
    Cert.AttnF.frame_p, Cert.AttnF.frame_pi, Cert.AttnF.frame_pi_fin, Cert.AttnF.frame_ri, Cert.AttnF.frame_ri_fin,
    Cert.PoolF.frame_p, Cert.PoolF.frame_pi, Cert.PoolF.frame_pi_fin, Cert.PoolF.frame_ri, Cert.PoolF.frame_ri_fin,
    trivial, Cert.Loss.algebraic,
    trivial, Cert.Ffn.algebraic,
    trivial, Cert.Xattn.algebraic,
    trivial, Cert.NormA.algebraic,
    trivial, Cert.NormB.algebraic,
    trivial, Cert.NormC.algebraic,
    trivial, Cert.PoolProj.algebraic,
    trivial, Cert.PoolWin.algebraic,
    trivial, Cert.Dza.algebraic,
    Cert.Attn.preserves, Cert.Attn.algebraic,
    Cert.Sgu.preserves, Cert.Sgu.algebraic,
    trivial, Cert.XattnF.algebraic,
    trivial, Cert.NormF.algebraic,
    trivial, Cert.ResidF.algebraic,
    trivial, Cert.FfnF.algebraic,
    Cert.SguF.preserves, Cert.SguF.algebraic,
    Cert.AttnF.preserves, Cert.AttnF.algebraic,
    trivial, Cert.PoolF.algebraic⟩

end Cert.Proof

end
